-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2 = (fun _ => 1#1)

def Pre_PeerQuery (m : (ℓ : Loc Cert.PeerQuery.nD Cert.PeerQuery.τ Cert.PeerQuery.sig) → Buf (Elt Bits) ℓ) : Prop :=
  True

def Pre_PeerQueryIdeal (m : (ℓ : Loc Cert.PeerQueryIdeal.nD Cert.PeerQueryIdeal.τ Cert.PeerQueryIdeal.sig) → Buf (Elt Ideal) ℓ) : Prop :=
  True

def Pre_PeerQueryRefIdeal (m : (ℓ : Loc Cert.PeerQueryRefIdeal.nD Cert.PeerQueryRefIdeal.τ Cert.PeerQueryRefIdeal.sig) → Buf (Elt Ideal) ℓ) : Prop :=
  True

def Pre_MixerOut (m : (ℓ : Loc Cert.MixerOut.nD Cert.MixerOut.τ Cert.MixerOut.sig) → Buf (Elt Bits) ℓ) : Prop :=
  True

def Pre_MixerOutIdeal (m : (ℓ : Loc Cert.MixerOutIdeal.nD Cert.MixerOutIdeal.τ Cert.MixerOutIdeal.sig) → Buf (Elt Ideal) ℓ) : Prop :=
  True

def Pre_MixerOutRefIdeal (m : (ℓ : Loc Cert.MixerOutRefIdeal.nD Cert.MixerOutRefIdeal.τ Cert.MixerOutRefIdeal.sig) → Buf (Elt Ideal) ℓ) : Prop :=
  True

def Pre_MixerOutRows (m : (ℓ : Loc Cert.MixerOutRows.nD Cert.MixerOutRows.τ Cert.MixerOutRows.sig) → Buf (Elt Bits) ℓ) : Prop :=
  True

def Pre_MixerOutRowsIdeal (m : (ℓ : Loc Cert.MixerOutRowsIdeal.nD Cert.MixerOutRowsIdeal.τ Cert.MixerOutRowsIdeal.sig) → Buf (Elt Ideal) ℓ) : Prop :=
  True

def Pre_ProjV (m : (ℓ : Loc Cert.ProjV.nD Cert.ProjV.τ Cert.ProjV.sig) → Buf (Elt Bits) ℓ) : Prop :=
  True

def Pre_ProjVIdeal (m : (ℓ : Loc Cert.ProjVIdeal.nD Cert.ProjVIdeal.τ Cert.ProjVIdeal.sig) → Buf (Elt Ideal) ℓ) : Prop :=
  True

def Pre_ProjVRefIdeal (m : (ℓ : Loc Cert.ProjVRefIdeal.nD Cert.ProjVRefIdeal.τ Cert.ProjVRefIdeal.sig) → Buf (Elt Ideal) ℓ) : Prop :=
  True

def Pre_ProjQ (m : (ℓ : Loc Cert.ProjQ.nD Cert.ProjQ.τ Cert.ProjQ.sig) → Buf (Elt Bits) ℓ) : Prop :=
  True

def Pre_ProjQIdeal (m : (ℓ : Loc Cert.ProjQIdeal.nD Cert.ProjQIdeal.τ Cert.ProjQIdeal.sig) → Buf (Elt Ideal) ℓ) : Prop :=
  True

def Pre_ProjQRefIdeal (m : (ℓ : Loc Cert.ProjQRefIdeal.nD Cert.ProjQRefIdeal.τ Cert.ProjQRefIdeal.sig) → Buf (Elt Ideal) ℓ) : Prop :=
  True

def Pre_ProjK (m : (ℓ : Loc Cert.ProjK.nD Cert.ProjK.τ Cert.ProjK.sig) → Buf (Elt Bits) ℓ) : Prop :=
  True

def Pre_ProjKIdeal (m : (ℓ : Loc Cert.ProjKIdeal.nD Cert.ProjKIdeal.τ Cert.ProjKIdeal.sig) → Buf (Elt Ideal) ℓ) : Prop :=
  True

def Pre_ProjKRefIdeal (m : (ℓ : Loc Cert.ProjKRefIdeal.nD Cert.ProjKRefIdeal.τ Cert.ProjKRefIdeal.sig) → Buf (Elt Ideal) ℓ) : Prop :=
  True

def Pre_WinQ (m : (ℓ : Loc Cert.WinQ.nD Cert.WinQ.τ Cert.WinQ.sig) → Buf (Elt Bits) ℓ) : Prop :=
  True

def Pre_WinQIdeal (m : (ℓ : Loc Cert.WinQIdeal.nD Cert.WinQIdeal.τ Cert.WinQIdeal.sig) → Buf (Elt Ideal) ℓ) : Prop :=
  True

def Pre_WinQRefIdeal (m : (ℓ : Loc Cert.WinQRefIdeal.nD Cert.WinQRefIdeal.τ Cert.WinQRefIdeal.sig) → Buf (Elt Ideal) ℓ) : Prop :=
  True

def Pre_WinK (m : (ℓ : Loc Cert.WinK.nD Cert.WinK.τ Cert.WinK.sig) → Buf (Elt Bits) ℓ) : Prop :=
  True

def Pre_WinKIdeal (m : (ℓ : Loc Cert.WinKIdeal.nD Cert.WinKIdeal.τ Cert.WinKIdeal.sig) → Buf (Elt Ideal) ℓ) : Prop :=
  True

def Pre_WinKRefIdeal (m : (ℓ : Loc Cert.WinKRefIdeal.nD Cert.WinKRefIdeal.τ Cert.WinKRefIdeal.sig) → Buf (Elt Ideal) ℓ) : Prop :=
  True

def Pre_WinV (m : (ℓ : Loc Cert.WinV.nD Cert.WinV.τ Cert.WinV.sig) → Buf (Elt Bits) ℓ) : Prop :=
  True

def Pre_WinVIdeal (m : (ℓ : Loc Cert.WinVIdeal.nD Cert.WinVIdeal.τ Cert.WinVIdeal.sig) → Buf (Elt Ideal) ℓ) : Prop :=
  True

def Pre_WinVRefIdeal (m : (ℓ : Loc Cert.WinVRefIdeal.nD Cert.WinVRefIdeal.τ Cert.WinVRefIdeal.sig) → Buf (Elt Ideal) ℓ) : Prop :=
  True

def Pre_Modulate (m : (ℓ : Loc Cert.Modulate.nD Cert.Modulate.τ Cert.Modulate.sig) → Buf (Elt Bits) ℓ) : Prop :=
  True

def Pre_ModulateIdeal (m : (ℓ : Loc Cert.ModulateIdeal.nD Cert.ModulateIdeal.τ Cert.ModulateIdeal.sig) → Buf (Elt Ideal) ℓ) : Prop :=
  True

def Pre_ModulateRefIdeal (m : (ℓ : Loc Cert.ModulateRefIdeal.nD Cert.ModulateRefIdeal.τ Cert.ModulateRefIdeal.sig) → Buf (Elt Ideal) ℓ) : Prop :=
  True

def Pre_ModulateRows (m : (ℓ : Loc Cert.ModulateRows.nD Cert.ModulateRows.τ Cert.ModulateRows.sig) → Buf (Elt Bits) ℓ) : Prop :=
  True

def Pre_ModulateRowsIdeal (m : (ℓ : Loc Cert.ModulateRowsIdeal.nD Cert.ModulateRowsIdeal.τ Cert.ModulateRowsIdeal.sig) → Buf (Elt Ideal) ℓ) : Prop :=
  True

def Pre_ModulateRowsRefIdeal (m : (ℓ : Loc Cert.ModulateRowsRefIdeal.nD Cert.ModulateRowsRefIdeal.τ Cert.ModulateRowsRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_PeerQuery [hPeerQuery : Cert.PeerQuery.Facts] : Prop :=
  ∀ (m : (ℓ : Loc Cert.PeerQuery.nD Cert.PeerQuery.τ Cert.PeerQuery.sig) → Buf (Elt Bits) ℓ) (g : Dev Cert.PeerQuery.nD → PrngReg), Pre_PeerQuery m →
    θ_run (Cert.PeerQuery.defs (F := Bits)) (onTc (τ := Cert.PeerQuery.τ) (Cert.PeerQuery.main (F := Bits))) ⟨m, fun _ => 0, g⟩ (fun r => (∀ c : Dev Cert.PeerQuery.nD,
      r.2.mem ((c.tc : Thread Cert.PeerQuery.nD Cert.PeerQuery.τ).loc Cert.PeerQuery.main_arg0) = m ((c.tc : Thread Cert.PeerQuery.nD Cert.PeerQuery.τ).loc Cert.PeerQuery.main_arg0)
      ∧ r.2.mem ((c.tc : Thread Cert.PeerQuery.nD Cert.PeerQuery.τ).loc Cert.PeerQuery.main_arg1) = m ((c.tc : Thread Cert.PeerQuery.nD Cert.PeerQuery.τ).loc Cert.PeerQuery.main_arg1))
      ∧ r.2.sem = fun _ => 0)

def quiescent_PeerQueryIdeal [hPeerQueryIdeal : Cert.PeerQueryIdeal.Facts] : Prop :=
  ∀ (m : (ℓ : Loc Cert.PeerQueryIdeal.nD Cert.PeerQueryIdeal.τ Cert.PeerQueryIdeal.sig) → Buf (Elt Ideal) ℓ) (g : Dev Cert.PeerQueryIdeal.nD → PrngReg), Pre_PeerQueryIdeal m →
    θ_run (Cert.PeerQueryIdeal.defs (F := Ideal)) (onTc (τ := Cert.PeerQueryIdeal.τ) (Cert.PeerQueryIdeal.main (F := Ideal))) ⟨m, fun _ => 0, g⟩ (fun r => (∀ c : Dev Cert.PeerQueryIdeal.nD,
      r.2.mem ((c.tc : Thread Cert.PeerQueryIdeal.nD Cert.PeerQueryIdeal.τ).loc Cert.PeerQueryIdeal.main_arg0) = m ((c.tc : Thread Cert.PeerQueryIdeal.nD Cert.PeerQueryIdeal.τ).loc Cert.PeerQueryIdeal.main_arg0)
      ∧ r.2.mem ((c.tc : Thread Cert.PeerQueryIdeal.nD Cert.PeerQueryIdeal.τ).loc Cert.PeerQueryIdeal.main_arg1) = m ((c.tc : Thread Cert.PeerQueryIdeal.nD Cert.PeerQueryIdeal.τ).loc Cert.PeerQueryIdeal.main_arg1))
      ∧ r.2.sem = fun _ => 0)

def quiescent_PeerQueryRefIdeal [hPeerQueryRefIdeal : Cert.PeerQueryRefIdeal.Facts] : Prop :=
  ∀ (m : (ℓ : Loc Cert.PeerQueryRefIdeal.nD Cert.PeerQueryRefIdeal.τ Cert.PeerQueryRefIdeal.sig) → Buf (Elt Ideal) ℓ) (g : Dev Cert.PeerQueryRefIdeal.nD → PrngReg), Pre_PeerQueryRefIdeal m →
    θ_run (Cert.PeerQueryRefIdeal.defs (F := Ideal)) (onTc (τ := Cert.PeerQueryRefIdeal.τ) (Cert.PeerQueryRefIdeal.main (F := Ideal))) ⟨m, fun _ => 0, g⟩ (fun r => (∀ c : Dev Cert.PeerQueryRefIdeal.nD,
      r.2.mem ((c.tc : Thread Cert.PeerQueryRefIdeal.nD Cert.PeerQueryRefIdeal.τ).loc Cert.PeerQueryRefIdeal.main_arg0) = m ((c.tc : Thread Cert.PeerQueryRefIdeal.nD Cert.PeerQueryRefIdeal.τ).loc Cert.PeerQueryRefIdeal.main_arg0)
      ∧ r.2.mem ((c.tc : Thread Cert.PeerQueryRefIdeal.nD Cert.PeerQueryRefIdeal.τ).loc Cert.PeerQueryRefIdeal.main_arg1) = m ((c.tc : Thread Cert.PeerQueryRefIdeal.nD Cert.PeerQueryRefIdeal.τ).loc Cert.PeerQueryRefIdeal.main_arg1))
      ∧ r.2.sem = fun _ => 0)

def quiescent_MixerOut [hMixerOut : Cert.MixerOut.Facts] : Prop :=
  ∀ (m : (ℓ : Loc Cert.MixerOut.nD Cert.MixerOut.τ Cert.MixerOut.sig) → Buf (Elt Bits) ℓ) (g : Dev Cert.MixerOut.nD → PrngReg), Pre_MixerOut m →
    θ_run (Cert.MixerOut.defs (F := Bits)) (onTc (τ := Cert.MixerOut.τ) (Cert.MixerOut.main (F := Bits))) ⟨m, fun _ => 0, g⟩ (fun r => (∀ c : Dev Cert.MixerOut.nD,
      r.2.mem ((c.tc : Thread Cert.MixerOut.nD Cert.MixerOut.τ).loc Cert.MixerOut.main_arg0) = m ((c.tc : Thread Cert.MixerOut.nD Cert.MixerOut.τ).loc Cert.MixerOut.main_arg0)
      ∧ r.2.mem ((c.tc : Thread Cert.MixerOut.nD Cert.MixerOut.τ).loc Cert.MixerOut.main_arg1) = m ((c.tc : Thread Cert.MixerOut.nD Cert.MixerOut.τ).loc Cert.MixerOut.main_arg1)
      ∧ r.2.mem ((c.tc : Thread Cert.MixerOut.nD Cert.MixerOut.τ).loc Cert.MixerOut.main_arg2) = m ((c.tc : Thread Cert.MixerOut.nD Cert.MixerOut.τ).loc Cert.MixerOut.main_arg2)
      ∧ r.2.mem ((c.tc : Thread Cert.MixerOut.nD Cert.MixerOut.τ).loc Cert.MixerOut.main_arg3) = m ((c.tc : Thread Cert.MixerOut.nD Cert.MixerOut.τ).loc Cert.MixerOut.main_arg3))
      ∧ r.2.sem = fun _ => 0)

def quiescent_MixerOutIdeal [hMixerOutIdeal : Cert.MixerOutIdeal.Facts] : Prop :=
  ∀ (m : (ℓ : Loc Cert.MixerOutIdeal.nD Cert.MixerOutIdeal.τ Cert.MixerOutIdeal.sig) → Buf (Elt Ideal) ℓ) (g : Dev Cert.MixerOutIdeal.nD → PrngReg), Pre_MixerOutIdeal m →
    θ_run (Cert.MixerOutIdeal.defs (F := Ideal)) (onTc (τ := Cert.MixerOutIdeal.τ) (Cert.MixerOutIdeal.main (F := Ideal))) ⟨m, fun _ => 0, g⟩ (fun r => (∀ c : Dev Cert.MixerOutIdeal.nD,
      r.2.mem ((c.tc : Thread Cert.MixerOutIdeal.nD Cert.MixerOutIdeal.τ).loc Cert.MixerOutIdeal.main_arg0) = m ((c.tc : Thread Cert.MixerOutIdeal.nD Cert.MixerOutIdeal.τ).loc Cert.MixerOutIdeal.main_arg0)
      ∧ r.2.mem ((c.tc : Thread Cert.MixerOutIdeal.nD Cert.MixerOutIdeal.τ).loc Cert.MixerOutIdeal.main_arg1) = m ((c.tc : Thread Cert.MixerOutIdeal.nD Cert.MixerOutIdeal.τ).loc Cert.MixerOutIdeal.main_arg1)
      ∧ r.2.mem ((c.tc : Thread Cert.MixerOutIdeal.nD Cert.MixerOutIdeal.τ).loc Cert.MixerOutIdeal.main_arg2) = m ((c.tc : Thread Cert.MixerOutIdeal.nD Cert.MixerOutIdeal.τ).loc Cert.MixerOutIdeal.main_arg2)
      ∧ r.2.mem ((c.tc : Thread Cert.MixerOutIdeal.nD Cert.MixerOutIdeal.τ).loc Cert.MixerOutIdeal.main_arg3) = m ((c.tc : Thread Cert.MixerOutIdeal.nD Cert.MixerOutIdeal.τ).loc Cert.MixerOutIdeal.main_arg3))
      ∧ r.2.sem = fun _ => 0)

def quiescent_MixerOutRefIdeal [hMixerOutRefIdeal : Cert.MixerOutRefIdeal.Facts] : Prop :=
  ∀ (m : (ℓ : Loc Cert.MixerOutRefIdeal.nD Cert.MixerOutRefIdeal.τ Cert.MixerOutRefIdeal.sig) → Buf (Elt Ideal) ℓ) (g : Dev Cert.MixerOutRefIdeal.nD → PrngReg), Pre_MixerOutRefIdeal m →
    θ_run (Cert.MixerOutRefIdeal.defs (F := Ideal)) (onTc (τ := Cert.MixerOutRefIdeal.τ) (Cert.MixerOutRefIdeal.main (F := Ideal))) ⟨m, fun _ => 0, g⟩ (fun r => (∀ c : Dev Cert.MixerOutRefIdeal.nD,
      r.2.mem ((c.tc : Thread Cert.MixerOutRefIdeal.nD Cert.MixerOutRefIdeal.τ).loc Cert.MixerOutRefIdeal.main_arg0) = m ((c.tc : Thread Cert.MixerOutRefIdeal.nD Cert.MixerOutRefIdeal.τ).loc Cert.MixerOutRefIdeal.main_arg0)
      ∧ r.2.mem ((c.tc : Thread Cert.MixerOutRefIdeal.nD Cert.MixerOutRefIdeal.τ).loc Cert.MixerOutRefIdeal.main_arg1) = m ((c.tc : Thread Cert.MixerOutRefIdeal.nD Cert.MixerOutRefIdeal.τ).loc Cert.MixerOutRefIdeal.main_arg1)
      ∧ r.2.mem ((c.tc : Thread Cert.MixerOutRefIdeal.nD Cert.MixerOutRefIdeal.τ).loc Cert.MixerOutRefIdeal.main_arg2) = m ((c.tc : Thread Cert.MixerOutRefIdeal.nD Cert.MixerOutRefIdeal.τ).loc Cert.MixerOutRefIdeal.main_arg2)
      ∧ r.2.mem ((c.tc : Thread Cert.MixerOutRefIdeal.nD Cert.MixerOutRefIdeal.τ).loc Cert.MixerOutRefIdeal.main_arg3) = m ((c.tc : Thread Cert.MixerOutRefIdeal.nD Cert.MixerOutRefIdeal.τ).loc Cert.MixerOutRefIdeal.main_arg3))
      ∧ r.2.sem = fun _ => 0)

def quiescent_MixerOutRows [hMixerOutRows : Cert.MixerOutRows.Facts] : Prop :=
  ∀ (m : (ℓ : Loc Cert.MixerOutRows.nD Cert.MixerOutRows.τ Cert.MixerOutRows.sig) → Buf (Elt Bits) ℓ) (g : Dev Cert.MixerOutRows.nD → PrngReg), Pre_MixerOutRows m →
    θ_run (Cert.MixerOutRows.defs (F := Bits)) (onTc (τ := Cert.MixerOutRows.τ) (Cert.MixerOutRows.main (F := Bits))) ⟨m, fun _ => 0, g⟩ (fun r => (∀ c : Dev Cert.MixerOutRows.nD,
      r.2.mem ((c.tc : Thread Cert.MixerOutRows.nD Cert.MixerOutRows.τ).loc Cert.MixerOutRows.main_arg0) = m ((c.tc : Thread Cert.MixerOutRows.nD Cert.MixerOutRows.τ).loc Cert.MixerOutRows.main_arg0)
      ∧ r.2.mem ((c.tc : Thread Cert.MixerOutRows.nD Cert.MixerOutRows.τ).loc Cert.MixerOutRows.main_arg1) = m ((c.tc : Thread Cert.MixerOutRows.nD Cert.MixerOutRows.τ).loc Cert.MixerOutRows.main_arg1)
      ∧ r.2.mem ((c.tc : Thread Cert.MixerOutRows.nD Cert.MixerOutRows.τ).loc Cert.MixerOutRows.main_arg2) = m ((c.tc : Thread Cert.MixerOutRows.nD Cert.MixerOutRows.τ).loc Cert.MixerOutRows.main_arg2)
      ∧ r.2.mem ((c.tc : Thread Cert.MixerOutRows.nD Cert.MixerOutRows.τ).loc Cert.MixerOutRows.main_arg3) = m ((c.tc : Thread Cert.MixerOutRows.nD Cert.MixerOutRows.τ).loc Cert.MixerOutRows.main_arg3))
      ∧ r.2.sem = fun _ => 0)

def quiescent_MixerOutRowsIdeal [hMixerOutRowsIdeal : Cert.MixerOutRowsIdeal.Facts] : Prop :=
  ∀ (m : (ℓ : Loc Cert.MixerOutRowsIdeal.nD Cert.MixerOutRowsIdeal.τ Cert.MixerOutRowsIdeal.sig) → Buf (Elt Ideal) ℓ) (g : Dev Cert.MixerOutRowsIdeal.nD → PrngReg), Pre_MixerOutRowsIdeal m →
    θ_run (Cert.MixerOutRowsIdeal.defs (F := Ideal)) (onTc (τ := Cert.MixerOutRowsIdeal.τ) (Cert.MixerOutRowsIdeal.main (F := Ideal))) ⟨m, fun _ => 0, g⟩ (fun r => (∀ c : Dev Cert.MixerOutRowsIdeal.nD,
      r.2.mem ((c.tc : Thread Cert.MixerOutRowsIdeal.nD Cert.MixerOutRowsIdeal.τ).loc Cert.MixerOutRowsIdeal.main_arg0) = m ((c.tc : Thread Cert.MixerOutRowsIdeal.nD Cert.MixerOutRowsIdeal.τ).loc Cert.MixerOutRowsIdeal.main_arg0)
      ∧ r.2.mem ((c.tc : Thread Cert.MixerOutRowsIdeal.nD Cert.MixerOutRowsIdeal.τ).loc Cert.MixerOutRowsIdeal.main_arg1) = m ((c.tc : Thread Cert.MixerOutRowsIdeal.nD Cert.MixerOutRowsIdeal.τ).loc Cert.MixerOutRowsIdeal.main_arg1)
      ∧ r.2.mem ((c.tc : Thread Cert.MixerOutRowsIdeal.nD Cert.MixerOutRowsIdeal.τ).loc Cert.MixerOutRowsIdeal.main_arg2) = m ((c.tc : Thread Cert.MixerOutRowsIdeal.nD Cert.MixerOutRowsIdeal.τ).loc Cert.MixerOutRowsIdeal.main_arg2)
      ∧ r.2.mem ((c.tc : Thread Cert.MixerOutRowsIdeal.nD Cert.MixerOutRowsIdeal.τ).loc Cert.MixerOutRowsIdeal.main_arg3) = m ((c.tc : Thread Cert.MixerOutRowsIdeal.nD Cert.MixerOutRowsIdeal.τ).loc Cert.MixerOutRowsIdeal.main_arg3))
      ∧ r.2.sem = fun _ => 0)

def quiescent_ProjV [hProjV : Cert.ProjV.Facts] : Prop :=
  ∀ (m : (ℓ : Loc Cert.ProjV.nD Cert.ProjV.τ Cert.ProjV.sig) → Buf (Elt Bits) ℓ) (g : Dev Cert.ProjV.nD → PrngReg), Pre_ProjV m →
    θ_run (Cert.ProjV.defs (F := Bits)) (onTc (τ := Cert.ProjV.τ) (Cert.ProjV.main (F := Bits))) ⟨m, fun _ => 0, g⟩ (fun r => (∀ c : Dev Cert.ProjV.nD,
      r.2.mem ((c.tc : Thread Cert.ProjV.nD Cert.ProjV.τ).loc Cert.ProjV.main_arg0) = m ((c.tc : Thread Cert.ProjV.nD Cert.ProjV.τ).loc Cert.ProjV.main_arg0)
      ∧ r.2.mem ((c.tc : Thread Cert.ProjV.nD Cert.ProjV.τ).loc Cert.ProjV.main_arg1) = m ((c.tc : Thread Cert.ProjV.nD Cert.ProjV.τ).loc Cert.ProjV.main_arg1))
      ∧ r.2.sem = fun _ => 0)

def quiescent_ProjVIdeal [hProjVIdeal : Cert.ProjVIdeal.Facts] : Prop :=
  ∀ (m : (ℓ : Loc Cert.ProjVIdeal.nD Cert.ProjVIdeal.τ Cert.ProjVIdeal.sig) → Buf (Elt Ideal) ℓ) (g : Dev Cert.ProjVIdeal.nD → PrngReg), Pre_ProjVIdeal m →
    θ_run (Cert.ProjVIdeal.defs (F := Ideal)) (onTc (τ := Cert.ProjVIdeal.τ) (Cert.ProjVIdeal.main (F := Ideal))) ⟨m, fun _ => 0, g⟩ (fun r => (∀ c : Dev Cert.ProjVIdeal.nD,
      r.2.mem ((c.tc : Thread Cert.ProjVIdeal.nD Cert.ProjVIdeal.τ).loc Cert.ProjVIdeal.main_arg0) = m ((c.tc : Thread Cert.ProjVIdeal.nD Cert.ProjVIdeal.τ).loc Cert.ProjVIdeal.main_arg0)
      ∧ r.2.mem ((c.tc : Thread Cert.ProjVIdeal.nD Cert.ProjVIdeal.τ).loc Cert.ProjVIdeal.main_arg1) = m ((c.tc : Thread Cert.ProjVIdeal.nD Cert.ProjVIdeal.τ).loc Cert.ProjVIdeal.main_arg1))
      ∧ r.2.sem = fun _ => 0)

def quiescent_ProjVRefIdeal [hProjVRefIdeal : Cert.ProjVRefIdeal.Facts] : Prop :=
  ∀ (m : (ℓ : Loc Cert.ProjVRefIdeal.nD Cert.ProjVRefIdeal.τ Cert.ProjVRefIdeal.sig) → Buf (Elt Ideal) ℓ) (g : Dev Cert.ProjVRefIdeal.nD → PrngReg), Pre_ProjVRefIdeal m →
    θ_run (Cert.ProjVRefIdeal.defs (F := Ideal)) (onTc (τ := Cert.ProjVRefIdeal.τ) (Cert.ProjVRefIdeal.main (F := Ideal))) ⟨m, fun _ => 0, g⟩ (fun r => (∀ c : Dev Cert.ProjVRefIdeal.nD,
      r.2.mem ((c.tc : Thread Cert.ProjVRefIdeal.nD Cert.ProjVRefIdeal.τ).loc Cert.ProjVRefIdeal.main_arg0) = m ((c.tc : Thread Cert.ProjVRefIdeal.nD Cert.ProjVRefIdeal.τ).loc Cert.ProjVRefIdeal.main_arg0)
      ∧ r.2.mem ((c.tc : Thread Cert.ProjVRefIdeal.nD Cert.ProjVRefIdeal.τ).loc Cert.ProjVRefIdeal.main_arg1) = m ((c.tc : Thread Cert.ProjVRefIdeal.nD Cert.ProjVRefIdeal.τ).loc Cert.ProjVRefIdeal.main_arg1))
      ∧ r.2.sem = fun _ => 0)

def quiescent_ProjQ [hProjQ : Cert.ProjQ.Facts] : Prop :=
  ∀ (m : (ℓ : Loc Cert.ProjQ.nD Cert.ProjQ.τ Cert.ProjQ.sig) → Buf (Elt Bits) ℓ) (g : Dev Cert.ProjQ.nD → PrngReg), Pre_ProjQ m →
    θ_run (Cert.ProjQ.defs (F := Bits)) (onTc (τ := Cert.ProjQ.τ) (Cert.ProjQ.main (F := Bits))) ⟨m, fun _ => 0, g⟩ (fun r => (∀ c : Dev Cert.ProjQ.nD,
      r.2.mem ((c.tc : Thread Cert.ProjQ.nD Cert.ProjQ.τ).loc Cert.ProjQ.main_arg0) = m ((c.tc : Thread Cert.ProjQ.nD Cert.ProjQ.τ).loc Cert.ProjQ.main_arg0)
      ∧ r.2.mem ((c.tc : Thread Cert.ProjQ.nD Cert.ProjQ.τ).loc Cert.ProjQ.main_arg1) = m ((c.tc : Thread Cert.ProjQ.nD Cert.ProjQ.τ).loc Cert.ProjQ.main_arg1)
      ∧ r.2.mem ((c.tc : Thread Cert.ProjQ.nD Cert.ProjQ.τ).loc Cert.ProjQ.main_arg2) = m ((c.tc : Thread Cert.ProjQ.nD Cert.ProjQ.τ).loc Cert.ProjQ.main_arg2)
      ∧ r.2.mem ((c.tc : Thread Cert.ProjQ.nD Cert.ProjQ.τ).loc Cert.ProjQ.main_arg3) = m ((c.tc : Thread Cert.ProjQ.nD Cert.ProjQ.τ).loc Cert.ProjQ.main_arg3)
      ∧ r.2.mem ((c.tc : Thread Cert.ProjQ.nD Cert.ProjQ.τ).loc Cert.ProjQ.main_arg4) = m ((c.tc : Thread Cert.ProjQ.nD Cert.ProjQ.τ).loc Cert.ProjQ.main_arg4))
      ∧ r.2.sem = fun _ => 0)

def quiescent_ProjQIdeal [hProjQIdeal : Cert.ProjQIdeal.Facts] : Prop :=
  ∀ (m : (ℓ : Loc Cert.ProjQIdeal.nD Cert.ProjQIdeal.τ Cert.ProjQIdeal.sig) → Buf (Elt Ideal) ℓ) (g : Dev Cert.ProjQIdeal.nD → PrngReg), Pre_ProjQIdeal m →
    θ_run (Cert.ProjQIdeal.defs (F := Ideal)) (onTc (τ := Cert.ProjQIdeal.τ) (Cert.ProjQIdeal.main (F := Ideal))) ⟨m, fun _ => 0, g⟩ (fun r => (∀ c : Dev Cert.ProjQIdeal.nD,
      r.2.mem ((c.tc : Thread Cert.ProjQIdeal.nD Cert.ProjQIdeal.τ).loc Cert.ProjQIdeal.main_arg0) = m ((c.tc : Thread Cert.ProjQIdeal.nD Cert.ProjQIdeal.τ).loc Cert.ProjQIdeal.main_arg0)
      ∧ r.2.mem ((c.tc : Thread Cert.ProjQIdeal.nD Cert.ProjQIdeal.τ).loc Cert.ProjQIdeal.main_arg1) = m ((c.tc : Thread Cert.ProjQIdeal.nD Cert.ProjQIdeal.τ).loc Cert.ProjQIdeal.main_arg1)
      ∧ r.2.mem ((c.tc : Thread Cert.ProjQIdeal.nD Cert.ProjQIdeal.τ).loc Cert.ProjQIdeal.main_arg2) = m ((c.tc : Thread Cert.ProjQIdeal.nD Cert.ProjQIdeal.τ).loc Cert.ProjQIdeal.main_arg2)
      ∧ r.2.mem ((c.tc : Thread Cert.ProjQIdeal.nD Cert.ProjQIdeal.τ).loc Cert.ProjQIdeal.main_arg3) = m ((c.tc : Thread Cert.ProjQIdeal.nD Cert.ProjQIdeal.τ).loc Cert.ProjQIdeal.main_arg3)
      ∧ r.2.mem ((c.tc : Thread Cert.ProjQIdeal.nD Cert.ProjQIdeal.τ).loc Cert.ProjQIdeal.main_arg4) = m ((c.tc : Thread Cert.ProjQIdeal.nD Cert.ProjQIdeal.τ).loc Cert.ProjQIdeal.main_arg4))
      ∧ r.2.sem = fun _ => 0)

def quiescent_ProjQRefIdeal [hProjQRefIdeal : Cert.ProjQRefIdeal.Facts] : Prop :=
  ∀ (m : (ℓ : Loc Cert.ProjQRefIdeal.nD Cert.ProjQRefIdeal.τ Cert.ProjQRefIdeal.sig) → Buf (Elt Ideal) ℓ) (g : Dev Cert.ProjQRefIdeal.nD → PrngReg), Pre_ProjQRefIdeal m →
    θ_run (Cert.ProjQRefIdeal.defs (F := Ideal)) (onTc (τ := Cert.ProjQRefIdeal.τ) (Cert.ProjQRefIdeal.main (F := Ideal))) ⟨m, fun _ => 0, g⟩ (fun r => (∀ c : Dev Cert.ProjQRefIdeal.nD,
      r.2.mem ((c.tc : Thread Cert.ProjQRefIdeal.nD Cert.ProjQRefIdeal.τ).loc Cert.ProjQRefIdeal.main_arg0) = m ((c.tc : Thread Cert.ProjQRefIdeal.nD Cert.ProjQRefIdeal.τ).loc Cert.ProjQRefIdeal.main_arg0)
      ∧ r.2.mem ((c.tc : Thread Cert.ProjQRefIdeal.nD Cert.ProjQRefIdeal.τ).loc Cert.ProjQRefIdeal.main_arg1) = m ((c.tc : Thread Cert.ProjQRefIdeal.nD Cert.ProjQRefIdeal.τ).loc Cert.ProjQRefIdeal.main_arg1)
      ∧ r.2.mem ((c.tc : Thread Cert.ProjQRefIdeal.nD Cert.ProjQRefIdeal.τ).loc Cert.ProjQRefIdeal.main_arg2) = m ((c.tc : Thread Cert.ProjQRefIdeal.nD Cert.ProjQRefIdeal.τ).loc Cert.ProjQRefIdeal.main_arg2)
      ∧ r.2.mem ((c.tc : Thread Cert.ProjQRefIdeal.nD Cert.ProjQRefIdeal.τ).loc Cert.ProjQRefIdeal.main_arg3) = m ((c.tc : Thread Cert.ProjQRefIdeal.nD Cert.ProjQRefIdeal.τ).loc Cert.ProjQRefIdeal.main_arg3)
      ∧ r.2.mem ((c.tc : Thread Cert.ProjQRefIdeal.nD Cert.ProjQRefIdeal.τ).loc Cert.ProjQRefIdeal.main_arg4) = m ((c.tc : Thread Cert.ProjQRefIdeal.nD Cert.ProjQRefIdeal.τ).loc Cert.ProjQRefIdeal.main_arg4))
      ∧ r.2.sem = fun _ => 0)

def quiescent_ProjK [hProjK : Cert.ProjK.Facts] : Prop :=
  ∀ (m : (ℓ : Loc Cert.ProjK.nD Cert.ProjK.τ Cert.ProjK.sig) → Buf (Elt Bits) ℓ) (g : Dev Cert.ProjK.nD → PrngReg), Pre_ProjK m →
    θ_run (Cert.ProjK.defs (F := Bits)) (onTc (τ := Cert.ProjK.τ) (Cert.ProjK.main (F := Bits))) ⟨m, fun _ => 0, g⟩ (fun r => (∀ c : Dev Cert.ProjK.nD,
      r.2.mem ((c.tc : Thread Cert.ProjK.nD Cert.ProjK.τ).loc Cert.ProjK.main_arg0) = m ((c.tc : Thread Cert.ProjK.nD Cert.ProjK.τ).loc Cert.ProjK.main_arg0)
      ∧ r.2.mem ((c.tc : Thread Cert.ProjK.nD Cert.ProjK.τ).loc Cert.ProjK.main_arg1) = m ((c.tc : Thread Cert.ProjK.nD Cert.ProjK.τ).loc Cert.ProjK.main_arg1)
      ∧ r.2.mem ((c.tc : Thread Cert.ProjK.nD Cert.ProjK.τ).loc Cert.ProjK.main_arg2) = m ((c.tc : Thread Cert.ProjK.nD Cert.ProjK.τ).loc Cert.ProjK.main_arg2)
      ∧ r.2.mem ((c.tc : Thread Cert.ProjK.nD Cert.ProjK.τ).loc Cert.ProjK.main_arg3) = m ((c.tc : Thread Cert.ProjK.nD Cert.ProjK.τ).loc Cert.ProjK.main_arg3)
      ∧ r.2.mem ((c.tc : Thread Cert.ProjK.nD Cert.ProjK.τ).loc Cert.ProjK.main_arg4) = m ((c.tc : Thread Cert.ProjK.nD Cert.ProjK.τ).loc Cert.ProjK.main_arg4))
      ∧ r.2.sem = fun _ => 0)

def quiescent_ProjKIdeal [hProjKIdeal : Cert.ProjKIdeal.Facts] : Prop :=
  ∀ (m : (ℓ : Loc Cert.ProjKIdeal.nD Cert.ProjKIdeal.τ Cert.ProjKIdeal.sig) → Buf (Elt Ideal) ℓ) (g : Dev Cert.ProjKIdeal.nD → PrngReg), Pre_ProjKIdeal m →
    θ_run (Cert.ProjKIdeal.defs (F := Ideal)) (onTc (τ := Cert.ProjKIdeal.τ) (Cert.ProjKIdeal.main (F := Ideal))) ⟨m, fun _ => 0, g⟩ (fun r => (∀ c : Dev Cert.ProjKIdeal.nD,
      r.2.mem ((c.tc : Thread Cert.ProjKIdeal.nD Cert.ProjKIdeal.τ).loc Cert.ProjKIdeal.main_arg0) = m ((c.tc : Thread Cert.ProjKIdeal.nD Cert.ProjKIdeal.τ).loc Cert.ProjKIdeal.main_arg0)
      ∧ r.2.mem ((c.tc : Thread Cert.ProjKIdeal.nD Cert.ProjKIdeal.τ).loc Cert.ProjKIdeal.main_arg1) = m ((c.tc : Thread Cert.ProjKIdeal.nD Cert.ProjKIdeal.τ).loc Cert.ProjKIdeal.main_arg1)
      ∧ r.2.mem ((c.tc : Thread Cert.ProjKIdeal.nD Cert.ProjKIdeal.τ).loc Cert.ProjKIdeal.main_arg2) = m ((c.tc : Thread Cert.ProjKIdeal.nD Cert.ProjKIdeal.τ).loc Cert.ProjKIdeal.main_arg2)
      ∧ r.2.mem ((c.tc : Thread Cert.ProjKIdeal.nD Cert.ProjKIdeal.τ).loc Cert.ProjKIdeal.main_arg3) = m ((c.tc : Thread Cert.ProjKIdeal.nD Cert.ProjKIdeal.τ).loc Cert.ProjKIdeal.main_arg3)
      ∧ r.2.mem ((c.tc : Thread Cert.ProjKIdeal.nD Cert.ProjKIdeal.τ).loc Cert.ProjKIdeal.main_arg4) = m ((c.tc : Thread Cert.ProjKIdeal.nD Cert.ProjKIdeal.τ).loc Cert.ProjKIdeal.main_arg4))
      ∧ r.2.sem = fun _ => 0)

def quiescent_ProjKRefIdeal [hProjKRefIdeal : Cert.ProjKRefIdeal.Facts] : Prop :=
  ∀ (m : (ℓ : Loc Cert.ProjKRefIdeal.nD Cert.ProjKRefIdeal.τ Cert.ProjKRefIdeal.sig) → Buf (Elt Ideal) ℓ) (g : Dev Cert.ProjKRefIdeal.nD → PrngReg), Pre_ProjKRefIdeal m →
    θ_run (Cert.ProjKRefIdeal.defs (F := Ideal)) (onTc (τ := Cert.ProjKRefIdeal.τ) (Cert.ProjKRefIdeal.main (F := Ideal))) ⟨m, fun _ => 0, g⟩ (fun r => (∀ c : Dev Cert.ProjKRefIdeal.nD,
      r.2.mem ((c.tc : Thread Cert.ProjKRefIdeal.nD Cert.ProjKRefIdeal.τ).loc Cert.ProjKRefIdeal.main_arg0) = m ((c.tc : Thread Cert.ProjKRefIdeal.nD Cert.ProjKRefIdeal.τ).loc Cert.ProjKRefIdeal.main_arg0)
      ∧ r.2.mem ((c.tc : Thread Cert.ProjKRefIdeal.nD Cert.ProjKRefIdeal.τ).loc Cert.ProjKRefIdeal.main_arg1) = m ((c.tc : Thread Cert.ProjKRefIdeal.nD Cert.ProjKRefIdeal.τ).loc Cert.ProjKRefIdeal.main_arg1)
      ∧ r.2.mem ((c.tc : Thread Cert.ProjKRefIdeal.nD Cert.ProjKRefIdeal.τ).loc Cert.ProjKRefIdeal.main_arg2) = m ((c.tc : Thread Cert.ProjKRefIdeal.nD Cert.ProjKRefIdeal.τ).loc Cert.ProjKRefIdeal.main_arg2)
      ∧ r.2.mem ((c.tc : Thread Cert.ProjKRefIdeal.nD Cert.ProjKRefIdeal.τ).loc Cert.ProjKRefIdeal.main_arg3) = m ((c.tc : Thread Cert.ProjKRefIdeal.nD Cert.ProjKRefIdeal.τ).loc Cert.ProjKRefIdeal.main_arg3)
      ∧ r.2.mem ((c.tc : Thread Cert.ProjKRefIdeal.nD Cert.ProjKRefIdeal.τ).loc Cert.ProjKRefIdeal.main_arg4) = m ((c.tc : Thread Cert.ProjKRefIdeal.nD Cert.ProjKRefIdeal.τ).loc Cert.ProjKRefIdeal.main_arg4))
      ∧ r.2.sem = fun _ => 0)

def quiescent_WinQ [hWinQ : Cert.WinQ.Facts] : Prop :=
  ∀ (m : (ℓ : Loc Cert.WinQ.nD Cert.WinQ.τ Cert.WinQ.sig) → Buf (Elt Bits) ℓ) (g : Dev Cert.WinQ.nD → PrngReg), Pre_WinQ m →
    θ_run (Cert.WinQ.defs (F := Bits)) (onTc (τ := Cert.WinQ.τ) (Cert.WinQ.main (F := Bits))) ⟨m, fun _ => 0, g⟩ (fun r => (∀ c : Dev Cert.WinQ.nD,
      r.2.mem ((c.tc : Thread Cert.WinQ.nD Cert.WinQ.τ).loc Cert.WinQ.main_arg0) = m ((c.tc : Thread Cert.WinQ.nD Cert.WinQ.τ).loc Cert.WinQ.main_arg0)
      ∧ r.2.mem ((c.tc : Thread Cert.WinQ.nD Cert.WinQ.τ).loc Cert.WinQ.main_arg1) = m ((c.tc : Thread Cert.WinQ.nD Cert.WinQ.τ).loc Cert.WinQ.main_arg1)
      ∧ r.2.mem ((c.tc : Thread Cert.WinQ.nD Cert.WinQ.τ).loc Cert.WinQ.main_arg2) = m ((c.tc : Thread Cert.WinQ.nD Cert.WinQ.τ).loc Cert.WinQ.main_arg2)
      ∧ r.2.mem ((c.tc : Thread Cert.WinQ.nD Cert.WinQ.τ).loc Cert.WinQ.main_arg3) = m ((c.tc : Thread Cert.WinQ.nD Cert.WinQ.τ).loc Cert.WinQ.main_arg3)
      ∧ r.2.mem ((c.tc : Thread Cert.WinQ.nD Cert.WinQ.τ).loc Cert.WinQ.main_arg4) = m ((c.tc : Thread Cert.WinQ.nD Cert.WinQ.τ).loc Cert.WinQ.main_arg4))
      ∧ r.2.sem = fun _ => 0)

def quiescent_WinQIdeal [hWinQIdeal : Cert.WinQIdeal.Facts] : Prop :=
  ∀ (m : (ℓ : Loc Cert.WinQIdeal.nD Cert.WinQIdeal.τ Cert.WinQIdeal.sig) → Buf (Elt Ideal) ℓ) (g : Dev Cert.WinQIdeal.nD → PrngReg), Pre_WinQIdeal m →
    θ_run (Cert.WinQIdeal.defs (F := Ideal)) (onTc (τ := Cert.WinQIdeal.τ) (Cert.WinQIdeal.main (F := Ideal))) ⟨m, fun _ => 0, g⟩ (fun r => (∀ c : Dev Cert.WinQIdeal.nD,
      r.2.mem ((c.tc : Thread Cert.WinQIdeal.nD Cert.WinQIdeal.τ).loc Cert.WinQIdeal.main_arg0) = m ((c.tc : Thread Cert.WinQIdeal.nD Cert.WinQIdeal.τ).loc Cert.WinQIdeal.main_arg0)
      ∧ r.2.mem ((c.tc : Thread Cert.WinQIdeal.nD Cert.WinQIdeal.τ).loc Cert.WinQIdeal.main_arg1) = m ((c.tc : Thread Cert.WinQIdeal.nD Cert.WinQIdeal.τ).loc Cert.WinQIdeal.main_arg1)
      ∧ r.2.mem ((c.tc : Thread Cert.WinQIdeal.nD Cert.WinQIdeal.τ).loc Cert.WinQIdeal.main_arg2) = m ((c.tc : Thread Cert.WinQIdeal.nD Cert.WinQIdeal.τ).loc Cert.WinQIdeal.main_arg2)
      ∧ r.2.mem ((c.tc : Thread Cert.WinQIdeal.nD Cert.WinQIdeal.τ).loc Cert.WinQIdeal.main_arg3) = m ((c.tc : Thread Cert.WinQIdeal.nD Cert.WinQIdeal.τ).loc Cert.WinQIdeal.main_arg3)
      ∧ r.2.mem ((c.tc : Thread Cert.WinQIdeal.nD Cert.WinQIdeal.τ).loc Cert.WinQIdeal.main_arg4) = m ((c.tc : Thread Cert.WinQIdeal.nD Cert.WinQIdeal.τ).loc Cert.WinQIdeal.main_arg4))
      ∧ r.2.sem = fun _ => 0)

def quiescent_WinQRefIdeal [hWinQRefIdeal : Cert.WinQRefIdeal.Facts] : Prop :=
  ∀ (m : (ℓ : Loc Cert.WinQRefIdeal.nD Cert.WinQRefIdeal.τ Cert.WinQRefIdeal.sig) → Buf (Elt Ideal) ℓ) (g : Dev Cert.WinQRefIdeal.nD → PrngReg), Pre_WinQRefIdeal m →
    θ_run (Cert.WinQRefIdeal.defs (F := Ideal)) (onTc (τ := Cert.WinQRefIdeal.τ) (Cert.WinQRefIdeal.main (F := Ideal))) ⟨m, fun _ => 0, g⟩ (fun r => (∀ c : Dev Cert.WinQRefIdeal.nD,
      r.2.mem ((c.tc : Thread Cert.WinQRefIdeal.nD Cert.WinQRefIdeal.τ).loc Cert.WinQRefIdeal.main_arg0) = m ((c.tc : Thread Cert.WinQRefIdeal.nD Cert.WinQRefIdeal.τ).loc Cert.WinQRefIdeal.main_arg0)
      ∧ r.2.mem ((c.tc : Thread Cert.WinQRefIdeal.nD Cert.WinQRefIdeal.τ).loc Cert.WinQRefIdeal.main_arg1) = m ((c.tc : Thread Cert.WinQRefIdeal.nD Cert.WinQRefIdeal.τ).loc Cert.WinQRefIdeal.main_arg1)
      ∧ r.2.mem ((c.tc : Thread Cert.WinQRefIdeal.nD Cert.WinQRefIdeal.τ).loc Cert.WinQRefIdeal.main_arg2) = m ((c.tc : Thread Cert.WinQRefIdeal.nD Cert.WinQRefIdeal.τ).loc Cert.WinQRefIdeal.main_arg2)
      ∧ r.2.mem ((c.tc : Thread Cert.WinQRefIdeal.nD Cert.WinQRefIdeal.τ).loc Cert.WinQRefIdeal.main_arg3) = m ((c.tc : Thread Cert.WinQRefIdeal.nD Cert.WinQRefIdeal.τ).loc Cert.WinQRefIdeal.main_arg3)
      ∧ r.2.mem ((c.tc : Thread Cert.WinQRefIdeal.nD Cert.WinQRefIdeal.τ).loc Cert.WinQRefIdeal.main_arg4) = m ((c.tc : Thread Cert.WinQRefIdeal.nD Cert.WinQRefIdeal.τ).loc Cert.WinQRefIdeal.main_arg4))
      ∧ r.2.sem = fun _ => 0)

def quiescent_WinK [hWinK : Cert.WinK.Facts] : Prop :=
  ∀ (m : (ℓ : Loc Cert.WinK.nD Cert.WinK.τ Cert.WinK.sig) → Buf (Elt Bits) ℓ) (g : Dev Cert.WinK.nD → PrngReg), Pre_WinK m →
    θ_run (Cert.WinK.defs (F := Bits)) (onTc (τ := Cert.WinK.τ) (Cert.WinK.main (F := Bits))) ⟨m, fun _ => 0, g⟩ (fun r => (∀ c : Dev Cert.WinK.nD,
      r.2.mem ((c.tc : Thread Cert.WinK.nD Cert.WinK.τ).loc Cert.WinK.main_arg0) = m ((c.tc : Thread Cert.WinK.nD Cert.WinK.τ).loc Cert.WinK.main_arg0)
      ∧ r.2.mem ((c.tc : Thread Cert.WinK.nD Cert.WinK.τ).loc Cert.WinK.main_arg1) = m ((c.tc : Thread Cert.WinK.nD Cert.WinK.τ).loc Cert.WinK.main_arg1)
      ∧ r.2.mem ((c.tc : Thread Cert.WinK.nD Cert.WinK.τ).loc Cert.WinK.main_arg2) = m ((c.tc : Thread Cert.WinK.nD Cert.WinK.τ).loc Cert.WinK.main_arg2)
      ∧ r.2.mem ((c.tc : Thread Cert.WinK.nD Cert.WinK.τ).loc Cert.WinK.main_arg3) = m ((c.tc : Thread Cert.WinK.nD Cert.WinK.τ).loc Cert.WinK.main_arg3)
      ∧ r.2.mem ((c.tc : Thread Cert.WinK.nD Cert.WinK.τ).loc Cert.WinK.main_arg4) = m ((c.tc : Thread Cert.WinK.nD Cert.WinK.τ).loc Cert.WinK.main_arg4))
      ∧ r.2.sem = fun _ => 0)

def quiescent_WinKIdeal [hWinKIdeal : Cert.WinKIdeal.Facts] : Prop :=
  ∀ (m : (ℓ : Loc Cert.WinKIdeal.nD Cert.WinKIdeal.τ Cert.WinKIdeal.sig) → Buf (Elt Ideal) ℓ) (g : Dev Cert.WinKIdeal.nD → PrngReg), Pre_WinKIdeal m →
    θ_run (Cert.WinKIdeal.defs (F := Ideal)) (onTc (τ := Cert.WinKIdeal.τ) (Cert.WinKIdeal.main (F := Ideal))) ⟨m, fun _ => 0, g⟩ (fun r => (∀ c : Dev Cert.WinKIdeal.nD,
      r.2.mem ((c.tc : Thread Cert.WinKIdeal.nD Cert.WinKIdeal.τ).loc Cert.WinKIdeal.main_arg0) = m ((c.tc : Thread Cert.WinKIdeal.nD Cert.WinKIdeal.τ).loc Cert.WinKIdeal.main_arg0)
      ∧ r.2.mem ((c.tc : Thread Cert.WinKIdeal.nD Cert.WinKIdeal.τ).loc Cert.WinKIdeal.main_arg1) = m ((c.tc : Thread Cert.WinKIdeal.nD Cert.WinKIdeal.τ).loc Cert.WinKIdeal.main_arg1)
      ∧ r.2.mem ((c.tc : Thread Cert.WinKIdeal.nD Cert.WinKIdeal.τ).loc Cert.WinKIdeal.main_arg2) = m ((c.tc : Thread Cert.WinKIdeal.nD Cert.WinKIdeal.τ).loc Cert.WinKIdeal.main_arg2)
      ∧ r.2.mem ((c.tc : Thread Cert.WinKIdeal.nD Cert.WinKIdeal.τ).loc Cert.WinKIdeal.main_arg3) = m ((c.tc : Thread Cert.WinKIdeal.nD Cert.WinKIdeal.τ).loc Cert.WinKIdeal.main_arg3)
      ∧ r.2.mem ((c.tc : Thread Cert.WinKIdeal.nD Cert.WinKIdeal.τ).loc Cert.WinKIdeal.main_arg4) = m ((c.tc : Thread Cert.WinKIdeal.nD Cert.WinKIdeal.τ).loc Cert.WinKIdeal.main_arg4))
      ∧ r.2.sem = fun _ => 0)

def quiescent_WinKRefIdeal [hWinKRefIdeal : Cert.WinKRefIdeal.Facts] : Prop :=
  ∀ (m : (ℓ : Loc Cert.WinKRefIdeal.nD Cert.WinKRefIdeal.τ Cert.WinKRefIdeal.sig) → Buf (Elt Ideal) ℓ) (g : Dev Cert.WinKRefIdeal.nD → PrngReg), Pre_WinKRefIdeal m →
    θ_run (Cert.WinKRefIdeal.defs (F := Ideal)) (onTc (τ := Cert.WinKRefIdeal.τ) (Cert.WinKRefIdeal.main (F := Ideal))) ⟨m, fun _ => 0, g⟩ (fun r => (∀ c : Dev Cert.WinKRefIdeal.nD,
      r.2.mem ((c.tc : Thread Cert.WinKRefIdeal.nD Cert.WinKRefIdeal.τ).loc Cert.WinKRefIdeal.main_arg0) = m ((c.tc : Thread Cert.WinKRefIdeal.nD Cert.WinKRefIdeal.τ).loc Cert.WinKRefIdeal.main_arg0)
      ∧ r.2.mem ((c.tc : Thread Cert.WinKRefIdeal.nD Cert.WinKRefIdeal.τ).loc Cert.WinKRefIdeal.main_arg1) = m ((c.tc : Thread Cert.WinKRefIdeal.nD Cert.WinKRefIdeal.τ).loc Cert.WinKRefIdeal.main_arg1)
      ∧ r.2.mem ((c.tc : Thread Cert.WinKRefIdeal.nD Cert.WinKRefIdeal.τ).loc Cert.WinKRefIdeal.main_arg2) = m ((c.tc : Thread Cert.WinKRefIdeal.nD Cert.WinKRefIdeal.τ).loc Cert.WinKRefIdeal.main_arg2)
      ∧ r.2.mem ((c.tc : Thread Cert.WinKRefIdeal.nD Cert.WinKRefIdeal.τ).loc Cert.WinKRefIdeal.main_arg3) = m ((c.tc : Thread Cert.WinKRefIdeal.nD Cert.WinKRefIdeal.τ).loc Cert.WinKRefIdeal.main_arg3)
      ∧ r.2.mem ((c.tc : Thread Cert.WinKRefIdeal.nD Cert.WinKRefIdeal.τ).loc Cert.WinKRefIdeal.main_arg4) = m ((c.tc : Thread Cert.WinKRefIdeal.nD Cert.WinKRefIdeal.τ).loc Cert.WinKRefIdeal.main_arg4))
      ∧ r.2.sem = fun _ => 0)

def quiescent_WinV [hWinV : Cert.WinV.Facts] : Prop :=
  ∀ (m : (ℓ : Loc Cert.WinV.nD Cert.WinV.τ Cert.WinV.sig) → Buf (Elt Bits) ℓ) (g : Dev Cert.WinV.nD → PrngReg), Pre_WinV m →
    θ_run (Cert.WinV.defs (F := Bits)) (onTc (τ := Cert.WinV.τ) (Cert.WinV.main (F := Bits))) ⟨m, fun _ => 0, g⟩ (fun r => (∀ c : Dev Cert.WinV.nD,
      r.2.mem ((c.tc : Thread Cert.WinV.nD Cert.WinV.τ).loc Cert.WinV.main_arg0) = m ((c.tc : Thread Cert.WinV.nD Cert.WinV.τ).loc Cert.WinV.main_arg0)
      ∧ r.2.mem ((c.tc : Thread Cert.WinV.nD Cert.WinV.τ).loc Cert.WinV.main_arg1) = m ((c.tc : Thread Cert.WinV.nD Cert.WinV.τ).loc Cert.WinV.main_arg1))
      ∧ r.2.sem = fun _ => 0)

def quiescent_WinVIdeal [hWinVIdeal : Cert.WinVIdeal.Facts] : Prop :=
  ∀ (m : (ℓ : Loc Cert.WinVIdeal.nD Cert.WinVIdeal.τ Cert.WinVIdeal.sig) → Buf (Elt Ideal) ℓ) (g : Dev Cert.WinVIdeal.nD → PrngReg), Pre_WinVIdeal m →
    θ_run (Cert.WinVIdeal.defs (F := Ideal)) (onTc (τ := Cert.WinVIdeal.τ) (Cert.WinVIdeal.main (F := Ideal))) ⟨m, fun _ => 0, g⟩ (fun r => (∀ c : Dev Cert.WinVIdeal.nD,
      r.2.mem ((c.tc : Thread Cert.WinVIdeal.nD Cert.WinVIdeal.τ).loc Cert.WinVIdeal.main_arg0) = m ((c.tc : Thread Cert.WinVIdeal.nD Cert.WinVIdeal.τ).loc Cert.WinVIdeal.main_arg0)
      ∧ r.2.mem ((c.tc : Thread Cert.WinVIdeal.nD Cert.WinVIdeal.τ).loc Cert.WinVIdeal.main_arg1) = m ((c.tc : Thread Cert.WinVIdeal.nD Cert.WinVIdeal.τ).loc Cert.WinVIdeal.main_arg1))
      ∧ r.2.sem = fun _ => 0)

def quiescent_WinVRefIdeal [hWinVRefIdeal : Cert.WinVRefIdeal.Facts] : Prop :=
  ∀ (m : (ℓ : Loc Cert.WinVRefIdeal.nD Cert.WinVRefIdeal.τ Cert.WinVRefIdeal.sig) → Buf (Elt Ideal) ℓ) (g : Dev Cert.WinVRefIdeal.nD → PrngReg), Pre_WinVRefIdeal m →
    θ_run (Cert.WinVRefIdeal.defs (F := Ideal)) (onTc (τ := Cert.WinVRefIdeal.τ) (Cert.WinVRefIdeal.main (F := Ideal))) ⟨m, fun _ => 0, g⟩ (fun r => (∀ c : Dev Cert.WinVRefIdeal.nD,
      r.2.mem ((c.tc : Thread Cert.WinVRefIdeal.nD Cert.WinVRefIdeal.τ).loc Cert.WinVRefIdeal.main_arg0) = m ((c.tc : Thread Cert.WinVRefIdeal.nD Cert.WinVRefIdeal.τ).loc Cert.WinVRefIdeal.main_arg0)
      ∧ r.2.mem ((c.tc : Thread Cert.WinVRefIdeal.nD Cert.WinVRefIdeal.τ).loc Cert.WinVRefIdeal.main_arg1) = m ((c.tc : Thread Cert.WinVRefIdeal.nD Cert.WinVRefIdeal.τ).loc Cert.WinVRefIdeal.main_arg1))
      ∧ r.2.sem = fun _ => 0)

def quiescent_Modulate [hModulate : Cert.Modulate.Facts] : Prop :=
  ∀ (m : (ℓ : Loc Cert.Modulate.nD Cert.Modulate.τ Cert.Modulate.sig) → Buf (Elt Bits) ℓ) (g : Dev Cert.Modulate.nD → PrngReg), Pre_Modulate m →
    θ_run (Cert.Modulate.defs (F := Bits)) (onTc (τ := Cert.Modulate.τ) (Cert.Modulate.main (F := Bits))) ⟨m, fun _ => 0, g⟩ (fun r => (∀ c : Dev Cert.Modulate.nD,
      r.2.mem ((c.tc : Thread Cert.Modulate.nD Cert.Modulate.τ).loc Cert.Modulate.main_arg0) = m ((c.tc : Thread Cert.Modulate.nD Cert.Modulate.τ).loc Cert.Modulate.main_arg0)
      ∧ r.2.mem ((c.tc : Thread Cert.Modulate.nD Cert.Modulate.τ).loc Cert.Modulate.main_arg1) = m ((c.tc : Thread Cert.Modulate.nD Cert.Modulate.τ).loc Cert.Modulate.main_arg1)
      ∧ r.2.mem ((c.tc : Thread Cert.Modulate.nD Cert.Modulate.τ).loc Cert.Modulate.main_arg2) = m ((c.tc : Thread Cert.Modulate.nD Cert.Modulate.τ).loc Cert.Modulate.main_arg2)
      ∧ r.2.mem ((c.tc : Thread Cert.Modulate.nD Cert.Modulate.τ).loc Cert.Modulate.main_arg3) = m ((c.tc : Thread Cert.Modulate.nD Cert.Modulate.τ).loc Cert.Modulate.main_arg3))
      ∧ r.2.sem = fun _ => 0)

def quiescent_ModulateIdeal [hModulateIdeal : Cert.ModulateIdeal.Facts] : Prop :=
  ∀ (m : (ℓ : Loc Cert.ModulateIdeal.nD Cert.ModulateIdeal.τ Cert.ModulateIdeal.sig) → Buf (Elt Ideal) ℓ) (g : Dev Cert.ModulateIdeal.nD → PrngReg), Pre_ModulateIdeal m →
    θ_run (Cert.ModulateIdeal.defs (F := Ideal)) (onTc (τ := Cert.ModulateIdeal.τ) (Cert.ModulateIdeal.main (F := Ideal))) ⟨m, fun _ => 0, g⟩ (fun r => (∀ c : Dev Cert.ModulateIdeal.nD,
      r.2.mem ((c.tc : Thread Cert.ModulateIdeal.nD Cert.ModulateIdeal.τ).loc Cert.ModulateIdeal.main_arg0) = m ((c.tc : Thread Cert.ModulateIdeal.nD Cert.ModulateIdeal.τ).loc Cert.ModulateIdeal.main_arg0)
      ∧ r.2.mem ((c.tc : Thread Cert.ModulateIdeal.nD Cert.ModulateIdeal.τ).loc Cert.ModulateIdeal.main_arg1) = m ((c.tc : Thread Cert.ModulateIdeal.nD Cert.ModulateIdeal.τ).loc Cert.ModulateIdeal.main_arg1)
      ∧ r.2.mem ((c.tc : Thread Cert.ModulateIdeal.nD Cert.ModulateIdeal.τ).loc Cert.ModulateIdeal.main_arg2) = m ((c.tc : Thread Cert.ModulateIdeal.nD Cert.ModulateIdeal.τ).loc Cert.ModulateIdeal.main_arg2)
      ∧ r.2.mem ((c.tc : Thread Cert.ModulateIdeal.nD Cert.ModulateIdeal.τ).loc Cert.ModulateIdeal.main_arg3) = m ((c.tc : Thread Cert.ModulateIdeal.nD Cert.ModulateIdeal.τ).loc Cert.ModulateIdeal.main_arg3))
      ∧ r.2.sem = fun _ => 0)

def quiescent_ModulateRefIdeal [hModulateRefIdeal : Cert.ModulateRefIdeal.Facts] : Prop :=
  ∀ (m : (ℓ : Loc Cert.ModulateRefIdeal.nD Cert.ModulateRefIdeal.τ Cert.ModulateRefIdeal.sig) → Buf (Elt Ideal) ℓ) (g : Dev Cert.ModulateRefIdeal.nD → PrngReg), Pre_ModulateRefIdeal m →
    θ_run (Cert.ModulateRefIdeal.defs (F := Ideal)) (onTc (τ := Cert.ModulateRefIdeal.τ) (Cert.ModulateRefIdeal.main (F := Ideal))) ⟨m, fun _ => 0, g⟩ (fun r => (∀ c : Dev Cert.ModulateRefIdeal.nD,
      r.2.mem ((c.tc : Thread Cert.ModulateRefIdeal.nD Cert.ModulateRefIdeal.τ).loc Cert.ModulateRefIdeal.main_arg0) = m ((c.tc : Thread Cert.ModulateRefIdeal.nD Cert.ModulateRefIdeal.τ).loc Cert.ModulateRefIdeal.main_arg0)
      ∧ r.2.mem ((c.tc : Thread Cert.ModulateRefIdeal.nD Cert.ModulateRefIdeal.τ).loc Cert.ModulateRefIdeal.main_arg1) = m ((c.tc : Thread Cert.ModulateRefIdeal.nD Cert.ModulateRefIdeal.τ).loc Cert.ModulateRefIdeal.main_arg1)
      ∧ r.2.mem ((c.tc : Thread Cert.ModulateRefIdeal.nD Cert.ModulateRefIdeal.τ).loc Cert.ModulateRefIdeal.main_arg2) = m ((c.tc : Thread Cert.ModulateRefIdeal.nD Cert.ModulateRefIdeal.τ).loc Cert.ModulateRefIdeal.main_arg2)
      ∧ r.2.mem ((c.tc : Thread Cert.ModulateRefIdeal.nD Cert.ModulateRefIdeal.τ).loc Cert.ModulateRefIdeal.main_arg3) = m ((c.tc : Thread Cert.ModulateRefIdeal.nD Cert.ModulateRefIdeal.τ).loc Cert.ModulateRefIdeal.main_arg3))
      ∧ r.2.sem = fun _ => 0)

def quiescent_ModulateRows [hModulateRows : Cert.ModulateRows.Facts] : Prop :=
  ∀ (m : (ℓ : Loc Cert.ModulateRows.nD Cert.ModulateRows.τ Cert.ModulateRows.sig) → Buf (Elt Bits) ℓ) (g : Dev Cert.ModulateRows.nD → PrngReg), Pre_ModulateRows m →
    θ_run (Cert.ModulateRows.defs (F := Bits)) (onTc (τ := Cert.ModulateRows.τ) (Cert.ModulateRows.main (F := Bits))) ⟨m, fun _ => 0, g⟩ (fun r => (∀ c : Dev Cert.ModulateRows.nD,
      r.2.mem ((c.tc : Thread Cert.ModulateRows.nD Cert.ModulateRows.τ).loc Cert.ModulateRows.main_arg0) = m ((c.tc : Thread Cert.ModulateRows.nD Cert.ModulateRows.τ).loc Cert.ModulateRows.main_arg0)
      ∧ r.2.mem ((c.tc : Thread Cert.ModulateRows.nD Cert.ModulateRows.τ).loc Cert.ModulateRows.main_arg1) = m ((c.tc : Thread Cert.ModulateRows.nD Cert.ModulateRows.τ).loc Cert.ModulateRows.main_arg1)
      ∧ r.2.mem ((c.tc : Thread Cert.ModulateRows.nD Cert.ModulateRows.τ).loc Cert.ModulateRows.main_arg2) = m ((c.tc : Thread Cert.ModulateRows.nD Cert.ModulateRows.τ).loc Cert.ModulateRows.main_arg2)
      ∧ r.2.mem ((c.tc : Thread Cert.ModulateRows.nD Cert.ModulateRows.τ).loc Cert.ModulateRows.main_arg3) = m ((c.tc : Thread Cert.ModulateRows.nD Cert.ModulateRows.τ).loc Cert.ModulateRows.main_arg3))
      ∧ r.2.sem = fun _ => 0)

def quiescent_ModulateRowsIdeal [hModulateRowsIdeal : Cert.ModulateRowsIdeal.Facts] : Prop :=
  ∀ (m : (ℓ : Loc Cert.ModulateRowsIdeal.nD Cert.ModulateRowsIdeal.τ Cert.ModulateRowsIdeal.sig) → Buf (Elt Ideal) ℓ) (g : Dev Cert.ModulateRowsIdeal.nD → PrngReg), Pre_ModulateRowsIdeal m →
    θ_run (Cert.ModulateRowsIdeal.defs (F := Ideal)) (onTc (τ := Cert.ModulateRowsIdeal.τ) (Cert.ModulateRowsIdeal.main (F := Ideal))) ⟨m, fun _ => 0, g⟩ (fun r => (∀ c : Dev Cert.ModulateRowsIdeal.nD,
      r.2.mem ((c.tc : Thread Cert.ModulateRowsIdeal.nD Cert.ModulateRowsIdeal.τ).loc Cert.ModulateRowsIdeal.main_arg0) = m ((c.tc : Thread Cert.ModulateRowsIdeal.nD Cert.ModulateRowsIdeal.τ).loc Cert.ModulateRowsIdeal.main_arg0)
      ∧ r.2.mem ((c.tc : Thread Cert.ModulateRowsIdeal.nD Cert.ModulateRowsIdeal.τ).loc Cert.ModulateRowsIdeal.main_arg1) = m ((c.tc : Thread Cert.ModulateRowsIdeal.nD Cert.ModulateRowsIdeal.τ).loc Cert.ModulateRowsIdeal.main_arg1)
      ∧ r.2.mem ((c.tc : Thread Cert.ModulateRowsIdeal.nD Cert.ModulateRowsIdeal.τ).loc Cert.ModulateRowsIdeal.main_arg2) = m ((c.tc : Thread Cert.ModulateRowsIdeal.nD Cert.ModulateRowsIdeal.τ).loc Cert.ModulateRowsIdeal.main_arg2)
      ∧ r.2.mem ((c.tc : Thread Cert.ModulateRowsIdeal.nD Cert.ModulateRowsIdeal.τ).loc Cert.ModulateRowsIdeal.main_arg3) = m ((c.tc : Thread Cert.ModulateRowsIdeal.nD Cert.ModulateRowsIdeal.τ).loc Cert.ModulateRowsIdeal.main_arg3))
      ∧ r.2.sem = fun _ => 0)

def quiescent_ModulateRowsRefIdeal [hModulateRowsRefIdeal : Cert.ModulateRowsRefIdeal.Facts] : Prop :=
  ∀ (m : (ℓ : Loc Cert.ModulateRowsRefIdeal.nD Cert.ModulateRowsRefIdeal.τ Cert.ModulateRowsRefIdeal.sig) → Buf (Elt Ideal) ℓ) (g : Dev Cert.ModulateRowsRefIdeal.nD → PrngReg), Pre_ModulateRowsRefIdeal m →
    θ_run (Cert.ModulateRowsRefIdeal.defs (F := Ideal)) (onTc (τ := Cert.ModulateRowsRefIdeal.τ) (Cert.ModulateRowsRefIdeal.main (F := Ideal))) ⟨m, fun _ => 0, g⟩ (fun r => (∀ c : Dev Cert.ModulateRowsRefIdeal.nD,
      r.2.mem ((c.tc : Thread Cert.ModulateRowsRefIdeal.nD Cert.ModulateRowsRefIdeal.τ).loc Cert.ModulateRowsRefIdeal.main_arg0) = m ((c.tc : Thread Cert.ModulateRowsRefIdeal.nD Cert.ModulateRowsRefIdeal.τ).loc Cert.ModulateRowsRefIdeal.main_arg0)
      ∧ r.2.mem ((c.tc : Thread Cert.ModulateRowsRefIdeal.nD Cert.ModulateRowsRefIdeal.τ).loc Cert.ModulateRowsRefIdeal.main_arg1) = m ((c.tc : Thread Cert.ModulateRowsRefIdeal.nD Cert.ModulateRowsRefIdeal.τ).loc Cert.ModulateRowsRefIdeal.main_arg1)
      ∧ r.2.mem ((c.tc : Thread Cert.ModulateRowsRefIdeal.nD Cert.ModulateRowsRefIdeal.τ).loc Cert.ModulateRowsRefIdeal.main_arg2) = m ((c.tc : Thread Cert.ModulateRowsRefIdeal.nD Cert.ModulateRowsRefIdeal.τ).loc Cert.ModulateRowsRefIdeal.main_arg2)
      ∧ r.2.mem ((c.tc : Thread Cert.ModulateRowsRefIdeal.nD Cert.ModulateRowsRefIdeal.τ).loc Cert.ModulateRowsRefIdeal.main_arg3) = m ((c.tc : Thread Cert.ModulateRowsRefIdeal.nD Cert.ModulateRowsRefIdeal.τ).loc Cert.ModulateRowsRefIdeal.main_arg3))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_PeerQuery_PeerQueryIdeal : Prop :=
  True

def algebraic_PeerQueryIdeal_PeerQueryRefIdeal [hPeerQueryIdeal : Cert.PeerQueryIdeal.Facts] [hPeerQueryRefIdeal : Cert.PeerQueryRefIdeal.Facts] : Prop :=
  ∀ (m : (ℓ : Loc Cert.PeerQueryIdeal.nD Cert.PeerQueryIdeal.τ Cert.PeerQueryIdeal.sig) → Buf (Elt Ideal) ℓ) (g : Dev Cert.PeerQueryIdeal.nD → PrngReg)
    (m' : (ℓ : Loc Cert.PeerQueryRefIdeal.nD Cert.PeerQueryRefIdeal.τ Cert.PeerQueryRefIdeal.sig) → Buf (Elt Ideal) ℓ) (g' : Dev Cert.PeerQueryRefIdeal.nD → PrngReg), Pre_PeerQueryIdeal m →
    (∀ c : Dev Cert.PeerQueryIdeal.nD,
      m' ((c.tc : Thread Cert.PeerQueryRefIdeal.nD Cert.PeerQueryRefIdeal.τ).loc Cert.PeerQueryRefIdeal.main_arg0) = m ((c.tc : Thread Cert.PeerQueryIdeal.nD Cert.PeerQueryIdeal.τ).loc Cert.PeerQueryIdeal.main_arg0)
      ∧ m' ((c.tc : Thread Cert.PeerQueryRefIdeal.nD Cert.PeerQueryRefIdeal.τ).loc Cert.PeerQueryRefIdeal.main_arg1) = m ((c.tc : Thread Cert.PeerQueryIdeal.nD Cert.PeerQueryIdeal.τ).loc Cert.PeerQueryIdeal.main_arg1)) →
    ∃ (v0 : (c : Dev Cert.PeerQueryIdeal.nD) → Buf (Elt Ideal) ((c.tc : Thread Cert.PeerQueryIdeal.nD Cert.PeerQueryIdeal.τ).loc Cert.PeerQueryIdeal.main_v4)),
      θ_run (Cert.PeerQueryIdeal.defs (F := Ideal)) (onTc (τ := Cert.PeerQueryIdeal.τ) (Cert.PeerQueryIdeal.main (F := Ideal))) ⟨m, fun _ => 0, g⟩ (fun r => ∀ c : Dev Cert.PeerQueryIdeal.nD,
          r.2.mem ((c.tc : Thread Cert.PeerQueryIdeal.nD Cert.PeerQueryIdeal.τ).loc Cert.PeerQueryIdeal.main_v4) = v0 c
          ∧ r.2.mem ((c.tc : Thread Cert.PeerQueryIdeal.nD Cert.PeerQueryIdeal.τ).loc Cert.PeerQueryIdeal.main_arg0) = m ((c.tc : Thread Cert.PeerQueryIdeal.nD Cert.PeerQueryIdeal.τ).loc Cert.PeerQueryIdeal.main_arg0)
          ∧ r.2.mem ((c.tc : Thread Cert.PeerQueryIdeal.nD Cert.PeerQueryIdeal.τ).loc Cert.PeerQueryIdeal.main_arg1) = m ((c.tc : Thread Cert.PeerQueryIdeal.nD Cert.PeerQueryIdeal.τ).loc Cert.PeerQueryIdeal.main_arg1))
      ∧ θ_run (Cert.PeerQueryRefIdeal.defs (F := Ideal)) (onTc (τ := Cert.PeerQueryRefIdeal.τ) (Cert.PeerQueryRefIdeal.main (F := Ideal))) ⟨m', fun _ => 0, g'⟩ (fun r => ∀ c : Dev Cert.PeerQueryRefIdeal.nD,
          r.2.mem ((c.tc : Thread Cert.PeerQueryRefIdeal.nD Cert.PeerQueryRefIdeal.τ).loc Cert.PeerQueryRefIdeal.main_v1) = v0 c
          ∧ r.2.mem ((c.tc : Thread Cert.PeerQueryRefIdeal.nD Cert.PeerQueryRefIdeal.τ).loc Cert.PeerQueryRefIdeal.main_arg0) = m' ((c.tc : Thread Cert.PeerQueryRefIdeal.nD Cert.PeerQueryRefIdeal.τ).loc Cert.PeerQueryRefIdeal.main_arg0)
          ∧ r.2.mem ((c.tc : Thread Cert.PeerQueryRefIdeal.nD Cert.PeerQueryRefIdeal.τ).loc Cert.PeerQueryRefIdeal.main_arg1) = m' ((c.tc : Thread Cert.PeerQueryRefIdeal.nD Cert.PeerQueryRefIdeal.τ).loc Cert.PeerQueryRefIdeal.main_arg1))

def preserves_MixerOut_MixerOutIdeal : Prop :=
  True

def algebraic_MixerOutIdeal_MixerOutRefIdeal [hMixerOutIdeal : Cert.MixerOutIdeal.Facts] [hMixerOutRefIdeal : Cert.MixerOutRefIdeal.Facts] : Prop :=
  ∀ (m : (ℓ : Loc Cert.MixerOutIdeal.nD Cert.MixerOutIdeal.τ Cert.MixerOutIdeal.sig) → Buf (Elt Ideal) ℓ) (g : Dev Cert.MixerOutIdeal.nD → PrngReg)
    (m' : (ℓ : Loc Cert.MixerOutRefIdeal.nD Cert.MixerOutRefIdeal.τ Cert.MixerOutRefIdeal.sig) → Buf (Elt Ideal) ℓ) (g' : Dev Cert.MixerOutRefIdeal.nD → PrngReg), Pre_MixerOutIdeal m →
    (∀ c : Dev Cert.MixerOutIdeal.nD,
      m' ((c.tc : Thread Cert.MixerOutRefIdeal.nD Cert.MixerOutRefIdeal.τ).loc Cert.MixerOutRefIdeal.main_arg0) = m ((c.tc : Thread Cert.MixerOutIdeal.nD Cert.MixerOutIdeal.τ).loc Cert.MixerOutIdeal.main_arg0)
      ∧ m' ((c.tc : Thread Cert.MixerOutRefIdeal.nD Cert.MixerOutRefIdeal.τ).loc Cert.MixerOutRefIdeal.main_arg1) = m ((c.tc : Thread Cert.MixerOutIdeal.nD Cert.MixerOutIdeal.τ).loc Cert.MixerOutIdeal.main_arg1)
      ∧ m' ((c.tc : Thread Cert.MixerOutRefIdeal.nD Cert.MixerOutRefIdeal.τ).loc Cert.MixerOutRefIdeal.main_arg2) = m ((c.tc : Thread Cert.MixerOutIdeal.nD Cert.MixerOutIdeal.τ).loc Cert.MixerOutIdeal.main_arg2)
      ∧ m' ((c.tc : Thread Cert.MixerOutRefIdeal.nD Cert.MixerOutRefIdeal.τ).loc Cert.MixerOutRefIdeal.main_arg3) = m ((c.tc : Thread Cert.MixerOutIdeal.nD Cert.MixerOutIdeal.τ).loc Cert.MixerOutIdeal.main_arg3)) →
    ∃ (v0 : (c : Dev Cert.MixerOutIdeal.nD) → Buf (Elt Ideal) ((c.tc : Thread Cert.MixerOutIdeal.nD Cert.MixerOutIdeal.τ).loc Cert.MixerOutIdeal.main_v4)),
      θ_run (Cert.MixerOutIdeal.defs (F := Ideal)) (onTc (τ := Cert.MixerOutIdeal.τ) (Cert.MixerOutIdeal.main (F := Ideal))) ⟨m, fun _ => 0, g⟩ (fun r => ∀ c : Dev Cert.MixerOutIdeal.nD,
          r.2.mem ((c.tc : Thread Cert.MixerOutIdeal.nD Cert.MixerOutIdeal.τ).loc Cert.MixerOutIdeal.main_v4) = v0 c
          ∧ r.2.mem ((c.tc : Thread Cert.MixerOutIdeal.nD Cert.MixerOutIdeal.τ).loc Cert.MixerOutIdeal.main_arg0) = m ((c.tc : Thread Cert.MixerOutIdeal.nD Cert.MixerOutIdeal.τ).loc Cert.MixerOutIdeal.main_arg0)
          ∧ r.2.mem ((c.tc : Thread Cert.MixerOutIdeal.nD Cert.MixerOutIdeal.τ).loc Cert.MixerOutIdeal.main_arg1) = m ((c.tc : Thread Cert.MixerOutIdeal.nD Cert.MixerOutIdeal.τ).loc Cert.MixerOutIdeal.main_arg1)
          ∧ r.2.mem ((c.tc : Thread Cert.MixerOutIdeal.nD Cert.MixerOutIdeal.τ).loc Cert.MixerOutIdeal.main_arg2) = m ((c.tc : Thread Cert.MixerOutIdeal.nD Cert.MixerOutIdeal.τ).loc Cert.MixerOutIdeal.main_arg2)
          ∧ r.2.mem ((c.tc : Thread Cert.MixerOutIdeal.nD Cert.MixerOutIdeal.τ).loc Cert.MixerOutIdeal.main_arg3) = m ((c.tc : Thread Cert.MixerOutIdeal.nD Cert.MixerOutIdeal.τ).loc Cert.MixerOutIdeal.main_arg3))
      ∧ θ_run (Cert.MixerOutRefIdeal.defs (F := Ideal)) (onTc (τ := Cert.MixerOutRefIdeal.τ) (Cert.MixerOutRefIdeal.main (F := Ideal))) ⟨m', fun _ => 0, g'⟩ (fun r => ∀ c : Dev Cert.MixerOutRefIdeal.nD,
          r.2.mem ((c.tc : Thread Cert.MixerOutRefIdeal.nD Cert.MixerOutRefIdeal.τ).loc Cert.MixerOutRefIdeal.main_v14) = v0 c
          ∧ r.2.mem ((c.tc : Thread Cert.MixerOutRefIdeal.nD Cert.MixerOutRefIdeal.τ).loc Cert.MixerOutRefIdeal.main_arg0) = m' ((c.tc : Thread Cert.MixerOutRefIdeal.nD Cert.MixerOutRefIdeal.τ).loc Cert.MixerOutRefIdeal.main_arg0)
          ∧ r.2.mem ((c.tc : Thread Cert.MixerOutRefIdeal.nD Cert.MixerOutRefIdeal.τ).loc Cert.MixerOutRefIdeal.main_arg1) = m' ((c.tc : Thread Cert.MixerOutRefIdeal.nD Cert.MixerOutRefIdeal.τ).loc Cert.MixerOutRefIdeal.main_arg1)
          ∧ r.2.mem ((c.tc : Thread Cert.MixerOutRefIdeal.nD Cert.MixerOutRefIdeal.τ).loc Cert.MixerOutRefIdeal.main_arg2) = m' ((c.tc : Thread Cert.MixerOutRefIdeal.nD Cert.MixerOutRefIdeal.τ).loc Cert.MixerOutRefIdeal.main_arg2)
          ∧ r.2.mem ((c.tc : Thread Cert.MixerOutRefIdeal.nD Cert.MixerOutRefIdeal.τ).loc Cert.MixerOutRefIdeal.main_arg3) = m' ((c.tc : Thread Cert.MixerOutRefIdeal.nD Cert.MixerOutRefIdeal.τ).loc Cert.MixerOutRefIdeal.main_arg3))

def preserves_MixerOutRows_MixerOutRowsIdeal : Prop :=
  True

def algebraic_MixerOutRowsIdeal_MixerOutRefIdeal [hMixerOutRowsIdeal : Cert.MixerOutRowsIdeal.Facts] [hMixerOutRefIdeal : Cert.MixerOutRefIdeal.Facts] : Prop :=
  ∀ (m : (ℓ : Loc Cert.MixerOutRowsIdeal.nD Cert.MixerOutRowsIdeal.τ Cert.MixerOutRowsIdeal.sig) → Buf (Elt Ideal) ℓ) (g : Dev Cert.MixerOutRowsIdeal.nD → PrngReg)
    (m' : (ℓ : Loc Cert.MixerOutRefIdeal.nD Cert.MixerOutRefIdeal.τ Cert.MixerOutRefIdeal.sig) → Buf (Elt Ideal) ℓ) (g' : Dev Cert.MixerOutRefIdeal.nD → PrngReg), Pre_MixerOutRowsIdeal m →
    (∀ c : Dev Cert.MixerOutRowsIdeal.nD,
      m' ((c.tc : Thread Cert.MixerOutRefIdeal.nD Cert.MixerOutRefIdeal.τ).loc Cert.MixerOutRefIdeal.main_arg0) = m ((c.tc : Thread Cert.MixerOutRowsIdeal.nD Cert.MixerOutRowsIdeal.τ).loc Cert.MixerOutRowsIdeal.main_arg0)
      ∧ m' ((c.tc : Thread Cert.MixerOutRefIdeal.nD Cert.MixerOutRefIdeal.τ).loc Cert.MixerOutRefIdeal.main_arg1) = m ((c.tc : Thread Cert.MixerOutRowsIdeal.nD Cert.MixerOutRowsIdeal.τ).loc Cert.MixerOutRowsIdeal.main_arg1)
      ∧ m' ((c.tc : Thread Cert.MixerOutRefIdeal.nD Cert.MixerOutRefIdeal.τ).loc Cert.MixerOutRefIdeal.main_arg2) = m ((c.tc : Thread Cert.MixerOutRowsIdeal.nD Cert.MixerOutRowsIdeal.τ).loc Cert.MixerOutRowsIdeal.main_arg2)
      ∧ m' ((c.tc : Thread Cert.MixerOutRefIdeal.nD Cert.MixerOutRefIdeal.τ).loc Cert.MixerOutRefIdeal.main_arg3) = m ((c.tc : Thread Cert.MixerOutRowsIdeal.nD Cert.MixerOutRowsIdeal.τ).loc Cert.MixerOutRowsIdeal.main_arg3)) →
    ∃ (v0 : (c : Dev Cert.MixerOutRowsIdeal.nD) → Buf (Elt Ideal) ((c.tc : Thread Cert.MixerOutRowsIdeal.nD Cert.MixerOutRowsIdeal.τ).loc Cert.MixerOutRowsIdeal.main_v2)),
      θ_run (Cert.MixerOutRowsIdeal.defs (F := Ideal)) (onTc (τ := Cert.MixerOutRowsIdeal.τ) (Cert.MixerOutRowsIdeal.main (F := Ideal))) ⟨m, fun _ => 0, g⟩ (fun r => ∀ c : Dev Cert.MixerOutRowsIdeal.nD,
          r.2.mem ((c.tc : Thread Cert.MixerOutRowsIdeal.nD Cert.MixerOutRowsIdeal.τ).loc Cert.MixerOutRowsIdeal.main_v2) = v0 c
          ∧ r.2.mem ((c.tc : Thread Cert.MixerOutRowsIdeal.nD Cert.MixerOutRowsIdeal.τ).loc Cert.MixerOutRowsIdeal.main_arg0) = m ((c.tc : Thread Cert.MixerOutRowsIdeal.nD Cert.MixerOutRowsIdeal.τ).loc Cert.MixerOutRowsIdeal.main_arg0)
          ∧ r.2.mem ((c.tc : Thread Cert.MixerOutRowsIdeal.nD Cert.MixerOutRowsIdeal.τ).loc Cert.MixerOutRowsIdeal.main_arg1) = m ((c.tc : Thread Cert.MixerOutRowsIdeal.nD Cert.MixerOutRowsIdeal.τ).loc Cert.MixerOutRowsIdeal.main_arg1)
          ∧ r.2.mem ((c.tc : Thread Cert.MixerOutRowsIdeal.nD Cert.MixerOutRowsIdeal.τ).loc Cert.MixerOutRowsIdeal.main_arg2) = m ((c.tc : Thread Cert.MixerOutRowsIdeal.nD Cert.MixerOutRowsIdeal.τ).loc Cert.MixerOutRowsIdeal.main_arg2)
          ∧ r.2.mem ((c.tc : Thread Cert.MixerOutRowsIdeal.nD Cert.MixerOutRowsIdeal.τ).loc Cert.MixerOutRowsIdeal.main_arg3) = m ((c.tc : Thread Cert.MixerOutRowsIdeal.nD Cert.MixerOutRowsIdeal.τ).loc Cert.MixerOutRowsIdeal.main_arg3))
      ∧ θ_run (Cert.MixerOutRefIdeal.defs (F := Ideal)) (onTc (τ := Cert.MixerOutRefIdeal.τ) (Cert.MixerOutRefIdeal.main (F := Ideal))) ⟨m', fun _ => 0, g'⟩ (fun r => ∀ c : Dev Cert.MixerOutRefIdeal.nD,
          r.2.mem ((c.tc : Thread Cert.MixerOutRefIdeal.nD Cert.MixerOutRefIdeal.τ).loc Cert.MixerOutRefIdeal.main_v14) = v0 c
          ∧ r.2.mem ((c.tc : Thread Cert.MixerOutRefIdeal.nD Cert.MixerOutRefIdeal.τ).loc Cert.MixerOutRefIdeal.main_arg0) = m' ((c.tc : Thread Cert.MixerOutRefIdeal.nD Cert.MixerOutRefIdeal.τ).loc Cert.MixerOutRefIdeal.main_arg0)
          ∧ r.2.mem ((c.tc : Thread Cert.MixerOutRefIdeal.nD Cert.MixerOutRefIdeal.τ).loc Cert.MixerOutRefIdeal.main_arg1) = m' ((c.tc : Thread Cert.MixerOutRefIdeal.nD Cert.MixerOutRefIdeal.τ).loc Cert.MixerOutRefIdeal.main_arg1)
          ∧ r.2.mem ((c.tc : Thread Cert.MixerOutRefIdeal.nD Cert.MixerOutRefIdeal.τ).loc Cert.MixerOutRefIdeal.main_arg2) = m' ((c.tc : Thread Cert.MixerOutRefIdeal.nD Cert.MixerOutRefIdeal.τ).loc Cert.MixerOutRefIdeal.main_arg2)
          ∧ r.2.mem ((c.tc : Thread Cert.MixerOutRefIdeal.nD Cert.MixerOutRefIdeal.τ).loc Cert.MixerOutRefIdeal.main_arg3) = m' ((c.tc : Thread Cert.MixerOutRefIdeal.nD Cert.MixerOutRefIdeal.τ).loc Cert.MixerOutRefIdeal.main_arg3))

def preserves_ProjV_ProjVIdeal : Prop :=
  True

def algebraic_ProjVIdeal_ProjVRefIdeal [hProjVIdeal : Cert.ProjVIdeal.Facts] [hProjVRefIdeal : Cert.ProjVRefIdeal.Facts] : Prop :=
  ∀ (m : (ℓ : Loc Cert.ProjVIdeal.nD Cert.ProjVIdeal.τ Cert.ProjVIdeal.sig) → Buf (Elt Ideal) ℓ) (g : Dev Cert.ProjVIdeal.nD → PrngReg)
    (m' : (ℓ : Loc Cert.ProjVRefIdeal.nD Cert.ProjVRefIdeal.τ Cert.ProjVRefIdeal.sig) → Buf (Elt Ideal) ℓ) (g' : Dev Cert.ProjVRefIdeal.nD → PrngReg), Pre_ProjVIdeal m →
    (∀ c : Dev Cert.ProjVIdeal.nD,
      m' ((c.tc : Thread Cert.ProjVRefIdeal.nD Cert.ProjVRefIdeal.τ).loc Cert.ProjVRefIdeal.main_arg0) = m ((c.tc : Thread Cert.ProjVIdeal.nD Cert.ProjVIdeal.τ).loc Cert.ProjVIdeal.main_arg0)
      ∧ m' ((c.tc : Thread Cert.ProjVRefIdeal.nD Cert.ProjVRefIdeal.τ).loc Cert.ProjVRefIdeal.main_arg1) = m ((c.tc : Thread Cert.ProjVIdeal.nD Cert.ProjVIdeal.τ).loc Cert.ProjVIdeal.main_arg1)) →
    ∃ (v0 : (c : Dev Cert.ProjVIdeal.nD) → Buf (Elt Ideal) ((c.tc : Thread Cert.ProjVIdeal.nD Cert.ProjVIdeal.τ).loc Cert.ProjVIdeal.main_v5)),
      θ_run (Cert.ProjVIdeal.defs (F := Ideal)) (onTc (τ := Cert.ProjVIdeal.τ) (Cert.ProjVIdeal.main (F := Ideal))) ⟨m, fun _ => 0, g⟩ (fun r => ∀ c : Dev Cert.ProjVIdeal.nD,
          r.2.mem ((c.tc : Thread Cert.ProjVIdeal.nD Cert.ProjVIdeal.τ).loc Cert.ProjVIdeal.main_v5) = v0 c
          ∧ r.2.mem ((c.tc : Thread Cert.ProjVIdeal.nD Cert.ProjVIdeal.τ).loc Cert.ProjVIdeal.main_arg0) = m ((c.tc : Thread Cert.ProjVIdeal.nD Cert.ProjVIdeal.τ).loc Cert.ProjVIdeal.main_arg0)
          ∧ r.2.mem ((c.tc : Thread Cert.ProjVIdeal.nD Cert.ProjVIdeal.τ).loc Cert.ProjVIdeal.main_arg1) = m ((c.tc : Thread Cert.ProjVIdeal.nD Cert.ProjVIdeal.τ).loc Cert.ProjVIdeal.main_arg1))
      ∧ θ_run (Cert.ProjVRefIdeal.defs (F := Ideal)) (onTc (τ := Cert.ProjVRefIdeal.τ) (Cert.ProjVRefIdeal.main (F := Ideal))) ⟨m', fun _ => 0, g'⟩ (fun r => ∀ c : Dev Cert.ProjVRefIdeal.nD,
          r.2.mem ((c.tc : Thread Cert.ProjVRefIdeal.nD Cert.ProjVRefIdeal.τ).loc Cert.ProjVRefIdeal.main_v3) = v0 c
          ∧ r.2.mem ((c.tc : Thread Cert.ProjVRefIdeal.nD Cert.ProjVRefIdeal.τ).loc Cert.ProjVRefIdeal.main_arg0) = m' ((c.tc : Thread Cert.ProjVRefIdeal.nD Cert.ProjVRefIdeal.τ).loc Cert.ProjVRefIdeal.main_arg0)
          ∧ r.2.mem ((c.tc : Thread Cert.ProjVRefIdeal.nD Cert.ProjVRefIdeal.τ).loc Cert.ProjVRefIdeal.main_arg1) = m' ((c.tc : Thread Cert.ProjVRefIdeal.nD Cert.ProjVRefIdeal.τ).loc Cert.ProjVRefIdeal.main_arg1))

def preserves_ProjQ_ProjQIdeal : Prop :=
  True

def algebraic_ProjQIdeal_ProjQRefIdeal [hProjQIdeal : Cert.ProjQIdeal.Facts] [hProjQRefIdeal : Cert.ProjQRefIdeal.Facts] : Prop :=
  ∀ (m : (ℓ : Loc Cert.ProjQIdeal.nD Cert.ProjQIdeal.τ Cert.ProjQIdeal.sig) → Buf (Elt Ideal) ℓ) (g : Dev Cert.ProjQIdeal.nD → PrngReg)
    (m' : (ℓ : Loc Cert.ProjQRefIdeal.nD Cert.ProjQRefIdeal.τ Cert.ProjQRefIdeal.sig) → Buf (Elt Ideal) ℓ) (g' : Dev Cert.ProjQRefIdeal.nD → PrngReg), Pre_ProjQIdeal m →
    (∀ c : Dev Cert.ProjQIdeal.nD,
      m' ((c.tc : Thread Cert.ProjQRefIdeal.nD Cert.ProjQRefIdeal.τ).loc Cert.ProjQRefIdeal.main_arg0) = m ((c.tc : Thread Cert.ProjQIdeal.nD Cert.ProjQIdeal.τ).loc Cert.ProjQIdeal.main_arg0)
      ∧ m' ((c.tc : Thread Cert.ProjQRefIdeal.nD Cert.ProjQRefIdeal.τ).loc Cert.ProjQRefIdeal.main_arg1) = m ((c.tc : Thread Cert.ProjQIdeal.nD Cert.ProjQIdeal.τ).loc Cert.ProjQIdeal.main_arg1)
      ∧ m' ((c.tc : Thread Cert.ProjQRefIdeal.nD Cert.ProjQRefIdeal.τ).loc Cert.ProjQRefIdeal.main_arg2) = m ((c.tc : Thread Cert.ProjQIdeal.nD Cert.ProjQIdeal.τ).loc Cert.ProjQIdeal.main_arg2)
      ∧ m' ((c.tc : Thread Cert.ProjQRefIdeal.nD Cert.ProjQRefIdeal.τ).loc Cert.ProjQRefIdeal.main_arg3) = m ((c.tc : Thread Cert.ProjQIdeal.nD Cert.ProjQIdeal.τ).loc Cert.ProjQIdeal.main_arg3)
      ∧ m' ((c.tc : Thread Cert.ProjQRefIdeal.nD Cert.ProjQRefIdeal.τ).loc Cert.ProjQRefIdeal.main_arg4) = m ((c.tc : Thread Cert.ProjQIdeal.nD Cert.ProjQIdeal.τ).loc Cert.ProjQIdeal.main_arg4)) →
    ∃ (v0 : (c : Dev Cert.ProjQIdeal.nD) → Buf (Elt Ideal) ((c.tc : Thread Cert.ProjQIdeal.nD Cert.ProjQIdeal.τ).loc Cert.ProjQIdeal.main_v26)),
      θ_run (Cert.ProjQIdeal.defs (F := Ideal)) (onTc (τ := Cert.ProjQIdeal.τ) (Cert.ProjQIdeal.main (F := Ideal))) ⟨m, fun _ => 0, g⟩ (fun r => ∀ c : Dev Cert.ProjQIdeal.nD,
          r.2.mem ((c.tc : Thread Cert.ProjQIdeal.nD Cert.ProjQIdeal.τ).loc Cert.ProjQIdeal.main_v26) = v0 c
          ∧ r.2.mem ((c.tc : Thread Cert.ProjQIdeal.nD Cert.ProjQIdeal.τ).loc Cert.ProjQIdeal.main_arg0) = m ((c.tc : Thread Cert.ProjQIdeal.nD Cert.ProjQIdeal.τ).loc Cert.ProjQIdeal.main_arg0)
          ∧ r.2.mem ((c.tc : Thread Cert.ProjQIdeal.nD Cert.ProjQIdeal.τ).loc Cert.ProjQIdeal.main_arg1) = m ((c.tc : Thread Cert.ProjQIdeal.nD Cert.ProjQIdeal.τ).loc Cert.ProjQIdeal.main_arg1)
          ∧ r.2.mem ((c.tc : Thread Cert.ProjQIdeal.nD Cert.ProjQIdeal.τ).loc Cert.ProjQIdeal.main_arg2) = m ((c.tc : Thread Cert.ProjQIdeal.nD Cert.ProjQIdeal.τ).loc Cert.ProjQIdeal.main_arg2)
          ∧ r.2.mem ((c.tc : Thread Cert.ProjQIdeal.nD Cert.ProjQIdeal.τ).loc Cert.ProjQIdeal.main_arg3) = m ((c.tc : Thread Cert.ProjQIdeal.nD Cert.ProjQIdeal.τ).loc Cert.ProjQIdeal.main_arg3)
          ∧ r.2.mem ((c.tc : Thread Cert.ProjQIdeal.nD Cert.ProjQIdeal.τ).loc Cert.ProjQIdeal.main_arg4) = m ((c.tc : Thread Cert.ProjQIdeal.nD Cert.ProjQIdeal.τ).loc Cert.ProjQIdeal.main_arg4))
      ∧ θ_run (Cert.ProjQRefIdeal.defs (F := Ideal)) (onTc (τ := Cert.ProjQRefIdeal.τ) (Cert.ProjQRefIdeal.main (F := Ideal))) ⟨m', fun _ => 0, g'⟩ (fun r => ∀ c : Dev Cert.ProjQRefIdeal.nD,
          r.2.mem ((c.tc : Thread Cert.ProjQRefIdeal.nD Cert.ProjQRefIdeal.τ).loc Cert.ProjQRefIdeal.main_v38) = v0 c
          ∧ r.2.mem ((c.tc : Thread Cert.ProjQRefIdeal.nD Cert.ProjQRefIdeal.τ).loc Cert.ProjQRefIdeal.main_arg0) = m' ((c.tc : Thread Cert.ProjQRefIdeal.nD Cert.ProjQRefIdeal.τ).loc Cert.ProjQRefIdeal.main_arg0)
          ∧ r.2.mem ((c.tc : Thread Cert.ProjQRefIdeal.nD Cert.ProjQRefIdeal.τ).loc Cert.ProjQRefIdeal.main_arg1) = m' ((c.tc : Thread Cert.ProjQRefIdeal.nD Cert.ProjQRefIdeal.τ).loc Cert.ProjQRefIdeal.main_arg1)
          ∧ r.2.mem ((c.tc : Thread Cert.ProjQRefIdeal.nD Cert.ProjQRefIdeal.τ).loc Cert.ProjQRefIdeal.main_arg2) = m' ((c.tc : Thread Cert.ProjQRefIdeal.nD Cert.ProjQRefIdeal.τ).loc Cert.ProjQRefIdeal.main_arg2)
          ∧ r.2.mem ((c.tc : Thread Cert.ProjQRefIdeal.nD Cert.ProjQRefIdeal.τ).loc Cert.ProjQRefIdeal.main_arg3) = m' ((c.tc : Thread Cert.ProjQRefIdeal.nD Cert.ProjQRefIdeal.τ).loc Cert.ProjQRefIdeal.main_arg3)
          ∧ r.2.mem ((c.tc : Thread Cert.ProjQRefIdeal.nD Cert.ProjQRefIdeal.τ).loc Cert.ProjQRefIdeal.main_arg4) = m' ((c.tc : Thread Cert.ProjQRefIdeal.nD Cert.ProjQRefIdeal.τ).loc Cert.ProjQRefIdeal.main_arg4))

def preserves_ProjK_ProjKIdeal : Prop :=
  True

def algebraic_ProjKIdeal_ProjKRefIdeal [hProjKIdeal : Cert.ProjKIdeal.Facts] [hProjKRefIdeal : Cert.ProjKRefIdeal.Facts] : Prop :=
  ∀ (m : (ℓ : Loc Cert.ProjKIdeal.nD Cert.ProjKIdeal.τ Cert.ProjKIdeal.sig) → Buf (Elt Ideal) ℓ) (g : Dev Cert.ProjKIdeal.nD → PrngReg)
    (m' : (ℓ : Loc Cert.ProjKRefIdeal.nD Cert.ProjKRefIdeal.τ Cert.ProjKRefIdeal.sig) → Buf (Elt Ideal) ℓ) (g' : Dev Cert.ProjKRefIdeal.nD → PrngReg), Pre_ProjKIdeal m →
    (∀ c : Dev Cert.ProjKIdeal.nD,
      m' ((c.tc : Thread Cert.ProjKRefIdeal.nD Cert.ProjKRefIdeal.τ).loc Cert.ProjKRefIdeal.main_arg0) = m ((c.tc : Thread Cert.ProjKIdeal.nD Cert.ProjKIdeal.τ).loc Cert.ProjKIdeal.main_arg0)
      ∧ m' ((c.tc : Thread Cert.ProjKRefIdeal.nD Cert.ProjKRefIdeal.τ).loc Cert.ProjKRefIdeal.main_arg1) = m ((c.tc : Thread Cert.ProjKIdeal.nD Cert.ProjKIdeal.τ).loc Cert.ProjKIdeal.main_arg1)
      ∧ m' ((c.tc : Thread Cert.ProjKRefIdeal.nD Cert.ProjKRefIdeal.τ).loc Cert.ProjKRefIdeal.main_arg2) = m ((c.tc : Thread Cert.ProjKIdeal.nD Cert.ProjKIdeal.τ).loc Cert.ProjKIdeal.main_arg2)
      ∧ m' ((c.tc : Thread Cert.ProjKRefIdeal.nD Cert.ProjKRefIdeal.τ).loc Cert.ProjKRefIdeal.main_arg3) = m ((c.tc : Thread Cert.ProjKIdeal.nD Cert.ProjKIdeal.τ).loc Cert.ProjKIdeal.main_arg3)
      ∧ m' ((c.tc : Thread Cert.ProjKRefIdeal.nD Cert.ProjKRefIdeal.τ).loc Cert.ProjKRefIdeal.main_arg4) = m ((c.tc : Thread Cert.ProjKIdeal.nD Cert.ProjKIdeal.τ).loc Cert.ProjKIdeal.main_arg4)) →
    ∃ (v0 : (c : Dev Cert.ProjKIdeal.nD) → Buf (Elt Ideal) ((c.tc : Thread Cert.ProjKIdeal.nD Cert.ProjKIdeal.τ).loc Cert.ProjKIdeal.main_v26)),
      θ_run (Cert.ProjKIdeal.defs (F := Ideal)) (onTc (τ := Cert.ProjKIdeal.τ) (Cert.ProjKIdeal.main (F := Ideal))) ⟨m, fun _ => 0, g⟩ (fun r => ∀ c : Dev Cert.ProjKIdeal.nD,
          r.2.mem ((c.tc : Thread Cert.ProjKIdeal.nD Cert.ProjKIdeal.τ).loc Cert.ProjKIdeal.main_v26) = v0 c
          ∧ r.2.mem ((c.tc : Thread Cert.ProjKIdeal.nD Cert.ProjKIdeal.τ).loc Cert.ProjKIdeal.main_arg0) = m ((c.tc : Thread Cert.ProjKIdeal.nD Cert.ProjKIdeal.τ).loc Cert.ProjKIdeal.main_arg0)
          ∧ r.2.mem ((c.tc : Thread Cert.ProjKIdeal.nD Cert.ProjKIdeal.τ).loc Cert.ProjKIdeal.main_arg1) = m ((c.tc : Thread Cert.ProjKIdeal.nD Cert.ProjKIdeal.τ).loc Cert.ProjKIdeal.main_arg1)
          ∧ r.2.mem ((c.tc : Thread Cert.ProjKIdeal.nD Cert.ProjKIdeal.τ).loc Cert.ProjKIdeal.main_arg2) = m ((c.tc : Thread Cert.ProjKIdeal.nD Cert.ProjKIdeal.τ).loc Cert.ProjKIdeal.main_arg2)
          ∧ r.2.mem ((c.tc : Thread Cert.ProjKIdeal.nD Cert.ProjKIdeal.τ).loc Cert.ProjKIdeal.main_arg3) = m ((c.tc : Thread Cert.ProjKIdeal.nD Cert.ProjKIdeal.τ).loc Cert.ProjKIdeal.main_arg3)
          ∧ r.2.mem ((c.tc : Thread Cert.ProjKIdeal.nD Cert.ProjKIdeal.τ).loc Cert.ProjKIdeal.main_arg4) = m ((c.tc : Thread Cert.ProjKIdeal.nD Cert.ProjKIdeal.τ).loc Cert.ProjKIdeal.main_arg4))
      ∧ θ_run (Cert.ProjKRefIdeal.defs (F := Ideal)) (onTc (τ := Cert.ProjKRefIdeal.τ) (Cert.ProjKRefIdeal.main (F := Ideal))) ⟨m', fun _ => 0, g'⟩ (fun r => ∀ c : Dev Cert.ProjKRefIdeal.nD,
          r.2.mem ((c.tc : Thread Cert.ProjKRefIdeal.nD Cert.ProjKRefIdeal.τ).loc Cert.ProjKRefIdeal.main_v38) = v0 c
          ∧ r.2.mem ((c.tc : Thread Cert.ProjKRefIdeal.nD Cert.ProjKRefIdeal.τ).loc Cert.ProjKRefIdeal.main_arg0) = m' ((c.tc : Thread Cert.ProjKRefIdeal.nD Cert.ProjKRefIdeal.τ).loc Cert.ProjKRefIdeal.main_arg0)
          ∧ r.2.mem ((c.tc : Thread Cert.ProjKRefIdeal.nD Cert.ProjKRefIdeal.τ).loc Cert.ProjKRefIdeal.main_arg1) = m' ((c.tc : Thread Cert.ProjKRefIdeal.nD Cert.ProjKRefIdeal.τ).loc Cert.ProjKRefIdeal.main_arg1)
          ∧ r.2.mem ((c.tc : Thread Cert.ProjKRefIdeal.nD Cert.ProjKRefIdeal.τ).loc Cert.ProjKRefIdeal.main_arg2) = m' ((c.tc : Thread Cert.ProjKRefIdeal.nD Cert.ProjKRefIdeal.τ).loc Cert.ProjKRefIdeal.main_arg2)
          ∧ r.2.mem ((c.tc : Thread Cert.ProjKRefIdeal.nD Cert.ProjKRefIdeal.τ).loc Cert.ProjKRefIdeal.main_arg3) = m' ((c.tc : Thread Cert.ProjKRefIdeal.nD Cert.ProjKRefIdeal.τ).loc Cert.ProjKRefIdeal.main_arg3)
          ∧ r.2.mem ((c.tc : Thread Cert.ProjKRefIdeal.nD Cert.ProjKRefIdeal.τ).loc Cert.ProjKRefIdeal.main_arg4) = m' ((c.tc : Thread Cert.ProjKRefIdeal.nD Cert.ProjKRefIdeal.τ).loc Cert.ProjKRefIdeal.main_arg4))

def preserves_WinQ_WinQIdeal : Prop :=
  True

def algebraic_WinQIdeal_WinQRefIdeal [hWinQIdeal : Cert.WinQIdeal.Facts] [hWinQRefIdeal : Cert.WinQRefIdeal.Facts] : Prop :=
  ∀ (m : (ℓ : Loc Cert.WinQIdeal.nD Cert.WinQIdeal.τ Cert.WinQIdeal.sig) → Buf (Elt Ideal) ℓ) (g : Dev Cert.WinQIdeal.nD → PrngReg)
    (m' : (ℓ : Loc Cert.WinQRefIdeal.nD Cert.WinQRefIdeal.τ Cert.WinQRefIdeal.sig) → Buf (Elt Ideal) ℓ) (g' : Dev Cert.WinQRefIdeal.nD → PrngReg), Pre_WinQIdeal m →
    (∀ c : Dev Cert.WinQIdeal.nD,
      m' ((c.tc : Thread Cert.WinQRefIdeal.nD Cert.WinQRefIdeal.τ).loc Cert.WinQRefIdeal.main_arg0) = m ((c.tc : Thread Cert.WinQIdeal.nD Cert.WinQIdeal.τ).loc Cert.WinQIdeal.main_arg0)
      ∧ m' ((c.tc : Thread Cert.WinQRefIdeal.nD Cert.WinQRefIdeal.τ).loc Cert.WinQRefIdeal.main_arg1) = m ((c.tc : Thread Cert.WinQIdeal.nD Cert.WinQIdeal.τ).loc Cert.WinQIdeal.main_arg1)
      ∧ m' ((c.tc : Thread Cert.WinQRefIdeal.nD Cert.WinQRefIdeal.τ).loc Cert.WinQRefIdeal.main_arg2) = m ((c.tc : Thread Cert.WinQIdeal.nD Cert.WinQIdeal.τ).loc Cert.WinQIdeal.main_arg2)
      ∧ m' ((c.tc : Thread Cert.WinQRefIdeal.nD Cert.WinQRefIdeal.τ).loc Cert.WinQRefIdeal.main_arg3) = m ((c.tc : Thread Cert.WinQIdeal.nD Cert.WinQIdeal.τ).loc Cert.WinQIdeal.main_arg3)
      ∧ m' ((c.tc : Thread Cert.WinQRefIdeal.nD Cert.WinQRefIdeal.τ).loc Cert.WinQRefIdeal.main_arg4) = m ((c.tc : Thread Cert.WinQIdeal.nD Cert.WinQIdeal.τ).loc Cert.WinQIdeal.main_arg4)) →
    ∃ (v0 : (c : Dev Cert.WinQIdeal.nD) → Buf (Elt Ideal) ((c.tc : Thread Cert.WinQIdeal.nD Cert.WinQIdeal.τ).loc Cert.WinQIdeal.main_v26)),
      θ_run (Cert.WinQIdeal.defs (F := Ideal)) (onTc (τ := Cert.WinQIdeal.τ) (Cert.WinQIdeal.main (F := Ideal))) ⟨m, fun _ => 0, g⟩ (fun r => ∀ c : Dev Cert.WinQIdeal.nD,
          r.2.mem ((c.tc : Thread Cert.WinQIdeal.nD Cert.WinQIdeal.τ).loc Cert.WinQIdeal.main_v26) = v0 c
          ∧ r.2.mem ((c.tc : Thread Cert.WinQIdeal.nD Cert.WinQIdeal.τ).loc Cert.WinQIdeal.main_arg0) = m ((c.tc : Thread Cert.WinQIdeal.nD Cert.WinQIdeal.τ).loc Cert.WinQIdeal.main_arg0)
          ∧ r.2.mem ((c.tc : Thread Cert.WinQIdeal.nD Cert.WinQIdeal.τ).loc Cert.WinQIdeal.main_arg1) = m ((c.tc : Thread Cert.WinQIdeal.nD Cert.WinQIdeal.τ).loc Cert.WinQIdeal.main_arg1)
          ∧ r.2.mem ((c.tc : Thread Cert.WinQIdeal.nD Cert.WinQIdeal.τ).loc Cert.WinQIdeal.main_arg2) = m ((c.tc : Thread Cert.WinQIdeal.nD Cert.WinQIdeal.τ).loc Cert.WinQIdeal.main_arg2)
          ∧ r.2.mem ((c.tc : Thread Cert.WinQIdeal.nD Cert.WinQIdeal.τ).loc Cert.WinQIdeal.main_arg3) = m ((c.tc : Thread Cert.WinQIdeal.nD Cert.WinQIdeal.τ).loc Cert.WinQIdeal.main_arg3)
          ∧ r.2.mem ((c.tc : Thread Cert.WinQIdeal.nD Cert.WinQIdeal.τ).loc Cert.WinQIdeal.main_arg4) = m ((c.tc : Thread Cert.WinQIdeal.nD Cert.WinQIdeal.τ).loc Cert.WinQIdeal.main_arg4))
      ∧ θ_run (Cert.WinQRefIdeal.defs (F := Ideal)) (onTc (τ := Cert.WinQRefIdeal.τ) (Cert.WinQRefIdeal.main (F := Ideal))) ⟨m', fun _ => 0, g'⟩ (fun r => ∀ c : Dev Cert.WinQRefIdeal.nD,
          r.2.mem ((c.tc : Thread Cert.WinQRefIdeal.nD Cert.WinQRefIdeal.τ).loc Cert.WinQRefIdeal.main_v38) = v0 c
          ∧ r.2.mem ((c.tc : Thread Cert.WinQRefIdeal.nD Cert.WinQRefIdeal.τ).loc Cert.WinQRefIdeal.main_arg0) = m' ((c.tc : Thread Cert.WinQRefIdeal.nD Cert.WinQRefIdeal.τ).loc Cert.WinQRefIdeal.main_arg0)
          ∧ r.2.mem ((c.tc : Thread Cert.WinQRefIdeal.nD Cert.WinQRefIdeal.τ).loc Cert.WinQRefIdeal.main_arg1) = m' ((c.tc : Thread Cert.WinQRefIdeal.nD Cert.WinQRefIdeal.τ).loc Cert.WinQRefIdeal.main_arg1)
          ∧ r.2.mem ((c.tc : Thread Cert.WinQRefIdeal.nD Cert.WinQRefIdeal.τ).loc Cert.WinQRefIdeal.main_arg2) = m' ((c.tc : Thread Cert.WinQRefIdeal.nD Cert.WinQRefIdeal.τ).loc Cert.WinQRefIdeal.main_arg2)
          ∧ r.2.mem ((c.tc : Thread Cert.WinQRefIdeal.nD Cert.WinQRefIdeal.τ).loc Cert.WinQRefIdeal.main_arg3) = m' ((c.tc : Thread Cert.WinQRefIdeal.nD Cert.WinQRefIdeal.τ).loc Cert.WinQRefIdeal.main_arg3)
          ∧ r.2.mem ((c.tc : Thread Cert.WinQRefIdeal.nD Cert.WinQRefIdeal.τ).loc Cert.WinQRefIdeal.main_arg4) = m' ((c.tc : Thread Cert.WinQRefIdeal.nD Cert.WinQRefIdeal.τ).loc Cert.WinQRefIdeal.main_arg4))

def preserves_WinK_WinKIdeal : Prop :=
  True

def algebraic_WinKIdeal_WinKRefIdeal [hWinKIdeal : Cert.WinKIdeal.Facts] [hWinKRefIdeal : Cert.WinKRefIdeal.Facts] : Prop :=
  ∀ (m : (ℓ : Loc Cert.WinKIdeal.nD Cert.WinKIdeal.τ Cert.WinKIdeal.sig) → Buf (Elt Ideal) ℓ) (g : Dev Cert.WinKIdeal.nD → PrngReg)
    (m' : (ℓ : Loc Cert.WinKRefIdeal.nD Cert.WinKRefIdeal.τ Cert.WinKRefIdeal.sig) → Buf (Elt Ideal) ℓ) (g' : Dev Cert.WinKRefIdeal.nD → PrngReg), Pre_WinKIdeal m →
    (∀ c : Dev Cert.WinKIdeal.nD,
      m' ((c.tc : Thread Cert.WinKRefIdeal.nD Cert.WinKRefIdeal.τ).loc Cert.WinKRefIdeal.main_arg0) = m ((c.tc : Thread Cert.WinKIdeal.nD Cert.WinKIdeal.τ).loc Cert.WinKIdeal.main_arg0)
      ∧ m' ((c.tc : Thread Cert.WinKRefIdeal.nD Cert.WinKRefIdeal.τ).loc Cert.WinKRefIdeal.main_arg1) = m ((c.tc : Thread Cert.WinKIdeal.nD Cert.WinKIdeal.τ).loc Cert.WinKIdeal.main_arg1)
      ∧ m' ((c.tc : Thread Cert.WinKRefIdeal.nD Cert.WinKRefIdeal.τ).loc Cert.WinKRefIdeal.main_arg2) = m ((c.tc : Thread Cert.WinKIdeal.nD Cert.WinKIdeal.τ).loc Cert.WinKIdeal.main_arg2)
      ∧ m' ((c.tc : Thread Cert.WinKRefIdeal.nD Cert.WinKRefIdeal.τ).loc Cert.WinKRefIdeal.main_arg3) = m ((c.tc : Thread Cert.WinKIdeal.nD Cert.WinKIdeal.τ).loc Cert.WinKIdeal.main_arg3)
      ∧ m' ((c.tc : Thread Cert.WinKRefIdeal.nD Cert.WinKRefIdeal.τ).loc Cert.WinKRefIdeal.main_arg4) = m ((c.tc : Thread Cert.WinKIdeal.nD Cert.WinKIdeal.τ).loc Cert.WinKIdeal.main_arg4)) →
    ∃ (v0 : (c : Dev Cert.WinKIdeal.nD) → Buf (Elt Ideal) ((c.tc : Thread Cert.WinKIdeal.nD Cert.WinKIdeal.τ).loc Cert.WinKIdeal.main_v26)),
      θ_run (Cert.WinKIdeal.defs (F := Ideal)) (onTc (τ := Cert.WinKIdeal.τ) (Cert.WinKIdeal.main (F := Ideal))) ⟨m, fun _ => 0, g⟩ (fun r => ∀ c : Dev Cert.WinKIdeal.nD,
          r.2.mem ((c.tc : Thread Cert.WinKIdeal.nD Cert.WinKIdeal.τ).loc Cert.WinKIdeal.main_v26) = v0 c
          ∧ r.2.mem ((c.tc : Thread Cert.WinKIdeal.nD Cert.WinKIdeal.τ).loc Cert.WinKIdeal.main_arg0) = m ((c.tc : Thread Cert.WinKIdeal.nD Cert.WinKIdeal.τ).loc Cert.WinKIdeal.main_arg0)
          ∧ r.2.mem ((c.tc : Thread Cert.WinKIdeal.nD Cert.WinKIdeal.τ).loc Cert.WinKIdeal.main_arg1) = m ((c.tc : Thread Cert.WinKIdeal.nD Cert.WinKIdeal.τ).loc Cert.WinKIdeal.main_arg1)
          ∧ r.2.mem ((c.tc : Thread Cert.WinKIdeal.nD Cert.WinKIdeal.τ).loc Cert.WinKIdeal.main_arg2) = m ((c.tc : Thread Cert.WinKIdeal.nD Cert.WinKIdeal.τ).loc Cert.WinKIdeal.main_arg2)
          ∧ r.2.mem ((c.tc : Thread Cert.WinKIdeal.nD Cert.WinKIdeal.τ).loc Cert.WinKIdeal.main_arg3) = m ((c.tc : Thread Cert.WinKIdeal.nD Cert.WinKIdeal.τ).loc Cert.WinKIdeal.main_arg3)
          ∧ r.2.mem ((c.tc : Thread Cert.WinKIdeal.nD Cert.WinKIdeal.τ).loc Cert.WinKIdeal.main_arg4) = m ((c.tc : Thread Cert.WinKIdeal.nD Cert.WinKIdeal.τ).loc Cert.WinKIdeal.main_arg4))
      ∧ θ_run (Cert.WinKRefIdeal.defs (F := Ideal)) (onTc (τ := Cert.WinKRefIdeal.τ) (Cert.WinKRefIdeal.main (F := Ideal))) ⟨m', fun _ => 0, g'⟩ (fun r => ∀ c : Dev Cert.WinKRefIdeal.nD,
          r.2.mem ((c.tc : Thread Cert.WinKRefIdeal.nD Cert.WinKRefIdeal.τ).loc Cert.WinKRefIdeal.main_v38) = v0 c
          ∧ r.2.mem ((c.tc : Thread Cert.WinKRefIdeal.nD Cert.WinKRefIdeal.τ).loc Cert.WinKRefIdeal.main_arg0) = m' ((c.tc : Thread Cert.WinKRefIdeal.nD Cert.WinKRefIdeal.τ).loc Cert.WinKRefIdeal.main_arg0)
          ∧ r.2.mem ((c.tc : Thread Cert.WinKRefIdeal.nD Cert.WinKRefIdeal.τ).loc Cert.WinKRefIdeal.main_arg1) = m' ((c.tc : Thread Cert.WinKRefIdeal.nD Cert.WinKRefIdeal.τ).loc Cert.WinKRefIdeal.main_arg1)
          ∧ r.2.mem ((c.tc : Thread Cert.WinKRefIdeal.nD Cert.WinKRefIdeal.τ).loc Cert.WinKRefIdeal.main_arg2) = m' ((c.tc : Thread Cert.WinKRefIdeal.nD Cert.WinKRefIdeal.τ).loc Cert.WinKRefIdeal.main_arg2)
          ∧ r.2.mem ((c.tc : Thread Cert.WinKRefIdeal.nD Cert.WinKRefIdeal.τ).loc Cert.WinKRefIdeal.main_arg3) = m' ((c.tc : Thread Cert.WinKRefIdeal.nD Cert.WinKRefIdeal.τ).loc Cert.WinKRefIdeal.main_arg3)
          ∧ r.2.mem ((c.tc : Thread Cert.WinKRefIdeal.nD Cert.WinKRefIdeal.τ).loc Cert.WinKRefIdeal.main_arg4) = m' ((c.tc : Thread Cert.WinKRefIdeal.nD Cert.WinKRefIdeal.τ).loc Cert.WinKRefIdeal.main_arg4))

def preserves_WinV_WinVIdeal : Prop :=
  True

def algebraic_WinVIdeal_WinVRefIdeal [hWinVIdeal : Cert.WinVIdeal.Facts] [hWinVRefIdeal : Cert.WinVRefIdeal.Facts] : Prop :=
  ∀ (m : (ℓ : Loc Cert.WinVIdeal.nD Cert.WinVIdeal.τ Cert.WinVIdeal.sig) → Buf (Elt Ideal) ℓ) (g : Dev Cert.WinVIdeal.nD → PrngReg)
    (m' : (ℓ : Loc Cert.WinVRefIdeal.nD Cert.WinVRefIdeal.τ Cert.WinVRefIdeal.sig) → Buf (Elt Ideal) ℓ) (g' : Dev Cert.WinVRefIdeal.nD → PrngReg), Pre_WinVIdeal m →
    (∀ c : Dev Cert.WinVIdeal.nD,
      m' ((c.tc : Thread Cert.WinVRefIdeal.nD Cert.WinVRefIdeal.τ).loc Cert.WinVRefIdeal.main_arg0) = m ((c.tc : Thread Cert.WinVIdeal.nD Cert.WinVIdeal.τ).loc Cert.WinVIdeal.main_arg0)
      ∧ m' ((c.tc : Thread Cert.WinVRefIdeal.nD Cert.WinVRefIdeal.τ).loc Cert.WinVRefIdeal.main_arg1) = m ((c.tc : Thread Cert.WinVIdeal.nD Cert.WinVIdeal.τ).loc Cert.WinVIdeal.main_arg1)) →
    ∃ (v0 : (c : Dev Cert.WinVIdeal.nD) → Buf (Elt Ideal) ((c.tc : Thread Cert.WinVIdeal.nD Cert.WinVIdeal.τ).loc Cert.WinVIdeal.main_v5)),
      θ_run (Cert.WinVIdeal.defs (F := Ideal)) (onTc (τ := Cert.WinVIdeal.τ) (Cert.WinVIdeal.main (F := Ideal))) ⟨m, fun _ => 0, g⟩ (fun r => ∀ c : Dev Cert.WinVIdeal.nD,
          r.2.mem ((c.tc : Thread Cert.WinVIdeal.nD Cert.WinVIdeal.τ).loc Cert.WinVIdeal.main_v5) = v0 c
          ∧ r.2.mem ((c.tc : Thread Cert.WinVIdeal.nD Cert.WinVIdeal.τ).loc Cert.WinVIdeal.main_arg0) = m ((c.tc : Thread Cert.WinVIdeal.nD Cert.WinVIdeal.τ).loc Cert.WinVIdeal.main_arg0)
          ∧ r.2.mem ((c.tc : Thread Cert.WinVIdeal.nD Cert.WinVIdeal.τ).loc Cert.WinVIdeal.main_arg1) = m ((c.tc : Thread Cert.WinVIdeal.nD Cert.WinVIdeal.τ).loc Cert.WinVIdeal.main_arg1))
      ∧ θ_run (Cert.WinVRefIdeal.defs (F := Ideal)) (onTc (τ := Cert.WinVRefIdeal.τ) (Cert.WinVRefIdeal.main (F := Ideal))) ⟨m', fun _ => 0, g'⟩ (fun r => ∀ c : Dev Cert.WinVRefIdeal.nD,
          r.2.mem ((c.tc : Thread Cert.WinVRefIdeal.nD Cert.WinVRefIdeal.τ).loc Cert.WinVRefIdeal.main_v3) = v0 c
          ∧ r.2.mem ((c.tc : Thread Cert.WinVRefIdeal.nD Cert.WinVRefIdeal.τ).loc Cert.WinVRefIdeal.main_arg0) = m' ((c.tc : Thread Cert.WinVRefIdeal.nD Cert.WinVRefIdeal.τ).loc Cert.WinVRefIdeal.main_arg0)
          ∧ r.2.mem ((c.tc : Thread Cert.WinVRefIdeal.nD Cert.WinVRefIdeal.τ).loc Cert.WinVRefIdeal.main_arg1) = m' ((c.tc : Thread Cert.WinVRefIdeal.nD Cert.WinVRefIdeal.τ).loc Cert.WinVRefIdeal.main_arg1))

def preserves_Modulate_ModulateIdeal : Prop :=
  True

def algebraic_ModulateIdeal_ModulateRefIdeal [hModulateIdeal : Cert.ModulateIdeal.Facts] [hModulateRefIdeal : Cert.ModulateRefIdeal.Facts] : Prop :=
  ∀ (m : (ℓ : Loc Cert.ModulateIdeal.nD Cert.ModulateIdeal.τ Cert.ModulateIdeal.sig) → Buf (Elt Ideal) ℓ) (g : Dev Cert.ModulateIdeal.nD → PrngReg)
    (m' : (ℓ : Loc Cert.ModulateRefIdeal.nD Cert.ModulateRefIdeal.τ Cert.ModulateRefIdeal.sig) → Buf (Elt Ideal) ℓ) (g' : Dev Cert.ModulateRefIdeal.nD → PrngReg), Pre_ModulateIdeal m →
    (∀ c : Dev Cert.ModulateIdeal.nD,
      m' ((c.tc : Thread Cert.ModulateRefIdeal.nD Cert.ModulateRefIdeal.τ).loc Cert.ModulateRefIdeal.main_arg0) = m ((c.tc : Thread Cert.ModulateIdeal.nD Cert.ModulateIdeal.τ).loc Cert.ModulateIdeal.main_arg0)
      ∧ m' ((c.tc : Thread Cert.ModulateRefIdeal.nD Cert.ModulateRefIdeal.τ).loc Cert.ModulateRefIdeal.main_arg1) = m ((c.tc : Thread Cert.ModulateIdeal.nD Cert.ModulateIdeal.τ).loc Cert.ModulateIdeal.main_arg1)
      ∧ m' ((c.tc : Thread Cert.ModulateRefIdeal.nD Cert.ModulateRefIdeal.τ).loc Cert.ModulateRefIdeal.main_arg2) = m ((c.tc : Thread Cert.ModulateIdeal.nD Cert.ModulateIdeal.τ).loc Cert.ModulateIdeal.main_arg2)
      ∧ m' ((c.tc : Thread Cert.ModulateRefIdeal.nD Cert.ModulateRefIdeal.τ).loc Cert.ModulateRefIdeal.main_arg3) = m ((c.tc : Thread Cert.ModulateIdeal.nD Cert.ModulateIdeal.τ).loc Cert.ModulateIdeal.main_arg3)) →
    ∃ (v0 : (c : Dev Cert.ModulateIdeal.nD) → Buf (Elt Ideal) ((c.tc : Thread Cert.ModulateIdeal.nD Cert.ModulateIdeal.τ).loc Cert.ModulateIdeal.main_v4)),
      θ_run (Cert.ModulateIdeal.defs (F := Ideal)) (onTc (τ := Cert.ModulateIdeal.τ) (Cert.ModulateIdeal.main (F := Ideal))) ⟨m, fun _ => 0, g⟩ (fun r => ∀ c : Dev Cert.ModulateIdeal.nD,
          r.2.mem ((c.tc : Thread Cert.ModulateIdeal.nD Cert.ModulateIdeal.τ).loc Cert.ModulateIdeal.main_v4) = v0 c
          ∧ r.2.mem ((c.tc : Thread Cert.ModulateIdeal.nD Cert.ModulateIdeal.τ).loc Cert.ModulateIdeal.main_arg0) = m ((c.tc : Thread Cert.ModulateIdeal.nD Cert.ModulateIdeal.τ).loc Cert.ModulateIdeal.main_arg0)
          ∧ r.2.mem ((c.tc : Thread Cert.ModulateIdeal.nD Cert.ModulateIdeal.τ).loc Cert.ModulateIdeal.main_arg1) = m ((c.tc : Thread Cert.ModulateIdeal.nD Cert.ModulateIdeal.τ).loc Cert.ModulateIdeal.main_arg1)
          ∧ r.2.mem ((c.tc : Thread Cert.ModulateIdeal.nD Cert.ModulateIdeal.τ).loc Cert.ModulateIdeal.main_arg2) = m ((c.tc : Thread Cert.ModulateIdeal.nD Cert.ModulateIdeal.τ).loc Cert.ModulateIdeal.main_arg2)
          ∧ r.2.mem ((c.tc : Thread Cert.ModulateIdeal.nD Cert.ModulateIdeal.τ).loc Cert.ModulateIdeal.main_arg3) = m ((c.tc : Thread Cert.ModulateIdeal.nD Cert.ModulateIdeal.τ).loc Cert.ModulateIdeal.main_arg3))
      ∧ θ_run (Cert.ModulateRefIdeal.defs (F := Ideal)) (onTc (τ := Cert.ModulateRefIdeal.τ) (Cert.ModulateRefIdeal.main (F := Ideal))) ⟨m', fun _ => 0, g'⟩ (fun r => ∀ c : Dev Cert.ModulateRefIdeal.nD,
          r.2.mem ((c.tc : Thread Cert.ModulateRefIdeal.nD Cert.ModulateRefIdeal.τ).loc Cert.ModulateRefIdeal.main_v54) = v0 c
          ∧ r.2.mem ((c.tc : Thread Cert.ModulateRefIdeal.nD Cert.ModulateRefIdeal.τ).loc Cert.ModulateRefIdeal.main_arg0) = m' ((c.tc : Thread Cert.ModulateRefIdeal.nD Cert.ModulateRefIdeal.τ).loc Cert.ModulateRefIdeal.main_arg0)
          ∧ r.2.mem ((c.tc : Thread Cert.ModulateRefIdeal.nD Cert.ModulateRefIdeal.τ).loc Cert.ModulateRefIdeal.main_arg1) = m' ((c.tc : Thread Cert.ModulateRefIdeal.nD Cert.ModulateRefIdeal.τ).loc Cert.ModulateRefIdeal.main_arg1)
          ∧ r.2.mem ((c.tc : Thread Cert.ModulateRefIdeal.nD Cert.ModulateRefIdeal.τ).loc Cert.ModulateRefIdeal.main_arg2) = m' ((c.tc : Thread Cert.ModulateRefIdeal.nD Cert.ModulateRefIdeal.τ).loc Cert.ModulateRefIdeal.main_arg2)
          ∧ r.2.mem ((c.tc : Thread Cert.ModulateRefIdeal.nD Cert.ModulateRefIdeal.τ).loc Cert.ModulateRefIdeal.main_arg3) = m' ((c.tc : Thread Cert.ModulateRefIdeal.nD Cert.ModulateRefIdeal.τ).loc Cert.ModulateRefIdeal.main_arg3))

def preserves_ModulateRows_ModulateRowsIdeal : Prop :=
  True

def algebraic_ModulateRowsIdeal_ModulateRowsRefIdeal [hModulateRowsIdeal : Cert.ModulateRowsIdeal.Facts] [hModulateRowsRefIdeal : Cert.ModulateRowsRefIdeal.Facts] : Prop :=
  ∀ (m : (ℓ : Loc Cert.ModulateRowsIdeal.nD Cert.ModulateRowsIdeal.τ Cert.ModulateRowsIdeal.sig) → Buf (Elt Ideal) ℓ) (g : Dev Cert.ModulateRowsIdeal.nD → PrngReg)
    (m' : (ℓ : Loc Cert.ModulateRowsRefIdeal.nD Cert.ModulateRowsRefIdeal.τ Cert.ModulateRowsRefIdeal.sig) → Buf (Elt Ideal) ℓ) (g' : Dev Cert.ModulateRowsRefIdeal.nD → PrngReg), Pre_ModulateRowsIdeal m →
    (∀ c : Dev Cert.ModulateRowsIdeal.nD,
      m' ((c.tc : Thread Cert.ModulateRowsRefIdeal.nD Cert.ModulateRowsRefIdeal.τ).loc Cert.ModulateRowsRefIdeal.main_arg0) = m ((c.tc : Thread Cert.ModulateRowsIdeal.nD Cert.ModulateRowsIdeal.τ).loc Cert.ModulateRowsIdeal.main_arg0)
      ∧ m' ((c.tc : Thread Cert.ModulateRowsRefIdeal.nD Cert.ModulateRowsRefIdeal.τ).loc Cert.ModulateRowsRefIdeal.main_arg1) = m ((c.tc : Thread Cert.ModulateRowsIdeal.nD Cert.ModulateRowsIdeal.τ).loc Cert.ModulateRowsIdeal.main_arg1)
      ∧ m' ((c.tc : Thread Cert.ModulateRowsRefIdeal.nD Cert.ModulateRowsRefIdeal.τ).loc Cert.ModulateRowsRefIdeal.main_arg2) = m ((c.tc : Thread Cert.ModulateRowsIdeal.nD Cert.ModulateRowsIdeal.τ).loc Cert.ModulateRowsIdeal.main_arg2)
      ∧ m' ((c.tc : Thread Cert.ModulateRowsRefIdeal.nD Cert.ModulateRowsRefIdeal.τ).loc Cert.ModulateRowsRefIdeal.main_arg3) = m ((c.tc : Thread Cert.ModulateRowsIdeal.nD Cert.ModulateRowsIdeal.τ).loc Cert.ModulateRowsIdeal.main_arg3)) →
    ∃ (v0 : (c : Dev Cert.ModulateRowsIdeal.nD) → Buf (Elt Ideal) ((c.tc : Thread Cert.ModulateRowsIdeal.nD Cert.ModulateRowsIdeal.τ).loc Cert.ModulateRowsIdeal.main_v4)),
      θ_run (Cert.ModulateRowsIdeal.defs (F := Ideal)) (onTc (τ := Cert.ModulateRowsIdeal.τ) (Cert.ModulateRowsIdeal.main (F := Ideal))) ⟨m, fun _ => 0, g⟩ (fun r => ∀ c : Dev Cert.ModulateRowsIdeal.nD,
          r.2.mem ((c.tc : Thread Cert.ModulateRowsIdeal.nD Cert.ModulateRowsIdeal.τ).loc Cert.ModulateRowsIdeal.main_v4) = v0 c
          ∧ r.2.mem ((c.tc : Thread Cert.ModulateRowsIdeal.nD Cert.ModulateRowsIdeal.τ).loc Cert.ModulateRowsIdeal.main_arg0) = m ((c.tc : Thread Cert.ModulateRowsIdeal.nD Cert.ModulateRowsIdeal.τ).loc Cert.ModulateRowsIdeal.main_arg0)
          ∧ r.2.mem ((c.tc : Thread Cert.ModulateRowsIdeal.nD Cert.ModulateRowsIdeal.τ).loc Cert.ModulateRowsIdeal.main_arg1) = m ((c.tc : Thread Cert.ModulateRowsIdeal.nD Cert.ModulateRowsIdeal.τ).loc Cert.ModulateRowsIdeal.main_arg1)
          ∧ r.2.mem ((c.tc : Thread Cert.ModulateRowsIdeal.nD Cert.ModulateRowsIdeal.τ).loc Cert.ModulateRowsIdeal.main_arg2) = m ((c.tc : Thread Cert.ModulateRowsIdeal.nD Cert.ModulateRowsIdeal.τ).loc Cert.ModulateRowsIdeal.main_arg2)
          ∧ r.2.mem ((c.tc : Thread Cert.ModulateRowsIdeal.nD Cert.ModulateRowsIdeal.τ).loc Cert.ModulateRowsIdeal.main_arg3) = m ((c.tc : Thread Cert.ModulateRowsIdeal.nD Cert.ModulateRowsIdeal.τ).loc Cert.ModulateRowsIdeal.main_arg3))
      ∧ θ_run (Cert.ModulateRowsRefIdeal.defs (F := Ideal)) (onTc (τ := Cert.ModulateRowsRefIdeal.τ) (Cert.ModulateRowsRefIdeal.main (F := Ideal))) ⟨m', fun _ => 0, g'⟩ (fun r => ∀ c : Dev Cert.ModulateRowsRefIdeal.nD,
          r.2.mem ((c.tc : Thread Cert.ModulateRowsRefIdeal.nD Cert.ModulateRowsRefIdeal.τ).loc Cert.ModulateRowsRefIdeal.main_v53) = v0 c
          ∧ r.2.mem ((c.tc : Thread Cert.ModulateRowsRefIdeal.nD Cert.ModulateRowsRefIdeal.τ).loc Cert.ModulateRowsRefIdeal.main_arg0) = m' ((c.tc : Thread Cert.ModulateRowsRefIdeal.nD Cert.ModulateRowsRefIdeal.τ).loc Cert.ModulateRowsRefIdeal.main_arg0)
          ∧ r.2.mem ((c.tc : Thread Cert.ModulateRowsRefIdeal.nD Cert.ModulateRowsRefIdeal.τ).loc Cert.ModulateRowsRefIdeal.main_arg1) = m' ((c.tc : Thread Cert.ModulateRowsRefIdeal.nD Cert.ModulateRowsRefIdeal.τ).loc Cert.ModulateRowsRefIdeal.main_arg1)
          ∧ r.2.mem ((c.tc : Thread Cert.ModulateRowsRefIdeal.nD Cert.ModulateRowsRefIdeal.τ).loc Cert.ModulateRowsRefIdeal.main_arg2) = m' ((c.tc : Thread Cert.ModulateRowsRefIdeal.nD Cert.ModulateRowsRefIdeal.τ).loc Cert.ModulateRowsRefIdeal.main_arg2)
          ∧ r.2.mem ((c.tc : Thread Cert.ModulateRowsRefIdeal.nD Cert.ModulateRowsRefIdeal.τ).loc Cert.ModulateRowsRefIdeal.main_arg3) = m' ((c.tc : Thread Cert.ModulateRowsRefIdeal.nD Cert.ModulateRowsRefIdeal.τ).loc Cert.ModulateRowsRefIdeal.main_arg3))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v3)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v3) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v5) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def Claim : Prop :=
  ∃ (hKernel : Cert.Kernel.Facts) (hKernelIdeal : Cert.KernelIdeal.Facts) (hReferenceIdeal : Cert.ReferenceIdeal.Facts) (hPeerQuery : Cert.PeerQuery.Facts) (hPeerQueryIdeal : Cert.PeerQueryIdeal.Facts) (hPeerQueryRefIdeal : Cert.PeerQueryRefIdeal.Facts) (hMixerOut : Cert.MixerOut.Facts) (hMixerOutIdeal : Cert.MixerOutIdeal.Facts) (hMixerOutRefIdeal : Cert.MixerOutRefIdeal.Facts) (hMixerOutRows : Cert.MixerOutRows.Facts) (hMixerOutRowsIdeal : Cert.MixerOutRowsIdeal.Facts) (hProjV : Cert.ProjV.Facts) (hProjVIdeal : Cert.ProjVIdeal.Facts) (hProjVRefIdeal : Cert.ProjVRefIdeal.Facts) (hProjQ : Cert.ProjQ.Facts) (hProjQIdeal : Cert.ProjQIdeal.Facts) (hProjQRefIdeal : Cert.ProjQRefIdeal.Facts) (hProjK : Cert.ProjK.Facts) (hProjKIdeal : Cert.ProjKIdeal.Facts) (hProjKRefIdeal : Cert.ProjKRefIdeal.Facts) (hWinQ : Cert.WinQ.Facts) (hWinQIdeal : Cert.WinQIdeal.Facts) (hWinQRefIdeal : Cert.WinQRefIdeal.Facts) (hWinK : Cert.WinK.Facts) (hWinKIdeal : Cert.WinKIdeal.Facts) (hWinKRefIdeal : Cert.WinKRefIdeal.Facts) (hWinV : Cert.WinV.Facts) (hWinVIdeal : Cert.WinVIdeal.Facts) (hWinVRefIdeal : Cert.WinVRefIdeal.Facts) (hModulate : Cert.Modulate.Facts) (hModulateIdeal : Cert.ModulateIdeal.Facts) (hModulateRefIdeal : Cert.ModulateRefIdeal.Facts) (hModulateRows : Cert.ModulateRows.Facts) (hModulateRowsIdeal : Cert.ModulateRowsIdeal.Facts) (hModulateRowsRefIdeal : Cert.ModulateRowsRefIdeal.Facts) (hAda : Cert.Ada.Facts) (hAdaIdeal : Cert.AdaIdeal.Facts) (hAdaRefIdeal : Cert.AdaRefIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_PeerQuery (hPeerQuery := hPeerQuery)
    ∧ quiescent_PeerQueryIdeal (hPeerQueryIdeal := hPeerQueryIdeal)
    ∧ quiescent_PeerQueryRefIdeal (hPeerQueryRefIdeal := hPeerQueryRefIdeal)
    ∧ quiescent_MixerOut (hMixerOut := hMixerOut)
    ∧ quiescent_MixerOutIdeal (hMixerOutIdeal := hMixerOutIdeal)
    ∧ quiescent_MixerOutRefIdeal (hMixerOutRefIdeal := hMixerOutRefIdeal)
    ∧ quiescent_MixerOutRows (hMixerOutRows := hMixerOutRows)
    ∧ quiescent_MixerOutRowsIdeal (hMixerOutRowsIdeal := hMixerOutRowsIdeal)
    ∧ quiescent_ProjV (hProjV := hProjV)
    ∧ quiescent_ProjVIdeal (hProjVIdeal := hProjVIdeal)
    ∧ quiescent_ProjVRefIdeal (hProjVRefIdeal := hProjVRefIdeal)
    ∧ quiescent_ProjQ (hProjQ := hProjQ)
    ∧ quiescent_ProjQIdeal (hProjQIdeal := hProjQIdeal)
    ∧ quiescent_ProjQRefIdeal (hProjQRefIdeal := hProjQRefIdeal)
    ∧ quiescent_ProjK (hProjK := hProjK)
    ∧ quiescent_ProjKIdeal (hProjKIdeal := hProjKIdeal)
    ∧ quiescent_ProjKRefIdeal (hProjKRefIdeal := hProjKRefIdeal)
    ∧ quiescent_WinQ (hWinQ := hWinQ)
    ∧ quiescent_WinQIdeal (hWinQIdeal := hWinQIdeal)
    ∧ quiescent_WinQRefIdeal (hWinQRefIdeal := hWinQRefIdeal)
    ∧ quiescent_WinK (hWinK := hWinK)
    ∧ quiescent_WinKIdeal (hWinKIdeal := hWinKIdeal)
    ∧ quiescent_WinKRefIdeal (hWinKRefIdeal := hWinKRefIdeal)
    ∧ quiescent_WinV (hWinV := hWinV)
    ∧ quiescent_WinVIdeal (hWinVIdeal := hWinVIdeal)
    ∧ quiescent_WinVRefIdeal (hWinVRefIdeal := hWinVRefIdeal)
    ∧ quiescent_Modulate (hModulate := hModulate)
    ∧ quiescent_ModulateIdeal (hModulateIdeal := hModulateIdeal)
    ∧ quiescent_ModulateRefIdeal (hModulateRefIdeal := hModulateRefIdeal)
    ∧ quiescent_ModulateRows (hModulateRows := hModulateRows)
    ∧ quiescent_ModulateRowsIdeal (hModulateRowsIdeal := hModulateRowsIdeal)
    ∧ quiescent_ModulateRowsRefIdeal (hModulateRowsRefIdeal := hModulateRowsRefIdeal)
    ∧ quiescent_Ada (hAda := hAda)
    ∧ quiescent_AdaIdeal (hAdaIdeal := hAdaIdeal)
    ∧ quiescent_AdaRefIdeal (hAdaRefIdeal := hAdaRefIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_PeerQuery_PeerQueryIdeal
    ∧ algebraic_PeerQueryIdeal_PeerQueryRefIdeal (hPeerQueryIdeal := hPeerQueryIdeal) (hPeerQueryRefIdeal := hPeerQueryRefIdeal)
    ∧ preserves_MixerOut_MixerOutIdeal
    ∧ algebraic_MixerOutIdeal_MixerOutRefIdeal (hMixerOutIdeal := hMixerOutIdeal) (hMixerOutRefIdeal := hMixerOutRefIdeal)
    ∧ preserves_MixerOutRows_MixerOutRowsIdeal
    ∧ algebraic_MixerOutRowsIdeal_MixerOutRefIdeal (hMixerOutRowsIdeal := hMixerOutRowsIdeal) (hMixerOutRefIdeal := hMixerOutRefIdeal)
    ∧ preserves_ProjV_ProjVIdeal
    ∧ algebraic_ProjVIdeal_ProjVRefIdeal (hProjVIdeal := hProjVIdeal) (hProjVRefIdeal := hProjVRefIdeal)
    ∧ preserves_ProjQ_ProjQIdeal
    ∧ algebraic_ProjQIdeal_ProjQRefIdeal (hProjQIdeal := hProjQIdeal) (hProjQRefIdeal := hProjQRefIdeal)
    ∧ preserves_ProjK_ProjKIdeal
    ∧ algebraic_ProjKIdeal_ProjKRefIdeal (hProjKIdeal := hProjKIdeal) (hProjKRefIdeal := hProjKRefIdeal)
    ∧ preserves_WinQ_WinQIdeal
    ∧ algebraic_WinQIdeal_WinQRefIdeal (hWinQIdeal := hWinQIdeal) (hWinQRefIdeal := hWinQRefIdeal)
    ∧ preserves_WinK_WinKIdeal
    ∧ algebraic_WinKIdeal_WinKRefIdeal (hWinKIdeal := hWinKIdeal) (hWinKRefIdeal := hWinKRefIdeal)
    ∧ preserves_WinV_WinVIdeal
    ∧ algebraic_WinVIdeal_WinVRefIdeal (hWinVIdeal := hWinVIdeal) (hWinVRefIdeal := hWinVRefIdeal)
    ∧ preserves_Modulate_ModulateIdeal
    ∧ algebraic_ModulateIdeal_ModulateRefIdeal (hModulateIdeal := hModulateIdeal) (hModulateRefIdeal := hModulateRefIdeal)
    ∧ preserves_ModulateRows_ModulateRowsIdeal
    ∧ algebraic_ModulateRowsIdeal_ModulateRowsRefIdeal (hModulateRowsIdeal := hModulateRowsIdeal) (hModulateRowsRefIdeal := hModulateRowsRefIdeal)
    ∧ preserves_Ada_AdaIdeal
    ∧ algebraic_AdaIdeal_AdaRefIdeal (hAdaIdeal := hAdaIdeal) (hAdaRefIdeal := hAdaRefIdeal)
-- ==== Pre_finite_scores.lean ====
abbrev S1x256x32x128 : Shape := ⟨4, ![1, 256, 32, 128]⟩
abbrev S1x16384x32x128 : Shape := ⟨4, ![1, 16384, 32, 128]⟩
abbrev S1x256x8x128 : Shape := ⟨4, ![1, 256, 8, 128]⟩
abbrev S1x16384x8x128 : Shape := ⟨4, ![1, 16384, 8, 128]⟩
abbrev S_ : Shape := ⟨0, ![]⟩

class Facts : Prop where
  bcast_S_S1x16384x32x128 : S_.BroadcastsInDim S1x16384x32x128 (![] : Fin 0 → Fin S1x16384x32x128.rank)
  bcast_S_S1x256x8x128 : S_.BroadcastsInDim S1x256x8x128 (![] : Fin 0 → Fin S1x256x8x128.rank)
  bcast_S_S1x16384x8x128 : S_.BroadcastsInDim S1x16384x8x128 (![] : Fin 0 → Fin S1x16384x8x128.rank)

variable [Facts]

def fn {F : FTy → Type} [FloatOps F] (main_arg0 : FVec F S1x256x32x128 .f32) (main_arg1 : FVec F S1x16384x32x128 .f32) (main_arg2 : FVec F S1x256x8x128 .f32) (main_arg3 : FVec F S1x16384x8x128 .f32) (main_arg4 : FVec F S1x256x8x128 .f32) (main_arg5 : FVec F S1x16384x8x128 .f32) : IVec S1x16384x32x128 1 × IVec S1x256x8x128 1 × IVec S1x16384x8x128 1 :=
  let main_v0 : FVec F S1x16384x32x128 .f32 := Host.absf main_arg1
  let main_cst : FVec F S_ .f32 := constant S_ .f32 0x7F800000#32
  let main_v1 : FVec F S1x16384x32x128 .f32 := broadcastInDim S1x16384x32x128 ![] bcast_S_S1x16384x32x128 main_cst
  let main_v2 : IVec S1x16384x32x128 1 := cmpf .olt main_v0 main_v1
  let main_v3 : FVec F S1x256x8x128 .f32 := Host.absf main_arg2
  let main_cst_0 : FVec F S_ .f32 := constant S_ .f32 0x7F800000#32
  let main_v4 : FVec F S1x256x8x128 .f32 := broadcastInDim S1x256x8x128 ![] bcast_S_S1x256x8x128 main_cst_0
  let main_v5 : IVec S1x256x8x128 1 := cmpf .olt main_v3 main_v4
  let main_v6 : FVec F S1x16384x8x128 .f32 := Host.absf main_arg3
  let main_cst_1 : FVec F S_ .f32 := constant S_ .f32 0x7F800000#32
  let main_v7 : FVec F S1x16384x8x128 .f32 := broadcastInDim S1x16384x8x128 ![] bcast_S_S1x16384x8x128 main_cst_1
  let main_v8 : IVec S1x16384x8x128 1 := cmpf .olt main_v6 main_v7
  (main_v2, main_v5, main_v8)
-- ==== Kernel.lean ====
abbrev S1x256x32x128 : Shape := ⟨4, ![1, 256, 32, 128]⟩
abbrev S1x16384x32x128 : Shape := ⟨4, ![1, 16384, 32, 128]⟩
abbrev S1x256x8x128 : Shape := ⟨4, ![1, 256, 8, 128]⟩
abbrev S1x16384x8x128 : Shape := ⟨4, ![1, 16384, 8, 128]⟩
abbrev S_ : Shape := ⟨0, ![]⟩
abbrev S256x32x128 : Shape := ⟨3, ![256, 32, 128]⟩
abbrev S16384x32x128 : Shape := ⟨3, ![16384, 32, 128]⟩
abbrev S16640x32x128 : Shape := ⟨3, ![16640, 32, 128]⟩
abbrev S16640x4096 : Shape := ⟨2, ![16640, 4096]⟩
abbrev S16896x4096 : Shape := ⟨2, ![16896, 4096]⟩
abbrev S4096x16896 : Shape := ⟨2, ![4096, 16896]⟩
abbrev S8x4x128x16896 : Shape := ⟨4, ![8, 4, 128, 16896]⟩
abbrev S256x8x128 : Shape := ⟨3, ![256, 8, 128]⟩
abbrev S16384x8x128 : Shape := ⟨3, ![16384, 8, 128]⟩
abbrev S16640x8x128 : Shape := ⟨3, ![16640, 8, 128]⟩
abbrev S16640x1024 : Shape := ⟨2, ![16640, 1024]⟩
abbrev S16896x1024 : Shape := ⟨2, ![16896, 1024]⟩
abbrev S1024x16896 : Shape := ⟨2, ![1024, 16896]⟩
abbrev S8x128x16896 : Shape := ⟨3, ![8, 128, 16896]⟩
abbrev S8x128x16640 : Shape := ⟨3, ![8, 128, 16640]⟩
abbrev S8x1x1024 : Shape := ⟨3, ![8, 1, 1024]⟩
abbrev S8x128x256 : Shape := ⟨3, ![8, 128, 256]⟩
abbrev S8x128x16384 : Shape := ⟨3, ![8, 128, 16384]⟩
abbrev S8x4x128x16384 : Shape := ⟨4, ![8, 4, 128, 16384]⟩
abbrev S1x4x128x256 : Shape := ⟨4, ![1, 4, 128, 256]⟩
abbrev S1x128x256 : Shape := ⟨3, ![1, 128, 256]⟩
abbrev S1x128x16384 : Shape := ⟨3, ![1, 128, 16384]⟩
abbrev S1x1x1024 : Shape := ⟨3, ![1, 1, 1024]⟩
abbrev S1x1024 : Shape := ⟨2, ![1, 1024]⟩
abbrev S128x1024 : Shape := ⟨2, ![128, 1024]⟩
abbrev S1x1x128x256 : Shape := ⟨4, ![1, 1, 128, 256]⟩
abbrev S128x256 : Shape := ⟨2, ![128, 256]⟩
abbrev S256 : Shape := ⟨1, ![256]⟩
abbrev S1x256 : Shape := ⟨2, ![1, 256]⟩
abbrev S1 : Shape := ⟨1, ![1]⟩
abbrev S1x1 : Shape := ⟨2, ![1, 1]⟩
abbrev S1x128x4096 : Shape := ⟨3, ![1, 128, 4096]⟩
abbrev S128x4096 : Shape := ⟨2, ![128, 4096]⟩
abbrev S4096 : Shape := ⟨1, ![4096]⟩
abbrev S1x4096 : Shape := ⟨2, ![1, 4096]⟩
abbrev S256x1024 : Shape := ⟨2, ![256, 1024]⟩
abbrev S1024 : Shape := ⟨1, ![1024]⟩
abbrev S1x1x1 : Shape := ⟨3, ![1, 1, 1]⟩
abbrev S4096x1024 : Shape := ⟨2, ![4096, 1024]⟩

abbrev nBuf : Space → Nat
  | .hbm => 56
  | .vmem => 19
  | .smem => 0
  | _ => 0

abbrev bufTy : (tb : Table) → Fin (tcTables nBuf tb) → BufTy
  | .hbm, ⟨0, _⟩ => ⟨S1x256x32x128, .f32⟩
  | .hbm, ⟨1, _⟩ => ⟨S1x16384x32x128, .f32⟩
  | .hbm, ⟨2, _⟩ => ⟨S1x256x8x128, .f32⟩
  | .hbm, ⟨3, _⟩ => ⟨S1x16384x8x128, .f32⟩
  | .hbm, ⟨4, _⟩ => ⟨S1x256x8x128, .f32⟩
  | .hbm, ⟨5, _⟩ => ⟨S1x16384x8x128, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S1x256x32x128, .f32⟩
  | .hbm, ⟨14, _⟩ => ⟨S1x256x32x128, .f32⟩
  | .hbm, ⟨15, _⟩ => ⟨S1x16384x32x128, .f32⟩
  | .hbm, ⟨16, _⟩ => ⟨S1x16384x32x128, .f32⟩
  | .hbm, ⟨17, _⟩ => ⟨S256x32x128, .f32⟩
  | .hbm, ⟨18, _⟩ => ⟨S16384x32x128, .f32⟩
  | .hbm, ⟨19, _⟩ => ⟨S16640x32x128, .f32⟩
  | .hbm, ⟨20, _⟩ => ⟨S16640x4096, .f32⟩
  | .hbm, ⟨21, _⟩ => ⟨S_, .i32⟩
  | .hbm, ⟨22, _⟩ => ⟨S_, .f32⟩
  | .hbm, ⟨23, _⟩ => ⟨S16896x4096, .f32⟩
  | .hbm, ⟨24, _⟩ => ⟨S4096x16896, .f32⟩
  | .hbm, ⟨25, _⟩ => ⟨S4096x16896, .bf16⟩
  | .hbm, ⟨26, _⟩ => ⟨S8x4x128x16896, .bf16⟩
  | .hbm, ⟨27, _⟩ => ⟨S256x8x128, .f32⟩
  | .hbm, ⟨28, _⟩ => ⟨S16384x8x128, .f32⟩
  | .hbm, ⟨29, _⟩ => ⟨S16640x8x128, .f32⟩
  | .hbm, ⟨30, _⟩ => ⟨S16640x1024, .f32⟩
  | .hbm, ⟨31, _⟩ => ⟨S_, .i32⟩
  | .hbm, ⟨32, _⟩ => ⟨S_, .f32⟩
  | .hbm, ⟨33, _⟩ => ⟨S16896x1024, .f32⟩
  | .hbm, ⟨34, _⟩ => ⟨S1024x16896, .f32⟩
  | .hbm, ⟨35, _⟩ => ⟨S1024x16896, .bf16⟩
  | .hbm, ⟨36, _⟩ => ⟨S8x128x16896, .bf16⟩
  | .hbm, ⟨37, _⟩ => ⟨S8x128x16640, .bf16⟩
  | .hbm, ⟨38, _⟩ => ⟨S256x8x128, .f32⟩
  | .hbm, ⟨39, _⟩ => ⟨S16384x8x128, .f32⟩
  | .hbm, ⟨40, _⟩ => ⟨S16640x8x128, .f32⟩
  | .hbm, ⟨41, _⟩ => ⟨S16640x1024, .f32⟩
  | .hbm, ⟨42, _⟩ => ⟨S_, .i32⟩
  | .hbm, ⟨43, _⟩ => ⟨S_, .f32⟩
  | .hbm, ⟨44, _⟩ => ⟨S16896x1024, .f32⟩
  | .hbm, ⟨45, _⟩ => ⟨S1024x16896, .f32⟩
  | .hbm, ⟨46, _⟩ => ⟨S1024x16896, .bf16⟩
  | .hbm, ⟨47, _⟩ => ⟨S8x128x16896, .bf16⟩
  | .hbm, ⟨48, _⟩ => ⟨S8x128x16640, .bf16⟩
  | .hbm, ⟨49, _⟩ => ⟨S_, .f32⟩
  | .hbm, ⟨50, _⟩ => ⟨S8x1x1024, .f32⟩
  | .hbm, ⟨51, _⟩ => ⟨S8x128x256, .bf16⟩
  | .hbm, ⟨52, _⟩ => ⟨S8x128x256, .bf16⟩
  | .hbm, ⟨53, _⟩ => ⟨S8x128x16384, .bf16⟩
  | .hbm, ⟨54, _⟩ => ⟨S8x128x16384, .bf16⟩
  | .hbm, ⟨55, _⟩ => ⟨S8x4x128x16384, .bf16⟩
  | .local _ .vmem, ⟨0, _⟩ => ⟨S1x4x128x256, .bf16⟩
  | .local _ .vmem, ⟨1, _⟩ => ⟨S1x4x128x256, .bf16⟩
  | .local _ .vmem, ⟨2, _⟩ => ⟨S1x128x256, .bf16⟩
  | .local _ .vmem, ⟨3, _⟩ => ⟨S1x128x256, .bf16⟩
  | .local _ .vmem, ⟨4, _⟩ => ⟨S1x128x256, .bf16⟩
  | .local _ .vmem, ⟨5, _⟩ => ⟨S1x128x256, .bf16⟩
  | .local _ .vmem, ⟨6, _⟩ => ⟨S1x128x16384, .bf16⟩
  | .local _ .vmem, ⟨7, _⟩ => ⟨S1x128x16384, .bf16⟩
  | .local _ .vmem, ⟨8, _⟩ => ⟨S1x128x16384, .bf16⟩
  | .local _ .vmem, ⟨9, _⟩ => ⟨S1x128x16384, .bf16⟩
  | .local _ .vmem, ⟨10, _⟩ => ⟨S1x1x1024, .f32⟩
  | .local _ .vmem, ⟨11, _⟩ => ⟨S1x1x1024, .f32⟩
  | .local _ .vmem, ⟨12, _⟩ => ⟨S1x4x128x256, .bf16⟩
  | .local _ .vmem, ⟨13, _⟩ => ⟨S1x4x128x256, .bf16⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S128x1024, .f32⟩
  | .local _ .vmem, ⟨18, _⟩ => ⟨S1x1024, .f32⟩
  | _, _ => ⟨S1x256x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_call0_v0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_2 : Ref sig .tc := ⟨.hbm, 31, rfl⟩
abbrev main_call1_v0 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_3 : Ref sig .tc := ⟨.hbm, 42, rfl⟩
abbrev main_call2_v0 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_4 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 64], ![false, false]⟩

def k0_cond1 (i : grid0.Coords) : BitVec 1 :=
  let arg1 : BitVec 32 := BitVec.ofNat 32 (i 1).val
  let c0_i32 : BitVec 32 := 0#32
  let v9 : BitVec 1 := Scalar.cmpi .eq arg1 c0_i32
  let v10 : BitVec 32 := Scalar.extui v9
  let c0_i32_12 : BitVec 32 := 0#32
  let v11 : BitVec 1 := Scalar.cmpi .ne v10 c0_i32_12
  v11

@[reducible] def k0_t1_loop : Scf.Loop 32 :=
  let c0_i32_88 : BitVec 32 := 0#32
  let c4_i32 : BitVec 32 := 4#32
  let v116 : BitVec 32 := Scalar.addi c0_i32_88 c4_i32
  let c1_i32 : BitVec 32 := 1#32
  ⟨c0_i32_88, v116, c1_i32⟩
def k0_mult1 (k0_t1 : Fin k0_t1_loop.trips) : BitVec 32 :=
  let c0_i32_88 : BitVec 32 := 0#32
  let c1_i32 : BitVec 32 := 1#32
  let arg14 : BitVec 32 := Scf.iv c0_i32_88 c1_i32 k0_t1
  let c4096_i32 : BitVec 32 := 4096#32
  let v124 : BitVec 32 := Scalar.muli arg14 c4096_i32
  v124
def k0_off1 (k0_t1 : Fin k0_t1_loop.trips) : Fin 3 → Nat :=
  let c0_92 : Index := 0#32
  let c0_93 : Index := 0#32
  let c0_i32_88 : BitVec 32 := 0#32
  let c1_i32 : BitVec 32 := 1#32
  let arg14 : BitVec 32 := Scf.iv c0_i32_88 c1_i32 k0_t1
  let c4096_i32 : BitVec 32 := 4096#32
  let v124 : BitVec 32 := Scalar.muli arg14 c4096_i32
  let v125 : BitVec 32 := v124
  let v126 : Index := Scalar.indexCast v125
  ![0, 0, v126.toNat]
@[reducible] def k0_t2_loop : Scf.Loop 32 :=
  let c0_i32_83 : BitVec 32 := 0#32
  let c4_i32 : BitVec 32 := 4#32
  let v108 : BitVec 32 := Scalar.addi c0_i32_83 c4_i32
  let c1_i32 : BitVec 32 := 1#32
  ⟨c0_i32_83, v108, c1_i32⟩
def k0_mult2 (k0_t2 : Fin k0_t2_loop.trips) : BitVec 32 :=
  let c0_i32_83 : BitVec 32 := 0#32
  let c1_i32 : BitVec 32 := 1#32
  let arg14 : BitVec 32 := Scf.iv c0_i32_83 c1_i32 k0_t2
  let c4096_i32 : BitVec 32 := 4096#32
  let v109 : BitVec 32 := Scalar.muli arg14 c4096_i32
  v109
def k0_off2 (k0_t2 : Fin k0_t2_loop.trips) : Fin 3 → Nat :=
  let c0_85 : Index := 0#32
  let c0_86 : Index := 0#32
  let c0_i32_83 : BitVec 32 := 0#32
  let c1_i32 : BitVec 32 := 1#32
  let arg14 : BitVec 32 := Scf.iv c0_i32_83 c1_i32 k0_t2
  let c4096_i32 : BitVec 32 := 4096#32
  let v109 : BitVec 32 := Scalar.muli arg14 c4096_i32
  let v110 : BitVec 32 := v109
  let v111 : Index := Scalar.indexCast v110
  ![0, 0, v111.toNat]
def k0_mult3 (k0_t2 : Fin k0_t2_loop.trips) : BitVec 32 :=
  let c0_i32_83 : BitVec 32 := 0#32
  let c1_i32 : BitVec 32 := 1#32
  let arg14 : BitVec 32 := Scf.iv c0_i32_83 c1_i32 k0_t2
  let c4096_i32_87 : BitVec 32 := 4096#32
  let v114 : BitVec 32 := Scalar.muli arg14 c4096_i32_87
  v114
@[reducible] def k0_t3_loop : Scf.Loop 32 :=
  let c0_i32_83 : BitVec 32 := 0#32
  let c4_i32 : BitVec 32 := 4#32
  let v108 : BitVec 32 := Scalar.addi c0_i32_83 c4_i32
  let c1_i32 : BitVec 32 := 1#32
  ⟨c0_i32_83, v108, c1_i32⟩
def k0_mult4 (k0_t3 : Fin k0_t3_loop.trips) : BitVec 32 :=
  let c0_i32_83 : BitVec 32 := 0#32
  let c1_i32 : BitVec 32 := 1#32
  let arg14 : BitVec 32 := Scf.iv c0_i32_83 c1_i32 k0_t3
  let c4096_i32 : BitVec 32 := 4096#32
  let v109 : BitVec 32 := Scalar.muli arg14 c4096_i32
  v109
def k0_off3 (k0_t3 : Fin k0_t3_loop.trips) : Fin 3 → Nat :=
  let c0_85 : Index := 0#32
  let c0_86 : Index := 0#32
  let c0_i32_83 : BitVec 32 := 0#32
  let c1_i32 : BitVec 32 := 1#32
  let arg14 : BitVec 32 := Scf.iv c0_i32_83 c1_i32 k0_t3
  let c4096_i32 : BitVec 32 := 4096#32
  let v109 : BitVec 32 := Scalar.muli arg14 c4096_i32
  let v110 : BitVec 32 := v109
  let v111 : Index := Scalar.indexCast v110
  ![0, 0, v111.toNat]
def k0_mult5 (k0_t3 : Fin k0_t3_loop.trips) : BitVec 32 :=
  let c0_i32_83 : BitVec 32 := 0#32
  let c1_i32 : BitVec 32 := 1#32
  let arg14 : BitVec 32 := Scf.iv c0_i32_83 c1_i32 k0_t3
  let c4096_i32_87 : BitVec 32 := 4096#32
  let v114 : BitVec 32 := Scalar.muli arg14 c4096_i32_87
  v114
def cc0_transform_0 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  ![arg0.toNat, c0_i32.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1x4x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x16384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x16384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x4x128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S1x256x32x128 : Shape := ⟨4, ![1, 256, 32, 128]⟩
abbrev S1x16384x32x128 : Shape := ⟨4, ![1, 16384, 32, 128]⟩
abbrev S1x256x8x128 : Shape := ⟨4, ![1, 256, 8, 128]⟩
abbrev S1x16384x8x128 : Shape := ⟨4, ![1, 16384, 8, 128]⟩
abbrev S1x16640x8x128 : Shape := ⟨4, ![1, 16640, 8, 128]⟩
abbrev S1x16384x8x4x128 : Shape := ⟨5, ![1, 16384, 8, 4, 128]⟩
abbrev S1x8x16640x16384x4 : Shape := ⟨5, ![1, 8, 16640, 16384, 4]⟩
abbrev S1x8x4x16384x16640 : Shape := ⟨5, ![1, 8, 4, 16384, 16640]⟩
abbrev S_ : Shape := ⟨0, ![]⟩
abbrev S1x8x4x16384 : Shape := ⟨4, ![1, 8, 4, 16384]⟩
abbrev S1x8x4x16384x1 : Shape := ⟨5, ![1, 8, 4, 16384, 1]⟩
abbrev S1x8x128x4x16384 : Shape := ⟨5, ![1, 8, 128, 4, 16384]⟩
abbrev S16384x8x4x128 : Shape := ⟨4, ![16384, 8, 4, 128]⟩
abbrev S8x4x128x16384 : Shape := ⟨4, ![8, 4, 128, 16384]⟩

abbrev nBuf : Space → Nat
  | .hbm => 34
  | .vmem => 0
  | .smem => 0
  | _ => 0

abbrev bufTy : (tb : Table) → Fin (tcTables nBuf tb) → BufTy
  | .hbm, ⟨0, _⟩ => ⟨S1x256x32x128, .f32⟩
  | .hbm, ⟨1, _⟩ => ⟨S1x16384x32x128, .f32⟩
  | .hbm, ⟨2, _⟩ => ⟨S1x256x8x128, .f32⟩
  | .hbm, ⟨3, _⟩ => ⟨S1x16384x8x128, .f32⟩
  | .hbm, ⟨4, _⟩ => ⟨S1x256x8x128, .f32⟩
  | .hbm, ⟨5, _⟩ => ⟨S1x16384x8x128, .f32⟩
  | .hbm, ⟨6, _⟩ => ⟨S1x16640x8x128, .f32⟩
  | .hbm, ⟨7, _⟩ => ⟨S1x16640x8x128, .f32⟩
  | .hbm, ⟨8, _⟩ => ⟨S1x16384x8x4x128, .f32⟩
  | .hbm, ⟨9, _⟩ => ⟨S1x8x16640x16384x4, .f32⟩
  | .hbm, ⟨10, _⟩ => ⟨S1x8x4x16384x16640, .f32⟩
  | .hbm, ⟨11, _⟩ => ⟨S_, .f32⟩
  | .hbm, ⟨12, _⟩ => ⟨S_, .f32⟩
  | .hbm, ⟨13, _⟩ => ⟨S1x8x4x16384x16640, .f32⟩
  | .hbm, ⟨14, _⟩ => ⟨S1x8x4x16384x16640, .f32⟩
  | .hbm, ⟨15, _⟩ => ⟨S_, .f32⟩
  | .hbm, ⟨16, _⟩ => ⟨S1x8x4x16384, .f32⟩
  | .hbm, ⟨17, _⟩ => ⟨S_, .f32⟩
  | .hbm, ⟨18, _⟩ => ⟨S1x8x4x16384, .f32⟩
  | .hbm, ⟨19, _⟩ => ⟨S1x8x4x16384, .f32⟩
  | .hbm, ⟨20, _⟩ => ⟨S1x8x4x16384x1, .f32⟩
  | .hbm, ⟨21, _⟩ => ⟨S1x8x4x16384x16640, .f32⟩
  | .hbm, ⟨22, _⟩ => ⟨S1x8x4x16384x16640, .f32⟩
  | .hbm, ⟨23, _⟩ => ⟨S1x8x4x16384x16640, .f32⟩
  | .hbm, ⟨24, _⟩ => ⟨S_, .f32⟩
  | .hbm, ⟨25, _⟩ => ⟨S1x8x4x16384, .f32⟩
  | .hbm, ⟨26, _⟩ => ⟨S1x8x4x16384x1, .f32⟩
  | .hbm, ⟨27, _⟩ => ⟨S1x8x4x16384x16640, .f32⟩
  | .hbm, ⟨28, _⟩ => ⟨S1x8x4x16384x16640, .f32⟩
  | .hbm, ⟨29, _⟩ => ⟨S1x8x128x4x16384, .f32⟩
  | .hbm, ⟨30, _⟩ => ⟨S1x16384x8x4x128, .f32⟩
  | .hbm, ⟨31, _⟩ => ⟨S16384x8x4x128, .f32⟩
  | .hbm, ⟨32, _⟩ => ⟨S8x4x128x16384, .f32⟩
  | .hbm, ⟨33, _⟩ => ⟨S8x4x128x16384, .bf16⟩
  | _, _ => ⟨S1x256x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== PeerQuery.lean ====
abbrev S16896x4096 : Shape := ⟨2, ![16896, 4096]⟩
abbrev S4096x2048 : Shape := ⟨2, ![4096, 2048]⟩
abbrev S4096x16896 : Shape := ⟨2, ![4096, 16896]⟩
abbrev S2048x4096 : Shape := ⟨2, ![2048, 4096]⟩
abbrev S2048x16896 : Shape := ⟨2, ![2048, 16896]⟩
abbrev S512x4096 : Shape := ⟨2, ![512, 4096]⟩
abbrev S4096x768 : Shape := ⟨2, ![4096, 768]⟩
abbrev S512x768 : Shape := ⟨2, ![512, 768]⟩

abbrev nBuf : Space → Nat
  | .hbm => 7
  | .vmem => 6
  | .smem => 0
  | _ => 0

abbrev bufTy : (tb : Table) → Fin (tcTables nBuf tb) → BufTy
  | .hbm, ⟨0, _⟩ => ⟨S16896x4096, .f32⟩
  | .hbm, ⟨1, _⟩ => ⟨S4096x2048, .f32⟩
  | .hbm, ⟨2, _⟩ => ⟨S4096x16896, .f32⟩
  | .hbm, ⟨3, _⟩ => ⟨S4096x16896, .bf16⟩
  | .hbm, ⟨4, _⟩ => ⟨S2048x4096, .f32⟩
  | .hbm, ⟨5, _⟩ => ⟨S2048x4096, .bf16⟩
  | .hbm, ⟨6, _⟩ => ⟨S2048x16896, .f32⟩
  | .local _ .vmem, ⟨0, _⟩ => ⟨S512x4096, .bf16⟩
  | .local _ .vmem, ⟨1, _⟩ => ⟨S512x4096, .bf16⟩
  | .local _ .vmem, ⟨2, _⟩ => ⟨S4096x768, .bf16⟩
  | .local _ .vmem, ⟨3, _⟩ => ⟨S4096x768, .bf16⟩
  | .local _ .vmem, ⟨4, _⟩ => ⟨S512x768, .f32⟩
  | .local _ .vmem, ⟨5, _⟩ => ⟨S512x768, .f32⟩
  | _, _ => ⟨S16896x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PeerQueryRefIdeal.lean ====
abbrev S16896x4096 : Shape := ⟨2, ![16896, 4096]⟩
abbrev S4096x2048 : Shape := ⟨2, ![4096, 2048]⟩
abbrev S16896x2048 : Shape := ⟨2, ![16896, 2048]⟩
abbrev S2048x16896 : Shape := ⟨2, ![2048, 16896]⟩

abbrev nBuf : Space → Nat
  | .hbm => 4
  | .vmem => 0
  | .smem => 0
  | _ => 0

abbrev bufTy : (tb : Table) → Fin (tcTables nBuf tb) → BufTy
  | .hbm, ⟨0, _⟩ => ⟨S16896x4096, .f32⟩
  | .hbm, ⟨1, _⟩ => ⟨S4096x2048, .f32⟩
  | .hbm, ⟨2, _⟩ => ⟨S16896x2048, .f32⟩
  | .hbm, ⟨3, _⟩ => ⟨S2048x16896, .f32⟩
  | _, _ => ⟨S16896x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MixerOut.lean ====
abbrev S16896x4096 : Shape := ⟨2, ![16896, 4096]⟩
abbrev S4096x4096 : Shape := ⟨2, ![4096, 4096]⟩
abbrev S2x4096 : Shape := ⟨2, ![2, 4096]⟩
abbrev S4096x16896 : Shape := ⟨2, ![4096, 16896]⟩
abbrev S512x4096 : Shape := ⟨2, ![512, 4096]⟩
abbrev S4096x768 : Shape := ⟨2, ![4096, 768]⟩
abbrev S768x512 : Shape := ⟨2, ![768, 512]⟩
abbrev S2x512 : Shape := ⟨2, ![2, 512]⟩
abbrev S512x768 : Shape := ⟨2, ![512, 768]⟩
abbrev S1x512 : Shape := ⟨2, ![1, 512]⟩

abbrev nBuf : Space → Nat
  | .hbm => 9
  | .vmem => 10
  | .smem => 0
  | _ => 0

abbrev bufTy : (tb : Table) → Fin (tcTables nBuf tb) → BufTy
  | .hbm, ⟨0, _⟩ => ⟨S16896x4096, .f32⟩
  | .hbm, ⟨1, _⟩ => ⟨S4096x4096, .f32⟩
  | .hbm, ⟨2, _⟩ => ⟨S16896x4096, .f32⟩
  | .hbm, ⟨3, _⟩ => ⟨S2x4096, .f32⟩
  | .hbm, ⟨4, _⟩ => ⟨S4096x16896, .f32⟩
  | .hbm, ⟨5, _⟩ => ⟨S4096x16896, .bf16⟩
  | .hbm, ⟨6, _⟩ => ⟨S4096x4096, .f32⟩
  | .hbm, ⟨7, _⟩ => ⟨S4096x4096, .bf16⟩
  | .hbm, ⟨8, _⟩ => ⟨S16896x4096, .f32⟩
  | .local _ .vmem, ⟨0, _⟩ => ⟨S512x4096, .bf16⟩
  | .local _ .vmem, ⟨1, _⟩ => ⟨S512x4096, .bf16⟩
  | .local _ .vmem, ⟨2, _⟩ => ⟨S4096x768, .bf16⟩
  | .local _ .vmem, ⟨3, _⟩ => ⟨S4096x768, .bf16⟩
  | .local _ .vmem, ⟨4, _⟩ => ⟨S768x512, .f32⟩
  | .local _ .vmem, ⟨5, _⟩ => ⟨S768x512, .f32⟩
  | .local _ .vmem, ⟨6, _⟩ => ⟨S2x512, .f32⟩
  | .local _ .vmem, ⟨7, _⟩ => ⟨S2x512, .f32⟩
  | .local _ .vmem, ⟨8, _⟩ => ⟨S768x512, .f32⟩
  | .local _ .vmem, ⟨9, _⟩ => ⟨S768x512, .f32⟩
  | _, _ => ⟨S16896x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![22, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S768x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S768x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MixerOutRefIdeal.lean ====
abbrev S16896x4096 : Shape := ⟨2, ![16896, 4096]⟩
abbrev S4096x4096 : Shape := ⟨2, ![4096, 4096]⟩
abbrev S2x4096 : Shape := ⟨2, ![2, 4096]⟩
abbrev S1x4096 : Shape := ⟨2, ![1, 4096]⟩
abbrev S4096 : Shape := ⟨1, ![4096]⟩
abbrev S256x4096 : Shape := ⟨2, ![256, 4096]⟩
abbrev S16640x4096 : Shape := ⟨2, ![16640, 4096]⟩

abbrev nBuf : Space → Nat
  | .hbm => 19
  | .vmem => 0
  | .smem => 0
  | _ => 0

abbrev bufTy : (tb : Table) → Fin (tcTables nBuf tb) → BufTy
  | .hbm, ⟨0, _⟩ => ⟨S16896x4096, .f32⟩
  | .hbm, ⟨1, _⟩ => ⟨S4096x4096, .f32⟩
  | .hbm, ⟨2, _⟩ => ⟨S16896x4096, .f32⟩
  | .hbm, ⟨3, _⟩ => ⟨S2x4096, .f32⟩
  | .hbm, ⟨4, _⟩ => ⟨S16896x4096, .f32⟩
  | .hbm, ⟨5, _⟩ => ⟨S1x4096, .f32⟩
  | .hbm, ⟨6, _⟩ => ⟨S4096, .f32⟩
  | .hbm, ⟨7, _⟩ => ⟨S256x4096, .f32⟩
  | .hbm, ⟨8, _⟩ => ⟨S1x4096, .f32⟩
  | .hbm, ⟨9, _⟩ => ⟨S256x4096, .f32⟩
  | .hbm, ⟨10, _⟩ => ⟨S256x4096, .f32⟩
  | .hbm, ⟨11, _⟩ => ⟨S1x4096, .f32⟩
  | .hbm, ⟨12, _⟩ => ⟨S4096, .f32⟩
  | .hbm, ⟨13, _⟩ => ⟨S16640x4096, .f32⟩
  | .hbm, ⟨14, _⟩ => ⟨S1x4096, .f32⟩
  | .hbm, ⟨15, _⟩ => ⟨S16640x4096, .f32⟩
  | .hbm, ⟨16, _⟩ => ⟨S16640x4096, .f32⟩
  | .hbm, ⟨17, _⟩ => ⟨S16896x4096, .f32⟩
  | .hbm, ⟨18, _⟩ => ⟨S16896x4096, .f32⟩
  | _, _ => ⟨S16896x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== MixerOutRows.lean ====
abbrev S16896x4096 : Shape := ⟨2, ![16896, 4096]⟩
abbrev S4096x4096 : Shape := ⟨2, ![4096, 4096]⟩
abbrev S2x4096 : Shape := ⟨2, ![2, 4096]⟩
abbrev S1536x4096 : Shape := ⟨2, ![1536, 4096]⟩
abbrev S4096x512 : Shape := ⟨2, ![4096, 512]⟩
abbrev S1536x512 : Shape := ⟨2, ![1536, 512]⟩
abbrev S2x512 : Shape := ⟨2, ![2, 512]⟩
abbrev S1x512 : Shape := ⟨2, ![1, 512]⟩

abbrev nBuf : Space → Nat
  | .hbm => 7
  | .vmem => 10
  | .smem => 0
  | _ => 0

abbrev bufTy : (tb : Table) → Fin (tcTables nBuf tb) → BufTy
  | .hbm, ⟨0, _⟩ => ⟨S16896x4096, .f32⟩
  | .hbm, ⟨1, _⟩ => ⟨S4096x4096, .f32⟩
  | .hbm, ⟨2, _⟩ => ⟨S16896x4096, .f32⟩
  | .hbm, ⟨3, _⟩ => ⟨S2x4096, .f32⟩
  | .hbm, ⟨4, _⟩ => ⟨S16896x4096, .bf16⟩
  | .hbm, ⟨5, _⟩ => ⟨S4096x4096, .bf16⟩
  | .hbm, ⟨6, _⟩ => ⟨S16896x4096, .f32⟩
  | .local _ .vmem, ⟨0, _⟩ => ⟨S1536x4096, .bf16⟩
  | .local _ .vmem, ⟨1, _⟩ => ⟨S1536x4096, .bf16⟩
  | .local _ .vmem, ⟨2, _⟩ => ⟨S4096x512, .bf16⟩
  | .local _ .vmem, ⟨3, _⟩ => ⟨S4096x512, .bf16⟩
  | .local _ .vmem, ⟨4, _⟩ => ⟨S1536x512, .f32⟩
  | .local _ .vmem, ⟨5, _⟩ => ⟨S1536x512, .f32⟩
  | .local _ .vmem, ⟨6, _⟩ => ⟨S2x512, .f32⟩
  | .local _ .vmem, ⟨7, _⟩ => ⟨S2x512, .f32⟩
  | .local _ .vmem, ⟨8, _⟩ => ⟨S1536x512, .f32⟩
  | .local _ .vmem, ⟨9, _⟩ => ⟨S1536x512, .f32⟩
  | _, _ => ⟨S16896x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![11, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1536x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1536x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1536x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ProjV.lean ====
abbrev S16896x4096 : Shape := ⟨2, ![16896, 4096]⟩
abbrev S4096x6144 : Shape := ⟨2, ![4096, 6144]⟩
abbrev S4096x16896 : Shape := ⟨2, ![4096, 16896]⟩
abbrev S4096x1024 : Shape := ⟨2, ![4096, 1024]⟩
abbrev S1024x4096 : Shape := ⟨2, ![1024, 4096]⟩
abbrev S1024x16896 : Shape := ⟨2, ![1024, 16896]⟩
abbrev S512x4096 : Shape := ⟨2, ![512, 4096]⟩
abbrev S4096x768 : Shape := ⟨2, ![4096, 768]⟩
abbrev S512x768 : Shape := ⟨2, ![512, 768]⟩

abbrev nBuf : Space → Nat
  | .hbm => 8
  | .vmem => 6
  | .smem => 0
  | _ => 0

abbrev bufTy : (tb : Table) → Fin (tcTables nBuf tb) → BufTy
  | .hbm, ⟨0, _⟩ => ⟨S16896x4096, .f32⟩
  | .hbm, ⟨1, _⟩ => ⟨S4096x6144, .f32⟩
  | .hbm, ⟨2, _⟩ => ⟨S4096x16896, .f32⟩
  | .hbm, ⟨3, _⟩ => ⟨S4096x16896, .bf16⟩
  | .hbm, ⟨4, _⟩ => ⟨S4096x1024, .f32⟩
  | .hbm, ⟨5, _⟩ => ⟨S1024x4096, .f32⟩
  | .hbm, ⟨6, _⟩ => ⟨S1024x4096, .bf16⟩
  | .hbm, ⟨7, _⟩ => ⟨S1024x16896, .bf16⟩
  | .local _ .vmem, ⟨0, _⟩ => ⟨S512x4096, .bf16⟩
  | .local _ .vmem, ⟨1, _⟩ => ⟨S512x4096, .bf16⟩
  | .local _ .vmem, ⟨2, _⟩ => ⟨S4096x768, .bf16⟩
  | .local _ .vmem, ⟨3, _⟩ => ⟨S4096x768, .bf16⟩
  | .local _ .vmem, ⟨4, _⟩ => ⟨S512x768, .bf16⟩
  | .local _ .vmem, ⟨5, _⟩ => ⟨S512x768, .bf16⟩
  | _, _ => ⟨S16896x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjVRefIdeal.lean ====
abbrev S16896x4096 : Shape := ⟨2, ![16896, 4096]⟩
abbrev S4096x6144 : Shape := ⟨2, ![4096, 6144]⟩
abbrev S16896x6144 : Shape := ⟨2, ![16896, 6144]⟩
abbrev S16896x1024 : Shape := ⟨2, ![16896, 1024]⟩
abbrev S1024x16896 : Shape := ⟨2, ![1024, 16896]⟩

abbrev nBuf : Space → Nat
  | .hbm => 6
  | .vmem => 0
  | .smem => 0
  | _ => 0

abbrev bufTy : (tb : Table) → Fin (tcTables nBuf tb) → BufTy
  | .hbm, ⟨0, _⟩ => ⟨S16896x4096, .f32⟩
  | .hbm, ⟨1, _⟩ => ⟨S4096x6144, .f32⟩
  | .hbm, ⟨2, _⟩ => ⟨S16896x6144, .f32⟩
  | .hbm, ⟨3, _⟩ => ⟨S16896x1024, .f32⟩
  | .hbm, ⟨4, _⟩ => ⟨S1024x16896, .f32⟩
  | .hbm, ⟨5, _⟩ => ⟨S1024x16896, .bf16⟩
  | _, _ => ⟨S16896x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ProjQ.lean ====
abbrev S16896x4096 : Shape := ⟨2, ![16896, 4096]⟩
abbrev S4096x6144 : Shape := ⟨2, ![4096, 6144]⟩
abbrev S128 : Shape := ⟨1, ![128]⟩
abbrev S16896x2x32 : Shape := ⟨3, ![16896, 2, 32]⟩
abbrev S4096x4096 : Shape := ⟨2, ![4096, 4096]⟩
abbrev S4096x16896 : Shape := ⟨2, ![4096, 16896]⟩
abbrev S32x128x4096 : Shape := ⟨3, ![32, 128, 4096]⟩
abbrev S_ : Shape := ⟨0, ![]⟩
abbrev S128x1 : Shape := ⟨2, ![128, 1]⟩
abbrev S16896x64 : Shape := ⟨2, ![16896, 64]⟩
abbrev S64x16896 : Shape := ⟨2, ![64, 16896]⟩
abbrev S1x128 : Shape := ⟨2, ![1, 128]⟩
abbrev S32x128 : Shape := ⟨2, ![32, 128]⟩
abbrev S4096 : Shape := ⟨1, ![4096]⟩
abbrev S4096x1 : Shape := ⟨2, ![4096, 1]⟩
abbrev S4096x128 : Shape := ⟨2, ![4096, 128]⟩
abbrev S512x4096 : Shape := ⟨2, ![512, 4096]⟩
abbrev S4096x768 : Shape := ⟨2, ![4096, 768]⟩
abbrev S512x128 : Shape := ⟨2, ![512, 128]⟩
abbrev S64x768 : Shape := ⟨2, ![64, 768]⟩
abbrev S512x768 : Shape := ⟨2, ![512, 768]⟩
abbrev S128x768 : Shape := ⟨2, ![128, 768]⟩
abbrev S768 : Shape := ⟨1, ![768]⟩
abbrev S1x768 : Shape := ⟨2, ![1, 768]⟩
abbrev S128x128 : Shape := ⟨2, ![128, 128]⟩

abbrev nBuf : Space → Nat
  | .hbm => 37
  | .vmem => 12
  | .smem => 0
  | _ => 0

abbrev bufTy : (tb : Table) → Fin (tcTables nBuf tb) → BufTy
  | .hbm, ⟨0, _⟩ => ⟨S16896x4096, .f32⟩
  | .hbm, ⟨1, _⟩ => ⟨S4096x6144, .f32⟩
  | .hbm, ⟨2, _⟩ => ⟨S128, .f32⟩
  | .hbm, ⟨3, _⟩ => ⟨S16896x2x32, .f32⟩
  | .hbm, ⟨4, _⟩ => ⟨S16896x2x32, .f32⟩
  | .hbm, ⟨5, _⟩ => ⟨S128, .i32⟩
  | .hbm, ⟨6, _⟩ => ⟨S128, .i1⟩
  | .hbm, ⟨7, _⟩ => ⟨S128, .i1⟩
  | .hbm, ⟨8, _⟩ => ⟨S4096x4096, .f32⟩
  | .hbm, ⟨9, _⟩ => ⟨S4096x16896, .f32⟩
  | .hbm, ⟨10, _⟩ => ⟨S4096x16896, .bf16⟩
  | .hbm, ⟨11, _⟩ => ⟨S4096x4096, .f32⟩
  | .hbm, ⟨12, _⟩ => ⟨S32x128x4096, .f32⟩
  | .hbm, ⟨13, _⟩ => ⟨S_, .i32⟩
  | .hbm, ⟨14, _⟩ => ⟨S128, .i32⟩
  | .hbm, ⟨15, _⟩ => ⟨S128, .i32⟩
  | .hbm, ⟨16, _⟩ => ⟨S128, .i32⟩
  | .hbm, ⟨17, _⟩ => ⟨S128x1, .i32⟩
  | .hbm, ⟨18, _⟩ => ⟨S32x128x4096, .f32⟩
  | .hbm, ⟨19, _⟩ => ⟨S4096x4096, .f32⟩
  | .hbm, ⟨20, _⟩ => ⟨S4096x4096, .bf16⟩
  | .hbm, ⟨21, _⟩ => ⟨S16896x64, .f32⟩
  | .hbm, ⟨22, _⟩ => ⟨S64x16896, .f32⟩
  | .hbm, ⟨23, _⟩ => ⟨S16896x64, .f32⟩
  | .hbm, ⟨24, _⟩ => ⟨S64x16896, .f32⟩
  | .hbm, ⟨25, _⟩ => ⟨S_, .i32⟩
  | .hbm, ⟨26, _⟩ => ⟨S128, .i32⟩
  | .hbm, ⟨27, _⟩ => ⟨S128, .i32⟩
  | .hbm, ⟨28, _⟩ => ⟨S128, .i32⟩
  | .hbm, ⟨29, _⟩ => ⟨S128x1, .i32⟩
  | .hbm, ⟨30, _⟩ => ⟨S128, .f32⟩
  | .hbm, ⟨31, _⟩ => ⟨S1x128, .f32⟩
  | .hbm, ⟨32, _⟩ => ⟨S32x128, .f32⟩
  | .hbm, ⟨33, _⟩ => ⟨S4096, .f32⟩
  | .hbm, ⟨34, _⟩ => ⟨S4096x1, .f32⟩
  | .hbm, ⟨35, _⟩ => ⟨S4096x128, .f32⟩
  | .hbm, ⟨36, _⟩ => ⟨S4096x16896, .bf16⟩
  | .local _ .vmem, ⟨0, _⟩ => ⟨S512x4096, .bf16⟩
  | .local _ .vmem, ⟨1, _⟩ => ⟨S512x4096, .bf16⟩
  | .local _ .vmem, ⟨2, _⟩ => ⟨S4096x768, .bf16⟩
  | .local _ .vmem, ⟨3, _⟩ => ⟨S4096x768, .bf16⟩
  | .local _ .vmem, ⟨4, _⟩ => ⟨S512x128, .f32⟩
  | .local _ .vmem, ⟨5, _⟩ => ⟨S512x128, .f32⟩
  | .local _ .vmem, ⟨6, _⟩ => ⟨S64x768, .f32⟩
  | .local _ .vmem, ⟨7, _⟩ => ⟨S64x768, .f32⟩
  | .local _ .vmem, ⟨8, _⟩ => ⟨S64x768, .f32⟩
  | .local _ .vmem, ⟨9, _⟩ => ⟨S64x768, .f32⟩
  | .local _ .vmem, ⟨10, _⟩ => ⟨S512x768, .bf16⟩
  | .local _ .vmem, ⟨11, _⟩ => ⟨S512x768, .bf16⟩
  | _, _ => ⟨S16896x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c_2 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![22, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S64x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S64x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ProjQRefIdeal.lean ====
abbrev S16896x4096 : Shape := ⟨2, ![16896, 4096]⟩
abbrev S4096x6144 : Shape := ⟨2, ![4096, 6144]⟩
abbrev S128 : Shape := ⟨1, ![128]⟩
abbrev S16896x2x32 : Shape := ⟨3, ![16896, 2, 32]⟩
abbrev S16896x6144 : Shape := ⟨2, ![16896, 6144]⟩
abbrev S16896x32x128 : Shape := ⟨3, ![16896, 32, 128]⟩
abbrev S_ : Shape := ⟨0, ![]⟩
abbrev S16896x32 : Shape := ⟨2, ![16896, 32]⟩
abbrev S16896x32x1 : Shape := ⟨3, ![16896, 32, 1]⟩
abbrev S1x1x128 : Shape := ⟨3, ![1, 1, 128]⟩
abbrev S16896x32x2x2x32 : Shape := ⟨5, ![16896, 32, 2, 2, 32]⟩
abbrev S16896x32x2x1x32 : Shape := ⟨5, ![16896, 32, 2, 1, 32]⟩
abbrev S16896x32x2x32 : Shape := ⟨4, ![16896, 32, 2, 32]⟩
abbrev S16896x1x2x32 : Shape := ⟨4, ![16896, 1, 2, 32]⟩
abbrev S16896x32x1x2x32 : Shape := ⟨5, ![16896, 32, 1, 2, 32]⟩
abbrev S4096x16896 : Shape := ⟨2, ![4096, 16896]⟩

abbrev nBuf : Space → Nat
  | .hbm => 47
  | .vmem => 0
  | .smem => 0
  | _ => 0

abbrev bufTy : (tb : Table) → Fin (tcTables nBuf tb) → BufTy
  | .hbm, ⟨0, _⟩ => ⟨S16896x4096, .f32⟩
  | .hbm, ⟨1, _⟩ => ⟨S4096x6144, .f32⟩
  | .hbm, ⟨2, _⟩ => ⟨S128, .f32⟩
  | .hbm, ⟨3, _⟩ => ⟨S16896x2x32, .f32⟩
  | .hbm, ⟨4, _⟩ => ⟨S16896x2x32, .f32⟩
  | .hbm, ⟨5, _⟩ => ⟨S16896x6144, .f32⟩
  | .hbm, ⟨6, _⟩ => ⟨S16896x4096, .f32⟩
  | .hbm, ⟨7, _⟩ => ⟨S16896x32x128, .f32⟩
  | .hbm, ⟨8, _⟩ => ⟨S16896x32x128, .f32⟩
  | .hbm, ⟨9, _⟩ => ⟨S_, .f32⟩
  | .hbm, ⟨10, _⟩ => ⟨S16896x32, .f32⟩
  | .hbm, ⟨11, _⟩ => ⟨S16896x32x1, .f32⟩
  | .hbm, ⟨12, _⟩ => ⟨S_, .f32⟩
  | .hbm, ⟨13, _⟩ => ⟨S16896x32x1, .f32⟩
  | .hbm, ⟨14, _⟩ => ⟨S16896x32x1, .f32⟩
  | .hbm, ⟨15, _⟩ => ⟨S_, .f32⟩
  | .hbm, ⟨16, _⟩ => ⟨S16896x32x1, .f32⟩
  | .hbm, ⟨17, _⟩ => ⟨S16896x32x1, .f32⟩
  | .hbm, ⟨18, _⟩ => ⟨S16896x32x1, .f32⟩
  | .hbm, ⟨19, _⟩ => ⟨S16896x32x128, .f32⟩
  | .hbm, ⟨20, _⟩ => ⟨S16896x32x128, .f32⟩
  | .hbm, ⟨21, _⟩ => ⟨S1x1x128, .f32⟩
  | .hbm, ⟨22, _⟩ => ⟨S16896x32x128, .f32⟩
  | .hbm, ⟨23, _⟩ => ⟨S16896x32x128, .f32⟩
  | .hbm, ⟨24, _⟩ => ⟨S16896x32x2x2x32, .f32⟩
  | .hbm, ⟨25, _⟩ => ⟨S16896x32x2x1x32, .f32⟩
  | .hbm, ⟨26, _⟩ => ⟨S16896x32x2x32, .f32⟩
  | .hbm, ⟨27, _⟩ => ⟨S16896x32x2x1x32, .f32⟩
  | .hbm, ⟨28, _⟩ => ⟨S16896x32x2x32, .f32⟩
  | .hbm, ⟨29, _⟩ => ⟨S16896x1x2x32, .f32⟩
  | .hbm, ⟨30, _⟩ => ⟨S16896x1x2x32, .f32⟩
  | .hbm, ⟨31, _⟩ => ⟨S16896x32x2x32, .f32⟩
  | .hbm, ⟨32, _⟩ => ⟨S16896x32x2x32, .f32⟩
  | .hbm, ⟨33, _⟩ => ⟨S16896x32x2x32, .f32⟩
  | .hbm, ⟨34, _⟩ => ⟨S16896x32x2x32, .f32⟩
  | .hbm, ⟨35, _⟩ => ⟨S16896x32x2x32, .f32⟩
  | .hbm, ⟨36, _⟩ => ⟨S16896x32x2x32, .f32⟩
  | .hbm, ⟨37, _⟩ => ⟨S16896x32x2x32, .f32⟩
  | .hbm, ⟨38, _⟩ => ⟨S16896x32x2x32, .f32⟩
  | .hbm, ⟨39, _⟩ => ⟨S16896x32x2x32, .f32⟩
  | .hbm, ⟨40, _⟩ => ⟨S16896x32x2x32, .f32⟩
  | .hbm, ⟨41, _⟩ => ⟨S16896x32x1x2x32, .f32⟩
  | .hbm, ⟨42, _⟩ => ⟨S16896x32x1x2x32, .f32⟩
  | .hbm, ⟨43, _⟩ => ⟨S16896x32x2x2x32, .f32⟩
  | .hbm, ⟨44, _⟩ => ⟨S16896x4096, .f32⟩
  | .hbm, ⟨45, _⟩ => ⟨S4096x16896, .f32⟩
  | .hbm, ⟨46, _⟩ => ⟨S4096x16896, .bf16⟩
  | _, _ => ⟨S16896x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩

abbrev nD : Nat := 1
abbrev τ : Topo := Topo.v7x

variable {F : FTy → Type} [FloatOps F]
-- ==== ProjK.lean ====
abbrev S16896x4096 : Shape := ⟨2, ![16896, 4096]⟩
abbrev S4096x6144 : Shape := ⟨2, ![4096, 6144]⟩
abbrev S128 : Shape := ⟨1, ![128]⟩
abbrev S16896x2x32 : Shape := ⟨3, ![16896, 2, 32]⟩
abbrev S4096x1024 : Shape := ⟨2, ![4096, 1024]⟩
abbrev S4096x16896 : Shape := ⟨2, ![4096, 16896]⟩
abbrev S1024x4096 : Shape := ⟨2, ![1024, 4096]⟩
abbrev S8x128x4096 : Shape := ⟨3, ![8, 128, 4096]⟩
abbrev S_ : Shape := ⟨0, ![]⟩
abbrev S128x1 : Shape := ⟨2, ![128, 1]⟩
abbrev S16896x64 : Shape := ⟨2, ![16896, 64]⟩
abbrev S64x16896 : Shape := ⟨2, ![64, 16896]⟩
abbrev S1x128 : Shape := ⟨2, ![1, 128]⟩
abbrev S8x128 : Shape := ⟨2, ![8, 128]⟩
abbrev S1024 : Shape := ⟨1, ![1024]⟩
abbrev S1024x1 : Shape := ⟨2, ![1024, 1]⟩
abbrev S1024x128 : Shape := ⟨2, ![1024, 128]⟩
abbrev S1024x16896 : Shape := ⟨2, ![1024, 16896]⟩
abbrev S512x4096 : Shape := ⟨2, ![512, 4096]⟩
abbrev S4096x768 : Shape := ⟨2, ![4096, 768]⟩
abbrev S512x128 : Shape := ⟨2, ![512, 128]⟩
abbrev S64x768 : Shape := ⟨2, ![64, 768]⟩
abbrev S512x768 : Shape := ⟨2, ![512, 768]⟩
abbrev S128x768 : Shape := ⟨2, ![128, 768]⟩
abbrev S768 : Shape := ⟨1, ![768]⟩
abbrev S1x768 : Shape := ⟨2, ![1, 768]⟩
abbrev S128x128 : Shape := ⟨2, ![128, 128]⟩

abbrev nBuf : Space → Nat
  | .hbm => 37
  | .vmem => 12
  | .smem => 0
  | _ => 0

abbrev bufTy : (tb : Table) → Fin (tcTables nBuf tb) → BufTy
  | .hbm, ⟨0, _⟩ => ⟨S16896x4096, .f32⟩
  | .hbm, ⟨1, _⟩ => ⟨S4096x6144, .f32⟩
  | .hbm, ⟨2, _⟩ => ⟨S128, .f32⟩
  | .hbm, ⟨3, _⟩ => ⟨S16896x2x32, .f32⟩
  | .hbm, ⟨4, _⟩ => ⟨S16896x2x32, .f32⟩
  | .hbm, ⟨5, _⟩ => ⟨S128, .i32⟩
  | .hbm, ⟨6, _⟩ => ⟨S128, .i1⟩
  | .hbm, ⟨7, _⟩ => ⟨S128, .i1⟩
  | .hbm, ⟨8, _⟩ => ⟨S4096x1024, .f32⟩
  | .hbm, ⟨9, _⟩ => ⟨S4096x16896, .f32⟩
  | .hbm, ⟨10, _⟩ => ⟨S4096x16896, .bf16⟩
  | .hbm, ⟨11, _⟩ => ⟨S1024x4096, .f32⟩
  | .hbm, ⟨12, _⟩ => ⟨S8x128x4096, .f32⟩
  | .hbm, ⟨13, _⟩ => ⟨S_, .i32⟩
  | .hbm, ⟨14, _⟩ => ⟨S128, .i32⟩
  | .hbm, ⟨15, _⟩ => ⟨S128, .i32⟩
  | .hbm, ⟨16, _⟩ => ⟨S128, .i32⟩
  | .hbm, ⟨17, _⟩ => ⟨S128x1, .i32⟩
  | .hbm, ⟨18, _⟩ => ⟨S8x128x4096, .f32⟩
  | .hbm, ⟨19, _⟩ => ⟨S1024x4096, .f32⟩
  | .hbm, ⟨20, _⟩ => ⟨S1024x4096, .bf16⟩
  | .hbm, ⟨21, _⟩ => ⟨S16896x64, .f32⟩
  | .hbm, ⟨22, _⟩ => ⟨S64x16896, .f32⟩
  | .hbm, ⟨23, _⟩ => ⟨S16896x64, .f32⟩
  | .hbm, ⟨24, _⟩ => ⟨S64x16896, .f32⟩
  | .hbm, ⟨25, _⟩ => ⟨S_, .i32⟩
  | .hbm, ⟨26, _⟩ => ⟨S128, .i32⟩
  | .hbm, ⟨27, _⟩ => ⟨S128, .i32⟩
  | .hbm, ⟨28, _⟩ => ⟨S128, .i32⟩
  | .hbm, ⟨29, _⟩ => ⟨S128x1, .i32⟩
  | .hbm, ⟨30, _⟩ => ⟨S128, .f32⟩
  | .hbm, ⟨31, _⟩ => ⟨S1x128, .f32⟩
  | .hbm, ⟨32, _⟩ => ⟨S8x128, .f32⟩
  | .hbm, ⟨33, _⟩ => ⟨S1024, .f32⟩
  | .hbm, ⟨34, _⟩ => ⟨S1024x1, .f32⟩
  | .hbm, ⟨35, _⟩ => ⟨S1024x128, .f32⟩
  | .hbm, ⟨36, _⟩ => ⟨S1024x16896, .bf16⟩
  | .local _ .vmem, ⟨0, _⟩ => ⟨S512x4096, .bf16⟩
  | .local _ .vmem, ⟨1, _⟩ => ⟨S512x4096, .bf16⟩
  | .local _ .vmem, ⟨2, _⟩ => ⟨S4096x768, .bf16⟩
  | .local _ .vmem, ⟨3, _⟩ => ⟨S4096x768, .bf16⟩
  | .local _ .vmem, ⟨4, _⟩ => ⟨S512x128, .f32⟩
  | .local _ .vmem, ⟨5, _⟩ => ⟨S512x128, .f32⟩
  | .local _ .vmem, ⟨6, _⟩ => ⟨S64x768, .f32⟩
  | .local _ .vmem, ⟨7, _⟩ => ⟨S64x768, .f32⟩
  | .local _ .vmem, ⟨8, _⟩ => ⟨S64x768, .f32⟩
  | .local _ .vmem, ⟨9, _⟩ => ⟨S64x768, .f32⟩
  | .local _ .vmem, ⟨10, _⟩ => ⟨S512x768, .bf16⟩
  | .local _ .vmem, ⟨11, _⟩ => ⟨S512x768, .bf16⟩
  | _, _ => ⟨S16896x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c_2 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![22, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S64x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S64x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ProjKRefIdeal.lean ====
abbrev S16896x4096 : Shape := ⟨2, ![16896, 4096]⟩
abbrev S4096x6144 : Shape := ⟨2, ![4096, 6144]⟩
abbrev S128 : Shape := ⟨1, ![128]⟩
abbrev S16896x2x32 : Shape := ⟨3, ![16896, 2, 32]⟩
abbrev S16896x6144 : Shape := ⟨2, ![16896, 6144]⟩
abbrev S16896x1024 : Shape := ⟨2, ![16896, 1024]⟩
abbrev S16896x8x128 : Shape := ⟨3, ![16896, 8, 128]⟩
abbrev S_ : Shape := ⟨0, ![]⟩
abbrev S16896x8 : Shape := ⟨2, ![16896, 8]⟩
abbrev S16896x8x1 : Shape := ⟨3, ![16896, 8, 1]⟩
abbrev S1x1x128 : Shape := ⟨3, ![1, 1, 128]⟩
abbrev S16896x8x2x2x32 : Shape := ⟨5, ![16896, 8, 2, 2, 32]⟩
abbrev S16896x8x2x1x32 : Shape := ⟨5, ![16896, 8, 2, 1, 32]⟩
abbrev S16896x8x2x32 : Shape := ⟨4, ![16896, 8, 2, 32]⟩
abbrev S16896x1x2x32 : Shape := ⟨4, ![16896, 1, 2, 32]⟩
abbrev S16896x8x1x2x32 : Shape := ⟨5, ![16896, 8, 1, 2, 32]⟩
abbrev S1024x16896 : Shape := ⟨2, ![1024, 16896]⟩

abbrev nBuf : Space → Nat
  | .hbm => 47
  | .vmem => 0
  | .smem => 0
  | _ => 0

abbrev bufTy : (tb : Table) → Fin (tcTables nBuf tb) → BufTy
  | .hbm, ⟨0, _⟩ => ⟨S16896x4096, .f32⟩
  | .hbm, ⟨1, _⟩ => ⟨S4096x6144, .f32⟩
  | .hbm, ⟨2, _⟩ => ⟨S128, .f32⟩
  | .hbm, ⟨3, _⟩ => ⟨S16896x2x32, .f32⟩
  | .hbm, ⟨4, _⟩ => ⟨S16896x2x32, .f32⟩
  | .hbm, ⟨5, _⟩ => ⟨S16896x6144, .f32⟩
  | .hbm, ⟨6, _⟩ => ⟨S16896x1024, .f32⟩
  | .hbm, ⟨7, _⟩ => ⟨S16896x8x128, .f32⟩
  | .hbm, ⟨8, _⟩ => ⟨S16896x8x128, .f32⟩
  | .hbm, ⟨9, _⟩ => ⟨S_, .f32⟩
  | .hbm, ⟨10, _⟩ => ⟨S16896x8, .f32⟩
  | .hbm, ⟨11, _⟩ => ⟨S16896x8x1, .f32⟩
  | .hbm, ⟨12, _⟩ => ⟨S_, .f32⟩
  | .hbm, ⟨13, _⟩ => ⟨S16896x8x1, .f32⟩
  | .hbm, ⟨14, _⟩ => ⟨S16896x8x1, .f32⟩
  | .hbm, ⟨15, _⟩ => ⟨S_, .f32⟩
  | .hbm, ⟨16, _⟩ => ⟨S16896x8x1, .f32⟩
  | .hbm, ⟨17, _⟩ => ⟨S16896x8x1, .f32⟩
  | .hbm, ⟨18, _⟩ => ⟨S16896x8x1, .f32⟩
  | .hbm, ⟨19, _⟩ => ⟨S16896x8x128, .f32⟩
  | .hbm, ⟨20, _⟩ => ⟨S16896x8x128, .f32⟩
  | .hbm, ⟨21, _⟩ => ⟨S1x1x128, .f32⟩
  | .hbm, ⟨22, _⟩ => ⟨S16896x8x128, .f32⟩
  | .hbm, ⟨23, _⟩ => ⟨S16896x8x128, .f32⟩
  | .hbm, ⟨24, _⟩ => ⟨S16896x8x2x2x32, .f32⟩
  | .hbm, ⟨25, _⟩ => ⟨S16896x8x2x1x32, .f32⟩
  | .hbm, ⟨26, _⟩ => ⟨S16896x8x2x32, .f32⟩
  | .hbm, ⟨27, _⟩ => ⟨S16896x8x2x1x32, .f32⟩
  | .hbm, ⟨28, _⟩ => ⟨S16896x8x2x32, .f32⟩
  | .hbm, ⟨29, _⟩ => ⟨S16896x1x2x32, .f32⟩
  | .hbm, ⟨30, _⟩ => ⟨S16896x1x2x32, .f32⟩
  | .hbm, ⟨31, _⟩ => ⟨S16896x8x2x32, .f32⟩
  | .hbm, ⟨32, _⟩ => ⟨S16896x8x2x32, .f32⟩
  | .hbm, ⟨33, _⟩ => ⟨S16896x8x2x32, .f32⟩
  | .hbm, ⟨34, _⟩ => ⟨S16896x8x2x32, .f32⟩
  | .hbm, ⟨35, _⟩ => ⟨S16896x8x2x32, .f32⟩
  | .hbm, ⟨36, _⟩ => ⟨S16896x8x2x32, .f32⟩
  | .hbm, ⟨37, _⟩ => ⟨S16896x8x2x32, .f32⟩
  | .hbm, ⟨38, _⟩ => ⟨S16896x8x2x32, .f32⟩
  | .hbm, ⟨39, _⟩ => ⟨S16896x8x2x32, .f32⟩
  | .hbm, ⟨40, _⟩ => ⟨S16896x8x2x32, .f32⟩
  | .hbm, ⟨41, _⟩ => ⟨S16896x8x1x2x32, .f32⟩
  | .hbm, ⟨42, _⟩ => ⟨S16896x8x1x2x32, .f32⟩
  | .hbm, ⟨43, _⟩ => ⟨S16896x8x2x2x32, .f32⟩
  | .hbm, ⟨44, _⟩ => ⟨S16896x1024, .f32⟩
  | .hbm, ⟨45, _⟩ => ⟨S1024x16896, .f32⟩
  | .hbm, ⟨46, _⟩ => ⟨S1024x16896, .bf16⟩
  | _, _ => ⟨S16896x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩

abbrev nD : Nat := 1
abbrev τ : Topo := Topo.v7x

variable {F : FTy → Type} [FloatOps F]
-- ==== WinQ.lean ====
abbrev S16896x4096 : Shape := ⟨2, ![16896, 4096]⟩
abbrev S4096x5120 : Shape := ⟨2, ![4096, 5120]⟩
abbrev S64 : Shape := ⟨1, ![64]⟩
abbrev S16896x2x16 : Shape := ⟨3, ![16896, 2, 16]⟩
abbrev S4096x4096 : Shape := ⟨2, ![4096, 4096]⟩
abbrev S4096x16896 : Shape := ⟨2, ![4096, 16896]⟩
abbrev S64x64x4096 : Shape := ⟨3, ![64, 64, 4096]⟩
abbrev S_ : Shape := ⟨0, ![]⟩
abbrev S64x1 : Shape := ⟨2, ![64, 1]⟩
abbrev S16896x32 : Shape := ⟨2, ![16896, 32]⟩
abbrev S32x16896 : Shape := ⟨2, ![32, 16896]⟩
abbrev S1x64 : Shape := ⟨2, ![1, 64]⟩
abbrev S64x64 : Shape := ⟨2, ![64, 64]⟩
abbrev S4096 : Shape := ⟨1, ![4096]⟩
abbrev S4096x1 : Shape := ⟨2, ![4096, 1]⟩
abbrev S4096x128 : Shape := ⟨2, ![4096, 128]⟩
abbrev S512x4096 : Shape := ⟨2, ![512, 4096]⟩
abbrev S4096x768 : Shape := ⟨2, ![4096, 768]⟩
abbrev S512x128 : Shape := ⟨2, ![512, 128]⟩
abbrev S32x768 : Shape := ⟨2, ![32, 768]⟩
abbrev S512x768 : Shape := ⟨2, ![512, 768]⟩
abbrev S64x768 : Shape := ⟨2, ![64, 768]⟩
abbrev S768 : Shape := ⟨1, ![768]⟩
abbrev S1x768 : Shape := ⟨2, ![1, 768]⟩
abbrev S64x128 : Shape := ⟨2, ![64, 128]⟩

abbrev nBuf : Space → Nat
  | .hbm => 37
  | .vmem => 12
  | .smem => 0
  | _ => 0

abbrev bufTy : (tb : Table) → Fin (tcTables nBuf tb) → BufTy
  | .hbm, ⟨0, _⟩ => ⟨S16896x4096, .f32⟩
  | .hbm, ⟨1, _⟩ => ⟨S4096x5120, .f32⟩
  | .hbm, ⟨2, _⟩ => ⟨S64, .f32⟩
  | .hbm, ⟨3, _⟩ => ⟨S16896x2x16, .f32⟩
  | .hbm, ⟨4, _⟩ => ⟨S16896x2x16, .f32⟩
  | .hbm, ⟨5, _⟩ => ⟨S64, .i32⟩
  | .hbm, ⟨6, _⟩ => ⟨S64, .i1⟩
  | .hbm, ⟨7, _⟩ => ⟨S64, .i1⟩
  | .hbm, ⟨8, _⟩ => ⟨S4096x4096, .f32⟩
  | .hbm, ⟨9, _⟩ => ⟨S4096x16896, .f32⟩
  | .hbm, ⟨10, _⟩ => ⟨S4096x16896, .bf16⟩
  | .hbm, ⟨11, _⟩ => ⟨S4096x4096, .f32⟩
  | .hbm, ⟨12, _⟩ => ⟨S64x64x4096, .f32⟩
  | .hbm, ⟨13, _⟩ => ⟨S_, .i32⟩
  | .hbm, ⟨14, _⟩ => ⟨S64, .i32⟩
  | .hbm, ⟨15, _⟩ => ⟨S64, .i32⟩
  | .hbm, ⟨16, _⟩ => ⟨S64, .i32⟩
  | .hbm, ⟨17, _⟩ => ⟨S64x1, .i32⟩
  | .hbm, ⟨18, _⟩ => ⟨S64x64x4096, .f32⟩
  | .hbm, ⟨19, _⟩ => ⟨S4096x4096, .f32⟩
  | .hbm, ⟨20, _⟩ => ⟨S4096x4096, .bf16⟩
  | .hbm, ⟨21, _⟩ => ⟨S16896x32, .f32⟩
  | .hbm, ⟨22, _⟩ => ⟨S32x16896, .f32⟩
  | .hbm, ⟨23, _⟩ => ⟨S16896x32, .f32⟩
  | .hbm, ⟨24, _⟩ => ⟨S32x16896, .f32⟩
  | .hbm, ⟨25, _⟩ => ⟨S_, .i32⟩
  | .hbm, ⟨26, _⟩ => ⟨S64, .i32⟩
  | .hbm, ⟨27, _⟩ => ⟨S64, .i32⟩
  | .hbm, ⟨28, _⟩ => ⟨S64, .i32⟩
  | .hbm, ⟨29, _⟩ => ⟨S64x1, .i32⟩
  | .hbm, ⟨30, _⟩ => ⟨S64, .f32⟩
  | .hbm, ⟨31, _⟩ => ⟨S1x64, .f32⟩
  | .hbm, ⟨32, _⟩ => ⟨S64x64, .f32⟩
  | .hbm, ⟨33, _⟩ => ⟨S4096, .f32⟩
  | .hbm, ⟨34, _⟩ => ⟨S4096x1, .f32⟩
  | .hbm, ⟨35, _⟩ => ⟨S4096x128, .f32⟩
  | .hbm, ⟨36, _⟩ => ⟨S4096x16896, .bf16⟩
  | .local _ .vmem, ⟨0, _⟩ => ⟨S512x4096, .bf16⟩
  | .local _ .vmem, ⟨1, _⟩ => ⟨S512x4096, .bf16⟩
  | .local _ .vmem, ⟨2, _⟩ => ⟨S4096x768, .bf16⟩
  | .local _ .vmem, ⟨3, _⟩ => ⟨S4096x768, .bf16⟩
  | .local _ .vmem, ⟨4, _⟩ => ⟨S512x128, .f32⟩
  | .local _ .vmem, ⟨5, _⟩ => ⟨S512x128, .f32⟩
  | .local _ .vmem, ⟨6, _⟩ => ⟨S32x768, .f32⟩
  | .local _ .vmem, ⟨7, _⟩ => ⟨S32x768, .f32⟩
  | .local _ .vmem, ⟨8, _⟩ => ⟨S32x768, .f32⟩
  | .local _ .vmem, ⟨9, _⟩ => ⟨S32x768, .f32⟩
  | .local _ .vmem, ⟨10, _⟩ => ⟨S512x768, .bf16⟩
  | .local _ .vmem, ⟨11, _⟩ => ⟨S512x768, .bf16⟩
  | _, _ => ⟨S16896x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c_2 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![22, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S32x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S32x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== WinQRefIdeal.lean ====
abbrev S16896x4096 : Shape := ⟨2, ![16896, 4096]⟩
abbrev S4096x5120 : Shape := ⟨2, ![4096, 5120]⟩
abbrev S64 : Shape := ⟨1, ![64]⟩
abbrev S16896x2x16 : Shape := ⟨3, ![16896, 2, 16]⟩
abbrev S16896x5120 : Shape := ⟨2, ![16896, 5120]⟩
abbrev S16896x64x64 : Shape := ⟨3, ![16896, 64, 64]⟩
abbrev S_ : Shape := ⟨0, ![]⟩
abbrev S16896x64 : Shape := ⟨2, ![16896, 64]⟩
abbrev S16896x64x1 : Shape := ⟨3, ![16896, 64, 1]⟩
abbrev S1x1x64 : Shape := ⟨3, ![1, 1, 64]⟩
abbrev S16896x64x2x2x16 : Shape := ⟨5, ![16896, 64, 2, 2, 16]⟩
abbrev S16896x64x2x1x16 : Shape := ⟨5, ![16896, 64, 2, 1, 16]⟩
abbrev S16896x64x2x16 : Shape := ⟨4, ![16896, 64, 2, 16]⟩
abbrev S16896x1x2x16 : Shape := ⟨4, ![16896, 1, 2, 16]⟩
abbrev S16896x64x1x2x16 : Shape := ⟨5, ![16896, 64, 1, 2, 16]⟩
abbrev S4096x16896 : Shape := ⟨2, ![4096, 16896]⟩

abbrev nBuf : Space → Nat
  | .hbm => 47
  | .vmem => 0
  | .smem => 0
  | _ => 0

abbrev bufTy : (tb : Table) → Fin (tcTables nBuf tb) → BufTy
  | .hbm, ⟨0, _⟩ => ⟨S16896x4096, .f32⟩
  | .hbm, ⟨1, _⟩ => ⟨S4096x5120, .f32⟩
  | .hbm, ⟨2, _⟩ => ⟨S64, .f32⟩
  | .hbm, ⟨3, _⟩ => ⟨S16896x2x16, .f32⟩
  | .hbm, ⟨4, _⟩ => ⟨S16896x2x16, .f32⟩
  | .hbm, ⟨5, _⟩ => ⟨S16896x5120, .f32⟩
  | .hbm, ⟨6, _⟩ => ⟨S16896x4096, .f32⟩
  | .hbm, ⟨7, _⟩ => ⟨S16896x64x64, .f32⟩
  | .hbm, ⟨8, _⟩ => ⟨S16896x64x64, .f32⟩
  | .hbm, ⟨9, _⟩ => ⟨S_, .f32⟩
  | .hbm, ⟨10, _⟩ => ⟨S16896x64, .f32⟩
  | .hbm, ⟨11, _⟩ => ⟨S16896x64x1, .f32⟩
  | .hbm, ⟨12, _⟩ => ⟨S_, .f32⟩
  | .hbm, ⟨13, _⟩ => ⟨S16896x64x1, .f32⟩
  | .hbm, ⟨14, _⟩ => ⟨S16896x64x1, .f32⟩
  | .hbm, ⟨15, _⟩ => ⟨S_, .f32⟩
  | .hbm, ⟨16, _⟩ => ⟨S16896x64x1, .f32⟩
  | .hbm, ⟨17, _⟩ => ⟨S16896x64x1, .f32⟩
  | .hbm, ⟨18, _⟩ => ⟨S16896x64x1, .f32⟩
  | .hbm, ⟨19, _⟩ => ⟨S16896x64x64, .f32⟩
  | .hbm, ⟨20, _⟩ => ⟨S16896x64x64, .f32⟩
  | .hbm, ⟨21, _⟩ => ⟨S1x1x64, .f32⟩
  | .hbm, ⟨22, _⟩ => ⟨S16896x64x64, .f32⟩
  | .hbm, ⟨23, _⟩ => ⟨S16896x64x64, .f32⟩
  | .hbm, ⟨24, _⟩ => ⟨S16896x64x2x2x16, .f32⟩
  | .hbm, ⟨25, _⟩ => ⟨S16896x64x2x1x16, .f32⟩
  | .hbm, ⟨26, _⟩ => ⟨S16896x64x2x16, .f32⟩
  | .hbm, ⟨27, _⟩ => ⟨S16896x64x2x1x16, .f32⟩
  | .hbm, ⟨28, _⟩ => ⟨S16896x64x2x16, .f32⟩
  | .hbm, ⟨29, _⟩ => ⟨S16896x1x2x16, .f32⟩
  | .hbm, ⟨30, _⟩ => ⟨S16896x1x2x16, .f32⟩
  | .hbm, ⟨31, _⟩ => ⟨S16896x64x2x16, .f32⟩
  | .hbm, ⟨32, _⟩ => ⟨S16896x64x2x16, .f32⟩
  | .hbm, ⟨33, _⟩ => ⟨S16896x64x2x16, .f32⟩
  | .hbm, ⟨34, _⟩ => ⟨S16896x64x2x16, .f32⟩
  | .hbm, ⟨35, _⟩ => ⟨S16896x64x2x16, .f32⟩
  | .hbm, ⟨36, _⟩ => ⟨S16896x64x2x16, .f32⟩
  | .hbm, ⟨37, _⟩ => ⟨S16896x64x2x16, .f32⟩
  | .hbm, ⟨38, _⟩ => ⟨S16896x64x2x16, .f32⟩
  | .hbm, ⟨39, _⟩ => ⟨S16896x64x2x16, .f32⟩
  | .hbm, ⟨40, _⟩ => ⟨S16896x64x2x16, .f32⟩
  | .hbm, ⟨41, _⟩ => ⟨S16896x64x1x2x16, .f32⟩
  | .hbm, ⟨42, _⟩ => ⟨S16896x64x1x2x16, .f32⟩
  | .hbm, ⟨43, _⟩ => ⟨S16896x64x2x2x16, .f32⟩
  | .hbm, ⟨44, _⟩ => ⟨S16896x4096, .f32⟩
  | .hbm, ⟨45, _⟩ => ⟨S4096x16896, .f32⟩
  | .hbm, ⟨46, _⟩ => ⟨S4096x16896, .bf16⟩
  | _, _ => ⟨S16896x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩

abbrev nD : Nat := 1
abbrev τ : Topo := Topo.v7x

variable {F : FTy → Type} [FloatOps F]
-- ==== WinK.lean ====
abbrev S16896x4096 : Shape := ⟨2, ![16896, 4096]⟩
abbrev S4096x5120 : Shape := ⟨2, ![4096, 5120]⟩
abbrev S64 : Shape := ⟨1, ![64]⟩
abbrev S16896x2x16 : Shape := ⟨3, ![16896, 2, 16]⟩
abbrev S4096x512 : Shape := ⟨2, ![4096, 512]⟩
abbrev S4096x16896 : Shape := ⟨2, ![4096, 16896]⟩
abbrev S512x4096 : Shape := ⟨2, ![512, 4096]⟩
abbrev S8x64x4096 : Shape := ⟨3, ![8, 64, 4096]⟩
abbrev S_ : Shape := ⟨0, ![]⟩
abbrev S64x1 : Shape := ⟨2, ![64, 1]⟩
abbrev S16896x32 : Shape := ⟨2, ![16896, 32]⟩
abbrev S32x16896 : Shape := ⟨2, ![32, 16896]⟩
abbrev S1x64 : Shape := ⟨2, ![1, 64]⟩
abbrev S8x64 : Shape := ⟨2, ![8, 64]⟩
abbrev S512 : Shape := ⟨1, ![512]⟩
abbrev S512x1 : Shape := ⟨2, ![512, 1]⟩
abbrev S512x128 : Shape := ⟨2, ![512, 128]⟩
abbrev S512x16896 : Shape := ⟨2, ![512, 16896]⟩
abbrev S4096x768 : Shape := ⟨2, ![4096, 768]⟩
abbrev S32x768 : Shape := ⟨2, ![32, 768]⟩
abbrev S512x768 : Shape := ⟨2, ![512, 768]⟩
abbrev S64x768 : Shape := ⟨2, ![64, 768]⟩
abbrev S768 : Shape := ⟨1, ![768]⟩
abbrev S1x768 : Shape := ⟨2, ![1, 768]⟩
abbrev S64x128 : Shape := ⟨2, ![64, 128]⟩

abbrev nBuf : Space → Nat
  | .hbm => 37
  | .vmem => 10
  | .smem => 0
  | _ => 0

abbrev bufTy : (tb : Table) → Fin (tcTables nBuf tb) → BufTy
  | .hbm, ⟨0, _⟩ => ⟨S16896x4096, .f32⟩
  | .hbm, ⟨1, _⟩ => ⟨S4096x5120, .f32⟩
  | .hbm, ⟨2, _⟩ => ⟨S64, .f32⟩
  | .hbm, ⟨3, _⟩ => ⟨S16896x2x16, .f32⟩
  | .hbm, ⟨4, _⟩ => ⟨S16896x2x16, .f32⟩
  | .hbm, ⟨5, _⟩ => ⟨S64, .i32⟩
  | .hbm, ⟨6, _⟩ => ⟨S64, .i1⟩
  | .hbm, ⟨7, _⟩ => ⟨S64, .i1⟩
  | .hbm, ⟨8, _⟩ => ⟨S4096x512, .f32⟩
  | .hbm, ⟨9, _⟩ => ⟨S4096x16896, .f32⟩
  | .hbm, ⟨10, _⟩ => ⟨S4096x16896, .bf16⟩
  | .hbm, ⟨11, _⟩ => ⟨S512x4096, .f32⟩
  | .hbm, ⟨12, _⟩ => ⟨S8x64x4096, .f32⟩
  | .hbm, ⟨13, _⟩ => ⟨S_, .i32⟩
  | .hbm, ⟨14, _⟩ => ⟨S64, .i32⟩
  | .hbm, ⟨15, _⟩ => ⟨S64, .i32⟩
  | .hbm, ⟨16, _⟩ => ⟨S64, .i32⟩
  | .hbm, ⟨17, _⟩ => ⟨S64x1, .i32⟩
  | .hbm, ⟨18, _⟩ => ⟨S8x64x4096, .f32⟩
  | .hbm, ⟨19, _⟩ => ⟨S512x4096, .f32⟩
  | .hbm, ⟨20, _⟩ => ⟨S512x4096, .bf16⟩
  | .hbm, ⟨21, _⟩ => ⟨S16896x32, .f32⟩
  | .hbm, ⟨22, _⟩ => ⟨S32x16896, .f32⟩
  | .hbm, ⟨23, _⟩ => ⟨S16896x32, .f32⟩
  | .hbm, ⟨24, _⟩ => ⟨S32x16896, .f32⟩
  | .hbm, ⟨25, _⟩ => ⟨S_, .i32⟩
  | .hbm, ⟨26, _⟩ => ⟨S64, .i32⟩
  | .hbm, ⟨27, _⟩ => ⟨S64, .i32⟩
  | .hbm, ⟨28, _⟩ => ⟨S64, .i32⟩
  | .hbm, ⟨29, _⟩ => ⟨S64x1, .i32⟩
  | .hbm, ⟨30, _⟩ => ⟨S64, .f32⟩
  | .hbm, ⟨31, _⟩ => ⟨S1x64, .f32⟩
  | .hbm, ⟨32, _⟩ => ⟨S8x64, .f32⟩
  | .hbm, ⟨33, _⟩ => ⟨S512, .f32⟩
  | .hbm, ⟨34, _⟩ => ⟨S512x1, .f32⟩
  | .hbm, ⟨35, _⟩ => ⟨S512x128, .f32⟩
  | .hbm, ⟨36, _⟩ => ⟨S512x16896, .bf16⟩
  | .local _ .vmem, ⟨0, _⟩ => ⟨S512x4096, .bf16⟩
  | .local _ .vmem, ⟨1, _⟩ => ⟨S4096x768, .bf16⟩
  | .local _ .vmem, ⟨2, _⟩ => ⟨S4096x768, .bf16⟩
  | .local _ .vmem, ⟨3, _⟩ => ⟨S512x128, .f32⟩
  | .local _ .vmem, ⟨4, _⟩ => ⟨S32x768, .f32⟩
  | .local _ .vmem, ⟨5, _⟩ => ⟨S32x768, .f32⟩
  | .local _ .vmem, ⟨6, _⟩ => ⟨S32x768, .f32⟩
  | .local _ .vmem, ⟨7, _⟩ => ⟨S32x768, .f32⟩
  | .local _ .vmem, ⟨8, _⟩ => ⟨S512x768, .bf16⟩
  | .local _ .vmem, ⟨9, _⟩ => ⟨S512x768, .bf16⟩
  | _, _ => ⟨S16896x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c_2 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![22, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S512x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S32x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S32x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== WinKRefIdeal.lean ====
abbrev S16896x4096 : Shape := ⟨2, ![16896, 4096]⟩
abbrev S4096x5120 : Shape := ⟨2, ![4096, 5120]⟩
abbrev S64 : Shape := ⟨1, ![64]⟩
abbrev S16896x2x16 : Shape := ⟨3, ![16896, 2, 16]⟩
abbrev S16896x5120 : Shape := ⟨2, ![16896, 5120]⟩
abbrev S16896x512 : Shape := ⟨2, ![16896, 512]⟩
abbrev S16896x8x64 : Shape := ⟨3, ![16896, 8, 64]⟩
abbrev S_ : Shape := ⟨0, ![]⟩
abbrev S16896x8 : Shape := ⟨2, ![16896, 8]⟩
abbrev S16896x8x1 : Shape := ⟨3, ![16896, 8, 1]⟩
abbrev S1x1x64 : Shape := ⟨3, ![1, 1, 64]⟩
abbrev S16896x8x2x2x16 : Shape := ⟨5, ![16896, 8, 2, 2, 16]⟩
abbrev S16896x8x2x1x16 : Shape := ⟨5, ![16896, 8, 2, 1, 16]⟩
abbrev S16896x8x2x16 : Shape := ⟨4, ![16896, 8, 2, 16]⟩
abbrev S16896x1x2x16 : Shape := ⟨4, ![16896, 1, 2, 16]⟩
abbrev S16896x8x1x2x16 : Shape := ⟨5, ![16896, 8, 1, 2, 16]⟩
abbrev S512x16896 : Shape := ⟨2, ![512, 16896]⟩

abbrev nBuf : Space → Nat
  | .hbm => 47
  | .vmem => 0
  | .smem => 0
  | _ => 0

abbrev bufTy : (tb : Table) → Fin (tcTables nBuf tb) → BufTy
  | .hbm, ⟨0, _⟩ => ⟨S16896x4096, .f32⟩
  | .hbm, ⟨1, _⟩ => ⟨S4096x5120, .f32⟩
  | .hbm, ⟨2, _⟩ => ⟨S64, .f32⟩
  | .hbm, ⟨3, _⟩ => ⟨S16896x2x16, .f32⟩
  | .hbm, ⟨4, _⟩ => ⟨S16896x2x16, .f32⟩
  | .hbm, ⟨5, _⟩ => ⟨S16896x5120, .f32⟩
  | .hbm, ⟨6, _⟩ => ⟨S16896x512, .f32⟩
  | .hbm, ⟨7, _⟩ => ⟨S16896x8x64, .f32⟩
  | .hbm, ⟨8, _⟩ => ⟨S16896x8x64, .f32⟩
  | .hbm, ⟨9, _⟩ => ⟨S_, .f32⟩
  | .hbm, ⟨10, _⟩ => ⟨S16896x8, .f32⟩
  | .hbm, ⟨11, _⟩ => ⟨S16896x8x1, .f32⟩
  | .hbm, ⟨12, _⟩ => ⟨S_, .f32⟩
  | .hbm, ⟨13, _⟩ => ⟨S16896x8x1, .f32⟩
  | .hbm, ⟨14, _⟩ => ⟨S16896x8x1, .f32⟩
  | .hbm, ⟨15, _⟩ => ⟨S_, .f32⟩
  | .hbm, ⟨16, _⟩ => ⟨S16896x8x1, .f32⟩
  | .hbm, ⟨17, _⟩ => ⟨S16896x8x1, .f32⟩
  | .hbm, ⟨18, _⟩ => ⟨S16896x8x1, .f32⟩
  | .hbm, ⟨19, _⟩ => ⟨S16896x8x64, .f32⟩
  | .hbm, ⟨20, _⟩ => ⟨S16896x8x64, .f32⟩
  | .hbm, ⟨21, _⟩ => ⟨S1x1x64, .f32⟩
  | .hbm, ⟨22, _⟩ => ⟨S16896x8x64, .f32⟩
  | .hbm, ⟨23, _⟩ => ⟨S16896x8x64, .f32⟩
  | .hbm, ⟨24, _⟩ => ⟨S16896x8x2x2x16, .f32⟩
  | .hbm, ⟨25, _⟩ => ⟨S16896x8x2x1x16, .f32⟩
  | .hbm, ⟨26, _⟩ => ⟨S16896x8x2x16, .f32⟩
  | .hbm, ⟨27, _⟩ => ⟨S16896x8x2x1x16, .f32⟩
  | .hbm, ⟨28, _⟩ => ⟨S16896x8x2x16, .f32⟩
  | .hbm, ⟨29, _⟩ => ⟨S16896x1x2x16, .f32⟩
  | .hbm, ⟨30, _⟩ => ⟨S16896x1x2x16, .f32⟩
  | .hbm, ⟨31, _⟩ => ⟨S16896x8x2x16, .f32⟩
  | .hbm, ⟨32, _⟩ => ⟨S16896x8x2x16, .f32⟩
  | .hbm, ⟨33, _⟩ => ⟨S16896x8x2x16, .f32⟩
  | .hbm, ⟨34, _⟩ => ⟨S16896x8x2x16, .f32⟩
  | .hbm, ⟨35, _⟩ => ⟨S16896x8x2x16, .f32⟩
  | .hbm, ⟨36, _⟩ => ⟨S16896x8x2x16, .f32⟩
  | .hbm, ⟨37, _⟩ => ⟨S16896x8x2x16, .f32⟩
  | .hbm, ⟨38, _⟩ => ⟨S16896x8x2x16, .f32⟩
  | .hbm, ⟨39, _⟩ => ⟨S16896x8x2x16, .f32⟩
  | .hbm, ⟨40, _⟩ => ⟨S16896x8x2x16, .f32⟩
  | .hbm, ⟨41, _⟩ => ⟨S16896x8x1x2x16, .f32⟩
  | .hbm, ⟨42, _⟩ => ⟨S16896x8x1x2x16, .f32⟩
  | .hbm, ⟨43, _⟩ => ⟨S16896x8x2x2x16, .f32⟩
  | .hbm, ⟨44, _⟩ => ⟨S16896x512, .f32⟩
  | .hbm, ⟨45, _⟩ => ⟨S512x16896, .f32⟩
  | .hbm, ⟨46, _⟩ => ⟨S512x16896, .bf16⟩
  | _, _ => ⟨S16896x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩

abbrev nD : Nat := 1
abbrev τ : Topo := Topo.v7x

variable {F : FTy → Type} [FloatOps F]
-- ==== WinV.lean ====
abbrev S16896x4096 : Shape := ⟨2, ![16896, 4096]⟩
abbrev S4096x5120 : Shape := ⟨2, ![4096, 5120]⟩
abbrev S4096x16896 : Shape := ⟨2, ![4096, 16896]⟩
abbrev S4096x512 : Shape := ⟨2, ![4096, 512]⟩
abbrev S512x4096 : Shape := ⟨2, ![512, 4096]⟩
abbrev S512x16896 : Shape := ⟨2, ![512, 16896]⟩
abbrev S4096x768 : Shape := ⟨2, ![4096, 768]⟩
abbrev S512x768 : Shape := ⟨2, ![512, 768]⟩

abbrev nBuf : Space → Nat
  | .hbm => 8
  | .vmem => 5
  | .smem => 0
  | _ => 0

abbrev bufTy : (tb : Table) → Fin (tcTables nBuf tb) → BufTy
  | .hbm, ⟨0, _⟩ => ⟨S16896x4096, .f32⟩
  | .hbm, ⟨1, _⟩ => ⟨S4096x5120, .f32⟩
  | .hbm, ⟨2, _⟩ => ⟨S4096x16896, .f32⟩
  | .hbm, ⟨3, _⟩ => ⟨S4096x16896, .bf16⟩
  | .hbm, ⟨4, _⟩ => ⟨S4096x512, .f32⟩
  | .hbm, ⟨5, _⟩ => ⟨S512x4096, .f32⟩
  | .hbm, ⟨6, _⟩ => ⟨S512x4096, .bf16⟩
  | .hbm, ⟨7, _⟩ => ⟨S512x16896, .bf16⟩
  | .local _ .vmem, ⟨0, _⟩ => ⟨S512x4096, .bf16⟩
  | .local _ .vmem, ⟨1, _⟩ => ⟨S4096x768, .bf16⟩
  | .local _ .vmem, ⟨2, _⟩ => ⟨S4096x768, .bf16⟩
  | .local _ .vmem, ⟨3, _⟩ => ⟨S512x768, .bf16⟩
  | .local _ .vmem, ⟨4, _⟩ => ⟨S512x768, .bf16⟩
  | _, _ => ⟨S16896x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== WinVRefIdeal.lean ====
abbrev S16896x4096 : Shape := ⟨2, ![16896, 4096]⟩
abbrev S4096x5120 : Shape := ⟨2, ![4096, 5120]⟩
abbrev S16896x5120 : Shape := ⟨2, ![16896, 5120]⟩
abbrev S16896x512 : Shape := ⟨2, ![16896, 512]⟩
abbrev S512x16896 : Shape := ⟨2, ![512, 16896]⟩

abbrev nBuf : Space → Nat
  | .hbm => 6
  | .vmem => 0
  | .smem => 0
  | _ => 0

abbrev bufTy : (tb : Table) → Fin (tcTables nBuf tb) → BufTy
  | .hbm, ⟨0, _⟩ => ⟨S16896x4096, .f32⟩
  | .hbm, ⟨1, _⟩ => ⟨S4096x5120, .f32⟩
  | .hbm, ⟨2, _⟩ => ⟨S16896x5120, .f32⟩
  | .hbm, ⟨3, _⟩ => ⟨S16896x512, .f32⟩
  | .hbm, ⟨4, _⟩ => ⟨S512x16896, .f32⟩
  | .hbm, ⟨5, _⟩ => ⟨S512x16896, .bf16⟩
  | _, _ => ⟨S16896x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Modulate.lean ====
abbrev S16896x4096 : Shape := ⟨2, ![16896, 4096]⟩
abbrev S4096 : Shape := ⟨1, ![4096]⟩
abbrev S2x4096 : Shape := ⟨2, ![2, 4096]⟩
abbrev S1x2x4096 : Shape := ⟨3, ![1, 2, 4096]⟩
abbrev S2x2x4096 : Shape := ⟨3, ![2, 2, 4096]⟩
abbrev S1x4096 : Shape := ⟨2, ![1, 4096]⟩
abbrev S4096x16896 : Shape := ⟨2, ![4096, 16896]⟩
abbrev S256x4096 : Shape := ⟨2, ![256, 4096]⟩
abbrev S4096x256 : Shape := ⟨2, ![4096, 256]⟩
abbrev S256 : Shape := ⟨1, ![256]⟩
abbrev S256x1 : Shape := ⟨2, ![256, 1]⟩
abbrev S1x1x4096 : Shape := ⟨3, ![1, 1, 4096]⟩

abbrev nBuf : Space → Nat
  | .hbm => 9
  | .vmem => 7
  | .smem => 0
  | _ => 0

abbrev bufTy : (tb : Table) → Fin (tcTables nBuf tb) → BufTy
  | .hbm, ⟨0, _⟩ => ⟨S16896x4096, .f32⟩
  | .hbm, ⟨1, _⟩ => ⟨S4096, .f32⟩
  | .hbm, ⟨2, _⟩ => ⟨S2x4096, .f32⟩
  | .hbm, ⟨3, _⟩ => ⟨S2x4096, .f32⟩
  | .hbm, ⟨4, _⟩ => ⟨S1x2x4096, .f32⟩
  | .hbm, ⟨5, _⟩ => ⟨S1x2x4096, .f32⟩
  | .hbm, ⟨6, _⟩ => ⟨S2x2x4096, .f32⟩
  | .hbm, ⟨7, _⟩ => ⟨S1x4096, .f32⟩
  | .hbm, ⟨8, _⟩ => ⟨S4096x16896, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x2x4096, .f32⟩
  | .local _ .vmem, ⟨4, _⟩ => ⟨S1x2x4096, .f32⟩
  | .local _ .vmem, ⟨5, _⟩ => ⟨S4096x256, .bf16⟩
  | .local _ .vmem, ⟨6, _⟩ => ⟨S4096x256, .bf16⟩
  | _, _ => ⟨S16896x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let v0 : BitVec 1 := Scalar.cmpi .slt arg0 c1_i32
  let c0_i32 : BitVec 32 := 0#32
  let c1_i32_0 : BitVec 32 := 1#32
  let v1 : BitVec 32 := Scalar.select v0 c0_i32 c1_i32_0
  let c0_i32_1 : BitVec 32 := 0#32
  let c0_i32_2 : BitVec 32 := 0#32
  let c0_i32_3 : BitVec 32 := 0#32
  ![v1.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x2x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModulateRefIdeal.lean ====
abbrev S16896x4096 : Shape := ⟨2, ![16896, 4096]⟩
abbrev S4096 : Shape := ⟨1, ![4096]⟩
abbrev S2x4096 : Shape := ⟨2, ![2, 4096]⟩
abbrev S256x4096 : Shape := ⟨2, ![256, 4096]⟩
abbrev S1x4096 : Shape := ⟨2, ![1, 4096]⟩
abbrev S_ : Shape := ⟨0, ![]⟩
abbrev S256 : Shape := ⟨1, ![256]⟩
abbrev S256x1 : Shape := ⟨2, ![256, 1]⟩
abbrev S16640x4096 : Shape := ⟨2, ![16640, 4096]⟩
abbrev S16640 : Shape := ⟨1, ![16640]⟩
abbrev S16640x1 : Shape := ⟨2, ![16640, 1]⟩
abbrev S4096x16896 : Shape := ⟨2, ![4096, 16896]⟩

abbrev nBuf : Space → Nat
  | .hbm => 67
  | .vmem => 0
  | .smem => 0
  | _ => 0

abbrev bufTy : (tb : Table) → Fin (tcTables nBuf tb) → BufTy
  | .hbm, ⟨0, _⟩ => ⟨S16896x4096, .f32⟩
  | .hbm, ⟨1, _⟩ => ⟨S4096, .f32⟩
  | .hbm, ⟨2, _⟩ => ⟨S2x4096, .f32⟩
  | .hbm, ⟨3, _⟩ => ⟨S2x4096, .f32⟩
  | .hbm, ⟨4, _⟩ => ⟨S256x4096, .f32⟩
  | .hbm, ⟨5, _⟩ => ⟨S1x4096, .f32⟩
  | .hbm, ⟨6, _⟩ => ⟨S4096, .f32⟩
  | .hbm, ⟨7, _⟩ => ⟨S1x4096, .f32⟩
  | .hbm, ⟨8, _⟩ => ⟨S4096, .f32⟩
  | .hbm, ⟨9, _⟩ => ⟨S256x4096, .f32⟩
  | .hbm, ⟨10, _⟩ => ⟨S_, .f32⟩
  | .hbm, ⟨11, _⟩ => ⟨S256, .f32⟩
  | .hbm, ⟨12, _⟩ => ⟨S256x1, .f32⟩
  | .hbm, ⟨13, _⟩ => ⟨S_, .f32⟩
  | .hbm, ⟨14, _⟩ => ⟨S256x1, .f32⟩
  | .hbm, ⟨15, _⟩ => ⟨S256x1, .f32⟩
  | .hbm, ⟨16, _⟩ => ⟨S_, .f32⟩
  | .hbm, ⟨17, _⟩ => ⟨S256x1, .f32⟩
  | .hbm, ⟨18, _⟩ => ⟨S256x1, .f32⟩
  | .hbm, ⟨19, _⟩ => ⟨S256x1, .f32⟩
  | .hbm, ⟨20, _⟩ => ⟨S256x4096, .f32⟩
  | .hbm, ⟨21, _⟩ => ⟨S256x4096, .f32⟩
  | .hbm, ⟨22, _⟩ => ⟨S1x4096, .f32⟩
  | .hbm, ⟨23, _⟩ => ⟨S256x4096, .f32⟩
  | .hbm, ⟨24, _⟩ => ⟨S256x4096, .f32⟩
  | .hbm, ⟨25, _⟩ => ⟨S_, .f32⟩
  | .hbm, ⟨26, _⟩ => ⟨S4096, .f32⟩
  | .hbm, ⟨27, _⟩ => ⟨S4096, .f32⟩
  | .hbm, ⟨28, _⟩ => ⟨S1x4096, .f32⟩
  | .hbm, ⟨29, _⟩ => ⟨S256x4096, .f32⟩
  | .hbm, ⟨30, _⟩ => ⟨S256x4096, .f32⟩
  | .hbm, ⟨31, _⟩ => ⟨S1x4096, .f32⟩
  | .hbm, ⟨32, _⟩ => ⟨S256x4096, .f32⟩
  | .hbm, ⟨33, _⟩ => ⟨S256x4096, .f32⟩
  | .hbm, ⟨34, _⟩ => ⟨S16640x4096, .f32⟩
  | .hbm, ⟨35, _⟩ => ⟨S1x4096, .f32⟩
  | .hbm, ⟨36, _⟩ => ⟨S4096, .f32⟩
  | .hbm, ⟨37, _⟩ => ⟨S1x4096, .f32⟩
  | .hbm, ⟨38, _⟩ => ⟨S4096, .f32⟩
  | .hbm, ⟨39, _⟩ => ⟨S16640x4096, .f32⟩
  | .hbm, ⟨40, _⟩ => ⟨S_, .f32⟩
  | .hbm, ⟨41, _⟩ => ⟨S16640, .f32⟩
  | .hbm, ⟨42, _⟩ => ⟨S16640x1, .f32⟩
  | .hbm, ⟨43, _⟩ => ⟨S_, .f32⟩
  | .hbm, ⟨44, _⟩ => ⟨S16640x1, .f32⟩
  | .hbm, ⟨45, _⟩ => ⟨S16640x1, .f32⟩
  | .hbm, ⟨46, _⟩ => ⟨S_, .f32⟩
  | .hbm, ⟨47, _⟩ => ⟨S16640x1, .f32⟩
  | .hbm, ⟨48, _⟩ => ⟨S16640x1, .f32⟩
  | .hbm, ⟨49, _⟩ => ⟨S16640x1, .f32⟩
  | .hbm, ⟨50, _⟩ => ⟨S16640x4096, .f32⟩
  | .hbm, ⟨51, _⟩ => ⟨S16640x4096, .f32⟩
  | .hbm, ⟨52, _⟩ => ⟨S1x4096, .f32⟩
  | .hbm, ⟨53, _⟩ => ⟨S16640x4096, .f32⟩
  | .hbm, ⟨54, _⟩ => ⟨S16640x4096, .f32⟩
  | .hbm, ⟨55, _⟩ => ⟨S_, .f32⟩
  | .hbm, ⟨56, _⟩ => ⟨S4096, .f32⟩
  | .hbm, ⟨57, _⟩ => ⟨S4096, .f32⟩
  | .hbm, ⟨58, _⟩ => ⟨S1x4096, .f32⟩
  | .hbm, ⟨59, _⟩ => ⟨S16640x4096, .f32⟩
  | .hbm, ⟨60, _⟩ => ⟨S16640x4096, .f32⟩
  | .hbm, ⟨61, _⟩ => ⟨S1x4096, .f32⟩
  | .hbm, ⟨62, _⟩ => ⟨S16640x4096, .f32⟩
  | .hbm, ⟨63, _⟩ => ⟨S16640x4096, .f32⟩
  | .hbm, ⟨64, _⟩ => ⟨S16896x4096, .f32⟩
  | .hbm, ⟨65, _⟩ => ⟨S4096x16896, .f32⟩
  | .hbm, ⟨66, _⟩ => ⟨S4096x16896, .bf16⟩
  | _, _ => ⟨S16896x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_3 : Ref sig .tc := ⟨.hbm, 40, rfl⟩
abbrev main_v32 : Ref sig .tc := ⟨.hbm, 41, rfl⟩
abbrev main_v33 : Ref sig .tc := ⟨.hbm, 42, rfl⟩
abbrev main_cst_4 : Ref sig .tc := ⟨.hbm, 43, rfl⟩
abbrev main_v34 : Ref sig .tc := ⟨.hbm, 44, rfl⟩
abbrev main_v35 : Ref sig .tc := ⟨.hbm, 45, rfl⟩
abbrev main_cst_5 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_6 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩

abbrev nD : Nat := 1
abbrev τ : Topo := Topo.v7x

variable {F : FTy → Type} [FloatOps F]
-- ==== ModulateRows.lean ====
abbrev S16896x4096 : Shape := ⟨2, ![16896, 4096]⟩
abbrev S4096 : Shape := ⟨1, ![4096]⟩
abbrev S2x4096 : Shape := ⟨2, ![2, 4096]⟩
abbrev S1x2x4096 : Shape := ⟨3, ![1, 2, 4096]⟩
abbrev S2x2x4096 : Shape := ⟨3, ![2, 2, 4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩
abbrev S1x1x4096 : Shape := ⟨3, ![1, 1, 4096]⟩

abbrev nBuf : Space → Nat
  | .hbm => 9
  | .vmem => 7
  | .smem => 0
  | _ => 0

abbrev bufTy : (tb : Table) → Fin (tcTables nBuf tb) → BufTy
  | .hbm, ⟨0, _⟩ => ⟨S16896x4096, .f32⟩
  | .hbm, ⟨1, _⟩ => ⟨S4096, .f32⟩
  | .hbm, ⟨2, _⟩ => ⟨S2x4096, .f32⟩
  | .hbm, ⟨3, _⟩ => ⟨S2x4096, .f32⟩
  | .hbm, ⟨4, _⟩ => ⟨S1x2x4096, .f32⟩
  | .hbm, ⟨5, _⟩ => ⟨S1x2x4096, .f32⟩
  | .hbm, ⟨6, _⟩ => ⟨S2x2x4096, .f32⟩
  | .hbm, ⟨7, _⟩ => ⟨S1x4096, .f32⟩
  | .hbm, ⟨8, _⟩ => ⟨S16896x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x2x4096, .f32⟩
  | .local _ .vmem, ⟨4, _⟩ => ⟨S1x2x4096, .f32⟩
  | .local _ .vmem, ⟨5, _⟩ => ⟨S256x4096, .bf16⟩
  | .local _ .vmem, ⟨6, _⟩ => ⟨S256x4096, .bf16⟩
  | _, _ => ⟨S16896x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let v0 : BitVec 1 := Scalar.cmpi .slt arg0 c1_i32
  let c0_i32 : BitVec 32 := 0#32
  let c1_i32_0 : BitVec 32 := 1#32
  let v1 : BitVec 32 := Scalar.select v0 c0_i32 c1_i32_0
  let c0_i32_1 : BitVec 32 := 0#32
  let c0_i32_2 : BitVec 32 := 0#32
  let c0_i32_3 : BitVec 32 := 0#32
  ![v1.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x2x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModulateRowsRefIdeal.lean ====
abbrev S16896x4096 : Shape := ⟨2, ![16896, 4096]⟩
abbrev S4096 : Shape := ⟨1, ![4096]⟩
abbrev S2x4096 : Shape := ⟨2, ![2, 4096]⟩
abbrev S256x4096 : Shape := ⟨2, ![256, 4096]⟩
abbrev S1x4096 : Shape := ⟨2, ![1, 4096]⟩
abbrev S_ : Shape := ⟨0, ![]⟩
abbrev S256 : Shape := ⟨1, ![256]⟩
abbrev S256x1 : Shape := ⟨2, ![256, 1]⟩
abbrev S16640x4096 : Shape := ⟨2, ![16640, 4096]⟩
abbrev S16640 : Shape := ⟨1, ![16640]⟩
abbrev S16640x1 : Shape := ⟨2, ![16640, 1]⟩

abbrev nBuf : Space → Nat
  | .hbm => 66
  | .vmem => 0
  | .smem => 0
  | _ => 0

abbrev bufTy : (tb : Table) → Fin (tcTables nBuf tb) → BufTy
  | .hbm, ⟨0, _⟩ => ⟨S16896x4096, .f32⟩
  | .hbm, ⟨1, _⟩ => ⟨S4096, .f32⟩
  | .hbm, ⟨2, _⟩ => ⟨S2x4096, .f32⟩
  | .hbm, ⟨3, _⟩ => ⟨S2x4096, .f32⟩
  | .hbm, ⟨4, _⟩ => ⟨S256x4096, .f32⟩
  | .hbm, ⟨5, _⟩ => ⟨S1x4096, .f32⟩
  | .hbm, ⟨6, _⟩ => ⟨S4096, .f32⟩
  | .hbm, ⟨7, _⟩ => ⟨S1x4096, .f32⟩
  | .hbm, ⟨8, _⟩ => ⟨S4096, .f32⟩
  | .hbm, ⟨9, _⟩ => ⟨S256x4096, .f32⟩
  | .hbm, ⟨10, _⟩ => ⟨S_, .f32⟩
  | .hbm, ⟨11, _⟩ => ⟨S256, .f32⟩
  | .hbm, ⟨12, _⟩ => ⟨S256x1, .f32⟩
  | .hbm, ⟨13, _⟩ => ⟨S_, .f32⟩
  | .hbm, ⟨14, _⟩ => ⟨S256x1, .f32⟩
  | .hbm, ⟨15, _⟩ => ⟨S256x1, .f32⟩
  | .hbm, ⟨16, _⟩ => ⟨S_, .f32⟩
  | .hbm, ⟨17, _⟩ => ⟨S256x1, .f32⟩
  | .hbm, ⟨18, _⟩ => ⟨S256x1, .f32⟩
  | .hbm, ⟨19, _⟩ => ⟨S256x1, .f32⟩
  | .hbm, ⟨20, _⟩ => ⟨S256x4096, .f32⟩
  | .hbm, ⟨21, _⟩ => ⟨S256x4096, .f32⟩
  | .hbm, ⟨22, _⟩ => ⟨S1x4096, .f32⟩
  | .hbm, ⟨23, _⟩ => ⟨S256x4096, .f32⟩
  | .hbm, ⟨24, _⟩ => ⟨S256x4096, .f32⟩
  | .hbm, ⟨25, _⟩ => ⟨S_, .f32⟩
  | .hbm, ⟨26, _⟩ => ⟨S4096, .f32⟩
  | .hbm, ⟨27, _⟩ => ⟨S4096, .f32⟩
  | .hbm, ⟨28, _⟩ => ⟨S1x4096, .f32⟩
  | .hbm, ⟨29, _⟩ => ⟨S256x4096, .f32⟩
  | .hbm, ⟨30, _⟩ => ⟨S256x4096, .f32⟩
  | .hbm, ⟨31, _⟩ => ⟨S1x4096, .f32⟩
  | .hbm, ⟨32, _⟩ => ⟨S256x4096, .f32⟩
  | .hbm, ⟨33, _⟩ => ⟨S256x4096, .f32⟩
  | .hbm, ⟨34, _⟩ => ⟨S16640x4096, .f32⟩
  | .hbm, ⟨35, _⟩ => ⟨S1x4096, .f32⟩
  | .hbm, ⟨36, _⟩ => ⟨S4096, .f32⟩
  | .hbm, ⟨37, _⟩ => ⟨S1x4096, .f32⟩
  | .hbm, ⟨38, _⟩ => ⟨S4096, .f32⟩
  | .hbm, ⟨39, _⟩ => ⟨S16640x4096, .f32⟩
  | .hbm, ⟨40, _⟩ => ⟨S_, .f32⟩
  | .hbm, ⟨41, _⟩ => ⟨S16640, .f32⟩
  | .hbm, ⟨42, _⟩ => ⟨S16640x1, .f32⟩
  | .hbm, ⟨43, _⟩ => ⟨S_, .f32⟩
  | .hbm, ⟨44, _⟩ => ⟨S16640x1, .f32⟩
  | .hbm, ⟨45, _⟩ => ⟨S16640x1, .f32⟩
  | .hbm, ⟨46, _⟩ => ⟨S_, .f32⟩
  | .hbm, ⟨47, _⟩ => ⟨S16640x1, .f32⟩
  | .hbm, ⟨48, _⟩ => ⟨S16640x1, .f32⟩
  | .hbm, ⟨49, _⟩ => ⟨S16640x1, .f32⟩
  | .hbm, ⟨50, _⟩ => ⟨S16640x4096, .f32⟩
  | .hbm, ⟨51, _⟩ => ⟨S16640x4096, .f32⟩
  | .hbm, ⟨52, _⟩ => ⟨S1x4096, .f32⟩
  | .hbm, ⟨53, _⟩ => ⟨S16640x4096, .f32⟩
  | .hbm, ⟨54, _⟩ => ⟨S16640x4096, .f32⟩
  | .hbm, ⟨55, _⟩ => ⟨S_, .f32⟩
  | .hbm, ⟨56, _⟩ => ⟨S4096, .f32⟩
  | .hbm, ⟨57, _⟩ => ⟨S4096, .f32⟩
  | .hbm, ⟨58, _⟩ => ⟨S1x4096, .f32⟩
  | .hbm, ⟨59, _⟩ => ⟨S16640x4096, .f32⟩
  | .hbm, ⟨60, _⟩ => ⟨S16640x4096, .f32⟩
  | .hbm, ⟨61, _⟩ => ⟨S1x4096, .f32⟩
  | .hbm, ⟨62, _⟩ => ⟨S16640x4096, .f32⟩
  | .hbm, ⟨63, _⟩ => ⟨S16640x4096, .f32⟩
  | .hbm, ⟨64, _⟩ => ⟨S16896x4096, .f32⟩
  | .hbm, ⟨65, _⟩ => ⟨S16896x4096, .bf16⟩
  | _, _ => ⟨S16896x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_3 : Ref sig .tc := ⟨.hbm, 40, rfl⟩
abbrev main_v32 : Ref sig .tc := ⟨.hbm, 41, rfl⟩
abbrev main_v33 : Ref sig .tc := ⟨.hbm, 42, rfl⟩
abbrev main_cst_4 : Ref sig .tc := ⟨.hbm, 43, rfl⟩
abbrev main_v34 : Ref sig .tc := ⟨.hbm, 44, rfl⟩
abbrev main_v35 : Ref sig .tc := ⟨.hbm, 45, rfl⟩
abbrev main_cst_5 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_6 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩

abbrev nD : Nat := 1
abbrev τ : Topo := Topo.v7x

variable {F : FTy → Type} [FloatOps F]
-- ==== Ada.lean ====
abbrev S2x4096 : Shape := ⟨2, ![2, 4096]⟩
abbrev S4x4096x24576 : Shape := ⟨3, ![4, 4096, 24576]⟩
abbrev S4x24576 : Shape := ⟨2, ![4, 24576]⟩
abbrev S2x4096x1 : Shape := ⟨3, ![2, 4096, 1]⟩
abbrev S2x4096x128 : Shape := ⟨3, ![2, 4096, 128]⟩
abbrev S4x1x24576 : Shape := ⟨3, ![4, 1, 24576]⟩
abbrev S4x2x24576 : Shape := ⟨3, ![4, 2, 24576]⟩
abbrev S1x4096x512 : Shape := ⟨3, ![1, 4096, 512]⟩
abbrev S1x1x512 : Shape := ⟨3, ![1, 1, 512]⟩
abbrev S1x2x512 : Shape := ⟨3, ![1, 2, 512]⟩
abbrev S4096x512 : Shape := ⟨2, ![4096, 512]⟩
abbrev S1x4096x128 : Shape := ⟨3, ![1, 4096, 128]⟩
abbrev S4096x128 : Shape := ⟨2, ![4096, 128]⟩
abbrev S512 : Shape := ⟨1, ![512]⟩
abbrev S1x512 : Shape := ⟨2, ![1, 512]⟩
abbrev S2x512 : Shape := ⟨2, ![2, 512]⟩

abbrev nBuf : Space → Nat
  | .hbm => 7
  | .vmem => 7
  | .smem => 0
  | _ => 0

abbrev bufTy : (tb : Table) → Fin (tcTables nBuf tb) → BufTy
  | .hbm, ⟨0, _⟩ => ⟨S2x4096, .f32⟩
  | .hbm, ⟨1, _⟩ => ⟨S4x4096x24576, .f32⟩
  | .hbm, ⟨2, _⟩ => ⟨S4x24576, .f32⟩
  | .hbm, ⟨3, _⟩ => ⟨S2x4096x1, .f32⟩
  | .hbm, ⟨4, _⟩ => ⟨S2x4096x128, .f32⟩
  | .hbm, ⟨5, _⟩ => ⟨S4x1x24576, .f32⟩
  | .hbm, ⟨6, _⟩ => ⟨S4x2x24576, .f32⟩
  | .local _ .vmem, ⟨0, _⟩ => ⟨S2x4096x128, .f32⟩
  | .local _ .vmem, ⟨1, _⟩ => ⟨S1x4096x512, .f32⟩
  | .local _ .vmem, ⟨2, _⟩ => ⟨S1x4096x512, .f32⟩
  | .local _ .vmem, ⟨3, _⟩ => ⟨S1x1x512, .f32⟩
  | .local _ .vmem, ⟨4, _⟩ => ⟨S1x1x512, .f32⟩
  | .local _ .vmem, ⟨5, _⟩ => ⟨S1x2x512, .f32⟩
  | .local _ .vmem, ⟨6, _⟩ => ⟨S1x2x512, .f32⟩
  | _, _ => ⟨S2x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 48], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S2x4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaRefIdeal.lean ====
abbrev S2x4096 : Shape := ⟨2, ![2, 4096]⟩
abbrev S4x4096x24576 : Shape := ⟨3, ![4, 4096, 24576]⟩
abbrev S4x24576 : Shape := ⟨2, ![4, 24576]⟩
abbrev S_ : Shape := ⟨0, ![]⟩
abbrev S2x4x24576 : Shape := ⟨3, ![2, 4, 24576]⟩
abbrev S4x2x24576 : Shape := ⟨3, ![4, 2, 24576]⟩
abbrev S4x1x24576 : Shape := ⟨3, ![4, 1, 24576]⟩

abbrev nBuf : Space → Nat
  | .hbm => 17
  | .vmem => 0
  | .smem => 0
  | _ => 0

abbrev bufTy : (tb : Table) → Fin (tcTables nBuf tb) → BufTy
  | .hbm, ⟨0, _⟩ => ⟨S2x4096, .f32⟩
  | .hbm, ⟨1, _⟩ => ⟨S4x4096x24576, .f32⟩
  | .hbm, ⟨2, _⟩ => ⟨S4x24576, .f32⟩
  | .hbm, ⟨3, _⟩ => ⟨S2x4096, .f32⟩
  | .hbm, ⟨4, _⟩ => ⟨S2x4096, .f32⟩
  | .hbm, ⟨5, _⟩ => ⟨S_, .f32⟩
  | .hbm, ⟨6, _⟩ => ⟨S2x4096, .f32⟩
  | .hbm, ⟨7, _⟩ => ⟨S2x4096, .f32⟩
  | .hbm, ⟨8, _⟩ => ⟨S_, .f32⟩
  | .hbm, ⟨9, _⟩ => ⟨S2x4096, .f32⟩
  | .hbm, ⟨10, _⟩ => ⟨S2x4096, .f32⟩
  | .hbm, ⟨11, _⟩ => ⟨S2x4096, .f32⟩
  | .hbm, ⟨12, _⟩ => ⟨S2x4x24576, .f32⟩
  | .hbm, ⟨13, _⟩ => ⟨S4x2x24576, .f32⟩
  | .hbm, ⟨14, _⟩ => ⟨S4x1x24576, .f32⟩
  | .hbm, ⟨15, _⟩ => ⟨S4x2x24576, .f32⟩
  | .hbm, ⟨16, _⟩ => ⟨S4x2x24576, .f32⟩
  | _, _ => ⟨S2x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Proof.KI.Body.lean ====
module

public import proofs.«01_k».proof.Proof.Gen.KernelIdeal.Frame
public import proofs.«01_k».proof.Proof.Gen.KernelIdeal.Loops
public import Idealize.ShloMosaic.Lib.Pipeline.Value
public import Idealize.ShloMosaic.Lib.VecWindow

/-! What one grid point of the attention call does to its buffers. -/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The four accumulators between key chunks: the running maximum, the maximum the sums are taken against, the sum of
    the weights and the weighted sum of the values. -/
structure St (F : FTy → Type) where
  m : FVec F S1x1024 .f32
  macc : FVec F S1x1024 .f32
  l : FVec F S1x1024 .f32
  acc : FVec F S128x1024 .f32

/-- Four query heads' blocks side by side, as the products take them. -/
def heads (x2 : Vec F S1x4x128x256 .bf16) : FVec F S128x1024 .bf16 :=
  k0_pay16 (View.ld x2 (Rect.unit (s := S1x4x128x256) ![0, 0, 0, 0] S1x1x128x256.size inb_S1x4x128x256_S1x1x128x256_0_0_0_0))
    (View.ld x2 (Rect.unit (s := S1x4x128x256) ![0, 1, 0, 0] S1x1x128x256.size inb_S1x4x128x256_S1x1x128x256_0_1_0_0))
    (View.ld x2 (Rect.unit (s := S1x4x128x256) ![0, 2, 0, 0] S1x1x128x256.size inb_S1x4x128x256_S1x1x128x256_0_2_0_0))
    (View.ld x2 (Rect.unit (s := S1x4x128x256) ![0, 3, 0, 0] S1x1x128x256.size inb_S1x4x128x256_S1x1x128x256_0_3_0_0))

/-- The accumulators before the first key. -/
def start (x7 : Vec F S1x1x1024 .f32) : St F := ⟨k0_pay20 x7, k0_pay21 x7, k0_pay23 k0_pay22, k0_pay24⟩

/-- The accumulators after the context keys. -/
def ctxStep (q : FVec F S128x1024 .bf16) (k v : Vec F S1x128x256 .bf16) (s : St F) : St F :=
  ⟨k0_pay34 (k0_pay26 q k s.m), k0_pay33 (k0_pay26 q k s.m), k0_pay29 q k s.m s.macc s.l,
    k0_pay32 (k0_pay30 q k s.m s.macc s.acc) (k0_pay31 q k v s.m)⟩

/-- One chunk of latent keys, its weights taken against the maximum of the chunks before it. -/
def earlierStep (q : FVec F S128x1024 .bf16) (k v : Vec F S1x128x4096 .bf16) (s : St F) : St F :=
  ⟨k0_pay37 s.m (k0_pay5 q k), k0_pay36 s.m, k0_pay8 q k s.m s.macc s.l, k0_pay9 q k v s.m s.macc s.acc⟩

/-- One chunk of latent keys, its weights taken against the maximum with its own scores. -/
def ownStep (q : FVec F S128x1024 .bf16) (k v : Vec F S1x128x4096 .bf16) (s : St F) : St F :=
  ⟨k0_pay40 (k0_pay11 q k s.m), k0_pay39 (k0_pay11 q k s.m), k0_pay14 q k s.m s.macc s.l,
    k0_pay38 (k0_pay15 q k v s.m s.macc s.acc)⟩

/-- Chunk `k` of the latent keys or values, as the first loop loads it. -/
def chunk2 (x : Vec F S1x128x16384 .bf16) (k : Fin k0_t2_loop.trips) : Vec F S1x128x4096 .bf16 :=
  View.ld x (Rect.unit (s := S1x128x16384) (k0_off2 k) S1x128x4096.size (k0_off2_inb k))

/-- Chunk `k` of the latent keys or values, as the second loop loads it. -/
def chunk3 (x : Vec F S1x128x16384 .bf16) (k : Fin k0_t3_loop.trips) : Vec F S1x128x4096 .bf16 :=
  View.ld x (Rect.unit (s := S1x128x16384) (k0_off3 k) S1x128x4096.size (k0_off3_inb k))

/-- The accumulators after `n` chunks of the first loop. -/
def earlierRun (q : FVec F S128x1024 .bf16) (x5 x6 : Vec F S1x128x16384 .bf16) (s : St F) : ℕ → St F
  | 0 => s
  | n + 1 => if h : n < k0_t2_loop.trips then earlierStep q (chunk2 x5 ⟨n, h⟩) (chunk2 x6 ⟨n, h⟩) (earlierRun q x5 x6 s n) else earlierRun q x5 x6 s n

/-- The accumulators after `n` chunks of the second loop. -/
def ownRun (q : FVec F S128x1024 .bf16) (x5 x6 : Vec F S1x128x16384 .bf16) (s : St F) : ℕ → St F
  | 0 => s
  | n + 1 => if h : n < k0_t3_loop.trips then ownStep q (chunk3 x5 ⟨n, h⟩) (chunk3 x6 ⟨n, h⟩) (ownRun q x5 x6 s n) else ownRun q x5 x6 s n

/-- The accumulators after all keys, by one loop or the other. -/
def final (b : Bool) (q : FVec F S128x1024 .bf16) (x5 x6 : Vec F S1x128x16384 .bf16) (s : St F) : St F :=
  match b with
  | true => earlierRun q x5 x6 s k0_t2_loop.trips
  | false => ownRun q x5 x6 s k0_t3_loop.trips

/-- A load of a whole row of lanes. -/
theorem ld_row (X : Vec F S1x1024 .f32) :
    View.ld X (Rect.unit (s := S1x1024) ![0, 0] ![1, 1024] inb_S1x1024_S1x1024_0_0) = X :=
  View.ld_unit_zero (S := S1x1024) (by funext a; fin_cases a <;> rfl) _ X

/-- A load of the whole weighted sum. -/
theorem ld_sum (X : Vec F S128x1024 .f32) :
    View.ld X (Rect.unit (s := S128x1024) ![0, 0] ![128, 1024] inb_S128x1024_S128x1024_0_0) = X :=
  View.ld_unit_zero (S := S128x1024) (by funext a; fin_cases a <;> rfl) _ X

/-- A store of a whole row of lanes leaves it. -/
theorem read_row (v : View sig .tc .vmem S1x1024 .f32) (f : v.ty.Contents (Elt F)) (w : Vec F S1x1024 .f32) (L : List (View.Piece (Elt F) S1x1024 .f32)) :
    v.read (Elt F) (v.writes (Elt F) f (⟨Rect.unit (s := S1x1024) ![0, 0] ![1, 1024] inb_S1x1024_S1x1024_0_0, w⟩ :: L)) = w :=
  View.read_writes_full (s := S1x1024) v f inb_S1x1024_S1x1024_0_0 w L

/-- A store of the whole weighted sum leaves it. -/
theorem read_sum (v : View sig .tc .vmem S128x1024 .f32) (f : v.ty.Contents (Elt F)) (w : Vec F S128x1024 .f32) (L : List (View.Piece (Elt F) S128x1024 .f32)) :
    v.read (Elt F) (v.writes (Elt F) f (⟨Rect.unit (s := S128x1024) ![0, 0] ![128, 1024] inb_S128x1024_S128x1024_0_0, w⟩ :: L)) = w :=
  View.read_writes_full (s := S128x1024) v f inb_S128x1024_S128x1024_0_0 w L

/-- A load of a whole row of lanes, off the buffer. -/
theorem readAt_row (v : View sig .tc .vmem S1x1024 .f32) (f : v.ty.Contents (Elt F)) :
    v.readAt (Elt F) (Rect.unit (s := S1x1024) ![0, 0] ![1, 1024] inb_S1x1024_S1x1024_0_0).toLoadRect f = v.read (Elt F) f :=
  View.readAt_full (s := S1x1024) v f inb_S1x1024_S1x1024_0_0

/-- A load of the whole weighted sum, off the buffer. -/
theorem readAt_sum (v : View sig .tc .vmem S128x1024 .f32) (f : v.ty.Contents (Elt F)) :
    v.readAt (Elt F) (Rect.unit (s := S128x1024) ![0, 0] ![128, 1024] inb_S128x1024_S128x1024_0_0).toLoadRect f = v.read (Elt F) f :=
  View.readAt_full (s := S128x1024) v f inb_S128x1024_S128x1024_0_0

/-- A load of a whole block of the context keys or values, off the buffer. -/
theorem readAt_ctx (v : View sig .tc .vmem S1x128x256 .bf16) (f : v.ty.Contents (Elt F)) :
    v.readAt (Elt F) (Rect.unit (s := S1x128x256) ![0, 0, 0] ![1, 128, 256] inb_S1x128x256_S1x128x256_0_0_0).toLoadRect f = v.read (Elt F) f :=
  View.readAt_full (s := S1x128x256) v f inb_S1x128x256_S1x128x256_0_0_0

/-- A load of the whole initial maximum, off the buffer. -/
theorem readAt_init (v : View sig .tc .vmem S1x1x1024 .f32) (f : v.ty.Contents (Elt F)) :
    v.readAt (Elt F) (Rect.unit (s := S1x1x1024) ![0, 0, 0] ![1, 1, 1024] inb_S1x1x1024_S1x1x1024_0_0_0).toLoadRect f = v.read (Elt F) f :=
  View.readAt_full (s := S1x1x1024) v f inb_S1x1x1024_S1x1x1024_0_0_0

section Parts

variable (c : Dev nD) (i : grid0.Coords)
  (arg2 : Memref sig .tc .vmem S1x4x128x256 .bf16) (harg2 : arg2.IsWhole)
  (arg3 : Memref sig .tc .vmem S1x128x256 .bf16) (harg3 : arg3.IsWhole)
  (arg4 : Memref sig .tc .vmem S1x128x256 .bf16) (harg4 : arg4.IsWhole)
  (arg5 : Memref sig .tc .vmem S1x128x16384 .bf16) (harg5 : arg5.IsWhole)
  (arg6 : Memref sig .tc .vmem S1x128x16384 .bf16) (harg6 : arg6.IsWhole)
  (arg7 : Memref sig .tc .vmem S1x1x1024 .f32) (harg7 : arg7.IsWhole)
  (arg8 : Memref sig .tc .vmem S1x4x128x256 .bf16) (harg8 : arg8.IsWhole)
  (arg9 : Memref sig .tc .vmem S1x1024 .f32) (harg9 : arg9.IsWhole)
  (arg10 : Memref sig .tc .vmem S1x1024 .f32) (harg10 : arg10.IsWhole)
  (arg11 : Memref sig .tc .vmem S1x1024 .f32) (harg11 : arg11.IsWhole)
  (arg12 : Memref sig .tc .vmem S128x1024 .f32) (harg12 : arg12.IsWhole)
  (arg13 : Memref sig .tc .vmem S1x1024 .f32) (harg13 : arg13.IsWhole)
  (x2 : Vec F S1x4x128x256 .bf16) (x3 x4 : Vec F S1x128x256 .bf16) (x5 x6 : Vec F S1x128x16384 .bf16) (x7 : Vec F S1x1x1024 .f32)

theorem part4_run (q : FVec F S128x1024 .bf16) (v22 v23 : FVec F S1x1024 .f32) (m0 a0 : FVec F S1x1024 .f32) :
    iprop(owns (c : Thread nD τ) arg3 fullShare x3 ∗ owns (c : Thread nD τ) arg4 fullShare x4
        ∗ owns (c : Thread nD τ) arg9 fullShare m0 ∗ owns (c : Thread nD τ) arg10 fullShare a0
        ∗ (∃ d, owns (c : Thread nD τ) arg11 fullShare d) ∗ (∃ d, owns (c : Thread nD τ) arg12 fullShare d))
      ⊢ wp (M := 𝕄) frame (wpE (defs₀ (F := F)) Variants.none c none) Set.univ
          (k0_part4 i arg2 harg2 arg3 harg3 arg4 harg4 arg5 harg5 arg6 harg6 arg7 harg7 arg8 harg8 arg9 harg9 arg10 harg10 arg11 harg11 arg12 harg12 arg13 harg13 q v22 v23)
          (fun r => iprop(⌜r = ⟨k0_pay26 q x3 m0, k0_pay30 q x3 m0 a0 (k0_pay24 (F := F)), k0_pay31 q x3 x4 m0⟩⌝
            ∗ owns (c : Thread nD τ) arg3 fullShare x3 ∗ owns (c : Thread nD τ) arg4 fullShare x4
            ∗ owns (c : Thread nD τ) arg9 fullShare m0 ∗ owns (c : Thread nD τ) arg10 fullShare a0
            ∗ owns (c : Thread nD τ) arg11 fullShare (k0_pay29 q x3 m0 a0 (k0_pay23 v22))
            ∗ owns (c : Thread nD τ) arg12 fullShare (k0_pay24 (F := F)))) := by
  simp only [k0_part4_eq_skeleton]; unfold k0_part4_skel
  unfold owns
  iintro ⟨⟨%f3, %h3, H3⟩, ⟨%f4, %h4, H4⟩, ⟨%f9, %h9, H9⟩, ⟨%f10, %h10, H10⟩, ⟨%d11, %f11, -, H11⟩, ⟨%d12, %f12, -, H12⟩⟩
  sl_exec
  sl_step
  sl_unfold_run_names
  subst h3 h4 h9 h10
  simp only [View.readCov, readAt_row, readAt_sum, readAt_ctx, read_row, read_sum]
  isplitr
  · ipureintro; trivial
  isplitl [H3]
  · iexists f3; isplitr; swap; · iexact H3
    ipureintro; rfl
  isplitl [H4]
  · iexists f4; isplitr; swap; · iexact H4
    ipureintro; rfl
  isplitl [H9]
  · iexists f9; isplitr; swap; · iexact H9
    ipureintro; rfl
  isplitl [H10]
  · iexists f10; isplitr; swap; · iexact H10
    ipureintro; rfl
  isplitl [H11]
  · iexists _; isplitr; swap; · iexact H11
    ipureintro; exact read_row _ _ _ _
  · iexists _; isplitr; swap; · iexact H12
    ipureintro; exact read_sum _ _ _ _

theorem part3_run :
    iprop(owns (c : Thread nD τ) arg2 fullShare x2 ∗ owns (c : Thread nD τ) arg3 fullShare x3
        ∗ owns (c : Thread nD τ) arg5 fullShare x5 ∗ owns (c : Thread nD τ) arg7 fullShare x7
        ∗ (∃ d, owns (c : Thread nD τ) arg9 fullShare d) ∗ (∃ d, owns (c : Thread nD τ) arg10 fullShare d)
        ∗ (∃ d, owns (c : Thread nD τ) arg11 fullShare d) ∗ (∃ d, owns (c : Thread nD τ) arg13 fullShare d))
      ⊢ wp (M := 𝕄) frame (wpE (defs₀ (F := F)) Variants.none c none) Set.univ
          (k0_part3 i arg2 harg2 arg3 harg3 arg4 harg4 arg5 harg5 arg6 harg6 arg7 harg7 arg8 harg8 arg9 harg9 arg10 harg10 arg11 harg11 arg12 harg12 arg13 harg13)
          (fun r => iprop(⌜∃ v23, r = ⟨heads x2, k0_pay22, v23⟩⌝
            ∗ owns (c : Thread nD τ) arg2 fullShare x2 ∗ owns (c : Thread nD τ) arg3 fullShare x3
            ∗ owns (c : Thread nD τ) arg5 fullShare x5 ∗ owns (c : Thread nD τ) arg7 fullShare x7
            ∗ owns (c : Thread nD τ) arg9 fullShare (start x7).m ∗ owns (c : Thread nD τ) arg10 fullShare (start x7).macc
            ∗ (∃ d, owns (c : Thread nD τ) arg11 fullShare d) ∗ (∃ d, owns (c : Thread nD τ) arg13 fullShare d))) := by
  simp only [k0_part3_eq_skeleton]; unfold k0_part3_skel
  unfold owns
  iintro ⟨⟨%f2, %h2, H2⟩, ⟨%f3, %h3, H3⟩, ⟨%f5, %h5, H5⟩, ⟨%f7, %h7, H7⟩, ⟨%d9, %f9, -, H9⟩, ⟨%d10, %f10, -, H10⟩,
    ⟨%d11, %f11, -, H11⟩, ⟨%d13, %f13, -, H13⟩⟩
  by_cases hc : k0_cond1 i = 1#1
  all_goals
    sl_exec (disch := sl_exact hc)
    sl_step
    sl_unfold_run_names
    subst h2 h3 h5 h7
    simp only [readAt_init]
    isplitr
    · ipureintro; exact ⟨_, rfl⟩
    isplitl [H2]
    · iexists f2; isplitr; swap; · iexact H2
      ipureintro; rfl
    isplitl [H3]
    · iexists f3; isplitr; swap; · iexact H3
      ipureintro; rfl
    isplitl [H5]
    · iexists f5; isplitr; swap; · iexact H5
      ipureintro; rfl
    isplitl [H7]
    · iexists f7; isplitr; swap; · iexact H7
      ipureintro; rfl
    isplitl [H9]
    · iexists _; isplitr; swap; · iexact H9
      ipureintro; exact read_row _ _ _ _
    isplitl [H10]
    · iexists _; isplitr; swap; · iexact H10
      ipureintro; exact read_row _ _ _ _
    isplitl [H11]
    · iexists _, _; isplitr; swap; · iexact H11
      ipureintro; rfl
    · iexists _, _; isplitr; swap; · iexact H13
      ipureintro; rfl

theorem reads_t2 (q : FVec F S128x1024 .bf16) (v38 : FVec F S1x1024 .f32) (v55 v57 : FVec F S128x1024 .f32)
    (f5 : BufTy.Contents (Elt F) arg5.view.ty) (f6 : BufTy.Contents (Elt F) arg6.view.ty)
    (g9 : BufTy.Contents (Elt F) arg9.view.ty) (g10 : BufTy.Contents (Elt F) arg10.view.ty)
    (g11 : BufTy.Contents (Elt F) arg11.view.ty) (g12 : BufTy.Contents (Elt F) arg12.view.ty) (n : ℕ) (hn : n ≤ k0_t2_loop.trips) :
    (⟨arg9.view.read (Elt F) (arg9.view.writes (Elt F) g9 (pb_k0_t2 (F := F) Variants.none c none i arg2 harg2 arg3 harg3 arg4 harg4 arg5 harg5 arg6 harg6 arg7 harg7 arg8 harg8 arg9 harg9 arg10 harg10 arg11 harg11 arg12 harg12 arg13 harg13 q v38 v55 v57 f5 f6 g9 g10 g11 g12 n).1),
      arg10.view.read (Elt F) (arg10.view.writes (Elt F) g10 (pb_k0_t2 (F := F) Variants.none c none i arg2 harg2 arg3 harg3 arg4 harg4 arg5 harg5 arg6 harg6 arg7 harg7 arg8 harg8 arg9 harg9 arg10 harg10 arg11 harg11 arg12 harg12 arg13 harg13 q v38 v55 v57 f5 f6 g9 g10 g11 g12 n).2.1),
      arg11.view.read (Elt F) (arg11.view.writes (Elt F) g11 (pb_k0_t2 (F := F) Variants.none c none i arg2 harg2 arg3 harg3 arg4 harg4 arg5 harg5 arg6 harg6 arg7 harg7 arg8 harg8 arg9 harg9 arg10 harg10 arg11 harg11 arg12 harg12 arg13 harg13 q v38 v55 v57 f5 f6 g9 g10 g11 g12 n).2.2.1),
      arg12.view.read (Elt F) (arg12.view.writes (Elt F) g12 (pb_k0_t2 (F := F) Variants.none c none i arg2 harg2 arg3 harg3 arg4 harg4 arg5 harg5 arg6 harg6 arg7 harg7 arg8 harg8 arg9 harg9 arg10 harg10 arg11 harg11 arg12 harg12 arg13 harg13 q v38 v55 v57 f5 f6 g9 g10 g11 g12 n).2.2.2)⟩ : St F)
      = earlierRun q (arg5.view.read (Elt F) f5) (arg6.view.read (Elt F) f6)
          ⟨arg9.view.read (Elt F) g9, arg10.view.read (Elt F) g10, arg11.view.read (Elt F) g11, arg12.view.read (Elt F) g12⟩ n := by
  induction n with
  | zero => rfl
  | succ n ih =>
    have ih := ih (by omega)
    have hs := pb_k0_t2_succ (F := F) Variants.none c none i arg2 harg2 arg3 harg3 arg4 harg4 arg5 harg5 arg6 harg6 arg7 harg7 arg8 harg8 arg9 harg9 arg10 harg10 arg11 harg11 arg12 harg12 arg13 harg13 q v38 v55 v57 f5 f6 g9 g10 g11 g12 ⟨n, hn⟩
    simp only at hs
    rw [hs]
    generalize pb_k0_t2 (F := F) Variants.none c none i arg2 harg2 arg3 harg3 arg4 harg4 arg5 harg5 arg6 harg6 arg7 harg7 arg8 harg8 arg9 harg9 arg10 harg10 arg11 harg11 arg12 harg12 arg13 harg13 q v38 v55 v57 f5 f6 g9 g10 g11 g12 n = L at ih ⊢
    rw [earlierRun, dif_pos (show n < k0_t2_loop.trips from hn), ← ih]
    simp only [View.writes_append]
    generalize arg9.view.writes (Elt F) g9 L.1 = e9
    generalize arg10.view.writes (Elt F) g10 L.2.1 = e10
    generalize arg11.view.writes (Elt F) g11 L.2.2.1 = e11
    generalize arg12.view.writes (Elt F) g12 L.2.2.2 = e12
    unfold trip_k0_t2
    sl_unfold_run_names
    simp only [View.readAt_full, View.readCov_full, View.read_writes_full, View.readAt_eq_ld]
    simp only [ld_row, ld_sum, read_row, read_sum]
    rfl

theorem reads_t3 (q : FVec F S128x1024 .bf16) (v38 : FVec F S1x1024 .f32) (v55 v57 : FVec F S128x1024 .f32)
    (f5 : BufTy.Contents (Elt F) arg5.view.ty) (f6 : BufTy.Contents (Elt F) arg6.view.ty)
    (g9 : BufTy.Contents (Elt F) arg9.view.ty) (g10 : BufTy.Contents (Elt F) arg10.view.ty)
    (g11 : BufTy.Contents (Elt F) arg11.view.ty) (g12 : BufTy.Contents (Elt F) arg12.view.ty) (n : ℕ) (hn : n ≤ k0_t3_loop.trips) :
    (⟨arg9.view.read (Elt F) (arg9.view.writes (Elt F) g9 (pb_k0_t3 (F := F) Variants.none c none i arg2 harg2 arg3 harg3 arg4 harg4 arg5 harg5 arg6 harg6 arg7 harg7 arg8 harg8 arg9 harg9 arg10 harg10 arg11 harg11 arg12 harg12 arg13 harg13 q v38 v55 v57 f5 f6 g9 g10 g11 g12 n).1),
      arg10.view.read (Elt F) (arg10.view.writes (Elt F) g10 (pb_k0_t3 (F := F) Variants.none c none i arg2 harg2 arg3 harg3 arg4 harg4 arg5 harg5 arg6 harg6 arg7 harg7 arg8 harg8 arg9 harg9 arg10 harg10 arg11 harg11 arg12 harg12 arg13 harg13 q v38 v55 v57 f5 f6 g9 g10 g11 g12 n).2.1),
      arg11.view.read (Elt F) (arg11.view.writes (Elt F) g11 (pb_k0_t3 (F := F) Variants.none c none i arg2 harg2 arg3 harg3 arg4 harg4 arg5 harg5 arg6 harg6 arg7 harg7 arg8 harg8 arg9 harg9 arg10 harg10 arg11 harg11 arg12 harg12 arg13 harg13 q v38 v55 v57 f5 f6 g9 g10 g11 g12 n).2.2.1),
      arg12.view.read (Elt F) (arg12.view.writes (Elt F) g12 (pb_k0_t3 (F := F) Variants.none c none i arg2 harg2 arg3 harg3 arg4 harg4 arg5 harg5 arg6 harg6 arg7 harg7 arg8 harg8 arg9 harg9 arg10 harg10 arg11 harg11 arg12 harg12 arg13 harg13 q v38 v55 v57 f5 f6 g9 g10 g11 g12 n).2.2.2)⟩ : St F)
      = ownRun q (arg5.view.read (Elt F) f5) (arg6.view.read (Elt F) f6)
          ⟨arg9.view.read (Elt F) g9, arg10.view.read (Elt F) g10, arg11.view.read (Elt F) g11, arg12.view.read (Elt F) g12⟩ n := by
  induction n with
  | zero => rfl
  | succ n ih =>
    have ih := ih (by omega)
    have hs := pb_k0_t3_succ (F := F) Variants.none c none i arg2 harg2 arg3 harg3 arg4 harg4 arg5 harg5 arg6 harg6 arg7 harg7 arg8 harg8 arg9 harg9 arg10 harg10 arg11 harg11 arg12 harg12 arg13 harg13 q v38 v55 v57 f5 f6 g9 g10 g11 g12 ⟨n, hn⟩
    simp only at hs
    rw [hs]
    generalize pb_k0_t3 (F := F) Variants.none c none i arg2 harg2 arg3 harg3 arg4 harg4 arg5 harg5 arg6 harg6 arg7 harg7 arg8 harg8 arg9 harg9 arg10 harg10 arg11 harg11 arg12 harg12 arg13 harg13 q v38 v55 v57 f5 f6 g9 g10 g11 g12 n = L at ih ⊢
    rw [ownRun, dif_pos (show n < k0_t3_loop.trips from hn), ← ih]
    simp only [View.writes_append]
    generalize arg9.view.writes (Elt F) g9 L.1 = e9
    generalize arg10.view.writes (Elt F) g10 L.2.1 = e10
    generalize arg11.view.writes (Elt F) g11 L.2.2.1 = e11
    generalize arg12.view.writes (Elt F) g12 L.2.2.2 = e12
    unfold trip_k0_t3
    sl_unfold_run_names
    simp only [View.readAt_full, View.readCov_full, View.read_writes_full, View.readAt_eq_ld]
    simp only [ld_row, ld_sum, read_row, read_sum]
    rfl

theorem part5_run (q : FVec F S128x1024 .bf16) (m' : FVec F S1x1024 .f32) (v55 v57 : FVec F S128x1024 .f32) (l : FVec F S1x1024 .f32) :
    iprop(owns (c : Thread nD τ) arg5 fullShare x5 ∗ owns (c : Thread nD τ) arg6 fullShare x6
        ∗ (∃ d, owns (c : Thread nD τ) arg9 fullShare d) ∗ (∃ d, owns (c : Thread nD τ) arg10 fullShare d)
        ∗ owns (c : Thread nD τ) arg11 fullShare l ∗ (∃ d, owns (c : Thread nD τ) arg12 fullShare d)
        ∗ (∃ d, owns (c : Thread nD τ) arg13 fullShare d))
      ⊢ wp (M := 𝕄) frame (wpE (defs₀ (F := F)) Variants.none c none) Set.univ
          (k0_part5 i arg2 harg2 arg3 harg3 arg4 harg4 arg5 harg5 arg6 harg6 arg7 harg7 arg8 harg8 arg9 harg9 arg10 harg10 arg11 harg11 arg12 harg12 arg13 harg13 q m' v55 v57)
          (fun r => iprop(⌜∃ b s, s = final b q x5 x6 ⟨k0_pay34 m', k0_pay33 m', l, k0_pay32 v55 v57⟩
              ∧ r = ⟨k0_pay41 s.acc s.l, k0_pay42 s.acc s.l⟩⌝
            ∗ owns (c : Thread nD τ) arg5 fullShare x5 ∗ owns (c : Thread nD τ) arg6 fullShare x6
            ∗ (∃ d, owns (c : Thread nD τ) arg9 fullShare d) ∗ (∃ d, owns (c : Thread nD τ) arg10 fullShare d)
            ∗ (∃ d, owns (c : Thread nD τ) arg11 fullShare d) ∗ (∃ d, owns (c : Thread nD τ) arg12 fullShare d)
            ∗ (∃ d, owns (c : Thread nD τ) arg13 fullShare d))) := by
  simp only [k0_part5_eq_skeleton]; unfold k0_part5_skel
  unfold owns
  iintro ⟨⟨%f5, %h5, H5⟩, ⟨%f6, %h6, H6⟩, ⟨%d9, %f9, -, H9⟩, ⟨%d10, %f10, -, H10⟩, ⟨%f11, %h11, H11⟩, ⟨%d12, %f12, -, H12⟩, ⟨%d13, %f13, -, H13⟩⟩
  sl_exec
  have hw : ∀ w : BitVec 1, w = 0#1 ∨ w = 1#1 := by decide
  rcases hw (part5_run.sl.v81 c arg9 arg13 q m' f13) with hb | hb
  · have h1 : ¬ part5_run.sl.v83 c arg9 arg13 q m' f13 = 1#1 := by
      show ¬ Scalar.cmpi .ne (Scalar.extui (part5_run.sl.v81 c arg9 arg13 q m' f13) : BitVec 32) 0#32 = 1#1
      rw [hb]; decide
    have h2 : Scalar.cmpi .ne (Scalar.extui (Scalar.xori (part5_run.sl.v81 c arg9 arg13 q m' f13) 1#1) : BitVec 32) 0#32 = 1#1 := by
      rw [hb]; decide
    sl_exec (disch := first | sl_exact h1 | sl_exact h2)
    sl_step
    sl_unfold_run_names
    subst h5 h6 h11
    have E := reads_t3 c i arg2 harg2 arg3 harg3 arg4 harg4 arg5 harg5 arg6 harg6 arg7 harg7 arg8 harg8 arg9 harg9 arg10 harg10 arg11 harg11 arg12 harg12 arg13 harg13 q m' v55 v57 f5 f6
      (arg9.view.writes (Elt F) arg9.view.junk [⟨Rect.unit (s := S1x1024) ![0, 0] S1x1024.size inb_S1x1024_S1x1024_0_0, k0_pay34 m'⟩])
      (arg10.view.writes (Elt F) arg10.view.junk [⟨Rect.unit (s := S1x1024) ![0, 0] S1x1024.size inb_S1x1024_S1x1024_0_0, k0_pay33 m'⟩])
      f11
      (arg12.view.writes (Elt F) arg12.view.junk [⟨Rect.unit (s := S128x1024) ![0, 0] S128x1024.size inb_S128x1024_S128x1024_0_0, k0_pay32 v55 v57⟩])
      k0_t3_loop.trips le_rfl
    rw [View.read_writes_full (s := S1x1024), View.read_writes_full (s := S1x1024), View.read_writes_full (s := S128x1024)] at E
    isplitr
    · ipureintro
      refine ⟨false, _, rfl, ?_⟩
      show _ = (⟨k0_pay41 (ownRun _ _ _ _ _).acc (ownRun _ _ _ _ _).l, k0_pay42 (ownRun _ _ _ _ _).acc (ownRun _ _ _ _ _).l⟩ : Σ' (_ : FVec F S128x1024 .bf16), FVec F S128x256 .bf16)
      rw [← E]
      simp only [View.readCov, readAt_row, readAt_sum, View.writes_append]
    isplitl [H5]
    · iexists f5; isplitr; swap; · iexact H5
      ipureintro; rfl
    isplitl [H6]
    · iexists f6; isplitr; swap; · iexact H6
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    · iexists _, _; isplitr; swap; · iexact H13
      ipureintro; rfl
  · have h1 : part5_run.sl.v83 c arg9 arg13 q m' f13 = 1#1 := by
      show Scalar.cmpi .ne (Scalar.extui (part5_run.sl.v81 c arg9 arg13 q m' f13) : BitVec 32) 0#32 = 1#1
      rw [hb]; decide
    have h2 : ¬ Scalar.cmpi .ne (Scalar.extui (Scalar.xori (part5_run.sl.v81 c arg9 arg13 q m' f13) 1#1) : BitVec 32) 0#32 = 1#1 := by
      rw [hb]; decide
    sl_exec (disch := first | sl_exact h1 | sl_exact h2)
    sl_step
    sl_unfold_run_names
    subst h5 h6 h11
    have E := reads_t2 c i arg2 harg2 arg3 harg3 arg4 harg4 arg5 harg5 arg6 harg6 arg7 harg7 arg8 harg8 arg9 harg9 arg10 harg10 arg11 harg11 arg12 harg12 arg13 harg13 q m' v55 v57 f5 f6
      (arg9.view.writes (Elt F) arg9.view.junk [⟨Rect.unit (s := S1x1024) ![0, 0] S1x1024.size inb_S1x1024_S1x1024_0_0, k0_pay34 m'⟩])
      (arg10.view.writes (Elt F) arg10.view.junk [⟨Rect.unit (s := S1x1024) ![0, 0] S1x1024.size inb_S1x1024_S1x1024_0_0, k0_pay33 m'⟩])
      f11
      (arg12.view.writes (Elt F) arg12.view.junk [⟨Rect.unit (s := S128x1024) ![0, 0] S128x1024.size inb_S128x1024_S128x1024_0_0, k0_pay32 v55 v57⟩])
      k0_t2_loop.trips le_rfl
    rw [View.read_writes_full (s := S1x1024), View.read_writes_full (s := S1x1024), View.read_writes_full (s := S128x1024)] at E
    isplitr
    · ipureintro
      refine ⟨true, _, rfl, ?_⟩
      show _ = (⟨k0_pay41 (earlierRun _ _ _ _ _).acc (earlierRun _ _ _ _ _).l, k0_pay42 (earlierRun _ _ _ _ _).acc (earlierRun _ _ _ _ _).l⟩ : Σ' (_ : FVec F S128x1024 .bf16), FVec F S128x256 .bf16)
      rw [← E]
      simp only [View.readCov, readAt_row, readAt_sum, View.writes_append]
    isplitl [H5]
    · iexists f5; isplitr; swap; · iexact H5
      ipureintro; rfl
    isplitl [H6]
    · iexists f6; isplitr; swap; · iexact H6
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    · iexists _, _; isplitr; swap; · iexact H13
      ipureintro; rfl

/-- The call's result block: the accumulated sums over the weights' sum, head by head. -/
def outBlk (b : Bool) (x2 : Vec F S1x4x128x256 .bf16) (x3 x4 : Vec F S1x128x256 .bf16) (x5 x6 : Vec F S1x128x16384 .bf16) (x7 : Vec F S1x1x1024 .f32) :
    Vec F S1x4x128x256 .bf16 :=
  let s := final b (heads x2) x5 x6 (ctxStep (heads x2) x3 x4 (start x7))
  View.canon
    [⟨Rect.unit (s := S1x4x128x256) ![0, 3, 0, 0] S1x1x128x256.size inb_S1x4x128x256_S1x1x128x256_0_3_0_0, k0_pay4 (k0_pay41 s.acc s.l)⟩,
      ⟨Rect.unit (s := S1x4x128x256) ![0, 2, 0, 0] S1x1x128x256.size inb_S1x4x128x256_S1x1x128x256_0_2_0_0, k0_pay3 (k0_pay41 s.acc s.l)⟩,
      ⟨Rect.unit (s := S1x4x128x256) ![0, 1, 0, 0] S1x1x128x256.size inb_S1x4x128x256_S1x1x128x256_0_1_0_0, k0_pay2 (k0_pay41 s.acc s.l)⟩,
      ⟨Rect.unit (s := S1x4x128x256) ![0, 0, 0, 0] S1x1x128x256.size inb_S1x4x128x256_S1x1x128x256_0_0_0_0, k0_pay1 (k0_pay42 s.acc s.l)⟩]

theorem body_run :
    iprop(owns (c : Thread nD τ) arg2 fullShare x2 ∗ owns (c : Thread nD τ) arg3 fullShare x3
        ∗ owns (c : Thread nD τ) arg4 fullShare x4 ∗ owns (c : Thread nD τ) arg5 fullShare x5
        ∗ owns (c : Thread nD τ) arg6 fullShare x6 ∗ owns (c : Thread nD τ) arg7 fullShare x7
        ∗ (∃ d, owns (c : Thread nD τ) arg8 fullShare d)
        ∗ (∃ d, owns (c : Thread nD τ) arg9 fullShare d) ∗ (∃ d, owns (c : Thread nD τ) arg10 fullShare d)
        ∗ (∃ d, owns (c : Thread nD τ) arg11 fullShare d) ∗ (∃ d, owns (c : Thread nD τ) arg12 fullShare d)
        ∗ (∃ d, owns (c : Thread nD τ) arg13 fullShare d))
      ⊢ wp (M := 𝕄) frame (wpE (defs₀ (F := F)) Variants.none c none) Set.univ
          (cc0_global_attn i arg2 harg2 arg3 harg3 arg4 harg4 arg5 harg5 arg6 harg6 arg7 harg7 arg8 harg8 arg9 harg9 arg10 harg10 arg11 harg11 arg12 harg12 arg13 harg13)
          (fun _ => iprop(owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare x6 ∗ owns (c : Thread nD τ) arg7 fullShare x7
            ∗ (∃ X, ⌜∃ b, X = outBlk b x2 x3 x4 x5 x6 x7⌝ ∗ owns (c : Thread nD τ) arg8 fullShare X)
            ∗ (∃ d, owns (c : Thread nD τ) arg9 fullShare d) ∗ (∃ d, owns (c : Thread nD τ) arg10 fullShare d)
            ∗ (∃ d, owns (c : Thread nD τ) arg11 fullShare d) ∗ (∃ d, owns (c : Thread nD τ) arg12 fullShare d)
            ∗ (∃ d, owns (c : Thread nD τ) arg13 fullShare d))) := by
  simp only [cc0_global_attn_eq_skeleton]; unfold cc0_global_attn_skel
  iintro ⟨H2, H3, H4, H5, H6, H7, H8, H9, H10, H11, H12, H13⟩
  rw [wp_bind]
  iapply (wp_wand_r Idealize.ShloMosaic.frame (wpE (defs₀ (F := F)) Variants.none (c : Thread nD τ) none) Set.univ)
  isplitl [H2 H3 H5 H7 H9 H10 H11 H13]
  · iapply (part3_run (F := F) c i arg2 harg2 arg3 harg3 arg4 harg4 arg5 harg5 arg6 harg6 arg7 harg7 arg8 harg8 arg9 harg9 arg10 harg10 arg11 harg11 arg12 harg12 arg13 harg13 x2 x3 x5 x7)
    isplitl [H2]; · iexact H2
    isplitl [H3]; · iexact H3
    isplitl [H5]; · iexact H5
    isplitl [H7]; · iexact H7
    isplitl [H9]; · iexact H9
    isplitl [H10]; · iexact H10
    isplitl [H11]; · iexact H11
    iexact H13
  iintro %r ⟨%hr, H2, H3, H5, H7, H9, H10, H11, H13⟩
  obtain ⟨v23, rfl⟩ := hr
  dsimp only
  rw [wp_bind]
  iapply (wp_wand_r Idealize.ShloMosaic.frame (wpE (defs₀ (F := F)) Variants.none (c : Thread nD τ) none) Set.univ)
  isplitl [H3 H4 H9 H10 H11 H12]
  · iapply (part4_run (F := F) c i arg2 harg2 arg3 harg3 arg4 harg4 arg5 harg5 arg6 harg6 arg7 harg7 arg8 harg8 arg9 harg9 arg10 harg10 arg11 harg11 arg12 harg12 arg13 harg13 x3 x4 (heads x2) k0_pay22 v23 (start x7).m (start x7).macc)
    isplitl [H3]; · iexact H3
    isplitl [H4]; · iexact H4
    isplitl [H9]; · iexact H9
    isplitl [H10]; · iexact H10
    isplitl [H11]; · iexact H11
    iexact H12
  iintro %r ⟨%hr, H3, H4, H9, H10, H11, H12⟩
  subst hr
  dsimp only
  rw [wp_bind]
  iapply (wp_wand_r Idealize.ShloMosaic.frame (wpE (defs₀ (F := F)) Variants.none (c : Thread nD τ) none) Set.univ)
  isplitl [H5 H6 H9 H10 H11 H12 H13]
  · iapply (part5_run (F := F) c i arg2 harg2 arg3 harg3 arg4 harg4 arg5 harg5 arg6 harg6 arg7 harg7 arg8 harg8 arg9 harg9 arg10 harg10 arg11 harg11 arg12 harg12 arg13 harg13 x5 x6 (heads x2) _ _ _ _)
    isplitl [H5]; · iexact H5
    isplitl [H6]; · iexact H6
    isplitl [H9]; · iexists _; iexact H9
    isplitl [H10]; · iexists _; iexact H10
    isplitl [H11]; · iexact H11
    isplitl [H12]; · iexists _; iexact H12
    iexact H13
  iintro %r ⟨%hr, H5, H6, H9, H10, H11, H12, H13⟩
  obtain ⟨b, s, hs, rfl⟩ := hr
  dsimp only
  unfold owns
  icases H8 with ⟨%d8, %f8, -, H8⟩
  sl_exec
  sl_step
  isplitl [H2]; · iexact H2
  isplitl [H3]; · iexact H3
  isplitl [H4]; · iexact H4
  isplitl [H5]; · iexact H5
  isplitl [H6]; · iexact H6
  isplitl [H7]; · iexact H7
  isplitl [H8]
  · iexists (outBlk b x2 x3 x4 x5 x6 x7)
    isplitr; · ipureintro; exact ⟨b, rfl⟩
    iexists _; isplitr; swap; · iexact H8
    ipureintro
    sl_unfold_run_names
    rw [View.read_writes_eq_canon _ _ _ (View.cover_of_tiledL _ ![1, 1, 128, 256] (by sl_kernel_rfl))]
    subst hs
    rfl
  isplitl [H9]; · iexact H9
  isplitl [H10]; · iexact H10
  isplitl [H11]; · iexact H11
  isplitl [H12]; · iexact H12
  iexact H13

end Parts

end Cert.KernelIdeal.Hand

end
-- ==== Proof.KI.Frame.lean ====
module

public import proofs.«01_k».proof.Proof.KI.Body
public import Idealize.ShloMosaic.Lib.Pipeline.DatRel

/-! The run of the whole program: every grid point leaves in the result's block what `outBlk` says, for one of the two
    branches of the kernel, and the arguments end as they began. -/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the one pipeline: the inputs' blocks stay in place; the result's window is held to `Rel` instead. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
  Φ _ := Pipeline.ΦA spec0 c
  q _ := fullShare
  owed _ := 0

/-- The window whose contents are told by a relation: the result's. -/
def isOut (w : Fin cfg0.W) : Bool := decide (w = 6)

/-- What the result's block holds after a grid point: `outBlk` of the point's input blocks, for one of the branches. -/
def Rel (c : Dev nD) (w : Fin cfg0.W) (t : Fin cfg0.N) (X : ((cfg0.win w).block.Idx → Elt F (cfg0.win w).elt)) : Prop :=
  match w with
  | ⟨6, _⟩ => ∃ b : Bool, X = outBlk b (iblk m c 0 t) (iblk m c 1 t) (iblk m c 2 t) (iblk m c 3 t) (iblk m c 4 t) (iblk m c 5 t)
  | _ => True

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- The relational proof data. -/
def rdat (c : Dev nD) := (dats (F := F) m 0 c).toRRel isOut (Rel m c)

def bodyPre (c : Dev nD) (t : Fin cfg0.N) : sProp 𝕄 :=
  iprop((dats m 0 c).Φ t.castSucc ∗ (dats m 0 c).owesAt () t.castSucc
    ∗ owns (c : Thread nD τ) (win0_0.stage (cfg0.slots t 0)) fullShare (iblk m c 0 t)
    ∗ owns (c : Thread nD τ) (win0_1.stage (cfg0.slots t 1)) fullShare (iblk m c 1 t)
    ∗ owns (c : Thread nD τ) (win0_2.stage (cfg0.slots t 2)) fullShare (iblk m c 2 t)
    ∗ owns (c : Thread nD τ) (win0_3.stage (cfg0.slots t 3)) fullShare (iblk m c 3 t)
    ∗ owns (c : Thread nD τ) (win0_4.stage (cfg0.slots t 4)) fullShare (iblk m c 4 t)
    ∗ owns (c : Thread nD τ) (win0_5.stage (cfg0.slots t 5)) fullShare (iblk m c 5 t)
    ∗ (∃ Y, ⌜(rdat m c).Finds 6 t Y⌝ ∗ owns (c : Thread nD τ) (win0_6.stage (cfg0.slots t 6)) fullShare Y))

def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare (iblk m c 0 t)
    ∗ owns (c : Thread nD τ) (win0_1.stage (cfg0.slots t 1)) fullShare (iblk m c 1 t)
    ∗ owns (c : Thread nD τ) (win0_2.stage (cfg0.slots t 2)) fullShare (iblk m c 2 t)
    ∗ owns (c : Thread nD τ) (win0_3.stage (cfg0.slots t 3)) fullShare (iblk m c 3 t)
    ∗ owns (c : Thread nD τ) (win0_4.stage (cfg0.slots t 4)) fullShare (iblk m c 4 t)
    ∗ owns (c : Thread nD τ) (win0_5.stage (cfg0.slots t 5)) fullShare (iblk m c 5 t)
    ∗ (∃ X, ⌜Rel m c 6 t X⌝ ∗ owns (c : Thread nD τ) (win0_6.stage (cfg0.slots t 6)) fullShare X))

/-- A scratch buffer owned at some contents. -/
theorem scr_eq (c : Dev nD) (b : Ref sig .tc) :
    (iprop(∃ f : Buf (Elt F) ((c : Thread nD τ).loc b), ((c : Thread nD τ).loc b) ↦{fullShare} f) : sProp 𝕄)
      = iprop(∃ X, owns (c : Thread nD τ) (Memref.whole b) fullShare X) := by simp only [owns_whole]

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = Pipeline.ΦA spec0 c from rfl, show (dats m 0 c).Φ t.castSucc = Pipeline.ΦA spec0 c from rfl]
  unfold Pipeline.ΦA
  rw [scopedRest0_eq, scr_eq c cc0_scratch0, scr_eq c cc0_scratch1, scr_eq c cc0_scratch2, scr_eq c cc0_scratch3, scr_eq c cc0_scratch4]
  unfold Dat.owesAt Pipeline.owesWithin
  rw [show (dats m 0 c).owed t.castSucc = 0 from rfl, show (dats m 0 c).owed t.succ = 0 from rfl]
  iintro ⟨⟨⟨HS0, HS1, HS2, HS3, HS4⟩, Hg⟩, ⟨%W, -, HW⟩, H0, H1, H2, H3, H4, H5, ⟨%Y, -, H6⟩⟩
  iapply (wp_wand_r Idealize.ShloMosaic.frame (wpE (defs₀ (F := F)) Variants.none (c : Thread nD τ) none) Set.univ)
  isplitl [H0 H1 H2 H3 H4 H5 H6 HS0 HS1 HS2 HS3 HS4]
  · iapply (body_run (F := F) c (grid0.coords t) _ _ _ _ _ _ _ _ _ _ _ _ _ _ _ _ _ _ _ _ _ _ _ _ (iblk m c 0 t) (iblk m c 1 t) (iblk m c 2 t) (iblk m c 3 t) (iblk m c 4 t) (iblk m c 5 t))
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    isplitl [HS2]; · iexact HS2
    isplitl [HS3]; · iexact HS3
    iexact HS4
  iintro %u ⟨H0, H1, H2, H3, H4, H5, ⟨%X, %hX, H6⟩, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [HW]
  · iexists W; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  iexists X
  isplitr; · ipureintro; exact hX
  iexact H6

theorem entails_of_before {c : Dev nD} {sp : Space} {sh : Shape} {e : EltTy} {r : Memref sig .tc sp sh e} {X Y : sh.Idx → Elt F e} (h : X = Y) :
    (owns (c : Thread nD τ) r fullShare X : sProp 𝕄) ⊢ owns (c : Thread nD τ) r fullShare Y := h ▸ .rfl

/-- What the launch gives a grid point is what the body is run from. -/
theorem pre_of (c : Dev nD) (t : Fin cfg0.N) :
    iprop((dats m 0 c).Φ t.castSucc ∗ (dats m 0 c).owesAt () t.castSucc
      ∗ (∃ d, owns (c : Thread nD τ) (win0_0.stage (cfg0.slots t 0)) fullShare ((dats m 0 c).before 0 t d))
      ∗ (∃ d, owns (c : Thread nD τ) (win0_1.stage (cfg0.slots t 1)) fullShare ((dats m 0 c).before 1 t d))
      ∗ (∃ d, owns (c : Thread nD τ) (win0_2.stage (cfg0.slots t 2)) fullShare ((dats m 0 c).before 2 t d))
      ∗ (∃ d, owns (c : Thread nD τ) (win0_3.stage (cfg0.slots t 3)) fullShare ((dats m 0 c).before 3 t d))
      ∗ (∃ d, owns (c : Thread nD τ) (win0_4.stage (cfg0.slots t 4)) fullShare ((dats m 0 c).before 4 t d))
      ∗ (∃ d, owns (c : Thread nD τ) (win0_5.stage (cfg0.slots t 5)) fullShare ((dats m 0 c).before 5 t d))
      ∗ (∃ Y, ⌜(rdat m c).Finds 6 t Y⌝ ∗ owns (c : Thread nD τ) (win0_6.stage (cfg0.slots t 6)) fullShare Y))
    ⊢ bodyPre m c t := by
  unfold bodyPre
  exact (BIClass.sep_mono .rfl (BIClass.sep_mono .rfl (BIClass.sep_mono (exists_elim fun d => entails_of_before (before0_0_of m _ (A_eq m c 0) (after0_0 m c) t d))
        (BIClass.sep_mono (exists_elim fun d => entails_of_before (before0_1_of m _ (A_eq m c 1) (after0_1 m c) t d))
        (BIClass.sep_mono (exists_elim fun d => entails_of_before (before0_2_of m _ (A_eq m c 2) (after0_2 m c) t d))
        (BIClass.sep_mono (exists_elim fun d => entails_of_before (before0_3_of m _ (A_eq m c 3) (after0_3 m c) t d))
        (BIClass.sep_mono (exists_elim fun d => entails_of_before (before0_4_of m _ (A_eq m c 4) (after0_4 m c) t d))
        (BIClass.sep_mono (exists_elim fun d => entails_of_before (before0_5_of m _ (A_eq m c 5) (after0_5 m c) t d))
          .rfl))))))))

theorem defs₀_row (t : Fin cfg0.N) :
    defs₀ (F := F) .tc cfg0.body (cfg0.bodyArgs t (cfg0.slots t)) = bodyAt0 t := by
  unfold defs₀; rw [Defs.onTc_tc]

set_option maxHeartbeats 1600000 in
theorem body_obligation (c : Dev nD) : (rdat (F := F) m c).BodyObligation (defs₀ (F := F)) Variants.none () Set.univ :=
  BodyObligationRel.toRRel (dats (F := F) m 0 c) fun t => by
    rw [bigSep_W0, bigSep_W0, defs₀_row]
    exact triple_restated (sound_body m c t) rfl
      (pre_of m c t) fun _ => .rfl

set_option backward.isDefEq.respectTransparency.types false in
/-- The run: every array of a window ends at its relational final contents, everything else as launched, the counters zero. -/
theorem run_main : θ_run defs (onTc (τ := τ) (main (F := F))) (s₀ m ρ) (fun r => RDat.FramePost cfg0 (rdat m) (V m) r ∧ r.2.sem = fun _ => 0) :=
  Pipeline.RDat.θ_run_frame cfgs (0 : Fin 1) launch0 defs₀ Variants.none (rdat m) m ρ main
    (hbody := body_obligation m) (hshare := fun c => (rdat m c).share_full fun _ => rfl)
    (howed := fun _ _ => rfl) (V := V m) (hmain := hmain m Variants.none) (hA := A_eq m)
    (hΦ := fun _ _ => rfl) (Q' := _) (hQ' := fun _ h => h)

/-- The arguments end as they began and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ ⟨h, hs⟩ => ⟨fun c =>
    ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩, hs⟩) (run_main m ρ)

end Cert.KernelIdeal.Hand

end
-- ==== Proof.K.Frame.lean ====
module
public import proofs.«01_k».proof.Defs
public import proofs.«01_k».proof.Proof.KI.Frame
public import proofs.«01_k».proof.Proof.Gen.Kernel.Frame
/-! The printed program runs to the end and leaves its arguments: it is, in every operation, the program whose run is
    proved in `Proof/KI/Frame.lean`, there at any reading of the floats. -/

@[expose] public section

set_option maxRecDepth 16384
noncomputable section
namespace Cert.Kernel.Hand
open Idealize.ShloMosaic Idealize.ShloMosaic.TcCoe
attribute [local instance] Cert.Kernel.Gen.facts Cert.KernelIdeal.Gen.facts
variable {F : FTy → Type} [FloatOps F]
/-- The two programs' kernels are one. -/
theorem defs₀_eq : @Cert.Kernel.defs₀ F _ _ = @Cert.KernelIdeal.defs₀ F _ _ := by
  unfold Cert.Kernel.defs₀ Cert.KernelIdeal.defs₀
  refine congrArg Defs.onTc ?_
  funext p a
  match p with
  | ⟨0, _⟩ => with_unfolding_all rfl
/-- So are their tables of calls. -/
theorem defs_eq : @Cert.Kernel.defs F _ _ = @Cert.KernelIdeal.defs F _ _ := by
  unfold Cert.Kernel.defs Cert.KernelIdeal.defs
  exact congrArg (Pipeline.defs Cert.Kernel.pcfgs) defs₀_eq

set_option maxHeartbeats 4000000 in
/-- The run of the printed program, from any memory. -/
theorem quiescent : Cert.quiescent_Kernel (hKernel := Cert.Kernel.Gen.facts) := fun m g _ => by
  rw [defs_eq]
  with_unfolding_all exact Cert.KernelIdeal.Hand.frame (F := Bits) m g

end Cert.Kernel.Hand

end
-- ==== Proof.Value.Host.lean ====
module

public import proofs.«01_k».proof.Proof.Gen.KernelIdeal.Frame
public import proofs.«01_k».proof.Proof.KI.Body
public import Idealize.ShloMosaic.Lib.Pointwise
public import Idealize.ShloMosaic.Lib.Claim

/-! The arrays the call reads, as the host's operations leave them. -/

@[expose] public section

set_option maxRecDepth 16384

set_option maxHeartbeats 1000000

noncomputable section

namespace Cert.KernelIdeal.Hand

open Idealize.ShloMosaic Idealize.ShloMosaic.TcCoe Idealize.ShloMosaic.Tactic Idealize.ShloMosaic.StableHlo Cert.KernelIdeal.Gen

variable (m : (ℓ : Loc nD τ sig) → Buf (Elt Ideal) ℓ)

/-- The factor on the queries: one over the root of the feature count times the logarithm of two. -/
def qscale : FVec Ideal S_ .f32 :=
  Host.divf (constant S_ .f32 0x3F800000#32) (mulf (Host.sqrt (constant S_ .f32 0x43000000#32)) (Host.log (constant S_ .f32 0x40000000#32)))

/-- The query tokens, scaled: context, then latent. -/
def qTok (x0 : FVec Ideal S1x256x32x128 .f32) (x1 : FVec Ideal S1x16384x32x128 .f32) : FVec Ideal S16640x32x128 .f32 :=
  concatenate S16640x32x128 0
    [⟨S256x32x128, shapeCast S256x32x128 (mulf x0 (broadcastInDim S1x256x32x128 ![] bcast_S_S1x256x32x128 qscale)) shapeCasts_S1x256x32x128_S256x32x128⟩,
      ⟨S16384x32x128, shapeCast S16384x32x128 (mulf x1 (broadcastInDim S1x16384x32x128 ![] bcast_S_S1x16384x32x128 qscale)) shapeCasts_S1x16384x32x128_S16384x32x128⟩]
    concatenates_S256x32x128_S16384x32x128_S16640x32x128_d0

/-- The queries, feature-major. -/
def qArr (x0 : FVec Ideal S1x256x32x128 .f32) (x1 : FVec Ideal S1x16384x32x128 .f32) : FVec Ideal S8x4x128x16896 .bf16 :=
  shapeCast S8x4x128x16896
    (truncf .bf16
      (transpose S4096x16896 [1, 0]
        (pad S16896x4096 ![0, 0] ![256, 0] ![0, 0] (shapeCast S16640x4096 (qTok x0 x1) shapeCasts_S16640x32x128_S16640x4096)
          (sitofp .f32 (constantI S_ 32 0#32)) pads_S16640x4096_S16896x4096_02560_000 h_S_)
        transposes_S16896x4096_S4096x16896_1_0)
      bitsLt_bf16_f32)
    shapeCasts_S4096x16896_S8x4x128x16896

/-- The key (or value) tokens: context, then latent. -/
def kTok (x0 : FVec Ideal S1x256x8x128 .f32) (x1 : FVec Ideal S1x16384x8x128 .f32) : FVec Ideal S16640x8x128 .f32 :=
  concatenate S16640x8x128 0
    [⟨S256x8x128, shapeCast S256x8x128 x0 shapeCasts_S1x256x8x128_S256x8x128⟩,
      ⟨S16384x8x128, shapeCast S16384x8x128 x1 shapeCasts_S1x16384x8x128_S16384x8x128⟩]
    concatenates_S256x8x128_S16384x8x128_S16640x8x128_d0

/-- The keys (or the values), feature-major. -/
def kArr (x0 : FVec Ideal S1x256x8x128 .f32) (x1 : FVec Ideal S1x16384x8x128 .f32) : FVec Ideal S8x128x16640 .bf16 :=
  extractStridedSlice S8x128x16640 ![0, 0, 0]
    (shapeCast S8x128x16896
      (truncf .bf16
        (transpose S1024x16896 [1, 0]
          (pad S16896x1024 ![0, 0] ![256, 0] ![0, 0] (shapeCast S16640x1024 (kTok x0 x1) shapeCasts_S16640x8x128_S16640x1024)
            (sitofp .f32 (constantI S_ 32 0#32)) pads_S16640x1024_S16896x1024_02560_000 h_S_)
          transposes_S16896x1024_S1024x16896_1_0)
        bitsLt_bf16_f32)
      shapeCasts_S1024x16896_S8x128x16896)
    slices_S8x128x16896_S8x128x16640_0_0_0

theorem V_init (c : Dev nD) : V m c main_v34 = broadcastInDim S8x1x1024 ![] bcast_S_S8x1x1024 (constant (F := Ideal) S_ .f32 0xF149F2CA#32) := by
  unfold_abbrev_sides
  simp only [hostOps0, hostOps0_1, hostOps0_2, hostOps0_3, hostOps0_4, hostOps0_5, hostOps0_6, List.flatten_cons, List.flatten_nil, List.cons_append, List.nil_append, List.append_nil]
  after_results_simp

theorem V_q (c : Dev nD) : V m c main_v15 = qArr (m ((c : Thread nD τ).loc main_arg0)) (m ((c : Thread nD τ).loc main_arg1)) := by
  unfold_abbrev_sides
  simp only [hostOps0, hostOps0_1, hostOps0_2, hostOps0_3, hostOps0_4, hostOps0_5, hostOps0_6, List.flatten_cons, List.flatten_nil, List.cons_append, List.nil_append, List.append_nil]
  after_results_simp
  rfl

theorem V_kc (c : Dev nD) : V m c main_v35 = extractStridedSlice S8x128x256 ![0, 0, 0]
    (kArr (m ((c : Thread nD τ).loc main_arg2)) (m ((c : Thread nD τ).loc main_arg3))) slices_S8x128x16640_S8x128x256_0_0_0 := by
  unfold_abbrev_sides
  simp only [hostOps0, hostOps0_1, hostOps0_2, hostOps0_3, hostOps0_4, hostOps0_5, hostOps0_6, List.flatten_cons, List.flatten_nil, List.cons_append, List.nil_append, List.append_nil]
  after_results_simp
  rfl

theorem V_vc (c : Dev nD) : V m c main_v36 = extractStridedSlice S8x128x256 ![0, 0, 0]
    (kArr (m ((c : Thread nD τ).loc main_arg4)) (m ((c : Thread nD τ).loc main_arg5))) slices_S8x128x16640_S8x128x256_0_0_0 := by
  unfold_abbrev_sides
  simp only [hostOps0, hostOps0_1, hostOps0_2, hostOps0_3, hostOps0_4, hostOps0_5, hostOps0_6, List.flatten_cons, List.flatten_nil, List.cons_append, List.nil_append, List.append_nil]
  after_results_simp
  rfl

theorem V_k (c : Dev nD) : V m c main_v37 = extractStridedSlice S8x128x16384 ![0, 0, 256]
    (kArr (m ((c : Thread nD τ).loc main_arg2)) (m ((c : Thread nD τ).loc main_arg3))) slices_S8x128x16640_S8x128x16384_0_0_256 := by
  unfold_abbrev_sides
  simp only [hostOps0, hostOps0_1, hostOps0_2, hostOps0_3, hostOps0_4, hostOps0_5, hostOps0_6, List.flatten_cons, List.flatten_nil, List.cons_append, List.nil_append, List.append_nil]
  after_results_simp
  rfl

theorem V_v (c : Dev nD) : V m c main_v38 = extractStridedSlice S8x128x16384 ![0, 0, 256]
    (kArr (m ((c : Thread nD τ).loc main_arg4)) (m ((c : Thread nD τ).loc main_arg5))) slices_S8x128x16640_S8x128x16384_0_0_256 := by
  unfold_abbrev_sides
  simp only [hostOps0, hostOps0_1, hostOps0_2, hostOps0_3, hostOps0_4, hostOps0_5, hostOps0_6, List.flatten_cons, List.flatten_nil, List.cons_append, List.nil_append, List.append_nil]
  after_results_simp
  rfl

/-- Head `h`, feature `d`, token `t` of the feature-major keys (or values). -/
theorem kArr_apply (x0 : FVec Ideal S1x256x8x128 .f32) (x1 : FVec Ideal S1x16384x8x128 .f32) (h : Fin 8) (d : Fin 128) (t : Fin 16640) :
    kArr x0 x1 (ix3 h d t) = if ht : t.val < 256 then x0 (ix4 0 ⟨t, ht⟩ h d) else x1 (ix4 0 ⟨t - 256, by omega⟩ h d) := by
  pointwise [kArr, kTok]
  rw [dif_pos (by omega)]

/-- Key head `h`, query head `g` of its four, feature `d`, latent token `t` of the feature-major queries. -/
theorem qArr_apply (x0 : FVec Ideal S1x256x32x128 .f32) (x1 : FVec Ideal S1x16384x32x128 .f32) (h : Fin 8) (g : Fin 4) (d : Fin 128) (t : Fin 16384) :
    qArr x0 x1 (ix4 h g d ⟨256 + t, by omega⟩) = x1 (ix4 0 t ⟨4 * h + g, by omega⟩ d) * qscale ix0 := by
  have e (a b : Fin 32) (hab : a.val = b.val) : x1 (ix4 0 t a d) = x1 (ix4 0 t b d) := by rw [Fin.ext hab]
  pointwise [qArr, qTok]
  rw [dif_pos (by omega), e _ ⟨4 * h + g, by omega⟩ (by simp; omega)]

end Cert.KernelIdeal.Hand

end
-- ==== Proof.Value.Blocks.lean ====
module

public import proofs.«01_k».proof.Proof.Value.Host
public import proofs.«01_k».proof.Proof.KI.Frame
public import Idealize.ShloMosaic.Lib.Pipeline.ArrRel
public import Idealize.ShloMosaic.Lib.Pipeline.Covers

/-! The blocks a grid point reads, in terms of the program's arguments: head `h` and query block `i` at point `(h, i)`. -/

@[expose] public section

set_option maxRecDepth 16384

set_option maxHeartbeats 1000000

noncomputable section

namespace Cert.KernelIdeal.Hand

open Idealize.ShloMosaic Idealize.ShloMosaic.TcCoe Idealize.ShloMosaic.Tactic Idealize.ShloMosaic.StableHlo Cert.KernelIdeal.Gen

variable (m : (ℓ : Loc nD τ sig) → Buf (Elt Ideal) ℓ)

/-- The queries, as the program is given them. -/
def argQ (c : Dev nD) : FVec Ideal S1x16384x32x128 .f32 := m ((c.tc : Thread nD τ).loc main_arg1)

/-- The head of a grid point. -/
def hd (t : Fin cfg0.N) : Fin 8 := grid0.coords t 0

/-- The query block of a grid point. -/
def qb (t : Fin cfg0.N) : Fin 64 := grid0.coords t 1

theorem index_q : ∀ t : Fin cfg0.N, win0_0.index t = ![(hd t).val, 0, 0, (qb t).val + 1] :=
  (by decide +kernel : ∀ t : Fin grid0.N, _)
theorem index_kc : ∀ t : Fin cfg0.N, win0_1.index t = ![(hd t).val, 0, 0] := (by decide +kernel : ∀ t : Fin grid0.N, _)
theorem index_vc : ∀ t : Fin cfg0.N, win0_2.index t = ![(hd t).val, 0, 0] := (by decide +kernel : ∀ t : Fin grid0.N, _)
theorem index_k : ∀ t : Fin cfg0.N, win0_3.index t = ![(hd t).val, 0, 0] := (by decide +kernel : ∀ t : Fin grid0.N, _)
theorem index_v : ∀ t : Fin cfg0.N, win0_4.index t = ![(hd t).val, 0, 0] := (by decide +kernel : ∀ t : Fin grid0.N, _)
theorem index_out : ∀ t : Fin cfg0.N, win0_6.index t = ![(hd t).val, 0, 0, (qb t).val] :=
  (by decide +kernel : ∀ t : Fin grid0.N, _)

/-- The query token at a column of a point's query block. -/
def qtok (t : Fin cfg0.N) (j : Fin 256) : Fin 16384 := ⟨256 * (qb t).val + j.val, by have := (qb t).isLt; omega⟩

theorem place_q (t : Fin cfg0.N) (g : Fin 4) (e : Fin 128) (j : Fin 256) :
    ((cfg0.win 0).blk t).view.emb (ix4 0 g e j) = (ix4 (hd t) g e ⟨256 + (qtok t j).val, by have := (qtok t j).isLt; omega⟩ : S8x4x128x16896.Idx) := by
  unfold qtok
  blk_ext [index_q t]
theorem place_kc (t : Fin cfg0.N) (e : Fin 128) (n : Fin 256) :
    ((cfg0.win 1).blk t).view.emb (ix3 0 e n) = (ix3 (hd t) e n : S8x128x256.Idx) := by
  blk_ext [index_kc t]
theorem place_vc (t : Fin cfg0.N) (e : Fin 128) (n : Fin 256) :
    ((cfg0.win 2).blk t).view.emb (ix3 0 e n) = (ix3 (hd t) e n : S8x128x256.Idx) := by
  blk_ext [index_vc t]
theorem place_k (t : Fin cfg0.N) (e : Fin 128) (n : Fin 16384) :
    ((cfg0.win 3).blk t).view.emb (ix3 0 e n) = (ix3 (hd t) e n : S8x128x16384.Idx) := by
  blk_ext [index_k t]
theorem place_v (t : Fin cfg0.N) (e : Fin 128) (n : Fin 16384) :
    ((cfg0.win 4).blk t).view.emb (ix3 0 e n) = (ix3 (hd t) e n : S8x128x16384.Idx) := by
  blk_ext [index_v t]
theorem place_out (t : Fin cfg0.N) (z : Fin 1) (g : Fin 4) (e : Fin 128) (j : Fin 256) :
    ((cfg0.win 6).blk t).view.emb (ix4 z g e j) = (ix4 (hd t) g e (qtok t j) : S8x4x128x16384.Idx) := by
  unfold qtok
  blk_ext [index_out t]

/-- The context's part of the joined tokens. -/
theorem slice_ctx (A : FVec Ideal S8x128x16640 .bf16) (h : Fin 8) (e : Fin 128) (n : Fin 256) :
    extractStridedSlice S8x128x256 ![0, 0, 0] A slices_S8x128x16640_S8x128x256_0_0_0 (ix3 h e n) = A (ix3 h e ⟨n.val, by omega⟩) := by
  pointwise []

/-- The query tokens' own part of the joined tokens. -/
theorem slice_own (A : FVec Ideal S8x128x16640 .bf16) (h : Fin 8) (e : Fin 128) (n : Fin 16384) :
    extractStridedSlice S8x128x16384 ![0, 0, 256] A slices_S8x128x16640_S8x128x16384_0_0_256 (ix3 h e n) = A (ix3 h e ⟨256 + n.val, by omega⟩) := by
  pointwise []

theorem read_kc (t : Fin cfg0.N) (A : FVec Ideal S8x128x256 .bf16) (e : Fin 128) (n : Fin 256) :
    ((cfg0.win 1).blk t).view.read (Elt Ideal) A (ix3 0 e n) = A (ix3 (hd t) e n) := by
  change A (((cfg0.win 1).blk t).view.emb (ix3 0 e n)) = _
  rw [place_kc]
theorem read_vc (t : Fin cfg0.N) (A : FVec Ideal S8x128x256 .bf16) (e : Fin 128) (n : Fin 256) :
    ((cfg0.win 2).blk t).view.read (Elt Ideal) A (ix3 0 e n) = A (ix3 (hd t) e n) := by
  change A (((cfg0.win 2).blk t).view.emb (ix3 0 e n)) = _
  rw [place_vc]
theorem read_k (t : Fin cfg0.N) (A : FVec Ideal S8x128x16384 .bf16) (e : Fin 128) (n : Fin 16384) :
    ((cfg0.win 3).blk t).view.read (Elt Ideal) A (ix3 0 e n) = A (ix3 (hd t) e n) := by
  change A (((cfg0.win 3).blk t).view.emb (ix3 0 e n)) = _
  rw [place_k]
theorem read_v (t : Fin cfg0.N) (A : FVec Ideal S8x128x16384 .bf16) (e : Fin 128) (n : Fin 16384) :
    ((cfg0.win 4).blk t).view.read (Elt Ideal) A (ix3 0 e n) = A (ix3 (hd t) e n) := by
  change A (((cfg0.win 4).blk t).view.emb (ix3 0 e n)) = _
  rw [place_v]

theorem read_q (t : Fin cfg0.N) (A : FVec Ideal S8x4x128x16896 .bf16) (g : Fin 4) (e : Fin 128) (j : Fin 256) :
    ((cfg0.win 0).blk t).view.read (Elt Ideal) A (ix4 0 g e j) = A (ix4 (hd t) g e ⟨256 + (qtok t j).val, by have := (qtok t j).isLt; omega⟩) := by
  change A (((cfg0.win 0).blk t).view.emb (ix4 0 g e j)) = _
  rw [place_q]

/-- The scaled queries of a point. -/
theorem iblk_q (c : Dev nD) (t : Fin cfg0.N) (g : Fin 4) (e : Fin 128) (j : Fin 256) :
    iblk m c 0 t (ix4 0 g e j)
      = argQ m c (ix4 0 (qtok t j) ⟨4 * (hd t).val + g.val, by have := (hd t).isLt; omega⟩ e) * qscale ix0 := by
  unfold iblk
  change ((cfg0.win 0).blk t).view.read (Elt Ideal) (V m c main_v15) _ = _
  rw [V_q, read_q, qArr_apply]
  rfl

/-- The context's keys of a point's head. -/
theorem iblk_kc (c : Dev nD) (t : Fin cfg0.N) (e : Fin 128) (n : Fin 256) :
    iblk m c 1 t (ix3 0 e n) = m ((c.tc : Thread nD τ).loc main_arg2) (ix4 0 n (hd t) e) := by
  unfold iblk
  change ((cfg0.win 1).blk t).view.read (Elt Ideal) (V m c main_v35) _ = _
  rw [V_kc, read_kc, slice_ctx, kArr_apply, dif_pos n.isLt]

/-- The context's values of a point's head. -/
theorem iblk_vc (c : Dev nD) (t : Fin cfg0.N) (e : Fin 128) (n : Fin 256) :
    iblk m c 2 t (ix3 0 e n) = m ((c.tc : Thread nD τ).loc main_arg4) (ix4 0 n (hd t) e) := by
  unfold iblk
  change ((cfg0.win 2).blk t).view.read (Elt Ideal) (V m c main_v36) _ = _
  rw [V_vc, read_vc, slice_ctx, kArr_apply, dif_pos n.isLt]

/-- The query tokens' own keys of a point's head. -/
theorem iblk_k (c : Dev nD) (t : Fin cfg0.N) (e : Fin 128) (n : Fin 16384) :
    iblk m c 3 t (ix3 0 e n) = m ((c.tc : Thread nD τ).loc main_arg3) (ix4 0 n (hd t) e) := by
  unfold iblk
  change ((cfg0.win 3).blk t).view.read (Elt Ideal) (V m c main_v37) _ = _
  rw [V_k, read_k, slice_own, kArr_apply, dif_neg (by simp)]
  congr 2
  exact Fin.ext (by simp)

/-- The query tokens' own values of a point's head. -/
theorem iblk_v (c : Dev nD) (t : Fin cfg0.N) (e : Fin 128) (n : Fin 16384) :
    iblk m c 4 t (ix3 0 e n) = m ((c.tc : Thread nD τ).loc main_arg5) (ix4 0 n (hd t) e) := by
  unfold iblk
  change ((cfg0.win 4).blk t).view.read (Elt Ideal) (V m c main_v38) _ = _
  rw [V_v, read_v, slice_own, kArr_apply, dif_neg (by simp)]
  congr 2
  exact Fin.ext (by simp)

/-- The maxima a point starts from: one real number everywhere. -/
theorem iblk_init (c : Dev nD) (t : Fin cfg0.N) : ∃ r : ℝ, ∀ j : Fin 1024, iblk m c 5 t (ix3 0 0 j) = (r : EReal) := by
  obtain ⟨r, hr⟩ : ∃ r : ℝ, Ideal.ofBits .f32 0xF149F2CA#32 = (r : EReal) := by
    simp [Ideal.ofBits, Ideal.ieee, -EReal.coe_mul, -EReal.coe_neg]
  refine ⟨r, fun j => Eq.trans ?_ hr⟩
  unfold iblk
  change ((cfg0.win 5).blk t).view.read (Elt Ideal) (V m c main_v34) _ = _
  rw [V_init]
  have e : ∀ A : FVec Ideal S8x1x1024 .f32, (∀ i, A i = Ideal.ofBits .f32 0xF149F2CA#32) →
      ((cfg0.win 5).blk t).view.read (Elt Ideal) A (ix3 0 0 j) = Ideal.ofBits .f32 0xF149F2CA#32 := fun A h => h _
  exact e _ fun i => rfl

/-- The factor on the queries is real. -/
theorem qscale_eq : qscale ix0 = ((1 / (√128 * Real.log 2) : ℝ) : EReal) := by
  have e128 : Ideal.ofBits .f32 0x43000000#32 = ((128 : ℝ) : EReal) := by
    simp [Ideal.ofBits, Ideal.ieee, -EReal.coe_mul]; norm_num
  have e2 : Ideal.ofBits .f32 0x40000000#32 = ((2 : ℝ) : EReal) := by
    simp [Ideal.ofBits, Ideal.ieee, -EReal.coe_mul]; norm_num
  have hl : Real.log 2 ≠ 0 := (Real.log_pos (by norm_num)).ne'
  have hs : (√128 : ℝ) ≠ 0 := by positivity
  change Ideal.div (Ideal.ofBits .f32 0x3F800000#32) (Ideal.sqrt (Ideal.ofBits .f32 0x43000000#32) * Ideal.log (Ideal.ofBits .f32 0x40000000#32)) = _
  rw [e128, e2, Ideal.ofBits_one_f32, Ideal.sqrt_coe, if_neg (by norm_num), show Ideal.log ((2 : ℝ) : EReal) = ((Real.log 2 : ℝ) : EReal) by simp,
    ← EReal.coe_mul, Ideal.div_coe (mul_ne_zero hs hl), one_mul]

end Cert.KernelIdeal.Hand
-- ==== Proof.Value.Payloads.lean ====
module

public import proofs.«01_k».proof.Proof.KI.Body
public import Idealize.ShloMosaic.Lib.Pointwise

/-! The kernel's operations read at one lane (a query of a head), over the extended reals. -/

@[expose] public section

set_option maxRecDepth 16384

noncomputable section

namespace Cert.KernelIdeal.Hand

open Idealize.ShloMosaic Cert.KernelIdeal.Gen

theorem negInf : Ideal.ofBits .f32 0xFF800000#32 = (⊥ : EReal) := by
  simp [Ideal.ofBits, Ideal.ieee]

/-- A score of a chunk's key. -/
theorem pay5_apply (q : FVec Ideal S128x1024 .bf16) (k : Vec Ideal S1x128x4096 .bf16) (n : Fin 4096) (j : Fin 1024) :
    k0_pay5 q k (ix2 n j) = ∑ d : Fin 128, k (ix3 0 d n) * q (ix2 d j) := by
  pointwise [k0_pay5]

theorem pay10_apply (q : FVec Ideal S128x1024 .bf16) (k : Vec Ideal S1x128x4096 .bf16) (n : Fin 4096) (j : Fin 1024) :
    k0_pay10 q k (ix2 n j) = ∑ d : Fin 128, k (ix3 0 d n) * q (ix2 d j) := by
  pointwise [k0_pay10]

theorem pay25_apply (q : FVec Ideal S128x1024 .bf16) (k : Vec Ideal S1x128x256 .bf16) (n : Fin 256) (j : Fin 1024) :
    k0_pay25 q k (ix2 n j) = ∑ d : Fin 128, k (ix3 0 d n) * q (ix2 d j) := by
  pointwise [k0_pay25]

theorem pay8_apply (q : FVec Ideal S128x1024 .bf16) (k : Vec Ideal S1x128x4096 .bf16) (mu ma l : Vec Ideal S1x1024 .f32) (j : Fin 1024) :
    k0_pay8 q k mu ma l (ix2 0 j) = l (ix2 0 j) * Ideal.exp2 (ma (ix2 0 j) - mu (ix2 0 j))
      + ∑ n : Fin 4096, Ideal.exp2 (k0_pay5 q k (ix2 n j) - mu (ix2 0 j)) := by
  pointwise [k0_pay8, k0_pay7, k0_pay6]
  rfl

theorem pay9_apply (q : FVec Ideal S128x1024 .bf16) (k v : Vec Ideal S1x128x4096 .bf16) (mu ma : Vec Ideal S1x1024 .f32) (a : Vec Ideal S128x1024 .f32)
    (d : Fin 128) (j : Fin 1024) :
    k0_pay9 q k v mu ma a (ix2 d j) = a (ix2 d j) * Ideal.exp2 (ma (ix2 0 j) - mu (ix2 0 j))
      + ∑ n : Fin 4096, v (ix3 0 d n) * Ideal.exp2 (k0_pay5 q k (ix2 n j) - mu (ix2 0 j)) := by
  pointwise [k0_pay9, k0_pay7, k0_pay6]
  rfl

/-- The larger of a real and finitely many reals is real. -/
theorem max_real {n : ℕ} (r : EReal) (f : Fin n → EReal) (hr : ∃ x : ℝ, r = x) (hf : ∀ k, ∃ x : ℝ, f k = x) :
    ∃ x : ℝ, max r (Finset.univ.fold max (Ideal.ofBits .f32 0xFF800000#32) f) = x := by
  have key : ∀ s : Finset (Fin n), ∃ x : ℝ, max r (s.fold max (Ideal.ofBits .f32 0xFF800000#32) f) = x := by
    intro s
    induction s using Finset.cons_induction with
    | empty =>
      obtain ⟨x, rfl⟩ := hr
      refine ⟨x, ?_⟩
      rw [Finset.fold_empty, negInf, max_eq_left bot_le]
    | cons a s ha ih =>
      obtain ⟨x, hx⟩ := ih
      obtain ⟨y, hy⟩ := hf a
      refine ⟨max y x, ?_⟩
      rw [Finset.fold_cons, max_left_comm, hx, hy, EReal.coe_strictMono.monotone.map_max]
  exact key _

theorem pay37_real (mu : Vec Ideal S1x1024 .f32) (s : FVec Ideal S4096x1024 .f32) (j : Fin 1024) (hm : ∃ x : ℝ, mu (ix2 0 j) = (x : EReal))
    (hs : ∀ n : Fin 4096, ∃ x : ℝ, s (ix2 n j) = (x : EReal)) : ∃ x : ℝ, k0_pay37 mu s (ix2 0 j) = (x : EReal) := by
  obtain ⟨x, hx⟩ := max_real (mu (ix2 0 j)) (fun n : Fin 4096 => s (ix2 n j)) hm hs
  refine ⟨x, Eq.trans ?_ hx⟩
  pointwise [k0_pay37]

theorem pay40_eq (r : FVec Ideal S1x1024 .f32) : k0_pay40 r = r := by
  funext i
  idx_vars i
  pointwise [k0_pay40]

theorem pay11_real (q : FVec Ideal S128x1024 .bf16) (k : Vec Ideal S1x128x4096 .bf16) (mu : Vec Ideal S1x1024 .f32) (j : Fin 1024)
    (hm : ∃ x : ℝ, mu (ix2 0 j) = (x : EReal))
    (hs : ∀ n : Fin 4096, ∃ x : ℝ, k0_pay10 q k (ix2 n j) = (x : EReal)) : ∃ x : ℝ, k0_pay11 q k mu (ix2 0 j) = (x : EReal) := by
  have h : k0_pay40 (k0_pay11 q k mu) = k0_pay37 mu (k0_pay10 q k) := by
    unfold k0_pay40 k0_pay37 k0_pay11
    rfl
  rw [← pay40_eq (k0_pay11 q k mu), h]
  exact pay37_real mu (k0_pay10 q k) j hm hs

/-- The context's row maximum, of any scores. -/
def ctxMax (mu : Vec Ideal S1x1024 .f32) (s : FVec Ideal S256x1024 .f32) : FVec Ideal S1x1024 .f32 :=
  maximumf mu (shapeCast S1x1024 (multiReduction .maximumf [0] S1024 s 0xFF800000#32 reduces_S256x1024_S1024 (.inl rfl) rfl) shapeCasts_S1024_S1x1024)

theorem ctxMax_real (mu : Vec Ideal S1x1024 .f32) (s : FVec Ideal S256x1024 .f32) (j : Fin 1024) (hm : ∃ x : ℝ, mu (ix2 0 j) = (x : EReal))
    (hs : ∀ n : Fin 256, ∃ x : ℝ, s (ix2 n j) = (x : EReal)) : ∃ x : ℝ, ctxMax mu s (ix2 0 j) = (x : EReal) := by
  obtain ⟨x, hx⟩ := max_real (mu (ix2 0 j)) (fun n : Fin 256 => s (ix2 n j)) hm hs
  refine ⟨x, Eq.trans ?_ hx⟩
  pointwise [ctxMax]

theorem pay26_real (q : FVec Ideal S128x1024 .bf16) (k : Vec Ideal S1x128x256 .bf16) (mu : Vec Ideal S1x1024 .f32) (j : Fin 1024)
    (hm : ∃ x : ℝ, mu (ix2 0 j) = (x : EReal))
    (hs : ∀ n : Fin 256, ∃ x : ℝ, k0_pay25 q k (ix2 n j) = (x : EReal)) : ∃ x : ℝ, k0_pay26 q k mu (ix2 0 j) = (x : EReal) := by
  have h : k0_pay26 q k mu = ctxMax mu (k0_pay25 q k) := by
    unfold k0_pay26 ctxMax
    rfl
  rw [h]
  exact ctxMax_real mu (k0_pay25 q k) j hm hs

theorem pay14_apply (q : FVec Ideal S128x1024 .bf16) (k : Vec Ideal S1x128x4096 .bf16) (mu ma l : Vec Ideal S1x1024 .f32) (j : Fin 1024) :
    k0_pay14 q k mu ma l (ix2 0 j) = l (ix2 0 j) * Ideal.exp2 (ma (ix2 0 j) - k0_pay11 q k mu (ix2 0 j))
      + ∑ n : Fin 4096, Ideal.exp2 (k0_pay10 q k (ix2 n j) - k0_pay11 q k mu (ix2 0 j)) := by
  unfold k0_pay14 k0_pay13 k0_pay12
  generalize k0_pay10 q k = s
  generalize k0_pay11 q k mu = r
  pointwise []
  rfl

theorem pay15_apply (q : FVec Ideal S128x1024 .bf16) (k v : Vec Ideal S1x128x4096 .bf16) (mu ma : Vec Ideal S1x1024 .f32) (a : Vec Ideal S128x1024 .f32)
    (d : Fin 128) (j : Fin 1024) :
    k0_pay15 q k v mu ma a (ix2 d j) = a (ix2 d j) * Ideal.exp2 (ma (ix2 0 j) - k0_pay11 q k mu (ix2 0 j))
      + ∑ n : Fin 4096, v (ix3 0 d n) * Ideal.exp2 (k0_pay10 q k (ix2 n j) - k0_pay11 q k mu (ix2 0 j)) := by
  unfold k0_pay15 k0_pay13 k0_pay12
  generalize k0_pay10 q k = s
  generalize k0_pay11 q k mu = r
  pointwise []
  rfl

theorem pay29_apply (q : FVec Ideal S128x1024 .bf16) (k : Vec Ideal S1x128x256 .bf16) (mu ma l : Vec Ideal S1x1024 .f32) (j : Fin 1024) :
    k0_pay29 q k mu ma l (ix2 0 j) = l (ix2 0 j) * Ideal.exp2 (ma (ix2 0 j) - k0_pay26 q k mu (ix2 0 j))
      + ∑ n : Fin 256, Ideal.exp2 (k0_pay25 q k (ix2 n j) - k0_pay26 q k mu (ix2 0 j)) := by
  unfold k0_pay29 k0_pay28 k0_pay27
  generalize k0_pay25 q k = s
  generalize k0_pay26 q k mu = r
  pointwise []
  rfl

theorem pay32_apply (q : FVec Ideal S128x1024 .bf16) (k v : Vec Ideal S1x128x256 .bf16) (mu ma : Vec Ideal S1x1024 .f32) (a : Vec Ideal S128x1024 .f32)
    (d : Fin 128) (j : Fin 1024) :
    k0_pay32 (k0_pay30 q k mu ma a) (k0_pay31 q k v mu) (ix2 d j) = a (ix2 d j) * Ideal.exp2 (ma (ix2 0 j) - k0_pay26 q k mu (ix2 0 j))
      + ∑ n : Fin 256, v (ix3 0 d n) * Ideal.exp2 (k0_pay25 q k (ix2 n j) - k0_pay26 q k mu (ix2 0 j)) := by
  unfold k0_pay32 k0_pay31 k0_pay30 k0_pay28 k0_pay27
  generalize k0_pay25 q k = s
  generalize k0_pay26 q k mu = r
  pointwise []
  rfl

theorem pay34_apply (r : FVec Ideal S1x1024 .f32) (j : Fin 1024) : k0_pay34 r (ix2 0 j) = r (ix2 0 j) := by pointwise [k0_pay34]

theorem pay33_apply (r : FVec Ideal S1x1024 .f32) (j : Fin 1024) : k0_pay33 r (ix2 0 j) = r (ix2 0 j) := by pointwise [k0_pay33]

theorem pay36_apply (r : FVec Ideal S1x1024 .f32) (j : Fin 1024) : k0_pay36 r (ix2 0 j) = r (ix2 0 j) := by pointwise [k0_pay36]

theorem pay39_apply (r : FVec Ideal S1x1024 .f32) (j : Fin 1024) : k0_pay39 r (ix2 0 j) = r (ix2 0 j) := by pointwise [k0_pay39]

theorem pay38_apply (a : FVec Ideal S128x1024 .f32) (d : Fin 128) (j : Fin 1024) : k0_pay38 a (ix2 d j) = a (ix2 d j) := by pointwise [k0_pay38]

theorem pay20_apply (x : Vec Ideal S1x1x1024 .f32) (j : Fin 1024) : k0_pay20 x (ix2 0 j) = x (ix3 0 0 j) := by pointwise [k0_pay20]

theorem pay21_apply (x : Vec Ideal S1x1x1024 .f32) (j : Fin 1024) : k0_pay21 x (ix2 0 j) = x (ix3 0 0 j) := by pointwise [k0_pay21]

theorem pay23_apply (j : Fin 1024) : k0_pay23 (F := Ideal) k0_pay22 (ix2 0 j) = 0 := by
  pointwise [k0_pay23, k0_pay22]

theorem pay24_apply (d : Fin 128) (j : Fin 1024) : k0_pay24 (F := Ideal) (ix2 d j) = 0 := by
  pointwise [k0_pay24]

theorem pay41_apply (a : Vec Ideal S128x1024 .f32) (l : Vec Ideal S1x1024 .f32) (d : Fin 128) (j : Fin 1024) :
    k0_pay41 a l (ix2 d j) = Ideal.div (a (ix2 d j)) (l (ix2 0 j)) := by
  pointwise [k0_pay41]

theorem pay1_apply (a : Vec Ideal S128x1024 .f32) (l : Vec Ideal S1x1024 .f32) (d : Fin 128) (c : Fin 256) :
    k0_pay1 (k0_pay42 a l) (ix4 0 0 d c) = k0_pay41 a l (ix2 d ⟨c, by omega⟩) := by
  unfold k0_pay42
  generalize k0_pay41 a l = y
  pointwise [k0_pay1]

theorem pay2_apply (y : FVec Ideal S128x1024 .bf16) (d : Fin 128) (c : Fin 256) : k0_pay2 y (ix4 0 0 d c) = y (ix2 d ⟨256 + c, by omega⟩) := by
  pointwise [k0_pay2]

theorem pay3_apply (y : FVec Ideal S128x1024 .bf16) (d : Fin 128) (c : Fin 256) : k0_pay3 y (ix4 0 0 d c) = y (ix2 d ⟨512 + c, by omega⟩) := by
  pointwise [k0_pay3]

theorem pay4_apply (y : FVec Ideal S128x1024 .bf16) (d : Fin 128) (c : Fin 256) : k0_pay4 y (ix4 0 0 d c) = y (ix2 d ⟨768 + c, by omega⟩) := by
  pointwise [k0_pay4]

/-- The four heads' blocks side by side: head `g`, column `c`. -/
theorem heads_apply (x : Vec Ideal S1x4x128x256 .bf16) (g : Fin 4) (d : Fin 128) (c : Fin 256) :
    heads x (ix2 d ⟨256 * g + c, by omega⟩) = x (ix4 0 g d c) := by
  have e (g' : Fin 4) (c' : Fin 256) (hg : g'.val = g.val) (hc : c'.val = c.val) : x (ix4 0 g' d c') = x (ix4 0 g d c) := by
    rw [Fin.ext hg, Fin.ext hc]
  have hg := g.isLt
  have hc := c.isLt
  unfold heads
  pointwise [k0_pay16]
  split_ifs
  all_goals exact e _ _ (by simp; omega) (by simp; omega)

theorem chunk2_apply (x : Vec Ideal S1x128x16384 .bf16) (k : Fin k0_t2_loop.trips) (d : Fin 128) (n : Fin 4096) (hn : 4096 * k.val + n < 16384) :
    chunk2 x k (ix3 0 d n) = x (ix3 0 d ⟨4096 * k.val + n, hn⟩) := by
  have e (a : Fin 1) (d' : Fin 128) (n' : Fin 16384) (hd : d'.val = d.val) (h : n'.val = 4096 * k.val + n) :
      x (ix3 a d' n') = x (ix3 0 d ⟨4096 * k.val + n, hn⟩) := by
    rw [Fin.ext hd, Fin.fin_one_eq_zero a]; congr 2; exact Fin.ext h
  unfold chunk2
  pointwise []
  exact e _ _ _ (by simp [k0_off2_eq]) (by simp [k0_off2_eq])

theorem chunk3_apply (x : Vec Ideal S1x128x16384 .bf16) (k : Fin k0_t3_loop.trips) (d : Fin 128) (n : Fin 4096) (hn : 4096 * k.val + n < 16384) :
    chunk3 x k (ix3 0 d n) = x (ix3 0 d ⟨4096 * k.val + n, hn⟩) := by
  have e (a : Fin 1) (d' : Fin 128) (n' : Fin 16384) (hd : d'.val = d.val) (h : n'.val = 4096 * k.val + n) :
      x (ix3 a d' n') = x (ix3 0 d ⟨4096 * k.val + n, hn⟩) := by
    rw [Fin.ext hd, Fin.fin_one_eq_zero a]; congr 2; exact Fin.ext h
  unfold chunk3
  pointwise []
  exact e _ _ _ (by simp [k0_off3_eq]) (by simp [k0_off3_eq])

end Cert.KernelIdeal.Hand

end
-- ==== Proof.Value.Math.lean ====
module

public import Idealize.ShloMosaic.PureOps.Ideal

/-! Softmax-weighted sums taken a chunk of keys at a time, over the extended reals: the scores are real, the values need
    not be. -/

@[expose] public section

noncomputable section

namespace Cert.Softmax

open Idealize.ShloMosaic

/-- A sum of reals, read as extended reals. -/
theorem coe_sum {ι : Type} (s : Finset ι) (f : ι → ℝ) : ((∑ k ∈ s, f k : ℝ) : EReal) = ∑ k ∈ s, (f k : EReal) := by
  classical
  induction s using Finset.induction_on with
  | empty => simp
  | insert a s h ih => rw [Finset.sum_insert h, Finset.sum_insert h, EReal.coe_add, ih]

/-- A factor that is real and not negative goes into a sum. -/
theorem sum_mul {ι : Type} (s : Finset ι) (f : ι → EReal) {c : ℝ} (hc : 0 ≤ c) :
    (∑ k ∈ s, f k) * (c : EReal) = ∑ k ∈ s, f k * (c : EReal) := by
  classical
  induction s using Finset.induction_on with
  | empty => simp
  | insert a s h ih =>
    rw [Finset.sum_insert h, Finset.sum_insert h,
      EReal.right_distrib_of_nonneg_of_ne_top (EReal.coe_nonneg.2 hc) (EReal.coe_ne_top c), ih]

/-- The accumulators of one query and one feature over the first `n` keys: the maximum used `μ` is real, `l` is the sum of
    the weights `2 ^ (σ k - μ)` and `a` the values' sum with these weights. -/
def Inv (σ : ℕ → ℝ) (v : ℕ → EReal) (n : ℕ) (μ l a : EReal) : Prop :=
  ∃ r : ℝ, μ = (r : EReal) ∧ l = ∑ k ∈ Finset.range n, (((2 : ℝ) ^ (σ k - r) : ℝ) : EReal)
    ∧ a = ∑ k ∈ Finset.range n, v k * (((2 : ℝ) ^ (σ k - r) : ℝ) : EReal)

theorem exp2_coe (x : ℝ) : Ideal.exp2 (x : EReal) = (((2 : ℝ) ^ x : ℝ) : EReal) := rfl

theorem exp2_sub (x y : ℝ) : Ideal.exp2 ((x : EReal) - (y : EReal)) = (((2 : ℝ) ^ (x - y) : ℝ) : EReal) := by
  rw [← EReal.coe_sub]; rfl

/-- Before the first key. -/
theorem Inv.zero (σ : ℕ → ℝ) (v : ℕ → EReal) (r : ℝ) : Inv σ v 0 r 0 0 := ⟨r, rfl, by simp, by simp⟩

/-- Weights taken against one maximum, scaled to another. -/
theorem rescale (s r r' : ℝ) : (2 : ℝ) ^ (s - r) * (2 : ℝ) ^ (r - r') = (2 : ℝ) ^ (s - r') := by
  rw [← Real.rpow_add (by norm_num)]; congr 1; ring

/-- One chunk of `N` more keys, weighed against any real `r'`. -/
theorem Inv.step {σ : ℕ → ℝ} {v : ℕ → EReal} {n : ℕ} {μ l a : EReal} (h : Inv σ v n μ l a) (N : ℕ) (r' : ℝ) :
    Inv σ v (n + N) r'
      (l * Ideal.exp2 (μ - r') + ∑ k : Fin N, Ideal.exp2 ((σ (n + k) : EReal) - r'))
      (a * Ideal.exp2 (μ - r') + ∑ k : Fin N, v (n + k) * Ideal.exp2 ((σ (n + k) : EReal) - r')) := by
  obtain ⟨r, rfl, rfl, rfl⟩ := h
  have hp : (0 : ℝ) ≤ (2 : ℝ) ^ (r - r') := (Real.rpow_pos_of_pos (by norm_num) _).le
  refine ⟨r', rfl, ?_, ?_⟩
  · rw [Finset.sum_range_add, Finset.sum_range, exp2_sub, sum_mul _ _ hp]
    simp only [exp2_sub, ← EReal.coe_mul, rescale]
    rw [Finset.sum_range, Finset.sum_range]
  · rw [Finset.sum_range_add, exp2_sub, sum_mul _ _ hp]
    simp only [exp2_sub, mul_assoc, ← EReal.coe_mul, rescale]
    congr 1
    rw [Finset.sum_range]

/-- The quotient of the accumulators is the softmax-weighted sum, whatever real `M` the reference subtracts. -/
theorem Inv.quotient {σ : ℕ → ℝ} {v : ℕ → EReal} {n : ℕ} {μ l a : EReal} (h : Inv σ v n μ l a) (hn : 0 < n) (M : ℝ) :
    Ideal.div a l = ∑ k ∈ Finset.range n, v k * Ideal.div (Ideal.exp (((σ k * Real.log 2 : ℝ) : EReal) - (M : EReal)))
      (∑ k ∈ Finset.range n, Ideal.exp (((σ k * Real.log 2 : ℝ) : EReal) - (M : EReal))) := by
  obtain ⟨r, rfl, rfl, rfl⟩ := h
  have e (x : ℝ) : Ideal.exp (((x * Real.log 2 : ℝ) : EReal) - (M : EReal)) = ((Real.exp (x * Real.log 2 - M) : ℝ) : EReal) := by
    rw [← EReal.coe_sub]; rfl
  simp only [e, ← coe_sum]
  have hne : (Finset.range n).Nonempty := Finset.nonempty_range_iff.2 hn.ne'
  have hL : (0 : ℝ) < ∑ k ∈ Finset.range n, (2 : ℝ) ^ (σ k - r) :=
    Finset.sum_pos (fun k _ => Real.rpow_pos_of_pos (by norm_num) _) hne
  have hS : (0 : ℝ) < ∑ k ∈ Finset.range n, Real.exp (σ k * Real.log 2 - M) :=
    Finset.sum_pos (fun k _ => Real.exp_pos _) hne
  rw [Ideal.div_coe hL.ne', sum_mul _ _ (by positivity)]
  refine Finset.sum_congr rfl fun k _ => ?_
  rw [Ideal.div_coe hS.ne', mul_assoc, ← EReal.coe_mul, ← EReal.coe_mul]
  have hw (x : ℝ) : (2 : ℝ) ^ (x - r) = Real.exp (x * Real.log 2 - M) * Real.exp (M - r * Real.log 2) := by
    rw [Real.rpow_def_of_pos (by norm_num), ← Real.exp_add]; congr 1; ring
  congr 2
  simp only [hw, ← Finset.sum_mul]
  have := Real.exp_pos (M - r * Real.log 2)
  field_simp

end Cert.Softmax

end
-- ==== Proof.Value.Lanes.lean ====
module

public import proofs.«01_k».proof.Proof.Value.Payloads
public import proofs.«01_k».proof.Proof.Value.Math

/-! One query of one head, through the context keys and every chunk of the latent keys. -/

@[expose] public section

set_option maxRecDepth 16384

noncomputable section

namespace Cert.KernelIdeal.Hand

open Idealize.ShloMosaic Cert.KernelIdeal.Gen Cert.Softmax

/-- Lane `j` and feature `d` of the accumulators after the first `n` keys, whose scores are `σ` and values `w`. -/
def Lane (σ : ℕ → ℝ) (w : ℕ → EReal) (n : ℕ) (s : St Ideal) (d : Fin 128) (j : Fin 1024) : Prop :=
  (∃ x : ℝ, s.m (ix2 0 j) = (x : EReal)) ∧ Inv σ w n (s.macc (ix2 0 j)) (s.l (ix2 0 j)) (s.acc (ix2 d j))

variable {σ : ℕ → ℝ} {w : ℕ → EReal} {n : ℕ} {s : St Ideal} {d : Fin 128} {j : Fin 1024} {q : FVec Ideal S128x1024 .bf16}

theorem start_lane (σ : ℕ → ℝ) (w : ℕ → EReal) (x : Vec Ideal S1x1x1024 .f32) (d : Fin 128) (j : Fin 1024) (r : ℝ) (h : x (ix3 0 0 j) = (r : EReal)) :
    Lane σ w 0 (start x) d j := by
  refine ⟨⟨r, ?_⟩, ?_⟩
  · exact (pay20_apply x j).trans h
  · have e1 : (start x).macc (ix2 0 j) = (r : EReal) := (pay21_apply x j).trans h
    have e2 : (start x).l (ix2 0 j) = 0 := pay23_apply j
    have e3 : (start x).acc (ix2 d j) = 0 := pay24_apply d j
    rw [e1, e2, e3]
    exact Inv.zero σ w r

/-- The context keys. -/
theorem ctxStep_lane (k v : Vec Ideal S1x128x256 .bf16) (h : Lane σ w n s d j)
    (hs : ∀ i : Fin 256, ∑ e : Fin 128, k (ix3 0 e i) * q (ix2 e j) = ((σ (n + i) : ℝ) : EReal)) (hv : ∀ i : Fin 256, v (ix3 0 d i) = w (n + i)) :
    Lane σ w (n + 256) (ctxStep q k v s) d j := by
  have hs' (i : Fin 256) : k0_pay25 q k (ix2 i j) = ((σ (n + i) : ℝ) : EReal) := (pay25_apply q k i j).trans (hs i)
  obtain ⟨hm, hI⟩ := h
  obtain ⟨r, hr⟩ := pay26_real q k s.m j hm fun i => ⟨_, hs' i⟩
  have e1 : (ctxStep q k v s).macc (ix2 0 j) = (r : EReal) := (pay33_apply _ j).trans hr
  have e0 : (ctxStep q k v s).m (ix2 0 j) = (r : EReal) := (pay34_apply _ j).trans hr
  have e2 := pay29_apply q k s.m s.macc s.l j
  have e3 := pay32_apply q k v s.m s.macc s.acc d j
  simp only [hr, hs', hv] at e2 e3
  refine ⟨⟨r, e0⟩, ?_⟩
  rw [e1]
  have := hI.step 256 r
  rw [← e2, ← e3] at this
  exact this

/-- A chunk of latent keys against the maximum before it. -/
theorem earlierStep_lane (k v : Vec Ideal S1x128x4096 .bf16) (h : Lane σ w n s d j)
    (hs : ∀ i : Fin 4096, ∑ e : Fin 128, k (ix3 0 e i) * q (ix2 e j) = ((σ (n + i) : ℝ) : EReal)) (hv : ∀ i : Fin 4096, v (ix3 0 d i) = w (n + i)) :
    Lane σ w (n + 4096) (earlierStep q k v s) d j := by
  have hs' (i : Fin 4096) : k0_pay5 q k (ix2 i j) = ((σ (n + i) : ℝ) : EReal) := (pay5_apply q k i j).trans (hs i)
  obtain ⟨hm, hI⟩ := h
  have e0 : ∃ x : ℝ, (earlierStep q k v s).m (ix2 0 j) = (x : EReal) := pay37_real s.m (k0_pay5 q k) j hm fun i => ⟨_, hs' i⟩
  obtain ⟨r, hr⟩ := hm
  have e1 : (earlierStep q k v s).macc (ix2 0 j) = (r : EReal) := (pay36_apply _ j).trans hr
  have e2 := pay8_apply q k s.m s.macc s.l j
  have e3 := pay9_apply q k v s.m s.macc s.acc d j
  simp only [hr, hs', hv] at e2 e3
  refine ⟨e0, ?_⟩
  rw [e1]
  have := hI.step 4096 r
  rw [← e2, ← e3] at this
  exact this

/-- A chunk of latent keys against the maximum with its own scores. -/
theorem ownStep_lane (k v : Vec Ideal S1x128x4096 .bf16) (h : Lane σ w n s d j)
    (hs : ∀ i : Fin 4096, ∑ e : Fin 128, k (ix3 0 e i) * q (ix2 e j) = ((σ (n + i) : ℝ) : EReal)) (hv : ∀ i : Fin 4096, v (ix3 0 d i) = w (n + i)) :
    Lane σ w (n + 4096) (ownStep q k v s) d j := by
  have hs' (i : Fin 4096) : k0_pay10 q k (ix2 i j) = ((σ (n + i) : ℝ) : EReal) := (pay10_apply q k i j).trans (hs i)
  obtain ⟨hm, hI⟩ := h
  obtain ⟨r, hr⟩ := pay11_real q k s.m j hm fun i => ⟨_, hs' i⟩
  have e1 : (ownStep q k v s).macc (ix2 0 j) = (r : EReal) := (pay39_apply _ j).trans hr
  have e0 : (ownStep q k v s).m (ix2 0 j) = (r : EReal) := (congrFun (pay40_eq _) _).trans hr
  have e2 := pay14_apply q k s.m s.macc s.l j
  have e3 := (pay38_apply (k0_pay15 q k v s.m s.macc s.acc) d j).trans (pay15_apply q k v s.m s.macc s.acc d j)
  simp only [hr, hs', hv] at e2 e3
  refine ⟨⟨r, e0⟩, ?_⟩
  rw [e1]
  have := hI.step 4096 r
  rw [← e2, ← e3] at this
  exact this

theorem trips2 : k0_t2_loop.trips = 4 := by decide +kernel

theorem trips3 : k0_t3_loop.trips = 4 := by decide +kernel

variable {x5 x6 : Vec Ideal S1x128x16384 .bf16}

theorem earlierRun_lane (h : Lane σ w 256 s d j)
    (hs : ∀ i : Fin 16384, ∑ e : Fin 128, x5 (ix3 0 e i) * q (ix2 e j) = ((σ (256 + i) : ℝ) : EReal)) (hv : ∀ i : Fin 16384, x6 (ix3 0 d i) = w (256 + i))
    (c : ℕ) (hc : c ≤ 4) : Lane σ w (256 + 4096 * c) (earlierRun q x5 x6 s c) d j := by
  induction c with
  | zero => exact h
  | succ c ih =>
    have hlt : c < k0_t2_loop.trips := by rw [trips2]; omega
    have ec : earlierRun q x5 x6 s (c + 1) = earlierStep q (chunk2 x5 ⟨c, hlt⟩) (chunk2 x6 ⟨c, hlt⟩) (earlierRun q x5 x6 s c) := dif_pos hlt
    rw [ec, show 256 + 4096 * (c + 1) = 256 + 4096 * c + 4096 by ring]
    refine earlierStep_lane _ _ (ih (by omega)) (fun i => ?_) (fun i => ?_)
    · have hi : 4096 * c + i.val < 16384 := by omega
      simp only [chunk2_apply _ ⟨c, hlt⟩ _ i hi]
      rw [hs ⟨4096 * c + i.val, hi⟩, Nat.add_assoc]
    · have hi : 4096 * c + i.val < 16384 := by omega
      rw [chunk2_apply _ ⟨c, hlt⟩ _ i hi, hv ⟨4096 * c + i.val, hi⟩, Nat.add_assoc]

theorem ownRun_lane (h : Lane σ w 256 s d j)
    (hs : ∀ i : Fin 16384, ∑ e : Fin 128, x5 (ix3 0 e i) * q (ix2 e j) = ((σ (256 + i) : ℝ) : EReal)) (hv : ∀ i : Fin 16384, x6 (ix3 0 d i) = w (256 + i))
    (c : ℕ) (hc : c ≤ 4) : Lane σ w (256 + 4096 * c) (ownRun q x5 x6 s c) d j := by
  induction c with
  | zero => exact h
  | succ c ih =>
    have hlt : c < k0_t3_loop.trips := by rw [trips3]; omega
    have ec : ownRun q x5 x6 s (c + 1) = ownStep q (chunk3 x5 ⟨c, hlt⟩) (chunk3 x6 ⟨c, hlt⟩) (ownRun q x5 x6 s c) := dif_pos hlt
    rw [ec, show 256 + 4096 * (c + 1) = 256 + 4096 * c + 4096 by ring]
    refine ownStep_lane _ _ (ih (by omega)) (fun i => ?_) (fun i => ?_)
    · have hi : 4096 * c + i.val < 16384 := by omega
      simp only [chunk3_apply _ ⟨c, hlt⟩ _ i hi]
      rw [hs ⟨4096 * c + i.val, hi⟩, Nat.add_assoc]
    · have hi : 4096 * c + i.val < 16384 := by omega
      rw [chunk3_apply _ ⟨c, hlt⟩ _ i hi, hv ⟨4096 * c + i.val, hi⟩, Nat.add_assoc]

/-- All keys, by either loop. -/
theorem final_lane (b : Bool) (h : Lane σ w 256 s d j)
    (hs : ∀ i : Fin 16384, ∑ e : Fin 128, x5 (ix3 0 e i) * q (ix2 e j) = ((σ (256 + i) : ℝ) : EReal)) (hv : ∀ i : Fin 16384, x6 (ix3 0 d i) = w (256 + i)) :
    Lane σ w 16640 (final b q x5 x6 s) d j := by
  cases b with
  | true =>
    have := earlierRun_lane h hs hv 4 le_rfl
    rw [← trips2] at this
    exact this
  | false =>
    have := ownRun_lane h hs hv 4 le_rfl
    rw [← trips3] at this
    exact this

theorem pay4_piece (Y : FVec Ideal S128x1024 .bf16) (x : S1x1x128x256.Idx) (y : S1x4x128x256.Idx) (h1 : (y 1).val = 3 + 1 * (x 1).val)
    (h2 : (y 2).val = 0 + 1 * (x 2).val) (h3 : (y 3).val = (x 3).val) :
    k0_pay4 Y x = Y (ix2 (y 2) ⟨(256 * (y 1).val + (y 3).val) % 1024, Nat.mod_lt _ (by norm_num)⟩) := by
  rw [Nat.zero_add, Nat.one_mul] at h2
  obtain ⟨x0, x1, x2, x3, rfl⟩ : ∃ (x0 x1 : Fin 1) (x2 : Fin 128) (x3 : Fin 256), x = ix4 x0 x1 x2 x3 := ⟨x 0, x 1, x 2, x 3, by funext i; fin_cases i <;> rfl⟩
  rw [Fin.fin_one_eq_zero x0, Fin.fin_one_eq_zero x1, pay4_apply Y x2 x3]
  have e2 : y 2 = x2 := Fin.ext h2
  have h1' : (y 1).val = 3 := by have : (x1 : ℕ) = 0 := by omega
                                 simpa [this] using h1
  have h3' : (y 3).val = x3.val := h3
  rw [e2]
  congr 2
  exact Fin.ext (by show _ = (256 * (y 1).val + (y 3).val) % 1024; rw [h1', h3']; simp; omega)

theorem pay3_piece (Y : FVec Ideal S128x1024 .bf16) (x : S1x1x128x256.Idx) (y : S1x4x128x256.Idx) (h1 : (y 1).val = 2 + 1 * (x 1).val)
    (h2 : (y 2).val = 0 + 1 * (x 2).val) (h3 : (y 3).val = (x 3).val) :
    k0_pay3 Y x = Y (ix2 (y 2) ⟨(256 * (y 1).val + (y 3).val) % 1024, Nat.mod_lt _ (by norm_num)⟩) := by
  rw [Nat.zero_add, Nat.one_mul] at h2
  obtain ⟨x0, x1, x2, x3, rfl⟩ : ∃ (x0 x1 : Fin 1) (x2 : Fin 128) (x3 : Fin 256), x = ix4 x0 x1 x2 x3 := ⟨x 0, x 1, x 2, x 3, by funext i; fin_cases i <;> rfl⟩
  rw [Fin.fin_one_eq_zero x0, Fin.fin_one_eq_zero x1, pay3_apply Y x2 x3]
  have e2 : y 2 = x2 := Fin.ext h2
  have h1' : (y 1).val = 2 := by have : (x1 : ℕ) = 0 := by omega
                                 simpa [this] using h1
  have h3' : (y 3).val = x3.val := h3
  rw [e2]
  congr 2
  exact Fin.ext (by show _ = (256 * (y 1).val + (y 3).val) % 1024; rw [h1', h3']; simp; omega)

theorem pay2_piece (Y : FVec Ideal S128x1024 .bf16) (x : S1x1x128x256.Idx) (y : S1x4x128x256.Idx) (h1 : (y 1).val = 1 + 1 * (x 1).val)
    (h2 : (y 2).val = 0 + 1 * (x 2).val) (h3 : (y 3).val = (x 3).val) :
    k0_pay2 Y x = Y (ix2 (y 2) ⟨(256 * (y 1).val + (y 3).val) % 1024, Nat.mod_lt _ (by norm_num)⟩) := by
  rw [Nat.zero_add, Nat.one_mul] at h2
  obtain ⟨x0, x1, x2, x3, rfl⟩ : ∃ (x0 x1 : Fin 1) (x2 : Fin 128) (x3 : Fin 256), x = ix4 x0 x1 x2 x3 := ⟨x 0, x 1, x 2, x 3, by funext i; fin_cases i <;> rfl⟩
  rw [Fin.fin_one_eq_zero x0, Fin.fin_one_eq_zero x1, pay2_apply Y x2 x3]
  have e2 : y 2 = x2 := Fin.ext h2
  have h1' : (y 1).val = 1 := by have : (x1 : ℕ) = 0 := by omega
                                 simpa [this] using h1
  have h3' : (y 3).val = x3.val := h3
  rw [e2]
  congr 2
  exact Fin.ext (by show _ = (256 * (y 1).val + (y 3).val) % 1024; rw [h1', h3']; simp; omega)

theorem pay1_piece (a : Vec Ideal S128x1024 .f32) (l : Vec Ideal S1x1024 .f32) (x : S1x1x128x256.Idx) (y : S1x4x128x256.Idx) (h1 : (y 1).val = 0 + 1 * (x 1).val)
    (h2 : (y 2).val = 0 + 1 * (x 2).val) (h3 : (y 3).val = (x 3).val) :
    k0_pay1 (k0_pay42 a l) x = k0_pay41 a l (ix2 (y 2) ⟨(256 * (y 1).val + (y 3).val) % 1024, Nat.mod_lt _ (by norm_num)⟩) := by
  rw [Nat.zero_add, Nat.one_mul] at h2
  obtain ⟨x0, x1, x2, x3, rfl⟩ : ∃ (x0 x1 : Fin 1) (x2 : Fin 128) (x3 : Fin 256), x = ix4 x0 x1 x2 x3 := ⟨x 0, x 1, x 2, x 3, by funext i; fin_cases i <;> rfl⟩
  rw [Fin.fin_one_eq_zero x0, Fin.fin_one_eq_zero x1, pay1_apply a l x2 x3]
  have e2 : y 2 = x2 := Fin.ext h2
  have h1' : (y 1).val = 0 := by have : (x1 : ℕ) = 0 := by omega
                                 simpa [this] using h1
  have h3' : (y 3).val = x3.val := h3
  rw [e2]
  congr 2
  exact Fin.ext (by show _ = (256 * (y 1).val + (y 3).val) % 1024; rw [h1', h3']; simp; omega)

/-- Four stores, one per head, that agree with one function of the block's index, leave that function. -/
theorem four_stores (P0 P1 P2 P3 : S1x1x128x256.Idx → Ideal .bf16) (G : S1x4x128x256.Idx → Ideal .bf16)
    (h0 : ∀ x, P0 x = G ((Rect.unit (s := S1x4x128x256) ![0, 0, 0, 0] S1x1x128x256.size inb_S1x4x128x256_S1x1x128x256_0_0_0_0).emb x))
    (h1 : ∀ x, P1 x = G ((Rect.unit (s := S1x4x128x256) ![0, 1, 0, 0] S1x1x128x256.size inb_S1x4x128x256_S1x1x128x256_0_1_0_0).emb x))
    (h2 : ∀ x, P2 x = G ((Rect.unit (s := S1x4x128x256) ![0, 2, 0, 0] S1x1x128x256.size inb_S1x4x128x256_S1x1x128x256_0_2_0_0).emb x))
    (h3 : ∀ x, P3 x = G ((Rect.unit (s := S1x4x128x256) ![0, 3, 0, 0] S1x1x128x256.size inb_S1x4x128x256_S1x1x128x256_0_3_0_0).emb x)) (y : S1x4x128x256.Idx) :
    View.canon (Val := Elt Ideal) (e := .bf16)
      [⟨Rect.unit (s := S1x4x128x256) ![0, 3, 0, 0] S1x1x128x256.size inb_S1x4x128x256_S1x1x128x256_0_3_0_0, P3⟩,
        ⟨Rect.unit (s := S1x4x128x256) ![0, 2, 0, 0] S1x1x128x256.size inb_S1x4x128x256_S1x1x128x256_0_2_0_0, P2⟩,
        ⟨Rect.unit (s := S1x4x128x256) ![0, 1, 0, 0] S1x1x128x256.size inb_S1x4x128x256_S1x1x128x256_0_1_0_0, P1⟩,
        ⟨Rect.unit (s := S1x4x128x256) ![0, 0, 0, 0] S1x1x128x256.size inb_S1x4x128x256_S1x1x128x256_0_0_0_0, P0⟩] y = G y := by
  refine View.canon_apply_of_pieces (Val := Elt Ideal) (S := S1x4x128x256) (e := .bf16) G _ (fun p hp => ?_) y
    (View.cover_of_tiledL _ ![1, 1, 128, 256] (by sl_kernel_rfl) y)
  rcases List.mem_cons.mp hp with rfl | hp
  · exact h3
  rcases List.mem_cons.mp hp with rfl | hp
  · exact h2
  rcases List.mem_cons.mp hp with rfl | hp
  · exact h1
  rcases List.mem_cons.mp hp with rfl | hp
  · exact h0
  cases hp

/-- The four stores of a result block, at one head, feature and column. -/
theorem blk_apply (a : Vec Ideal S128x1024 .f32) (l : Vec Ideal S1x1024 .f32) (g : Fin 4) (d : Fin 128) (c : Fin 256) (hj : 256 * g.val + c.val < 1024) :
    View.canon (Val := Elt Ideal) (e := .bf16)
      [⟨Rect.unit (s := S1x4x128x256) ![0, 3, 0, 0] S1x1x128x256.size inb_S1x4x128x256_S1x1x128x256_0_3_0_0, k0_pay4 (F := Ideal) (k0_pay41 a l)⟩,
        ⟨Rect.unit (s := S1x4x128x256) ![0, 2, 0, 0] S1x1x128x256.size inb_S1x4x128x256_S1x1x128x256_0_2_0_0, k0_pay3 (F := Ideal) (k0_pay41 a l)⟩,
        ⟨Rect.unit (s := S1x4x128x256) ![0, 1, 0, 0] S1x1x128x256.size inb_S1x4x128x256_S1x1x128x256_0_1_0_0, k0_pay2 (F := Ideal) (k0_pay41 a l)⟩,
        ⟨Rect.unit (s := S1x4x128x256) ![0, 0, 0, 0] S1x1x128x256.size inb_S1x4x128x256_S1x1x128x256_0_0_0_0, k0_pay1 (F := Ideal) (k0_pay42 a l)⟩] (ix4 0 g d c)
      = k0_pay41 (F := Ideal) a l (ix2 d ⟨256 * g + c, hj⟩) := by
  have key := four_stores (k0_pay1 (F := Ideal) (k0_pay42 a l)) (k0_pay2 (F := Ideal) (k0_pay41 a l)) (k0_pay3 (F := Ideal) (k0_pay41 a l))
    (k0_pay4 (F := Ideal) (k0_pay41 a l))
    (fun y => k0_pay41 (F := Ideal) a l (ix2 (y 2) ⟨(256 * (y 1).val + (y 3).val) % 1024, Nat.mod_lt _ (by norm_num)⟩))
    (fun x => pay1_piece a l x _ rfl rfl (Nat.zero_add _ |>.trans (Nat.one_mul _)))
    (fun x => pay2_piece _ x _ rfl rfl (Nat.zero_add _ |>.trans (Nat.one_mul _)))
    (fun x => pay3_piece _ x _ rfl rfl (Nat.zero_add _ |>.trans (Nat.one_mul _)))
    (fun x => pay4_piece _ x _ rfl rfl (Nat.zero_add _ |>.trans (Nat.one_mul _))) (ix4 0 g d c)
  have e : (⟨(256 * g.val + c.val) % 1024, Nat.mod_lt _ (by norm_num)⟩ : Fin 1024) = ⟨256 * g + c, hj⟩ := Fin.ext (Nat.mod_eq_of_lt hj)
  rw [← e]
  exact key

/-- The result's block at one query, head and feature: the weighted sum of the values, the weights the softmax of the scores. -/
theorem outBlk_apply (b : Bool) (x2 : Vec Ideal S1x4x128x256 .bf16) (x3 x4 : Vec Ideal S1x128x256 .bf16) (x5 x6 : Vec Ideal S1x128x16384 .bf16)
    (x7 : Vec Ideal S1x1x1024 .f32) (g : Fin 4) (d : Fin 128) (c : Fin 256) (σ : ℕ → ℝ) (w : ℕ → EReal) (r M : ℝ)
    (h7 : ∀ j : Fin 1024, x7 (ix3 0 0 j) = (r : EReal))
    (hk : ∀ i : Fin 256, ∑ e : Fin 128, x3 (ix3 0 e i) * x2 (ix4 0 g e c) = ((σ i : ℝ) : EReal)) (hv : ∀ i : Fin 256, x4 (ix3 0 d i) = w i)
    (hk' : ∀ i : Fin 16384, ∑ e : Fin 128, x5 (ix3 0 e i) * x2 (ix4 0 g e c) = ((σ (256 + i) : ℝ) : EReal))
    (hv' : ∀ i : Fin 16384, x6 (ix3 0 d i) = w (256 + i)) :
    outBlk b x2 x3 x4 x5 x6 x7 (ix4 0 g d c)
      = ∑ k ∈ Finset.range 16640, w k * Ideal.div (Ideal.exp (((σ k * Real.log 2 : ℝ) : EReal) - (M : EReal)))
        (∑ k ∈ Finset.range 16640, Ideal.exp (((σ k * Real.log 2 : ℝ) : EReal) - (M : EReal))) := by
  have hj : 256 * g.val + c.val < 1024 := by omega
  have l0 : Lane σ w 0 (start x7) d ⟨256 * g + c, hj⟩ := start_lane σ w x7 d _ r (h7 _)
  have l1 : Lane σ w 256 (ctxStep (heads x2) x3 x4 (start x7)) d ⟨256 * g + c, hj⟩ := by
    refine ctxStep_lane (n := 0) x3 x4 l0 (fun i => ?_) (fun i => ?_)
    · simp only [heads_apply x2 g _ c]; rw [hk i, Nat.zero_add]
    · rw [hv i, Nat.zero_add]
  have l2 : Lane σ w 16640 (final b (heads x2) x5 x6 (ctxStep (heads x2) x3 x4 (start x7))) d ⟨256 * g + c, hj⟩ := by
    refine final_lane b l1 (fun i => ?_) hv'
    simp only [heads_apply x2 g _ c]; exact hk' i
  rw [← l2.2.quotient (by norm_num) M, ← pay41_apply]
  unfold outBlk
  generalize final b (heads x2) x5 x6 (ctxStep (heads x2) x3 x4 (start x7)) = t
  exact blk_apply t.acc t.l g d c hj

end Cert.KernelIdeal.Hand

end
-- ==== Proof.Value.Ref.lean ====
/-
The reference's attention, read at one head, query head, feature and query token: the values weighted by the
softmax of real scores. Over finite queries and keys every score is real, and so is the maximum the reference subtracts.
-/
module

public import proofs.«01_k».proof.Proof.Gen.ReferenceIdeal.Read
public import proofs.«01_k».proof.Proof.Value.Math
public import proofs.«01_k».proof.Proof.Value.Payloads
public import Idealize.ShloMosaic.Lib.Pointwise
public import Idealize.ShloMosaic.Lib.Claim

@[expose] public section

namespace Cert.ReferenceIdeal.Hand

open Idealize.ShloMosaic Idealize.ShloMosaic.TcCoe Idealize.ShloMosaic.Tactic Idealize.ShloMosaic.StableHlo
open Cert.ReferenceIdeal.Gen Cert.ReferenceIdeal.Read

set_option maxRecDepth 16384
set_option maxHeartbeats 1000000

/-- Entry `n` of the context's tokens followed by the query's own, at one head and feature. -/
noncomputable def tok (x0 : FVec Ideal S1x256x8x128 .f32) (x1 : FVec Ideal S1x16384x8x128 .f32) (h : Fin 8) (d : Fin 128) (n : ℕ) : EReal :=
  if ht : n < 256 then x0 (ix4 0 ⟨n, ht⟩ h d)
  else if ht' : n - 256 < 16384 then x1 (ix4 0 ⟨n - 256, ht'⟩ h d) else 0

/-- The factor on the queries that makes a power of two of a score's exponential. -/
noncomputable def scale : ℝ := 1 / (√128 * Real.log 2)

/-- The scaled score of key `n` against query `t` of query head `g` in head `h`. -/
noncomputable def score (q : FVec Ideal S1x16384x32x128 .f32) (x0 : FVec Ideal S1x256x8x128 .f32) (x1 : FVec Ideal S1x16384x8x128 .f32)
    (h : Fin 8) (g : Fin 4) (t : Fin 16384) (n : ℕ) : ℝ :=
  ∑ d : Fin 128, (tok x0 x1 h d n).toReal * ((q (ix4 0 t ⟨4 * h.val + g.val, by omega⟩ d)).toReal * scale)

/-- The entries of an array are real numbers. -/
def Finite {s : Shape} (x : FVec Ideal s .f32) : Prop := ∀ i, ∃ r : ℝ, x i = (r : EReal)

theorem tok_real {x0 x1} (h0 : Finite x0) (h1 : Finite x1) (h d n) : ((tok x0 x1 h d n).toReal : EReal) = tok x0 x1 h d n := by
  unfold tok
  split_ifs
  · obtain ⟨r, hr⟩ := h0 (ix4 0 ⟨n, by assumption⟩ h d)
    rw [hr, EReal.toReal_coe]
  · obtain ⟨r, hr⟩ := h1 (ix4 0 ⟨n - 256, by assumption⟩ h d)
    rw [hr, EReal.toReal_coe]
  · simp

theorem real_coe {s : Shape} {x : FVec Ideal s .f32} (hx : Finite x) (i : s.Idx) : ((x i).toReal : EReal) = x i := by
  obtain ⟨r, hr⟩ := hx i
  rw [hr, EReal.toReal_coe]

/-- The joined tokens are the context's, then the query's own. -/
theorem join_apply (x0 : FVec Ideal S1x256x8x128 .f32) (x1 : FVec Ideal S1x16384x8x128 .f32) (n : Fin 16640) (h : Fin 8) (d : Fin 128) :
    val_main_v0 (F := Ideal) x0 x1 (ix4 0 n h d) = tok x0 x1 h d n := by
  unfold tok
  pointwise [val_main_v0]
  have h' : n.val < 16640 := n.isLt
  split_ifs
  all_goals first | rfl | rw [dif_pos (by omega)]

/-- The joined values, likewise. -/
theorem join_apply' (x0 : FVec Ideal S1x256x8x128 .f32) (x1 : FVec Ideal S1x16384x8x128 .f32) (n : Fin 16640) (h : Fin 8) (d : Fin 128) :
    val_main_v1 (F := Ideal) x0 x1 (ix4 0 n h d) = tok x0 x1 h d n :=
  Eq.trans (by unfold val_main_v1 val_main_v0; rfl) (join_apply x0 x1 n h d)

/-- The queries grouped by the head their keys belong to. -/
theorem group_apply (q : FVec Ideal S1x16384x32x128 .f32) (t : Fin 16384) (h : Fin 8) (g : Fin 4) (d : Fin 128) :
    val_main_v2 (F := Ideal) q (ix5 0 t h g d) = q (ix4 0 t ⟨4 * h.val + g.val, by omega⟩ d) := by
  rw [val_main_v2_apply]
  congr 1
  funext a
  have := t.isLt; have := h.isLt; have := g.isLt; have := d.isLt
  fin_cases a <;> apply Fin.ext <;> simp <;> omega

theorem root_apply (i : S1x8x4x16384x16640.Idx) : val_main_v6 (F := Ideal) i = ((√128 : ℝ) : EReal) := by
  have e : Ideal.ofBits .f32 0x43000000#32 = ((128 : ℝ) : EReal) := by
    simp [Ideal.ofBits, Ideal.ieee, -EReal.coe_mul]; norm_num
  rw [val_main_v6_apply, val_main_v5_apply]
  unfold val_main_cst
  simp only [Ideal.hostUnary_sqrt_def, constant]
  refine (congrArg Ideal.sqrt e).trans ?_
  rw [Ideal.sqrt_coe, if_neg (by norm_num)]

/-- A score of the reference is the scaled score without the factor that made a power of two of it. -/
theorem score_apply {q x0 x1} (hq : Finite q) (h0 : Finite x0) (h1 : Finite x1)
    (h : Fin 8) (g : Fin 4) (t : Fin 16384) (n : Fin 16640) :
    val_main_v7 (F := Ideal) q x0 x1 (ix5 0 h g t n) = ((score q x0 x1 h g t n * Real.log 2 : ℝ) : EReal) := by
  have hl : Real.log 2 ≠ 0 := (Real.log_pos (by norm_num)).ne'
  have hs : (√128 : ℝ) ≠ 0 := by positivity
  rw [val_main_v7_apply, root_apply, val_main_v4_apply, val_main_v3_apply, Ideal.hostDivf_def, Ideal.div_coe hs]
  have e : ∀ d : Fin 128, val_main_v0 (F := Ideal) x0 x1 (lidx_main_v3 (idx_main_v4 (ix5 0 h g t n)) d)
      * val_main_v2 (F := Ideal) q (ridx_main_v3 (idx_main_v4 (ix5 0 h g t n)) d)
      = (((tok x0 x1 h d n).toReal * (q (ix4 0 t ⟨4 * h.val + g.val, by omega⟩ d)).toReal : ℝ) : EReal) := by
    intro d
    have e1 : lidx_main_v3 (idx_main_v4 (ix5 0 h g t n)) d = ix4 0 n h d := by
      funext a; fin_cases a <;> rfl
    have e2 : ridx_main_v3 (idx_main_v4 (ix5 0 h g t n)) d = ix5 0 t h g d := by
      funext a; fin_cases a <;> rfl
    rw [e1, e2, join_apply, group_apply, EReal.coe_mul, tok_real h0 h1, real_coe hq]
  rw [Finset.sum_congr rfl fun d _ => e d, ← Cert.Softmax.coe_sum, ← EReal.coe_mul]
  congr 1
  unfold score scale
  rw [Finset.sum_mul, Finset.sum_mul]
  refine Finset.sum_congr rfl fun d _ => ?_
  field_simp

/-- A maximum over the keys, of any scores. -/
theorem top_eq (s : FVec Ideal S1x8x4x16384x16640 .f32) (h : Fin 8) (g : Fin 4) (t : Fin 16384) :
    Host.reduce FloatOps.maximumf s (constant (F := Ideal) S_ .f32 0xFF800000#32) reducesTo_S1x8x4x16384x16640_S1x8x4x16384_d4 h_S_ (ix4 0 h g t)
      = Finset.univ.fold max (Ideal.ofBits .f32 0xFF800000#32) fun n : Fin 16640 => s (ix5 0 h g t n) := by
  pointwise []

/-- The maximum of a real score and others is real. -/
theorem top_real (s : FVec Ideal S1x8x4x16384x16640 .f32) (h : Fin 8) (g : Fin 4) (t : Fin 16384)
    (hs : ∀ n, ∃ x : ℝ, s (ix5 0 h g t n) = (x : EReal)) :
    ∃ M : ℝ, max (Ideal.ofBits .f32 0xFF800000#32)
      (Host.reduce FloatOps.maximumf s (constant (F := Ideal) S_ .f32 0xFF800000#32) reducesTo_S1x8x4x16384x16640_S1x8x4x16384_d4 h_S_ (ix4 0 h g t)) = (M : EReal) := by
  rw [top_eq, Cert.KernelIdeal.Hand.negInf, max_eq_right bot_le, ← Cert.KernelIdeal.Hand.negInf]
  obtain ⟨x, hx⟩ := Cert.KernelIdeal.Hand.max_real (s (ix5 0 h g t 0)) (fun n : Fin 16640 => s (ix5 0 h g t n)) (hs 0) hs
  refine ⟨x, Eq.trans (max_eq_right ?_).symm hx⟩
  exact Finset.le_fold_max _ |>.2 (.inr ⟨0, Finset.mem_univ _, le_rfl⟩)

/-- The maximum the reference subtracts is real. -/
theorem maximum_real {q x0 x1} (hq : Finite q) (h0 : Finite x0) (h1 : Finite x1) (h : Fin 8) (g : Fin 4) (t : Fin 16384) :
    ∃ M : ℝ, val_main_v10 (F := Ideal) q x0 x1 (ix4 0 h g t) = (M : EReal) := by
  obtain ⟨M, hM⟩ := top_real (val_main_v7 (F := Ideal) q x0 x1) h g t fun n => ⟨_, score_apply hq h0 h1 h g t n⟩
  refine ⟨M, Eq.trans ?_ hM⟩
  rw [val_main_v10_apply, val_main_v9_apply]
  rfl

/-- An exponential of the reference. -/
theorem exp_apply {q x0 x1} (hq : Finite q) (h0 : Finite x0) (h1 : Finite x1) (h : Fin 8) (g : Fin 4) (t : Fin 16384) {M : ℝ}
    (hM : val_main_v10 (F := Ideal) q x0 x1 (ix4 0 h g t) = (M : EReal)) (n : Fin 16640) :
    val_main_v14 (F := Ideal) q x0 x1 (ix5 0 h g t n)
      = Ideal.exp (((score q x0 x1 h g t n * Real.log 2 : ℝ) : EReal) - (M : EReal)) := by
  have e : idx_main_v11 (idx_main_v12 (ix5 0 h g t n)) = ix4 0 h g t := by
    funext a; fin_cases a <;> rfl
  rw [val_main_v14_apply, val_main_v13_apply, val_main_v12_apply, val_main_v11_apply, e, hM, score_apply hq h0 h1]
  rfl

/-- The reference's result: the values weighted by the softmax of the scores. -/
theorem result_apply {q x0 x1} (hq : Finite q) (h0 : Finite x0) (h1 : Finite x1) (x2 : FVec Ideal S1x256x8x128 .f32)
    (x3 : FVec Ideal S1x16384x8x128 .f32) (h : Fin 8) (g : Fin 4) (d : Fin 128) (t : Fin 16384) :
    ∃ M : ℝ, val_main_v23 (F := Ideal) q x0 x1 x2 x3 (ix4 h g d t)
      = ∑ n ∈ Finset.range 16640, tok x2 x3 h d n *
          Ideal.div (Ideal.exp (((score q x0 x1 h g t n * Real.log 2 : ℝ) : EReal) - (M : EReal)))
            (∑ n ∈ Finset.range 16640, Ideal.exp (((score q x0 x1 h g t n * Real.log 2 : ℝ) : EReal) - (M : EReal))) := by
  obtain ⟨M, hM⟩ := maximum_real hq h0 h1 h g t
  refine ⟨M, ?_⟩
  have ex := exp_apply hq h0 h1 h g t hM
  have el : val_main_v15 (F := Ideal) q x0 x1 (ix4 0 h g t)
      = ∑ n ∈ Finset.range 16640, Ideal.exp (((score q x0 x1 h g t n * Real.log 2 : ℝ) : EReal) - (M : EReal)) := by
    have z : val_main_cst_2 (F := Ideal) (Shape.Idx.first h_S_) = (0 : EReal) := Ideal.ofBits_zero_f32
    rw [val_main_v15_apply, z, zero_add, Finset.sum_range]
    refine Finset.sum_congr rfl fun n _ => Eq.trans (congrArg _ ?_) (ex n)
    funext a; fin_cases a <;> rfl
  have ei : idx_main_v20 (idx_main_v21 (idx_main_v22 (ix4 h g d t))) = ix5 0 h d g t := by
    have := t.isLt; have := h.isLt; have := g.isLt; have := d.isLt
    funext a
    fin_cases a <;> apply Fin.ext <;> simp <;> omega
  rw [val_main_v23_apply, val_main_v22_apply, val_main_v21_apply, val_main_v20_apply, ei, val_main_v19_apply]
  refine Eq.trans (b := ∑ n : Fin 16640, tok x2 x3 h d n * Ideal.div (Ideal.exp (((score q x0 x1 h g t n * Real.log 2 : ℝ) : EReal) - (M : EReal)))
            (∑ n ∈ Finset.range 16640, Ideal.exp (((score q x0 x1 h g t n * Real.log 2 : ℝ) : EReal) - (M : EReal)))) ?_
    (Finset.sum_range fun n => tok x2 x3 h d n * Ideal.div (Ideal.exp (((score q x0 x1 h g t n * Real.log 2 : ℝ) : EReal) - (M : EReal)))
            (∑ n ∈ Finset.range 16640, Ideal.exp (((score q x0 x1 h g t n * Real.log 2 : ℝ) : EReal) - (M : EReal)))).symm
  change (∑ n : Fin 16640, _) = _
  refine Finset.sum_congr rfl fun n _ => ?_
  have e1 : lidx_main_v19 (ix5 0 h d g t) n = ix4 0 n h d := by
    funext a; fin_cases a <;> rfl
  have e2 : ridx_main_v19 (ix5 0 h d g t) n = ix5 0 h g t n := by
    funext a; fin_cases a <;> rfl
  have e3 : idx_main_v16 (idx_main_v17 (ix5 0 h g t n)) = ix4 0 h g t := by
    funext a; fin_cases a <;> rfl
  rw [e1, e2, val_main_v18_apply, val_main_v17_apply, val_main_v16_apply, e3, el, ex n, Ideal.hostDivf_def, join_apply']

end Cert.ReferenceIdeal.Hand
-- ==== Proof.Value.Result.lean ====
module

public import proofs.«01_k».proof.Proof.Value.Blocks
public import proofs.«01_k».proof.Proof.Value.Lanes
public import proofs.«01_k».proof.Proof.Value.Ref

/-! The result array is the reference's: every grid point leaves the reference's attention at its head and its query tokens,
    and the blocks cover the array. -/

@[expose] public section

set_option maxRecDepth 16384

set_option maxHeartbeats 1000000

noncomputable section

namespace Cert.KernelIdeal.Hand

open Idealize.ShloMosaic Idealize.ShloMosaic.TcCoe Idealize.ShloMosaic.Tactic Idealize.ShloMosaic.StableHlo Cert.KernelIdeal.Gen
open Idealize.ShloMosaic.Pipeline
open Cert.ReferenceIdeal.Hand (Finite tok score scale tok_real real_coe result_apply)

variable (m : (ℓ : Loc nD τ sig) → Buf (Elt Ideal) ℓ)

/-- The context's keys and values and the query tokens' own, as the program is given them. -/
def argKc (c : Dev nD) : FVec Ideal S1x256x8x128 .f32 := m ((c.tc : Thread nD τ).loc main_arg2)
def argK (c : Dev nD) : FVec Ideal S1x16384x8x128 .f32 := m ((c.tc : Thread nD τ).loc main_arg3)
def argVc (c : Dev nD) : FVec Ideal S1x256x8x128 .f32 := m ((c.tc : Thread nD τ).loc main_arg4)
def argV (c : Dev nD) : FVec Ideal S1x16384x8x128 .f32 := m ((c.tc : Thread nD τ).loc main_arg5)

/-- The reference's result at the program's arguments. -/
def attn (c : Dev nD) : FVec Ideal S8x4x128x16384 .bf16 :=
  Cert.ReferenceIdeal.Read.val_main_v23 (F := Ideal) (argQ m c) (argKc m c) (argK m c) (argVc m c) (argV m c)

theorem tok_ctx (x0 : FVec Ideal S1x256x8x128 .f32) (x1 : FVec Ideal S1x16384x8x128 .f32) (h : Fin 8) (d : Fin 128) (i : Fin 256) :
    tok x0 x1 h d i = x0 (ix4 0 i h d) := by
  unfold tok
  rw [dif_pos i.isLt]

theorem tok_own (x0 : FVec Ideal S1x256x8x128 .f32) (x1 : FVec Ideal S1x16384x8x128 .f32) (h : Fin 8) (d : Fin 128) (i : Fin 16384) :
    tok x0 x1 h d (256 + i) = x1 (ix4 0 i h d) := by
  unfold tok
  have e : 256 + i.val - 256 = i.val := by omega
  rw [dif_neg (by omega), dif_pos (by omega)]
  congr 2
  exact Fin.ext e

/-- A key's product with a point's scaled query is the scaled score. -/
theorem dot_eq (c : Dev nD) (hq : Finite (argQ m c)) (h0 : Finite (argKc m c)) (h1 : Finite (argK m c)) (t : Fin cfg0.N) (g : Fin 4)
    (j : Fin 256) (n : ℕ) (k : Fin 128 → EReal) (hk : ∀ e, k e = tok (argKc m c) (argK m c) (hd t) e n) :
    ∑ e : Fin 128, k e * iblk m c 0 t (ix4 0 g e j)
      = ((score (argQ m c) (argKc m c) (argK m c) (hd t) g (qtok t j) n : ℝ) : EReal) := by
  unfold score
  rw [Cert.Softmax.coe_sum]
  refine Finset.sum_congr rfl fun e _ => ?_
  rw [hk e, iblk_q, qscale_eq, EReal.coe_mul, EReal.coe_mul, tok_real h0 h1, real_coe hq]
  rfl

/-- What a grid point leaves is the reference's result at the point's head and query tokens. -/
theorem out_apply (c : Dev nD) (hq : Finite (argQ m c)) (h0 : Finite (argKc m c)) (h1 : Finite (argK m c)) (b : Bool) (t : Fin cfg0.N)
    (g : Fin 4) (d : Fin 128) (j : Fin 256) :
    outBlk b (iblk m c 0 t) (iblk m c 1 t) (iblk m c 2 t) (iblk m c 3 t) (iblk m c 4 t) (iblk m c 5 t) (ix4 0 g d j)
      = attn m c (ix4 (hd t) g d (qtok t j)) := by
  obtain ⟨M, hM⟩ := result_apply hq h0 h1 (argVc m c) (argV m c) (hd t) g d (qtok t j)
  obtain ⟨r, hr⟩ := iblk_init m c t
  refine Eq.trans ?_ hM.symm
  exact outBlk_apply b (iblk m c 0 t) (iblk m c 1 t) (iblk m c 2 t) (iblk m c 3 t) (iblk m c 4 t) (iblk m c 5 t) g d j
    (score (argQ m c) (argKc m c) (argK m c) (hd t) g (qtok t j)) (tok (argVc m c) (argV m c) (hd t) d) r M hr
    (fun i => dot_eq m c hq h0 h1 t g j i _ fun e => (iblk_kc m c t e i).trans (tok_ctx _ _ _ _ i).symm)
    (fun i => (iblk_vc m c t d i).trans (tok_ctx _ _ _ _ i).symm)
    (fun i => dot_eq m c hq h0 h1 t g j (256 + i) _ fun e => (iblk_k m c t e i).trans (tok_own _ _ _ _ i).symm)
    (fun i => (iblk_v m c t d i).trans (tok_own _ _ _ _ i).symm)

theorem index_cell : ∀ (h : Fin 8) (i : Fin 64), win0_6.index ⟨64 * h.val + i.val, by have := h.isLt; have := i.isLt; show _ < 512; omega⟩ = ![h.val, 0, 0, i.val] := by
  decide +kernel

/-- The result's blocks cover the array. -/
theorem covers : (cfg0.win 6).Covers :=
  (cfg0.win 6).covers_of_index_surj rfl (by decide) fun β => by
    have b0 : (β (0 : Fin 4)).val < 8 := (β (0 : Fin 4)).isLt
    have b1 : (β (1 : Fin 4)).val < 1 := (β (1 : Fin 4)).isLt
    have b2 : (β (2 : Fin 4)).val < 1 := (β (2 : Fin 4)).isLt
    have b3 : (β (3 : Fin 4)).val < 64 := (β (3 : Fin 4)).isLt
    refine ⟨_, fun a => (congrFun (index_cell ⟨(β (0 : Fin 4)).val, b0⟩ ⟨(β (3 : Fin 4)).val, b3⟩) a).trans ?_⟩
    match a with
    | ⟨0, _⟩ => rfl
    | ⟨1, _⟩ => exact (Nat.lt_one_iff.1 b1).symm
    | ⟨2, _⟩ => exact (Nat.lt_one_iff.1 b2).symm
    | ⟨3, _⟩ => rfl

/-- After the run the result array is the reference's result. -/
theorem array_eq (c : Dev nD) (hq : Finite (argQ m c)) (h0 : Finite (argKc m c)) (h1 : Finite (argK m c))
    (after : (w' : Fin cfg0.W) → Fin cfg0.N → (cfg0.win w').block.Idx → Elt Ideal (cfg0.win w').elt)
    (hL : ∀ u : Fin cfg0.N, (cfg0.win 6).flush u = true → (rdat m c).Leaves 6 u (after 6 u)) :
    ((rdat m c).withAfter after).arrAt 6 cfg0.N = attn m c := by
  refine Dat.arrAt_eq_of_covers _ 6 _ covers fun t hf y => ?_
  obtain ⟨b, hb⟩ : Rel m c 6 t (after 6 t) := Dat.toRRel_leaves (dats m 0 c) (w := 6) rfl (hL t hf)
  have key : ∀ y : S1x4x128x256.Idx, after 6 t y = attn m c (((cfg0.win 6).blk t).view.emb y) := by
    intro y
    have z : y 0 = (0 : Fin 1) := Subsingleton.elim (α := Fin 1) _ _
    rw [eq_ix4 y, z]
    refine Eq.trans ?_ (congrArg (attn m c) (place_out t 0 (y 1) (y 2) (y 3))).symm
    rw [hb]
    exact out_apply m c hq h0 h1 b t (y 1) (y 2) (y 3)
  exact key y

end Cert.KernelIdeal.Hand
-- ==== Proof.Value.Agree.lean ====
module

public import proofs.«01_k».proof.Defs
public import proofs.«01_k».proof.Proof.Gen.Kernel
public import proofs.«01_k».proof.Proof.Gen.ReferenceIdeal.Run
public import proofs.«01_k».proof.Proof.Value.Result

/-! The program and the reference, run from the same arguments, end with the same result. -/

@[expose] public section

set_option maxRecDepth 16384

set_option maxHeartbeats 1000000

noncomputable section

namespace Cert.KernelIdeal.Hand

open Idealize.ShloMosaic Idealize.ShloMosaic.TcCoe Idealize.ShloMosaic.Tactic Idealize.ShloMosaic.StableHlo Cert.KernelIdeal.Gen
open Idealize.ShloMosaic.Pipeline Idealize.SL.Sem
open Cert.ReferenceIdeal.Hand (Finite)

/-- The side conditions of the precondition's broadcasts. -/
theorem facts_pre : Cert.Pre_finite_scores.Facts := ⟨by decide, by decide, by decide⟩

/-- An extended real whose absolute value is below infinity is real. -/
theorem real_of_lt (x : EReal) (h : Ideal.cmp .olt (max x (-x)) (Ideal.ofBits .f32 0x7F800000#32) = 1#1) : ∃ r : ℝ, x = (r : EReal) := by
  have e : Ideal.ofBits .f32 0x7F800000#32 = (⊤ : EReal) := by
    simp [Ideal.ofBits, Ideal.ieee]
  rw [e] at h
  induction x with
  | bot => simp [Ideal.cmp] at h
  | top => simp [Ideal.cmp] at h
  | coe r => exact ⟨r, rfl⟩

/-- Arguments that the precondition admits are finite. -/
theorem finite_of_pre {m : (ℓ : Loc nD τ sig) → Buf (Elt Ideal) ℓ}
    (h : Cert.Pre_KernelIdeal_finite_scores (hPre_finite_scores := facts_pre) m) (c : Dev nD) :
    Finite (argQ m c) ∧ Finite (argKc m c) ∧ Finite (argK m c) :=
  ⟨fun i => real_of_lt _ (congrFun (h c).1 i), fun i => real_of_lt _ (congrFun (h c).2.1 i), fun i => real_of_lt _ (congrFun (h c).2.2 i)⟩

/-- The program's result is the reference's, and its arguments end as they began. -/
theorem run_value (m : (ℓ : Loc nD τ sig) → Buf (Elt Ideal) ℓ) (ρ : Dev nD → PrngReg)
    (hfin : ∀ c, Finite (argQ m c) ∧ Finite (argKc m c) ∧ Finite (argK m c)) :
    θ_run defs (onTc (τ := τ) (main (F := Ideal))) ⟨m, fun _ => 0, ρ⟩ (fun r => ∀ c : Dev nD,
      r.2.mem ((c.tc : Thread nD τ).loc main_v39) = attn m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r ⟨h, _⟩ c => by
    refine ⟨?_, ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩
    obtain ⟨after, hL, hA⟩ := RDat.FramePost.exists_exact h c
    obtain ⟨hq, h0, h1⟩ := hfin c
    exact (hA 6).trans (array_eq m c hq h0 h1 after fun u hu => hL 6 u hu)) (run_main m ρ)

/-- The two runs agree. -/
theorem algebraic : Cert.algebraic_KernelIdeal_ReferenceIdeal_pre_finite_scores (hKernelIdeal := Cert.KernelIdeal.Gen.facts)
    (hReferenceIdeal := Cert.ReferenceIdeal.Gen.facts) (hPre_finite_scores := facts_pre) := by
  intro m g m' g' hpre hargs
  refine ⟨attn m, run_value m g (finite_of_pre hpre), ?_⟩
  refine (θ_run Cert.ReferenceIdeal.defs _ _).mono (fun r h c => ⟨(h c).1.trans ?_, (h c).2⟩) (Cert.ReferenceIdeal.Value.run (F := Ideal) m' g')
  obtain ⟨-, e1, e2, e3, e4, e5⟩ := hargs c
  rw [Cert.ReferenceIdeal.Read.val_main_v23_eq, e1, e2, e3, e4, e5]
  rfl

end Cert.KernelIdeal.Hand
-- ==== Proof.Calls.PeerQuery.lean ====
module

public import proofs.«01_k».proof.Defs
public import proofs.«01_k».proof.Proof.Gen.PeerQueryIdeal.Value
public import proofs.«01_k».proof.Proof.Gen.PeerQueryRefIdeal.Run
public import proofs.«01_k».proof.Proof.Gen.PeerQueryRefIdeal.Read
public import Idealize.ShloMosaic.Lib.Pipeline.ValueKit
public import Idealize.ShloMosaic.Lib.Pipeline.Covers

/-! The projection of the hidden states onto the peer queries: point `(i, j)` of the grid multiplies 512 rows of the
transposed weight by 768 columns of the transposed hidden states, and the blocks together are the transpose of the
plain product. -/

@[expose] public section

set_option maxRecDepth 16384

set_option maxHeartbeats 1000000

noncomputable section

namespace Cert.PeerQueryIdeal.Hand

open Idealize.ShloMosaic Idealize.ShloMosaic.TcCoe Idealize.ShloMosaic.Tactic Idealize.ShloMosaic.StableHlo Cert.PeerQueryIdeal.Gen
open Idealize.ShloMosaic.Pipeline Idealize.SL.Sem

variable (m : (ℓ : Loc nD τ sig) → Buf (Elt Ideal) ℓ)

/-- The hidden states, as the program is given them. -/
def argH (c : Dev nD) : FVec Ideal S16896x4096 .f32 := m ((c.tc : Thread nD τ).loc main_arg0)

/-- The weight, as the program is given it. -/
def argW (c : Dev nD) : FVec Ideal S4096x2048 .f32 := m ((c.tc : Thread nD τ).loc main_arg1)

/-- The block of rows of a grid point. -/
def rb (t : Fin cfg0.N) : Fin 4 := grid0.coords t 0

/-- The block of columns of a grid point. -/
def cb (t : Fin cfg0.N) : Fin 22 := grid0.coords t 1

/-- The result's row at a row of a point's block. -/
def row (t : Fin cfg0.N) (a : Fin 512) : Fin 2048 := ⟨512 * (rb t).val + a.val, by have := (rb t).isLt; omega⟩

/-- The result's column at a column of a point's block. -/
def col (t : Fin cfg0.N) (b : Fin 768) : Fin 16896 := ⟨768 * (cb t).val + b.val, by have := (cb t).isLt; omega⟩

/-! ## The arrays the grid reads -/

theorem V_w (c : Dev nD) : V m c main_v3 = truncf .bf16 (transpose S2048x4096 [1, 0] (argW m c) transposes_S4096x2048_S2048x4096_1_0) bitsLt_bf16_f32 := by
  unfold_abbrev_sides
  simp only [hostOps0]
  after_results_simp
  rfl

theorem V_h (c : Dev nD) : V m c main_v1 = truncf .bf16 (transpose S4096x16896 [1, 0] (argH m c) transposes_S16896x4096_S4096x16896_1_0) bitsLt_bf16_f32 := by
  unfold_abbrev_sides
  simp only [hostOps0]
  after_results_simp
  rfl

/-- The transposed weight at an index. -/
theorem w_apply (A : FVec Ideal S4096x2048 .f32) (r : Fin 2048) (k : Fin 4096) :
    (truncf .bf16 (transpose S2048x4096 [1, 0] A transposes_S4096x2048_S2048x4096_1_0) bitsLt_bf16_f32) (ix2 r k) = A (ix2 k r) := by
  pointwise []

/-- The transposed hidden states at an index. -/
theorem h_apply (A : FVec Ideal S16896x4096 .f32) (k : Fin 4096) (n : Fin 16896) :
    (truncf .bf16 (transpose S4096x16896 [1, 0] A transposes_S16896x4096_S4096x16896_1_0) bitsLt_bf16_f32) (ix2 k n) = A (ix2 n k) := by
  pointwise []

/-! ## The blocks a grid point reads -/

theorem index_w : ∀ t : Fin cfg0.N, win0_0.index t = ![(rb t).val, 0] := (by decide +kernel : ∀ t : Fin grid0.N, _)
theorem index_h : ∀ t : Fin cfg0.N, win0_1.index t = ![0, (cb t).val] := (by decide +kernel : ∀ t : Fin grid0.N, _)
theorem index_out : ∀ t : Fin cfg0.N, win0_2.index t = ![(rb t).val, (cb t).val] := (by decide +kernel : ∀ t : Fin grid0.N, _)

theorem place_w (t : Fin cfg0.N) (a : Fin 512) (k : Fin 4096) :
    ((cfg0.win 0).blk t).view.emb (ix2 a k) = (ix2 (row t a) k : S2048x4096.Idx) := by
  unfold row
  blk_ext [index_w t]
theorem place_h (t : Fin cfg0.N) (k : Fin 4096) (b : Fin 768) :
    ((cfg0.win 1).blk t).view.emb (ix2 k b) = (ix2 k (col t b) : S4096x16896.Idx) := by
  unfold col
  blk_ext [index_h t]
theorem place_out (t : Fin cfg0.N) (a : Fin 512) (b : Fin 768) :
    ((cfg0.win 2).blk t).view.emb (ix2 a b) = (ix2 (row t a) (col t b) : S2048x16896.Idx) := by
  unfold row col
  blk_ext [index_out t]

theorem read_w (A : FVec Ideal S2048x4096 .bf16) (t : Fin cfg0.N) (a : Fin 512) (k : Fin 4096) :
    ((cfg0.win 0).blk t).view.read (Elt Ideal) A (ix2 a k) = A (ix2 (row t a) k) := by
  change A (((cfg0.win 0).blk t).view.emb _) = _
  rw [place_w]
theorem read_h (A : FVec Ideal S4096x16896 .bf16) (t : Fin cfg0.N) (k : Fin 4096) (b : Fin 768) :
    ((cfg0.win 1).blk t).view.read (Elt Ideal) A (ix2 k b) = A (ix2 k (col t b)) := by
  change A (((cfg0.win 1).blk t).view.emb _) = _
  rw [place_h]

theorem iblk_w (c : Dev nD) (t : Fin cfg0.N) (a : Fin 512) (k : Fin 4096) :
    (iblk m c 0 t : FVec Ideal S512x4096 .bf16) (ix2 a k) = argW m c (ix2 k (row t a)) := by
  unfold iblk
  change ((cfg0.win 0).blk t).view.read (Elt Ideal) (V m c main_v3) _ = _
  rw [V_w, read_w, w_apply]

theorem iblk_h (c : Dev nD) (t : Fin cfg0.N) (k : Fin 4096) (b : Fin 768) :
    (iblk m c 1 t : FVec Ideal S4096x768 .bf16) (ix2 k b) = argH m c (ix2 (col t b) k) := by
  unfold iblk
  change ((cfg0.win 1).blk t).view.read (Elt Ideal) (V m c main_v1) _ = _
  rw [V_h, read_h, h_apply]

/-! ## The product of two blocks -/

theorem pay1_apply (x : FVec Ideal S512x4096 .bf16) (y : FVec Ideal S4096x768 .bf16) (a : Fin 512) (b : Fin 768) :
    k0_pay1 (F := Ideal) x y (ix2 a b) = ∑ k : Fin 4096, (x (ix2 a k) : EReal) * (y (ix2 k b) : EReal) := by
  pointwise [k0_pay1]

/-- The reference's result. -/
def query (c : Dev nD) : FVec Ideal S2048x16896 .f32 := Cert.PeerQueryRefIdeal.Read.val_main_v1 (F := Ideal) (argH m c) (argW m c)

theorem ref_apply (A : FVec Ideal S16896x4096 .f32) (B : FVec Ideal S4096x2048 .f32) (r : Fin 2048) (n : Fin 16896) :
    Cert.PeerQueryRefIdeal.Read.val_main_v1 (F := Ideal) A B (ix2 r n) = ∑ k : Fin 4096, (A (ix2 n k) : EReal) * (B (ix2 k r) : EReal) := by
  rw [Cert.PeerQueryRefIdeal.Read.val_main_v1_apply, Cert.PeerQueryRefIdeal.Read.val_main_v0_apply]
  refine Finset.sum_congr rfl fun k _ => ?_
  congr 2 <;> (funext a; fin_cases a <;> rfl)

theorem out_apply (c : Dev nD) (t : Fin cfg0.N) (a : Fin 512) (b : Fin 768) :
    (dats m 0 c).after 2 t (ix2 a b) = query m c (ix2 (row t a) (col t b)) := by
  rw [after0_2]
  frame_out
  unfold query
  rw [ref_apply]
  refine (pay1_apply _ _ a b).trans (Finset.sum_congr rfl fun k _ => ?_)
  rw [iblk_w, iblk_h, mul_comm]

/-! ## The array after the run -/

theorem index_cell : ∀ (i : Fin 4) (j : Fin 22), ∃ t : Fin cfg0.N, win0_2.index t = ![i.val, j.val] :=
  (by decide +kernel : ∀ (i : Fin 4) (j : Fin 22), ∃ t : Fin grid0.N, _)

/-- The result's blocks cover the array. -/
theorem covers : (cfg0.win 2).Covers :=
  (cfg0.win 2).covers_of_index_surj rfl (by decide) fun β => by
    have b0 : (β (0 : Fin 2)).val < 4 := (β (0 : Fin 2)).isLt
    have b1 : (β (1 : Fin 2)).val < 22 := (β (1 : Fin 2)).isLt
    obtain ⟨t, ht⟩ := index_cell ⟨(β (0 : Fin 2)).val, b0⟩ ⟨(β (1 : Fin 2)).val, b1⟩
    refine ⟨t, fun a => (congrFun ht a).trans ?_⟩
    match a with
    | ⟨0, _⟩ => rfl
    | ⟨1, _⟩ => rfl

/-- After the run the result array is the reference's result. -/
theorem array_eq (c : Dev nD) : (dats m 0 c).arrAt 2 cfg0.N = query m c := by
  refine Dat.arrAt_eq_of_covers _ 2 _ covers fun t hf y => ?_
  have key : ∀ y : S512x768.Idx, (dats m 0 c).after 2 t y = query m c (((cfg0.win 2).blk t).view.emb y) := by
    intro y
    rw [eq_ix2 y]
    refine Eq.trans ?_ (congrArg (query m c) (place_out t (y 0) (y 1))).symm
    exact out_apply m c t (y 0) (y 1)
  exact key y

/-- The two runs agree. -/
theorem algebraic : Cert.algebraic_PeerQueryIdeal_PeerQueryRefIdeal (hPeerQueryIdeal := Cert.PeerQueryIdeal.Gen.facts)
    (hPeerQueryRefIdeal := Cert.PeerQueryRefIdeal.Gen.facts) := by
  intro m g m' g' hpre hargs
  refine ⟨query m, (θ_run defs _ _).mono (fun r h c => ⟨(h c).1.trans (array_eq m c), (h c).2⟩) (Cert.PeerQueryIdeal.Value.run_blocks m g), ?_⟩
  refine (θ_run Cert.PeerQueryRefIdeal.defs _ _).mono (fun r h c => ⟨(h c).1.trans ?_, (h c).2⟩) (Cert.PeerQueryRefIdeal.Value.run (F := Ideal) m' g')
  obtain ⟨e0, e1⟩ := hargs c
  rw [Cert.PeerQueryRefIdeal.Read.val_main_v1_eq, e0, e1]
  rfl

end Cert.PeerQueryIdeal.Hand
-- ==== Proof.Calls.MixerOut.lean ====
module

public import proofs.«01_k».proof.Defs
public import proofs.«01_k».proof.Proof.Gen.MixerOutIdeal.Value
public import proofs.«01_k».proof.Proof.Gen.MixerOutRefIdeal.Run
public import proofs.«01_k».proof.Proof.Gen.MixerOutRefIdeal.Read
public import Idealize.ShloMosaic.Lib.Pipeline.ValueKit
public import Idealize.ShloMosaic.Lib.Pipeline.Covers
public import Idealize.ShloMosaic.Lib.WordCmp

/-! The output projection of the token mixer with its gated residual: point `(i, j)` of the grid multiplies 512 rows of
the transposed weight by 768 columns of the transposed attention output, turns the product round, and adds it to the
residual through the gate of each token's kind (the first 256 tokens are the context). -/

@[expose] public section

set_option maxRecDepth 16384

set_option maxHeartbeats 1000000

noncomputable section

namespace Cert.MixerOutIdeal.Hand

open Idealize.ShloMosaic Idealize.ShloMosaic.TcCoe Idealize.ShloMosaic.Tactic Idealize.ShloMosaic.StableHlo Cert.MixerOutIdeal.Gen
open Idealize.ShloMosaic.Pipeline Idealize.SL.Sem

variable (m : (ℓ : Loc nD τ sig) → Buf (Elt Ideal) ℓ)

/-- The attention output, as the program is given it. -/
def argO (c : Dev nD) : FVec Ideal S16896x4096 .f32 := m ((c.tc : Thread nD τ).loc main_arg0)

/-- The weight, as the program is given it. -/
def argW (c : Dev nD) : FVec Ideal S4096x4096 .f32 := m ((c.tc : Thread nD τ).loc main_arg1)

/-- The residual, as the program is given it. -/
def argX (c : Dev nD) : FVec Ideal S16896x4096 .f32 := m ((c.tc : Thread nD τ).loc main_arg2)

/-- The gates, as the program is given them: row 0 for the context, row 1 for the other tokens. -/
def argG (c : Dev nD) : FVec Ideal S2x4096 .f32 := m ((c.tc : Thread nD τ).loc main_arg3)

/-- The block of rows of a grid point. -/
def rb (t : Fin cfg0.N) : Fin 22 := grid0.coords t 0

/-- The block of columns of a grid point. -/
def cb (t : Fin cfg0.N) : Fin 8 := grid0.coords t 1

/-- The result's row at a row of a point's block. -/
def row (t : Fin cfg0.N) (a : Fin 768) : Fin 16896 := ⟨768 * (rb t).val + a.val, by have := (rb t).isLt; omega⟩

/-- The result's column at a column of a point's block. -/
def col (t : Fin cfg0.N) (b : Fin 512) : Fin 4096 := ⟨512 * (cb t).val + b.val, by have := (cb t).isLt; omega⟩

/-! ## The arrays the grid reads -/

theorem V_w (c : Dev nD) : V m c main_v3 = truncf .bf16 (transpose S4096x4096 [1, 0] (argW m c) transposes_S4096x4096_S4096x4096_1_0) bitsLt_bf16_f32 := by
  unfold_abbrev_sides
  simp only [hostOps0]
  after_results_simp
  rfl

theorem V_o (c : Dev nD) : V m c main_v1 = truncf .bf16 (transpose S4096x16896 [1, 0] (argO m c) transposes_S16896x4096_S4096x16896_1_0) bitsLt_bf16_f32 := by
  unfold_abbrev_sides
  simp only [hostOps0]
  after_results_simp
  rfl

theorem V_x (c : Dev nD) : V m c main_arg2 = argX m c := V_main_arg2 m c

theorem V_g (c : Dev nD) : V m c main_arg3 = argG m c := V_main_arg3 m c

/-- The transposed weight at an index. -/
theorem w_apply (A : FVec Ideal S4096x4096 .f32) (r : Fin 4096) (k : Fin 4096) :
    (truncf .bf16 (transpose S4096x4096 [1, 0] A transposes_S4096x4096_S4096x4096_1_0) bitsLt_bf16_f32) (ix2 r k) = A (ix2 k r) := by
  pointwise []

/-- The transposed attention output at an index. -/
theorem o_apply (A : FVec Ideal S16896x4096 .f32) (k : Fin 4096) (n : Fin 16896) :
    (truncf .bf16 (transpose S4096x16896 [1, 0] A transposes_S16896x4096_S4096x16896_1_0) bitsLt_bf16_f32) (ix2 k n) = A (ix2 n k) := by
  pointwise []

/-! ## The blocks a grid point reads -/

theorem index_w : ∀ t : Fin cfg0.N, win0_0.index t = ![(cb t).val, 0] := (by decide +kernel : ∀ t : Fin grid0.N, _)
theorem index_o : ∀ t : Fin cfg0.N, win0_1.index t = ![0, (rb t).val] := (by decide +kernel : ∀ t : Fin grid0.N, _)
theorem index_x : ∀ t : Fin cfg0.N, win0_2.index t = ![(rb t).val, (cb t).val] := (by decide +kernel : ∀ t : Fin grid0.N, _)
theorem index_g : ∀ t : Fin cfg0.N, win0_3.index t = ![0, (cb t).val] := (by decide +kernel : ∀ t : Fin grid0.N, _)
theorem index_out : ∀ t : Fin cfg0.N, win0_4.index t = ![(rb t).val, (cb t).val] := (by decide +kernel : ∀ t : Fin grid0.N, _)

theorem place_w (t : Fin cfg0.N) (b : Fin 512) (k : Fin 4096) :
    ((cfg0.win 0).blk t).view.emb (ix2 b k) = (ix2 (col t b) k : S4096x4096.Idx) := by
  unfold col
  blk_ext [index_w t]
theorem place_o (t : Fin cfg0.N) (k : Fin 4096) (a : Fin 768) :
    ((cfg0.win 1).blk t).view.emb (ix2 k a) = (ix2 k (row t a) : S4096x16896.Idx) := by
  unfold row
  blk_ext [index_o t]
theorem place_x (t : Fin cfg0.N) (a : Fin 768) (b : Fin 512) :
    ((cfg0.win 2).blk t).view.emb (ix2 a b) = (ix2 (row t a) (col t b) : S16896x4096.Idx) := by
  unfold row col
  blk_ext [index_x t]
theorem place_g (t : Fin cfg0.N) (r : Fin 2) (b : Fin 512) :
    ((cfg0.win 3).blk t).view.emb (ix2 r b) = (ix2 r (col t b) : S2x4096.Idx) := by
  unfold col
  blk_ext [index_g t]
theorem place_out (t : Fin cfg0.N) (a : Fin 768) (b : Fin 512) :
    ((cfg0.win 4).blk t).view.emb (ix2 a b) = (ix2 (row t a) (col t b) : S16896x4096.Idx) := by
  unfold row col
  blk_ext [index_out t]

theorem read_w (A : FVec Ideal S4096x4096 .bf16) (t : Fin cfg0.N) (b : Fin 512) (k : Fin 4096) :
    ((cfg0.win 0).blk t).view.read (Elt Ideal) A (ix2 b k) = A (ix2 (col t b) k) := by
  change A (((cfg0.win 0).blk t).view.emb _) = _
  rw [place_w]
theorem read_o (A : FVec Ideal S4096x16896 .bf16) (t : Fin cfg0.N) (k : Fin 4096) (a : Fin 768) :
    ((cfg0.win 1).blk t).view.read (Elt Ideal) A (ix2 k a) = A (ix2 k (row t a)) := by
  change A (((cfg0.win 1).blk t).view.emb _) = _
  rw [place_o]
theorem read_x (A : FVec Ideal S16896x4096 .f32) (t : Fin cfg0.N) (a : Fin 768) (b : Fin 512) :
    ((cfg0.win 2).blk t).view.read (Elt Ideal) A (ix2 a b) = A (ix2 (row t a) (col t b)) := by
  change A (((cfg0.win 2).blk t).view.emb _) = _
  rw [place_x]
theorem read_g (A : FVec Ideal S2x4096 .f32) (t : Fin cfg0.N) (r : Fin 2) (b : Fin 512) :
    ((cfg0.win 3).blk t).view.read (Elt Ideal) A (ix2 r b) = A (ix2 r (col t b)) := by
  change A (((cfg0.win 3).blk t).view.emb _) = _
  rw [place_g]

theorem iblk_w (c : Dev nD) (t : Fin cfg0.N) (b : Fin 512) (k : Fin 4096) :
    (iblk m c 0 t : FVec Ideal S512x4096 .bf16) (ix2 b k) = argW m c (ix2 k (col t b)) := by
  unfold iblk
  change ((cfg0.win 0).blk t).view.read (Elt Ideal) (V m c main_v3) _ = _
  rw [V_w, read_w, w_apply]

theorem iblk_o (c : Dev nD) (t : Fin cfg0.N) (k : Fin 4096) (a : Fin 768) :
    (iblk m c 1 t : FVec Ideal S4096x768 .bf16) (ix2 k a) = argO m c (ix2 (row t a) k) := by
  unfold iblk
  change ((cfg0.win 1).blk t).view.read (Elt Ideal) (V m c main_v1) _ = _
  rw [V_o, read_o, o_apply]

theorem iblk_x (c : Dev nD) (t : Fin cfg0.N) (a : Fin 768) (b : Fin 512) :
    (iblk m c 2 t : FVec Ideal S768x512 .f32) (ix2 a b) = argX m c (ix2 (row t a) (col t b)) := by
  unfold iblk
  change ((cfg0.win 2).blk t).view.read (Elt Ideal) (V m c main_arg2) _ = _
  rw [V_x, read_x]

theorem iblk_g (c : Dev nD) (t : Fin cfg0.N) (r : Fin 2) (b : Fin 512) :
    (iblk m c 3 t : FVec Ideal S2x512 .f32) (ix2 r b) = argG m c (ix2 r (col t b)) := by
  unfold iblk
  change ((cfg0.win 3).blk t).view.read (Elt Ideal) (V m c main_arg3) _ = _
  rw [V_g, read_g]

/-- The context's gates, loaded from a block of both rows. -/
theorem ld_g0 (G : FVec Ideal S2x512 .f32) (b : Fin 512) : View.ld (Val := Elt Ideal) (e' := .f32) G r0_2 (ix2 0 b : S1x512.Idx) = G (ix2 0 b) :=
  View.ld_unit_apply_of (Val := Elt Ideal) (e := .f32) (S := S2x512) G ![0, 0] S1x512.size inb_S2x512_S1x512_0_0 (ix2 0 b : S1x512.Idx) (ix2 0 b) fun a => match a with
    | ⟨0, _⟩ => rfl
    | ⟨1, _⟩ => (Nat.zero_add b.val).symm

/-- The other tokens' gates, loaded from a block of both rows. -/
theorem ld_g1 (G : FVec Ideal S2x512 .f32) (b : Fin 512) : View.ld (Val := Elt Ideal) (e' := .f32) G r0_3 (ix2 0 b : S1x512.Idx) = G (ix2 1 b) :=
  View.ld_unit_apply_of (Val := Elt Ideal) (e := .f32) (S := S2x512) G ![1, 0] S1x512.size inb_S2x512_S1x512_1_0 (ix2 0 b : S1x512.Idx) (ix2 1 b) fun a => match a with
    | ⟨0, _⟩ => rfl
    | ⟨1, _⟩ => (Nat.zero_add b.val).symm

/-! ## The block a grid point leaves -/

theorem pay1_apply (i : grid0.Coords) (x : FVec Ideal S512x4096 .bf16) (y : FVec Ideal S4096x768 .bf16) (g0 g1 : FVec Ideal S1x512 .f32)
    (s : FVec Ideal S768x512 .f32) (a : Fin 768) (b : Fin 512) :
    k0_pay1 (F := Ideal) i x y g0 g1 s (ix2 a b)
      = (s (ix2 a b) : EReal) + (if (i 0).val * 768 + a.val < 256 then (g0 (ix2 0 b) : EReal) else g1 (ix2 0 b))
        * (∑ k : Fin 4096, (x (ix2 b k) : EReal) * (y (ix2 k a) : EReal)) := by
  have hi : (i 0).val < 22 := (i 0).isLt
  have ha := a.isLt
  pointwise [k0_pay1]
  have e := WordCmp.cmpi_slt_mul_add_ofNat (w := 32) (i 0).val 768 a.val 256 (by norm_num; omega) (by norm_num)
  unfold Scalar.muli
  rw [e]
  unfold Scalar.select
  split_ifs <;> first | rfl | simp_all

/-- The reference's result. -/
def mixed (c : Dev nD) : FVec Ideal S16896x4096 .f32 :=
  Cert.MixerOutRefIdeal.Read.val_main_v14 (F := Ideal) (argO m c) (argW m c) (argX m c) (argG m c)

/-- The context's rows and the other tokens' rows, joined. -/
theorem cat_apply (P : FVec Ideal Cert.MixerOutRefIdeal.S256x4096 .f32) (Q : FVec Ideal Cert.MixerOutRefIdeal.S16640x4096 .f32) (r : Fin 16896) (n : Fin 4096) :
    concatenate Cert.MixerOutRefIdeal.S16896x4096 0 [⟨Cert.MixerOutRefIdeal.S256x4096, P⟩, ⟨Cert.MixerOutRefIdeal.S16640x4096, Q⟩]
        Cert.MixerOutRefIdeal.Gen.concatenates_S256x4096_S16640x4096_S16896x4096_d0 (ix2 r n)
      = if h : r.val < 256 then P (ix2 ⟨r.val, h⟩ n) else Q (ix2 ⟨r.val - 256, by omega⟩ n) := by
  pointwise []

open Cert.MixerOutRefIdeal.Read in
theorem ref_apply (A : FVec Ideal S16896x4096 .f32) (B : FVec Ideal S4096x4096 .f32) (X : FVec Ideal S16896x4096 .f32) (G : FVec Ideal S2x4096 .f32)
    (r : Fin 16896) (n : Fin 4096) :
    val_main_v14 (F := Ideal) A B X G (ix2 r n)
      = (X (ix2 r n) : EReal) + (if r.val < 256 then (G (ix2 0 n) : EReal) else G (ix2 1 n)) * (∑ k : Fin 4096, (A (ix2 r k) : EReal) * (B (ix2 k n) : EReal)) := by
  have d : ∀ j : Cert.MixerOutRefIdeal.S16896x4096.Idx, j = ix2 r n → val_main_v0 (F := Ideal) A B j = ∑ k : Fin 4096, (A (ix2 r k) : EReal) * (B (ix2 k n) : EReal) := by
    rintro _ rfl
    rw [val_main_v0_apply]
    refine Finset.sum_congr rfl fun k _ => ?_
    congr 2 <;> (funext a; fin_cases a <;> rfl)
  rw [val_main_v14_apply]
  refine congrArg ((X (ix2 r n) : EReal) + ·) ?_
  refine (cat_apply _ _ r n).trans ?_
  by_cases h : r.val < 256
  · rw [dif_pos h, if_pos h, val_main_v6_apply, val_main_v5_apply, val_main_v4_apply, val_main_v2_apply, val_main_v1_apply, val_main_v3_apply, d]
    · refine congrArg (· * _) (congrArg G ?_)
      funext a; fin_cases a <;> apply Fin.ext <;> simp
    · funext a; fin_cases a <;> rfl
  · rw [dif_neg h, if_neg h, val_main_v12_apply, val_main_v11_apply, val_main_v10_apply, val_main_v8_apply, val_main_v7_apply, val_main_v9_apply, d]
    · refine congrArg (· * _) (congrArg G ?_)
      funext a; fin_cases a <;> apply Fin.ext <;> simp
    · funext a; fin_cases a <;> apply Fin.ext <;> simp <;> omega

theorem out_apply (c : Dev nD) (t : Fin cfg0.N) (a : Fin 768) (b : Fin 512) :
    (dats m 0 c).after 4 t (ix2 a b) = mixed m c (ix2 (row t a) (col t b)) := by
  rw [after0_4]
  frame_out
  unfold mixed
  rw [ref_apply]
  refine (pay1_apply _ _ _ _ _ _ a b).trans ?_
  rw [ld_g0, ld_g1, iblk_g, iblk_g, iblk_x]
  have hr : (grid0.coords t 0).val * 768 + a.val = (row t a).val := by
    unfold row rb
    dsimp only
    omega
  rw [hr]
  refine congrArg (_ + _ * ·) (Finset.sum_congr rfl fun k _ => ?_)
  rw [iblk_w, iblk_o, mul_comm]

/-! ## The array after the run -/

theorem index_cell : ∀ (i : Fin 22) (j : Fin 8), ∃ t : Fin cfg0.N, win0_4.index t = ![i.val, j.val] :=
  (by decide +kernel : ∀ (i : Fin 22) (j : Fin 8), ∃ t : Fin grid0.N, _)

/-- The result's blocks cover the array. -/
theorem covers : (cfg0.win 4).Covers :=
  (cfg0.win 4).covers_of_index_surj rfl (by decide) fun β => by
    have b0 : (β (0 : Fin 2)).val < 22 := (β (0 : Fin 2)).isLt
    have b1 : (β (1 : Fin 2)).val < 8 := (β (1 : Fin 2)).isLt
    obtain ⟨t, ht⟩ := index_cell ⟨(β (0 : Fin 2)).val, b0⟩ ⟨(β (1 : Fin 2)).val, b1⟩
    refine ⟨t, fun a => (congrFun ht a).trans ?_⟩
    match a with
    | ⟨0, _⟩ => rfl
    | ⟨1, _⟩ => rfl

/-- After the run the result array is the reference's result. -/
theorem array_eq (c : Dev nD) : (dats m 0 c).arrAt 4 cfg0.N = mixed m c := by
  refine Dat.arrAt_eq_of_covers _ 4 _ covers fun t hf y => ?_
  have key : ∀ y : S768x512.Idx, (dats m 0 c).after 4 t y = mixed m c (((cfg0.win 4).blk t).view.emb y) := by
    intro y
    rw [eq_ix2 y]
    refine Eq.trans ?_ (congrArg (mixed m c) (place_out t (y 0) (y 1))).symm
    exact out_apply m c t (y 0) (y 1)
  exact key y

/-- The two runs agree. -/
theorem algebraic : Cert.algebraic_MixerOutIdeal_MixerOutRefIdeal (hMixerOutIdeal := Cert.MixerOutIdeal.Gen.facts)
    (hMixerOutRefIdeal := Cert.MixerOutRefIdeal.Gen.facts) := by
  intro m g m' g' hpre hargs
  refine ⟨mixed m, (θ_run defs _ _).mono (fun r h c => ⟨(h c).1.trans (array_eq m c), (h c).2⟩) (Cert.MixerOutIdeal.Value.run_blocks m g), ?_⟩
  refine (θ_run Cert.MixerOutRefIdeal.defs _ _).mono (fun r h c => ⟨(h c).1.trans ?_, (h c).2⟩) (Cert.MixerOutRefIdeal.Value.run (F := Ideal) m' g')
  obtain ⟨e0, e1, e2, e3⟩ := hargs c
  rw [Cert.MixerOutRefIdeal.Read.val_main_v14_eq, e0, e1, e2, e3]
  rfl

end Cert.MixerOutIdeal.Hand
-- ==== Proof.Calls.MixerOutRows.lean ====
module

public import proofs.«01_k».proof.Defs
public import proofs.«01_k».proof.Proof.Gen.MixerOutRowsIdeal.Value
public import proofs.«01_k».proof.Proof.Calls.MixerOut
public import proofs.«01_k».proof.Proof.Gen.MixerOutRefIdeal.Run
public import proofs.«01_k».proof.Proof.Gen.MixerOutRefIdeal.Read
public import Idealize.ShloMosaic.Lib.Pipeline.ValueKit
public import Idealize.ShloMosaic.Lib.Pipeline.Covers
public import Idealize.ShloMosaic.Lib.WordCmp

/-! The output projection of the Fourier layer with its gated residual: point `(i, j)` of the grid multiplies 1536 rows
of the mixed tokens by 512 columns of the weight and adds the product to the residual through the gate of each token's
kind (the first 256 tokens are the context). -/

@[expose] public section

set_option maxRecDepth 16384

set_option maxHeartbeats 1000000

noncomputable section

namespace Cert.MixerOutRowsIdeal.Hand

open Idealize.ShloMosaic Idealize.ShloMosaic.TcCoe Idealize.ShloMosaic.Tactic Idealize.ShloMosaic.StableHlo Cert.MixerOutRowsIdeal.Gen
open Idealize.ShloMosaic.Pipeline Idealize.SL.Sem

variable (m : (ℓ : Loc nD τ sig) → Buf (Elt Ideal) ℓ)

/-- The mixed tokens, as the program is given them. -/
def argO (c : Dev nD) : FVec Ideal S16896x4096 .f32 := m ((c.tc : Thread nD τ).loc main_arg0)

/-- The weight, as the program is given it. -/
def argW (c : Dev nD) : FVec Ideal S4096x4096 .f32 := m ((c.tc : Thread nD τ).loc main_arg1)

/-- The residual, as the program is given it. -/
def argX (c : Dev nD) : FVec Ideal S16896x4096 .f32 := m ((c.tc : Thread nD τ).loc main_arg2)

/-- The gates, as the program is given them: row 0 for the context, row 1 for the other tokens. -/
def argG (c : Dev nD) : FVec Ideal S2x4096 .f32 := m ((c.tc : Thread nD τ).loc main_arg3)

/-- The block of rows of a grid point. -/
def rb (t : Fin cfg0.N) : Fin 11 := grid0.coords t 0

/-- The block of columns of a grid point. -/
def cb (t : Fin cfg0.N) : Fin 8 := grid0.coords t 1

/-- The result's row at a row of a point's block. -/
def row (t : Fin cfg0.N) (a : Fin 1536) : Fin 16896 := ⟨1536 * (rb t).val + a.val, by have := (rb t).isLt; omega⟩

/-- The result's column at a column of a point's block. -/
def col (t : Fin cfg0.N) (b : Fin 512) : Fin 4096 := ⟨512 * (cb t).val + b.val, by have := (cb t).isLt; omega⟩

/-! ## The arrays the grid reads -/

theorem V_o (c : Dev nD) : V m c main_v0 = truncf .bf16 (argO m c) bitsLt_bf16_f32 := by
  unfold_abbrev_sides
  simp only [hostOps0]
  after_results_simp
  rfl

theorem V_w (c : Dev nD) : V m c main_v1 = truncf .bf16 (argW m c) bitsLt_bf16_f32 := by
  unfold_abbrev_sides
  simp only [hostOps0]
  after_results_simp
  rfl

theorem V_x (c : Dev nD) : V m c main_arg2 = argX m c := V_main_arg2 m c

theorem V_g (c : Dev nD) : V m c main_arg3 = argG m c := V_main_arg3 m c

/-! ## The blocks a grid point reads -/

theorem index_o : ∀ t : Fin cfg0.N, win0_0.index t = ![(rb t).val, 0] := (by decide +kernel : ∀ t : Fin grid0.N, _)
theorem index_w : ∀ t : Fin cfg0.N, win0_1.index t = ![0, (cb t).val] := (by decide +kernel : ∀ t : Fin grid0.N, _)
theorem index_x : ∀ t : Fin cfg0.N, win0_2.index t = ![(rb t).val, (cb t).val] := (by decide +kernel : ∀ t : Fin grid0.N, _)
theorem index_g : ∀ t : Fin cfg0.N, win0_3.index t = ![0, (cb t).val] := (by decide +kernel : ∀ t : Fin grid0.N, _)
theorem index_out : ∀ t : Fin cfg0.N, win0_4.index t = ![(rb t).val, (cb t).val] := (by decide +kernel : ∀ t : Fin grid0.N, _)

theorem place_o (t : Fin cfg0.N) (a : Fin 1536) (k : Fin 4096) :
    ((cfg0.win 0).blk t).view.emb (ix2 a k) = (ix2 (row t a) k : S16896x4096.Idx) := by
  unfold row
  blk_ext [index_o t]
theorem place_w (t : Fin cfg0.N) (k : Fin 4096) (b : Fin 512) :
    ((cfg0.win 1).blk t).view.emb (ix2 k b) = (ix2 k (col t b) : S4096x4096.Idx) := by
  unfold col
  blk_ext [index_w t]
theorem place_x (t : Fin cfg0.N) (a : Fin 1536) (b : Fin 512) :
    ((cfg0.win 2).blk t).view.emb (ix2 a b) = (ix2 (row t a) (col t b) : S16896x4096.Idx) := by
  unfold row col
  blk_ext [index_x t]
theorem place_g (t : Fin cfg0.N) (r : Fin 2) (b : Fin 512) :
    ((cfg0.win 3).blk t).view.emb (ix2 r b) = (ix2 r (col t b) : S2x4096.Idx) := by
  unfold col
  blk_ext [index_g t]
theorem place_out (t : Fin cfg0.N) (a : Fin 1536) (b : Fin 512) :
    ((cfg0.win 4).blk t).view.emb (ix2 a b) = (ix2 (row t a) (col t b) : S16896x4096.Idx) := by
  unfold row col
  blk_ext [index_out t]

theorem read_o (A : FVec Ideal S16896x4096 .bf16) (t : Fin cfg0.N) (a : Fin 1536) (k : Fin 4096) :
    ((cfg0.win 0).blk t).view.read (Elt Ideal) A (ix2 a k) = A (ix2 (row t a) k) := by
  change A (((cfg0.win 0).blk t).view.emb _) = _
  rw [place_o]
theorem read_w (A : FVec Ideal S4096x4096 .bf16) (t : Fin cfg0.N) (k : Fin 4096) (b : Fin 512) :
    ((cfg0.win 1).blk t).view.read (Elt Ideal) A (ix2 k b) = A (ix2 k (col t b)) := by
  change A (((cfg0.win 1).blk t).view.emb _) = _
  rw [place_w]
theorem read_x (A : FVec Ideal S16896x4096 .f32) (t : Fin cfg0.N) (a : Fin 1536) (b : Fin 512) :
    ((cfg0.win 2).blk t).view.read (Elt Ideal) A (ix2 a b) = A (ix2 (row t a) (col t b)) := by
  change A (((cfg0.win 2).blk t).view.emb _) = _
  rw [place_x]
theorem read_g (A : FVec Ideal S2x4096 .f32) (t : Fin cfg0.N) (r : Fin 2) (b : Fin 512) :
    ((cfg0.win 3).blk t).view.read (Elt Ideal) A (ix2 r b) = A (ix2 r (col t b)) := by
  change A (((cfg0.win 3).blk t).view.emb _) = _
  rw [place_g]

theorem iblk_o (c : Dev nD) (t : Fin cfg0.N) (a : Fin 1536) (k : Fin 4096) :
    (iblk m c 0 t : FVec Ideal S1536x4096 .bf16) (ix2 a k) = argO m c (ix2 (row t a) k) := by
  unfold iblk
  change ((cfg0.win 0).blk t).view.read (Elt Ideal) (V m c main_v0) _ = _
  rw [V_o, read_o]
  rfl

theorem iblk_w (c : Dev nD) (t : Fin cfg0.N) (k : Fin 4096) (b : Fin 512) :
    (iblk m c 1 t : FVec Ideal S4096x512 .bf16) (ix2 k b) = argW m c (ix2 k (col t b)) := by
  unfold iblk
  change ((cfg0.win 1).blk t).view.read (Elt Ideal) (V m c main_v1) _ = _
  rw [V_w, read_w]
  rfl

theorem iblk_x (c : Dev nD) (t : Fin cfg0.N) (a : Fin 1536) (b : Fin 512) :
    (iblk m c 2 t : FVec Ideal S1536x512 .f32) (ix2 a b) = argX m c (ix2 (row t a) (col t b)) := by
  unfold iblk
  change ((cfg0.win 2).blk t).view.read (Elt Ideal) (V m c main_arg2) _ = _
  rw [V_x, read_x]

theorem iblk_g (c : Dev nD) (t : Fin cfg0.N) (r : Fin 2) (b : Fin 512) :
    (iblk m c 3 t : FVec Ideal S2x512 .f32) (ix2 r b) = argG m c (ix2 r (col t b)) := by
  unfold iblk
  change ((cfg0.win 3).blk t).view.read (Elt Ideal) (V m c main_arg3) _ = _
  rw [V_g, read_g]

/-- The context's gates, loaded from a block of both rows. -/
theorem ld_g0 (G : FVec Ideal S2x512 .f32) (b : Fin 512) : View.ld (Val := Elt Ideal) (e' := .f32) G r0_2 (ix2 0 b : S1x512.Idx) = G (ix2 0 b) :=
  View.ld_unit_apply_of (Val := Elt Ideal) (e := .f32) (S := S2x512) G ![0, 0] S1x512.size inb_S2x512_S1x512_0_0 (ix2 0 b : S1x512.Idx) (ix2 0 b) fun a => match a with
    | ⟨0, _⟩ => rfl
    | ⟨1, _⟩ => (Nat.zero_add b.val).symm

/-- The other tokens' gates, loaded from a block of both rows. -/
theorem ld_g1 (G : FVec Ideal S2x512 .f32) (b : Fin 512) : View.ld (Val := Elt Ideal) (e' := .f32) G r0_3 (ix2 0 b : S1x512.Idx) = G (ix2 1 b) :=
  View.ld_unit_apply_of (Val := Elt Ideal) (e := .f32) (S := S2x512) G ![1, 0] S1x512.size inb_S2x512_S1x512_1_0 (ix2 0 b : S1x512.Idx) (ix2 1 b) fun a => match a with
    | ⟨0, _⟩ => rfl
    | ⟨1, _⟩ => (Nat.zero_add b.val).symm

/-! ## The block a grid point leaves -/

theorem pay1_apply (i : grid0.Coords) (x : FVec Ideal S1536x4096 .bf16) (y : FVec Ideal S4096x512 .bf16) (g0 g1 : FVec Ideal S1x512 .f32)
    (s : FVec Ideal S1536x512 .f32) (a : Fin 1536) (b : Fin 512) :
    k0_pay1 (F := Ideal) i x y g0 g1 s (ix2 a b)
      = (s (ix2 a b) : EReal) + (if (i 0).val * 1536 + a.val < 256 then (g0 (ix2 0 b) : EReal) else g1 (ix2 0 b))
        * (∑ k : Fin 4096, (x (ix2 a k) : EReal) * (y (ix2 k b) : EReal)) := by
  have hi : (i 0).val < 11 := (i 0).isLt
  have ha := a.isLt
  pointwise [k0_pay1]
  have e := WordCmp.cmpi_slt_mul_add_ofNat (w := 32) (i 0).val 1536 a.val 256 (by norm_num; omega) (by norm_num)
  unfold Scalar.muli
  rw [e]
  unfold Scalar.select
  split_ifs <;> first | rfl | simp_all

/-- The reference's result. -/
def mixed (c : Dev nD) : FVec Ideal S16896x4096 .f32 :=
  Cert.MixerOutRefIdeal.Read.val_main_v14 (F := Ideal) (argO m c) (argW m c) (argX m c) (argG m c)

theorem out_apply (c : Dev nD) (t : Fin cfg0.N) (a : Fin 1536) (b : Fin 512) :
    (dats m 0 c).after 4 t (ix2 a b) = mixed m c (ix2 (row t a) (col t b)) := by
  rw [after0_4]
  frame_out
  unfold mixed
  refine Eq.trans ?_ (Cert.MixerOutIdeal.Hand.ref_apply _ _ _ _ _ _).symm
  refine (pay1_apply _ _ _ _ _ _ a b).trans ?_
  rw [ld_g0, ld_g1, iblk_g, iblk_g, iblk_x]
  have hr : (grid0.coords t 0).val * 1536 + a.val = (row t a).val := by
    unfold row rb
    dsimp only
    omega
  rw [hr]
  refine congrArg (_ + _ * ·) (Finset.sum_congr rfl fun k _ => ?_)
  rw [iblk_w, iblk_o]

/-! ## The array after the run -/

theorem index_cell : ∀ (i : Fin 11) (j : Fin 8), ∃ t : Fin cfg0.N, win0_4.index t = ![i.val, j.val] :=
  (by decide +kernel : ∀ (i : Fin 11) (j : Fin 8), ∃ t : Fin grid0.N, _)

/-- The result's blocks cover the array. -/
theorem covers : (cfg0.win 4).Covers :=
  (cfg0.win 4).covers_of_index_surj rfl (by decide) fun β => by
    have b0 : (β (0 : Fin 2)).val < 11 := (β (0 : Fin 2)).isLt
    have b1 : (β (1 : Fin 2)).val < 8 := (β (1 : Fin 2)).isLt
    obtain ⟨t, ht⟩ := index_cell ⟨(β (0 : Fin 2)).val, b0⟩ ⟨(β (1 : Fin 2)).val, b1⟩
    refine ⟨t, fun a => (congrFun ht a).trans ?_⟩
    match a with
    | ⟨0, _⟩ => rfl
    | ⟨1, _⟩ => rfl

/-- After the run the result array is the reference's result. -/
theorem array_eq (c : Dev nD) : (dats m 0 c).arrAt 4 cfg0.N = mixed m c := by
  refine Dat.arrAt_eq_of_covers _ 4 _ covers fun t hf y => ?_
  have key : ∀ y : S1536x512.Idx, (dats m 0 c).after 4 t y = mixed m c (((cfg0.win 4).blk t).view.emb y) := by
    intro y
    rw [eq_ix2 y]
    refine Eq.trans ?_ (congrArg (mixed m c) (place_out t (y 0) (y 1))).symm
    exact out_apply m c t (y 0) (y 1)
  exact key y

/-- The two runs agree. -/
theorem algebraic : Cert.algebraic_MixerOutRowsIdeal_MixerOutRefIdeal (hMixerOutRowsIdeal := Cert.MixerOutRowsIdeal.Gen.facts)
    (hMixerOutRefIdeal := Cert.MixerOutRefIdeal.Gen.facts) := by
  intro m g m' g' hpre hargs
  refine ⟨mixed m, (θ_run defs _ _).mono (fun r h c => ⟨(h c).1.trans (array_eq m c), (h c).2⟩) (Cert.MixerOutRowsIdeal.Value.run_blocks m g), ?_⟩
  refine (θ_run Cert.MixerOutRefIdeal.defs _ _).mono (fun r h c => ⟨(h c).1.trans ?_, (h c).2⟩) (Cert.MixerOutRefIdeal.Value.run (F := Ideal) m' g')
  obtain ⟨e0, e1, e2, e3⟩ := hargs c
  rw [Cert.MixerOutRefIdeal.Read.val_main_v14_eq, e0, e1, e2, e3]
  rfl

end Cert.MixerOutRowsIdeal.Hand
-- ==== Proof.Calls.ProjV.lean ====
module

public import proofs.«01_k».proof.Defs
public import proofs.«01_k».proof.Proof.Gen.ProjVIdeal.Value
public import proofs.«01_k».proof.Proof.Gen.ProjVRefIdeal.Run
public import proofs.«01_k».proof.Proof.Gen.ProjVRefIdeal.Read
public import Idealize.ShloMosaic.Lib.Pipeline.ValueKit
public import Idealize.ShloMosaic.Lib.Pipeline.Covers

/-! The projection of the hidden states onto the values of the global attention: point `(i, j)` of the grid multiplies
512 rows of the values' part of the transposed weight by 768 columns of the transposed hidden states, and the blocks
together are the values' columns of the plain product, transposed. -/

@[expose] public section

set_option maxRecDepth 16384

set_option maxHeartbeats 1000000

noncomputable section

namespace Cert.ProjVIdeal.Hand

open Idealize.ShloMosaic Idealize.ShloMosaic.TcCoe Idealize.ShloMosaic.Tactic Idealize.ShloMosaic.StableHlo Cert.ProjVIdeal.Gen
open Idealize.ShloMosaic.Pipeline Idealize.SL.Sem

variable (m : (ℓ : Loc nD τ sig) → Buf (Elt Ideal) ℓ)

/-- The hidden states, as the program is given them. -/
def argH (c : Dev nD) : FVec Ideal S16896x4096 .f32 := m ((c.tc : Thread nD τ).loc main_arg0)

/-- The weight, as the program is given it. -/
def argW (c : Dev nD) : FVec Ideal S4096x6144 .f32 := m ((c.tc : Thread nD τ).loc main_arg1)

/-- The block of rows of a grid point. -/
def rb (t : Fin cfg0.N) : Fin 2 := grid0.coords t 0

/-- The block of columns of a grid point. -/
def cb (t : Fin cfg0.N) : Fin 22 := grid0.coords t 1

/-- The result's row at a row of a point's block. -/
def row (t : Fin cfg0.N) (a : Fin 512) : Fin 1024 := ⟨512 * (rb t).val + a.val, by have := (rb t).isLt; omega⟩

/-- The result's column at a column of a point's block. -/
def col (t : Fin cfg0.N) (b : Fin 768) : Fin 16896 := ⟨768 * (cb t).val + b.val, by have := (cb t).isLt; omega⟩

/-! ## The arrays the grid reads -/

theorem V_w (c : Dev nD) : V m c main_v4 = truncf .bf16 (transpose S1024x4096 [1, 0] (extractStridedSlice S4096x1024 ![0, 5120] (argW m c) slices_S4096x6144_S4096x1024_0_5120) transposes_S4096x1024_S1024x4096_1_0) bitsLt_bf16_f32 := by
  unfold_abbrev_sides
  simp only [hostOps0]
  after_results_simp
  rfl

theorem V_h (c : Dev nD) : V m c main_v1 = truncf .bf16 (transpose S4096x16896 [1, 0] (argH m c) transposes_S16896x4096_S4096x16896_1_0) bitsLt_bf16_f32 := by
  unfold_abbrev_sides
  simp only [hostOps0]
  after_results_simp
  rfl

/-- The weight's column that makes a row of the values: the values' columns come after those of the queries and keys. -/
def vcol (r : Fin 1024) : Fin 6144 := ⟨5120 + r.val, by omega⟩

/-- The values' part of the transposed weight at an index. -/
theorem w_apply (A : FVec Ideal S4096x6144 .f32) (r : Fin 1024) (k : Fin 4096) :
    (truncf .bf16 (transpose S1024x4096 [1, 0] (extractStridedSlice S4096x1024 ![0, 5120] A slices_S4096x6144_S4096x1024_0_5120) transposes_S4096x1024_S1024x4096_1_0) bitsLt_bf16_f32) (ix2 r k) = A (ix2 k (vcol r)) := by
  unfold vcol
  pointwise []

/-- The transposed hidden states at an index. -/
theorem h_apply (A : FVec Ideal S16896x4096 .f32) (k : Fin 4096) (n : Fin 16896) :
    (truncf .bf16 (transpose S4096x16896 [1, 0] A transposes_S16896x4096_S4096x16896_1_0) bitsLt_bf16_f32) (ix2 k n) = A (ix2 n k) := by
  pointwise []

/-! ## The blocks a grid point reads -/

theorem index_w : ∀ t : Fin cfg0.N, win0_0.index t = ![(rb t).val, 0] := (by decide +kernel : ∀ t : Fin grid0.N, _)
theorem index_h : ∀ t : Fin cfg0.N, win0_1.index t = ![0, (cb t).val] := (by decide +kernel : ∀ t : Fin grid0.N, _)
theorem index_out : ∀ t : Fin cfg0.N, win0_2.index t = ![(rb t).val, (cb t).val] := (by decide +kernel : ∀ t : Fin grid0.N, _)

theorem place_w (t : Fin cfg0.N) (a : Fin 512) (k : Fin 4096) :
    ((cfg0.win 0).blk t).view.emb (ix2 a k) = (ix2 (row t a) k : S1024x4096.Idx) := by
  unfold row
  blk_ext [index_w t]
theorem place_h (t : Fin cfg0.N) (k : Fin 4096) (b : Fin 768) :
    ((cfg0.win 1).blk t).view.emb (ix2 k b) = (ix2 k (col t b) : S4096x16896.Idx) := by
  unfold col
  blk_ext [index_h t]
theorem place_out (t : Fin cfg0.N) (a : Fin 512) (b : Fin 768) :
    ((cfg0.win 2).blk t).view.emb (ix2 a b) = (ix2 (row t a) (col t b) : S1024x16896.Idx) := by
  unfold row col
  blk_ext [index_out t]

theorem read_w (A : FVec Ideal S1024x4096 .bf16) (t : Fin cfg0.N) (a : Fin 512) (k : Fin 4096) :
    ((cfg0.win 0).blk t).view.read (Elt Ideal) A (ix2 a k) = A (ix2 (row t a) k) := by
  change A (((cfg0.win 0).blk t).view.emb _) = _
  rw [place_w]
theorem read_h (A : FVec Ideal S4096x16896 .bf16) (t : Fin cfg0.N) (k : Fin 4096) (b : Fin 768) :
    ((cfg0.win 1).blk t).view.read (Elt Ideal) A (ix2 k b) = A (ix2 k (col t b)) := by
  change A (((cfg0.win 1).blk t).view.emb _) = _
  rw [place_h]

theorem iblk_w (c : Dev nD) (t : Fin cfg0.N) (a : Fin 512) (k : Fin 4096) :
    (iblk m c 0 t : FVec Ideal S512x4096 .bf16) (ix2 a k) = argW m c (ix2 k (vcol (row t a))) := by
  unfold iblk
  change ((cfg0.win 0).blk t).view.read (Elt Ideal) (V m c main_v4) _ = _
  rw [V_w, read_w, w_apply]

theorem iblk_h (c : Dev nD) (t : Fin cfg0.N) (k : Fin 4096) (b : Fin 768) :
    (iblk m c 1 t : FVec Ideal S4096x768 .bf16) (ix2 k b) = argH m c (ix2 (col t b) k) := by
  unfold iblk
  change ((cfg0.win 1).blk t).view.read (Elt Ideal) (V m c main_v1) _ = _
  rw [V_h, read_h, h_apply]

/-! ## The product of two blocks -/

theorem pay1_apply (x : FVec Ideal S512x4096 .bf16) (y : FVec Ideal S4096x768 .bf16) (a : Fin 512) (b : Fin 768) :
    k0_pay1 (F := Ideal) x y (ix2 a b) = ∑ k : Fin 4096, (x (ix2 a k) : EReal) * (y (ix2 k b) : EReal) := by
  pointwise [k0_pay1]

/-- The reference's result. -/
def values (c : Dev nD) : FVec Ideal S1024x16896 .bf16 := Cert.ProjVRefIdeal.Read.val_main_v3 (F := Ideal) (argH m c) (argW m c)

theorem ref_apply (A : FVec Ideal S16896x4096 .f32) (B : FVec Ideal S4096x6144 .f32) (r : Fin 1024) (n : Fin 16896) :
    Cert.ProjVRefIdeal.Read.val_main_v3 (F := Ideal) A B (ix2 r n) = ∑ k : Fin 4096, (A (ix2 n k) : EReal) * (B (ix2 k (vcol r)) : EReal) := by
  rw [Cert.ProjVRefIdeal.Read.val_main_v3_apply, Cert.ProjVRefIdeal.Read.val_main_v2_apply, Cert.ProjVRefIdeal.Read.val_main_v1_apply,
    Cert.ProjVRefIdeal.Read.val_main_v0_apply]
  refine Finset.sum_congr rfl fun k _ => ?_
  congr 2 <;> (funext a; fin_cases a <;> rfl)

theorem out_apply (c : Dev nD) (t : Fin cfg0.N) (a : Fin 512) (b : Fin 768) :
    (dats m 0 c).after 2 t (ix2 a b) = values m c (ix2 (row t a) (col t b)) := by
  rw [after0_2]
  frame_out
  unfold values
  rw [ref_apply]
  refine (pay1_apply _ _ a b).trans (Finset.sum_congr rfl fun k _ => ?_)
  rw [iblk_w, iblk_h, mul_comm]

/-! ## The array after the run -/

theorem index_cell : ∀ (i : Fin 2) (j : Fin 22), ∃ t : Fin cfg0.N, win0_2.index t = ![i.val, j.val] :=
  (by decide +kernel : ∀ (i : Fin 2) (j : Fin 22), ∃ t : Fin grid0.N, _)

/-- The result's blocks cover the array. -/
theorem covers : (cfg0.win 2).Covers :=
  (cfg0.win 2).covers_of_index_surj rfl (by decide) fun β => by
    have b0 : (β (0 : Fin 2)).val < 2 := (β (0 : Fin 2)).isLt
    have b1 : (β (1 : Fin 2)).val < 22 := (β (1 : Fin 2)).isLt
    obtain ⟨t, ht⟩ := index_cell ⟨(β (0 : Fin 2)).val, b0⟩ ⟨(β (1 : Fin 2)).val, b1⟩
    refine ⟨t, fun a => (congrFun ht a).trans ?_⟩
    match a with
    | ⟨0, _⟩ => rfl
    | ⟨1, _⟩ => rfl

/-- After the run the result array is the reference's result. -/
theorem array_eq (c : Dev nD) : (dats m 0 c).arrAt 2 cfg0.N = values m c := by
  refine Dat.arrAt_eq_of_covers _ 2 _ covers fun t hf y => ?_
  have key : ∀ y : S512x768.Idx, (dats m 0 c).after 2 t y = values m c (((cfg0.win 2).blk t).view.emb y) := by
    intro y
    rw [eq_ix2 y]
    refine Eq.trans ?_ (congrArg (values m c) (place_out t (y 0) (y 1))).symm
    exact out_apply m c t (y 0) (y 1)
  exact key y

/-- The two runs agree. -/
theorem algebraic : Cert.algebraic_ProjVIdeal_ProjVRefIdeal (hProjVIdeal := Cert.ProjVIdeal.Gen.facts)
    (hProjVRefIdeal := Cert.ProjVRefIdeal.Gen.facts) := by
  intro m g m' g' hpre hargs
  refine ⟨values m, (θ_run defs _ _).mono (fun r h c => ⟨(h c).1.trans (array_eq m c), (h c).2⟩) (Cert.ProjVIdeal.Value.run_blocks m g), ?_⟩
  refine (θ_run Cert.ProjVRefIdeal.defs _ _).mono (fun r h c => ⟨(h c).1.trans ?_, (h c).2⟩) (Cert.ProjVRefIdeal.Value.run (F := Ideal) m' g')
  obtain ⟨e0, e1⟩ := hargs c
  rw [Cert.ProjVRefIdeal.Read.val_main_v3_eq, e0, e1]
  rfl

end Cert.ProjVIdeal.Hand
-- ==== Proof.Calls.ProjQRef.lean ====
module

public import proofs.«01_k».proof.Defs
public import proofs.«01_k».proof.Proof.Gen.ProjQRefIdeal.Run
public import proofs.«01_k».proof.Proof.Gen.ProjQRefIdeal.Read
public import Idealize.ShloMosaic.Lib.Pipeline.ValueKit

/-! The queries of the global attention, as the mathematics gives them, read at an index: a column of the product brought
to unit mean square within its head and weighted, then its two halves turned against each other. -/

@[expose] public section

set_option maxRecDepth 16384

set_option maxHeartbeats 1000000

noncomputable section

namespace Cert.ProjQRefIdeal.Hand

open Idealize.ShloMosaic Idealize.ShloMosaic.TcCoe Idealize.ShloMosaic.Tactic Idealize.ShloMosaic.StableHlo Cert.ProjQRefIdeal.Read

variable (A : FVec Ideal S16896x4096 .f32) (W : FVec Ideal S4096x6144 .f32) (N : FVec Ideal S128 .f32)
  (C S : FVec Ideal S16896x2x32 .f32)

/-- The weight's column of a feature of a head. -/
def qcol (H : Fin 32) (d : Fin 128) : Fin 6144 := ⟨128 * H.val + d.val, by omega⟩

/-- The result's row of a feature of a head. -/
def qrow (H : Fin 32) (d : Fin 128) : Fin 4096 := ⟨128 * H.val + d.val, by omega⟩

/-- A token's product with a column of the weight. -/
def query (n : Fin 16896) (H : Fin 32) (d : Fin 128) : EReal := ∑ k : Fin 4096, (A (ix2 n k) : EReal) * (W (ix2 k (qcol H d)) : EReal)

/-- The product brought to unit mean square within its head, and weighted. -/
def normed (n : Fin 16896) (H : Fin 32) (d : Fin 128) : EReal :=
  query A W n H d * Ideal.rsqrt (Ideal.div (∑ e : Fin 128, query A W n H e * query A W n H e) (Ideal.ofBits .f32 0x43000000#32)
    + Ideal.ofBits .f32 0x358637BD#32) * N (ix1 d)

theorem v2_apply (n : Fin 16896) (H : Fin 32) (d : Fin 128) : val_main_v2 (F := Ideal) A W (ix3 n H d) = query A W n H d := by
  rw [val_main_v2_apply, val_main_v1_apply, val_main_v0_apply]
  unfold query
  refine Finset.sum_congr rfl fun k _ => ?_
  congr 2
  · funext a
    match a with
    | ⟨0, _⟩ => exact Fin.ext (by show ((n.val * 32 + H.val) * 128 + d.val) / 4096 = n.val; omega)
    | ⟨1, _⟩ => rfl
  · funext a
    match a with
    | ⟨0, _⟩ => rfl
    | ⟨1, _⟩ => exact Fin.ext (by show ((n.val * 32 + H.val) * 128 + d.val) % 4096 = 128 * H.val + d.val; omega)

theorem v15_apply (n : Fin 16896) (H : Fin 32) (d : Fin 128) : val_main_v15 (F := Ideal) A W N (ix3 n H d) = normed A W N n H d := by
  rw [val_main_v15_apply, val_main_v12_apply, val_main_v14_apply, val_main_v13_apply, val_main_v11_apply, val_main_v10_apply,
    val_main_v9_apply, val_main_v7_apply, val_main_v5_apply, val_main_v4_apply, val_main_v6_apply, val_main_v8_apply, v2_apply,
    val_main_cst_apply, val_main_cst_0_apply, val_main_cst_1_apply]
  have e : ∀ k : Fin 128, val_main_v3 (F := Ideal) A W (idx_main_v4 (idx_main_v5 (idx_main_v11 (ix3 n H d))) k)
      = query A W n H k * query A W n H k := fun k => by
    have e' : idx_main_v4 (idx_main_v5 (idx_main_v11 (ix3 n H d))) k = ix3 n H k := by
      funext a
      match a with
      | ⟨0, _⟩ => rfl
      | ⟨1, _⟩ => rfl
      | ⟨2, _⟩ => rfl
    rw [e', val_main_v3_apply, v2_apply]
    rfl
  have en : idx_main_v13 (idx_main_v14 (ix3 n H d)) = ix1 d := by
    funext a
    match a with
    | ⟨0, _⟩ => rfl
  simp only [e]
  rw [en]
  unfold normed
  change query A W n H d * Ideal.rsqrt (Ideal.div (Ideal.ofBits .f32 0x00000000#32 + _) _ + _) * _ = _
  rw [Ideal.ofBits_zero_f32, zero_add]
  rfl

/-- The feature of a head with a given axis, half and frequency. -/
def feat (a : Fin 2) (s : Fin 2) (f : Fin 32) : Fin 128 := ⟨64 * a.val + 32 * s.val + f.val, by omega⟩

theorem v16_apply (n : Fin 16896) (H : Fin 32) (a s : Fin 2) (f : Fin 32) :
    val_main_v16 (F := Ideal) A W N (ix5 n H a s f) = normed A W N n H (feat a s f) := by
  rw [val_main_v16_apply, ← v15_apply]
  congr 1
  funext i
  match i with
  | ⟨0, _⟩ => exact Fin.ext (by show ((((n.val * 32 + H.val) * 2 + a.val) * 2 + s.val) * 32 + f.val) / 4096 = n.val; omega)
  | ⟨1, _⟩ => exact Fin.ext (by show ((((n.val * 32 + H.val) * 2 + a.val) * 2 + s.val) * 32 + f.val) / 128 % 32 = H.val; omega)
  | ⟨2, _⟩ => exact Fin.ext (by show ((((n.val * 32 + H.val) * 2 + a.val) * 2 + s.val) * 32 + f.val) % 128 = 64 * a.val + 32 * s.val + f.val; omega)

theorem v18_apply (n : Fin 16896) (H : Fin 32) (a : Fin 2) (f : Fin 32) :
    val_main_v18 (F := Ideal) A W N (ix4 n H a f) = normed A W N n H (feat a 0 f) := by
  rw [val_main_v18_apply, val_main_v17_apply, ← v16_apply]
  congr 1
  funext i
  match i with
  | ⟨0, _⟩ => exact Fin.ext (by show (((n.val * 32 + H.val) * 2 + a.val) * 32 + f.val) / 2048 = n.val; omega)
  | ⟨1, _⟩ => exact Fin.ext (by show (((n.val * 32 + H.val) * 2 + a.val) * 32 + f.val) / 64 % 32 = H.val; omega)
  | ⟨2, _⟩ => exact Fin.ext (by show (((n.val * 32 + H.val) * 2 + a.val) * 32 + f.val) / 32 % 2 = a.val; omega)
  | ⟨3, _⟩ => rfl
  | ⟨4, _⟩ => exact Fin.ext (by show (((n.val * 32 + H.val) * 2 + a.val) * 32 + f.val) % 32 = f.val; omega)

theorem v20_apply (n : Fin 16896) (H : Fin 32) (a : Fin 2) (f : Fin 32) :
    val_main_v20 (F := Ideal) A W N (ix4 n H a f) = normed A W N n H (feat a 1 f) := by
  rw [val_main_v20_apply, val_main_v19_apply, ← v16_apply]
  congr 1
  funext i
  match i with
  | ⟨0, _⟩ => exact Fin.ext (by show (((n.val * 32 + H.val) * 2 + a.val) * 32 + f.val) / 2048 = n.val; omega)
  | ⟨1, _⟩ => exact Fin.ext (by show (((n.val * 32 + H.val) * 2 + a.val) * 32 + f.val) / 64 % 32 = H.val; omega)
  | ⟨2, _⟩ => exact Fin.ext (by show (((n.val * 32 + H.val) * 2 + a.val) * 32 + f.val) / 32 % 2 = a.val; omega)
  | ⟨3, _⟩ => rfl
  | ⟨4, _⟩ => exact Fin.ext (by show (((n.val * 32 + H.val) * 2 + a.val) * 32 + f.val) % 32 = f.val; omega)

theorem v23_apply (n : Fin 16896) (H : Fin 32) (a : Fin 2) (f : Fin 32) : val_main_v23 (F := Ideal) C (ix4 n H a f) = C (ix3 n a f) := by
  rw [val_main_v23_apply, val_main_v21_apply]
  congr 1; funext i; match i with | ⟨0, _⟩ => rfl | ⟨1, _⟩ => rfl | ⟨2, _⟩ => rfl
theorem v25_apply (n : Fin 16896) (H : Fin 32) (a : Fin 2) (f : Fin 32) : val_main_v25 (F := Ideal) S (ix4 n H a f) = S (ix3 n a f) := by
  rw [val_main_v25_apply, val_main_v22_apply]
  congr 1; funext i; match i with | ⟨0, _⟩ => rfl | ⟨1, _⟩ => rfl | ⟨2, _⟩ => rfl
theorem v28_apply (n : Fin 16896) (H : Fin 32) (a : Fin 2) (f : Fin 32) : val_main_v28 (F := Ideal) S (ix4 n H a f) = S (ix3 n a f) := by
  rw [val_main_v28_apply, val_main_v22_apply]
  congr 1; funext i; match i with | ⟨0, _⟩ => rfl | ⟨1, _⟩ => rfl | ⟨2, _⟩ => rfl
theorem v30_apply (n : Fin 16896) (H : Fin 32) (a : Fin 2) (f : Fin 32) : val_main_v30 (F := Ideal) C (ix4 n H a f) = C (ix3 n a f) := by
  rw [val_main_v30_apply, val_main_v21_apply]
  congr 1; funext i; match i with | ⟨0, _⟩ => rfl | ⟨1, _⟩ => rfl | ⟨2, _⟩ => rfl

theorem v27_apply (n : Fin 16896) (H : Fin 32) (a : Fin 2) (f : Fin 32) : val_main_v27 (F := Ideal) A W N C S (ix4 n H a f)
    = normed A W N n H (feat a 0 f) * (C (ix3 n a f) : EReal) - normed A W N n H (feat a 1 f) * (S (ix3 n a f) : EReal) := by
  rw [val_main_v27_apply, val_main_v24_apply, val_main_v26_apply, v18_apply, v20_apply, v23_apply, v25_apply]
  rfl
theorem v32_apply (n : Fin 16896) (H : Fin 32) (a : Fin 2) (f : Fin 32) : val_main_v32 (F := Ideal) A W N C S (ix4 n H a f)
    = normed A W N n H (feat a 0 f) * (S (ix3 n a f) : EReal) + normed A W N n H (feat a 1 f) * (C (ix3 n a f) : EReal) := by
  rw [val_main_v32_apply, val_main_v29_apply, val_main_v31_apply, v18_apply, v20_apply, v28_apply, v30_apply]
  rfl

theorem v35_lo (n : Fin 16896) (H : Fin 32) (a : Fin 2) (f : Fin 32) :
    val_main_v35 (F := Ideal) A W N C S (ix5 n H 0 a f) = val_main_v27 (F := Ideal) A W N C S (ix4 n H a f) := by
  unfold val_main_v35
  refine (concatenate_pair_apply_left (t := S16896x32x2x2x32) (s₁ := S16896x32x1x2x32) (s₂ := S16896x32x1x2x32) 2 _ _ _ (ix5 n H 0 a f) rfl (ix5 n H (0 : Fin 1) a f) (fun b => match b with
    | ⟨0, _⟩ => rfl | ⟨1, _⟩ => rfl | ⟨2, _⟩ => rfl | ⟨3, _⟩ => rfl | ⟨4, _⟩ => rfl)).trans ?_
  rw [val_main_v33_apply]
  congr 1; funext i; match i with | ⟨0, _⟩ => rfl | ⟨1, _⟩ => rfl | ⟨2, _⟩ => rfl | ⟨3, _⟩ => rfl
theorem v35_hi (n : Fin 16896) (H : Fin 32) (a : Fin 2) (f : Fin 32) :
    val_main_v35 (F := Ideal) A W N C S (ix5 n H 1 a f) = val_main_v32 (F := Ideal) A W N C S (ix4 n H a f) := by
  unfold val_main_v35
  refine (concatenate_pair_apply_right (t := S16896x32x2x2x32) (s₁ := S16896x32x1x2x32) (s₂ := S16896x32x1x2x32) 2 _ _ _ (ix5 n H 1 a f) rfl rfl (ix5 n H (0 : Fin 1) a f) (fun b hb => match b, hb with
    | ⟨0, _⟩, _ => rfl | ⟨1, _⟩, _ => rfl | ⟨2, _⟩, hb => absurd rfl hb | ⟨3, _⟩, _ => rfl | ⟨4, _⟩, _ => rfl) rfl).trans ?_
  rw [val_main_v34_apply]
  congr 1; funext i; match i with | ⟨0, _⟩ => rfl | ⟨1, _⟩ => rfl | ⟨2, _⟩ => rfl | ⟨3, _⟩ => rfl

theorem v38_apply (n : Fin 16896) (H : Fin 32) (s a : Fin 2) (f : Fin 32) (r : Fin 4096) (hr : r.val = 128 * H.val + (64 * s.val + 32 * a.val + f.val)) :
    val_main_v38 (F := Ideal) A W N C S (ix2 r n) = val_main_v35 (F := Ideal) A W N C S (ix5 n H s a f) := by
  rw [val_main_v38_apply, val_main_v37_apply, val_main_v36_apply]
  change val_main_v35 (F := Ideal) A W N C S _ = _
  congr 1
  funext i
  match i with
  | ⟨0, _⟩ => exact Fin.ext (by show (n.val * 4096 + r.val) / 4096 = n.val; omega)
  | ⟨1, _⟩ => exact Fin.ext (by show (n.val * 4096 + r.val) / 128 % 32 = H.val; omega)
  | ⟨2, _⟩ => exact Fin.ext (by show (n.val * 4096 + r.val) / 64 % 2 = s.val; omega)
  | ⟨3, _⟩ => exact Fin.ext (by show (n.val * 4096 + r.val) / 32 % 2 = a.val; omega)
  | ⟨4, _⟩ => exact Fin.ext (by show (n.val * 4096 + r.val) % 32 = f.val; omega)

/-- The first half of a head of the result. -/
theorem ref_lo (n : Fin 16896) (H : Fin 32) (a : Fin 2) (f : Fin 32) (r : Fin 4096) (hr : r.val = 128 * H.val + (32 * a.val + f.val)) :
    val_main_v38 (F := Ideal) A W N C S (ix2 r n)
      = normed A W N n H (feat a 0 f) * (C (ix3 n a f) : EReal) - normed A W N n H (feat a 1 f) * (S (ix3 n a f) : EReal) := by
  rw [v38_apply A W N C S n H 0 a f r (by simpa using hr), v35_lo, v27_apply]

/-- The second half of a head of the result. -/
theorem ref_hi (n : Fin 16896) (H : Fin 32) (a : Fin 2) (f : Fin 32) (r : Fin 4096) (hr : r.val = 128 * H.val + (64 + 32 * a.val + f.val)) :
    val_main_v38 (F := Ideal) A W N C S (ix2 r n)
      = normed A W N n H (feat a 0 f) * (S (ix3 n a f) : EReal) + normed A W N n H (feat a 1 f) * (C (ix3 n a f) : EReal) := by
  rw [v38_apply A W N C S n H 1 a f r (by simpa using hr), v35_hi, v32_apply]

end Cert.ProjQRefIdeal.Hand
-- ==== Proof.Calls.ProjQBlock.lean ====
module

public import proofs.«01_k».proof.Defs
public import proofs.«01_k».proof.Proof.Gen.ProjQIdeal.Value
public import Idealize.ShloMosaic.Lib.Pipeline.ValueKit

/-! One block of the projection onto the queries: the block's 512 features are four heads of 128; each head is brought to
unit mean square, weighted, and the first half of its features is turned against the second. -/

@[expose] public section

set_option maxRecDepth 16384

set_option maxHeartbeats 1000000

noncomputable section

namespace Cert.ProjQIdeal.Hand

open Idealize.ShloMosaic Idealize.ShloMosaic.TcCoe Idealize.ShloMosaic.Tactic Idealize.ShloMosaic.StableHlo Cert.ProjQIdeal.Gen
open Idealize.ShloMosaic.Pipeline Idealize.SL.Sem

theorem pay8_apply (x : FVec Ideal S512x4096 .bf16) (y : FVec Ideal S4096x768 .bf16) (a : Fin 512) (b : Fin 768) :
    k0_pay8 (F := Ideal) x y (ix2 a b) = ∑ k : Fin 4096, (x (ix2 a k) : EReal) * (y (ix2 k b) : EReal) := by
  pointwise [k0_pay8]

/-- The block's row at a feature of one of its four heads. -/
def hrow (r : Fin 4) (d : Fin 128) : Fin 512 := ⟨128 * r.val + d.val, by omega⟩

/-- A feature of the first half of a head. -/
def lo (u : Fin 64) : Fin 128 := ⟨u.val, by omega⟩

/-- A feature of the second half of a head. -/
def hi (u : Fin 64) : Fin 128 := ⟨64 + u.val, by omega⟩

/-- A head's feature brought to unit mean square and weighted, from a column `P` of the product and the weights `G`. -/
def hval (P G : Fin 512 → EReal) (r : Fin 4) (d : Fin 128) : EReal :=
  P (hrow r d) * Ideal.rsqrt ((∑ e : Fin 128, P (hrow r e) * P (hrow r e)) * Ideal.ofBits .f32 0x3C000000#32 + Ideal.ofBits .f32 0x358637BD#32) * G (hrow r d)

theorem hrow0 (d : Fin 128) (h : d.val < 512) : (⟨d.val, h⟩ : Fin 512) = hrow 0 d := Fin.ext (by simp [hrow])
theorem hrow1 (d : Fin 128) (h : 128 + d.val < 512) : (⟨128 + d.val, h⟩ : Fin 512) = hrow 1 d := Fin.ext (by simp [hrow])
theorem hrow2 (d : Fin 128) (h : 256 + d.val < 512) : (⟨256 + d.val, h⟩ : Fin 512) = hrow 2 d := Fin.ext (by simp [hrow])
theorem hrow3 (d : Fin 128) (h : 384 + d.val < 512) : (⟨384 + d.val, h⟩ : Fin 512) = hrow 3 d := Fin.ext (by simp [hrow])

theorem lo_eq (u : Fin 64) (h : u.val < 128) : (⟨u.val, h⟩ : Fin 128) = lo u := rfl
theorem hi_eq (u : Fin 64) (h : 64 + u.val < 128) : (⟨64 + u.val, h⟩ : Fin 128) = hi u := rfl

/-! ## The four heads -/

theorem pay11_apply (x : FVec Ideal S512x4096 .bf16) (y : FVec Ideal S4096x768 .bf16) (v : FVec Ideal S128x128 .f32) (G : Fin 512 → EReal)
    (hv : ∀ d l, v (ix2 d l) = G (hrow 0 d)) (d : Fin 128) (b : Fin 768) :
    k0_pay11 (F := Ideal) x y v (ix2 d b) = hval (fun a => k0_pay8 (F := Ideal) x y (ix2 a b)) G 0 d := by
  pointwise [k0_pay11]
  simp only [hv, dite_eq_ite, ite_self, hrow0]
  rfl

theorem pay16_apply (x : FVec Ideal S512x4096 .bf16) (y : FVec Ideal S4096x768 .bf16) (d : Fin 128) (b : Fin 768) :
    k0_pay16 (F := Ideal) x y (ix2 d b) = k0_pay8 (F := Ideal) x y (ix2 (hrow 1 d) b) := by
  unfold hrow
  pointwise [k0_pay16]

theorem pay17_apply (x : FVec Ideal S512x4096 .bf16) (y : FVec Ideal S4096x768 .bf16) (d : Fin 128) (b : Fin 768) :
    k0_pay17 (F := Ideal) x y (ix2 d b)
      = (k0_pay8 (F := Ideal) x y (ix2 (hrow 1 d) b) : EReal) * (k0_pay8 (F := Ideal) x y (ix2 (hrow 1 d) b) : EReal) := by
  rw [← pay16_apply]
  rfl

theorem pay18_apply (x : FVec Ideal S512x4096 .bf16) (y : FVec Ideal S4096x768 .bf16) (v : FVec Ideal S128x128 .f32) (G : Fin 512 → EReal)
    (hv : ∀ d l, v (ix2 d l) = G (hrow 1 d)) (d : Fin 128) (b : Fin 768) :
    k0_pay18 (F := Ideal) (k0_pay16 x y) (k0_pay17 x y) v (ix2 d b) = hval (fun a => k0_pay8 (F := Ideal) x y (ix2 a b)) G 1 d := by
  generalize ex : k0_pay16 (F := Ideal) x y = x16
  generalize ey : k0_pay17 (F := Ideal) x y = x17
  pointwise [k0_pay18]
  subst ex ey
  simp only [hv, dite_eq_ite, ite_self, pay16_apply, pay17_apply]
  rfl

theorem pay23_apply (x : FVec Ideal S512x768 .f32) (v : FVec Ideal S128x128 .f32) (G : Fin 512 → EReal)
    (hv : ∀ d l, v (ix2 d l) = G (hrow 2 d)) (d : Fin 128) (b : Fin 768) :
    k0_pay23 (F := Ideal) x v (ix2 d b) = hval (fun a => x (ix2 a b)) G 2 d := by
  pointwise [k0_pay23]
  simp only [hv, dite_eq_ite, ite_self, hrow2]
  rfl

theorem pay3_apply (x : FVec Ideal S512x768 .f32) (v : FVec Ideal S128x128 .f32) (G : Fin 512 → EReal)
    (hv : ∀ d l, v (ix2 d l) = G (hrow 3 d)) (d : Fin 128) (b : Fin 768) :
    k0_pay3 (F := Ideal) x v (ix2 d b) = hval (fun a => x (ix2 a b)) G 3 d := by
  pointwise [k0_pay3]
  simp only [hv, dite_eq_ite, ite_self, hrow3]
  rfl

/-! ## The halves turned against each other -/

/-- The first half of a turned head. -/
def turnLo (y : Fin 128 → EReal) (c s : EReal) (u : Fin 64) : EReal := y (lo u) * c - y (hi u) * s

/-- The second half of a turned head. -/
def turnHi (y : Fin 128 → EReal) (c s : EReal) (u : Fin 64) : EReal := y (lo u) * s + y (hi u) * c

variable (x : FVec Ideal S512x4096 .bf16) (y : FVec Ideal S4096x768 .bf16) (z : FVec Ideal S512x768 .f32)
  (C S : FVec Ideal S64x768 .f32) (v : FVec Ideal S128x128 .f32) (u : Fin 64) (b : Fin 768)

theorem pay14_apply : k0_pay14 (F := Ideal) x y C S v (ix2 u b)
    = turnLo (fun d => k0_pay11 (F := Ideal) x y v (ix2 d b)) (C (ix2 u b)) (S (ix2 u b)) u := by
  unfold turnLo lo hi
  pointwise [k0_pay14, k0_pay12, k0_pay13, k0_pay9, k0_pay10]
theorem pay15_apply : k0_pay15 (F := Ideal) x y C S v (ix2 u b)
    = turnHi (fun d => k0_pay11 (F := Ideal) x y v (ix2 d b)) (C (ix2 u b)) (S (ix2 u b)) u := by
  unfold turnHi lo hi
  pointwise [k0_pay15, k0_pay12, k0_pay13, k0_pay9, k0_pay10]
theorem pay21_apply (p q : FVec Ideal S128x768 .f32) : k0_pay21 (F := Ideal) (k0_pay9 C) (k0_pay10 S) p q v (ix2 u b)
    = turnLo (fun d => k0_pay18 (F := Ideal) p q v (ix2 d b)) (C (ix2 u b)) (S (ix2 u b)) u := by
  unfold turnLo lo hi
  pointwise [k0_pay21, k0_pay19, k0_pay20, k0_pay9, k0_pay10]
theorem pay22_apply (p q : FVec Ideal S128x768 .f32) : k0_pay22 (F := Ideal) (k0_pay9 C) (k0_pay10 S) p q v (ix2 u b)
    = turnHi (fun d => k0_pay18 (F := Ideal) p q v (ix2 d b)) (C (ix2 u b)) (S (ix2 u b)) u := by
  unfold turnHi lo hi
  pointwise [k0_pay22, k0_pay19, k0_pay20, k0_pay9, k0_pay10]
theorem pay1_apply : k0_pay1 (F := Ideal) (k0_pay26 z (k0_pay9 C) v) (k0_pay27 z (k0_pay10 S) v) (ix2 u b)
    = turnLo (fun d => k0_pay23 (F := Ideal) z v (ix2 d b)) (C (ix2 u b)) (S (ix2 u b)) u := by
  unfold turnLo lo hi
  pointwise [k0_pay1, k0_pay26, k0_pay27, k0_pay24, k0_pay25, k0_pay9, k0_pay10]
theorem pay2_apply : k0_pay2 (F := Ideal) (k0_pay9 C) (k0_pay10 S) (k0_pay24 z v) (k0_pay25 z v) (ix2 u b)
    = turnHi (fun d => k0_pay23 (F := Ideal) z v (ix2 d b)) (C (ix2 u b)) (S (ix2 u b)) u := by
  unfold turnHi lo hi
  pointwise [k0_pay2, k0_pay24, k0_pay25, k0_pay9, k0_pay10]
theorem pay6_apply : k0_pay6 (F := Ideal) z (k0_pay9 C) (k0_pay10 S) v (ix2 u b)
    = turnLo (fun d => k0_pay3 (F := Ideal) z v (ix2 d b)) (C (ix2 u b)) (S (ix2 u b)) u := by
  unfold turnLo lo hi
  pointwise [k0_pay6, k0_pay4, k0_pay5, k0_pay9, k0_pay10]
theorem pay7_apply : k0_pay7 (F := Ideal) z (k0_pay9 C) (k0_pay10 S) v (ix2 u b)
    = turnHi (fun d => k0_pay3 (F := Ideal) z v (ix2 d b)) (C (ix2 u b)) (S (ix2 u b)) u := by
  unfold turnHi lo hi
  pointwise [k0_pay7, k0_pay4, k0_pay5, k0_pay9, k0_pay10]

/-! ## The whole block -/

/-- The load of four heads' weights at a head. -/
theorem ld3_apply (X : FVec Ideal S512x128 .f32) (d l : Fin 128) :
    View.ld (Val := Elt Ideal) (e' := .f32) X r0_3 (ix2 d l : S128x128.Idx) = X (ix2 (hrow 0 d) l) :=
  View.ld_unit_apply_of (Val := Elt Ideal) (e := .f32) (S := S512x128) X ![0, 0] S128x128.size inb_S512x128_S128x128_0_0 (ix2 d l : S128x128.Idx)
    (ix2 (hrow 0 d) l) fun a => match a with | ⟨0, _⟩ => rfl | ⟨1, _⟩ => (Nat.zero_add _).symm
theorem ld6_apply (X : FVec Ideal S512x128 .f32) (d l : Fin 128) :
    View.ld (Val := Elt Ideal) (e' := .f32) X r0_6 (ix2 d l : S128x128.Idx) = X (ix2 (hrow 1 d) l) :=
  View.ld_unit_apply_of (Val := Elt Ideal) (e := .f32) (S := S512x128) X ![128, 0] S128x128.size inb_S512x128_S128x128_128_0 (ix2 d l : S128x128.Idx)
    (ix2 (hrow 1 d) l) fun a => match a with | ⟨0, _⟩ => rfl | ⟨1, _⟩ => (Nat.zero_add _).symm
theorem ld9_apply (X : FVec Ideal S512x128 .f32) (d l : Fin 128) :
    View.ld (Val := Elt Ideal) (e' := .f32) X r0_9 (ix2 d l : S128x128.Idx) = X (ix2 (hrow 2 d) l) :=
  View.ld_unit_apply_of (Val := Elt Ideal) (e := .f32) (S := S512x128) X ![256, 0] S128x128.size inb_S512x128_S128x128_256_0 (ix2 d l : S128x128.Idx)
    (ix2 (hrow 2 d) l) fun a => match a with | ⟨0, _⟩ => rfl | ⟨1, _⟩ => (Nat.zero_add _).symm
theorem ld12_apply (X : FVec Ideal S512x128 .f32) (d l : Fin 128) :
    View.ld (Val := Elt Ideal) (e' := .f32) X r0_12 (ix2 d l : S128x128.Idx) = X (ix2 (hrow 3 d) l) :=
  View.ld_unit_apply_of (Val := Elt Ideal) (e := .f32) (S := S512x128) X ![384, 0] S128x128.size inb_S512x128_S128x128_384_0 (ix2 d l : S128x128.Idx)
    (ix2 (hrow 3 d) l) fun a => match a with | ⟨0, _⟩ => rfl | ⟨1, _⟩ => (Nat.zero_add _).symm

theorem ld0_eq (X : FVec Ideal S512x4096 .bf16) : View.ld (Val := Elt Ideal) (e' := .bf16) X r0_0 = X :=
  funext fun i => View.ld_unit_apply_of (Val := Elt Ideal) (e := .bf16) (S := S512x4096) X ![0, 0] S512x4096.size inb_S512x4096_S512x4096_0_0 i i
    fun a => match a with | ⟨0, _⟩ => (Nat.zero_add _).symm | ⟨1, _⟩ => (Nat.zero_add _).symm
theorem ld1_eq (X : FVec Ideal S4096x768 .bf16) : View.ld (Val := Elt Ideal) (e' := .bf16) X r0_1 = X :=
  funext fun i => View.ld_unit_apply_of (Val := Elt Ideal) (e := .bf16) (S := S4096x768) X ![0, 0] S4096x768.size inb_S4096x768_S4096x768_0_0 i i
    fun a => match a with | ⟨0, _⟩ => (Nat.zero_add _).symm | ⟨1, _⟩ => (Nat.zero_add _).symm
theorem ld2_eq (X : FVec Ideal S64x768 .f32) : View.ld (Val := Elt Ideal) (e' := .f32) X r0_2 = X :=
  funext fun i => View.ld_unit_apply_of (Val := Elt Ideal) (e := .f32) (S := S64x768) X ![0, 0] S64x768.size inb_S64x768_S64x768_0_0 i i
    fun a => match a with | ⟨0, _⟩ => (Nat.zero_add _).symm | ⟨1, _⟩ => (Nat.zero_add _).symm

/-- The block at an index is any value that the head and half holding the index gives it. -/
theorem block_apply (x0 : FVec Ideal S512x4096 .bf16) (x1 : FVec Ideal S4096x768 .bf16) (x2 : FVec Ideal S512x128 .f32) (x3 x4 : FVec Ideal S64x768 .f32)
    (G : Fin 512 → EReal) (hG : ∀ a l, x2 (ix2 a l) = G a) (a : Fin 512) (b : Fin 768) (w : EReal)
    (Hlo : ∀ r u, a = hrow r (lo u) → turnLo (hval (fun a => k0_pay8 (F := Ideal) x0 x1 (ix2 a b)) G r) (x3 (ix2 u b)) (x4 (ix2 u b)) u = w)
    (Hhi : ∀ r u, a = hrow r (hi u) → turnHi (hval (fun a => k0_pay8 (F := Ideal) x0 x1 (ix2 a b)) G r) (x3 (ix2 u b)) (x4 (ix2 u b)) u = w) :
    out0_5 (F := Ideal) x0 x1 x2 x3 x4 (ix2 a b) = w := by
  unfold out0_5 k0_pay32 k0_pay31 k0_pay30 k0_pay29 k0_pay28
  rw [ld0_eq, ld1_eq, ld2_eq, ld2_eq]
  refine View.canon_eq_of_allAt _ _ _ (cover0_5 (F := Ideal) _ _ _ _ _ _ _ _ _) ?_
  refine View.allAt_cons_unit _ _ _ _ _ ?_ ?_
  · intro x hx
    obtain ⟨u, b', rfl⟩ : ∃ (u : Fin 64) (b' : Fin 768), x = ix2 u b' := ⟨x 0, x 1, eq_ix2 x⟩
    have h0 : a.val = 448 + u.val := hx 0
    obtain rfl : b = b' := Fin.ext ((hx 1).trans (Nat.zero_add _))
    refine (pay7_apply _ _ _ _ _ _).trans ?_
    rw [show (fun d => _) = hval (fun a => k0_pay8 (F := Ideal) x0 x1 (ix2 a b)) G 3 from funext fun d => pay3_apply _ _ G (fun d l => (ld12_apply x2 d l).trans (hG _ _)) d b]
    exact Hhi 3 u (Fin.ext (h0.trans (by simp [hrow, hi]; try omega)))
  refine View.allAt_cons_unit _ _ _ _ _ ?_ ?_
  · intro x hx
    obtain ⟨u, b', rfl⟩ : ∃ (u : Fin 64) (b' : Fin 768), x = ix2 u b' := ⟨x 0, x 1, eq_ix2 x⟩
    have h0 : a.val = 384 + u.val := hx 0
    obtain rfl : b = b' := Fin.ext ((hx 1).trans (Nat.zero_add _))
    refine (pay6_apply _ _ _ _ _ _).trans ?_
    rw [show (fun d => _) = hval (fun a => k0_pay8 (F := Ideal) x0 x1 (ix2 a b)) G 3 from funext fun d => pay3_apply _ _ G (fun d l => (ld12_apply x2 d l).trans (hG _ _)) d b]
    exact Hlo 3 u (Fin.ext (h0.trans (by simp [hrow, lo]; try omega)))
  refine View.allAt_cons_unit _ _ _ _ _ ?_ ?_
  · intro x hx
    obtain ⟨u, b', rfl⟩ : ∃ (u : Fin 64) (b' : Fin 768), x = ix2 u b' := ⟨x 0, x 1, eq_ix2 x⟩
    have h0 : a.val = 320 + u.val := hx 0
    obtain rfl : b = b' := Fin.ext ((hx 1).trans (Nat.zero_add _))
    refine (pay2_apply _ _ _ _ _ _).trans ?_
    rw [show (fun d => _) = hval (fun a => k0_pay8 (F := Ideal) x0 x1 (ix2 a b)) G 2 from funext fun d => pay23_apply _ _ G (fun d l => (ld9_apply x2 d l).trans (hG _ _)) d b]
    exact Hhi 2 u (Fin.ext (h0.trans (by simp [hrow, hi]; try omega)))
  refine View.allAt_cons_unit _ _ _ _ _ ?_ ?_
  · intro x hx
    obtain ⟨u, b', rfl⟩ : ∃ (u : Fin 64) (b' : Fin 768), x = ix2 u b' := ⟨x 0, x 1, eq_ix2 x⟩
    have h0 : a.val = 256 + u.val := hx 0
    obtain rfl : b = b' := Fin.ext ((hx 1).trans (Nat.zero_add _))
    refine (pay1_apply _ _ _ _ _ _).trans ?_
    rw [show (fun d => _) = hval (fun a => k0_pay8 (F := Ideal) x0 x1 (ix2 a b)) G 2 from funext fun d => pay23_apply _ _ G (fun d l => (ld9_apply x2 d l).trans (hG _ _)) d b]
    exact Hlo 2 u (Fin.ext (h0.trans (by simp [hrow, lo]; try omega)))
  refine View.allAt_cons_unit _ _ _ _ _ ?_ ?_
  · intro x hx
    obtain ⟨u, b', rfl⟩ : ∃ (u : Fin 64) (b' : Fin 768), x = ix2 u b' := ⟨x 0, x 1, eq_ix2 x⟩
    have h0 : a.val = 192 + u.val := hx 0
    obtain rfl : b = b' := Fin.ext ((hx 1).trans (Nat.zero_add _))
    refine (pay22_apply _ _ _ _ _ _ _).trans ?_
    rw [show (fun d => _) = hval (fun a => k0_pay8 (F := Ideal) x0 x1 (ix2 a b)) G 1 from funext fun d => pay18_apply x0 x1 _ G (fun d l => (ld6_apply x2 d l).trans (hG _ _)) d b]
    exact Hhi 1 u (Fin.ext (h0.trans (by simp [hrow, hi]; try omega)))
  refine View.allAt_cons_unit _ _ _ _ _ ?_ ?_
  · intro x hx
    obtain ⟨u, b', rfl⟩ : ∃ (u : Fin 64) (b' : Fin 768), x = ix2 u b' := ⟨x 0, x 1, eq_ix2 x⟩
    have h0 : a.val = 128 + u.val := hx 0
    obtain rfl : b = b' := Fin.ext ((hx 1).trans (Nat.zero_add _))
    refine (pay21_apply _ _ _ _ _ _ _).trans ?_
    rw [show (fun d => _) = hval (fun a => k0_pay8 (F := Ideal) x0 x1 (ix2 a b)) G 1 from funext fun d => pay18_apply x0 x1 _ G (fun d l => (ld6_apply x2 d l).trans (hG _ _)) d b]
    exact Hlo 1 u (Fin.ext (h0.trans (by simp [hrow, lo]; try omega)))
  refine View.allAt_cons_unit _ _ _ _ _ ?_ ?_
  · intro x hx
    obtain ⟨u, b', rfl⟩ : ∃ (u : Fin 64) (b' : Fin 768), x = ix2 u b' := ⟨x 0, x 1, eq_ix2 x⟩
    have h0 : a.val = 64 + u.val := hx 0
    obtain rfl : b = b' := Fin.ext ((hx 1).trans (Nat.zero_add _))
    refine (pay15_apply _ _ _ _ _ _ _).trans ?_
    rw [show (fun d => _) = hval (fun a => k0_pay8 (F := Ideal) x0 x1 (ix2 a b)) G 0 from funext fun d => pay11_apply x0 x1 _ G (fun d l => (ld3_apply x2 d l).trans (hG _ _)) d b]
    exact Hhi 0 u (Fin.ext (h0.trans (by simp [hrow, hi]; try omega)))
  refine View.allAt_cons_unit _ _ _ _ _ ?_ ?_
  · intro x hx
    obtain ⟨u, b', rfl⟩ : ∃ (u : Fin 64) (b' : Fin 768), x = ix2 u b' := ⟨x 0, x 1, eq_ix2 x⟩
    have h0 : a.val = 0 + u.val := hx 0
    obtain rfl : b = b' := Fin.ext ((hx 1).trans (Nat.zero_add _))
    refine (pay14_apply _ _ _ _ _ _ _).trans ?_
    rw [show (fun d => _) = hval (fun a => k0_pay8 (F := Ideal) x0 x1 (ix2 a b)) G 0 from funext fun d => pay11_apply x0 x1 _ G (fun d l => (ld3_apply x2 d l).trans (hG _ _)) d b]
    exact Hlo 0 u (Fin.ext (h0.trans (by simp [hrow, lo]; try omega)))
  exact View.allAt_nil _ _

end Cert.ProjQIdeal.Hand
-- ==== Proof.Calls.ProjQHost.lean ====
module

public import proofs.«01_k».proof.Defs
public import proofs.«01_k».proof.Proof.Gen.ProjQIdeal.Value
public import proofs.«01_k».proof.Proof.Calls.ProjQRef
public import Idealize.ShloMosaic.Lib.Pipeline.ValueKit
public import Idealize.ShloMosaic.Lib.Pipeline.Covers

/-! The arrays the projection onto the queries reads: the weight's columns and the norm's weights with the features of each
head put in the order (half, axis, frequency), and the cosines and sines with the tokens last. -/

@[expose] public section

set_option maxRecDepth 16384

set_option maxHeartbeats 1000000

noncomputable section

namespace Cert.ProjQIdeal.Hand

open Idealize.ShloMosaic Idealize.ShloMosaic.TcCoe Idealize.ShloMosaic.Tactic Idealize.ShloMosaic.StableHlo Cert.ProjQIdeal.Gen
open Idealize.ShloMosaic.Pipeline Idealize.SL.Sem
open Cert.ProjQRefIdeal.Hand (qcol qrow)

variable (m : (ℓ : Loc nD τ sig) → Buf (Elt Ideal) ℓ)

/-- The hidden states, as the program is given them. -/
def argH (c : Dev nD) : FVec Ideal S16896x4096 .f32 := m ((c.tc : Thread nD τ).loc main_arg0)
/-- The weight, as the program is given it. -/
def argW (c : Dev nD) : FVec Ideal S4096x6144 .f32 := m ((c.tc : Thread nD τ).loc main_arg1)
/-- The norm's weights, as the program is given them. -/
def argN (c : Dev nD) : FVec Ideal S128 .f32 := m ((c.tc : Thread nD τ).loc main_arg2)
/-- The cosines, as the program is given them. -/
def argC (c : Dev nD) : FVec Ideal S16896x2x32 .f32 := m ((c.tc : Thread nD τ).loc main_arg3)
/-- The sines, as the program is given them. -/
def argS (c : Dev nD) : FVec Ideal S16896x2x32 .f32 := m ((c.tc : Thread nD τ).loc main_arg4)

/-- The table of the features' order, as the program computes it. -/
def table : IVec S128x1 32 :=
  broadcastInDim S128x1 ![0] bcast_S128_S128x1_0 (select (constantI S128 1 0#1)
    (addi (fun i => lit0 (S128.rowMajor i)) (broadcastInDim S128 ![] bcast_S_S128 (constantI S_ 32 128#32)))
    (fun i => lit0 (S128.rowMajor i)))

/-- The transposed weight, a head's features in the table's order. -/
def warr (W : FVec Ideal S4096x6144 .f32) : FVec Ideal S4096x4096 .f32 :=
  shapeCast S4096x4096 (Host.gather gather_S32x128x4096_S128x1_S32x128x4096_02_1_n_n_1_1_3214096
    (shapeCast S32x128x4096 (transpose S4096x4096 [1, 0] (extractStridedSlice S4096x4096 ![0, 0] W slices_S4096x6144_S4096x4096_0_0)
      transposes_S4096x4096_S4096x4096_1_0) shapeCasts_S4096x4096_S32x128x4096) table) shapeCasts_S32x128x4096_S4096x4096

/-- The norm's weights in the table's order, once for each head. -/
def narr (N : FVec Ideal S128 .f32) : FVec Ideal S4096 .f32 :=
  shapeCast S4096 (broadcastInDim S32x128 ![0, 1] bcast_S1x128_S32x128_0_1
    (shapeCast S1x128 (Host.gather gather_S128_S128x1_S128_n_0_n_n_0_1_1 N table) shapeCasts_S128_S1x128)) shapeCasts_S32x128_S4096

theorem V_w (c : Dev nD) : V m c main_v11 = truncf .bf16 (warr (argW m c)) bitsLt_bf16_f32 := by
  unfold_abbrev_sides
  simp only [hostOps0]
  after_results_simp
  rfl
theorem V_h (c : Dev nD) : V m c main_v2 = truncf .bf16 (transpose S4096x16896 [1, 0] (argH m c) transposes_S16896x4096_S4096x16896_1_0) bitsLt_bf16_f32 := by
  unfold_abbrev_sides
  simp only [hostOps0]
  after_results_simp
  rfl
theorem V_n (c : Dev nD) : V m c main_v25 = broadcastInDim S4096x128 ![0, 1] bcast_S4096x1_S4096x128_0_1
    (broadcastInDim S4096x1 ![0] bcast_S4096_S4096x1_0 (narr (argN m c))) := by
  unfold_abbrev_sides
  simp only [hostOps0]
  after_results_simp
  rfl
theorem V_c (c : Dev nD) : V m c main_v13 = transpose S64x16896 [1, 0] (shapeCast S16896x64 (argC m c) shapeCasts_S16896x2x32_S16896x64) transposes_S16896x64_S64x16896_1_0 := by
  unfold_abbrev_sides
  simp only [hostOps0]
  after_results_simp
  rfl
theorem V_s (c : Dev nD) : V m c main_v15 = transpose S64x16896 [1, 0] (shapeCast S16896x64 (argS m c) shapeCasts_S16896x2x32_S16896x64) transposes_S16896x64_S64x16896_1_0 := by
  unfold_abbrev_sides
  simp only [hostOps0]
  after_results_simp
  rfl

/-! ## The table -/

/-- The plain feature a head's feature in the order (half, axis, frequency) comes from. -/
def src (d : Fin 128) : Fin 128 := ⟨64 * (d.val % 64 / 32) + 32 * (d.val / 64) + d.val % 32, by omega⟩

theorem table_apply (q : Fin 128) : table (ix2 q (0 : Fin 1)) = lit0 q := by
  have e : S128.rowMajor (ix1 q) = q := Fin.ext (Shape.rowMajor_val_one _)
  unfold table
  rw [broadcastInDim_apply _ bcast_S128_S128x1_0 _ (ix2 q (0 : Fin 1)) (ix1 q) (fun a => match a with | ⟨0, _⟩ => rfl)]
  change lit0 (S128.rowMajor (ix1 q)) = _
  rw [e]

theorem lit0_src : ∀ q : Fin 128, min (lit0 q).toInt.toNat 127 = (src q).val := by decide +kernel

theorem gather_w (x : FVec Ideal S32x128x4096 .f32) (p : Fin 32) (q : Fin 128) (k : Fin 4096) :
    Host.gather gather_S32x128x4096_S128x1_S32x128x4096_02_1_n_n_1_1_3214096 x table (ix3 p q k) = x (ix3 p (src q) k) := by
  unfold Host.gather
  congr 1
  funext a
  refine Fin.ext ?_
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · show GatherDims.start _ _ _ _ + GatherDims.batchCoord _ _ _ + GatherDims.offCoord _ _ _ = p.val
    rw [GatherDims.batchCoord_eq_zero _ _ _ List.not_mem_nil]
    unfold GatherDims.start GatherDims.offCoord
    rw [dif_neg (show (0 : Fin 3) ∉ gather_S32x128x4096_S128x1_S32x128x4096_02_1_n_n_1_1_3214096.startIndexMap from (show (0 : Fin 3) ∉ ([1] : List (Fin 3)) by decide)),
      dif_pos ((GatherDims.mem_sKept _ _).mpr ⟨(show (0 : Fin 3) ∉ ([1] : List (Fin 3)) by decide), List.not_mem_nil⟩)]
    exact (Nat.zero_add _)
  · show GatherDims.start _ _ _ _ + GatherDims.batchCoord _ _ _ + GatherDims.offCoord _ _ _ = (src q).val
    rw [GatherDims.batchCoord_eq_zero _ _ _ List.not_mem_nil,
      GatherDims.offCoord_eq_zero _ _ _ (fun h => ((GatherDims.mem_sKept _ _).mp h).1 (List.mem_singleton.mpr rfl)), ← lit0_src, ← table_apply]
    unfold GatherDims.start
    rw [dif_pos (show (1 : Fin 3) ∈ gather_S32x128x4096_S128x1_S32x128x4096_02_1_n_n_1_1_3214096.startIndexMap from List.mem_singleton.mpr rfl)]
    show min (table _).toInt.toNat 127 = _
    congr 4
    funext b; refine Fin.ext ?_
    match b with
    | ⟨0, _⟩ => rfl
    | ⟨1, _⟩ => rfl
  · show GatherDims.start _ _ _ _ + GatherDims.batchCoord _ _ _ + GatherDims.offCoord _ _ _ = k.val
    rw [GatherDims.batchCoord_eq_zero _ _ _ List.not_mem_nil]
    unfold GatherDims.start GatherDims.offCoord
    rw [dif_neg (show (2 : Fin 3) ∉ gather_S32x128x4096_S128x1_S32x128x4096_02_1_n_n_1_1_3214096.startIndexMap from (show (2 : Fin 3) ∉ ([1] : List (Fin 3)) by decide)),
      dif_pos ((GatherDims.mem_sKept _ _).mpr ⟨(show (2 : Fin 3) ∉ ([1] : List (Fin 3)) by decide), List.not_mem_nil⟩)]
    exact (Nat.zero_add _)

theorem gather_n (x : FVec Ideal S128 .f32) (q : Fin 128) :
    Host.gather gather_S128_S128x1_S128_n_0_n_n_0_1_1 x table (ix1 q) = x (ix1 (src q)) := by
  unfold Host.gather
  congr 1
  funext a
  obtain rfl : a = 0 := Subsingleton.elim _ _
  refine Fin.ext ?_
  · show GatherDims.start _ _ _ _ + GatherDims.batchCoord _ _ _ + GatherDims.offCoord _ _ _ = (src q).val
    rw [GatherDims.batchCoord_eq_zero _ _ _ List.not_mem_nil,
      GatherDims.offCoord_eq_zero _ _ _ (fun h => ((GatherDims.mem_sKept _ _).mp h).1 (List.mem_singleton.mpr rfl)), ← lit0_src, ← table_apply]
    unfold GatherDims.start
    rw [dif_pos (show (0 : Fin 1) ∈ gather_S128_S128x1_S128_n_0_n_n_0_1_1.startIndexMap from List.mem_singleton.mpr rfl)]
    show min (table _).toInt.toNat 127 = _
    congr 4
    funext b; refine Fin.ext ?_
    match b with
    | ⟨0, _⟩ => rfl
    | ⟨1, _⟩ => rfl

/-! ## The arrays at an index -/

theorem w_apply (W : FVec Ideal S4096x6144 .f32) (H : Fin 32) (d : Fin 128) (k : Fin 4096) :
    truncf .bf16 (warr W) bitsLt_bf16_f32 (ix2 (qrow H d) k) = W (ix2 k (qcol H (src d))) := by
  change warr W (ix2 (qrow H d) k) = _
  unfold warr
  rw [shapeCast_apply _ shapeCasts_S32x128x4096_S4096x4096 (ix2 (qrow H d) k) (ix3 H d k)
      (by rewrite [Shape.rowMajor_val_two, Shape.rowMajor_val_three]; show (H.val * 128 + d.val) * 4096 + k.val = (128 * H.val + d.val) * 4096 + k.val; omega),
    gather_w, shapeCast_apply _ shapeCasts_S4096x4096_S32x128x4096 (ix3 H (src d) k) (ix2 (qrow H (src d)) k)
      (by rewrite [Shape.rowMajor_val_two, Shape.rowMajor_val_three]; show (128 * H.val + (src d).val) * 4096 + k.val = (H.val * 128 + (src d).val) * 4096 + k.val; omega)]
  generalize src d = d'
  unfold qrow qcol
  pointwise []

theorem h_apply (A : FVec Ideal S16896x4096 .f32) (k : Fin 4096) (n : Fin 16896) :
    (truncf .bf16 (transpose S4096x16896 [1, 0] A transposes_S16896x4096_S4096x16896_1_0) bitsLt_bf16_f32) (ix2 k n) = A (ix2 n k) := by
  pointwise []

theorem n_apply (N : FVec Ideal S128 .f32) (H : Fin 32) (d l : Fin 128) :
    (broadcastInDim S4096x128 ![0, 1] bcast_S4096x1_S4096x128_0_1 (broadcastInDim S4096x1 ![0] bcast_S4096_S4096x1_0 (narr N))) (ix2 (qrow H d) l)
      = N (ix1 (src d)) := by
  rw [broadcastInDim_apply _ bcast_S4096x1_S4096x128_0_1 _ (ix2 (qrow H d) l) (ix2 (qrow H d) (0 : Fin 1)) (fun a => match a with | ⟨0, _⟩ => rfl | ⟨1, _⟩ => rfl),
    broadcastInDim_apply _ bcast_S4096_S4096x1_0 _ (ix2 (qrow H d) (0 : Fin 1)) (ix1 (qrow H d)) (fun a => match a with | ⟨0, _⟩ => rfl)]
  unfold narr
  rw [shapeCast_apply _ shapeCasts_S32x128_S4096 (ix1 (qrow H d)) (ix2 H d)
      (by rewrite [Shape.rowMajor_val_two, Shape.rowMajor_val_one]; show H.val * 128 + d.val = 128 * H.val + d.val; omega),
    broadcastInDim_apply _ bcast_S1x128_S32x128_0_1 _ (ix2 H d) (ix2 (0 : Fin 1) d) (fun a => match a with | ⟨0, _⟩ => rfl | ⟨1, _⟩ => rfl),
    shapeCast_apply _ shapeCasts_S128_S1x128 (ix2 (0 : Fin 1) d) (ix1 d)
      (by rewrite [Shape.rowMajor_val_two, Shape.rowMajor_val_one]; show d.val = 0 * 128 + d.val; omega), gather_n]

/-- The axis of a feature of a half. -/
def axis (u : Fin 64) : Fin 2 := ⟨u.val / 32, by omega⟩
/-- The frequency of a feature of a half. -/
def freq (u : Fin 64) : Fin 32 := ⟨u.val % 32, by omega⟩

theorem angle_apply (C : FVec Ideal S16896x2x32 .f32) (u : Fin 64) (n : Fin 16896) :
    (transpose S64x16896 [1, 0] (shapeCast S16896x64 C shapeCasts_S16896x2x32_S16896x64) transposes_S16896x64_S64x16896_1_0) (ix2 u n)
      = C (ix3 n (axis u) (freq u)) := by
  rw [← shapeCast_apply C shapeCasts_S16896x2x32_S16896x64 (ix2 n u) (ix3 n (axis u) (freq u))
      (by rewrite [Shape.rowMajor_val_two, Shape.rowMajor_val_three]; show (n.val * 2 + u.val / 32) * 32 + u.val % 32 = n.val * 64 + u.val; omega)]
  generalize shapeCast S16896x64 C shapeCasts_S16896x2x32_S16896x64 = y
  pointwise []

end Cert.ProjQIdeal.Hand
-- ==== Proof.Calls.ProjQ.lean ====
module

public import proofs.«01_k».proof.Defs
public import proofs.«01_k».proof.Proof.Gen.ProjQIdeal.Value
public import proofs.«01_k».proof.Proof.Calls.ProjQRef
public import proofs.«01_k».proof.Proof.Calls.ProjQBlock
public import proofs.«01_k».proof.Proof.Calls.ProjQHost
public import Idealize.ShloMosaic.Lib.Pipeline.ValueKit
public import Idealize.ShloMosaic.Lib.Pipeline.Covers

/-! The projection of the hidden states onto the queries of the global attention: point `(i, j)` of the grid makes four
heads for 768 tokens, and the blocks together are the queries of the mathematics, the features of each head in the order
(half, axis, frequency) and the tokens last. A head's mean square does not depend on the order of its features. -/

@[expose] public section

set_option maxRecDepth 16384

set_option maxHeartbeats 1000000

noncomputable section

namespace Cert.ProjQIdeal.Hand

open Idealize.ShloMosaic Idealize.ShloMosaic.TcCoe Idealize.ShloMosaic.Tactic Idealize.ShloMosaic.StableHlo Cert.ProjQIdeal.Gen
open Idealize.ShloMosaic.Pipeline Idealize.SL.Sem
open Cert.ProjQRefIdeal.Hand (qcol qrow query normed feat ref_lo ref_hi)

variable (m : (ℓ : Loc nD τ sig) → Buf (Elt Ideal) ℓ)

/-- The block of tokens of a grid point. -/
def cb (t : Fin cfg0.N) : Fin 22 := grid0.coords t 0

/-- The block of features of a grid point. -/
def rb (t : Fin cfg0.N) : Fin 8 := grid0.coords t 1

/-- The result's row at a row of a point's block. -/
def row (t : Fin cfg0.N) (a : Fin 512) : Fin 4096 := ⟨512 * (rb t).val + a.val, by have := (rb t).isLt; omega⟩

/-- The result's column at a column of a point's block. -/
def col (t : Fin cfg0.N) (b : Fin 768) : Fin 16896 := ⟨768 * (cb t).val + b.val, by have := (cb t).isLt; omega⟩

/-- The head that is a block's `r`-th. -/
def headOf (t : Fin cfg0.N) (r : Fin 4) : Fin 32 := ⟨4 * (rb t).val + r.val, by have := (rb t).isLt; omega⟩

theorem row_hrow (t : Fin cfg0.N) (r : Fin 4) (d : Fin 128) : row t (hrow r d) = qrow (headOf t r) d :=
  Fin.ext (by show 512 * (rb t).val + (128 * r.val + d.val) = 128 * (4 * (rb t).val + r.val) + d.val; omega)

/-! ## The blocks a grid point reads -/

theorem index_w : ∀ t : Fin cfg0.N, win0_0.index t = ![(rb t).val, 0] := (by decide +kernel : ∀ t : Fin grid0.N, _)
theorem index_h : ∀ t : Fin cfg0.N, win0_1.index t = ![0, (cb t).val] := (by decide +kernel : ∀ t : Fin grid0.N, _)
theorem index_n : ∀ t : Fin cfg0.N, win0_2.index t = ![(rb t).val, 0] := (by decide +kernel : ∀ t : Fin grid0.N, _)
theorem index_c : ∀ t : Fin cfg0.N, win0_3.index t = ![0, (cb t).val] := (by decide +kernel : ∀ t : Fin grid0.N, _)
theorem index_s : ∀ t : Fin cfg0.N, win0_4.index t = ![0, (cb t).val] := (by decide +kernel : ∀ t : Fin grid0.N, _)
theorem index_out : ∀ t : Fin cfg0.N, win0_5.index t = ![(rb t).val, (cb t).val] := (by decide +kernel : ∀ t : Fin grid0.N, _)

theorem place_w (t : Fin cfg0.N) (a : Fin 512) (k : Fin 4096) :
    ((cfg0.win 0).blk t).view.emb (ix2 a k) = (ix2 (row t a) k : S4096x4096.Idx) := by
  unfold row
  blk_ext [index_w t]
theorem place_h (t : Fin cfg0.N) (k : Fin 4096) (b : Fin 768) :
    ((cfg0.win 1).blk t).view.emb (ix2 k b) = (ix2 k (col t b) : S4096x16896.Idx) := by
  unfold col
  blk_ext [index_h t]
theorem place_n (t : Fin cfg0.N) (a : Fin 512) (l : Fin 128) :
    ((cfg0.win 2).blk t).view.emb (ix2 a l) = (ix2 (row t a) l : S4096x128.Idx) := by
  unfold row
  blk_ext [index_n t]
theorem place_c (t : Fin cfg0.N) (u : Fin 64) (b : Fin 768) :
    ((cfg0.win 3).blk t).view.emb (ix2 u b) = (ix2 u (col t b) : S64x16896.Idx) := by
  unfold col
  blk_ext [index_c t]
theorem place_s (t : Fin cfg0.N) (u : Fin 64) (b : Fin 768) :
    ((cfg0.win 4).blk t).view.emb (ix2 u b) = (ix2 u (col t b) : S64x16896.Idx) := by
  unfold col
  blk_ext [index_s t]
theorem place_out (t : Fin cfg0.N) (a : Fin 512) (b : Fin 768) :
    ((cfg0.win 5).blk t).view.emb (ix2 a b) = (ix2 (row t a) (col t b) : S4096x16896.Idx) := by
  unfold row col
  blk_ext [index_out t]

theorem read_w (A : FVec Ideal S4096x4096 .bf16) (t : Fin cfg0.N) (a : Fin 512) (k : Fin 4096) :
    ((cfg0.win 0).blk t).view.read (Elt Ideal) A (ix2 a k) = A (ix2 (row t a) k) := by
  change A (((cfg0.win 0).blk t).view.emb _) = _
  rw [place_w]
theorem read_h (A : FVec Ideal S4096x16896 .bf16) (t : Fin cfg0.N) (k : Fin 4096) (b : Fin 768) :
    ((cfg0.win 1).blk t).view.read (Elt Ideal) A (ix2 k b) = A (ix2 k (col t b)) := by
  change A (((cfg0.win 1).blk t).view.emb _) = _
  rw [place_h]
theorem read_n (A : FVec Ideal S4096x128 .f32) (t : Fin cfg0.N) (a : Fin 512) (l : Fin 128) :
    ((cfg0.win 2).blk t).view.read (Elt Ideal) A (ix2 a l) = A (ix2 (row t a) l) := by
  change A (((cfg0.win 2).blk t).view.emb _) = _
  rw [place_n]
theorem read_c (A : FVec Ideal S64x16896 .f32) (t : Fin cfg0.N) (u : Fin 64) (b : Fin 768) :
    ((cfg0.win 3).blk t).view.read (Elt Ideal) A (ix2 u b) = A (ix2 u (col t b)) := by
  change A (((cfg0.win 3).blk t).view.emb _) = _
  rw [place_c]
theorem read_s (A : FVec Ideal S64x16896 .f32) (t : Fin cfg0.N) (u : Fin 64) (b : Fin 768) :
    ((cfg0.win 4).blk t).view.read (Elt Ideal) A (ix2 u b) = A (ix2 u (col t b)) := by
  change A (((cfg0.win 4).blk t).view.emb _) = _
  rw [place_s]

theorem iblk_w (c : Dev nD) (t : Fin cfg0.N) (r : Fin 4) (d : Fin 128) (k : Fin 4096) :
    (iblk m c 0 t : FVec Ideal S512x4096 .bf16) (ix2 (hrow r d) k) = argW m c (ix2 k (qcol (headOf t r) (src d))) := by
  unfold iblk
  change ((cfg0.win 0).blk t).view.read (Elt Ideal) (V m c main_v11) _ = _
  rw [V_w, read_w, row_hrow, w_apply]
theorem iblk_h (c : Dev nD) (t : Fin cfg0.N) (k : Fin 4096) (b : Fin 768) :
    (iblk m c 1 t : FVec Ideal S4096x768 .bf16) (ix2 k b) = argH m c (ix2 (col t b) k) := by
  unfold iblk
  change ((cfg0.win 1).blk t).view.read (Elt Ideal) (V m c main_v2) _ = _
  rw [V_h, read_h, h_apply]
theorem iblk_n (c : Dev nD) (t : Fin cfg0.N) (r : Fin 4) (d l : Fin 128) :
    (iblk m c 2 t : FVec Ideal S512x128 .f32) (ix2 (hrow r d) l) = argN m c (ix1 (src d)) := by
  unfold iblk
  change ((cfg0.win 2).blk t).view.read (Elt Ideal) (V m c main_v25) _ = _
  rw [V_n, read_n, row_hrow, n_apply]
theorem iblk_c (c : Dev nD) (t : Fin cfg0.N) (u : Fin 64) (b : Fin 768) :
    (iblk m c 3 t : FVec Ideal S64x768 .f32) (ix2 u b) = argC m c (ix3 (col t b) (axis u) (freq u)) := by
  unfold iblk
  change ((cfg0.win 3).blk t).view.read (Elt Ideal) (V m c main_v13) _ = _
  rw [V_c, read_c, angle_apply]
theorem iblk_s (c : Dev nD) (t : Fin cfg0.N) (u : Fin 64) (b : Fin 768) :
    (iblk m c 4 t : FVec Ideal S64x768 .f32) (ix2 u b) = argS m c (ix3 (col t b) (axis u) (freq u)) := by
  unfold iblk
  change ((cfg0.win 4).blk t).view.read (Elt Ideal) (V m c main_v15) _ = _
  rw [V_s, read_s, angle_apply]

/-! ## A head of a block -/

theorem src_invol : Function.Involutive src := by
  have h : ∀ d : Fin 128, src (src d) = d := by decide +kernel
  exact h

theorem src_lo (u : Fin 64) : src (lo u) = feat (axis u) 0 (freq u) :=
  Fin.ext (by show 64 * (u.val % 64 / 32) + 32 * (u.val / 64) + u.val % 32 = 64 * (u.val / 32) + 32 * 0 + u.val % 32; omega)
theorem src_hi (u : Fin 64) : src (hi u) = feat (axis u) 1 (freq u) :=
  Fin.ext (by show 64 * ((64 + u.val) % 64 / 32) + 32 * ((64 + u.val) / 64) + (64 + u.val) % 32 = 64 * (u.val / 32) + 32 * 1 + u.val % 32; omega)

theorem ofBits_128 : Ideal.ofBits .f32 0x43000000#32 = ((128 : ℝ) : EReal) := by
  simp [Ideal.ofBits, Ideal.ieee, -EReal.coe_mul]; norm_num
theorem ofBits_inv_128 : Ideal.ofBits .f32 0x3C000000#32 = (((1 : ℝ) / 128 : ℝ) : EReal) := by
  simp [Ideal.ofBits, Ideal.ieee, -EReal.coe_mul]; norm_num

/-- Dividing by 128 is multiplying by its inverse. -/
theorem div_128 (x : EReal) : Ideal.div x (Ideal.ofBits .f32 0x43000000#32) = x * Ideal.ofBits .f32 0x3C000000#32 := by
  rw [ofBits_128, ofBits_inv_128, Ideal.div_coe (by norm_num)]

/-- A block's normed head is the mathematics' normed head, its features in the table's order. -/
theorem hval_eq (A : FVec Ideal S16896x4096 .f32) (W : FVec Ideal S4096x6144 .f32) (N : FVec Ideal S128 .f32) (n : Fin 16896) (H : Fin 32)
    (P G : Fin 512 → EReal) (r : Fin 4) (hP : ∀ d, P (hrow r d) = query A W n H (src d)) (hG : ∀ d, G (hrow r d) = N (ix1 (src d))) (d : Fin 128) :
    hval P G r d = normed A W N n H (src d) := by
  unfold hval normed
  simp only [hP, hG]
  rw [div_128, ← Equiv.sum_comp (src_invol.toPerm src) fun e => query A W n H e * query A W n H e]
  rfl

/-- The reference's result. -/
def queries (c : Dev nD) : FVec Ideal S4096x16896 .bf16 :=
  Cert.ProjQRefIdeal.Read.val_main_v38 (F := Ideal) (argH m c) (argW m c) (argN m c) (argC m c) (argS m c)

/-- The norm's weight at a row of a block. -/
def weight (c : Dev nD) (a : Fin 512) : EReal := argN m c (ix1 (src ⟨a.val % 128, by omega⟩))

theorem weight_hrow (c : Dev nD) (r : Fin 4) (d : Fin 128) : weight m c (hrow r d) = argN m c (ix1 (src d)) := by
  have e : (⟨(hrow r d).val % 128, by omega⟩ : Fin 128) = d := Fin.ext (by show (128 * r.val + d.val) % 128 = d.val; omega)
  unfold weight
  rw [e]

theorem hrow_surj (a : Fin 512) : ∃ r d, a = hrow r d :=
  ⟨⟨a.val / 128, by omega⟩, ⟨a.val % 128, by omega⟩, Fin.ext (by show a.val = 128 * (a.val / 128) + a.val % 128; omega)⟩

theorem head_eq (c : Dev nD) (t : Fin cfg0.N) (b : Fin 768) (r : Fin 4) (d : Fin 128) :
    hval (fun a => k0_pay8 (F := Ideal) (iblk m c 0 t : FVec Ideal S512x4096 .bf16) (iblk m c 1 t : FVec Ideal S4096x768 .bf16) (ix2 a b)) (weight m c) r d
      = normed (argH m c) (argW m c) (argN m c) (col t b) (headOf t r) (src d) := by
  refine hval_eq _ _ _ _ _ _ _ r (fun d => ?_) (weight_hrow m c r) d
  refine (pay8_apply _ _ _ b).trans (Finset.sum_congr rfl fun k _ => ?_)
  rw [iblk_w, iblk_h, mul_comm]

theorem out_apply (c : Dev nD) (t : Fin cfg0.N) (a : Fin 512) (b : Fin 768) :
    (dats m 0 c).after 5 t (ix2 a b) = queries m c (ix2 (row t a) (col t b)) := by
  rw [after0_5]
  refine block_apply _ _ _ _ _ (weight m c) (fun a l => ?_) a b _ (fun r u h => ?_) (fun r u h => ?_)
  · obtain ⟨r, d, rfl⟩ := hrow_surj a
    rw [weight_hrow]
    exact iblk_n m c t r d l
  · subst h
    unfold queries turnLo
    rw [ref_lo _ _ _ _ _ (col t b) (headOf t r) (axis u) (freq u) _ (by rw [row_hrow]; show 128 * (headOf t r).val + u.val = 128 * (headOf t r).val + (32 * (u.val / 32) + u.val % 32); omega),
      head_eq, head_eq, src_lo, src_hi, iblk_c, iblk_s]
  · subst h
    unfold queries turnHi
    rw [ref_hi _ _ _ _ _ (col t b) (headOf t r) (axis u) (freq u) _ (by rw [row_hrow]; show 128 * (headOf t r).val + (64 + u.val) = 128 * (headOf t r).val + (64 + 32 * (u.val / 32) + u.val % 32); omega),
      head_eq, head_eq, src_lo, src_hi, iblk_c, iblk_s]

/-! ## The array after the run -/

theorem index_cell : ∀ (i : Fin 8) (j : Fin 22), ∃ t : Fin cfg0.N, win0_5.index t = ![i.val, j.val] :=
  (by decide +kernel : ∀ (i : Fin 8) (j : Fin 22), ∃ t : Fin grid0.N, _)

/-- The result's blocks cover the array. -/
theorem covers : (cfg0.win 5).Covers :=
  (cfg0.win 5).covers_of_index_surj rfl (by decide) fun β => by
    have b0 : (β (0 : Fin 2)).val < 8 := (β (0 : Fin 2)).isLt
    have b1 : (β (1 : Fin 2)).val < 22 := (β (1 : Fin 2)).isLt
    obtain ⟨t, ht⟩ := index_cell ⟨(β (0 : Fin 2)).val, b0⟩ ⟨(β (1 : Fin 2)).val, b1⟩
    refine ⟨t, fun a => (congrFun ht a).trans ?_⟩
    match a with
    | ⟨0, _⟩ => rfl
    | ⟨1, _⟩ => rfl

/-- After the run the result array is the reference's result. -/
theorem array_eq (c : Dev nD) : (dats m 0 c).arrAt 5 cfg0.N = queries m c := by
  refine Dat.arrAt_eq_of_covers _ 5 _ covers fun t hf y => ?_
  have key : ∀ y : S512x768.Idx, (dats m 0 c).after 5 t y = queries m c (((cfg0.win 5).blk t).view.emb y) := by
    intro y
    rw [eq_ix2 y]
    refine Eq.trans ?_ (congrArg (queries m c) (place_out t (y 0) (y 1))).symm
    exact out_apply m c t (y 0) (y 1)
  exact key y

/-- The two runs agree. -/
theorem algebraic : Cert.algebraic_ProjQIdeal_ProjQRefIdeal (hProjQIdeal := Cert.ProjQIdeal.Gen.facts)
    (hProjQRefIdeal := Cert.ProjQRefIdeal.Gen.facts) := by
  intro m g m' g' hpre hargs
  refine ⟨queries m, (θ_run defs _ _).mono (fun r h c => ⟨(h c).1.trans (array_eq m c), (h c).2⟩) (Cert.ProjQIdeal.Value.run_blocks m g), ?_⟩
  refine (θ_run Cert.ProjQRefIdeal.defs _ _).mono (fun r h c => ⟨(h c).1.trans ?_, (h c).2⟩) (Cert.ProjQRefIdeal.Value.run (F := Ideal) m' g')
  obtain ⟨e0, e1, e2, e3, e4⟩ := hargs c
  rw [Cert.ProjQRefIdeal.Read.val_main_v38_eq, e0, e1, e2, e3, e4]
  rfl

end Cert.ProjQIdeal.Hand
-- ==== Proof.Calls.ProjKRef.lean ====
module

public import proofs.«01_k».proof.Defs
public import proofs.«01_k».proof.Proof.Gen.ProjKRefIdeal.Run
public import proofs.«01_k».proof.Proof.Gen.ProjKRefIdeal.Read
public import Idealize.ShloMosaic.Lib.Pipeline.ValueKit

/-! The keys of the global attention, as the mathematics gives them, read at an index: a column of the product brought
to unit mean square within its head and weighted, then its two halves turned against each other. -/

@[expose] public section

set_option maxRecDepth 16384

set_option maxHeartbeats 1000000

noncomputable section

namespace Cert.ProjKRefIdeal.Hand

open Idealize.ShloMosaic Idealize.ShloMosaic.TcCoe Idealize.ShloMosaic.Tactic Idealize.ShloMosaic.StableHlo Cert.ProjKRefIdeal.Read

variable (A : FVec Ideal S16896x4096 .f32) (W : FVec Ideal S4096x6144 .f32) (N : FVec Ideal S128 .f32)
  (C S : FVec Ideal S16896x2x32 .f32)

/-- The weight's column of a feature of a head. -/
def qcol (H : Fin 8) (d : Fin 128) : Fin 6144 := ⟨4096 + (128 * H.val + d.val), by omega⟩

/-- The result's row of a feature of a head. -/
def qrow (H : Fin 8) (d : Fin 128) : Fin 1024 := ⟨128 * H.val + d.val, by omega⟩

/-- A token's product with a column of the weight. -/
def query (n : Fin 16896) (H : Fin 8) (d : Fin 128) : EReal := ∑ k : Fin 4096, (A (ix2 n k) : EReal) * (W (ix2 k (qcol H d)) : EReal)

/-- The product brought to unit mean square within its head, and weighted. -/
def normed (n : Fin 16896) (H : Fin 8) (d : Fin 128) : EReal :=
  query A W n H d * Ideal.rsqrt (Ideal.div (∑ e : Fin 128, query A W n H e * query A W n H e) (Ideal.ofBits .f32 0x43000000#32)
    + Ideal.ofBits .f32 0x358637BD#32) * N (ix1 d)

theorem v2_apply (n : Fin 16896) (H : Fin 8) (d : Fin 128) : val_main_v2 (F := Ideal) A W (ix3 n H d) = query A W n H d := by
  rw [val_main_v2_apply, val_main_v1_apply, val_main_v0_apply]
  unfold query
  refine Finset.sum_congr rfl fun k _ => ?_
  congr 2
  · funext a
    match a with
    | ⟨0, _⟩ => exact Fin.ext (by show ((n.val * 8 + H.val) * 128 + d.val) / 1024 = n.val; omega)
    | ⟨1, _⟩ => rfl
  · funext a
    match a with
    | ⟨0, _⟩ => rfl
    | ⟨1, _⟩ => exact Fin.ext (by show 4096 + (((n.val * 8 + H.val) * 128 + d.val) % 1024) = 4096 + (128 * H.val + d.val); omega)

theorem v15_apply (n : Fin 16896) (H : Fin 8) (d : Fin 128) : val_main_v15 (F := Ideal) A W N (ix3 n H d) = normed A W N n H d := by
  rw [val_main_v15_apply, val_main_v12_apply, val_main_v14_apply, val_main_v13_apply, val_main_v11_apply, val_main_v10_apply,
    val_main_v9_apply, val_main_v7_apply, val_main_v5_apply, val_main_v4_apply, val_main_v6_apply, val_main_v8_apply, v2_apply,
    val_main_cst_apply, val_main_cst_0_apply, val_main_cst_1_apply]
  have e : ∀ k : Fin 128, val_main_v3 (F := Ideal) A W (idx_main_v4 (idx_main_v5 (idx_main_v11 (ix3 n H d))) k)
      = query A W n H k * query A W n H k := fun k => by
    have e' : idx_main_v4 (idx_main_v5 (idx_main_v11 (ix3 n H d))) k = ix3 n H k := by
      funext a
      match a with
      | ⟨0, _⟩ => rfl
      | ⟨1, _⟩ => rfl
      | ⟨2, _⟩ => rfl
    rw [e', val_main_v3_apply, v2_apply]
    rfl
  have en : idx_main_v13 (idx_main_v14 (ix3 n H d)) = ix1 d := by
    funext a
    match a with
    | ⟨0, _⟩ => rfl
  simp only [e]
  rw [en]
  unfold normed
  change query A W n H d * Ideal.rsqrt (Ideal.div (Ideal.ofBits .f32 0x00000000#32 + _) _ + _) * _ = _
  rw [Ideal.ofBits_zero_f32, zero_add]
  rfl

/-- The feature of a head with a given axis, half and frequency. -/
def feat (a : Fin 2) (s : Fin 2) (f : Fin 32) : Fin 128 := ⟨64 * a.val + 32 * s.val + f.val, by omega⟩

theorem v16_apply (n : Fin 16896) (H : Fin 8) (a s : Fin 2) (f : Fin 32) :
    val_main_v16 (F := Ideal) A W N (ix5 n H a s f) = normed A W N n H (feat a s f) := by
  rw [val_main_v16_apply, ← v15_apply]
  congr 1
  funext i
  match i with
  | ⟨0, _⟩ => exact Fin.ext (by show ((((n.val * 8 + H.val) * 2 + a.val) * 2 + s.val) * 32 + f.val) / 1024 = n.val; omega)
  | ⟨1, _⟩ => exact Fin.ext (by show ((((n.val * 8 + H.val) * 2 + a.val) * 2 + s.val) * 32 + f.val) / 128 % 8 = H.val; omega)
  | ⟨2, _⟩ => exact Fin.ext (by show ((((n.val * 8 + H.val) * 2 + a.val) * 2 + s.val) * 32 + f.val) % 128 = 64 * a.val + 32 * s.val + f.val; omega)

theorem v18_apply (n : Fin 16896) (H : Fin 8) (a : Fin 2) (f : Fin 32) :
    val_main_v18 (F := Ideal) A W N (ix4 n H a f) = normed A W N n H (feat a 0 f) := by
  rw [val_main_v18_apply, val_main_v17_apply, ← v16_apply]
  congr 1
  funext i
  match i with
  | ⟨0, _⟩ => exact Fin.ext (by show (((n.val * 8 + H.val) * 2 + a.val) * 32 + f.val) / 512 = n.val; omega)
  | ⟨1, _⟩ => exact Fin.ext (by show (((n.val * 8 + H.val) * 2 + a.val) * 32 + f.val) / 64 % 8 = H.val; omega)
  | ⟨2, _⟩ => exact Fin.ext (by show (((n.val * 8 + H.val) * 2 + a.val) * 32 + f.val) / 32 % 2 = a.val; omega)
  | ⟨3, _⟩ => rfl
  | ⟨4, _⟩ => exact Fin.ext (by show (((n.val * 8 + H.val) * 2 + a.val) * 32 + f.val) % 32 = f.val; omega)

theorem v20_apply (n : Fin 16896) (H : Fin 8) (a : Fin 2) (f : Fin 32) :
    val_main_v20 (F := Ideal) A W N (ix4 n H a f) = normed A W N n H (feat a 1 f) := by
  rw [val_main_v20_apply, val_main_v19_apply, ← v16_apply]
  congr 1
  funext i
  match i with
  | ⟨0, _⟩ => exact Fin.ext (by show (((n.val * 8 + H.val) * 2 + a.val) * 32 + f.val) / 512 = n.val; omega)
  | ⟨1, _⟩ => exact Fin.ext (by show (((n.val * 8 + H.val) * 2 + a.val) * 32 + f.val) / 64 % 8 = H.val; omega)
  | ⟨2, _⟩ => exact Fin.ext (by show (((n.val * 8 + H.val) * 2 + a.val) * 32 + f.val) / 32 % 2 = a.val; omega)
  | ⟨3, _⟩ => rfl
  | ⟨4, _⟩ => exact Fin.ext (by show (((n.val * 8 + H.val) * 2 + a.val) * 32 + f.val) % 32 = f.val; omega)

theorem v23_apply (n : Fin 16896) (H : Fin 8) (a : Fin 2) (f : Fin 32) : val_main_v23 (F := Ideal) C (ix4 n H a f) = C (ix3 n a f) := by
  rw [val_main_v23_apply, val_main_v21_apply]
  congr 1; funext i; match i with | ⟨0, _⟩ => rfl | ⟨1, _⟩ => rfl | ⟨2, _⟩ => rfl
theorem v25_apply (n : Fin 16896) (H : Fin 8) (a : Fin 2) (f : Fin 32) : val_main_v25 (F := Ideal) S (ix4 n H a f) = S (ix3 n a f) := by
  rw [val_main_v25_apply, val_main_v22_apply]
  congr 1; funext i; match i with | ⟨0, _⟩ => rfl | ⟨1, _⟩ => rfl | ⟨2, _⟩ => rfl
theorem v28_apply (n : Fin 16896) (H : Fin 8) (a : Fin 2) (f : Fin 32) : val_main_v28 (F := Ideal) S (ix4 n H a f) = S (ix3 n a f) := by
  rw [val_main_v28_apply, val_main_v22_apply]
  congr 1; funext i; match i with | ⟨0, _⟩ => rfl | ⟨1, _⟩ => rfl | ⟨2, _⟩ => rfl
theorem v30_apply (n : Fin 16896) (H : Fin 8) (a : Fin 2) (f : Fin 32) : val_main_v30 (F := Ideal) C (ix4 n H a f) = C (ix3 n a f) := by
  rw [val_main_v30_apply, val_main_v21_apply]
  congr 1; funext i; match i with | ⟨0, _⟩ => rfl | ⟨1, _⟩ => rfl | ⟨2, _⟩ => rfl

theorem v27_apply (n : Fin 16896) (H : Fin 8) (a : Fin 2) (f : Fin 32) : val_main_v27 (F := Ideal) A W N C S (ix4 n H a f)
    = normed A W N n H (feat a 0 f) * (C (ix3 n a f) : EReal) - normed A W N n H (feat a 1 f) * (S (ix3 n a f) : EReal) := by
  rw [val_main_v27_apply, val_main_v24_apply, val_main_v26_apply, v18_apply, v20_apply, v23_apply, v25_apply]
  rfl
theorem v32_apply (n : Fin 16896) (H : Fin 8) (a : Fin 2) (f : Fin 32) : val_main_v32 (F := Ideal) A W N C S (ix4 n H a f)
    = normed A W N n H (feat a 0 f) * (S (ix3 n a f) : EReal) + normed A W N n H (feat a 1 f) * (C (ix3 n a f) : EReal) := by
  rw [val_main_v32_apply, val_main_v29_apply, val_main_v31_apply, v18_apply, v20_apply, v28_apply, v30_apply]
  rfl

theorem v35_lo (n : Fin 16896) (H : Fin 8) (a : Fin 2) (f : Fin 32) :
    val_main_v35 (F := Ideal) A W N C S (ix5 n H 0 a f) = val_main_v27 (F := Ideal) A W N C S (ix4 n H a f) := by
  unfold val_main_v35
  refine (concatenate_pair_apply_left (t := S16896x8x2x2x32) (s₁ := S16896x8x1x2x32) (s₂ := S16896x8x1x2x32) 2 _ _ _ (ix5 n H 0 a f) rfl (ix5 n H (0 : Fin 1) a f) (fun b => match b with
    | ⟨0, _⟩ => rfl | ⟨1, _⟩ => rfl | ⟨2, _⟩ => rfl | ⟨3, _⟩ => rfl | ⟨4, _⟩ => rfl)).trans ?_
  rw [val_main_v33_apply]
  congr 1; funext i; match i with | ⟨0, _⟩ => rfl | ⟨1, _⟩ => rfl | ⟨2, _⟩ => rfl | ⟨3, _⟩ => rfl
theorem v35_hi (n : Fin 16896) (H : Fin 8) (a : Fin 2) (f : Fin 32) :
    val_main_v35 (F := Ideal) A W N C S (ix5 n H 1 a f) = val_main_v32 (F := Ideal) A W N C S (ix4 n H a f) := by
  unfold val_main_v35
  refine (concatenate_pair_apply_right (t := S16896x8x2x2x32) (s₁ := S16896x8x1x2x32) (s₂ := S16896x8x1x2x32) 2 _ _ _ (ix5 n H 1 a f) rfl rfl (ix5 n H (0 : Fin 1) a f) (fun b hb => match b, hb with
    | ⟨0, _⟩, _ => rfl | ⟨1, _⟩, _ => rfl | ⟨2, _⟩, hb => absurd rfl hb | ⟨3, _⟩, _ => rfl | ⟨4, _⟩, _ => rfl) rfl).trans ?_
  rw [val_main_v34_apply]
  congr 1; funext i; match i with | ⟨0, _⟩ => rfl | ⟨1, _⟩ => rfl | ⟨2, _⟩ => rfl | ⟨3, _⟩ => rfl

theorem v38_apply (n : Fin 16896) (H : Fin 8) (s a : Fin 2) (f : Fin 32) (r : Fin 1024) (hr : r.val = 128 * H.val + (64 * s.val + 32 * a.val + f.val)) :
    val_main_v38 (F := Ideal) A W N C S (ix2 r n) = val_main_v35 (F := Ideal) A W N C S (ix5 n H s a f) := by
  rw [val_main_v38_apply, val_main_v37_apply, val_main_v36_apply]
  change val_main_v35 (F := Ideal) A W N C S _ = _
  congr 1
  funext i
  match i with
  | ⟨0, _⟩ => exact Fin.ext (by show (n.val * 1024 + r.val) / 1024 = n.val; omega)
  | ⟨1, _⟩ => exact Fin.ext (by show (n.val * 1024 + r.val) / 128 % 8 = H.val; omega)
  | ⟨2, _⟩ => exact Fin.ext (by show (n.val * 1024 + r.val) / 64 % 2 = s.val; omega)
  | ⟨3, _⟩ => exact Fin.ext (by show (n.val * 1024 + r.val) / 32 % 2 = a.val; omega)
  | ⟨4, _⟩ => exact Fin.ext (by show (n.val * 1024 + r.val) % 32 = f.val; omega)

/-- The first half of a head of the result. -/
theorem ref_lo (n : Fin 16896) (H : Fin 8) (a : Fin 2) (f : Fin 32) (r : Fin 1024) (hr : r.val = 128 * H.val + (32 * a.val + f.val)) :
    val_main_v38 (F := Ideal) A W N C S (ix2 r n)
      = normed A W N n H (feat a 0 f) * (C (ix3 n a f) : EReal) - normed A W N n H (feat a 1 f) * (S (ix3 n a f) : EReal) := by
  rw [v38_apply A W N C S n H 0 a f r (by simpa using hr), v35_lo, v27_apply]

/-- The second half of a head of the result. -/
theorem ref_hi (n : Fin 16896) (H : Fin 8) (a : Fin 2) (f : Fin 32) (r : Fin 1024) (hr : r.val = 128 * H.val + (64 + 32 * a.val + f.val)) :
    val_main_v38 (F := Ideal) A W N C S (ix2 r n)
      = normed A W N n H (feat a 0 f) * (S (ix3 n a f) : EReal) + normed A W N n H (feat a 1 f) * (C (ix3 n a f) : EReal) := by
  rw [v38_apply A W N C S n H 1 a f r (by simpa using hr), v35_hi, v32_apply]

end Cert.ProjKRefIdeal.Hand
-- ==== Proof.Calls.ProjKBlock.lean ====
module

public import proofs.«01_k».proof.Defs
public import proofs.«01_k».proof.Proof.Gen.ProjKIdeal.Value
public import Idealize.ShloMosaic.Lib.Pipeline.ValueKit

/-! One block of the projection onto the keys of the global attention: the block's 512 features are four heads of 128; each head is brought to
unit mean square, weighted, and the first half of its features is turned against the second. -/

@[expose] public section

set_option maxRecDepth 16384

set_option maxHeartbeats 1000000

noncomputable section

namespace Cert.ProjKIdeal.Hand

open Idealize.ShloMosaic Idealize.ShloMosaic.TcCoe Idealize.ShloMosaic.Tactic Idealize.ShloMosaic.StableHlo Cert.ProjKIdeal.Gen
open Idealize.ShloMosaic.Pipeline Idealize.SL.Sem

theorem pay8_apply (x : FVec Ideal S512x4096 .bf16) (y : FVec Ideal S4096x768 .bf16) (a : Fin 512) (b : Fin 768) :
    k0_pay8 (F := Ideal) x y (ix2 a b) = ∑ k : Fin 4096, (x (ix2 a k) : EReal) * (y (ix2 k b) : EReal) := by
  pointwise [k0_pay8]

/-- The block's row at a feature of one of its four heads. -/
def hrow (r : Fin 4) (d : Fin 128) : Fin 512 := ⟨128 * r.val + d.val, by omega⟩

/-- A feature of the first half of a head. -/
def lo (u : Fin 64) : Fin 128 := ⟨u.val, by omega⟩

/-- A feature of the second half of a head. -/
def hi (u : Fin 64) : Fin 128 := ⟨64 + u.val, by omega⟩

/-- A head's feature brought to unit mean square and weighted, from a column `P` of the product and the weights `G`. -/
def hval (P G : Fin 512 → EReal) (r : Fin 4) (d : Fin 128) : EReal :=
  P (hrow r d) * Ideal.rsqrt ((∑ e : Fin 128, P (hrow r e) * P (hrow r e)) * Ideal.ofBits .f32 0x3C000000#32 + Ideal.ofBits .f32 0x358637BD#32) * G (hrow r d)

theorem hrow0 (d : Fin 128) (h : d.val < 512) : (⟨d.val, h⟩ : Fin 512) = hrow 0 d := Fin.ext (by simp [hrow])
theorem hrow1 (d : Fin 128) (h : 128 + d.val < 512) : (⟨128 + d.val, h⟩ : Fin 512) = hrow 1 d := Fin.ext (by simp [hrow])
theorem hrow2 (d : Fin 128) (h : 256 + d.val < 512) : (⟨256 + d.val, h⟩ : Fin 512) = hrow 2 d := Fin.ext (by simp [hrow])
theorem hrow3 (d : Fin 128) (h : 384 + d.val < 512) : (⟨384 + d.val, h⟩ : Fin 512) = hrow 3 d := Fin.ext (by simp [hrow])

theorem lo_eq (u : Fin 64) (h : u.val < 128) : (⟨u.val, h⟩ : Fin 128) = lo u := rfl
theorem hi_eq (u : Fin 64) (h : 64 + u.val < 128) : (⟨64 + u.val, h⟩ : Fin 128) = hi u := rfl

/-! ## The four heads -/

theorem pay11_apply (x : FVec Ideal S512x4096 .bf16) (y : FVec Ideal S4096x768 .bf16) (v : FVec Ideal S128x128 .f32) (G : Fin 512 → EReal)
    (hv : ∀ d l, v (ix2 d l) = G (hrow 0 d)) (d : Fin 128) (b : Fin 768) :
    k0_pay11 (F := Ideal) x y v (ix2 d b) = hval (fun a => k0_pay8 (F := Ideal) x y (ix2 a b)) G 0 d := by
  pointwise [k0_pay11]
  simp only [hv, dite_eq_ite, ite_self, hrow0]
  rfl

theorem pay16_apply (x : FVec Ideal S512x4096 .bf16) (y : FVec Ideal S4096x768 .bf16) (d : Fin 128) (b : Fin 768) :
    k0_pay16 (F := Ideal) x y (ix2 d b) = k0_pay8 (F := Ideal) x y (ix2 (hrow 1 d) b) := by
  unfold hrow
  pointwise [k0_pay16]

theorem pay17_apply (x : FVec Ideal S512x4096 .bf16) (y : FVec Ideal S4096x768 .bf16) (d : Fin 128) (b : Fin 768) :
    k0_pay17 (F := Ideal) x y (ix2 d b)
      = (k0_pay8 (F := Ideal) x y (ix2 (hrow 1 d) b) : EReal) * (k0_pay8 (F := Ideal) x y (ix2 (hrow 1 d) b) : EReal) := by
  rw [← pay16_apply]
  rfl

theorem pay18_apply (x : FVec Ideal S512x4096 .bf16) (y : FVec Ideal S4096x768 .bf16) (v : FVec Ideal S128x128 .f32) (G : Fin 512 → EReal)
    (hv : ∀ d l, v (ix2 d l) = G (hrow 1 d)) (d : Fin 128) (b : Fin 768) :
    k0_pay18 (F := Ideal) (k0_pay16 x y) (k0_pay17 x y) v (ix2 d b) = hval (fun a => k0_pay8 (F := Ideal) x y (ix2 a b)) G 1 d := by
  generalize ex : k0_pay16 (F := Ideal) x y = x16
  generalize ey : k0_pay17 (F := Ideal) x y = x17
  pointwise [k0_pay18]
  subst ex ey
  simp only [hv, dite_eq_ite, ite_self, pay16_apply, pay17_apply]
  rfl

theorem pay23_apply (x : FVec Ideal S512x768 .f32) (v : FVec Ideal S128x128 .f32) (G : Fin 512 → EReal)
    (hv : ∀ d l, v (ix2 d l) = G (hrow 2 d)) (d : Fin 128) (b : Fin 768) :
    k0_pay23 (F := Ideal) x v (ix2 d b) = hval (fun a => x (ix2 a b)) G 2 d := by
  pointwise [k0_pay23]
  simp only [hv, dite_eq_ite, ite_self, hrow2]
  rfl

theorem pay3_apply (x : FVec Ideal S512x768 .f32) (v : FVec Ideal S128x128 .f32) (G : Fin 512 → EReal)
    (hv : ∀ d l, v (ix2 d l) = G (hrow 3 d)) (d : Fin 128) (b : Fin 768) :
    k0_pay3 (F := Ideal) x v (ix2 d b) = hval (fun a => x (ix2 a b)) G 3 d := by
  pointwise [k0_pay3]
  simp only [hv, dite_eq_ite, ite_self, hrow3]
  rfl

/-! ## The halves turned against each other -/

/-- The first half of a turned head. -/
def turnLo (y : Fin 128 → EReal) (c s : EReal) (u : Fin 64) : EReal := y (lo u) * c - y (hi u) * s

/-- The second half of a turned head. -/
def turnHi (y : Fin 128 → EReal) (c s : EReal) (u : Fin 64) : EReal := y (lo u) * s + y (hi u) * c

variable (x : FVec Ideal S512x4096 .bf16) (y : FVec Ideal S4096x768 .bf16) (z : FVec Ideal S512x768 .f32)
  (C S : FVec Ideal S64x768 .f32) (v : FVec Ideal S128x128 .f32) (u : Fin 64) (b : Fin 768)

theorem pay14_apply : k0_pay14 (F := Ideal) x y C S v (ix2 u b)
    = turnLo (fun d => k0_pay11 (F := Ideal) x y v (ix2 d b)) (C (ix2 u b)) (S (ix2 u b)) u := by
  unfold turnLo lo hi
  pointwise [k0_pay14, k0_pay12, k0_pay13, k0_pay9, k0_pay10]
theorem pay15_apply : k0_pay15 (F := Ideal) x y C S v (ix2 u b)
    = turnHi (fun d => k0_pay11 (F := Ideal) x y v (ix2 d b)) (C (ix2 u b)) (S (ix2 u b)) u := by
  unfold turnHi lo hi
  pointwise [k0_pay15, k0_pay12, k0_pay13, k0_pay9, k0_pay10]
theorem pay21_apply (p q : FVec Ideal S128x768 .f32) : k0_pay21 (F := Ideal) (k0_pay9 C) (k0_pay10 S) p q v (ix2 u b)
    = turnLo (fun d => k0_pay18 (F := Ideal) p q v (ix2 d b)) (C (ix2 u b)) (S (ix2 u b)) u := by
  unfold turnLo lo hi
  pointwise [k0_pay21, k0_pay19, k0_pay20, k0_pay9, k0_pay10]
theorem pay22_apply (p q : FVec Ideal S128x768 .f32) : k0_pay22 (F := Ideal) (k0_pay9 C) (k0_pay10 S) p q v (ix2 u b)
    = turnHi (fun d => k0_pay18 (F := Ideal) p q v (ix2 d b)) (C (ix2 u b)) (S (ix2 u b)) u := by
  unfold turnHi lo hi
  pointwise [k0_pay22, k0_pay19, k0_pay20, k0_pay9, k0_pay10]
theorem pay1_apply : k0_pay1 (F := Ideal) (k0_pay26 z (k0_pay9 C) v) (k0_pay27 z (k0_pay10 S) v) (ix2 u b)
    = turnLo (fun d => k0_pay23 (F := Ideal) z v (ix2 d b)) (C (ix2 u b)) (S (ix2 u b)) u := by
  unfold turnLo lo hi
  pointwise [k0_pay1, k0_pay26, k0_pay27, k0_pay24, k0_pay25, k0_pay9, k0_pay10]
theorem pay2_apply : k0_pay2 (F := Ideal) (k0_pay9 C) (k0_pay10 S) (k0_pay24 z v) (k0_pay25 z v) (ix2 u b)
    = turnHi (fun d => k0_pay23 (F := Ideal) z v (ix2 d b)) (C (ix2 u b)) (S (ix2 u b)) u := by
  unfold turnHi lo hi
  pointwise [k0_pay2, k0_pay24, k0_pay25, k0_pay9, k0_pay10]
theorem pay6_apply : k0_pay6 (F := Ideal) z (k0_pay9 C) (k0_pay10 S) v (ix2 u b)
    = turnLo (fun d => k0_pay3 (F := Ideal) z v (ix2 d b)) (C (ix2 u b)) (S (ix2 u b)) u := by
  unfold turnLo lo hi
  pointwise [k0_pay6, k0_pay4, k0_pay5, k0_pay9, k0_pay10]
theorem pay7_apply : k0_pay7 (F := Ideal) z (k0_pay9 C) (k0_pay10 S) v (ix2 u b)
    = turnHi (fun d => k0_pay3 (F := Ideal) z v (ix2 d b)) (C (ix2 u b)) (S (ix2 u b)) u := by
  unfold turnHi lo hi
  pointwise [k0_pay7, k0_pay4, k0_pay5, k0_pay9, k0_pay10]

/-! ## The whole block -/

/-- The load of four heads' weights at a head. -/
theorem ld3_apply (X : FVec Ideal S512x128 .f32) (d l : Fin 128) :
    View.ld (Val := Elt Ideal) (e' := .f32) X r0_3 (ix2 d l : S128x128.Idx) = X (ix2 (hrow 0 d) l) :=
  View.ld_unit_apply_of (Val := Elt Ideal) (e := .f32) (S := S512x128) X ![0, 0] S128x128.size inb_S512x128_S128x128_0_0 (ix2 d l : S128x128.Idx)
    (ix2 (hrow 0 d) l) fun a => match a with | ⟨0, _⟩ => rfl | ⟨1, _⟩ => (Nat.zero_add _).symm
theorem ld6_apply (X : FVec Ideal S512x128 .f32) (d l : Fin 128) :
    View.ld (Val := Elt Ideal) (e' := .f32) X r0_6 (ix2 d l : S128x128.Idx) = X (ix2 (hrow 1 d) l) :=
  View.ld_unit_apply_of (Val := Elt Ideal) (e := .f32) (S := S512x128) X ![128, 0] S128x128.size inb_S512x128_S128x128_128_0 (ix2 d l : S128x128.Idx)
    (ix2 (hrow 1 d) l) fun a => match a with | ⟨0, _⟩ => rfl | ⟨1, _⟩ => (Nat.zero_add _).symm
theorem ld9_apply (X : FVec Ideal S512x128 .f32) (d l : Fin 128) :
    View.ld (Val := Elt Ideal) (e' := .f32) X r0_9 (ix2 d l : S128x128.Idx) = X (ix2 (hrow 2 d) l) :=
  View.ld_unit_apply_of (Val := Elt Ideal) (e := .f32) (S := S512x128) X ![256, 0] S128x128.size inb_S512x128_S128x128_256_0 (ix2 d l : S128x128.Idx)
    (ix2 (hrow 2 d) l) fun a => match a with | ⟨0, _⟩ => rfl | ⟨1, _⟩ => (Nat.zero_add _).symm
theorem ld12_apply (X : FVec Ideal S512x128 .f32) (d l : Fin 128) :
    View.ld (Val := Elt Ideal) (e' := .f32) X r0_12 (ix2 d l : S128x128.Idx) = X (ix2 (hrow 3 d) l) :=
  View.ld_unit_apply_of (Val := Elt Ideal) (e := .f32) (S := S512x128) X ![384, 0] S128x128.size inb_S512x128_S128x128_384_0 (ix2 d l : S128x128.Idx)
    (ix2 (hrow 3 d) l) fun a => match a with | ⟨0, _⟩ => rfl | ⟨1, _⟩ => (Nat.zero_add _).symm

theorem ld0_eq (X : FVec Ideal S512x4096 .bf16) : View.ld (Val := Elt Ideal) (e' := .bf16) X r0_0 = X :=
  funext fun i => View.ld_unit_apply_of (Val := Elt Ideal) (e := .bf16) (S := S512x4096) X ![0, 0] S512x4096.size inb_S512x4096_S512x4096_0_0 i i
    fun a => match a with | ⟨0, _⟩ => (Nat.zero_add _).symm | ⟨1, _⟩ => (Nat.zero_add _).symm
theorem ld1_eq (X : FVec Ideal S4096x768 .bf16) : View.ld (Val := Elt Ideal) (e' := .bf16) X r0_1 = X :=
  funext fun i => View.ld_unit_apply_of (Val := Elt Ideal) (e := .bf16) (S := S4096x768) X ![0, 0] S4096x768.size inb_S4096x768_S4096x768_0_0 i i
    fun a => match a with | ⟨0, _⟩ => (Nat.zero_add _).symm | ⟨1, _⟩ => (Nat.zero_add _).symm
theorem ld2_eq (X : FVec Ideal S64x768 .f32) : View.ld (Val := Elt Ideal) (e' := .f32) X r0_2 = X :=
  funext fun i => View.ld_unit_apply_of (Val := Elt Ideal) (e := .f32) (S := S64x768) X ![0, 0] S64x768.size inb_S64x768_S64x768_0_0 i i
    fun a => match a with | ⟨0, _⟩ => (Nat.zero_add _).symm | ⟨1, _⟩ => (Nat.zero_add _).symm

/-- The block at an index is any value that the head and half holding the index gives it. -/
theorem block_apply (x0 : FVec Ideal S512x4096 .bf16) (x1 : FVec Ideal S4096x768 .bf16) (x2 : FVec Ideal S512x128 .f32) (x3 x4 : FVec Ideal S64x768 .f32)
    (G : Fin 512 → EReal) (hG : ∀ a l, x2 (ix2 a l) = G a) (a : Fin 512) (b : Fin 768) (w : EReal)
    (Hlo : ∀ r u, a = hrow r (lo u) → turnLo (hval (fun a => k0_pay8 (F := Ideal) x0 x1 (ix2 a b)) G r) (x3 (ix2 u b)) (x4 (ix2 u b)) u = w)
    (Hhi : ∀ r u, a = hrow r (hi u) → turnHi (hval (fun a => k0_pay8 (F := Ideal) x0 x1 (ix2 a b)) G r) (x3 (ix2 u b)) (x4 (ix2 u b)) u = w) :
    out0_5 (F := Ideal) x0 x1 x2 x3 x4 (ix2 a b) = w := by
  unfold out0_5 k0_pay32 k0_pay31 k0_pay30 k0_pay29 k0_pay28
  rw [ld0_eq, ld1_eq, ld2_eq, ld2_eq]
  refine View.canon_eq_of_allAt _ _ _ (cover0_5 (F := Ideal) _ _ _ _ _ _ _ _ _) ?_
  refine View.allAt_cons_unit _ _ _ _ _ ?_ ?_
  · intro x hx
    obtain ⟨u, b', rfl⟩ : ∃ (u : Fin 64) (b' : Fin 768), x = ix2 u b' := ⟨x 0, x 1, eq_ix2 x⟩
    have h0 : a.val = 448 + u.val := hx 0
    obtain rfl : b = b' := Fin.ext ((hx 1).trans (Nat.zero_add _))
    refine (pay7_apply _ _ _ _ _ _).trans ?_
    rw [show (fun d => _) = hval (fun a => k0_pay8 (F := Ideal) x0 x1 (ix2 a b)) G 3 from funext fun d => pay3_apply _ _ G (fun d l => (ld12_apply x2 d l).trans (hG _ _)) d b]
    exact Hhi 3 u (Fin.ext (h0.trans (by simp [hrow, hi]; try omega)))
  refine View.allAt_cons_unit _ _ _ _ _ ?_ ?_
  · intro x hx
    obtain ⟨u, b', rfl⟩ : ∃ (u : Fin 64) (b' : Fin 768), x = ix2 u b' := ⟨x 0, x 1, eq_ix2 x⟩
    have h0 : a.val = 384 + u.val := hx 0
    obtain rfl : b = b' := Fin.ext ((hx 1).trans (Nat.zero_add _))
    refine (pay6_apply _ _ _ _ _ _).trans ?_
    rw [show (fun d => _) = hval (fun a => k0_pay8 (F := Ideal) x0 x1 (ix2 a b)) G 3 from funext fun d => pay3_apply _ _ G (fun d l => (ld12_apply x2 d l).trans (hG _ _)) d b]
    exact Hlo 3 u (Fin.ext (h0.trans (by simp [hrow, lo]; try omega)))
  refine View.allAt_cons_unit _ _ _ _ _ ?_ ?_
  · intro x hx
    obtain ⟨u, b', rfl⟩ : ∃ (u : Fin 64) (b' : Fin 768), x = ix2 u b' := ⟨x 0, x 1, eq_ix2 x⟩
    have h0 : a.val = 320 + u.val := hx 0
    obtain rfl : b = b' := Fin.ext ((hx 1).trans (Nat.zero_add _))
    refine (pay2_apply _ _ _ _ _ _).trans ?_
    rw [show (fun d => _) = hval (fun a => k0_pay8 (F := Ideal) x0 x1 (ix2 a b)) G 2 from funext fun d => pay23_apply _ _ G (fun d l => (ld9_apply x2 d l).trans (hG _ _)) d b]
    exact Hhi 2 u (Fin.ext (h0.trans (by simp [hrow, hi]; try omega)))
  refine View.allAt_cons_unit _ _ _ _ _ ?_ ?_
  · intro x hx
    obtain ⟨u, b', rfl⟩ : ∃ (u : Fin 64) (b' : Fin 768), x = ix2 u b' := ⟨x 0, x 1, eq_ix2 x⟩
    have h0 : a.val = 256 + u.val := hx 0
    obtain rfl : b = b' := Fin.ext ((hx 1).trans (Nat.zero_add _))
    refine (pay1_apply _ _ _ _ _ _).trans ?_
    rw [show (fun d => _) = hval (fun a => k0_pay8 (F := Ideal) x0 x1 (ix2 a b)) G 2 from funext fun d => pay23_apply _ _ G (fun d l => (ld9_apply x2 d l).trans (hG _ _)) d b]
    exact Hlo 2 u (Fin.ext (h0.trans (by simp [hrow, lo]; try omega)))
  refine View.allAt_cons_unit _ _ _ _ _ ?_ ?_
  · intro x hx
    obtain ⟨u, b', rfl⟩ : ∃ (u : Fin 64) (b' : Fin 768), x = ix2 u b' := ⟨x 0, x 1, eq_ix2 x⟩
    have h0 : a.val = 192 + u.val := hx 0
    obtain rfl : b = b' := Fin.ext ((hx 1).trans (Nat.zero_add _))
    refine (pay22_apply _ _ _ _ _ _ _).trans ?_
    rw [show (fun d => _) = hval (fun a => k0_pay8 (F := Ideal) x0 x1 (ix2 a b)) G 1 from funext fun d => pay18_apply x0 x1 _ G (fun d l => (ld6_apply x2 d l).trans (hG _ _)) d b]
    exact Hhi 1 u (Fin.ext (h0.trans (by simp [hrow, hi]; try omega)))
  refine View.allAt_cons_unit _ _ _ _ _ ?_ ?_
  · intro x hx
    obtain ⟨u, b', rfl⟩ : ∃ (u : Fin 64) (b' : Fin 768), x = ix2 u b' := ⟨x 0, x 1, eq_ix2 x⟩
    have h0 : a.val = 128 + u.val := hx 0
    obtain rfl : b = b' := Fin.ext ((hx 1).trans (Nat.zero_add _))
    refine (pay21_apply _ _ _ _ _ _ _).trans ?_
    rw [show (fun d => _) = hval (fun a => k0_pay8 (F := Ideal) x0 x1 (ix2 a b)) G 1 from funext fun d => pay18_apply x0 x1 _ G (fun d l => (ld6_apply x2 d l).trans (hG _ _)) d b]
    exact Hlo 1 u (Fin.ext (h0.trans (by simp [hrow, lo]; try omega)))
  refine View.allAt_cons_unit _ _ _ _ _ ?_ ?_
  · intro x hx
    obtain ⟨u, b', rfl⟩ : ∃ (u : Fin 64) (b' : Fin 768), x = ix2 u b' := ⟨x 0, x 1, eq_ix2 x⟩
    have h0 : a.val = 64 + u.val := hx 0
    obtain rfl : b = b' := Fin.ext ((hx 1).trans (Nat.zero_add _))
    refine (pay15_apply _ _ _ _ _ _ _).trans ?_
    rw [show (fun d => _) = hval (fun a => k0_pay8 (F := Ideal) x0 x1 (ix2 a b)) G 0 from funext fun d => pay11_apply x0 x1 _ G (fun d l => (ld3_apply x2 d l).trans (hG _ _)) d b]
    exact Hhi 0 u (Fin.ext (h0.trans (by simp [hrow, hi]; try omega)))
  refine View.allAt_cons_unit _ _ _ _ _ ?_ ?_
  · intro x hx
    obtain ⟨u, b', rfl⟩ : ∃ (u : Fin 64) (b' : Fin 768), x = ix2 u b' := ⟨x 0, x 1, eq_ix2 x⟩
    have h0 : a.val = 0 + u.val := hx 0
    obtain rfl : b = b' := Fin.ext ((hx 1).trans (Nat.zero_add _))
    refine (pay14_apply _ _ _ _ _ _ _).trans ?_
    rw [show (fun d => _) = hval (fun a => k0_pay8 (F := Ideal) x0 x1 (ix2 a b)) G 0 from funext fun d => pay11_apply x0 x1 _ G (fun d l => (ld3_apply x2 d l).trans (hG _ _)) d b]
    exact Hlo 0 u (Fin.ext (h0.trans (by simp [hrow, lo]; try omega)))
  exact View.allAt_nil _ _

end Cert.ProjKIdeal.Hand
-- ==== Proof.Calls.ProjKHost.lean ====
module

public import proofs.«01_k».proof.Defs
public import proofs.«01_k».proof.Proof.Gen.ProjKIdeal.Value
public import proofs.«01_k».proof.Proof.Calls.ProjKRef
public import Idealize.ShloMosaic.Lib.Pipeline.ValueKit
public import Idealize.ShloMosaic.Lib.Pipeline.Covers

/-! The arrays the projection onto the keys of the global attention reads: the weight's columns and the norm's weights with the features of each
head put in the order (half, axis, frequency), and the cosines and sines with the tokens last. -/

@[expose] public section

set_option maxRecDepth 16384

set_option maxHeartbeats 1000000

noncomputable section

namespace Cert.ProjKIdeal.Hand

open Idealize.ShloMosaic Idealize.ShloMosaic.TcCoe Idealize.ShloMosaic.Tactic Idealize.ShloMosaic.StableHlo Cert.ProjKIdeal.Gen
open Idealize.ShloMosaic.Pipeline Idealize.SL.Sem
open Cert.ProjKRefIdeal.Hand (qcol qrow)

variable (m : (ℓ : Loc nD τ sig) → Buf (Elt Ideal) ℓ)

/-- The hidden states, as the program is given them. -/
def argH (c : Dev nD) : FVec Ideal S16896x4096 .f32 := m ((c.tc : Thread nD τ).loc main_arg0)
/-- The weight, as the program is given it. -/
def argW (c : Dev nD) : FVec Ideal S4096x6144 .f32 := m ((c.tc : Thread nD τ).loc main_arg1)
/-- The norm's weights, as the program is given them. -/
def argN (c : Dev nD) : FVec Ideal S128 .f32 := m ((c.tc : Thread nD τ).loc main_arg2)
/-- The cosines, as the program is given them. -/
def argC (c : Dev nD) : FVec Ideal S16896x2x32 .f32 := m ((c.tc : Thread nD τ).loc main_arg3)
/-- The sines, as the program is given them. -/
def argS (c : Dev nD) : FVec Ideal S16896x2x32 .f32 := m ((c.tc : Thread nD τ).loc main_arg4)

/-- The table of the features' order, as the program computes it. -/
def table : IVec S128x1 32 :=
  broadcastInDim S128x1 ![0] bcast_S128_S128x1_0 (select (constantI S128 1 0#1)
    (addi (fun i => lit0 (S128.rowMajor i)) (broadcastInDim S128 ![] bcast_S_S128 (constantI S_ 32 128#32)))
    (fun i => lit0 (S128.rowMajor i)))

/-- The transposed weight, a head's features in the table's order. -/
def warr (W : FVec Ideal S4096x6144 .f32) : FVec Ideal S1024x4096 .f32 :=
  shapeCast S1024x4096 (Host.gather gather_S8x128x4096_S128x1_S8x128x4096_02_1_n_n_1_1_814096
    (shapeCast S8x128x4096 (transpose S1024x4096 [1, 0] (extractStridedSlice S4096x1024 ![0, 4096] W slices_S4096x6144_S4096x1024_0_4096)
      transposes_S4096x1024_S1024x4096_1_0) shapeCasts_S1024x4096_S8x128x4096) table) shapeCasts_S8x128x4096_S1024x4096

/-- The norm's weights in the table's order, once for each head. -/
def narr (N : FVec Ideal S128 .f32) : FVec Ideal S1024 .f32 :=
  shapeCast S1024 (broadcastInDim S8x128 ![0, 1] bcast_S1x128_S8x128_0_1
    (shapeCast S1x128 (Host.gather gather_S128_S128x1_S128_n_0_n_n_0_1_1 N table) shapeCasts_S128_S1x128)) shapeCasts_S8x128_S1024

theorem V_w (c : Dev nD) : V m c main_v11 = truncf .bf16 (warr (argW m c)) bitsLt_bf16_f32 := by
  unfold_abbrev_sides
  simp only [hostOps0]
  after_results_simp
  rfl
theorem V_h (c : Dev nD) : V m c main_v2 = truncf .bf16 (transpose S4096x16896 [1, 0] (argH m c) transposes_S16896x4096_S4096x16896_1_0) bitsLt_bf16_f32 := by
  unfold_abbrev_sides
  simp only [hostOps0]
  after_results_simp
  rfl
theorem V_n (c : Dev nD) : V m c main_v25 = broadcastInDim S1024x128 ![0, 1] bcast_S1024x1_S1024x128_0_1
    (broadcastInDim S1024x1 ![0] bcast_S1024_S1024x1_0 (narr (argN m c))) := by
  unfold_abbrev_sides
  simp only [hostOps0]
  after_results_simp
  rfl
theorem V_c (c : Dev nD) : V m c main_v13 = transpose S64x16896 [1, 0] (shapeCast S16896x64 (argC m c) shapeCasts_S16896x2x32_S16896x64) transposes_S16896x64_S64x16896_1_0 := by
  unfold_abbrev_sides
  simp only [hostOps0]
  after_results_simp
  rfl
theorem V_s (c : Dev nD) : V m c main_v15 = transpose S64x16896 [1, 0] (shapeCast S16896x64 (argS m c) shapeCasts_S16896x2x32_S16896x64) transposes_S16896x64_S64x16896_1_0 := by
  unfold_abbrev_sides
  simp only [hostOps0]
  after_results_simp
  rfl

/-! ## The table -/

/-- The plain feature a head's feature in the order (half, axis, frequency) comes from. -/
def src (d : Fin 128) : Fin 128 := ⟨64 * (d.val % 64 / 32) + 32 * (d.val / 64) + d.val % 32, by omega⟩

theorem table_apply (q : Fin 128) : table (ix2 q (0 : Fin 1)) = lit0 q := by
  have e : S128.rowMajor (ix1 q) = q := Fin.ext (Shape.rowMajor_val_one _)
  unfold table
  rw [broadcastInDim_apply _ bcast_S128_S128x1_0 _ (ix2 q (0 : Fin 1)) (ix1 q) (fun a => match a with | ⟨0, _⟩ => rfl)]
  change lit0 (S128.rowMajor (ix1 q)) = _
  rw [e]

theorem lit0_src : ∀ q : Fin 128, min (lit0 q).toInt.toNat 127 = (src q).val := by decide +kernel

theorem gather_w (x : FVec Ideal S8x128x4096 .f32) (p : Fin 8) (q : Fin 128) (k : Fin 4096) :
    Host.gather gather_S8x128x4096_S128x1_S8x128x4096_02_1_n_n_1_1_814096 x table (ix3 p q k) = x (ix3 p (src q) k) := by
  unfold Host.gather
  congr 1
  funext a
  refine Fin.ext ?_
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · show GatherDims.start _ _ _ _ + GatherDims.batchCoord _ _ _ + GatherDims.offCoord _ _ _ = p.val
    rw [GatherDims.batchCoord_eq_zero _ _ _ List.not_mem_nil]
    unfold GatherDims.start GatherDims.offCoord
    rw [dif_neg (show (0 : Fin 3) ∉ gather_S8x128x4096_S128x1_S8x128x4096_02_1_n_n_1_1_814096.startIndexMap from (show (0 : Fin 3) ∉ ([1] : List (Fin 3)) by decide)),
      dif_pos ((GatherDims.mem_sKept _ _).mpr ⟨(show (0 : Fin 3) ∉ ([1] : List (Fin 3)) by decide), List.not_mem_nil⟩)]
    exact (Nat.zero_add _)
  · show GatherDims.start _ _ _ _ + GatherDims.batchCoord _ _ _ + GatherDims.offCoord _ _ _ = (src q).val
    rw [GatherDims.batchCoord_eq_zero _ _ _ List.not_mem_nil,
      GatherDims.offCoord_eq_zero _ _ _ (fun h => ((GatherDims.mem_sKept _ _).mp h).1 (List.mem_singleton.mpr rfl)), ← lit0_src, ← table_apply]
    unfold GatherDims.start
    rw [dif_pos (show (1 : Fin 3) ∈ gather_S8x128x4096_S128x1_S8x128x4096_02_1_n_n_1_1_814096.startIndexMap from List.mem_singleton.mpr rfl)]
    show min (table _).toInt.toNat 127 = _
    congr 4
    funext b; refine Fin.ext ?_
    match b with
    | ⟨0, _⟩ => rfl
    | ⟨1, _⟩ => rfl
  · show GatherDims.start _ _ _ _ + GatherDims.batchCoord _ _ _ + GatherDims.offCoord _ _ _ = k.val
    rw [GatherDims.batchCoord_eq_zero _ _ _ List.not_mem_nil]
    unfold GatherDims.start GatherDims.offCoord
    rw [dif_neg (show (2 : Fin 3) ∉ gather_S8x128x4096_S128x1_S8x128x4096_02_1_n_n_1_1_814096.startIndexMap from (show (2 : Fin 3) ∉ ([1] : List (Fin 3)) by decide)),
      dif_pos ((GatherDims.mem_sKept _ _).mpr ⟨(show (2 : Fin 3) ∉ ([1] : List (Fin 3)) by decide), List.not_mem_nil⟩)]
    exact (Nat.zero_add _)

theorem gather_n (x : FVec Ideal S128 .f32) (q : Fin 128) :
    Host.gather gather_S128_S128x1_S128_n_0_n_n_0_1_1 x table (ix1 q) = x (ix1 (src q)) := by
  unfold Host.gather
  congr 1
  funext a
  obtain rfl : a = 0 := Subsingleton.elim _ _
  refine Fin.ext ?_
  · show GatherDims.start _ _ _ _ + GatherDims.batchCoord _ _ _ + GatherDims.offCoord _ _ _ = (src q).val
    rw [GatherDims.batchCoord_eq_zero _ _ _ List.not_mem_nil,
      GatherDims.offCoord_eq_zero _ _ _ (fun h => ((GatherDims.mem_sKept _ _).mp h).1 (List.mem_singleton.mpr rfl)), ← lit0_src, ← table_apply]
    unfold GatherDims.start
    rw [dif_pos (show (0 : Fin 1) ∈ gather_S128_S128x1_S128_n_0_n_n_0_1_1.startIndexMap from List.mem_singleton.mpr rfl)]
    show min (table _).toInt.toNat 127 = _
    congr 4
    funext b; refine Fin.ext ?_
    match b with
    | ⟨0, _⟩ => rfl
    | ⟨1, _⟩ => rfl

/-! ## The arrays at an index -/

theorem w_apply (W : FVec Ideal S4096x6144 .f32) (H : Fin 8) (d : Fin 128) (k : Fin 4096) :
    truncf .bf16 (warr W) bitsLt_bf16_f32 (ix2 (qrow H d) k) = W (ix2 k (qcol H (src d))) := by
  change warr W (ix2 (qrow H d) k) = _
  unfold warr
  rw [shapeCast_apply _ shapeCasts_S8x128x4096_S1024x4096 (ix2 (qrow H d) k) (ix3 H d k)
      (by rewrite [Shape.rowMajor_val_two, Shape.rowMajor_val_three]; show (H.val * 128 + d.val) * 4096 + k.val = (128 * H.val + d.val) * 4096 + k.val; omega),
    gather_w, shapeCast_apply _ shapeCasts_S1024x4096_S8x128x4096 (ix3 H (src d) k) (ix2 (qrow H (src d)) k)
      (by rewrite [Shape.rowMajor_val_two, Shape.rowMajor_val_three]; show (128 * H.val + (src d).val) * 4096 + k.val = (H.val * 128 + (src d).val) * 4096 + k.val; omega)]
  generalize src d = d'
  unfold qrow qcol
  pointwise []

theorem h_apply (A : FVec Ideal S16896x4096 .f32) (k : Fin 4096) (n : Fin 16896) :
    (truncf .bf16 (transpose S4096x16896 [1, 0] A transposes_S16896x4096_S4096x16896_1_0) bitsLt_bf16_f32) (ix2 k n) = A (ix2 n k) := by
  pointwise []

theorem n_apply (N : FVec Ideal S128 .f32) (H : Fin 8) (d : Fin 128) (l : Fin 128) :
    (broadcastInDim S1024x128 ![0, 1] bcast_S1024x1_S1024x128_0_1 (broadcastInDim S1024x1 ![0] bcast_S1024_S1024x1_0 (narr N))) (ix2 (qrow H d) l)
      = N (ix1 (src d)) := by
  rw [broadcastInDim_apply _ bcast_S1024x1_S1024x128_0_1 _ (ix2 (qrow H d) l) (ix2 (qrow H d) (0 : Fin 1)) (fun a => match a with | ⟨0, _⟩ => rfl | ⟨1, _⟩ => rfl),
    broadcastInDim_apply _ bcast_S1024_S1024x1_0 _ (ix2 (qrow H d) (0 : Fin 1)) (ix1 (qrow H d)) (fun a => match a with | ⟨0, _⟩ => rfl)]
  unfold narr
  rw [shapeCast_apply _ shapeCasts_S8x128_S1024 (ix1 (qrow H d)) (ix2 H d)
      (by rewrite [Shape.rowMajor_val_two, Shape.rowMajor_val_one]; show H.val * 128 + d.val = 128 * H.val + d.val; omega),
    broadcastInDim_apply _ bcast_S1x128_S8x128_0_1 _ (ix2 H d) (ix2 (0 : Fin 1) d) (fun a => match a with | ⟨0, _⟩ => rfl | ⟨1, _⟩ => rfl),
    shapeCast_apply _ shapeCasts_S128_S1x128 (ix2 (0 : Fin 1) d) (ix1 d)
      (by rewrite [Shape.rowMajor_val_two, Shape.rowMajor_val_one]; show d.val = 0 * 128 + d.val; omega), gather_n]

/-- The axis of a feature of a half. -/
def axis (u : Fin 64) : Fin 2 := ⟨u.val / 32, by omega⟩
/-- The frequency of a feature of a half. -/
def freq (u : Fin 64) : Fin 32 := ⟨u.val % 32, by omega⟩

theorem angle_apply (C : FVec Ideal S16896x2x32 .f32) (u : Fin 64) (n : Fin 16896) :
    (transpose S64x16896 [1, 0] (shapeCast S16896x64 C shapeCasts_S16896x2x32_S16896x64) transposes_S16896x64_S64x16896_1_0) (ix2 u n)
      = C (ix3 n (axis u) (freq u)) := by
  rw [← shapeCast_apply C shapeCasts_S16896x2x32_S16896x64 (ix2 n u) (ix3 n (axis u) (freq u))
      (by rewrite [Shape.rowMajor_val_two, Shape.rowMajor_val_three]; show (n.val * 2 + u.val / 32) * 32 + u.val % 32 = n.val * 64 + u.val; omega)]
  generalize shapeCast S16896x64 C shapeCasts_S16896x2x32_S16896x64 = y
  pointwise []

end Cert.ProjKIdeal.Hand
-- ==== Proof.Calls.ProjK.lean ====
module

public import proofs.«01_k».proof.Defs
public import proofs.«01_k».proof.Proof.Gen.ProjKIdeal.Value
public import proofs.«01_k».proof.Proof.Calls.ProjKRef
public import proofs.«01_k».proof.Proof.Calls.ProjKBlock
public import proofs.«01_k».proof.Proof.Calls.ProjKHost
public import Idealize.ShloMosaic.Lib.Pipeline.ValueKit
public import Idealize.ShloMosaic.Lib.Pipeline.Covers

/-! The projection of the hidden states onto the keys of the global attention: point `(i, j)` of the grid makes four
heads for 768 tokens, and the blocks together are those of the mathematics, the features of each head in the order
(half, axis, frequency) and the tokens last. A head's mean square does not depend on the order of its features. -/

@[expose] public section

set_option maxRecDepth 16384

set_option maxHeartbeats 1000000

noncomputable section

namespace Cert.ProjKIdeal.Hand

open Idealize.ShloMosaic Idealize.ShloMosaic.TcCoe Idealize.ShloMosaic.Tactic Idealize.ShloMosaic.StableHlo Cert.ProjKIdeal.Gen
open Idealize.ShloMosaic.Pipeline Idealize.SL.Sem
open Cert.ProjKRefIdeal.Hand (qcol qrow query normed feat ref_lo ref_hi)

variable (m : (ℓ : Loc nD τ sig) → Buf (Elt Ideal) ℓ)

/-- The block of tokens of a grid point. -/
def cb (t : Fin cfg0.N) : Fin 22 := grid0.coords t 0

/-- The block of features of a grid point. -/
def rb (t : Fin cfg0.N) : Fin 2 := grid0.coords t 1

/-- The result's row at a row of a point's block. -/
def row (t : Fin cfg0.N) (a : Fin 512) : Fin 1024 := ⟨512 * (rb t).val + a.val, by have := (rb t).isLt; omega⟩

/-- The result's column at a column of a point's block. -/
def col (t : Fin cfg0.N) (b : Fin 768) : Fin 16896 := ⟨768 * (cb t).val + b.val, by have := (cb t).isLt; omega⟩

/-- The head that is a block's `r`-th. -/
def headOf (t : Fin cfg0.N) (r : Fin 4) : Fin 8 := ⟨4 * (rb t).val + r.val, by have := (rb t).isLt; omega⟩

theorem row_hrow (t : Fin cfg0.N) (r : Fin 4) (d : Fin 128) : row t (hrow r d) = qrow (headOf t r) d :=
  Fin.ext (by show 512 * (rb t).val + (128 * r.val + d.val) = 128 * (4 * (rb t).val + r.val) + d.val; omega)

/-! ## The blocks a grid point reads -/

theorem index_w : ∀ t : Fin cfg0.N, win0_0.index t = ![(rb t).val, 0] := (by decide +kernel : ∀ t : Fin grid0.N, _)
theorem index_h : ∀ t : Fin cfg0.N, win0_1.index t = ![0, (cb t).val] := (by decide +kernel : ∀ t : Fin grid0.N, _)
theorem index_n : ∀ t : Fin cfg0.N, win0_2.index t = ![(rb t).val, 0] := (by decide +kernel : ∀ t : Fin grid0.N, _)
theorem index_c : ∀ t : Fin cfg0.N, win0_3.index t = ![0, (cb t).val] := (by decide +kernel : ∀ t : Fin grid0.N, _)
theorem index_s : ∀ t : Fin cfg0.N, win0_4.index t = ![0, (cb t).val] := (by decide +kernel : ∀ t : Fin grid0.N, _)
theorem index_out : ∀ t : Fin cfg0.N, win0_5.index t = ![(rb t).val, (cb t).val] := (by decide +kernel : ∀ t : Fin grid0.N, _)

theorem place_w (t : Fin cfg0.N) (a : Fin 512) (k : Fin 4096) :
    ((cfg0.win 0).blk t).view.emb (ix2 a k) = (ix2 (row t a) k : S1024x4096.Idx) := by
  unfold row
  blk_ext [index_w t]
theorem place_h (t : Fin cfg0.N) (k : Fin 4096) (b : Fin 768) :
    ((cfg0.win 1).blk t).view.emb (ix2 k b) = (ix2 k (col t b) : S4096x16896.Idx) := by
  unfold col
  blk_ext [index_h t]
theorem place_n (t : Fin cfg0.N) (a : Fin 512) (l : Fin 128) :
    ((cfg0.win 2).blk t).view.emb (ix2 a l) = (ix2 (row t a) l : S1024x128.Idx) := by
  unfold row
  blk_ext [index_n t]
theorem place_c (t : Fin cfg0.N) (u : Fin 64) (b : Fin 768) :
    ((cfg0.win 3).blk t).view.emb (ix2 u b) = (ix2 u (col t b) : S64x16896.Idx) := by
  unfold col
  blk_ext [index_c t]
theorem place_s (t : Fin cfg0.N) (u : Fin 64) (b : Fin 768) :
    ((cfg0.win 4).blk t).view.emb (ix2 u b) = (ix2 u (col t b) : S64x16896.Idx) := by
  unfold col
  blk_ext [index_s t]
theorem place_out (t : Fin cfg0.N) (a : Fin 512) (b : Fin 768) :
    ((cfg0.win 5).blk t).view.emb (ix2 a b) = (ix2 (row t a) (col t b) : S1024x16896.Idx) := by
  unfold row col
  blk_ext [index_out t]

theorem read_w (A : FVec Ideal S1024x4096 .bf16) (t : Fin cfg0.N) (a : Fin 512) (k : Fin 4096) :
    ((cfg0.win 0).blk t).view.read (Elt Ideal) A (ix2 a k) = A (ix2 (row t a) k) := by
  change A (((cfg0.win 0).blk t).view.emb _) = _
  rw [place_w]
theorem read_h (A : FVec Ideal S4096x16896 .bf16) (t : Fin cfg0.N) (k : Fin 4096) (b : Fin 768) :
    ((cfg0.win 1).blk t).view.read (Elt Ideal) A (ix2 k b) = A (ix2 k (col t b)) := by
  change A (((cfg0.win 1).blk t).view.emb _) = _
  rw [place_h]
theorem read_n (A : FVec Ideal S1024x128 .f32) (t : Fin cfg0.N) (a : Fin 512) (l : Fin 128) :
    ((cfg0.win 2).blk t).view.read (Elt Ideal) A (ix2 a l) = A (ix2 (row t a) l) := by
  change A (((cfg0.win 2).blk t).view.emb _) = _
  rw [place_n]
theorem read_c (A : FVec Ideal S64x16896 .f32) (t : Fin cfg0.N) (u : Fin 64) (b : Fin 768) :
    ((cfg0.win 3).blk t).view.read (Elt Ideal) A (ix2 u b) = A (ix2 u (col t b)) := by
  change A (((cfg0.win 3).blk t).view.emb _) = _
  rw [place_c]
theorem read_s (A : FVec Ideal S64x16896 .f32) (t : Fin cfg0.N) (u : Fin 64) (b : Fin 768) :
    ((cfg0.win 4).blk t).view.read (Elt Ideal) A (ix2 u b) = A (ix2 u (col t b)) := by
  change A (((cfg0.win 4).blk t).view.emb _) = _
  rw [place_s]

theorem iblk_w (c : Dev nD) (t : Fin cfg0.N) (r : Fin 4) (d : Fin 128) (k : Fin 4096) :
    (iblk m c 0 t : FVec Ideal S512x4096 .bf16) (ix2 (hrow r d) k) = argW m c (ix2 k (qcol (headOf t r) (src d))) := by
  unfold iblk
  change ((cfg0.win 0).blk t).view.read (Elt Ideal) (V m c main_v11) _ = _
  rw [V_w, read_w, row_hrow, w_apply]
theorem iblk_h (c : Dev nD) (t : Fin cfg0.N) (k : Fin 4096) (b : Fin 768) :
    (iblk m c 1 t : FVec Ideal S4096x768 .bf16) (ix2 k b) = argH m c (ix2 (col t b) k) := by
  unfold iblk
  change ((cfg0.win 1).blk t).view.read (Elt Ideal) (V m c main_v2) _ = _
  rw [V_h, read_h, h_apply]
theorem iblk_n (c : Dev nD) (t : Fin cfg0.N) (r : Fin 4) (d : Fin 128) (l : Fin 128) :
    (iblk m c 2 t : FVec Ideal S512x128 .f32) (ix2 (hrow r d) l) = argN m c (ix1 (src d)) := by
  unfold iblk
  change ((cfg0.win 2).blk t).view.read (Elt Ideal) (V m c main_v25) _ = _
  rw [V_n, read_n, row_hrow, n_apply]
theorem iblk_c (c : Dev nD) (t : Fin cfg0.N) (u : Fin 64) (b : Fin 768) :
    (iblk m c 3 t : FVec Ideal S64x768 .f32) (ix2 u b) = argC m c (ix3 (col t b) (axis u) (freq u)) := by
  unfold iblk
  change ((cfg0.win 3).blk t).view.read (Elt Ideal) (V m c main_v13) _ = _
  rw [V_c, read_c, angle_apply]
theorem iblk_s (c : Dev nD) (t : Fin cfg0.N) (u : Fin 64) (b : Fin 768) :
    (iblk m c 4 t : FVec Ideal S64x768 .f32) (ix2 u b) = argS m c (ix3 (col t b) (axis u) (freq u)) := by
  unfold iblk
  change ((cfg0.win 4).blk t).view.read (Elt Ideal) (V m c main_v15) _ = _
  rw [V_s, read_s, angle_apply]

/-! ## A head of a block -/

theorem src_invol : Function.Involutive src := by
  have h : ∀ d : Fin 128, src (src d) = d := by decide +kernel
  exact h

theorem src_lo (u : Fin 64) : src (lo u) = feat (axis u) 0 (freq u) :=
  Fin.ext (by show 64 * (u.val % 64 / 32) + 32 * (u.val / 64) + u.val % 32 = 64 * (u.val / 32) + 32 * 0 + u.val % 32; omega)
theorem src_hi (u : Fin 64) : src (hi u) = feat (axis u) 1 (freq u) :=
  Fin.ext (by show 64 * ((64 + u.val) % 64 / 32) + 32 * ((64 + u.val) / 64) + (64 + u.val) % 32 = 64 * (u.val / 32) + 32 * 1 + u.val % 32; omega)

theorem ofBits_128 : Ideal.ofBits .f32 0x43000000#32 = ((128 : ℝ) : EReal) := by
  simp [Ideal.ofBits, Ideal.ieee, -EReal.coe_mul]; norm_num
theorem ofBits_inv_128 : Ideal.ofBits .f32 0x3C000000#32 = (((1 : ℝ) / 128 : ℝ) : EReal) := by
  simp [Ideal.ofBits, Ideal.ieee, -EReal.coe_mul]; norm_num

/-- Dividing by 128 is multiplying by its inverse. -/
theorem div_128 (x : EReal) : Ideal.div x (Ideal.ofBits .f32 0x43000000#32) = x * Ideal.ofBits .f32 0x3C000000#32 := by
  rw [ofBits_128, ofBits_inv_128, Ideal.div_coe (by norm_num)]

/-- A block's normed head is the mathematics' normed head, its features in the table's order. -/
theorem hval_eq (A : FVec Ideal S16896x4096 .f32) (W : FVec Ideal S4096x6144 .f32) (N : FVec Ideal S128 .f32) (n : Fin 16896) (H : Fin 8)
    (P G : Fin 512 → EReal) (r : Fin 4) (hP : ∀ d, P (hrow r d) = query A W n H (src d)) (hG : ∀ d, G (hrow r d) = N (ix1 (src d))) (d : Fin 128) :
    hval P G r d = normed A W N n H (src d) := by
  unfold hval normed
  simp only [hP, hG]
  rw [div_128, ← Equiv.sum_comp (src_invol.toPerm src) fun e => query A W n H e * query A W n H e]
  rfl

/-- The reference's result. -/
def queries (c : Dev nD) : FVec Ideal S1024x16896 .bf16 :=
  Cert.ProjKRefIdeal.Read.val_main_v38 (F := Ideal) (argH m c) (argW m c) (argN m c) (argC m c) (argS m c)

/-- The norm's weight at a row of a block. -/
def weight (c : Dev nD) (a : Fin 512) : EReal := argN m c (ix1 (src ⟨a.val % 128, by omega⟩))

theorem weight_hrow (c : Dev nD) (r : Fin 4) (d : Fin 128) : weight m c (hrow r d) = argN m c (ix1 (src d)) := by
  have e : (⟨(hrow r d).val % 128, by omega⟩ : Fin 128) = d := Fin.ext (by show (128 * r.val + d.val) % 128 = d.val; omega)
  unfold weight
  rw [e]

theorem hrow_surj (a : Fin 512) : ∃ r d, a = hrow r d :=
  ⟨⟨a.val / 128, by omega⟩, ⟨a.val % 128, by omega⟩, Fin.ext (by show a.val = 128 * (a.val / 128) + a.val % 128; omega)⟩

theorem head_eq (c : Dev nD) (t : Fin cfg0.N) (b : Fin 768) (r : Fin 4) (d : Fin 128) :
    hval (fun a => k0_pay8 (F := Ideal) (iblk m c 0 t : FVec Ideal S512x4096 .bf16) (iblk m c 1 t : FVec Ideal S4096x768 .bf16) (ix2 a b)) (weight m c) r d
      = normed (argH m c) (argW m c) (argN m c) (col t b) (headOf t r) (src d) := by
  refine hval_eq _ _ _ _ _ _ _ r (fun d => ?_) (weight_hrow m c r) d
  refine (pay8_apply _ _ _ b).trans (Finset.sum_congr rfl fun k _ => ?_)
  rw [iblk_w, iblk_h, mul_comm]

theorem out_apply (c : Dev nD) (t : Fin cfg0.N) (a : Fin 512) (b : Fin 768) :
    (dats m 0 c).after 5 t (ix2 a b) = queries m c (ix2 (row t a) (col t b)) := by
  rw [after0_5]
  refine block_apply _ _ _ _ _ (weight m c) (fun a l => ?_) a b _ (fun r u h => ?_) (fun r u h => ?_)
  · obtain ⟨r, d, rfl⟩ := hrow_surj a
    rw [weight_hrow]
    exact iblk_n m c t r d l
  · subst h
    unfold queries turnLo
    rw [ref_lo _ _ _ _ _ (col t b) (headOf t r) (axis u) (freq u) _ (by rw [row_hrow]; show 128 * (headOf t r).val + u.val = 128 * (headOf t r).val + (32 * (u.val / 32) + u.val % 32); omega),
      head_eq, head_eq, src_lo, src_hi, iblk_c, iblk_s]
  · subst h
    unfold queries turnHi
    rw [ref_hi _ _ _ _ _ (col t b) (headOf t r) (axis u) (freq u) _ (by rw [row_hrow]; show 128 * (headOf t r).val + (64 + u.val) = 128 * (headOf t r).val + (64 + 32 * (u.val / 32) + u.val % 32); omega),
      head_eq, head_eq, src_lo, src_hi, iblk_c, iblk_s]

/-! ## The array after the run -/

theorem index_cell : ∀ (i : Fin 2) (j : Fin 22), ∃ t : Fin cfg0.N, win0_5.index t = ![i.val, j.val] :=
  (by decide +kernel : ∀ (i : Fin 2) (j : Fin 22), ∃ t : Fin grid0.N, _)

/-- The result's blocks cover the array. -/
theorem covers : (cfg0.win 5).Covers :=
  (cfg0.win 5).covers_of_index_surj rfl (by decide) fun β => by
    have b0 : (β (0 : Fin 2)).val < 2 := (β (0 : Fin 2)).isLt
    have b1 : (β (1 : Fin 2)).val < 22 := (β (1 : Fin 2)).isLt
    obtain ⟨t, ht⟩ := index_cell ⟨(β (0 : Fin 2)).val, b0⟩ ⟨(β (1 : Fin 2)).val, b1⟩
    refine ⟨t, fun a => (congrFun ht a).trans ?_⟩
    match a with
    | ⟨0, _⟩ => rfl
    | ⟨1, _⟩ => rfl

/-- After the run the result array is the reference's result. -/
theorem array_eq (c : Dev nD) : (dats m 0 c).arrAt 5 cfg0.N = queries m c := by
  refine Dat.arrAt_eq_of_covers _ 5 _ covers fun t hf y => ?_
  have key : ∀ y : S512x768.Idx, (dats m 0 c).after 5 t y = queries m c (((cfg0.win 5).blk t).view.emb y) := by
    intro y
    rw [eq_ix2 y]
    refine Eq.trans ?_ (congrArg (queries m c) (place_out t (y 0) (y 1))).symm
    exact out_apply m c t (y 0) (y 1)
  exact key y

/-- The two runs agree. -/
theorem algebraic : Cert.algebraic_ProjKIdeal_ProjKRefIdeal (hProjKIdeal := Cert.ProjKIdeal.Gen.facts)
    (hProjKRefIdeal := Cert.ProjKRefIdeal.Gen.facts) := by
  intro m g m' g' hpre hargs
  refine ⟨queries m, (θ_run defs _ _).mono (fun r h c => ⟨(h c).1.trans (array_eq m c), (h c).2⟩) (Cert.ProjKIdeal.Value.run_blocks m g), ?_⟩
  refine (θ_run Cert.ProjKRefIdeal.defs _ _).mono (fun r h c => ⟨(h c).1.trans ?_, (h c).2⟩) (Cert.ProjKRefIdeal.Value.run (F := Ideal) m' g')
  obtain ⟨e0, e1, e2, e3, e4⟩ := hargs c
  rw [Cert.ProjKRefIdeal.Read.val_main_v38_eq, e0, e1, e2, e3, e4]
  rfl

end Cert.ProjKIdeal.Hand
-- ==== Proof.Calls.WinQRef.lean ====
module

public import proofs.«01_k».proof.Defs
public import proofs.«01_k».proof.Proof.Gen.WinQRefIdeal.Run
public import proofs.«01_k».proof.Proof.Gen.WinQRefIdeal.Read
public import Idealize.ShloMosaic.Lib.Pipeline.ValueKit

/-! The queries of the windowed attention, as the mathematics gives them, read at an index: a column of the product brought
to unit mean square within its head and weighted, then its two halves turned against each other. -/

@[expose] public section

set_option maxRecDepth 16384

set_option maxHeartbeats 1000000

noncomputable section

namespace Cert.WinQRefIdeal.Hand

open Idealize.ShloMosaic Idealize.ShloMosaic.TcCoe Idealize.ShloMosaic.Tactic Idealize.ShloMosaic.StableHlo Cert.WinQRefIdeal.Read

variable (A : FVec Ideal S16896x4096 .f32) (W : FVec Ideal S4096x5120 .f32) (N : FVec Ideal S64 .f32)
  (C S : FVec Ideal S16896x2x16 .f32)

/-- The weight's column of a feature of a head. -/
def qcol (H : Fin 64) (d : Fin 64) : Fin 5120 := ⟨(64 * H.val + d.val), by omega⟩

/-- The result's row of a feature of a head. -/
def qrow (H : Fin 64) (d : Fin 64) : Fin 4096 := ⟨64 * H.val + d.val, by omega⟩

/-- A token's product with a column of the weight. -/
def query (n : Fin 16896) (H : Fin 64) (d : Fin 64) : EReal := ∑ k : Fin 4096, (A (ix2 n k) : EReal) * (W (ix2 k (qcol H d)) : EReal)

/-- The product brought to unit mean square within its head, and weighted. -/
def normed (n : Fin 16896) (H : Fin 64) (d : Fin 64) : EReal :=
  query A W n H d * Ideal.rsqrt (Ideal.div (∑ e : Fin 64, query A W n H e * query A W n H e) (Ideal.ofBits .f32 0x42800000#32)
    + Ideal.ofBits .f32 0x358637BD#32) * N (ix1 d)

theorem v2_apply (n : Fin 16896) (H : Fin 64) (d : Fin 64) : val_main_v2 (F := Ideal) A W (ix3 n H d) = query A W n H d := by
  rw [val_main_v2_apply, val_main_v1_apply, val_main_v0_apply]
  unfold query
  refine Finset.sum_congr rfl fun k _ => ?_
  congr 2
  · funext a
    match a with
    | ⟨0, _⟩ => exact Fin.ext (by show ((n.val * 64 + H.val) * 64 + d.val) / 4096 = n.val; omega)
    | ⟨1, _⟩ => rfl
  · funext a
    match a with
    | ⟨0, _⟩ => rfl
    | ⟨1, _⟩ => exact Fin.ext (by show (((n.val * 64 + H.val) * 64 + d.val) % 4096) = (64 * H.val + d.val); omega)

theorem v15_apply (n : Fin 16896) (H : Fin 64) (d : Fin 64) : val_main_v15 (F := Ideal) A W N (ix3 n H d) = normed A W N n H d := by
  rw [val_main_v15_apply, val_main_v12_apply, val_main_v14_apply, val_main_v13_apply, val_main_v11_apply, val_main_v10_apply,
    val_main_v9_apply, val_main_v7_apply, val_main_v5_apply, val_main_v4_apply, val_main_v6_apply, val_main_v8_apply, v2_apply,
    val_main_cst_apply, val_main_cst_0_apply, val_main_cst_1_apply]
  have e : ∀ k : Fin 64, val_main_v3 (F := Ideal) A W (idx_main_v4 (idx_main_v5 (idx_main_v11 (ix3 n H d))) k)
      = query A W n H k * query A W n H k := fun k => by
    have e' : idx_main_v4 (idx_main_v5 (idx_main_v11 (ix3 n H d))) k = ix3 n H k := by
      funext a
      match a with
      | ⟨0, _⟩ => rfl
      | ⟨1, _⟩ => rfl
      | ⟨2, _⟩ => rfl
    rw [e', val_main_v3_apply, v2_apply]
    rfl
  have en : idx_main_v13 (idx_main_v14 (ix3 n H d)) = ix1 d := by
    funext a
    match a with
    | ⟨0, _⟩ => rfl
  simp only [e]
  rw [en]
  unfold normed
  change query A W n H d * Ideal.rsqrt (Ideal.div (Ideal.ofBits .f32 0x00000000#32 + _) _ + _) * _ = _
  rw [Ideal.ofBits_zero_f32, zero_add]
  rfl

/-- The feature of a head with a given axis, half and frequency. -/
def feat (a : Fin 2) (s : Fin 2) (f : Fin 16) : Fin 64 := ⟨32 * a.val + 16 * s.val + f.val, by omega⟩

theorem v16_apply (n : Fin 16896) (H : Fin 64) (a s : Fin 2) (f : Fin 16) :
    val_main_v16 (F := Ideal) A W N (ix5 n H a s f) = normed A W N n H (feat a s f) := by
  rw [val_main_v16_apply, ← v15_apply]
  congr 1
  funext i
  match i with
  | ⟨0, _⟩ => exact Fin.ext (by show ((((n.val * 64 + H.val) * 2 + a.val) * 2 + s.val) * 16 + f.val) / 4096 = n.val; omega)
  | ⟨1, _⟩ => exact Fin.ext (by show ((((n.val * 64 + H.val) * 2 + a.val) * 2 + s.val) * 16 + f.val) / 64 % 64 = H.val; omega)
  | ⟨2, _⟩ => exact Fin.ext (by show ((((n.val * 64 + H.val) * 2 + a.val) * 2 + s.val) * 16 + f.val) % 64 = 32 * a.val + 16 * s.val + f.val; omega)

theorem v18_apply (n : Fin 16896) (H : Fin 64) (a : Fin 2) (f : Fin 16) :
    val_main_v18 (F := Ideal) A W N (ix4 n H a f) = normed A W N n H (feat a 0 f) := by
  rw [val_main_v18_apply, val_main_v17_apply, ← v16_apply]
  congr 1
  funext i
  match i with
  | ⟨0, _⟩ => exact Fin.ext (by show (((n.val * 64 + H.val) * 2 + a.val) * 16 + f.val) / 2048 = n.val; omega)
  | ⟨1, _⟩ => exact Fin.ext (by show (((n.val * 64 + H.val) * 2 + a.val) * 16 + f.val) / 32 % 64 = H.val; omega)
  | ⟨2, _⟩ => exact Fin.ext (by show (((n.val * 64 + H.val) * 2 + a.val) * 16 + f.val) / 16 % 2 = a.val; omega)
  | ⟨3, _⟩ => rfl
  | ⟨4, _⟩ => exact Fin.ext (by show (((n.val * 64 + H.val) * 2 + a.val) * 16 + f.val) % 16 = f.val; omega)

theorem v20_apply (n : Fin 16896) (H : Fin 64) (a : Fin 2) (f : Fin 16) :
    val_main_v20 (F := Ideal) A W N (ix4 n H a f) = normed A W N n H (feat a 1 f) := by
  rw [val_main_v20_apply, val_main_v19_apply, ← v16_apply]
  congr 1
  funext i
  match i with
  | ⟨0, _⟩ => exact Fin.ext (by show (((n.val * 64 + H.val) * 2 + a.val) * 16 + f.val) / 2048 = n.val; omega)
  | ⟨1, _⟩ => exact Fin.ext (by show (((n.val * 64 + H.val) * 2 + a.val) * 16 + f.val) / 32 % 64 = H.val; omega)
  | ⟨2, _⟩ => exact Fin.ext (by show (((n.val * 64 + H.val) * 2 + a.val) * 16 + f.val) / 16 % 2 = a.val; omega)
  | ⟨3, _⟩ => rfl
  | ⟨4, _⟩ => exact Fin.ext (by show (((n.val * 64 + H.val) * 2 + a.val) * 16 + f.val) % 16 = f.val; omega)

theorem v23_apply (n : Fin 16896) (H : Fin 64) (a : Fin 2) (f : Fin 16) : val_main_v23 (F := Ideal) C (ix4 n H a f) = C (ix3 n a f) := by
  rw [val_main_v23_apply, val_main_v21_apply]
  congr 1; funext i; match i with | ⟨0, _⟩ => rfl | ⟨1, _⟩ => rfl | ⟨2, _⟩ => rfl
theorem v25_apply (n : Fin 16896) (H : Fin 64) (a : Fin 2) (f : Fin 16) : val_main_v25 (F := Ideal) S (ix4 n H a f) = S (ix3 n a f) := by
  rw [val_main_v25_apply, val_main_v22_apply]
  congr 1; funext i; match i with | ⟨0, _⟩ => rfl | ⟨1, _⟩ => rfl | ⟨2, _⟩ => rfl
theorem v28_apply (n : Fin 16896) (H : Fin 64) (a : Fin 2) (f : Fin 16) : val_main_v28 (F := Ideal) S (ix4 n H a f) = S (ix3 n a f) := by
  rw [val_main_v28_apply, val_main_v22_apply]
  congr 1; funext i; match i with | ⟨0, _⟩ => rfl | ⟨1, _⟩ => rfl | ⟨2, _⟩ => rfl
theorem v30_apply (n : Fin 16896) (H : Fin 64) (a : Fin 2) (f : Fin 16) : val_main_v30 (F := Ideal) C (ix4 n H a f) = C (ix3 n a f) := by
  rw [val_main_v30_apply, val_main_v21_apply]
  congr 1; funext i; match i with | ⟨0, _⟩ => rfl | ⟨1, _⟩ => rfl | ⟨2, _⟩ => rfl

theorem v27_apply (n : Fin 16896) (H : Fin 64) (a : Fin 2) (f : Fin 16) : val_main_v27 (F := Ideal) A W N C S (ix4 n H a f)
    = normed A W N n H (feat a 0 f) * (C (ix3 n a f) : EReal) - normed A W N n H (feat a 1 f) * (S (ix3 n a f) : EReal) := by
  rw [val_main_v27_apply, val_main_v24_apply, val_main_v26_apply, v18_apply, v20_apply, v23_apply, v25_apply]
  rfl
theorem v32_apply (n : Fin 16896) (H : Fin 64) (a : Fin 2) (f : Fin 16) : val_main_v32 (F := Ideal) A W N C S (ix4 n H a f)
    = normed A W N n H (feat a 0 f) * (S (ix3 n a f) : EReal) + normed A W N n H (feat a 1 f) * (C (ix3 n a f) : EReal) := by
  rw [val_main_v32_apply, val_main_v29_apply, val_main_v31_apply, v18_apply, v20_apply, v28_apply, v30_apply]
  rfl

theorem v35_lo (n : Fin 16896) (H : Fin 64) (a : Fin 2) (f : Fin 16) :
    val_main_v35 (F := Ideal) A W N C S (ix5 n H 0 a f) = val_main_v27 (F := Ideal) A W N C S (ix4 n H a f) := by
  unfold val_main_v35
  refine (concatenate_pair_apply_left (t := S16896x64x2x2x16) (s₁ := S16896x64x1x2x16) (s₂ := S16896x64x1x2x16) 2 _ _ _ (ix5 n H 0 a f) rfl (ix5 n H (0 : Fin 1) a f) (fun b => match b with
    | ⟨0, _⟩ => rfl | ⟨1, _⟩ => rfl | ⟨2, _⟩ => rfl | ⟨3, _⟩ => rfl | ⟨4, _⟩ => rfl)).trans ?_
  rw [val_main_v33_apply]
  congr 1; funext i; match i with | ⟨0, _⟩ => rfl | ⟨1, _⟩ => rfl | ⟨2, _⟩ => rfl | ⟨3, _⟩ => rfl
theorem v35_hi (n : Fin 16896) (H : Fin 64) (a : Fin 2) (f : Fin 16) :
    val_main_v35 (F := Ideal) A W N C S (ix5 n H 1 a f) = val_main_v32 (F := Ideal) A W N C S (ix4 n H a f) := by
  unfold val_main_v35
  refine (concatenate_pair_apply_right (t := S16896x64x2x2x16) (s₁ := S16896x64x1x2x16) (s₂ := S16896x64x1x2x16) 2 _ _ _ (ix5 n H 1 a f) rfl rfl (ix5 n H (0 : Fin 1) a f) (fun b hb => match b, hb with
    | ⟨0, _⟩, _ => rfl | ⟨1, _⟩, _ => rfl | ⟨2, _⟩, hb => absurd rfl hb | ⟨3, _⟩, _ => rfl | ⟨4, _⟩, _ => rfl) rfl).trans ?_
  rw [val_main_v34_apply]
  congr 1; funext i; match i with | ⟨0, _⟩ => rfl | ⟨1, _⟩ => rfl | ⟨2, _⟩ => rfl | ⟨3, _⟩ => rfl

theorem v38_apply (n : Fin 16896) (H : Fin 64) (s a : Fin 2) (f : Fin 16) (r : Fin 4096) (hr : r.val = 64 * H.val + (32 * s.val + 16 * a.val + f.val)) :
    val_main_v38 (F := Ideal) A W N C S (ix2 r n) = val_main_v35 (F := Ideal) A W N C S (ix5 n H s a f) := by
  rw [val_main_v38_apply, val_main_v37_apply, val_main_v36_apply]
  change val_main_v35 (F := Ideal) A W N C S _ = _
  congr 1
  funext i
  match i with
  | ⟨0, _⟩ => exact Fin.ext (by show (n.val * 4096 + r.val) / 4096 = n.val; omega)
  | ⟨1, _⟩ => exact Fin.ext (by show (n.val * 4096 + r.val) / 64 % 64 = H.val; omega)
  | ⟨2, _⟩ => exact Fin.ext (by show (n.val * 4096 + r.val) / 32 % 2 = s.val; omega)
  | ⟨3, _⟩ => exact Fin.ext (by show (n.val * 4096 + r.val) / 16 % 2 = a.val; omega)
  | ⟨4, _⟩ => exact Fin.ext (by show (n.val * 4096 + r.val) % 16 = f.val; omega)

/-- The first half of a head of the result. -/
theorem ref_lo (n : Fin 16896) (H : Fin 64) (a : Fin 2) (f : Fin 16) (r : Fin 4096) (hr : r.val = 64 * H.val + (16 * a.val + f.val)) :
    val_main_v38 (F := Ideal) A W N C S (ix2 r n)
      = normed A W N n H (feat a 0 f) * (C (ix3 n a f) : EReal) - normed A W N n H (feat a 1 f) * (S (ix3 n a f) : EReal) := by
  rw [v38_apply A W N C S n H 0 a f r (by simpa using hr), v35_lo, v27_apply]

/-- The second half of a head of the result. -/
theorem ref_hi (n : Fin 16896) (H : Fin 64) (a : Fin 2) (f : Fin 16) (r : Fin 4096) (hr : r.val = 64 * H.val + (32 + 16 * a.val + f.val)) :
    val_main_v38 (F := Ideal) A W N C S (ix2 r n)
      = normed A W N n H (feat a 0 f) * (S (ix3 n a f) : EReal) + normed A W N n H (feat a 1 f) * (C (ix3 n a f) : EReal) := by
  rw [v38_apply A W N C S n H 1 a f r (by simpa using hr), v35_hi, v32_apply]

end Cert.WinQRefIdeal.Hand
-- ==== Proof.Calls.WinQBlock.lean ====
module

public import proofs.«01_k».proof.Defs
public import proofs.«01_k».proof.Proof.Gen.WinQIdeal.Value
public import Idealize.ShloMosaic.Lib.Pipeline.ValueKit

/-! One block of the projection onto the queries of the windowed attention: the block's 512 features are eight heads of 64; each head is brought to
unit mean square, weighted, and the first half of its features is turned against the second. -/

@[expose] public section

set_option maxRecDepth 16384

set_option maxHeartbeats 1000000

noncomputable section

namespace Cert.WinQIdeal.Hand

open Idealize.ShloMosaic Idealize.ShloMosaic.TcCoe Idealize.ShloMosaic.Tactic Idealize.ShloMosaic.StableHlo Cert.WinQIdeal.Gen
open Idealize.ShloMosaic.Pipeline Idealize.SL.Sem

theorem pay6_apply (x : FVec Ideal S512x4096 .bf16) (y : FVec Ideal S4096x768 .bf16) (a : Fin 512) (b : Fin 768) :
    k0_pay6 (F := Ideal) x y (ix2 a b) = ∑ k : Fin 4096, (x (ix2 a k) : EReal) * (y (ix2 k b) : EReal) := by
  pointwise [k0_pay6]

/-- The block's row at a feature of one of its eight heads. -/
def hrow (r : Fin 8) (d : Fin 64) : Fin 512 := ⟨64 * r.val + d.val, by omega⟩

/-- A feature of the first half of a head. -/
def lo (u : Fin 32) : Fin 64 := ⟨u.val, by omega⟩

/-- A feature of the second half of a head. -/
def hi (u : Fin 32) : Fin 64 := ⟨32 + u.val, by omega⟩

/-- A head's feature brought to unit mean square and weighted, from a column `P` of the product and the weights `G`. -/
def hval (P G : Fin 512 → EReal) (r : Fin 8) (d : Fin 64) : EReal :=
  P (hrow r d) * Ideal.rsqrt ((∑ e : Fin 64, P (hrow r e) * P (hrow r e)) * Ideal.ofBits .f32 0x3C800000#32 + Ideal.ofBits .f32 0x358637BD#32) * G (hrow r d)

theorem hrow0 (d : Fin 64) (h : d.val < 512) : (⟨d.val, h⟩ : Fin 512) = hrow 0 d := Fin.ext (by simp [hrow])
theorem hrow1 (d : Fin 64) (h : 64 + d.val < 512) : (⟨64 + d.val, h⟩ : Fin 512) = hrow 1 d := Fin.ext (by simp [hrow])
theorem hrow2 (d : Fin 64) (h : 128 + d.val < 512) : (⟨128 + d.val, h⟩ : Fin 512) = hrow 2 d := Fin.ext (by simp [hrow])
theorem hrow3 (d : Fin 64) (h : 192 + d.val < 512) : (⟨192 + d.val, h⟩ : Fin 512) = hrow 3 d := Fin.ext (by simp [hrow])
theorem hrow4 (d : Fin 64) (h : 256 + d.val < 512) : (⟨256 + d.val, h⟩ : Fin 512) = hrow 4 d := Fin.ext (by simp [hrow])
theorem hrow5 (d : Fin 64) (h : 320 + d.val < 512) : (⟨320 + d.val, h⟩ : Fin 512) = hrow 5 d := Fin.ext (by simp [hrow])
theorem hrow6 (d : Fin 64) (h : 384 + d.val < 512) : (⟨384 + d.val, h⟩ : Fin 512) = hrow 6 d := Fin.ext (by simp [hrow])
theorem hrow7 (d : Fin 64) (h : 448 + d.val < 512) : (⟨448 + d.val, h⟩ : Fin 512) = hrow 7 d := Fin.ext (by simp [hrow])

theorem lo_eq (u : Fin 32) (h : u.val < 64) : (⟨u.val, h⟩ : Fin 64) = lo u := rfl
theorem hi_eq (u : Fin 32) (h : 32 + u.val < 64) : (⟨32 + u.val, h⟩ : Fin 64) = hi u := rfl

/-! ## The eight heads -/

theorem pay9_apply (x : FVec Ideal S512x4096 .bf16) (y : FVec Ideal S4096x768 .bf16) (v : FVec Ideal S64x128 .f32) (G : Fin 512 → EReal)
    (hv : ∀ d l, v (ix2 d l) = G (hrow 0 d)) (d : Fin 64) (b : Fin 768) :
    k0_pay9 (F := Ideal) x y v (ix2 d b) = hval (fun a => k0_pay6 (F := Ideal) x y (ix2 a b)) G 0 d := by
  pointwise [k0_pay9]
  simp only [hv, dite_eq_ite, ite_self, hrow0]
  rfl

theorem pay14_apply (x : FVec Ideal S512x4096 .bf16) (y : FVec Ideal S4096x768 .bf16) (d : Fin 64) (b : Fin 768) :
    k0_pay14 (F := Ideal) x y (ix2 d b) = k0_pay6 (F := Ideal) x y (ix2 (hrow 1 d) b) := by
  unfold hrow
  pointwise [k0_pay14]

theorem pay15_apply (x : FVec Ideal S512x4096 .bf16) (y : FVec Ideal S4096x768 .bf16) (d : Fin 64) (b : Fin 768) :
    k0_pay15 (F := Ideal) x y (ix2 d b)
      = (k0_pay6 (F := Ideal) x y (ix2 (hrow 1 d) b) : EReal) * (k0_pay6 (F := Ideal) x y (ix2 (hrow 1 d) b) : EReal) := by
  rw [← pay14_apply]
  rfl

theorem pay16_apply (x : FVec Ideal S512x4096 .bf16) (y : FVec Ideal S4096x768 .bf16) (v : FVec Ideal S64x128 .f32) (G : Fin 512 → EReal)
    (hv : ∀ d l, v (ix2 d l) = G (hrow 1 d)) (d : Fin 64) (b : Fin 768) :
    k0_pay16 (F := Ideal) (k0_pay14 x y) (k0_pay15 x y) v (ix2 d b) = hval (fun a => k0_pay6 (F := Ideal) x y (ix2 a b)) G 1 d := by
  generalize ex : k0_pay14 (F := Ideal) x y = x16
  generalize ey : k0_pay15 (F := Ideal) x y = x17
  pointwise [k0_pay16]
  subst ex ey
  simp only [hv, dite_eq_ite, ite_self, pay14_apply, pay15_apply]
  rfl

theorem pay21_apply (z : FVec Ideal S512x768 .f32) (v : FVec Ideal S64x128 .f32) (G : Fin 512 → EReal)
    (hv : ∀ d l, v (ix2 d l) = G (hrow 2 d)) (d : Fin 64) (b : Fin 768) :
    k0_pay21 (F := Ideal) z v (ix2 d b) = hval (fun a => z (ix2 a b)) G 2 d := by
  pointwise [k0_pay21]
  simp only [hv, dite_eq_ite, ite_self, hrow2]
  rfl

theorem pay28_apply (z : FVec Ideal S512x768 .f32) (v : FVec Ideal S64x128 .f32) (G : Fin 512 → EReal)
    (hv : ∀ d l, v (ix2 d l) = G (hrow 3 d)) (d : Fin 64) (b : Fin 768) :
    k0_pay28 (F := Ideal) z v (ix2 d b) = hval (fun a => z (ix2 a b)) G 3 d := by
  pointwise [k0_pay28]
  simp only [hv, dite_eq_ite, ite_self, hrow3]
  rfl

theorem pay40_apply (z : FVec Ideal S512x768 .f32) (v : FVec Ideal S64x128 .f32) (G : Fin 512 → EReal)
    (hv : ∀ d l, v (ix2 d l) = G (hrow 5 d)) (d : Fin 64) (b : Fin 768) :
    k0_pay40 (F := Ideal) z v (ix2 d b) = hval (fun a => z (ix2 a b)) G 5 d := by
  pointwise [k0_pay40]
  simp only [hv, dite_eq_ite, ite_self, hrow5]
  rfl

theorem pay45_apply (z : FVec Ideal S512x768 .f32) (v : FVec Ideal S64x128 .f32) (G : Fin 512 → EReal)
    (hv : ∀ d l, v (ix2 d l) = G (hrow 6 d)) (d : Fin 64) (b : Fin 768) :
    k0_pay45 (F := Ideal) z v (ix2 d b) = hval (fun a => z (ix2 a b)) G 6 d := by
  pointwise [k0_pay45]
  simp only [hv, dite_eq_ite, ite_self, hrow6]
  rfl

theorem pay33_apply (z : FVec Ideal S512x768 .f32) (d : Fin 64) (b : Fin 768) :
    k0_pay33 (F := Ideal) z (ix2 d b) = z (ix2 (hrow 4 d) b) := by
  unfold hrow
  pointwise [k0_pay33]

theorem pay34_apply (z : FVec Ideal S512x768 .f32) (b : Fin 768) :
    k0_pay34 (F := Ideal) z (ix2 (0 : Fin 1) b)
      = (∑ e : Fin 64, (z (ix2 (hrow 4 e) b) : EReal) * (z (ix2 (hrow 4 e) b) : EReal)) * Ideal.ofBits .f32 0x3C800000#32 := by
  simp only [← pay33_apply]
  generalize ez : k0_pay33 (F := Ideal) z = z33
  pointwise [k0_pay34]
  subst ez
  rfl

theorem pay35_apply (z : FVec Ideal S512x768 .f32) (v : FVec Ideal S64x128 .f32) (G : Fin 512 → EReal)
    (hv : ∀ d l, v (ix2 d l) = G (hrow 4 d)) (d : Fin 64) (b : Fin 768) :
    k0_pay35 (F := Ideal) (k0_pay33 z) (k0_pay34 z) v (ix2 d b) = hval (fun a => z (ix2 a b)) G 4 d := by
  generalize ex : k0_pay33 (F := Ideal) z = x33
  generalize ey : k0_pay34 (F := Ideal) z = x34
  pointwise [k0_pay35]
  subst ex ey
  simp only [hv, dite_eq_ite, ite_self, pay33_apply]
  exact congrArg (fun e : EReal => _ * Ideal.rsqrt (e + _) * _) (pay34_apply z b)

theorem pay50_apply (z : FVec Ideal S512x768 .f32) (v : FVec Ideal S64x128 .f32) (G : Fin 512 → EReal)
    (hv : ∀ d l, v (ix2 d l) = G (hrow 7 d)) (d : Fin 64) (b : Fin 768) :
    k0_pay1 (F := Ideal) (k0_pay50 z) v (ix2 d b) = hval (fun a => z (ix2 a b)) G 7 d := by
  pointwise [k0_pay1, k0_pay50]
  simp only [hv, dite_eq_ite, ite_self, hrow7]
  rfl

/-! ## The halves turned against each other -/

/-- The first half of a turned head. -/
def turnLo (y : Fin 64 → EReal) (c s : EReal) (u : Fin 32) : EReal := y (lo u) * c - y (hi u) * s

/-- The second half of a turned head. -/
def turnHi (y : Fin 64 → EReal) (c s : EReal) (u : Fin 32) : EReal := y (lo u) * s + y (hi u) * c

variable (x : FVec Ideal S512x4096 .bf16) (y : FVec Ideal S4096x768 .bf16) (z : FVec Ideal S512x768 .f32)
  (C S : FVec Ideal S32x768 .f32) (v : FVec Ideal S64x128 .f32) (u : Fin 32) (b : Fin 768)

theorem pay12_apply : k0_pay12 (F := Ideal) x y C S v (ix2 u b)
    = turnLo (fun d => k0_pay9 (F := Ideal) x y v (ix2 d b)) (C (ix2 u b)) (S (ix2 u b)) u := by
  unfold turnLo lo hi
  pointwise [k0_pay12, k0_pay10, k0_pay11, k0_pay7, k0_pay8]
theorem pay13_apply : k0_pay13 (F := Ideal) x y C S v (ix2 u b)
    = turnHi (fun d => k0_pay9 (F := Ideal) x y v (ix2 d b)) (C (ix2 u b)) (S (ix2 u b)) u := by
  unfold turnHi lo hi
  pointwise [k0_pay13, k0_pay10, k0_pay11, k0_pay7, k0_pay8]
theorem pay19_apply (p q : FVec Ideal S64x768 .f32) : k0_pay19 (F := Ideal) (k0_pay7 C) (k0_pay8 S) p q v (ix2 u b)
    = turnLo (fun d => k0_pay16 (F := Ideal) p q v (ix2 d b)) (C (ix2 u b)) (S (ix2 u b)) u := by
  unfold turnLo lo hi
  pointwise [k0_pay19, k0_pay17, k0_pay18, k0_pay7, k0_pay8]
theorem pay20_apply (p q : FVec Ideal S64x768 .f32) : k0_pay20 (F := Ideal) (k0_pay7 C) (k0_pay8 S) p q v (ix2 u b)
    = turnHi (fun d => k0_pay16 (F := Ideal) p q v (ix2 d b)) (C (ix2 u b)) (S (ix2 u b)) u := by
  unfold turnHi lo hi
  pointwise [k0_pay20, k0_pay17, k0_pay18, k0_pay7, k0_pay8]
theorem pay26_apply : k0_pay26 (F := Ideal) (k0_pay24 z (k0_pay7 C) v) (k0_pay25 z (k0_pay8 S) v) (ix2 u b)
    = turnLo (fun d => k0_pay21 (F := Ideal) z v (ix2 d b)) (C (ix2 u b)) (S (ix2 u b)) u := by
  unfold turnLo lo hi
  pointwise [k0_pay26, k0_pay24, k0_pay25, k0_pay22, k0_pay23, k0_pay7, k0_pay8]
theorem pay27_apply : k0_pay27 (F := Ideal) (k0_pay7 C) (k0_pay8 S) (k0_pay22 z v) (k0_pay23 z v) (ix2 u b)
    = turnHi (fun d => k0_pay21 (F := Ideal) z v (ix2 d b)) (C (ix2 u b)) (S (ix2 u b)) u := by
  unfold turnHi lo hi
  pointwise [k0_pay27, k0_pay22, k0_pay23, k0_pay7, k0_pay8]
theorem pay31_apply : k0_pay31 (F := Ideal) z (k0_pay7 C) (k0_pay8 S) v (ix2 u b)
    = turnLo (fun d => k0_pay28 (F := Ideal) z v (ix2 d b)) (C (ix2 u b)) (S (ix2 u b)) u := by
  unfold turnLo lo hi
  pointwise [k0_pay31, k0_pay29, k0_pay30, k0_pay7, k0_pay8]
theorem pay32_apply : k0_pay32 (F := Ideal) z (k0_pay7 C) (k0_pay8 S) v (ix2 u b)
    = turnHi (fun d => k0_pay28 (F := Ideal) z v (ix2 d b)) (C (ix2 u b)) (S (ix2 u b)) u := by
  unfold turnHi lo hi
  pointwise [k0_pay32, k0_pay29, k0_pay30, k0_pay7, k0_pay8]
theorem pay38_apply (p : FVec Ideal S64x768 .f32) (q : FVec Ideal S1x768 .f32) : k0_pay38 (F := Ideal) (k0_pay7 C) (k0_pay8 S) p q v (ix2 u b)
    = turnLo (fun d => k0_pay35 (F := Ideal) p q v (ix2 d b)) (C (ix2 u b)) (S (ix2 u b)) u := by
  unfold turnLo lo hi
  pointwise [k0_pay38, k0_pay36, k0_pay37, k0_pay7, k0_pay8]
theorem pay39_apply (p : FVec Ideal S64x768 .f32) (q : FVec Ideal S1x768 .f32) : k0_pay39 (F := Ideal) (k0_pay7 C) (k0_pay8 S) p q v (ix2 u b)
    = turnHi (fun d => k0_pay35 (F := Ideal) p q v (ix2 d b)) (C (ix2 u b)) (S (ix2 u b)) u := by
  unfold turnHi lo hi
  pointwise [k0_pay39, k0_pay36, k0_pay37, k0_pay7, k0_pay8]
theorem pay43_apply : k0_pay43 (F := Ideal) z (k0_pay7 C) (k0_pay8 S) v (ix2 u b)
    = turnLo (fun d => k0_pay40 (F := Ideal) z v (ix2 d b)) (C (ix2 u b)) (S (ix2 u b)) u := by
  unfold turnLo lo hi
  pointwise [k0_pay43, k0_pay41, k0_pay42, k0_pay7, k0_pay8]
theorem pay44_apply : k0_pay44 (F := Ideal) (k0_pay7 C) (k0_pay8 S) (k0_pay41 z v) (k0_pay42 z v) (ix2 u b)
    = turnHi (fun d => k0_pay40 (F := Ideal) z v (ix2 d b)) (C (ix2 u b)) (S (ix2 u b)) u := by
  unfold turnHi lo hi
  pointwise [k0_pay44, k0_pay41, k0_pay42, k0_pay7, k0_pay8]
theorem pay48_apply : k0_pay48 (F := Ideal) z (k0_pay7 C) (k0_pay8 S) v (ix2 u b)
    = turnLo (fun d => k0_pay45 (F := Ideal) z v (ix2 d b)) (C (ix2 u b)) (S (ix2 u b)) u := by
  unfold turnLo lo hi
  pointwise [k0_pay48, k0_pay46, k0_pay47, k0_pay7, k0_pay8]
theorem pay49_apply : k0_pay49 (F := Ideal) z (k0_pay7 C) (k0_pay8 S) v (ix2 u b)
    = turnHi (fun d => k0_pay45 (F := Ideal) z v (ix2 d b)) (C (ix2 u b)) (S (ix2 u b)) u := by
  unfold turnHi lo hi
  pointwise [k0_pay49, k0_pay46, k0_pay47, k0_pay7, k0_pay8]
theorem pay4_apply (p : FVec Ideal S64x768 .f32) : k0_pay4 (F := Ideal) (k0_pay7 C) (k0_pay8 S) p v (ix2 u b)
    = turnLo (fun d => k0_pay1 (F := Ideal) p v (ix2 d b)) (C (ix2 u b)) (S (ix2 u b)) u := by
  unfold turnLo lo hi
  pointwise [k0_pay4, k0_pay2, k0_pay3, k0_pay7, k0_pay8]
theorem pay5_apply (p : FVec Ideal S64x768 .f32) : k0_pay5 (F := Ideal) (k0_pay7 C) (k0_pay8 S) p v (ix2 u b)
    = turnHi (fun d => k0_pay1 (F := Ideal) p v (ix2 d b)) (C (ix2 u b)) (S (ix2 u b)) u := by
  unfold turnHi lo hi
  pointwise [k0_pay5, k0_pay2, k0_pay3, k0_pay7, k0_pay8]

/-! ## The whole block -/

/-- The load of eight heads' weights at a head. -/
theorem ld3_apply (X : FVec Ideal S512x128 .f32) (d : Fin 64) (l : Fin 128) :
    View.ld (Val := Elt Ideal) (e' := .f32) X r0_3 (ix2 d l : S64x128.Idx) = X (ix2 (hrow 0 d) l) :=
  View.ld_unit_apply_of (Val := Elt Ideal) (e := .f32) (S := S512x128) X ![0, 0] S64x128.size inb_S512x128_S64x128_0_0 (ix2 d l : S64x128.Idx)
    (ix2 (hrow 0 d) l) fun a => match a with | ⟨0, _⟩ => rfl | ⟨1, _⟩ => (Nat.zero_add _).symm
theorem ld6_apply (X : FVec Ideal S512x128 .f32) (d : Fin 64) (l : Fin 128) :
    View.ld (Val := Elt Ideal) (e' := .f32) X r0_6 (ix2 d l : S64x128.Idx) = X (ix2 (hrow 1 d) l) :=
  View.ld_unit_apply_of (Val := Elt Ideal) (e := .f32) (S := S512x128) X ![64, 0] S64x128.size inb_S512x128_S64x128_64_0 (ix2 d l : S64x128.Idx)
    (ix2 (hrow 1 d) l) fun a => match a with | ⟨0, _⟩ => rfl | ⟨1, _⟩ => (Nat.zero_add _).symm
theorem ld9_apply (X : FVec Ideal S512x128 .f32) (d : Fin 64) (l : Fin 128) :
    View.ld (Val := Elt Ideal) (e' := .f32) X r0_9 (ix2 d l : S64x128.Idx) = X (ix2 (hrow 2 d) l) :=
  View.ld_unit_apply_of (Val := Elt Ideal) (e := .f32) (S := S512x128) X ![128, 0] S64x128.size inb_S512x128_S64x128_128_0 (ix2 d l : S64x128.Idx)
    (ix2 (hrow 2 d) l) fun a => match a with | ⟨0, _⟩ => rfl | ⟨1, _⟩ => (Nat.zero_add _).symm
theorem ld12_apply (X : FVec Ideal S512x128 .f32) (d : Fin 64) (l : Fin 128) :
    View.ld (Val := Elt Ideal) (e' := .f32) X r0_12 (ix2 d l : S64x128.Idx) = X (ix2 (hrow 3 d) l) :=
  View.ld_unit_apply_of (Val := Elt Ideal) (e := .f32) (S := S512x128) X ![192, 0] S64x128.size inb_S512x128_S64x128_192_0 (ix2 d l : S64x128.Idx)
    (ix2 (hrow 3 d) l) fun a => match a with | ⟨0, _⟩ => rfl | ⟨1, _⟩ => (Nat.zero_add _).symm
theorem ld15_apply (X : FVec Ideal S512x128 .f32) (d : Fin 64) (l : Fin 128) :
    View.ld (Val := Elt Ideal) (e' := .f32) X r0_15 (ix2 d l : S64x128.Idx) = X (ix2 (hrow 4 d) l) :=
  View.ld_unit_apply_of (Val := Elt Ideal) (e := .f32) (S := S512x128) X ![256, 0] S64x128.size inb_S512x128_S64x128_256_0 (ix2 d l : S64x128.Idx)
    (ix2 (hrow 4 d) l) fun a => match a with | ⟨0, _⟩ => rfl | ⟨1, _⟩ => (Nat.zero_add _).symm
theorem ld18_apply (X : FVec Ideal S512x128 .f32) (d : Fin 64) (l : Fin 128) :
    View.ld (Val := Elt Ideal) (e' := .f32) X r0_18 (ix2 d l : S64x128.Idx) = X (ix2 (hrow 5 d) l) :=
  View.ld_unit_apply_of (Val := Elt Ideal) (e := .f32) (S := S512x128) X ![320, 0] S64x128.size inb_S512x128_S64x128_320_0 (ix2 d l : S64x128.Idx)
    (ix2 (hrow 5 d) l) fun a => match a with | ⟨0, _⟩ => rfl | ⟨1, _⟩ => (Nat.zero_add _).symm
theorem ld21_apply (X : FVec Ideal S512x128 .f32) (d : Fin 64) (l : Fin 128) :
    View.ld (Val := Elt Ideal) (e' := .f32) X r0_21 (ix2 d l : S64x128.Idx) = X (ix2 (hrow 6 d) l) :=
  View.ld_unit_apply_of (Val := Elt Ideal) (e := .f32) (S := S512x128) X ![384, 0] S64x128.size inb_S512x128_S64x128_384_0 (ix2 d l : S64x128.Idx)
    (ix2 (hrow 6 d) l) fun a => match a with | ⟨0, _⟩ => rfl | ⟨1, _⟩ => (Nat.zero_add _).symm
theorem ld24_apply (X : FVec Ideal S512x128 .f32) (d : Fin 64) (l : Fin 128) :
    View.ld (Val := Elt Ideal) (e' := .f32) X r0_24 (ix2 d l : S64x128.Idx) = X (ix2 (hrow 7 d) l) :=
  View.ld_unit_apply_of (Val := Elt Ideal) (e := .f32) (S := S512x128) X ![448, 0] S64x128.size inb_S512x128_S64x128_448_0 (ix2 d l : S64x128.Idx)
    (ix2 (hrow 7 d) l) fun a => match a with | ⟨0, _⟩ => rfl | ⟨1, _⟩ => (Nat.zero_add _).symm

theorem ld0_eq (X : FVec Ideal S512x4096 .bf16) : View.ld (Val := Elt Ideal) (e' := .bf16) X r0_0 = X :=
  funext fun i => View.ld_unit_apply_of (Val := Elt Ideal) (e := .bf16) (S := S512x4096) X ![0, 0] S512x4096.size inb_S512x4096_S512x4096_0_0 i i
    fun a => match a with | ⟨0, _⟩ => (Nat.zero_add _).symm | ⟨1, _⟩ => (Nat.zero_add _).symm
theorem ld1_eq (X : FVec Ideal S4096x768 .bf16) : View.ld (Val := Elt Ideal) (e' := .bf16) X r0_1 = X :=
  funext fun i => View.ld_unit_apply_of (Val := Elt Ideal) (e := .bf16) (S := S4096x768) X ![0, 0] S4096x768.size inb_S4096x768_S4096x768_0_0 i i
    fun a => match a with | ⟨0, _⟩ => (Nat.zero_add _).symm | ⟨1, _⟩ => (Nat.zero_add _).symm
theorem ld2_eq (X : FVec Ideal S32x768 .f32) : View.ld (Val := Elt Ideal) (e' := .f32) X r0_2 = X :=
  funext fun i => View.ld_unit_apply_of (Val := Elt Ideal) (e := .f32) (S := S32x768) X ![0, 0] S32x768.size inb_S32x768_S32x768_0_0 i i
    fun a => match a with | ⟨0, _⟩ => (Nat.zero_add _).symm | ⟨1, _⟩ => (Nat.zero_add _).symm

/-- The block at an index is any value that the head and half holding the index gives it. -/
theorem block_apply (x0 : FVec Ideal S512x4096 .bf16) (x1 : FVec Ideal S4096x768 .bf16) (x2 : FVec Ideal S512x128 .f32) (x3 x4 : FVec Ideal S32x768 .f32)
    (G : Fin 512 → EReal) (hG : ∀ a l, x2 (ix2 a l) = G a) (a : Fin 512) (b : Fin 768) (w : EReal)
    (Hlo : ∀ r u, a = hrow r (lo u) → turnLo (hval (fun a => k0_pay6 (F := Ideal) x0 x1 (ix2 a b)) G r) (x3 (ix2 u b)) (x4 (ix2 u b)) u = w)
    (Hhi : ∀ r u, a = hrow r (hi u) → turnHi (hval (fun a => k0_pay6 (F := Ideal) x0 x1 (ix2 a b)) G r) (x3 (ix2 u b)) (x4 (ix2 u b)) u = w) :
    out0_5 (F := Ideal) x0 x1 x2 x3 x4 (ix2 a b) = w := by
  unfold out0_5 k0_pay58 k0_pay57 k0_pay56 k0_pay55 k0_pay54 k0_pay53 k0_pay52 k0_pay51
  rw [ld0_eq, ld1_eq, ld2_eq, ld2_eq]
  refine View.canon_eq_of_allAt _ _ _ (cover0_5 (F := Ideal) _ _ _ _ _ _ _ _ _ _ _ _ _ _ _ _ _) ?_
  refine View.allAt_cons_unit _ _ _ _ _ ?_ ?_
  · intro x hx
    obtain ⟨u, b', rfl⟩ : ∃ (u : Fin 32) (b' : Fin 768), x = ix2 u b' := ⟨x 0, x 1, eq_ix2 x⟩
    have h0 : a.val = 480 + u.val := hx 0
    obtain rfl : b = b' := Fin.ext ((hx 1).trans (Nat.zero_add _))
    refine (pay5_apply _ _ _ _ _ _).trans ?_
    rw [show (fun d => _) = hval (fun a => k0_pay6 (F := Ideal) x0 x1 (ix2 a b)) G 7 from funext fun d => pay50_apply _ _ G (fun d l => (ld24_apply x2 d l).trans (hG _ _)) d b]
    exact Hhi 7 u (Fin.ext (h0.trans (by simp [hrow, hi]; try omega)))
  refine View.allAt_cons_unit _ _ _ _ _ ?_ ?_
  · intro x hx
    obtain ⟨u, b', rfl⟩ : ∃ (u : Fin 32) (b' : Fin 768), x = ix2 u b' := ⟨x 0, x 1, eq_ix2 x⟩
    have h0 : a.val = 448 + u.val := hx 0
    obtain rfl : b = b' := Fin.ext ((hx 1).trans (Nat.zero_add _))
    refine (pay4_apply _ _ _ _ _ _).trans ?_
    rw [show (fun d => _) = hval (fun a => k0_pay6 (F := Ideal) x0 x1 (ix2 a b)) G 7 from funext fun d => pay50_apply _ _ G (fun d l => (ld24_apply x2 d l).trans (hG _ _)) d b]
    exact Hlo 7 u (Fin.ext (h0.trans (by simp [hrow, lo]; try omega)))
  refine View.allAt_cons_unit _ _ _ _ _ ?_ ?_
  · intro x hx
    obtain ⟨u, b', rfl⟩ : ∃ (u : Fin 32) (b' : Fin 768), x = ix2 u b' := ⟨x 0, x 1, eq_ix2 x⟩
    have h0 : a.val = 416 + u.val := hx 0
    obtain rfl : b = b' := Fin.ext ((hx 1).trans (Nat.zero_add _))
    refine (pay49_apply _ _ _ _ _ _).trans ?_
    rw [show (fun d => _) = hval (fun a => k0_pay6 (F := Ideal) x0 x1 (ix2 a b)) G 6 from funext fun d => pay45_apply _ _ G (fun d l => (ld21_apply x2 d l).trans (hG _ _)) d b]
    exact Hhi 6 u (Fin.ext (h0.trans (by simp [hrow, hi]; try omega)))
  refine View.allAt_cons_unit _ _ _ _ _ ?_ ?_
  · intro x hx
    obtain ⟨u, b', rfl⟩ : ∃ (u : Fin 32) (b' : Fin 768), x = ix2 u b' := ⟨x 0, x 1, eq_ix2 x⟩
    have h0 : a.val = 384 + u.val := hx 0
    obtain rfl : b = b' := Fin.ext ((hx 1).trans (Nat.zero_add _))
    refine (pay48_apply _ _ _ _ _ _).trans ?_
    rw [show (fun d => _) = hval (fun a => k0_pay6 (F := Ideal) x0 x1 (ix2 a b)) G 6 from funext fun d => pay45_apply _ _ G (fun d l => (ld21_apply x2 d l).trans (hG _ _)) d b]
    exact Hlo 6 u (Fin.ext (h0.trans (by simp [hrow, lo]; try omega)))
  refine View.allAt_cons_unit _ _ _ _ _ ?_ ?_
  · intro x hx
    obtain ⟨u, b', rfl⟩ : ∃ (u : Fin 32) (b' : Fin 768), x = ix2 u b' := ⟨x 0, x 1, eq_ix2 x⟩
    have h0 : a.val = 352 + u.val := hx 0
    obtain rfl : b = b' := Fin.ext ((hx 1).trans (Nat.zero_add _))
    refine (pay44_apply _ _ _ _ _ _).trans ?_
    rw [show (fun d => _) = hval (fun a => k0_pay6 (F := Ideal) x0 x1 (ix2 a b)) G 5 from funext fun d => pay40_apply _ _ G (fun d l => (ld18_apply x2 d l).trans (hG _ _)) d b]
    exact Hhi 5 u (Fin.ext (h0.trans (by simp [hrow, hi]; try omega)))
  refine View.allAt_cons_unit _ _ _ _ _ ?_ ?_
  · intro x hx
    obtain ⟨u, b', rfl⟩ : ∃ (u : Fin 32) (b' : Fin 768), x = ix2 u b' := ⟨x 0, x 1, eq_ix2 x⟩
    have h0 : a.val = 320 + u.val := hx 0
    obtain rfl : b = b' := Fin.ext ((hx 1).trans (Nat.zero_add _))
    refine (pay43_apply _ _ _ _ _ _).trans ?_
    rw [show (fun d => _) = hval (fun a => k0_pay6 (F := Ideal) x0 x1 (ix2 a b)) G 5 from funext fun d => pay40_apply _ _ G (fun d l => (ld18_apply x2 d l).trans (hG _ _)) d b]
    exact Hlo 5 u (Fin.ext (h0.trans (by simp [hrow, lo]; try omega)))
  refine View.allAt_cons_unit _ _ _ _ _ ?_ ?_
  · intro x hx
    obtain ⟨u, b', rfl⟩ : ∃ (u : Fin 32) (b' : Fin 768), x = ix2 u b' := ⟨x 0, x 1, eq_ix2 x⟩
    have h0 : a.val = 288 + u.val := hx 0
    obtain rfl : b = b' := Fin.ext ((hx 1).trans (Nat.zero_add _))
    refine (pay39_apply _ _ _ _ _ _ _).trans ?_
    rw [show (fun d => _) = hval (fun a => k0_pay6 (F := Ideal) x0 x1 (ix2 a b)) G 4 from funext fun d => pay35_apply _ _ G (fun d l => (ld15_apply x2 d l).trans (hG _ _)) d b]
    exact Hhi 4 u (Fin.ext (h0.trans (by simp [hrow, hi]; try omega)))
  refine View.allAt_cons_unit _ _ _ _ _ ?_ ?_
  · intro x hx
    obtain ⟨u, b', rfl⟩ : ∃ (u : Fin 32) (b' : Fin 768), x = ix2 u b' := ⟨x 0, x 1, eq_ix2 x⟩
    have h0 : a.val = 256 + u.val := hx 0
    obtain rfl : b = b' := Fin.ext ((hx 1).trans (Nat.zero_add _))
    refine (pay38_apply _ _ _ _ _ _ _).trans ?_
    rw [show (fun d => _) = hval (fun a => k0_pay6 (F := Ideal) x0 x1 (ix2 a b)) G 4 from funext fun d => pay35_apply _ _ G (fun d l => (ld15_apply x2 d l).trans (hG _ _)) d b]
    exact Hlo 4 u (Fin.ext (h0.trans (by simp [hrow, lo]; try omega)))
  refine View.allAt_cons_unit _ _ _ _ _ ?_ ?_
  · intro x hx
    obtain ⟨u, b', rfl⟩ : ∃ (u : Fin 32) (b' : Fin 768), x = ix2 u b' := ⟨x 0, x 1, eq_ix2 x⟩
    have h0 : a.val = 224 + u.val := hx 0
    obtain rfl : b = b' := Fin.ext ((hx 1).trans (Nat.zero_add _))
    refine (pay32_apply _ _ _ _ _ _).trans ?_
    rw [show (fun d => _) = hval (fun a => k0_pay6 (F := Ideal) x0 x1 (ix2 a b)) G 3 from funext fun d => pay28_apply _ _ G (fun d l => (ld12_apply x2 d l).trans (hG _ _)) d b]
    exact Hhi 3 u (Fin.ext (h0.trans (by simp [hrow, hi]; try omega)))
  refine View.allAt_cons_unit _ _ _ _ _ ?_ ?_
  · intro x hx
    obtain ⟨u, b', rfl⟩ : ∃ (u : Fin 32) (b' : Fin 768), x = ix2 u b' := ⟨x 0, x 1, eq_ix2 x⟩
    have h0 : a.val = 192 + u.val := hx 0
    obtain rfl : b = b' := Fin.ext ((hx 1).trans (Nat.zero_add _))
    refine (pay31_apply _ _ _ _ _ _).trans ?_
    rw [show (fun d => _) = hval (fun a => k0_pay6 (F := Ideal) x0 x1 (ix2 a b)) G 3 from funext fun d => pay28_apply _ _ G (fun d l => (ld12_apply x2 d l).trans (hG _ _)) d b]
    exact Hlo 3 u (Fin.ext (h0.trans (by simp [hrow, lo]; try omega)))
  refine View.allAt_cons_unit _ _ _ _ _ ?_ ?_
  · intro x hx
    obtain ⟨u, b', rfl⟩ : ∃ (u : Fin 32) (b' : Fin 768), x = ix2 u b' := ⟨x 0, x 1, eq_ix2 x⟩
    have h0 : a.val = 160 + u.val := hx 0
    obtain rfl : b = b' := Fin.ext ((hx 1).trans (Nat.zero_add _))
    refine (pay27_apply _ _ _ _ _ _).trans ?_
    rw [show (fun d => _) = hval (fun a => k0_pay6 (F := Ideal) x0 x1 (ix2 a b)) G 2 from funext fun d => pay21_apply _ _ G (fun d l => (ld9_apply x2 d l).trans (hG _ _)) d b]
    exact Hhi 2 u (Fin.ext (h0.trans (by simp [hrow, hi]; try omega)))
  refine View.allAt_cons_unit _ _ _ _ _ ?_ ?_
  · intro x hx
    obtain ⟨u, b', rfl⟩ : ∃ (u : Fin 32) (b' : Fin 768), x = ix2 u b' := ⟨x 0, x 1, eq_ix2 x⟩
    have h0 : a.val = 128 + u.val := hx 0
    obtain rfl : b = b' := Fin.ext ((hx 1).trans (Nat.zero_add _))
    refine (pay26_apply _ _ _ _ _ _).trans ?_
    rw [show (fun d => _) = hval (fun a => k0_pay6 (F := Ideal) x0 x1 (ix2 a b)) G 2 from funext fun d => pay21_apply _ _ G (fun d l => (ld9_apply x2 d l).trans (hG _ _)) d b]
    exact Hlo 2 u (Fin.ext (h0.trans (by simp [hrow, lo]; try omega)))
  refine View.allAt_cons_unit _ _ _ _ _ ?_ ?_
  · intro x hx
    obtain ⟨u, b', rfl⟩ : ∃ (u : Fin 32) (b' : Fin 768), x = ix2 u b' := ⟨x 0, x 1, eq_ix2 x⟩
    have h0 : a.val = 96 + u.val := hx 0
    obtain rfl : b = b' := Fin.ext ((hx 1).trans (Nat.zero_add _))
    refine (pay20_apply _ _ _ _ _ _ _).trans ?_
    rw [show (fun d => _) = hval (fun a => k0_pay6 (F := Ideal) x0 x1 (ix2 a b)) G 1 from funext fun d => pay16_apply x0 x1 _ G (fun d l => (ld6_apply x2 d l).trans (hG _ _)) d b]
    exact Hhi 1 u (Fin.ext (h0.trans (by simp [hrow, hi]; try omega)))
  refine View.allAt_cons_unit _ _ _ _ _ ?_ ?_
  · intro x hx
    obtain ⟨u, b', rfl⟩ : ∃ (u : Fin 32) (b' : Fin 768), x = ix2 u b' := ⟨x 0, x 1, eq_ix2 x⟩
    have h0 : a.val = 64 + u.val := hx 0
    obtain rfl : b = b' := Fin.ext ((hx 1).trans (Nat.zero_add _))
    refine (pay19_apply _ _ _ _ _ _ _).trans ?_
    rw [show (fun d => _) = hval (fun a => k0_pay6 (F := Ideal) x0 x1 (ix2 a b)) G 1 from funext fun d => pay16_apply x0 x1 _ G (fun d l => (ld6_apply x2 d l).trans (hG _ _)) d b]
    exact Hlo 1 u (Fin.ext (h0.trans (by simp [hrow, lo]; try omega)))
  refine View.allAt_cons_unit _ _ _ _ _ ?_ ?_
  · intro x hx
    obtain ⟨u, b', rfl⟩ : ∃ (u : Fin 32) (b' : Fin 768), x = ix2 u b' := ⟨x 0, x 1, eq_ix2 x⟩
    have h0 : a.val = 32 + u.val := hx 0
    obtain rfl : b = b' := Fin.ext ((hx 1).trans (Nat.zero_add _))
    refine (pay13_apply _ _ _ _ _ _ _).trans ?_
    rw [show (fun d => _) = hval (fun a => k0_pay6 (F := Ideal) x0 x1 (ix2 a b)) G 0 from funext fun d => pay9_apply x0 x1 _ G (fun d l => (ld3_apply x2 d l).trans (hG _ _)) d b]
    exact Hhi 0 u (Fin.ext (h0.trans (by simp [hrow, hi]; try omega)))
  refine View.allAt_cons_unit _ _ _ _ _ ?_ ?_
  · intro x hx
    obtain ⟨u, b', rfl⟩ : ∃ (u : Fin 32) (b' : Fin 768), x = ix2 u b' := ⟨x 0, x 1, eq_ix2 x⟩
    have h0 : a.val = 0 + u.val := hx 0
    obtain rfl : b = b' := Fin.ext ((hx 1).trans (Nat.zero_add _))
    refine (pay12_apply _ _ _ _ _ _ _).trans ?_
    rw [show (fun d => _) = hval (fun a => k0_pay6 (F := Ideal) x0 x1 (ix2 a b)) G 0 from funext fun d => pay9_apply x0 x1 _ G (fun d l => (ld3_apply x2 d l).trans (hG _ _)) d b]
    exact Hlo 0 u (Fin.ext (h0.trans (by simp [hrow, lo]; try omega)))
  exact View.allAt_nil _ _

end Cert.WinQIdeal.Hand
-- ==== Proof.Calls.WinQHost.lean ====
module

public import proofs.«01_k».proof.Defs
public import proofs.«01_k».proof.Proof.Gen.WinQIdeal.Value
public import proofs.«01_k».proof.Proof.Calls.WinQRef
public import Idealize.ShloMosaic.Lib.Pipeline.ValueKit
public import Idealize.ShloMosaic.Lib.Pipeline.Covers

/-! The arrays the projection onto the queries of the windowed attention reads: the weight's columns and the norm's weights with the features of each
head put in the order (half, axis, frequency), and the cosines and sines with the tokens last. -/

@[expose] public section

set_option maxRecDepth 16384

set_option maxHeartbeats 1000000

noncomputable section

namespace Cert.WinQIdeal.Hand

open Idealize.ShloMosaic Idealize.ShloMosaic.TcCoe Idealize.ShloMosaic.Tactic Idealize.ShloMosaic.StableHlo Cert.WinQIdeal.Gen
open Idealize.ShloMosaic.Pipeline Idealize.SL.Sem
open Cert.WinQRefIdeal.Hand (qcol qrow)

variable (m : (ℓ : Loc nD τ sig) → Buf (Elt Ideal) ℓ)

/-- The hidden states, as the program is given them. -/
def argH (c : Dev nD) : FVec Ideal S16896x4096 .f32 := m ((c.tc : Thread nD τ).loc main_arg0)
/-- The weight, as the program is given it. -/
def argW (c : Dev nD) : FVec Ideal S4096x5120 .f32 := m ((c.tc : Thread nD τ).loc main_arg1)
/-- The norm's weights, as the program is given them. -/
def argN (c : Dev nD) : FVec Ideal S64 .f32 := m ((c.tc : Thread nD τ).loc main_arg2)
/-- The cosines, as the program is given them. -/
def argC (c : Dev nD) : FVec Ideal S16896x2x16 .f32 := m ((c.tc : Thread nD τ).loc main_arg3)
/-- The sines, as the program is given them. -/
def argS (c : Dev nD) : FVec Ideal S16896x2x16 .f32 := m ((c.tc : Thread nD τ).loc main_arg4)

/-- The table of the features' order, as the program computes it. -/
def table : IVec S64x1 32 :=
  broadcastInDim S64x1 ![0] bcast_S64_S64x1_0 (select (constantI S64 1 0#1)
    (addi (fun i => lit0 (S64.rowMajor i)) (broadcastInDim S64 ![] bcast_S_S64 (constantI S_ 32 64#32)))
    (fun i => lit0 (S64.rowMajor i)))

/-- The transposed weight, a head's features in the table's order. -/
def warr (W : FVec Ideal S4096x5120 .f32) : FVec Ideal S4096x4096 .f32 :=
  shapeCast S4096x4096 (Host.gather gather_S64x64x4096_S64x1_S64x64x4096_02_1_n_n_1_1_6414096
    (shapeCast S64x64x4096 (transpose S4096x4096 [1, 0] (extractStridedSlice S4096x4096 ![0, 0] W slices_S4096x5120_S4096x4096_0_0)
      transposes_S4096x4096_S4096x4096_1_0) shapeCasts_S4096x4096_S64x64x4096) table) shapeCasts_S64x64x4096_S4096x4096

/-- The norm's weights in the table's order, once for each head. -/
def narr (N : FVec Ideal S64 .f32) : FVec Ideal S4096 .f32 :=
  shapeCast S4096 (broadcastInDim S64x64 ![0, 1] bcast_S1x64_S64x64_0_1
    (shapeCast S1x64 (Host.gather gather_S64_S64x1_S64_n_0_n_n_0_1_1 N table) shapeCasts_S64_S1x64)) shapeCasts_S64x64_S4096

theorem V_w (c : Dev nD) : V m c main_v11 = truncf .bf16 (warr (argW m c)) bitsLt_bf16_f32 := by
  unfold_abbrev_sides
  simp only [hostOps0]
  after_results_simp
  rfl
theorem V_h (c : Dev nD) : V m c main_v2 = truncf .bf16 (transpose S4096x16896 [1, 0] (argH m c) transposes_S16896x4096_S4096x16896_1_0) bitsLt_bf16_f32 := by
  unfold_abbrev_sides
  simp only [hostOps0]
  after_results_simp
  rfl
theorem V_n (c : Dev nD) : V m c main_v25 = broadcastInDim S4096x128 ![0, 1] bcast_S4096x1_S4096x128_0_1
    (broadcastInDim S4096x1 ![0] bcast_S4096_S4096x1_0 (narr (argN m c))) := by
  unfold_abbrev_sides
  simp only [hostOps0]
  after_results_simp
  rfl
theorem V_c (c : Dev nD) : V m c main_v13 = transpose S32x16896 [1, 0] (shapeCast S16896x32 (argC m c) shapeCasts_S16896x2x16_S16896x32) transposes_S16896x32_S32x16896_1_0 := by
  unfold_abbrev_sides
  simp only [hostOps0]
  after_results_simp
  rfl
theorem V_s (c : Dev nD) : V m c main_v15 = transpose S32x16896 [1, 0] (shapeCast S16896x32 (argS m c) shapeCasts_S16896x2x16_S16896x32) transposes_S16896x32_S32x16896_1_0 := by
  unfold_abbrev_sides
  simp only [hostOps0]
  after_results_simp
  rfl

/-! ## The table -/

/-- The plain feature a head's feature in the order (half, axis, frequency) comes from. -/
def src (d : Fin 64) : Fin 64 := ⟨32 * (d.val % 32 / 16) + 16 * (d.val / 32) + d.val % 16, by omega⟩

theorem table_apply (q : Fin 64) : table (ix2 q (0 : Fin 1)) = lit0 q := by
  have e : S64.rowMajor (ix1 q) = q := Fin.ext (Shape.rowMajor_val_one _)
  unfold table
  rw [broadcastInDim_apply _ bcast_S64_S64x1_0 _ (ix2 q (0 : Fin 1)) (ix1 q) (fun a => match a with | ⟨0, _⟩ => rfl)]
  change lit0 (S64.rowMajor (ix1 q)) = _
  rw [e]

theorem lit0_src : ∀ q : Fin 64, min (lit0 q).toInt.toNat 63 = (src q).val := by decide +kernel

theorem gather_w (x : FVec Ideal S64x64x4096 .f32) (p : Fin 64) (q : Fin 64) (k : Fin 4096) :
    Host.gather gather_S64x64x4096_S64x1_S64x64x4096_02_1_n_n_1_1_6414096 x table (ix3 p q k) = x (ix3 p (src q) k) := by
  unfold Host.gather
  congr 1
  funext a
  refine Fin.ext ?_
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · show GatherDims.start _ _ _ _ + GatherDims.batchCoord _ _ _ + GatherDims.offCoord _ _ _ = p.val
    rw [GatherDims.batchCoord_eq_zero _ _ _ List.not_mem_nil]
    unfold GatherDims.start GatherDims.offCoord
    rw [dif_neg (show (0 : Fin 3) ∉ gather_S64x64x4096_S64x1_S64x64x4096_02_1_n_n_1_1_6414096.startIndexMap from (show (0 : Fin 3) ∉ ([1] : List (Fin 3)) by decide)),
      dif_pos ((GatherDims.mem_sKept _ _).mpr ⟨(show (0 : Fin 3) ∉ ([1] : List (Fin 3)) by decide), List.not_mem_nil⟩)]
    exact (Nat.zero_add _)
  · show GatherDims.start _ _ _ _ + GatherDims.batchCoord _ _ _ + GatherDims.offCoord _ _ _ = (src q).val
    rw [GatherDims.batchCoord_eq_zero _ _ _ List.not_mem_nil,
      GatherDims.offCoord_eq_zero _ _ _ (fun h => ((GatherDims.mem_sKept _ _).mp h).1 (List.mem_singleton.mpr rfl)), ← lit0_src, ← table_apply]
    unfold GatherDims.start
    rw [dif_pos (show (1 : Fin 3) ∈ gather_S64x64x4096_S64x1_S64x64x4096_02_1_n_n_1_1_6414096.startIndexMap from List.mem_singleton.mpr rfl)]
    show min (table _).toInt.toNat 63 = _
    congr 4
    funext b; refine Fin.ext ?_
    match b with
    | ⟨0, _⟩ => rfl
    | ⟨1, _⟩ => rfl
  · show GatherDims.start _ _ _ _ + GatherDims.batchCoord _ _ _ + GatherDims.offCoord _ _ _ = k.val
    rw [GatherDims.batchCoord_eq_zero _ _ _ List.not_mem_nil]
    unfold GatherDims.start GatherDims.offCoord
    rw [dif_neg (show (2 : Fin 3) ∉ gather_S64x64x4096_S64x1_S64x64x4096_02_1_n_n_1_1_6414096.startIndexMap from (show (2 : Fin 3) ∉ ([1] : List (Fin 3)) by decide)),
      dif_pos ((GatherDims.mem_sKept _ _).mpr ⟨(show (2 : Fin 3) ∉ ([1] : List (Fin 3)) by decide), List.not_mem_nil⟩)]
    exact (Nat.zero_add _)

theorem gather_n (x : FVec Ideal S64 .f32) (q : Fin 64) :
    Host.gather gather_S64_S64x1_S64_n_0_n_n_0_1_1 x table (ix1 q) = x (ix1 (src q)) := by
  unfold Host.gather
  congr 1
  funext a
  obtain rfl : a = 0 := Subsingleton.elim _ _
  refine Fin.ext ?_
  · show GatherDims.start _ _ _ _ + GatherDims.batchCoord _ _ _ + GatherDims.offCoord _ _ _ = (src q).val
    rw [GatherDims.batchCoord_eq_zero _ _ _ List.not_mem_nil,
      GatherDims.offCoord_eq_zero _ _ _ (fun h => ((GatherDims.mem_sKept _ _).mp h).1 (List.mem_singleton.mpr rfl)), ← lit0_src, ← table_apply]
    unfold GatherDims.start
    rw [dif_pos (show (0 : Fin 1) ∈ gather_S64_S64x1_S64_n_0_n_n_0_1_1.startIndexMap from List.mem_singleton.mpr rfl)]
    show min (table _).toInt.toNat 63 = _
    congr 4
    funext b; refine Fin.ext ?_
    match b with
    | ⟨0, _⟩ => rfl
    | ⟨1, _⟩ => rfl

/-! ## The arrays at an index -/

theorem w_apply (W : FVec Ideal S4096x5120 .f32) (H : Fin 64) (d : Fin 64) (k : Fin 4096) :
    truncf .bf16 (warr W) bitsLt_bf16_f32 (ix2 (qrow H d) k) = W (ix2 k (qcol H (src d))) := by
  change warr W (ix2 (qrow H d) k) = _
  unfold warr
  rw [shapeCast_apply _ shapeCasts_S64x64x4096_S4096x4096 (ix2 (qrow H d) k) (ix3 H d k)
      (by rewrite [Shape.rowMajor_val_two, Shape.rowMajor_val_three]; show (H.val * 64 + d.val) * 4096 + k.val = (64 * H.val + d.val) * 4096 + k.val; omega),
    gather_w, shapeCast_apply _ shapeCasts_S4096x4096_S64x64x4096 (ix3 H (src d) k) (ix2 (qrow H (src d)) k)
      (by rewrite [Shape.rowMajor_val_two, Shape.rowMajor_val_three]; show (64 * H.val + (src d).val) * 4096 + k.val = (H.val * 64 + (src d).val) * 4096 + k.val; omega)]
  generalize src d = d'
  unfold qrow qcol
  pointwise []

theorem h_apply (A : FVec Ideal S16896x4096 .f32) (k : Fin 4096) (n : Fin 16896) :
    (truncf .bf16 (transpose S4096x16896 [1, 0] A transposes_S16896x4096_S4096x16896_1_0) bitsLt_bf16_f32) (ix2 k n) = A (ix2 n k) := by
  pointwise []

theorem n_apply (N : FVec Ideal S64 .f32) (H : Fin 64) (d : Fin 64) (l : Fin 128) :
    (broadcastInDim S4096x128 ![0, 1] bcast_S4096x1_S4096x128_0_1 (broadcastInDim S4096x1 ![0] bcast_S4096_S4096x1_0 (narr N))) (ix2 (qrow H d) l)
      = N (ix1 (src d)) := by
  rw [broadcastInDim_apply _ bcast_S4096x1_S4096x128_0_1 _ (ix2 (qrow H d) l) (ix2 (qrow H d) (0 : Fin 1)) (fun a => match a with | ⟨0, _⟩ => rfl | ⟨1, _⟩ => rfl),
    broadcastInDim_apply _ bcast_S4096_S4096x1_0 _ (ix2 (qrow H d) (0 : Fin 1)) (ix1 (qrow H d)) (fun a => match a with | ⟨0, _⟩ => rfl)]
  unfold narr
  rw [shapeCast_apply _ shapeCasts_S64x64_S4096 (ix1 (qrow H d)) (ix2 H d)
      (by rewrite [Shape.rowMajor_val_two, Shape.rowMajor_val_one]; show H.val * 64 + d.val = 64 * H.val + d.val; omega),
    broadcastInDim_apply _ bcast_S1x64_S64x64_0_1 _ (ix2 H d) (ix2 (0 : Fin 1) d) (fun a => match a with | ⟨0, _⟩ => rfl | ⟨1, _⟩ => rfl),
    shapeCast_apply _ shapeCasts_S64_S1x64 (ix2 (0 : Fin 1) d) (ix1 d)
      (by rewrite [Shape.rowMajor_val_two, Shape.rowMajor_val_one]; show d.val = 0 * 64 + d.val; omega), gather_n]

/-- The axis of a feature of a half. -/
def axis (u : Fin 32) : Fin 2 := ⟨u.val / 16, by omega⟩
/-- The frequency of a feature of a half. -/
def freq (u : Fin 32) : Fin 16 := ⟨u.val % 16, by omega⟩

theorem angle_apply (C : FVec Ideal S16896x2x16 .f32) (u : Fin 32) (n : Fin 16896) :
    (transpose S32x16896 [1, 0] (shapeCast S16896x32 C shapeCasts_S16896x2x16_S16896x32) transposes_S16896x32_S32x16896_1_0) (ix2 u n)
      = C (ix3 n (axis u) (freq u)) := by
  rw [← shapeCast_apply C shapeCasts_S16896x2x16_S16896x32 (ix2 n u) (ix3 n (axis u) (freq u))
      (by rewrite [Shape.rowMajor_val_two, Shape.rowMajor_val_three]; show (n.val * 2 + u.val / 16) * 16 + u.val % 16 = n.val * 32 + u.val; omega)]
  generalize shapeCast S16896x32 C shapeCasts_S16896x2x16_S16896x32 = y
  pointwise []

end Cert.WinQIdeal.Hand
-- ==== Proof.Calls.WinQ.lean ====
module

public import proofs.«01_k».proof.Defs
public import proofs.«01_k».proof.Proof.Gen.WinQIdeal.Value
public import proofs.«01_k».proof.Proof.Calls.WinQRef
public import proofs.«01_k».proof.Proof.Calls.WinQBlock
public import proofs.«01_k».proof.Proof.Calls.WinQHost
public import Idealize.ShloMosaic.Lib.Pipeline.ValueKit
public import Idealize.ShloMosaic.Lib.Pipeline.Covers

/-! The projection of the hidden states onto the queries of the windowed attention: point `(i, j)` of the grid makes eight
heads for 768 tokens, and the blocks together are those of the mathematics, the features of each head in the order
(half, axis, frequency) and the tokens last. A head's mean square does not depend on the order of its features. -/

@[expose] public section

set_option maxRecDepth 16384

set_option maxHeartbeats 1000000

noncomputable section

namespace Cert.WinQIdeal.Hand

open Idealize.ShloMosaic Idealize.ShloMosaic.TcCoe Idealize.ShloMosaic.Tactic Idealize.ShloMosaic.StableHlo Cert.WinQIdeal.Gen
open Idealize.ShloMosaic.Pipeline Idealize.SL.Sem
open Cert.WinQRefIdeal.Hand (qcol qrow query normed feat ref_lo ref_hi)

variable (m : (ℓ : Loc nD τ sig) → Buf (Elt Ideal) ℓ)

/-- The block of tokens of a grid point. -/
def cb (t : Fin cfg0.N) : Fin 22 := grid0.coords t 0

/-- The block of features of a grid point. -/
def rb (t : Fin cfg0.N) : Fin 8 := grid0.coords t 1

/-- The result's row at a row of a point's block. -/
def row (t : Fin cfg0.N) (a : Fin 512) : Fin 4096 := ⟨512 * (rb t).val + a.val, by have := (rb t).isLt; omega⟩

/-- The result's column at a column of a point's block. -/
def col (t : Fin cfg0.N) (b : Fin 768) : Fin 16896 := ⟨768 * (cb t).val + b.val, by have := (cb t).isLt; omega⟩

/-- The head that is a block's `r`-th. -/
def headOf (t : Fin cfg0.N) (r : Fin 8) : Fin 64 := ⟨8 * (rb t).val + r.val, by have := (rb t).isLt; omega⟩

theorem row_hrow (t : Fin cfg0.N) (r : Fin 8) (d : Fin 64) : row t (hrow r d) = qrow (headOf t r) d :=
  Fin.ext (by show 512 * (rb t).val + (64 * r.val + d.val) = 64 * (8 * (rb t).val + r.val) + d.val; omega)

/-! ## The blocks a grid point reads -/

theorem index_w : ∀ t : Fin cfg0.N, win0_0.index t = ![(rb t).val, 0] := (by decide +kernel : ∀ t : Fin grid0.N, _)
theorem index_h : ∀ t : Fin cfg0.N, win0_1.index t = ![0, (cb t).val] := (by decide +kernel : ∀ t : Fin grid0.N, _)
theorem index_n : ∀ t : Fin cfg0.N, win0_2.index t = ![(rb t).val, 0] := (by decide +kernel : ∀ t : Fin grid0.N, _)
theorem index_c : ∀ t : Fin cfg0.N, win0_3.index t = ![0, (cb t).val] := (by decide +kernel : ∀ t : Fin grid0.N, _)
theorem index_s : ∀ t : Fin cfg0.N, win0_4.index t = ![0, (cb t).val] := (by decide +kernel : ∀ t : Fin grid0.N, _)
theorem index_out : ∀ t : Fin cfg0.N, win0_5.index t = ![(rb t).val, (cb t).val] := (by decide +kernel : ∀ t : Fin grid0.N, _)

theorem place_w (t : Fin cfg0.N) (a : Fin 512) (k : Fin 4096) :
    ((cfg0.win 0).blk t).view.emb (ix2 a k) = (ix2 (row t a) k : S4096x4096.Idx) := by
  unfold row
  blk_ext [index_w t]
theorem place_h (t : Fin cfg0.N) (k : Fin 4096) (b : Fin 768) :
    ((cfg0.win 1).blk t).view.emb (ix2 k b) = (ix2 k (col t b) : S4096x16896.Idx) := by
  unfold col
  blk_ext [index_h t]
theorem place_n (t : Fin cfg0.N) (a : Fin 512) (l : Fin 128) :
    ((cfg0.win 2).blk t).view.emb (ix2 a l) = (ix2 (row t a) l : S4096x128.Idx) := by
  unfold row
  blk_ext [index_n t]
theorem place_c (t : Fin cfg0.N) (u : Fin 32) (b : Fin 768) :
    ((cfg0.win 3).blk t).view.emb (ix2 u b) = (ix2 u (col t b) : S32x16896.Idx) := by
  unfold col
  blk_ext [index_c t]
theorem place_s (t : Fin cfg0.N) (u : Fin 32) (b : Fin 768) :
    ((cfg0.win 4).blk t).view.emb (ix2 u b) = (ix2 u (col t b) : S32x16896.Idx) := by
  unfold col
  blk_ext [index_s t]
theorem place_out (t : Fin cfg0.N) (a : Fin 512) (b : Fin 768) :
    ((cfg0.win 5).blk t).view.emb (ix2 a b) = (ix2 (row t a) (col t b) : S4096x16896.Idx) := by
  unfold row col
  blk_ext [index_out t]

theorem read_w (A : FVec Ideal S4096x4096 .bf16) (t : Fin cfg0.N) (a : Fin 512) (k : Fin 4096) :
    ((cfg0.win 0).blk t).view.read (Elt Ideal) A (ix2 a k) = A (ix2 (row t a) k) := by
  change A (((cfg0.win 0).blk t).view.emb _) = _
  rw [place_w]
theorem read_h (A : FVec Ideal S4096x16896 .bf16) (t : Fin cfg0.N) (k : Fin 4096) (b : Fin 768) :
    ((cfg0.win 1).blk t).view.read (Elt Ideal) A (ix2 k b) = A (ix2 k (col t b)) := by
  change A (((cfg0.win 1).blk t).view.emb _) = _
  rw [place_h]
theorem read_n (A : FVec Ideal S4096x128 .f32) (t : Fin cfg0.N) (a : Fin 512) (l : Fin 128) :
    ((cfg0.win 2).blk t).view.read (Elt Ideal) A (ix2 a l) = A (ix2 (row t a) l) := by
  change A (((cfg0.win 2).blk t).view.emb _) = _
  rw [place_n]
theorem read_c (A : FVec Ideal S32x16896 .f32) (t : Fin cfg0.N) (u : Fin 32) (b : Fin 768) :
    ((cfg0.win 3).blk t).view.read (Elt Ideal) A (ix2 u b) = A (ix2 u (col t b)) := by
  change A (((cfg0.win 3).blk t).view.emb _) = _
  rw [place_c]
theorem read_s (A : FVec Ideal S32x16896 .f32) (t : Fin cfg0.N) (u : Fin 32) (b : Fin 768) :
    ((cfg0.win 4).blk t).view.read (Elt Ideal) A (ix2 u b) = A (ix2 u (col t b)) := by
  change A (((cfg0.win 4).blk t).view.emb _) = _
  rw [place_s]

theorem iblk_w (c : Dev nD) (t : Fin cfg0.N) (r : Fin 8) (d : Fin 64) (k : Fin 4096) :
    (iblk m c 0 t : FVec Ideal S512x4096 .bf16) (ix2 (hrow r d) k) = argW m c (ix2 k (qcol (headOf t r) (src d))) := by
  unfold iblk
  change ((cfg0.win 0).blk t).view.read (Elt Ideal) (V m c main_v11) _ = _
  rw [V_w, read_w, row_hrow, w_apply]
theorem iblk_h (c : Dev nD) (t : Fin cfg0.N) (k : Fin 4096) (b : Fin 768) :
    (iblk m c 1 t : FVec Ideal S4096x768 .bf16) (ix2 k b) = argH m c (ix2 (col t b) k) := by
  unfold iblk
  change ((cfg0.win 1).blk t).view.read (Elt Ideal) (V m c main_v2) _ = _
  rw [V_h, read_h, h_apply]
theorem iblk_n (c : Dev nD) (t : Fin cfg0.N) (r : Fin 8) (d : Fin 64) (l : Fin 128) :
    (iblk m c 2 t : FVec Ideal S512x128 .f32) (ix2 (hrow r d) l) = argN m c (ix1 (src d)) := by
  unfold iblk
  change ((cfg0.win 2).blk t).view.read (Elt Ideal) (V m c main_v25) _ = _
  rw [V_n, read_n, row_hrow, n_apply]
theorem iblk_c (c : Dev nD) (t : Fin cfg0.N) (u : Fin 32) (b : Fin 768) :
    (iblk m c 3 t : FVec Ideal S32x768 .f32) (ix2 u b) = argC m c (ix3 (col t b) (axis u) (freq u)) := by
  unfold iblk
  change ((cfg0.win 3).blk t).view.read (Elt Ideal) (V m c main_v13) _ = _
  rw [V_c, read_c, angle_apply]
theorem iblk_s (c : Dev nD) (t : Fin cfg0.N) (u : Fin 32) (b : Fin 768) :
    (iblk m c 4 t : FVec Ideal S32x768 .f32) (ix2 u b) = argS m c (ix3 (col t b) (axis u) (freq u)) := by
  unfold iblk
  change ((cfg0.win 4).blk t).view.read (Elt Ideal) (V m c main_v15) _ = _
  rw [V_s, read_s, angle_apply]

/-! ## A head of a block -/

theorem src_invol : Function.Involutive src := by
  have h : ∀ d : Fin 64, src (src d) = d := by decide +kernel
  exact h

theorem src_lo (u : Fin 32) : src (lo u) = feat (axis u) 0 (freq u) :=
  Fin.ext (by show 32 * (u.val % 32 / 16) + 16 * (u.val / 32) + u.val % 16 = 32 * (u.val / 16) + 16 * 0 + u.val % 16; omega)
theorem src_hi (u : Fin 32) : src (hi u) = feat (axis u) 1 (freq u) :=
  Fin.ext (by show 32 * ((32 + u.val) % 32 / 16) + 16 * ((32 + u.val) / 32) + (32 + u.val) % 16 = 32 * (u.val / 16) + 16 * 1 + u.val % 16; omega)

theorem ofBits_64 : Ideal.ofBits .f32 0x42800000#32 = ((64 : ℝ) : EReal) := by
  simp [Ideal.ofBits, Ideal.ieee, -EReal.coe_mul]; norm_num
theorem ofBits_inv_64 : Ideal.ofBits .f32 0x3C800000#32 = (((1 : ℝ) / 64 : ℝ) : EReal) := by
  simp [Ideal.ofBits, Ideal.ieee, -EReal.coe_mul]; norm_num

/-- Dividing by 64 is multiplying by its inverse. -/
theorem div_64 (x : EReal) : Ideal.div x (Ideal.ofBits .f32 0x42800000#32) = x * Ideal.ofBits .f32 0x3C800000#32 := by
  rw [ofBits_64, ofBits_inv_64, Ideal.div_coe (by norm_num)]

/-- A block's normed head is the mathematics' normed head, its features in the table's order. -/
theorem hval_eq (A : FVec Ideal S16896x4096 .f32) (W : FVec Ideal S4096x5120 .f32) (N : FVec Ideal S64 .f32) (n : Fin 16896) (H : Fin 64)
    (P G : Fin 512 → EReal) (r : Fin 8) (hP : ∀ d, P (hrow r d) = query A W n H (src d)) (hG : ∀ d, G (hrow r d) = N (ix1 (src d))) (d : Fin 64) :
    hval P G r d = normed A W N n H (src d) := by
  unfold hval normed
  simp only [hP, hG]
  rw [div_64, ← Equiv.sum_comp (src_invol.toPerm src) fun e => query A W n H e * query A W n H e]
  rfl

/-- The reference's result. -/
def queries (c : Dev nD) : FVec Ideal S4096x16896 .bf16 :=
  Cert.WinQRefIdeal.Read.val_main_v38 (F := Ideal) (argH m c) (argW m c) (argN m c) (argC m c) (argS m c)

/-- The norm's weight at a row of a block. -/
def weight (c : Dev nD) (a : Fin 512) : EReal := argN m c (ix1 (src ⟨a.val % 64, by omega⟩))

theorem weight_hrow (c : Dev nD) (r : Fin 8) (d : Fin 64) : weight m c (hrow r d) = argN m c (ix1 (src d)) := by
  have e : (⟨(hrow r d).val % 64, by omega⟩ : Fin 64) = d := Fin.ext (by show (64 * r.val + d.val) % 64 = d.val; omega)
  unfold weight
  rw [e]

theorem hrow_surj (a : Fin 512) : ∃ r d, a = hrow r d :=
  ⟨⟨a.val / 64, by omega⟩, ⟨a.val % 64, by omega⟩, Fin.ext (by show a.val = 64 * (a.val / 64) + a.val % 64; omega)⟩

theorem head_eq (c : Dev nD) (t : Fin cfg0.N) (b : Fin 768) (r : Fin 8) (d : Fin 64) :
    hval (fun a => k0_pay6 (F := Ideal) (iblk m c 0 t : FVec Ideal S512x4096 .bf16) (iblk m c 1 t : FVec Ideal S4096x768 .bf16) (ix2 a b)) (weight m c) r d
      = normed (argH m c) (argW m c) (argN m c) (col t b) (headOf t r) (src d) := by
  refine hval_eq _ _ _ _ _ _ _ r (fun d => ?_) (weight_hrow m c r) d
  refine (pay6_apply _ _ _ b).trans (Finset.sum_congr rfl fun k _ => ?_)
  rw [iblk_w, iblk_h, mul_comm]

theorem out_apply (c : Dev nD) (t : Fin cfg0.N) (a : Fin 512) (b : Fin 768) :
    (dats m 0 c).after 5 t (ix2 a b) = queries m c (ix2 (row t a) (col t b)) := by
  rw [after0_5]
  refine block_apply _ _ _ _ _ (weight m c) (fun a l => ?_) a b _ (fun r u h => ?_) (fun r u h => ?_)
  · obtain ⟨r, d, rfl⟩ := hrow_surj a
    rw [weight_hrow]
    exact iblk_n m c t r d l
  · subst h
    unfold queries turnLo
    rw [ref_lo _ _ _ _ _ (col t b) (headOf t r) (axis u) (freq u) _ (by rw [row_hrow]; show 64 * (headOf t r).val + u.val = 64 * (headOf t r).val + (16 * (u.val / 16) + u.val % 16); omega),
      head_eq, head_eq, src_lo, src_hi, iblk_c, iblk_s]
  · subst h
    unfold queries turnHi
    rw [ref_hi _ _ _ _ _ (col t b) (headOf t r) (axis u) (freq u) _ (by rw [row_hrow]; show 64 * (headOf t r).val + (32 + u.val) = 64 * (headOf t r).val + (32 + 16 * (u.val / 16) + u.val % 16); omega),
      head_eq, head_eq, src_lo, src_hi, iblk_c, iblk_s]

/-! ## The array after the run -/

theorem index_cell : ∀ (i : Fin 8) (j : Fin 22), ∃ t : Fin cfg0.N, win0_5.index t = ![i.val, j.val] :=
  (by decide +kernel : ∀ (i : Fin 8) (j : Fin 22), ∃ t : Fin grid0.N, _)

/-- The result's blocks cover the array. -/
theorem covers : (cfg0.win 5).Covers :=
  (cfg0.win 5).covers_of_index_surj rfl (by decide) fun β => by
    have b0 : (β (0 : Fin 2)).val < 8 := (β (0 : Fin 2)).isLt
    have b1 : (β (1 : Fin 2)).val < 22 := (β (1 : Fin 2)).isLt
    obtain ⟨t, ht⟩ := index_cell ⟨(β (0 : Fin 2)).val, b0⟩ ⟨(β (1 : Fin 2)).val, b1⟩
    refine ⟨t, fun a => (congrFun ht a).trans ?_⟩
    match a with
    | ⟨0, _⟩ => rfl
    | ⟨1, _⟩ => rfl

/-- After the run the result array is the reference's result. -/
theorem array_eq (c : Dev nD) : (dats m 0 c).arrAt 5 cfg0.N = queries m c := by
  refine Dat.arrAt_eq_of_covers _ 5 _ covers fun t hf y => ?_
  have key : ∀ y : S512x768.Idx, (dats m 0 c).after 5 t y = queries m c (((cfg0.win 5).blk t).view.emb y) := by
    intro y
    rw [eq_ix2 y]
    refine Eq.trans ?_ (congrArg (queries m c) (place_out t (y 0) (y 1))).symm
    exact out_apply m c t (y 0) (y 1)
  exact key y

/-- The two runs agree. -/
theorem algebraic : Cert.algebraic_WinQIdeal_WinQRefIdeal (hWinQIdeal := Cert.WinQIdeal.Gen.facts)
    (hWinQRefIdeal := Cert.WinQRefIdeal.Gen.facts) := by
  intro m g m' g' hpre hargs
  refine ⟨queries m, (θ_run defs _ _).mono (fun r h c => ⟨(h c).1.trans (array_eq m c), (h c).2⟩) (Cert.WinQIdeal.Value.run_blocks m g), ?_⟩
  refine (θ_run Cert.WinQRefIdeal.defs _ _).mono (fun r h c => ⟨(h c).1.trans ?_, (h c).2⟩) (Cert.WinQRefIdeal.Value.run (F := Ideal) m' g')
  obtain ⟨e0, e1, e2, e3, e4⟩ := hargs c
  rw [Cert.WinQRefIdeal.Read.val_main_v38_eq, e0, e1, e2, e3, e4]
  rfl

end Cert.WinQIdeal.Hand
-- ==== Proof.Calls.WinKRef.lean ====
module

public import proofs.«01_k».proof.Defs
public import proofs.«01_k».proof.Proof.Gen.WinKRefIdeal.Run
public import proofs.«01_k».proof.Proof.Gen.WinKRefIdeal.Read
public import Idealize.ShloMosaic.Lib.Pipeline.ValueKit

/-! The keys of the windowed attention, as the mathematics gives them, read at an index: a column of the product brought
to unit mean square within its head and weighted, then its two halves turned against each other. -/

@[expose] public section

set_option maxRecDepth 16384

set_option maxHeartbeats 1000000

noncomputable section

namespace Cert.WinKRefIdeal.Hand

open Idealize.ShloMosaic Idealize.ShloMosaic.TcCoe Idealize.ShloMosaic.Tactic Idealize.ShloMosaic.StableHlo Cert.WinKRefIdeal.Read

variable (A : FVec Ideal S16896x4096 .f32) (W : FVec Ideal S4096x5120 .f32) (N : FVec Ideal S64 .f32)
  (C S : FVec Ideal S16896x2x16 .f32)

/-- The weight's column of a feature of a head. -/
def qcol (H : Fin 8) (d : Fin 64) : Fin 5120 := ⟨4096 + (64 * H.val + d.val), by omega⟩

/-- The result's row of a feature of a head. -/
def qrow (H : Fin 8) (d : Fin 64) : Fin 512 := ⟨64 * H.val + d.val, by omega⟩

/-- A token's product with a column of the weight. -/
def query (n : Fin 16896) (H : Fin 8) (d : Fin 64) : EReal := ∑ k : Fin 4096, (A (ix2 n k) : EReal) * (W (ix2 k (qcol H d)) : EReal)

/-- The product brought to unit mean square within its head, and weighted. -/
def normed (n : Fin 16896) (H : Fin 8) (d : Fin 64) : EReal :=
  query A W n H d * Ideal.rsqrt (Ideal.div (∑ e : Fin 64, query A W n H e * query A W n H e) (Ideal.ofBits .f32 0x42800000#32)
    + Ideal.ofBits .f32 0x358637BD#32) * N (ix1 d)

theorem v2_apply (n : Fin 16896) (H : Fin 8) (d : Fin 64) : val_main_v2 (F := Ideal) A W (ix3 n H d) = query A W n H d := by
  rw [val_main_v2_apply, val_main_v1_apply, val_main_v0_apply]
  unfold query
  refine Finset.sum_congr rfl fun k _ => ?_
  congr 2
  · funext a
    match a with
    | ⟨0, _⟩ => exact Fin.ext (by show ((n.val * 8 + H.val) * 64 + d.val) / 512 = n.val; omega)
    | ⟨1, _⟩ => rfl
  · funext a
    match a with
    | ⟨0, _⟩ => rfl
    | ⟨1, _⟩ => exact Fin.ext (by show 4096 + (((n.val * 8 + H.val) * 64 + d.val) % 512) = 4096 + (64 * H.val + d.val); omega)

theorem v15_apply (n : Fin 16896) (H : Fin 8) (d : Fin 64) : val_main_v15 (F := Ideal) A W N (ix3 n H d) = normed A W N n H d := by
  rw [val_main_v15_apply, val_main_v12_apply, val_main_v14_apply, val_main_v13_apply, val_main_v11_apply, val_main_v10_apply,
    val_main_v9_apply, val_main_v7_apply, val_main_v5_apply, val_main_v4_apply, val_main_v6_apply, val_main_v8_apply, v2_apply,
    val_main_cst_apply, val_main_cst_0_apply, val_main_cst_1_apply]
  have e : ∀ k : Fin 64, val_main_v3 (F := Ideal) A W (idx_main_v4 (idx_main_v5 (idx_main_v11 (ix3 n H d))) k)
      = query A W n H k * query A W n H k := fun k => by
    have e' : idx_main_v4 (idx_main_v5 (idx_main_v11 (ix3 n H d))) k = ix3 n H k := by
      funext a
      match a with
      | ⟨0, _⟩ => rfl
      | ⟨1, _⟩ => rfl
      | ⟨2, _⟩ => rfl
    rw [e', val_main_v3_apply, v2_apply]
    rfl
  have en : idx_main_v13 (idx_main_v14 (ix3 n H d)) = ix1 d := by
    funext a
    match a with
    | ⟨0, _⟩ => rfl
  simp only [e]
  rw [en]
  unfold normed
  change query A W n H d * Ideal.rsqrt (Ideal.div (Ideal.ofBits .f32 0x00000000#32 + _) _ + _) * _ = _
  rw [Ideal.ofBits_zero_f32, zero_add]
  rfl

/-- The feature of a head with a given axis, half and frequency. -/
def feat (a : Fin 2) (s : Fin 2) (f : Fin 16) : Fin 64 := ⟨32 * a.val + 16 * s.val + f.val, by omega⟩

theorem v16_apply (n : Fin 16896) (H : Fin 8) (a s : Fin 2) (f : Fin 16) :
    val_main_v16 (F := Ideal) A W N (ix5 n H a s f) = normed A W N n H (feat a s f) := by
  rw [val_main_v16_apply, ← v15_apply]
  congr 1
  funext i
  match i with
  | ⟨0, _⟩ => exact Fin.ext (by show ((((n.val * 8 + H.val) * 2 + a.val) * 2 + s.val) * 16 + f.val) / 512 = n.val; omega)
  | ⟨1, _⟩ => exact Fin.ext (by show ((((n.val * 8 + H.val) * 2 + a.val) * 2 + s.val) * 16 + f.val) / 64 % 8 = H.val; omega)
  | ⟨2, _⟩ => exact Fin.ext (by show ((((n.val * 8 + H.val) * 2 + a.val) * 2 + s.val) * 16 + f.val) % 64 = 32 * a.val + 16 * s.val + f.val; omega)

theorem v18_apply (n : Fin 16896) (H : Fin 8) (a : Fin 2) (f : Fin 16) :
    val_main_v18 (F := Ideal) A W N (ix4 n H a f) = normed A W N n H (feat a 0 f) := by
  rw [val_main_v18_apply, val_main_v17_apply, ← v16_apply]
  congr 1
  funext i
  match i with
  | ⟨0, _⟩ => exact Fin.ext (by show (((n.val * 8 + H.val) * 2 + a.val) * 16 + f.val) / 256 = n.val; omega)
  | ⟨1, _⟩ => exact Fin.ext (by show (((n.val * 8 + H.val) * 2 + a.val) * 16 + f.val) / 32 % 8 = H.val; omega)
  | ⟨2, _⟩ => exact Fin.ext (by show (((n.val * 8 + H.val) * 2 + a.val) * 16 + f.val) / 16 % 2 = a.val; omega)
  | ⟨3, _⟩ => rfl
  | ⟨4, _⟩ => exact Fin.ext (by show (((n.val * 8 + H.val) * 2 + a.val) * 16 + f.val) % 16 = f.val; omega)

theorem v20_apply (n : Fin 16896) (H : Fin 8) (a : Fin 2) (f : Fin 16) :
    val_main_v20 (F := Ideal) A W N (ix4 n H a f) = normed A W N n H (feat a 1 f) := by
  rw [val_main_v20_apply, val_main_v19_apply, ← v16_apply]
  congr 1
  funext i
  match i with
  | ⟨0, _⟩ => exact Fin.ext (by show (((n.val * 8 + H.val) * 2 + a.val) * 16 + f.val) / 256 = n.val; omega)
  | ⟨1, _⟩ => exact Fin.ext (by show (((n.val * 8 + H.val) * 2 + a.val) * 16 + f.val) / 32 % 8 = H.val; omega)
  | ⟨2, _⟩ => exact Fin.ext (by show (((n.val * 8 + H.val) * 2 + a.val) * 16 + f.val) / 16 % 2 = a.val; omega)
  | ⟨3, _⟩ => rfl
  | ⟨4, _⟩ => exact Fin.ext (by show (((n.val * 8 + H.val) * 2 + a.val) * 16 + f.val) % 16 = f.val; omega)

theorem v23_apply (n : Fin 16896) (H : Fin 8) (a : Fin 2) (f : Fin 16) : val_main_v23 (F := Ideal) C (ix4 n H a f) = C (ix3 n a f) := by
  rw [val_main_v23_apply, val_main_v21_apply]
  congr 1; funext i; match i with | ⟨0, _⟩ => rfl | ⟨1, _⟩ => rfl | ⟨2, _⟩ => rfl
theorem v25_apply (n : Fin 16896) (H : Fin 8) (a : Fin 2) (f : Fin 16) : val_main_v25 (F := Ideal) S (ix4 n H a f) = S (ix3 n a f) := by
  rw [val_main_v25_apply, val_main_v22_apply]
  congr 1; funext i; match i with | ⟨0, _⟩ => rfl | ⟨1, _⟩ => rfl | ⟨2, _⟩ => rfl
theorem v28_apply (n : Fin 16896) (H : Fin 8) (a : Fin 2) (f : Fin 16) : val_main_v28 (F := Ideal) S (ix4 n H a f) = S (ix3 n a f) := by
  rw [val_main_v28_apply, val_main_v22_apply]
  congr 1; funext i; match i with | ⟨0, _⟩ => rfl | ⟨1, _⟩ => rfl | ⟨2, _⟩ => rfl
theorem v30_apply (n : Fin 16896) (H : Fin 8) (a : Fin 2) (f : Fin 16) : val_main_v30 (F := Ideal) C (ix4 n H a f) = C (ix3 n a f) := by
  rw [val_main_v30_apply, val_main_v21_apply]
  congr 1; funext i; match i with | ⟨0, _⟩ => rfl | ⟨1, _⟩ => rfl | ⟨2, _⟩ => rfl

theorem v27_apply (n : Fin 16896) (H : Fin 8) (a : Fin 2) (f : Fin 16) : val_main_v27 (F := Ideal) A W N C S (ix4 n H a f)
    = normed A W N n H (feat a 0 f) * (C (ix3 n a f) : EReal) - normed A W N n H (feat a 1 f) * (S (ix3 n a f) : EReal) := by
  rw [val_main_v27_apply, val_main_v24_apply, val_main_v26_apply, v18_apply, v20_apply, v23_apply, v25_apply]
  rfl
theorem v32_apply (n : Fin 16896) (H : Fin 8) (a : Fin 2) (f : Fin 16) : val_main_v32 (F := Ideal) A W N C S (ix4 n H a f)
    = normed A W N n H (feat a 0 f) * (S (ix3 n a f) : EReal) + normed A W N n H (feat a 1 f) * (C (ix3 n a f) : EReal) := by
  rw [val_main_v32_apply, val_main_v29_apply, val_main_v31_apply, v18_apply, v20_apply, v28_apply, v30_apply]
  rfl

theorem v35_lo (n : Fin 16896) (H : Fin 8) (a : Fin 2) (f : Fin 16) :
    val_main_v35 (F := Ideal) A W N C S (ix5 n H 0 a f) = val_main_v27 (F := Ideal) A W N C S (ix4 n H a f) := by
  unfold val_main_v35
  refine (concatenate_pair_apply_left (t := S16896x8x2x2x16) (s₁ := S16896x8x1x2x16) (s₂ := S16896x8x1x2x16) 2 _ _ _ (ix5 n H 0 a f) rfl (ix5 n H (0 : Fin 1) a f) (fun b => match b with
    | ⟨0, _⟩ => rfl | ⟨1, _⟩ => rfl | ⟨2, _⟩ => rfl | ⟨3, _⟩ => rfl | ⟨4, _⟩ => rfl)).trans ?_
  rw [val_main_v33_apply]
  congr 1; funext i; match i with | ⟨0, _⟩ => rfl | ⟨1, _⟩ => rfl | ⟨2, _⟩ => rfl | ⟨3, _⟩ => rfl
theorem v35_hi (n : Fin 16896) (H : Fin 8) (a : Fin 2) (f : Fin 16) :
    val_main_v35 (F := Ideal) A W N C S (ix5 n H 1 a f) = val_main_v32 (F := Ideal) A W N C S (ix4 n H a f) := by
  unfold val_main_v35
  refine (concatenate_pair_apply_right (t := S16896x8x2x2x16) (s₁ := S16896x8x1x2x16) (s₂ := S16896x8x1x2x16) 2 _ _ _ (ix5 n H 1 a f) rfl rfl (ix5 n H (0 : Fin 1) a f) (fun b hb => match b, hb with
    | ⟨0, _⟩, _ => rfl | ⟨1, _⟩, _ => rfl | ⟨2, _⟩, hb => absurd rfl hb | ⟨3, _⟩, _ => rfl | ⟨4, _⟩, _ => rfl) rfl).trans ?_
  rw [val_main_v34_apply]
  congr 1; funext i; match i with | ⟨0, _⟩ => rfl | ⟨1, _⟩ => rfl | ⟨2, _⟩ => rfl | ⟨3, _⟩ => rfl

theorem v38_apply (n : Fin 16896) (H : Fin 8) (s a : Fin 2) (f : Fin 16) (r : Fin 512) (hr : r.val = 64 * H.val + (32 * s.val + 16 * a.val + f.val)) :
    val_main_v38 (F := Ideal) A W N C S (ix2 r n) = val_main_v35 (F := Ideal) A W N C S (ix5 n H s a f) := by
  rw [val_main_v38_apply, val_main_v37_apply, val_main_v36_apply]
  change val_main_v35 (F := Ideal) A W N C S _ = _
  congr 1
  funext i
  match i with
  | ⟨0, _⟩ => exact Fin.ext (by show (n.val * 512 + r.val) / 512 = n.val; omega)
  | ⟨1, _⟩ => exact Fin.ext (by show (n.val * 512 + r.val) / 64 % 8 = H.val; omega)
  | ⟨2, _⟩ => exact Fin.ext (by show (n.val * 512 + r.val) / 32 % 2 = s.val; omega)
  | ⟨3, _⟩ => exact Fin.ext (by show (n.val * 512 + r.val) / 16 % 2 = a.val; omega)
  | ⟨4, _⟩ => exact Fin.ext (by show (n.val * 512 + r.val) % 16 = f.val; omega)

/-- The first half of a head of the result. -/
theorem ref_lo (n : Fin 16896) (H : Fin 8) (a : Fin 2) (f : Fin 16) (r : Fin 512) (hr : r.val = 64 * H.val + (16 * a.val + f.val)) :
    val_main_v38 (F := Ideal) A W N C S (ix2 r n)
      = normed A W N n H (feat a 0 f) * (C (ix3 n a f) : EReal) - normed A W N n H (feat a 1 f) * (S (ix3 n a f) : EReal) := by
  rw [v38_apply A W N C S n H 0 a f r (by simpa using hr), v35_lo, v27_apply]

/-- The second half of a head of the result. -/
theorem ref_hi (n : Fin 16896) (H : Fin 8) (a : Fin 2) (f : Fin 16) (r : Fin 512) (hr : r.val = 64 * H.val + (32 + 16 * a.val + f.val)) :
    val_main_v38 (F := Ideal) A W N C S (ix2 r n)
      = normed A W N n H (feat a 0 f) * (S (ix3 n a f) : EReal) + normed A W N n H (feat a 1 f) * (C (ix3 n a f) : EReal) := by
  rw [v38_apply A W N C S n H 1 a f r (by simpa using hr), v35_hi, v32_apply]

end Cert.WinKRefIdeal.Hand
-- ==== Proof.Calls.WinKBlock.lean ====
module

public import proofs.«01_k».proof.Defs
public import proofs.«01_k».proof.Proof.Gen.WinKIdeal.Value
public import Idealize.ShloMosaic.Lib.Pipeline.ValueKit

/-! One block of the projection onto the keys of the windowed attention: the block's 512 features are eight heads of 64; each head is brought to
unit mean square, weighted, and the first half of its features is turned against the second. -/

@[expose] public section

set_option maxRecDepth 16384

set_option maxHeartbeats 1000000

noncomputable section

namespace Cert.WinKIdeal.Hand

open Idealize.ShloMosaic Idealize.ShloMosaic.TcCoe Idealize.ShloMosaic.Tactic Idealize.ShloMosaic.StableHlo Cert.WinKIdeal.Gen
open Idealize.ShloMosaic.Pipeline Idealize.SL.Sem

theorem pay6_apply (x : FVec Ideal S512x4096 .bf16) (y : FVec Ideal S4096x768 .bf16) (a : Fin 512) (b : Fin 768) :
    k0_pay6 (F := Ideal) x y (ix2 a b) = ∑ k : Fin 4096, (x (ix2 a k) : EReal) * (y (ix2 k b) : EReal) := by
  pointwise [k0_pay6]

/-- The block's row at a feature of one of its eight heads. -/
def hrow (r : Fin 8) (d : Fin 64) : Fin 512 := ⟨64 * r.val + d.val, by omega⟩

/-- A feature of the first half of a head. -/
def lo (u : Fin 32) : Fin 64 := ⟨u.val, by omega⟩

/-- A feature of the second half of a head. -/
def hi (u : Fin 32) : Fin 64 := ⟨32 + u.val, by omega⟩

/-- A head's feature brought to unit mean square and weighted, from a column `P` of the product and the weights `G`. -/
def hval (P G : Fin 512 → EReal) (r : Fin 8) (d : Fin 64) : EReal :=
  P (hrow r d) * Ideal.rsqrt ((∑ e : Fin 64, P (hrow r e) * P (hrow r e)) * Ideal.ofBits .f32 0x3C800000#32 + Ideal.ofBits .f32 0x358637BD#32) * G (hrow r d)

theorem hrow0 (d : Fin 64) (h : d.val < 512) : (⟨d.val, h⟩ : Fin 512) = hrow 0 d := Fin.ext (by simp [hrow])
theorem hrow1 (d : Fin 64) (h : 64 + d.val < 512) : (⟨64 + d.val, h⟩ : Fin 512) = hrow 1 d := Fin.ext (by simp [hrow])
theorem hrow2 (d : Fin 64) (h : 128 + d.val < 512) : (⟨128 + d.val, h⟩ : Fin 512) = hrow 2 d := Fin.ext (by simp [hrow])
theorem hrow3 (d : Fin 64) (h : 192 + d.val < 512) : (⟨192 + d.val, h⟩ : Fin 512) = hrow 3 d := Fin.ext (by simp [hrow])
theorem hrow4 (d : Fin 64) (h : 256 + d.val < 512) : (⟨256 + d.val, h⟩ : Fin 512) = hrow 4 d := Fin.ext (by simp [hrow])
theorem hrow5 (d : Fin 64) (h : 320 + d.val < 512) : (⟨320 + d.val, h⟩ : Fin 512) = hrow 5 d := Fin.ext (by simp [hrow])
theorem hrow6 (d : Fin 64) (h : 384 + d.val < 512) : (⟨384 + d.val, h⟩ : Fin 512) = hrow 6 d := Fin.ext (by simp [hrow])
theorem hrow7 (d : Fin 64) (h : 448 + d.val < 512) : (⟨448 + d.val, h⟩ : Fin 512) = hrow 7 d := Fin.ext (by simp [hrow])

theorem lo_eq (u : Fin 32) (h : u.val < 64) : (⟨u.val, h⟩ : Fin 64) = lo u := rfl
theorem hi_eq (u : Fin 32) (h : 32 + u.val < 64) : (⟨32 + u.val, h⟩ : Fin 64) = hi u := rfl

/-! ## The eight heads -/

theorem pay9_apply (x : FVec Ideal S512x4096 .bf16) (y : FVec Ideal S4096x768 .bf16) (v : FVec Ideal S64x128 .f32) (G : Fin 512 → EReal)
    (hv : ∀ d l, v (ix2 d l) = G (hrow 0 d)) (d : Fin 64) (b : Fin 768) :
    k0_pay9 (F := Ideal) x y v (ix2 d b) = hval (fun a => k0_pay6 (F := Ideal) x y (ix2 a b)) G 0 d := by
  pointwise [k0_pay9]
  simp only [hv, dite_eq_ite, ite_self, hrow0]
  rfl

theorem pay14_apply (x : FVec Ideal S512x4096 .bf16) (y : FVec Ideal S4096x768 .bf16) (d : Fin 64) (b : Fin 768) :
    k0_pay14 (F := Ideal) x y (ix2 d b) = k0_pay6 (F := Ideal) x y (ix2 (hrow 1 d) b) := by
  unfold hrow
  pointwise [k0_pay14]

theorem pay15_apply (x : FVec Ideal S512x4096 .bf16) (y : FVec Ideal S4096x768 .bf16) (d : Fin 64) (b : Fin 768) :
    k0_pay15 (F := Ideal) x y (ix2 d b)
      = (k0_pay6 (F := Ideal) x y (ix2 (hrow 1 d) b) : EReal) * (k0_pay6 (F := Ideal) x y (ix2 (hrow 1 d) b) : EReal) := by
  rw [← pay14_apply]
  rfl

theorem pay16_apply (x : FVec Ideal S512x4096 .bf16) (y : FVec Ideal S4096x768 .bf16) (v : FVec Ideal S64x128 .f32) (G : Fin 512 → EReal)
    (hv : ∀ d l, v (ix2 d l) = G (hrow 1 d)) (d : Fin 64) (b : Fin 768) :
    k0_pay16 (F := Ideal) (k0_pay14 x y) (k0_pay15 x y) v (ix2 d b) = hval (fun a => k0_pay6 (F := Ideal) x y (ix2 a b)) G 1 d := by
  generalize ex : k0_pay14 (F := Ideal) x y = x16
  generalize ey : k0_pay15 (F := Ideal) x y = x17
  pointwise [k0_pay16]
  subst ex ey
  simp only [hv, dite_eq_ite, ite_self, pay14_apply, pay15_apply]
  rfl

theorem pay21_apply (z : FVec Ideal S512x768 .f32) (v : FVec Ideal S64x128 .f32) (G : Fin 512 → EReal)
    (hv : ∀ d l, v (ix2 d l) = G (hrow 2 d)) (d : Fin 64) (b : Fin 768) :
    k0_pay21 (F := Ideal) z v (ix2 d b) = hval (fun a => z (ix2 a b)) G 2 d := by
  pointwise [k0_pay21]
  simp only [hv, dite_eq_ite, ite_self, hrow2]
  rfl

theorem pay28_apply (z : FVec Ideal S512x768 .f32) (v : FVec Ideal S64x128 .f32) (G : Fin 512 → EReal)
    (hv : ∀ d l, v (ix2 d l) = G (hrow 3 d)) (d : Fin 64) (b : Fin 768) :
    k0_pay28 (F := Ideal) z v (ix2 d b) = hval (fun a => z (ix2 a b)) G 3 d := by
  pointwise [k0_pay28]
  simp only [hv, dite_eq_ite, ite_self, hrow3]
  rfl

theorem pay40_apply (z : FVec Ideal S512x768 .f32) (v : FVec Ideal S64x128 .f32) (G : Fin 512 → EReal)
    (hv : ∀ d l, v (ix2 d l) = G (hrow 5 d)) (d : Fin 64) (b : Fin 768) :
    k0_pay40 (F := Ideal) z v (ix2 d b) = hval (fun a => z (ix2 a b)) G 5 d := by
  pointwise [k0_pay40]
  simp only [hv, dite_eq_ite, ite_self, hrow5]
  rfl

theorem pay45_apply (z : FVec Ideal S512x768 .f32) (v : FVec Ideal S64x128 .f32) (G : Fin 512 → EReal)
    (hv : ∀ d l, v (ix2 d l) = G (hrow 6 d)) (d : Fin 64) (b : Fin 768) :
    k0_pay45 (F := Ideal) z v (ix2 d b) = hval (fun a => z (ix2 a b)) G 6 d := by
  pointwise [k0_pay45]
  simp only [hv, dite_eq_ite, ite_self, hrow6]
  rfl

theorem pay33_apply (z : FVec Ideal S512x768 .f32) (d : Fin 64) (b : Fin 768) :
    k0_pay33 (F := Ideal) z (ix2 d b) = z (ix2 (hrow 4 d) b) := by
  unfold hrow
  pointwise [k0_pay33]

theorem pay34_apply (z : FVec Ideal S512x768 .f32) (b : Fin 768) :
    k0_pay34 (F := Ideal) z (ix2 (0 : Fin 1) b)
      = (∑ e : Fin 64, (z (ix2 (hrow 4 e) b) : EReal) * (z (ix2 (hrow 4 e) b) : EReal)) * Ideal.ofBits .f32 0x3C800000#32 := by
  simp only [← pay33_apply]
  generalize ez : k0_pay33 (F := Ideal) z = z33
  pointwise [k0_pay34]
  subst ez
  rfl

theorem pay35_apply (z : FVec Ideal S512x768 .f32) (v : FVec Ideal S64x128 .f32) (G : Fin 512 → EReal)
    (hv : ∀ d l, v (ix2 d l) = G (hrow 4 d)) (d : Fin 64) (b : Fin 768) :
    k0_pay35 (F := Ideal) (k0_pay33 z) (k0_pay34 z) v (ix2 d b) = hval (fun a => z (ix2 a b)) G 4 d := by
  generalize ex : k0_pay33 (F := Ideal) z = x33
  generalize ey : k0_pay34 (F := Ideal) z = x34
  pointwise [k0_pay35]
  subst ex ey
  simp only [hv, dite_eq_ite, ite_self, pay33_apply]
  exact congrArg (fun e : EReal => _ * Ideal.rsqrt (e + _) * _) (pay34_apply z b)

theorem pay50_apply (z : FVec Ideal S512x768 .f32) (v : FVec Ideal S64x128 .f32) (G : Fin 512 → EReal)
    (hv : ∀ d l, v (ix2 d l) = G (hrow 7 d)) (d : Fin 64) (b : Fin 768) :
    k0_pay1 (F := Ideal) (k0_pay50 z) v (ix2 d b) = hval (fun a => z (ix2 a b)) G 7 d := by
  pointwise [k0_pay1, k0_pay50]
  simp only [hv, dite_eq_ite, ite_self, hrow7]
  rfl

/-! ## The halves turned against each other -/

/-- The first half of a turned head. -/
def turnLo (y : Fin 64 → EReal) (c s : EReal) (u : Fin 32) : EReal := y (lo u) * c - y (hi u) * s

/-- The second half of a turned head. -/
def turnHi (y : Fin 64 → EReal) (c s : EReal) (u : Fin 32) : EReal := y (lo u) * s + y (hi u) * c

variable (x : FVec Ideal S512x4096 .bf16) (y : FVec Ideal S4096x768 .bf16) (z : FVec Ideal S512x768 .f32)
  (C S : FVec Ideal S32x768 .f32) (v : FVec Ideal S64x128 .f32) (u : Fin 32) (b : Fin 768)

theorem pay12_apply : k0_pay12 (F := Ideal) x y C S v (ix2 u b)
    = turnLo (fun d => k0_pay9 (F := Ideal) x y v (ix2 d b)) (C (ix2 u b)) (S (ix2 u b)) u := by
  unfold turnLo lo hi
  pointwise [k0_pay12, k0_pay10, k0_pay11, k0_pay7, k0_pay8]
theorem pay13_apply : k0_pay13 (F := Ideal) x y C S v (ix2 u b)
    = turnHi (fun d => k0_pay9 (F := Ideal) x y v (ix2 d b)) (C (ix2 u b)) (S (ix2 u b)) u := by
  unfold turnHi lo hi
  pointwise [k0_pay13, k0_pay10, k0_pay11, k0_pay7, k0_pay8]
theorem pay19_apply (p q : FVec Ideal S64x768 .f32) : k0_pay19 (F := Ideal) (k0_pay7 C) (k0_pay8 S) p q v (ix2 u b)
    = turnLo (fun d => k0_pay16 (F := Ideal) p q v (ix2 d b)) (C (ix2 u b)) (S (ix2 u b)) u := by
  unfold turnLo lo hi
  pointwise [k0_pay19, k0_pay17, k0_pay18, k0_pay7, k0_pay8]
theorem pay20_apply (p q : FVec Ideal S64x768 .f32) : k0_pay20 (F := Ideal) (k0_pay7 C) (k0_pay8 S) p q v (ix2 u b)
    = turnHi (fun d => k0_pay16 (F := Ideal) p q v (ix2 d b)) (C (ix2 u b)) (S (ix2 u b)) u := by
  unfold turnHi lo hi
  pointwise [k0_pay20, k0_pay17, k0_pay18, k0_pay7, k0_pay8]
theorem pay26_apply : k0_pay26 (F := Ideal) (k0_pay24 z (k0_pay7 C) v) (k0_pay25 z (k0_pay8 S) v) (ix2 u b)
    = turnLo (fun d => k0_pay21 (F := Ideal) z v (ix2 d b)) (C (ix2 u b)) (S (ix2 u b)) u := by
  unfold turnLo lo hi
  pointwise [k0_pay26, k0_pay24, k0_pay25, k0_pay22, k0_pay23, k0_pay7, k0_pay8]
theorem pay27_apply : k0_pay27 (F := Ideal) (k0_pay7 C) (k0_pay8 S) (k0_pay22 z v) (k0_pay23 z v) (ix2 u b)
    = turnHi (fun d => k0_pay21 (F := Ideal) z v (ix2 d b)) (C (ix2 u b)) (S (ix2 u b)) u := by
  unfold turnHi lo hi
  pointwise [k0_pay27, k0_pay22, k0_pay23, k0_pay7, k0_pay8]
theorem pay31_apply : k0_pay31 (F := Ideal) z (k0_pay7 C) (k0_pay8 S) v (ix2 u b)
    = turnLo (fun d => k0_pay28 (F := Ideal) z v (ix2 d b)) (C (ix2 u b)) (S (ix2 u b)) u := by
  unfold turnLo lo hi
  pointwise [k0_pay31, k0_pay29, k0_pay30, k0_pay7, k0_pay8]
theorem pay32_apply : k0_pay32 (F := Ideal) z (k0_pay7 C) (k0_pay8 S) v (ix2 u b)
    = turnHi (fun d => k0_pay28 (F := Ideal) z v (ix2 d b)) (C (ix2 u b)) (S (ix2 u b)) u := by
  unfold turnHi lo hi
  pointwise [k0_pay32, k0_pay29, k0_pay30, k0_pay7, k0_pay8]
theorem pay38_apply (p : FVec Ideal S64x768 .f32) (q : FVec Ideal S1x768 .f32) : k0_pay38 (F := Ideal) (k0_pay7 C) (k0_pay8 S) p q v (ix2 u b)
    = turnLo (fun d => k0_pay35 (F := Ideal) p q v (ix2 d b)) (C (ix2 u b)) (S (ix2 u b)) u := by
  unfold turnLo lo hi
  pointwise [k0_pay38, k0_pay36, k0_pay37, k0_pay7, k0_pay8]
theorem pay39_apply (p : FVec Ideal S64x768 .f32) (q : FVec Ideal S1x768 .f32) : k0_pay39 (F := Ideal) (k0_pay7 C) (k0_pay8 S) p q v (ix2 u b)
    = turnHi (fun d => k0_pay35 (F := Ideal) p q v (ix2 d b)) (C (ix2 u b)) (S (ix2 u b)) u := by
  unfold turnHi lo hi
  pointwise [k0_pay39, k0_pay36, k0_pay37, k0_pay7, k0_pay8]
theorem pay43_apply : k0_pay43 (F := Ideal) z (k0_pay7 C) (k0_pay8 S) v (ix2 u b)
    = turnLo (fun d => k0_pay40 (F := Ideal) z v (ix2 d b)) (C (ix2 u b)) (S (ix2 u b)) u := by
  unfold turnLo lo hi
  pointwise [k0_pay43, k0_pay41, k0_pay42, k0_pay7, k0_pay8]
theorem pay44_apply : k0_pay44 (F := Ideal) (k0_pay7 C) (k0_pay8 S) (k0_pay41 z v) (k0_pay42 z v) (ix2 u b)
    = turnHi (fun d => k0_pay40 (F := Ideal) z v (ix2 d b)) (C (ix2 u b)) (S (ix2 u b)) u := by
  unfold turnHi lo hi
  pointwise [k0_pay44, k0_pay41, k0_pay42, k0_pay7, k0_pay8]
theorem pay48_apply : k0_pay48 (F := Ideal) z (k0_pay7 C) (k0_pay8 S) v (ix2 u b)
    = turnLo (fun d => k0_pay45 (F := Ideal) z v (ix2 d b)) (C (ix2 u b)) (S (ix2 u b)) u := by
  unfold turnLo lo hi
  pointwise [k0_pay48, k0_pay46, k0_pay47, k0_pay7, k0_pay8]
theorem pay49_apply : k0_pay49 (F := Ideal) z (k0_pay7 C) (k0_pay8 S) v (ix2 u b)
    = turnHi (fun d => k0_pay45 (F := Ideal) z v (ix2 d b)) (C (ix2 u b)) (S (ix2 u b)) u := by
  unfold turnHi lo hi
  pointwise [k0_pay49, k0_pay46, k0_pay47, k0_pay7, k0_pay8]
theorem pay4_apply (p : FVec Ideal S64x768 .f32) : k0_pay4 (F := Ideal) (k0_pay7 C) (k0_pay8 S) p v (ix2 u b)
    = turnLo (fun d => k0_pay1 (F := Ideal) p v (ix2 d b)) (C (ix2 u b)) (S (ix2 u b)) u := by
  unfold turnLo lo hi
  pointwise [k0_pay4, k0_pay2, k0_pay3, k0_pay7, k0_pay8]
theorem pay5_apply (p : FVec Ideal S64x768 .f32) : k0_pay5 (F := Ideal) (k0_pay7 C) (k0_pay8 S) p v (ix2 u b)
    = turnHi (fun d => k0_pay1 (F := Ideal) p v (ix2 d b)) (C (ix2 u b)) (S (ix2 u b)) u := by
  unfold turnHi lo hi
  pointwise [k0_pay5, k0_pay2, k0_pay3, k0_pay7, k0_pay8]

/-! ## The whole block -/

/-- The load of eight heads' weights at a head. -/
theorem ld3_apply (X : FVec Ideal S512x128 .f32) (d : Fin 64) (l : Fin 128) :
    View.ld (Val := Elt Ideal) (e' := .f32) X r0_3 (ix2 d l : S64x128.Idx) = X (ix2 (hrow 0 d) l) :=
  View.ld_unit_apply_of (Val := Elt Ideal) (e := .f32) (S := S512x128) X ![0, 0] S64x128.size inb_S512x128_S64x128_0_0 (ix2 d l : S64x128.Idx)
    (ix2 (hrow 0 d) l) fun a => match a with | ⟨0, _⟩ => rfl | ⟨1, _⟩ => (Nat.zero_add _).symm
theorem ld6_apply (X : FVec Ideal S512x128 .f32) (d : Fin 64) (l : Fin 128) :
    View.ld (Val := Elt Ideal) (e' := .f32) X r0_6 (ix2 d l : S64x128.Idx) = X (ix2 (hrow 1 d) l) :=
  View.ld_unit_apply_of (Val := Elt Ideal) (e := .f32) (S := S512x128) X ![64, 0] S64x128.size inb_S512x128_S64x128_64_0 (ix2 d l : S64x128.Idx)
    (ix2 (hrow 1 d) l) fun a => match a with | ⟨0, _⟩ => rfl | ⟨1, _⟩ => (Nat.zero_add _).symm
theorem ld9_apply (X : FVec Ideal S512x128 .f32) (d : Fin 64) (l : Fin 128) :
    View.ld (Val := Elt Ideal) (e' := .f32) X r0_9 (ix2 d l : S64x128.Idx) = X (ix2 (hrow 2 d) l) :=
  View.ld_unit_apply_of (Val := Elt Ideal) (e := .f32) (S := S512x128) X ![128, 0] S64x128.size inb_S512x128_S64x128_128_0 (ix2 d l : S64x128.Idx)
    (ix2 (hrow 2 d) l) fun a => match a with | ⟨0, _⟩ => rfl | ⟨1, _⟩ => (Nat.zero_add _).symm
theorem ld12_apply (X : FVec Ideal S512x128 .f32) (d : Fin 64) (l : Fin 128) :
    View.ld (Val := Elt Ideal) (e' := .f32) X r0_12 (ix2 d l : S64x128.Idx) = X (ix2 (hrow 3 d) l) :=
  View.ld_unit_apply_of (Val := Elt Ideal) (e := .f32) (S := S512x128) X ![192, 0] S64x128.size inb_S512x128_S64x128_192_0 (ix2 d l : S64x128.Idx)
    (ix2 (hrow 3 d) l) fun a => match a with | ⟨0, _⟩ => rfl | ⟨1, _⟩ => (Nat.zero_add _).symm
theorem ld15_apply (X : FVec Ideal S512x128 .f32) (d : Fin 64) (l : Fin 128) :
    View.ld (Val := Elt Ideal) (e' := .f32) X r0_15 (ix2 d l : S64x128.Idx) = X (ix2 (hrow 4 d) l) :=
  View.ld_unit_apply_of (Val := Elt Ideal) (e := .f32) (S := S512x128) X ![256, 0] S64x128.size inb_S512x128_S64x128_256_0 (ix2 d l : S64x128.Idx)
    (ix2 (hrow 4 d) l) fun a => match a with | ⟨0, _⟩ => rfl | ⟨1, _⟩ => (Nat.zero_add _).symm
theorem ld18_apply (X : FVec Ideal S512x128 .f32) (d : Fin 64) (l : Fin 128) :
    View.ld (Val := Elt Ideal) (e' := .f32) X r0_18 (ix2 d l : S64x128.Idx) = X (ix2 (hrow 5 d) l) :=
  View.ld_unit_apply_of (Val := Elt Ideal) (e := .f32) (S := S512x128) X ![320, 0] S64x128.size inb_S512x128_S64x128_320_0 (ix2 d l : S64x128.Idx)
    (ix2 (hrow 5 d) l) fun a => match a with | ⟨0, _⟩ => rfl | ⟨1, _⟩ => (Nat.zero_add _).symm
theorem ld21_apply (X : FVec Ideal S512x128 .f32) (d : Fin 64) (l : Fin 128) :
    View.ld (Val := Elt Ideal) (e' := .f32) X r0_21 (ix2 d l : S64x128.Idx) = X (ix2 (hrow 6 d) l) :=
  View.ld_unit_apply_of (Val := Elt Ideal) (e := .f32) (S := S512x128) X ![384, 0] S64x128.size inb_S512x128_S64x128_384_0 (ix2 d l : S64x128.Idx)
    (ix2 (hrow 6 d) l) fun a => match a with | ⟨0, _⟩ => rfl | ⟨1, _⟩ => (Nat.zero_add _).symm
theorem ld24_apply (X : FVec Ideal S512x128 .f32) (d : Fin 64) (l : Fin 128) :
    View.ld (Val := Elt Ideal) (e' := .f32) X r0_24 (ix2 d l : S64x128.Idx) = X (ix2 (hrow 7 d) l) :=
  View.ld_unit_apply_of (Val := Elt Ideal) (e := .f32) (S := S512x128) X ![448, 0] S64x128.size inb_S512x128_S64x128_448_0 (ix2 d l : S64x128.Idx)
    (ix2 (hrow 7 d) l) fun a => match a with | ⟨0, _⟩ => rfl | ⟨1, _⟩ => (Nat.zero_add _).symm

theorem ld0_eq (X : FVec Ideal S512x4096 .bf16) : View.ld (Val := Elt Ideal) (e' := .bf16) X r0_0 = X :=
  funext fun i => View.ld_unit_apply_of (Val := Elt Ideal) (e := .bf16) (S := S512x4096) X ![0, 0] S512x4096.size inb_S512x4096_S512x4096_0_0 i i
    fun a => match a with | ⟨0, _⟩ => (Nat.zero_add _).symm | ⟨1, _⟩ => (Nat.zero_add _).symm
theorem ld1_eq (X : FVec Ideal S4096x768 .bf16) : View.ld (Val := Elt Ideal) (e' := .bf16) X r0_1 = X :=
  funext fun i => View.ld_unit_apply_of (Val := Elt Ideal) (e := .bf16) (S := S4096x768) X ![0, 0] S4096x768.size inb_S4096x768_S4096x768_0_0 i i
    fun a => match a with | ⟨0, _⟩ => (Nat.zero_add _).symm | ⟨1, _⟩ => (Nat.zero_add _).symm
theorem ld2_eq (X : FVec Ideal S32x768 .f32) : View.ld (Val := Elt Ideal) (e' := .f32) X r0_2 = X :=
  funext fun i => View.ld_unit_apply_of (Val := Elt Ideal) (e := .f32) (S := S32x768) X ![0, 0] S32x768.size inb_S32x768_S32x768_0_0 i i
    fun a => match a with | ⟨0, _⟩ => (Nat.zero_add _).symm | ⟨1, _⟩ => (Nat.zero_add _).symm

/-- The block at an index is any value that the head and half holding the index gives it. -/
theorem block_apply (x0 : FVec Ideal S512x4096 .bf16) (x1 : FVec Ideal S4096x768 .bf16) (x2 : FVec Ideal S512x128 .f32) (x3 x4 : FVec Ideal S32x768 .f32)
    (G : Fin 512 → EReal) (hG : ∀ a l, x2 (ix2 a l) = G a) (a : Fin 512) (b : Fin 768) (w : EReal)
    (Hlo : ∀ r u, a = hrow r (lo u) → turnLo (hval (fun a => k0_pay6 (F := Ideal) x0 x1 (ix2 a b)) G r) (x3 (ix2 u b)) (x4 (ix2 u b)) u = w)
    (Hhi : ∀ r u, a = hrow r (hi u) → turnHi (hval (fun a => k0_pay6 (F := Ideal) x0 x1 (ix2 a b)) G r) (x3 (ix2 u b)) (x4 (ix2 u b)) u = w) :
    out0_5 (F := Ideal) x0 x1 x2 x3 x4 (ix2 a b) = w := by
  unfold out0_5 k0_pay58 k0_pay57 k0_pay56 k0_pay55 k0_pay54 k0_pay53 k0_pay52 k0_pay51
  rw [ld0_eq, ld1_eq, ld2_eq, ld2_eq]
  refine View.canon_eq_of_allAt _ _ _ (cover0_5 (F := Ideal) _ _ _ _ _ _ _ _ _ _ _ _ _ _ _ _ _) ?_
  refine View.allAt_cons_unit _ _ _ _ _ ?_ ?_
  · intro x hx
    obtain ⟨u, b', rfl⟩ : ∃ (u : Fin 32) (b' : Fin 768), x = ix2 u b' := ⟨x 0, x 1, eq_ix2 x⟩
    have h0 : a.val = 480 + u.val := hx 0
    obtain rfl : b = b' := Fin.ext ((hx 1).trans (Nat.zero_add _))
    refine (pay5_apply _ _ _ _ _ _).trans ?_
    rw [show (fun d => _) = hval (fun a => k0_pay6 (F := Ideal) x0 x1 (ix2 a b)) G 7 from funext fun d => pay50_apply _ _ G (fun d l => (ld24_apply x2 d l).trans (hG _ _)) d b]
    exact Hhi 7 u (Fin.ext (h0.trans (by simp [hrow, hi]; try omega)))
  refine View.allAt_cons_unit _ _ _ _ _ ?_ ?_
  · intro x hx
    obtain ⟨u, b', rfl⟩ : ∃ (u : Fin 32) (b' : Fin 768), x = ix2 u b' := ⟨x 0, x 1, eq_ix2 x⟩
    have h0 : a.val = 448 + u.val := hx 0
    obtain rfl : b = b' := Fin.ext ((hx 1).trans (Nat.zero_add _))
    refine (pay4_apply _ _ _ _ _ _).trans ?_
    rw [show (fun d => _) = hval (fun a => k0_pay6 (F := Ideal) x0 x1 (ix2 a b)) G 7 from funext fun d => pay50_apply _ _ G (fun d l => (ld24_apply x2 d l).trans (hG _ _)) d b]
    exact Hlo 7 u (Fin.ext (h0.trans (by simp [hrow, lo]; try omega)))
  refine View.allAt_cons_unit _ _ _ _ _ ?_ ?_
  · intro x hx
    obtain ⟨u, b', rfl⟩ : ∃ (u : Fin 32) (b' : Fin 768), x = ix2 u b' := ⟨x 0, x 1, eq_ix2 x⟩
    have h0 : a.val = 416 + u.val := hx 0
    obtain rfl : b = b' := Fin.ext ((hx 1).trans (Nat.zero_add _))
    refine (pay49_apply _ _ _ _ _ _).trans ?_
    rw [show (fun d => _) = hval (fun a => k0_pay6 (F := Ideal) x0 x1 (ix2 a b)) G 6 from funext fun d => pay45_apply _ _ G (fun d l => (ld21_apply x2 d l).trans (hG _ _)) d b]
    exact Hhi 6 u (Fin.ext (h0.trans (by simp [hrow, hi]; try omega)))
  refine View.allAt_cons_unit _ _ _ _ _ ?_ ?_
  · intro x hx
    obtain ⟨u, b', rfl⟩ : ∃ (u : Fin 32) (b' : Fin 768), x = ix2 u b' := ⟨x 0, x 1, eq_ix2 x⟩
    have h0 : a.val = 384 + u.val := hx 0
    obtain rfl : b = b' := Fin.ext ((hx 1).trans (Nat.zero_add _))
    refine (pay48_apply _ _ _ _ _ _).trans ?_
    rw [show (fun d => _) = hval (fun a => k0_pay6 (F := Ideal) x0 x1 (ix2 a b)) G 6 from funext fun d => pay45_apply _ _ G (fun d l => (ld21_apply x2 d l).trans (hG _ _)) d b]
    exact Hlo 6 u (Fin.ext (h0.trans (by simp [hrow, lo]; try omega)))
  refine View.allAt_cons_unit _ _ _ _ _ ?_ ?_
  · intro x hx
    obtain ⟨u, b', rfl⟩ : ∃ (u : Fin 32) (b' : Fin 768), x = ix2 u b' := ⟨x 0, x 1, eq_ix2 x⟩
    have h0 : a.val = 352 + u.val := hx 0
    obtain rfl : b = b' := Fin.ext ((hx 1).trans (Nat.zero_add _))
    refine (pay44_apply _ _ _ _ _ _).trans ?_
    rw [show (fun d => _) = hval (fun a => k0_pay6 (F := Ideal) x0 x1 (ix2 a b)) G 5 from funext fun d => pay40_apply _ _ G (fun d l => (ld18_apply x2 d l).trans (hG _ _)) d b]
    exact Hhi 5 u (Fin.ext (h0.trans (by simp [hrow, hi]; try omega)))
  refine View.allAt_cons_unit _ _ _ _ _ ?_ ?_
  · intro x hx
    obtain ⟨u, b', rfl⟩ : ∃ (u : Fin 32) (b' : Fin 768), x = ix2 u b' := ⟨x 0, x 1, eq_ix2 x⟩
    have h0 : a.val = 320 + u.val := hx 0
    obtain rfl : b = b' := Fin.ext ((hx 1).trans (Nat.zero_add _))
    refine (pay43_apply _ _ _ _ _ _).trans ?_
    rw [show (fun d => _) = hval (fun a => k0_pay6 (F := Ideal) x0 x1 (ix2 a b)) G 5 from funext fun d => pay40_apply _ _ G (fun d l => (ld18_apply x2 d l).trans (hG _ _)) d b]
    exact Hlo 5 u (Fin.ext (h0.trans (by simp [hrow, lo]; try omega)))
  refine View.allAt_cons_unit _ _ _ _ _ ?_ ?_
  · intro x hx
    obtain ⟨u, b', rfl⟩ : ∃ (u : Fin 32) (b' : Fin 768), x = ix2 u b' := ⟨x 0, x 1, eq_ix2 x⟩
    have h0 : a.val = 288 + u.val := hx 0
    obtain rfl : b = b' := Fin.ext ((hx 1).trans (Nat.zero_add _))
    refine (pay39_apply _ _ _ _ _ _ _).trans ?_
    rw [show (fun d => _) = hval (fun a => k0_pay6 (F := Ideal) x0 x1 (ix2 a b)) G 4 from funext fun d => pay35_apply _ _ G (fun d l => (ld15_apply x2 d l).trans (hG _ _)) d b]
    exact Hhi 4 u (Fin.ext (h0.trans (by simp [hrow, hi]; try omega)))
  refine View.allAt_cons_unit _ _ _ _ _ ?_ ?_
  · intro x hx
    obtain ⟨u, b', rfl⟩ : ∃ (u : Fin 32) (b' : Fin 768), x = ix2 u b' := ⟨x 0, x 1, eq_ix2 x⟩
    have h0 : a.val = 256 + u.val := hx 0
    obtain rfl : b = b' := Fin.ext ((hx 1).trans (Nat.zero_add _))
    refine (pay38_apply _ _ _ _ _ _ _).trans ?_
    rw [show (fun d => _) = hval (fun a => k0_pay6 (F := Ideal) x0 x1 (ix2 a b)) G 4 from funext fun d => pay35_apply _ _ G (fun d l => (ld15_apply x2 d l).trans (hG _ _)) d b]
    exact Hlo 4 u (Fin.ext (h0.trans (by simp [hrow, lo]; try omega)))
  refine View.allAt_cons_unit _ _ _ _ _ ?_ ?_
  · intro x hx
    obtain ⟨u, b', rfl⟩ : ∃ (u : Fin 32) (b' : Fin 768), x = ix2 u b' := ⟨x 0, x 1, eq_ix2 x⟩
    have h0 : a.val = 224 + u.val := hx 0
    obtain rfl : b = b' := Fin.ext ((hx 1).trans (Nat.zero_add _))
    refine (pay32_apply _ _ _ _ _ _).trans ?_
    rw [show (fun d => _) = hval (fun a => k0_pay6 (F := Ideal) x0 x1 (ix2 a b)) G 3 from funext fun d => pay28_apply _ _ G (fun d l => (ld12_apply x2 d l).trans (hG _ _)) d b]
    exact Hhi 3 u (Fin.ext (h0.trans (by simp [hrow, hi]; try omega)))
  refine View.allAt_cons_unit _ _ _ _ _ ?_ ?_
  · intro x hx
    obtain ⟨u, b', rfl⟩ : ∃ (u : Fin 32) (b' : Fin 768), x = ix2 u b' := ⟨x 0, x 1, eq_ix2 x⟩
    have h0 : a.val = 192 + u.val := hx 0
    obtain rfl : b = b' := Fin.ext ((hx 1).trans (Nat.zero_add _))
    refine (pay31_apply _ _ _ _ _ _).trans ?_
    rw [show (fun d => _) = hval (fun a => k0_pay6 (F := Ideal) x0 x1 (ix2 a b)) G 3 from funext fun d => pay28_apply _ _ G (fun d l => (ld12_apply x2 d l).trans (hG _ _)) d b]
    exact Hlo 3 u (Fin.ext (h0.trans (by simp [hrow, lo]; try omega)))
  refine View.allAt_cons_unit _ _ _ _ _ ?_ ?_
  · intro x hx
    obtain ⟨u, b', rfl⟩ : ∃ (u : Fin 32) (b' : Fin 768), x = ix2 u b' := ⟨x 0, x 1, eq_ix2 x⟩
    have h0 : a.val = 160 + u.val := hx 0
    obtain rfl : b = b' := Fin.ext ((hx 1).trans (Nat.zero_add _))
    refine (pay27_apply _ _ _ _ _ _).trans ?_
    rw [show (fun d => _) = hval (fun a => k0_pay6 (F := Ideal) x0 x1 (ix2 a b)) G 2 from funext fun d => pay21_apply _ _ G (fun d l => (ld9_apply x2 d l).trans (hG _ _)) d b]
    exact Hhi 2 u (Fin.ext (h0.trans (by simp [hrow, hi]; try omega)))
  refine View.allAt_cons_unit _ _ _ _ _ ?_ ?_
  · intro x hx
    obtain ⟨u, b', rfl⟩ : ∃ (u : Fin 32) (b' : Fin 768), x = ix2 u b' := ⟨x 0, x 1, eq_ix2 x⟩
    have h0 : a.val = 128 + u.val := hx 0
    obtain rfl : b = b' := Fin.ext ((hx 1).trans (Nat.zero_add _))
    refine (pay26_apply _ _ _ _ _ _).trans ?_
    rw [show (fun d => _) = hval (fun a => k0_pay6 (F := Ideal) x0 x1 (ix2 a b)) G 2 from funext fun d => pay21_apply _ _ G (fun d l => (ld9_apply x2 d l).trans (hG _ _)) d b]
    exact Hlo 2 u (Fin.ext (h0.trans (by simp [hrow, lo]; try omega)))
  refine View.allAt_cons_unit _ _ _ _ _ ?_ ?_
  · intro x hx
    obtain ⟨u, b', rfl⟩ : ∃ (u : Fin 32) (b' : Fin 768), x = ix2 u b' := ⟨x 0, x 1, eq_ix2 x⟩
    have h0 : a.val = 96 + u.val := hx 0
    obtain rfl : b = b' := Fin.ext ((hx 1).trans (Nat.zero_add _))
    refine (pay20_apply _ _ _ _ _ _ _).trans ?_
    rw [show (fun d => _) = hval (fun a => k0_pay6 (F := Ideal) x0 x1 (ix2 a b)) G 1 from funext fun d => pay16_apply x0 x1 _ G (fun d l => (ld6_apply x2 d l).trans (hG _ _)) d b]
    exact Hhi 1 u (Fin.ext (h0.trans (by simp [hrow, hi]; try omega)))
  refine View.allAt_cons_unit _ _ _ _ _ ?_ ?_
  · intro x hx
    obtain ⟨u, b', rfl⟩ : ∃ (u : Fin 32) (b' : Fin 768), x = ix2 u b' := ⟨x 0, x 1, eq_ix2 x⟩
    have h0 : a.val = 64 + u.val := hx 0
    obtain rfl : b = b' := Fin.ext ((hx 1).trans (Nat.zero_add _))
    refine (pay19_apply _ _ _ _ _ _ _).trans ?_
    rw [show (fun d => _) = hval (fun a => k0_pay6 (F := Ideal) x0 x1 (ix2 a b)) G 1 from funext fun d => pay16_apply x0 x1 _ G (fun d l => (ld6_apply x2 d l).trans (hG _ _)) d b]
    exact Hlo 1 u (Fin.ext (h0.trans (by simp [hrow, lo]; try omega)))
  refine View.allAt_cons_unit _ _ _ _ _ ?_ ?_
  · intro x hx
    obtain ⟨u, b', rfl⟩ : ∃ (u : Fin 32) (b' : Fin 768), x = ix2 u b' := ⟨x 0, x 1, eq_ix2 x⟩
    have h0 : a.val = 32 + u.val := hx 0
    obtain rfl : b = b' := Fin.ext ((hx 1).trans (Nat.zero_add _))
    refine (pay13_apply _ _ _ _ _ _ _).trans ?_
    rw [show (fun d => _) = hval (fun a => k0_pay6 (F := Ideal) x0 x1 (ix2 a b)) G 0 from funext fun d => pay9_apply x0 x1 _ G (fun d l => (ld3_apply x2 d l).trans (hG _ _)) d b]
    exact Hhi 0 u (Fin.ext (h0.trans (by simp [hrow, hi]; try omega)))
  refine View.allAt_cons_unit _ _ _ _ _ ?_ ?_
  · intro x hx
    obtain ⟨u, b', rfl⟩ : ∃ (u : Fin 32) (b' : Fin 768), x = ix2 u b' := ⟨x 0, x 1, eq_ix2 x⟩
    have h0 : a.val = 0 + u.val := hx 0
    obtain rfl : b = b' := Fin.ext ((hx 1).trans (Nat.zero_add _))
    refine (pay12_apply _ _ _ _ _ _ _).trans ?_
    rw [show (fun d => _) = hval (fun a => k0_pay6 (F := Ideal) x0 x1 (ix2 a b)) G 0 from funext fun d => pay9_apply x0 x1 _ G (fun d l => (ld3_apply x2 d l).trans (hG _ _)) d b]
    exact Hlo 0 u (Fin.ext (h0.trans (by simp [hrow, lo]; try omega)))
  exact View.allAt_nil _ _

end Cert.WinKIdeal.Hand
-- ==== Proof.Calls.WinKHost.lean ====
module

public import proofs.«01_k».proof.Defs
public import proofs.«01_k».proof.Proof.Gen.WinKIdeal.Value
public import proofs.«01_k».proof.Proof.Calls.WinKRef
public import Idealize.ShloMosaic.Lib.Pipeline.ValueKit
public import Idealize.ShloMosaic.Lib.Pipeline.Covers

/-! The arrays the projection onto the keys of the windowed attention reads: the weight's columns and the norm's weights with the features of each
head put in the order (half, axis, frequency), and the cosines and sines with the tokens last. -/

@[expose] public section

set_option maxRecDepth 16384

set_option maxHeartbeats 1000000

noncomputable section

namespace Cert.WinKIdeal.Hand

open Idealize.ShloMosaic Idealize.ShloMosaic.TcCoe Idealize.ShloMosaic.Tactic Idealize.ShloMosaic.StableHlo Cert.WinKIdeal.Gen
open Idealize.ShloMosaic.Pipeline Idealize.SL.Sem
open Cert.WinKRefIdeal.Hand (qcol qrow)

variable (m : (ℓ : Loc nD τ sig) → Buf (Elt Ideal) ℓ)

/-- The hidden states, as the program is given them. -/
def argH (c : Dev nD) : FVec Ideal S16896x4096 .f32 := m ((c.tc : Thread nD τ).loc main_arg0)
/-- The weight, as the program is given it. -/
def argW (c : Dev nD) : FVec Ideal S4096x5120 .f32 := m ((c.tc : Thread nD τ).loc main_arg1)
/-- The norm's weights, as the program is given them. -/
def argN (c : Dev nD) : FVec Ideal S64 .f32 := m ((c.tc : Thread nD τ).loc main_arg2)
/-- The cosines, as the program is given them. -/
def argC (c : Dev nD) : FVec Ideal S16896x2x16 .f32 := m ((c.tc : Thread nD τ).loc main_arg3)
/-- The sines, as the program is given them. -/
def argS (c : Dev nD) : FVec Ideal S16896x2x16 .f32 := m ((c.tc : Thread nD τ).loc main_arg4)

/-- The table of the features' order, as the program computes it. -/
def table : IVec S64x1 32 :=
  broadcastInDim S64x1 ![0] bcast_S64_S64x1_0 (select (constantI S64 1 0#1)
    (addi (fun i => lit0 (S64.rowMajor i)) (broadcastInDim S64 ![] bcast_S_S64 (constantI S_ 32 64#32)))
    (fun i => lit0 (S64.rowMajor i)))

/-- The transposed weight, a head's features in the table's order. -/
def warr (W : FVec Ideal S4096x5120 .f32) : FVec Ideal S512x4096 .f32 :=
  shapeCast S512x4096 (Host.gather gather_S8x64x4096_S64x1_S8x64x4096_02_1_n_n_1_1_814096
    (shapeCast S8x64x4096 (transpose S512x4096 [1, 0] (extractStridedSlice S4096x512 ![0, 4096] W slices_S4096x5120_S4096x512_0_4096)
      transposes_S4096x512_S512x4096_1_0) shapeCasts_S512x4096_S8x64x4096) table) shapeCasts_S8x64x4096_S512x4096

/-- The norm's weights in the table's order, once for each head. -/
def narr (N : FVec Ideal S64 .f32) : FVec Ideal S512 .f32 :=
  shapeCast S512 (broadcastInDim S8x64 ![0, 1] bcast_S1x64_S8x64_0_1
    (shapeCast S1x64 (Host.gather gather_S64_S64x1_S64_n_0_n_n_0_1_1 N table) shapeCasts_S64_S1x64)) shapeCasts_S8x64_S512

theorem V_w (c : Dev nD) : V m c main_v11 = truncf .bf16 (warr (argW m c)) bitsLt_bf16_f32 := by
  unfold_abbrev_sides
  simp only [hostOps0]
  after_results_simp
  rfl
theorem V_h (c : Dev nD) : V m c main_v2 = truncf .bf16 (transpose S4096x16896 [1, 0] (argH m c) transposes_S16896x4096_S4096x16896_1_0) bitsLt_bf16_f32 := by
  unfold_abbrev_sides
  simp only [hostOps0]
  after_results_simp
  rfl
theorem V_n (c : Dev nD) : V m c main_v25 = broadcastInDim S512x128 ![0, 1] bcast_S512x1_S512x128_0_1
    (broadcastInDim S512x1 ![0] bcast_S512_S512x1_0 (narr (argN m c))) := by
  unfold_abbrev_sides
  simp only [hostOps0]
  after_results_simp
  rfl
theorem V_c (c : Dev nD) : V m c main_v13 = transpose S32x16896 [1, 0] (shapeCast S16896x32 (argC m c) shapeCasts_S16896x2x16_S16896x32) transposes_S16896x32_S32x16896_1_0 := by
  unfold_abbrev_sides
  simp only [hostOps0]
  after_results_simp
  rfl
theorem V_s (c : Dev nD) : V m c main_v15 = transpose S32x16896 [1, 0] (shapeCast S16896x32 (argS m c) shapeCasts_S16896x2x16_S16896x32) transposes_S16896x32_S32x16896_1_0 := by
  unfold_abbrev_sides
  simp only [hostOps0]
  after_results_simp
  rfl

/-! ## The table -/

/-- The plain feature a head's feature in the order (half, axis, frequency) comes from. -/
def src (d : Fin 64) : Fin 64 := ⟨32 * (d.val % 32 / 16) + 16 * (d.val / 32) + d.val % 16, by omega⟩

theorem table_apply (q : Fin 64) : table (ix2 q (0 : Fin 1)) = lit0 q := by
  have e : S64.rowMajor (ix1 q) = q := Fin.ext (Shape.rowMajor_val_one _)
  unfold table
  rw [broadcastInDim_apply _ bcast_S64_S64x1_0 _ (ix2 q (0 : Fin 1)) (ix1 q) (fun a => match a with | ⟨0, _⟩ => rfl)]
  change lit0 (S64.rowMajor (ix1 q)) = _
  rw [e]

theorem lit0_src : ∀ q : Fin 64, min (lit0 q).toInt.toNat 63 = (src q).val := by decide +kernel

theorem gather_w (x : FVec Ideal S8x64x4096 .f32) (p : Fin 8) (q : Fin 64) (k : Fin 4096) :
    Host.gather gather_S8x64x4096_S64x1_S8x64x4096_02_1_n_n_1_1_814096 x table (ix3 p q k) = x (ix3 p (src q) k) := by
  unfold Host.gather
  congr 1
  funext a
  refine Fin.ext ?_
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · show GatherDims.start _ _ _ _ + GatherDims.batchCoord _ _ _ + GatherDims.offCoord _ _ _ = p.val
    rw [GatherDims.batchCoord_eq_zero _ _ _ List.not_mem_nil]
    unfold GatherDims.start GatherDims.offCoord
    rw [dif_neg (show (0 : Fin 3) ∉ gather_S8x64x4096_S64x1_S8x64x4096_02_1_n_n_1_1_814096.startIndexMap from (show (0 : Fin 3) ∉ ([1] : List (Fin 3)) by decide)),
      dif_pos ((GatherDims.mem_sKept _ _).mpr ⟨(show (0 : Fin 3) ∉ ([1] : List (Fin 3)) by decide), List.not_mem_nil⟩)]
    exact (Nat.zero_add _)
  · show GatherDims.start _ _ _ _ + GatherDims.batchCoord _ _ _ + GatherDims.offCoord _ _ _ = (src q).val
    rw [GatherDims.batchCoord_eq_zero _ _ _ List.not_mem_nil,
      GatherDims.offCoord_eq_zero _ _ _ (fun h => ((GatherDims.mem_sKept _ _).mp h).1 (List.mem_singleton.mpr rfl)), ← lit0_src, ← table_apply]
    unfold GatherDims.start
    rw [dif_pos (show (1 : Fin 3) ∈ gather_S8x64x4096_S64x1_S8x64x4096_02_1_n_n_1_1_814096.startIndexMap from List.mem_singleton.mpr rfl)]
    show min (table _).toInt.toNat 63 = _
    congr 4
    funext b; refine Fin.ext ?_
    match b with
    | ⟨0, _⟩ => rfl
    | ⟨1, _⟩ => rfl
  · show GatherDims.start _ _ _ _ + GatherDims.batchCoord _ _ _ + GatherDims.offCoord _ _ _ = k.val
    rw [GatherDims.batchCoord_eq_zero _ _ _ List.not_mem_nil]
    unfold GatherDims.start GatherDims.offCoord
    rw [dif_neg (show (2 : Fin 3) ∉ gather_S8x64x4096_S64x1_S8x64x4096_02_1_n_n_1_1_814096.startIndexMap from (show (2 : Fin 3) ∉ ([1] : List (Fin 3)) by decide)),
      dif_pos ((GatherDims.mem_sKept _ _).mpr ⟨(show (2 : Fin 3) ∉ ([1] : List (Fin 3)) by decide), List.not_mem_nil⟩)]
    exact (Nat.zero_add _)

theorem gather_n (x : FVec Ideal S64 .f32) (q : Fin 64) :
    Host.gather gather_S64_S64x1_S64_n_0_n_n_0_1_1 x table (ix1 q) = x (ix1 (src q)) := by
  unfold Host.gather
  congr 1
  funext a
  obtain rfl : a = 0 := Subsingleton.elim _ _
  refine Fin.ext ?_
  · show GatherDims.start _ _ _ _ + GatherDims.batchCoord _ _ _ + GatherDims.offCoord _ _ _ = (src q).val
    rw [GatherDims.batchCoord_eq_zero _ _ _ List.not_mem_nil,
      GatherDims.offCoord_eq_zero _ _ _ (fun h => ((GatherDims.mem_sKept _ _).mp h).1 (List.mem_singleton.mpr rfl)), ← lit0_src, ← table_apply]
    unfold GatherDims.start
    rw [dif_pos (show (0 : Fin 1) ∈ gather_S64_S64x1_S64_n_0_n_n_0_1_1.startIndexMap from List.mem_singleton.mpr rfl)]
    show min (table _).toInt.toNat 63 = _
    congr 4
    funext b; refine Fin.ext ?_
    match b with
    | ⟨0, _⟩ => rfl
    | ⟨1, _⟩ => rfl

/-! ## The arrays at an index -/

theorem w_apply (W : FVec Ideal S4096x5120 .f32) (H : Fin 8) (d : Fin 64) (k : Fin 4096) :
    truncf .bf16 (warr W) bitsLt_bf16_f32 (ix2 (qrow H d) k) = W (ix2 k (qcol H (src d))) := by
  change warr W (ix2 (qrow H d) k) = _
  unfold warr
  rw [shapeCast_apply _ shapeCasts_S8x64x4096_S512x4096 (ix2 (qrow H d) k) (ix3 H d k)
      (by rewrite [Shape.rowMajor_val_two, Shape.rowMajor_val_three]; show (H.val * 64 + d.val) * 4096 + k.val = (64 * H.val + d.val) * 4096 + k.val; omega),
    gather_w, shapeCast_apply _ shapeCasts_S512x4096_S8x64x4096 (ix3 H (src d) k) (ix2 (qrow H (src d)) k)
      (by rewrite [Shape.rowMajor_val_two, Shape.rowMajor_val_three]; show (64 * H.val + (src d).val) * 4096 + k.val = (H.val * 64 + (src d).val) * 4096 + k.val; omega)]
  generalize src d = d'
  unfold qrow qcol
  pointwise []

theorem h_apply (A : FVec Ideal S16896x4096 .f32) (k : Fin 4096) (n : Fin 16896) :
    (truncf .bf16 (transpose S4096x16896 [1, 0] A transposes_S16896x4096_S4096x16896_1_0) bitsLt_bf16_f32) (ix2 k n) = A (ix2 n k) := by
  pointwise []

theorem n_apply (N : FVec Ideal S64 .f32) (H : Fin 8) (d : Fin 64) (l : Fin 128) :
    (broadcastInDim S512x128 ![0, 1] bcast_S512x1_S512x128_0_1 (broadcastInDim S512x1 ![0] bcast_S512_S512x1_0 (narr N))) (ix2 (qrow H d) l)
      = N (ix1 (src d)) := by
  rw [broadcastInDim_apply _ bcast_S512x1_S512x128_0_1 _ (ix2 (qrow H d) l) (ix2 (qrow H d) (0 : Fin 1)) (fun a => match a with | ⟨0, _⟩ => rfl | ⟨1, _⟩ => rfl),
    broadcastInDim_apply _ bcast_S512_S512x1_0 _ (ix2 (qrow H d) (0 : Fin 1)) (ix1 (qrow H d)) (fun a => match a with | ⟨0, _⟩ => rfl)]
  unfold narr
  rw [shapeCast_apply _ shapeCasts_S8x64_S512 (ix1 (qrow H d)) (ix2 H d)
      (by rewrite [Shape.rowMajor_val_two, Shape.rowMajor_val_one]; show H.val * 64 + d.val = 64 * H.val + d.val; omega),
    broadcastInDim_apply _ bcast_S1x64_S8x64_0_1 _ (ix2 H d) (ix2 (0 : Fin 1) d) (fun a => match a with | ⟨0, _⟩ => rfl | ⟨1, _⟩ => rfl),
    shapeCast_apply _ shapeCasts_S64_S1x64 (ix2 (0 : Fin 1) d) (ix1 d)
      (by rewrite [Shape.rowMajor_val_two, Shape.rowMajor_val_one]; show d.val = 0 * 64 + d.val; omega), gather_n]

/-- The axis of a feature of a half. -/
def axis (u : Fin 32) : Fin 2 := ⟨u.val / 16, by omega⟩
/-- The frequency of a feature of a half. -/
def freq (u : Fin 32) : Fin 16 := ⟨u.val % 16, by omega⟩

theorem angle_apply (C : FVec Ideal S16896x2x16 .f32) (u : Fin 32) (n : Fin 16896) :
    (transpose S32x16896 [1, 0] (shapeCast S16896x32 C shapeCasts_S16896x2x16_S16896x32) transposes_S16896x32_S32x16896_1_0) (ix2 u n)
      = C (ix3 n (axis u) (freq u)) := by
  rw [← shapeCast_apply C shapeCasts_S16896x2x16_S16896x32 (ix2 n u) (ix3 n (axis u) (freq u))
      (by rewrite [Shape.rowMajor_val_two, Shape.rowMajor_val_three]; show (n.val * 2 + u.val / 16) * 16 + u.val % 16 = n.val * 32 + u.val; omega)]
  generalize shapeCast S16896x32 C shapeCasts_S16896x2x16_S16896x32 = y
  pointwise []

end Cert.WinKIdeal.Hand
-- ==== Proof.Calls.WinK.lean ====
module

public import proofs.«01_k».proof.Defs
public import proofs.«01_k».proof.Proof.Gen.WinKIdeal.Value
public import proofs.«01_k».proof.Proof.Calls.WinKRef
public import proofs.«01_k».proof.Proof.Calls.WinKBlock
public import proofs.«01_k».proof.Proof.Calls.WinKHost
public import Idealize.ShloMosaic.Lib.Pipeline.ValueKit
public import Idealize.ShloMosaic.Lib.Pipeline.Covers

/-! The projection of the hidden states onto the keys of the windowed attention: point `(i, j)` of the grid makes eight
heads for 768 tokens, and the blocks together are those of the mathematics, the features of each head in the order
(half, axis, frequency) and the tokens last. A head's mean square does not depend on the order of its features. -/

@[expose] public section

set_option maxRecDepth 16384

set_option maxHeartbeats 1000000

noncomputable section

namespace Cert.WinKIdeal.Hand

open Idealize.ShloMosaic Idealize.ShloMosaic.TcCoe Idealize.ShloMosaic.Tactic Idealize.ShloMosaic.StableHlo Cert.WinKIdeal.Gen
open Idealize.ShloMosaic.Pipeline Idealize.SL.Sem
open Cert.WinKRefIdeal.Hand (qcol qrow query normed feat ref_lo ref_hi)

variable (m : (ℓ : Loc nD τ sig) → Buf (Elt Ideal) ℓ)

/-- The block of tokens of a grid point. -/
def cb (t : Fin cfg0.N) : Fin 22 := grid0.coords t 0

/-- The block of features of a grid point. -/
def rb (t : Fin cfg0.N) : Fin 1 := grid0.coords t 1

/-- The result's row at a row of a point's block. -/
def row (t : Fin cfg0.N) (a : Fin 512) : Fin 512 := ⟨512 * (rb t).val + a.val, by have := (rb t).isLt; omega⟩

/-- The result's column at a column of a point's block. -/
def col (t : Fin cfg0.N) (b : Fin 768) : Fin 16896 := ⟨768 * (cb t).val + b.val, by have := (cb t).isLt; omega⟩

/-- The head that is a block's `r`-th. -/
def headOf (t : Fin cfg0.N) (r : Fin 8) : Fin 8 := ⟨8 * (rb t).val + r.val, by have := (rb t).isLt; omega⟩

theorem row_hrow (t : Fin cfg0.N) (r : Fin 8) (d : Fin 64) : row t (hrow r d) = qrow (headOf t r) d :=
  Fin.ext (by show 512 * (rb t).val + (64 * r.val + d.val) = 64 * (8 * (rb t).val + r.val) + d.val; omega)

/-! ## The blocks a grid point reads -/

theorem index_w : ∀ t : Fin cfg0.N, win0_0.index t = ![(rb t).val, 0] := (by decide +kernel : ∀ t : Fin grid0.N, _)
theorem index_h : ∀ t : Fin cfg0.N, win0_1.index t = ![0, (cb t).val] := (by decide +kernel : ∀ t : Fin grid0.N, _)
theorem index_n : ∀ t : Fin cfg0.N, win0_2.index t = ![(rb t).val, 0] := (by decide +kernel : ∀ t : Fin grid0.N, _)
theorem index_c : ∀ t : Fin cfg0.N, win0_3.index t = ![0, (cb t).val] := (by decide +kernel : ∀ t : Fin grid0.N, _)
theorem index_s : ∀ t : Fin cfg0.N, win0_4.index t = ![0, (cb t).val] := (by decide +kernel : ∀ t : Fin grid0.N, _)
theorem index_out : ∀ t : Fin cfg0.N, win0_5.index t = ![(rb t).val, (cb t).val] := (by decide +kernel : ∀ t : Fin grid0.N, _)

theorem place_w (t : Fin cfg0.N) (a : Fin 512) (k : Fin 4096) :
    ((cfg0.win 0).blk t).view.emb (ix2 a k) = (ix2 (row t a) k : S512x4096.Idx) := by
  unfold row
  blk_ext [index_w t]
theorem place_h (t : Fin cfg0.N) (k : Fin 4096) (b : Fin 768) :
    ((cfg0.win 1).blk t).view.emb (ix2 k b) = (ix2 k (col t b) : S4096x16896.Idx) := by
  unfold col
  blk_ext [index_h t]
theorem place_n (t : Fin cfg0.N) (a : Fin 512) (l : Fin 128) :
    ((cfg0.win 2).blk t).view.emb (ix2 a l) = (ix2 (row t a) l : S512x128.Idx) := by
  unfold row
  blk_ext [index_n t]
theorem place_c (t : Fin cfg0.N) (u : Fin 32) (b : Fin 768) :
    ((cfg0.win 3).blk t).view.emb (ix2 u b) = (ix2 u (col t b) : S32x16896.Idx) := by
  unfold col
  blk_ext [index_c t]
theorem place_s (t : Fin cfg0.N) (u : Fin 32) (b : Fin 768) :
    ((cfg0.win 4).blk t).view.emb (ix2 u b) = (ix2 u (col t b) : S32x16896.Idx) := by
  unfold col
  blk_ext [index_s t]
theorem place_out (t : Fin cfg0.N) (a : Fin 512) (b : Fin 768) :
    ((cfg0.win 5).blk t).view.emb (ix2 a b) = (ix2 (row t a) (col t b) : S512x16896.Idx) := by
  unfold row col
  blk_ext [index_out t]

theorem read_w (A : FVec Ideal S512x4096 .bf16) (t : Fin cfg0.N) (a : Fin 512) (k : Fin 4096) :
    ((cfg0.win 0).blk t).view.read (Elt Ideal) A (ix2 a k) = A (ix2 (row t a) k) := by
  change A (((cfg0.win 0).blk t).view.emb _) = _
  rw [place_w]
theorem read_h (A : FVec Ideal S4096x16896 .bf16) (t : Fin cfg0.N) (k : Fin 4096) (b : Fin 768) :
    ((cfg0.win 1).blk t).view.read (Elt Ideal) A (ix2 k b) = A (ix2 k (col t b)) := by
  change A (((cfg0.win 1).blk t).view.emb _) = _
  rw [place_h]
theorem read_n (A : FVec Ideal S512x128 .f32) (t : Fin cfg0.N) (a : Fin 512) (l : Fin 128) :
    ((cfg0.win 2).blk t).view.read (Elt Ideal) A (ix2 a l) = A (ix2 (row t a) l) := by
  change A (((cfg0.win 2).blk t).view.emb _) = _
  rw [place_n]
theorem read_c (A : FVec Ideal S32x16896 .f32) (t : Fin cfg0.N) (u : Fin 32) (b : Fin 768) :
    ((cfg0.win 3).blk t).view.read (Elt Ideal) A (ix2 u b) = A (ix2 u (col t b)) := by
  change A (((cfg0.win 3).blk t).view.emb _) = _
  rw [place_c]
theorem read_s (A : FVec Ideal S32x16896 .f32) (t : Fin cfg0.N) (u : Fin 32) (b : Fin 768) :
    ((cfg0.win 4).blk t).view.read (Elt Ideal) A (ix2 u b) = A (ix2 u (col t b)) := by
  change A (((cfg0.win 4).blk t).view.emb _) = _
  rw [place_s]

theorem iblk_w (c : Dev nD) (t : Fin cfg0.N) (r : Fin 8) (d : Fin 64) (k : Fin 4096) :
    (iblk m c 0 t : FVec Ideal S512x4096 .bf16) (ix2 (hrow r d) k) = argW m c (ix2 k (qcol (headOf t r) (src d))) := by
  unfold iblk
  change ((cfg0.win 0).blk t).view.read (Elt Ideal) (V m c main_v11) _ = _
  rw [V_w, read_w, row_hrow, w_apply]
theorem iblk_h (c : Dev nD) (t : Fin cfg0.N) (k : Fin 4096) (b : Fin 768) :
    (iblk m c 1 t : FVec Ideal S4096x768 .bf16) (ix2 k b) = argH m c (ix2 (col t b) k) := by
  unfold iblk
  change ((cfg0.win 1).blk t).view.read (Elt Ideal) (V m c main_v2) _ = _
  rw [V_h, read_h, h_apply]
theorem iblk_n (c : Dev nD) (t : Fin cfg0.N) (r : Fin 8) (d : Fin 64) (l : Fin 128) :
    (iblk m c 2 t : FVec Ideal S512x128 .f32) (ix2 (hrow r d) l) = argN m c (ix1 (src d)) := by
  unfold iblk
  change ((cfg0.win 2).blk t).view.read (Elt Ideal) (V m c main_v25) _ = _
  rw [V_n, read_n, row_hrow, n_apply]
theorem iblk_c (c : Dev nD) (t : Fin cfg0.N) (u : Fin 32) (b : Fin 768) :
    (iblk m c 3 t : FVec Ideal S32x768 .f32) (ix2 u b) = argC m c (ix3 (col t b) (axis u) (freq u)) := by
  unfold iblk
  change ((cfg0.win 3).blk t).view.read (Elt Ideal) (V m c main_v13) _ = _
  rw [V_c, read_c, angle_apply]
theorem iblk_s (c : Dev nD) (t : Fin cfg0.N) (u : Fin 32) (b : Fin 768) :
    (iblk m c 4 t : FVec Ideal S32x768 .f32) (ix2 u b) = argS m c (ix3 (col t b) (axis u) (freq u)) := by
  unfold iblk
  change ((cfg0.win 4).blk t).view.read (Elt Ideal) (V m c main_v15) _ = _
  rw [V_s, read_s, angle_apply]

/-! ## A head of a block -/

theorem src_invol : Function.Involutive src := by
  have h : ∀ d : Fin 64, src (src d) = d := by decide +kernel
  exact h

theorem src_lo (u : Fin 32) : src (lo u) = feat (axis u) 0 (freq u) :=
  Fin.ext (by show 32 * (u.val % 32 / 16) + 16 * (u.val / 32) + u.val % 16 = 32 * (u.val / 16) + 16 * 0 + u.val % 16; omega)
theorem src_hi (u : Fin 32) : src (hi u) = feat (axis u) 1 (freq u) :=
  Fin.ext (by show 32 * ((32 + u.val) % 32 / 16) + 16 * ((32 + u.val) / 32) + (32 + u.val) % 16 = 32 * (u.val / 16) + 16 * 1 + u.val % 16; omega)

theorem ofBits_64 : Ideal.ofBits .f32 0x42800000#32 = ((64 : ℝ) : EReal) := by
  simp [Ideal.ofBits, Ideal.ieee, -EReal.coe_mul]; norm_num
theorem ofBits_inv_64 : Ideal.ofBits .f32 0x3C800000#32 = (((1 : ℝ) / 64 : ℝ) : EReal) := by
  simp [Ideal.ofBits, Ideal.ieee, -EReal.coe_mul]; norm_num

/-- Dividing by 64 is multiplying by its inverse. -/
theorem div_64 (x : EReal) : Ideal.div x (Ideal.ofBits .f32 0x42800000#32) = x * Ideal.ofBits .f32 0x3C800000#32 := by
  rw [ofBits_64, ofBits_inv_64, Ideal.div_coe (by norm_num)]

/-- A block's normed head is the mathematics' normed head, its features in the table's order. -/
theorem hval_eq (A : FVec Ideal S16896x4096 .f32) (W : FVec Ideal S4096x5120 .f32) (N : FVec Ideal S64 .f32) (n : Fin 16896) (H : Fin 8)
    (P G : Fin 512 → EReal) (r : Fin 8) (hP : ∀ d, P (hrow r d) = query A W n H (src d)) (hG : ∀ d, G (hrow r d) = N (ix1 (src d))) (d : Fin 64) :
    hval P G r d = normed A W N n H (src d) := by
  unfold hval normed
  simp only [hP, hG]
  rw [div_64, ← Equiv.sum_comp (src_invol.toPerm src) fun e => query A W n H e * query A W n H e]
  rfl

/-- The reference's result. -/
def queries (c : Dev nD) : FVec Ideal S512x16896 .bf16 :=
  Cert.WinKRefIdeal.Read.val_main_v38 (F := Ideal) (argH m c) (argW m c) (argN m c) (argC m c) (argS m c)

/-- The norm's weight at a row of a block. -/
def weight (c : Dev nD) (a : Fin 512) : EReal := argN m c (ix1 (src ⟨a.val % 64, by omega⟩))

theorem weight_hrow (c : Dev nD) (r : Fin 8) (d : Fin 64) : weight m c (hrow r d) = argN m c (ix1 (src d)) := by
  have e : (⟨(hrow r d).val % 64, by omega⟩ : Fin 64) = d := Fin.ext (by show (64 * r.val + d.val) % 64 = d.val; omega)
  unfold weight
  rw [e]

theorem hrow_surj (a : Fin 512) : ∃ r d, a = hrow r d :=
  ⟨⟨a.val / 64, by omega⟩, ⟨a.val % 64, by omega⟩, Fin.ext (by show a.val = 64 * (a.val / 64) + a.val % 64; omega)⟩

theorem head_eq (c : Dev nD) (t : Fin cfg0.N) (b : Fin 768) (r : Fin 8) (d : Fin 64) :
    hval (fun a => k0_pay6 (F := Ideal) (iblk m c 0 t : FVec Ideal S512x4096 .bf16) (iblk m c 1 t : FVec Ideal S4096x768 .bf16) (ix2 a b)) (weight m c) r d
      = normed (argH m c) (argW m c) (argN m c) (col t b) (headOf t r) (src d) := by
  refine hval_eq _ _ _ _ _ _ _ r (fun d => ?_) (weight_hrow m c r) d
  refine (pay6_apply _ _ _ b).trans (Finset.sum_congr rfl fun k _ => ?_)
  rw [iblk_w, iblk_h, mul_comm]

theorem out_apply (c : Dev nD) (t : Fin cfg0.N) (a : Fin 512) (b : Fin 768) :
    (dats m 0 c).after 5 t (ix2 a b) = queries m c (ix2 (row t a) (col t b)) := by
  rw [after0_5]
  refine block_apply _ _ _ _ _ (weight m c) (fun a l => ?_) a b _ (fun r u h => ?_) (fun r u h => ?_)
  · obtain ⟨r, d, rfl⟩ := hrow_surj a
    rw [weight_hrow]
    exact iblk_n m c t r d l
  · subst h
    unfold queries turnLo
    rw [ref_lo _ _ _ _ _ (col t b) (headOf t r) (axis u) (freq u) _ (by rw [row_hrow]; show 64 * (headOf t r).val + u.val = 64 * (headOf t r).val + (16 * (u.val / 16) + u.val % 16); omega),
      head_eq, head_eq, src_lo, src_hi, iblk_c, iblk_s]
  · subst h
    unfold queries turnHi
    rw [ref_hi _ _ _ _ _ (col t b) (headOf t r) (axis u) (freq u) _ (by rw [row_hrow]; show 64 * (headOf t r).val + (32 + u.val) = 64 * (headOf t r).val + (32 + 16 * (u.val / 16) + u.val % 16); omega),
      head_eq, head_eq, src_lo, src_hi, iblk_c, iblk_s]

/-! ## The array after the run -/

theorem index_cell : ∀ (i : Fin 1) (j : Fin 22), ∃ t : Fin cfg0.N, win0_5.index t = ![i.val, j.val] :=
  (by decide +kernel : ∀ (i : Fin 1) (j : Fin 22), ∃ t : Fin grid0.N, _)

/-- The result's blocks cover the array. -/
theorem covers : (cfg0.win 5).Covers :=
  (cfg0.win 5).covers_of_index_surj rfl (by decide) fun β => by
    have b0 : (β (0 : Fin 2)).val < 1 := (β (0 : Fin 2)).isLt
    have b1 : (β (1 : Fin 2)).val < 22 := (β (1 : Fin 2)).isLt
    obtain ⟨t, ht⟩ := index_cell ⟨(β (0 : Fin 2)).val, b0⟩ ⟨(β (1 : Fin 2)).val, b1⟩
    refine ⟨t, fun a => (congrFun ht a).trans ?_⟩
    match a with
    | ⟨0, _⟩ => rfl
    | ⟨1, _⟩ => rfl

/-- After the run the result array is the reference's result. -/
theorem array_eq (c : Dev nD) : (dats m 0 c).arrAt 5 cfg0.N = queries m c := by
  refine Dat.arrAt_eq_of_covers _ 5 _ covers fun t hf y => ?_
  have key : ∀ y : S512x768.Idx, (dats m 0 c).after 5 t y = queries m c (((cfg0.win 5).blk t).view.emb y) := by
    intro y
    rw [eq_ix2 y]
    refine Eq.trans ?_ (congrArg (queries m c) (place_out t (y 0) (y 1))).symm
    exact out_apply m c t (y 0) (y 1)
  exact key y

/-- The two runs agree. -/
theorem algebraic : Cert.algebraic_WinKIdeal_WinKRefIdeal (hWinKIdeal := Cert.WinKIdeal.Gen.facts)
    (hWinKRefIdeal := Cert.WinKRefIdeal.Gen.facts) := by
  intro m g m' g' hpre hargs
  refine ⟨queries m, (θ_run defs _ _).mono (fun r h c => ⟨(h c).1.trans (array_eq m c), (h c).2⟩) (Cert.WinKIdeal.Value.run_blocks m g), ?_⟩
  refine (θ_run Cert.WinKRefIdeal.defs _ _).mono (fun r h c => ⟨(h c).1.trans ?_, (h c).2⟩) (Cert.WinKRefIdeal.Value.run (F := Ideal) m' g')
  obtain ⟨e0, e1, e2, e3, e4⟩ := hargs c
  rw [Cert.WinKRefIdeal.Read.val_main_v38_eq, e0, e1, e2, e3, e4]
  rfl

end Cert.WinKIdeal.Hand
-- ==== Proof.Calls.WinV.lean ====
module

public import proofs.«01_k».proof.Defs
public import proofs.«01_k».proof.Proof.Gen.WinVIdeal.Value
public import proofs.«01_k».proof.Proof.Gen.WinVRefIdeal.Run
public import proofs.«01_k».proof.Proof.Gen.WinVRefIdeal.Read
public import Idealize.ShloMosaic.Lib.Pipeline.ValueKit
public import Idealize.ShloMosaic.Lib.Pipeline.Covers

/-! The projection of the hidden states onto the values of the windowed attention: point `(i, j)` of the grid multiplies
512 rows of the values' part of the transposed weight by 768 columns of the transposed hidden states, and the blocks
together are the values' columns of the plain product, transposed. -/

@[expose] public section

set_option maxRecDepth 16384

set_option maxHeartbeats 1000000

noncomputable section

namespace Cert.WinVIdeal.Hand

open Idealize.ShloMosaic Idealize.ShloMosaic.TcCoe Idealize.ShloMosaic.Tactic Idealize.ShloMosaic.StableHlo Cert.WinVIdeal.Gen
open Idealize.ShloMosaic.Pipeline Idealize.SL.Sem

variable (m : (ℓ : Loc nD τ sig) → Buf (Elt Ideal) ℓ)

/-- The hidden states, as the program is given them. -/
def argH (c : Dev nD) : FVec Ideal S16896x4096 .f32 := m ((c.tc : Thread nD τ).loc main_arg0)

/-- The weight, as the program is given it. -/
def argW (c : Dev nD) : FVec Ideal S4096x5120 .f32 := m ((c.tc : Thread nD τ).loc main_arg1)

/-- The block of rows of a grid point. -/
def rb (t : Fin cfg0.N) : Fin 1 := grid0.coords t 0

/-- The block of columns of a grid point. -/
def cb (t : Fin cfg0.N) : Fin 22 := grid0.coords t 1

/-- The result's row at a row of a point's block. -/
def row (t : Fin cfg0.N) (a : Fin 512) : Fin 512 := ⟨512 * (rb t).val + a.val, by have := (rb t).isLt; omega⟩

/-- The result's column at a column of a point's block. -/
def col (t : Fin cfg0.N) (b : Fin 768) : Fin 16896 := ⟨768 * (cb t).val + b.val, by have := (cb t).isLt; omega⟩

/-! ## The arrays the grid reads -/

theorem V_w (c : Dev nD) : V m c main_v4 = truncf .bf16 (transpose S512x4096 [1, 0] (extractStridedSlice S4096x512 ![0, 4608] (argW m c) slices_S4096x5120_S4096x512_0_4608) transposes_S4096x512_S512x4096_1_0) bitsLt_bf16_f32 := by
  unfold_abbrev_sides
  simp only [hostOps0]
  after_results_simp
  rfl

theorem V_h (c : Dev nD) : V m c main_v1 = truncf .bf16 (transpose S4096x16896 [1, 0] (argH m c) transposes_S16896x4096_S4096x16896_1_0) bitsLt_bf16_f32 := by
  unfold_abbrev_sides
  simp only [hostOps0]
  after_results_simp
  rfl

/-- The weight's column that makes a row of the values: the values' columns come after those of the queries and keys. -/
def vcol (r : Fin 512) : Fin 5120 := ⟨4608 + r.val, by omega⟩

/-- The values' part of the transposed weight at an index. -/
theorem w_apply (A : FVec Ideal S4096x5120 .f32) (r : Fin 512) (k : Fin 4096) :
    (truncf .bf16 (transpose S512x4096 [1, 0] (extractStridedSlice S4096x512 ![0, 4608] A slices_S4096x5120_S4096x512_0_4608) transposes_S4096x512_S512x4096_1_0) bitsLt_bf16_f32) (ix2 r k) = A (ix2 k (vcol r)) := by
  unfold vcol
  pointwise []

/-- The transposed hidden states at an index. -/
theorem h_apply (A : FVec Ideal S16896x4096 .f32) (k : Fin 4096) (n : Fin 16896) :
    (truncf .bf16 (transpose S4096x16896 [1, 0] A transposes_S16896x4096_S4096x16896_1_0) bitsLt_bf16_f32) (ix2 k n) = A (ix2 n k) := by
  pointwise []

/-! ## The blocks a grid point reads -/

theorem index_w : ∀ t : Fin cfg0.N, win0_0.index t = ![(rb t).val, 0] := (by decide +kernel : ∀ t : Fin grid0.N, _)
theorem index_h : ∀ t : Fin cfg0.N, win0_1.index t = ![0, (cb t).val] := (by decide +kernel : ∀ t : Fin grid0.N, _)
theorem index_out : ∀ t : Fin cfg0.N, win0_2.index t = ![(rb t).val, (cb t).val] := (by decide +kernel : ∀ t : Fin grid0.N, _)

theorem place_w (t : Fin cfg0.N) (a : Fin 512) (k : Fin 4096) :
    ((cfg0.win 0).blk t).view.emb (ix2 a k) = (ix2 (row t a) k : S512x4096.Idx) := by
  unfold row
  blk_ext [index_w t]
theorem place_h (t : Fin cfg0.N) (k : Fin 4096) (b : Fin 768) :
    ((cfg0.win 1).blk t).view.emb (ix2 k b) = (ix2 k (col t b) : S4096x16896.Idx) := by
  unfold col
  blk_ext [index_h t]
theorem place_out (t : Fin cfg0.N) (a : Fin 512) (b : Fin 768) :
    ((cfg0.win 2).blk t).view.emb (ix2 a b) = (ix2 (row t a) (col t b) : S512x16896.Idx) := by
  unfold row col
  blk_ext [index_out t]

theorem read_w (A : FVec Ideal S512x4096 .bf16) (t : Fin cfg0.N) (a : Fin 512) (k : Fin 4096) :
    ((cfg0.win 0).blk t).view.read (Elt Ideal) A (ix2 a k) = A (ix2 (row t a) k) := by
  change A (((cfg0.win 0).blk t).view.emb _) = _
  rw [place_w]
theorem read_h (A : FVec Ideal S4096x16896 .bf16) (t : Fin cfg0.N) (k : Fin 4096) (b : Fin 768) :
    ((cfg0.win 1).blk t).view.read (Elt Ideal) A (ix2 k b) = A (ix2 k (col t b)) := by
  change A (((cfg0.win 1).blk t).view.emb _) = _
  rw [place_h]

theorem iblk_w (c : Dev nD) (t : Fin cfg0.N) (a : Fin 512) (k : Fin 4096) :
    (iblk m c 0 t : FVec Ideal S512x4096 .bf16) (ix2 a k) = argW m c (ix2 k (vcol (row t a))) := by
  unfold iblk
  change ((cfg0.win 0).blk t).view.read (Elt Ideal) (V m c main_v4) _ = _
  rw [V_w, read_w, w_apply]

theorem iblk_h (c : Dev nD) (t : Fin cfg0.N) (k : Fin 4096) (b : Fin 768) :
    (iblk m c 1 t : FVec Ideal S4096x768 .bf16) (ix2 k b) = argH m c (ix2 (col t b) k) := by
  unfold iblk
  change ((cfg0.win 1).blk t).view.read (Elt Ideal) (V m c main_v1) _ = _
  rw [V_h, read_h, h_apply]

/-! ## The product of two blocks -/

theorem pay1_apply (x : FVec Ideal S512x4096 .bf16) (y : FVec Ideal S4096x768 .bf16) (a : Fin 512) (b : Fin 768) :
    k0_pay1 (F := Ideal) x y (ix2 a b) = ∑ k : Fin 4096, (x (ix2 a k) : EReal) * (y (ix2 k b) : EReal) := by
  pointwise [k0_pay1]

/-- The reference's result. -/
def values (c : Dev nD) : FVec Ideal S512x16896 .bf16 := Cert.WinVRefIdeal.Read.val_main_v3 (F := Ideal) (argH m c) (argW m c)

theorem ref_apply (A : FVec Ideal S16896x4096 .f32) (B : FVec Ideal S4096x5120 .f32) (r : Fin 512) (n : Fin 16896) :
    Cert.WinVRefIdeal.Read.val_main_v3 (F := Ideal) A B (ix2 r n) = ∑ k : Fin 4096, (A (ix2 n k) : EReal) * (B (ix2 k (vcol r)) : EReal) := by
  rw [Cert.WinVRefIdeal.Read.val_main_v3_apply, Cert.WinVRefIdeal.Read.val_main_v2_apply, Cert.WinVRefIdeal.Read.val_main_v1_apply,
    Cert.WinVRefIdeal.Read.val_main_v0_apply]
  refine Finset.sum_congr rfl fun k _ => ?_
  congr 2 <;> (funext a; fin_cases a <;> rfl)

theorem out_apply (c : Dev nD) (t : Fin cfg0.N) (a : Fin 512) (b : Fin 768) :
    (dats m 0 c).after 2 t (ix2 a b) = values m c (ix2 (row t a) (col t b)) := by
  rw [after0_2]
  frame_out
  unfold values
  rw [ref_apply]
  refine (pay1_apply _ _ a b).trans (Finset.sum_congr rfl fun k _ => ?_)
  rw [iblk_w, iblk_h, mul_comm]

/-! ## The array after the run -/

theorem index_cell : ∀ (i : Fin 1) (j : Fin 22), ∃ t : Fin cfg0.N, win0_2.index t = ![i.val, j.val] :=
  (by decide +kernel : ∀ (i : Fin 1) (j : Fin 22), ∃ t : Fin grid0.N, _)

/-- The result's blocks cover the array. -/
theorem covers : (cfg0.win 2).Covers :=
  (cfg0.win 2).covers_of_index_surj rfl (by decide) fun β => by
    have b0 : (β (0 : Fin 2)).val < 1 := (β (0 : Fin 2)).isLt
    have b1 : (β (1 : Fin 2)).val < 22 := (β (1 : Fin 2)).isLt
    obtain ⟨t, ht⟩ := index_cell ⟨(β (0 : Fin 2)).val, b0⟩ ⟨(β (1 : Fin 2)).val, b1⟩
    refine ⟨t, fun a => (congrFun ht a).trans ?_⟩
    match a with
    | ⟨0, _⟩ => rfl
    | ⟨1, _⟩ => rfl

/-- After the run the result array is the reference's result. -/
theorem array_eq (c : Dev nD) : (dats m 0 c).arrAt 2 cfg0.N = values m c := by
  refine Dat.arrAt_eq_of_covers _ 2 _ covers fun t hf y => ?_
  have key : ∀ y : S512x768.Idx, (dats m 0 c).after 2 t y = values m c (((cfg0.win 2).blk t).view.emb y) := by
    intro y
    rw [eq_ix2 y]
    refine Eq.trans ?_ (congrArg (values m c) (place_out t (y 0) (y 1))).symm
    exact out_apply m c t (y 0) (y 1)
  exact key y

/-- The two runs agree. -/
theorem algebraic : Cert.algebraic_WinVIdeal_WinVRefIdeal (hWinVIdeal := Cert.WinVIdeal.Gen.facts)
    (hWinVRefIdeal := Cert.WinVRefIdeal.Gen.facts) := by
  intro m g m' g' hpre hargs
  refine ⟨values m, (θ_run defs _ _).mono (fun r h c => ⟨(h c).1.trans (array_eq m c), (h c).2⟩) (Cert.WinVIdeal.Value.run_blocks m g), ?_⟩
  refine (θ_run Cert.WinVRefIdeal.defs _ _).mono (fun r h c => ⟨(h c).1.trans ?_, (h c).2⟩) (Cert.WinVRefIdeal.Value.run (F := Ideal) m' g')
  obtain ⟨e0, e1⟩ := hargs c
  rw [Cert.WinVRefIdeal.Read.val_main_v3_eq, e0, e1]
  rfl

end Cert.WinVIdeal.Hand
-- ==== Proof.Calls.Modulate.lean ====
module

public import proofs.«01_k».proof.Defs
public import proofs.«01_k».proof.Proof.Gen.ModulateIdeal.Value
public import proofs.«01_k».proof.Proof.Gen.ModulateRefIdeal.Run
public import proofs.«01_k».proof.Proof.Gen.ModulateRefIdeal.Read
public import Idealize.ShloMosaic.Lib.Pipeline.ValueKit
public import Idealize.ShloMosaic.Lib.Pipeline.Covers

/-! The norm and modulation of the tokens, features first: a point of the grid brings 256 tokens to unit mean square, weights
their features, and scales and shifts them by the modulation of the tokens' kind (the first 256 tokens are the context). -/

@[expose] public section

set_option maxRecDepth 16384

set_option maxHeartbeats 1000000

noncomputable section

namespace Cert.ModulateIdeal.Hand

open Idealize.ShloMosaic Idealize.ShloMosaic.TcCoe Idealize.ShloMosaic.Tactic Idealize.ShloMosaic.StableHlo Cert.ModulateIdeal.Gen
open Idealize.ShloMosaic.Pipeline Idealize.SL.Sem

variable (m : (ℓ : Loc nD τ sig) → Buf (Elt Ideal) ℓ)

/-- The tokens, as the program is given them. -/
def argX (c : Dev nD) : FVec Ideal S16896x4096 .f32 := m ((c.tc : Thread nD τ).loc main_arg0)
/-- The norm's weights, as the program is given them. -/
def argN (c : Dev nD) : FVec Ideal S4096 .f32 := m ((c.tc : Thread nD τ).loc main_arg1)
/-- The context's shift (row 0) and scale (row 1), as the program is given them. -/
def argC (c : Dev nD) : FVec Ideal S2x4096 .f32 := m ((c.tc : Thread nD τ).loc main_arg2)
/-- The other tokens' shift (row 0) and scale (row 1), as the program is given them. -/
def argL (c : Dev nD) : FVec Ideal S2x4096 .f32 := m ((c.tc : Thread nD τ).loc main_arg3)

/-! ## The reference at an index -/

/-- A feature of a token brought to unit mean square, weighted, scaled and shifted. -/
def modd (A : FVec Ideal S16896x4096 .f32) (N : FVec Ideal S4096 .f32) (M : FVec Ideal S2x4096 .f32) (n : Fin 16896) (d : Fin 4096) : EReal :=
  (A (ix2 n d) : EReal) * Ideal.rsqrt (Ideal.div (∑ k : Fin 4096, (A (ix2 n k) : EReal) * (A (ix2 n k) : EReal)) (Ideal.ofBits .f32 0x45800000#32)
    + Ideal.ofBits .f32 0x358637BD#32) * (N (ix1 d) : EReal) * (Ideal.ofBits .f32 0x3F800000#32 + (M (ix2 1 d) : EReal)) + (M (ix2 0 d) : EReal)

open Cert.ModulateRefIdeal.Read in
theorem ctx_apply (A : FVec Ideal S16896x4096 .f32) (N : FVec Ideal S4096 .f32) (M : FVec Ideal S2x4096 .f32) (r : Fin 256) (d : Fin 4096) :
    val_main_v25 (F := Ideal) A N M (ix2 r d) = modd A N M ⟨r.val, by omega⟩ d := by
  have e0 : ∀ k : Fin 4096, idx_main_v0 (ix2 r k) = ix2 (⟨r.val, by omega⟩ : Fin 16896) k := fun k => by
    funext a; match a with | ⟨0, _⟩ => rfl | ⟨1, _⟩ => rfl
  have e6 : ∀ k : Fin 4096, idx_main_v6 (idx_main_v7 (idx_main_v13 (ix2 r d))) k = ix2 r k := fun k => by
    funext a; match a with | ⟨0, _⟩ => rfl | ⟨1, _⟩ => rfl
  have en : idx_main_v15 (idx_main_v16 (ix2 r d)) = ix1 d := by funext a; match a with | ⟨0, _⟩ => rfl
  have e1 : idx_main_v3 (idx_main_v4 (idx_main_v20 (idx_main_v21 (ix2 r d)))) = ix2 (1 : Fin 2) d := by
    funext a; match a with | ⟨0, _⟩ => rfl | ⟨1, _⟩ => exact Fin.ext (by simp)
  have e2 : idx_main_v1 (idx_main_v2 (idx_main_v23 (idx_main_v24 (ix2 r d)))) = ix2 (0 : Fin 2) d := by
    funext a; match a with | ⟨0, _⟩ => rfl | ⟨1, _⟩ => exact Fin.ext (by simp)
  simp only [val_main_v25_apply, val_main_v22_apply, val_main_v17_apply, val_main_v14_apply, val_main_v13_apply, val_main_v12_apply,
    val_main_v11_apply, val_main_v9_apply, val_main_v7_apply, val_main_v6_apply, val_main_v5_apply, val_main_v0_apply, val_main_v8_apply,
    val_main_v10_apply, val_main_cst_apply, val_main_cst_0_apply, val_main_cst_1_apply, val_main_v16_apply, val_main_v15_apply, val_main_v21_apply,
    val_main_v20_apply, val_main_v19_apply, val_main_v18_apply, val_main_cst_2_apply, val_main_v4_apply, val_main_v3_apply, val_main_v24_apply,
    val_main_v23_apply, val_main_v2_apply, val_main_v1_apply, e6, e0, en, e1, e2]
  unfold modd
  change (A _ : EReal) * Ideal.rsqrt (Ideal.div (Ideal.ofBits .f32 0x00000000#32 + _) _ + _) * _ * _ + _ = _
  rw [Ideal.ofBits_zero_f32, zero_add]
  rfl

open Cert.ModulateRefIdeal.Read in
theorem lat_apply (A : FVec Ideal S16896x4096 .f32) (N : FVec Ideal S4096 .f32) (M : FVec Ideal S2x4096 .f32) (r : Fin 16640) (d : Fin 4096) :
    val_main_v51 (F := Ideal) A N M (ix2 r d) = modd A N M ⟨256 + r.val, by omega⟩ d := by
  have e0 : ∀ k : Fin 4096, idx_main_v26 (ix2 r k) = ix2 (⟨256 + r.val, by omega⟩ : Fin 16896) k := fun k => by
    funext a; match a with | ⟨0, _⟩ => rfl | ⟨1, _⟩ => rfl
  have e6 : ∀ k : Fin 4096, idx_main_v32 (idx_main_v33 (idx_main_v39 (ix2 r d))) k = ix2 r k := fun k => by
    funext a; match a with | ⟨0, _⟩ => rfl | ⟨1, _⟩ => rfl
  have en : idx_main_v41 (idx_main_v42 (ix2 r d)) = ix1 d := by funext a; match a with | ⟨0, _⟩ => rfl
  have e1 : idx_main_v29 (idx_main_v30 (idx_main_v46 (idx_main_v47 (ix2 r d)))) = ix2 (1 : Fin 2) d := by
    funext a; match a with | ⟨0, _⟩ => rfl | ⟨1, _⟩ => exact Fin.ext (by simp)
  have e2 : idx_main_v27 (idx_main_v28 (idx_main_v49 (idx_main_v50 (ix2 r d)))) = ix2 (0 : Fin 2) d := by
    funext a; match a with | ⟨0, _⟩ => rfl | ⟨1, _⟩ => exact Fin.ext (by simp)
  simp only [val_main_v51_apply, val_main_v48_apply, val_main_v43_apply, val_main_v40_apply, val_main_v39_apply, val_main_v38_apply,
    val_main_v37_apply, val_main_v35_apply, val_main_v33_apply, val_main_v32_apply, val_main_v31_apply, val_main_v26_apply, val_main_v34_apply,
    val_main_v36_apply, val_main_cst_3_apply, val_main_cst_4_apply, val_main_cst_5_apply, val_main_v42_apply, val_main_v41_apply, val_main_v47_apply,
    val_main_v46_apply, val_main_v45_apply, val_main_v44_apply, val_main_cst_6_apply, val_main_v30_apply, val_main_v29_apply, val_main_v50_apply,
    val_main_v49_apply, val_main_v28_apply, val_main_v27_apply, e6, e0, en, e1, e2]
  unfold modd
  change (A _ : EReal) * Ideal.rsqrt (Ideal.div (Ideal.ofBits .f32 0x00000000#32 + _) _ + _) * _ * _ + _ = _
  rw [Ideal.ofBits_zero_f32, zero_add]
  rfl

/-- The context's rows and the other tokens' rows, joined. -/
theorem cat_apply (P : FVec Ideal Cert.ModulateRefIdeal.S256x4096 .f32) (Q : FVec Ideal Cert.ModulateRefIdeal.S16640x4096 .f32) (r : Fin 16896) (n : Fin 4096) :
    concatenate Cert.ModulateRefIdeal.S16896x4096 0 [⟨Cert.ModulateRefIdeal.S256x4096, P⟩, ⟨Cert.ModulateRefIdeal.S16640x4096, Q⟩]
        Cert.ModulateRefIdeal.Gen.concatenates_S256x4096_S16640x4096_S16896x4096_d0 (ix2 r n)
      = if h : r.val < 256 then P (ix2 ⟨r.val, h⟩ n) else Q (ix2 ⟨r.val - 256, by omega⟩ n) := by
  pointwise []

open Cert.ModulateRefIdeal.Read in
theorem ref_apply (A : FVec Ideal S16896x4096 .f32) (N : FVec Ideal S4096 .f32) (C L : FVec Ideal S2x4096 .f32) (n : Fin 16896) (d : Fin 4096) :
    val_main_v54 (F := Ideal) A N C L (ix2 d n) = if n.val < 256 then modd A N C n d else modd A N L n d := by
  have e : val_main_v54 (F := Ideal) A N C L (ix2 d n) = val_main_v52 (F := Ideal) A N C L (ix2 n d) := by
    rw [val_main_v54_apply, val_main_v53_apply]
    change val_main_v52 (F := Ideal) A N C L _ = _
    congr 1; funext a; match a with | ⟨0, _⟩ => rfl | ⟨1, _⟩ => rfl
  rw [e]
  unfold val_main_v52
  refine (cat_apply _ _ n d).trans ?_
  by_cases h : n.val < 256
  · rw [dif_pos h, if_pos h, ctx_apply]
  · rw [dif_neg h, if_neg h, lat_apply]
    congr 1
    exact Fin.ext (by show 256 + (n.val - 256) = n.val; omega)

/-! ## The arrays the grid reads -/

/-- The two kinds' shifts and scales, stacked. -/
def marr (C L : FVec Ideal S2x4096 .f32) : FVec Ideal S2x2x4096 .f32 :=
  concatenate S2x2x4096 0 [⟨S1x2x4096, broadcastInDim S1x2x4096 ![1, 2] bcast_S2x4096_S1x2x4096_1_2 C⟩,
    ⟨S1x2x4096, broadcastInDim S1x2x4096 ![1, 2] bcast_S2x4096_S1x2x4096_1_2 L⟩] concatenates_S1x2x4096_S1x2x4096_S2x2x4096_d0

theorem V_x (c : Dev nD) : V m c main_arg0 = argX m c := V_main_arg0 m c

theorem V_n (c : Dev nD) : V m c main_v3 = shapeCast S1x4096 (argN m c) shapeCasts_S4096_S1x4096 := by
  unfold_abbrev_sides
  simp only [hostOps0]
  after_results_simp
  rfl

theorem V_m (c : Dev nD) : V m c main_v2 = marr (argC m c) (argL m c) := by
  unfold_abbrev_sides
  simp only [hostOps0]
  after_results_simp
  rfl

theorem n_apply (N : FVec Ideal S4096 .f32) (d : Fin 4096) : shapeCast S1x4096 N shapeCasts_S4096_S1x4096 (ix2 (0 : Fin 1) d) = N (ix1 d) :=
  shapeCast_apply N shapeCasts_S4096_S1x4096 (ix2 (0 : Fin 1) d) (ix1 d)
    (by rewrite [Shape.rowMajor_val_two, Shape.rowMajor_val_one]; show d.val = 0 * 4096 + d.val; omega)

theorem marr_ctx (C L : FVec Ideal S2x4096 .f32) (s : Fin 2) (d : Fin 4096) : marr C L (ix3 (0 : Fin 2) s d) = C (ix2 s d) := by
  unfold marr
  refine (concatenate_pair_apply_left (t := S2x2x4096) (s₁ := S1x2x4096) (s₂ := S1x2x4096) 0 _ _ _ (ix3 (0 : Fin 2) s d) rfl (ix3 (0 : Fin 1) s d) (fun b => match b with
    | ⟨0, _⟩ => rfl | ⟨1, _⟩ => rfl | ⟨2, _⟩ => rfl)).trans ?_
  exact broadcastInDim_apply _ bcast_S2x4096_S1x2x4096_1_2 _ (ix3 (0 : Fin 1) s d) (ix2 s d) (fun a => match a with | ⟨0, _⟩ => rfl | ⟨1, _⟩ => rfl)
theorem marr_lat (C L : FVec Ideal S2x4096 .f32) (s : Fin 2) (d : Fin 4096) : marr C L (ix3 (1 : Fin 2) s d) = L (ix2 s d) := by
  unfold marr
  refine (concatenate_pair_apply_right (t := S2x2x4096) (s₁ := S1x2x4096) (s₂ := S1x2x4096) 0 _ _ _ (ix3 (1 : Fin 2) s d) rfl rfl (ix3 (0 : Fin 1) s d) (fun b hb => match b, hb with
    | ⟨0, _⟩, hb => absurd rfl hb | ⟨1, _⟩, _ => rfl | ⟨2, _⟩, _ => rfl) rfl).trans ?_
  exact broadcastInDim_apply _ bcast_S2x4096_S1x2x4096_1_2 _ (ix3 (0 : Fin 1) s d) (ix2 s d) (fun a => match a with | ⟨0, _⟩ => rfl | ⟨1, _⟩ => rfl)

/-! ## The blocks a grid point reads -/

/-- The block of tokens of a grid point. -/
def tb (t : Fin cfg0.N) : Fin 66 := grid0.coords t 0

/-- The kind of a grid point's tokens: the first block is the context. -/
def kind (t : Fin cfg0.N) : Fin 2 := if (tb t).val < 1 then 0 else 1

/-- The token at a row of a point's block. -/
def row (t : Fin cfg0.N) (a : Fin 256) : Fin 16896 := ⟨256 * (tb t).val + a.val, by have := (tb t).isLt; omega⟩

theorem index_x : ∀ t : Fin cfg0.N, win0_0.index t = ![(tb t).val, 0] := (by decide +kernel : ∀ t : Fin grid0.N, _)
theorem index_n : ∀ t : Fin cfg0.N, win0_1.index t = ![0, 0] := (by decide +kernel : ∀ t : Fin grid0.N, _)
theorem index_m : ∀ t : Fin cfg0.N, win0_2.index t = ![(kind t).val, 0, 0] := (by decide +kernel : ∀ t : Fin grid0.N, _)
theorem index_out : ∀ t : Fin cfg0.N, win0_3.index t = ![0, (tb t).val] := (by decide +kernel : ∀ t : Fin grid0.N, _)

theorem place_x (t : Fin cfg0.N) (a : Fin 256) (k : Fin 4096) :
    ((cfg0.win 0).blk t).view.emb (ix2 a k) = (ix2 (row t a) k : S16896x4096.Idx) := by
  unfold row
  blk_ext [index_x t]
theorem place_n (t : Fin cfg0.N) (k : Fin 4096) :
    ((cfg0.win 1).blk t).view.emb (ix2 (0 : Fin 1) k) = (ix2 (0 : Fin 1) k : S1x4096.Idx) := by
  blk_ext [index_n t]
theorem place_m (t : Fin cfg0.N) (s : Fin 2) (k : Fin 4096) :
    ((cfg0.win 2).blk t).view.emb (ix3 (0 : Fin 1) s k) = (ix3 (kind t) s k : S2x2x4096.Idx) := by
  blk_ext [index_m t]
theorem place_out (t : Fin cfg0.N) (a : Fin 256) (d : Fin 4096) :
    ((cfg0.win 3).blk t).view.emb (ix2 d a) = (ix2 d (row t a) : S4096x16896.Idx) := by
  unfold row
  blk_ext [index_out t]

theorem read_x (A : FVec Ideal S16896x4096 .f32) (t : Fin cfg0.N) (a : Fin 256) (k : Fin 4096) :
    ((cfg0.win 0).blk t).view.read (Elt Ideal) A (ix2 a k) = A (ix2 (row t a) k) := by
  change A (((cfg0.win 0).blk t).view.emb _) = _
  rw [place_x]
theorem read_n (A : FVec Ideal S1x4096 .f32) (t : Fin cfg0.N) (k : Fin 4096) :
    ((cfg0.win 1).blk t).view.read (Elt Ideal) A (ix2 (0 : Fin 1) k) = A (ix2 (0 : Fin 1) k) := by
  change A (((cfg0.win 1).blk t).view.emb _) = _
  rw [place_n]
theorem read_m (A : FVec Ideal S2x2x4096 .f32) (t : Fin cfg0.N) (s : Fin 2) (k : Fin 4096) :
    ((cfg0.win 2).blk t).view.read (Elt Ideal) A (ix3 (0 : Fin 1) s k) = A (ix3 (kind t) s k) := by
  change A (((cfg0.win 2).blk t).view.emb _) = _
  rw [place_m]

theorem iblk_x (c : Dev nD) (t : Fin cfg0.N) (a : Fin 256) (k : Fin 4096) :
    (iblk m c 0 t : FVec Ideal S256x4096 .f32) (ix2 a k) = argX m c (ix2 (row t a) k) := by
  unfold iblk
  change ((cfg0.win 0).blk t).view.read (Elt Ideal) (V m c main_arg0) _ = _
  rw [V_x, read_x]
theorem iblk_n (c : Dev nD) (t : Fin cfg0.N) (d : Fin 4096) :
    (iblk m c 1 t : FVec Ideal S1x4096 .f32) (ix2 (0 : Fin 1) d) = argN m c (ix1 d) := by
  unfold iblk
  change ((cfg0.win 1).blk t).view.read (Elt Ideal) (V m c main_v3) _ = _
  rw [V_n, read_n, n_apply]
theorem iblk_m (c : Dev nD) (t : Fin cfg0.N) (s : Fin 2) (d : Fin 4096) :
    (iblk m c 2 t : FVec Ideal S1x2x4096 .f32) (ix3 (0 : Fin 1) s d) = if (tb t).val < 1 then argC m c (ix2 s d) else argL m c (ix2 s d) := by
  unfold iblk
  change ((cfg0.win 2).blk t).view.read (Elt Ideal) (V m c main_v2) _ = _
  rw [V_m, read_m]
  unfold kind
  by_cases h : (tb t).val < 1
  · rw [if_pos h, if_pos h, marr_ctx]
  · rw [if_neg h, if_neg h, marr_lat]

/-! ## The block a grid point leaves -/

/-- The loads of the tokens, of the weights, of the shift and of the scale. -/
theorem ld_x (X : FVec Ideal S256x4096 .f32) (a : Fin 256) (d : Fin 4096) : View.ld (Val := Elt Ideal) (e' := .f32) X r0_0 (ix2 a d : S256x4096.Idx) = X (ix2 a d) :=
  View.ld_unit_apply_of (Val := Elt Ideal) (e := .f32) (S := S256x4096) X ![0, 0] S256x4096.size inb_S256x4096_S256x4096_0_0 (ix2 a d : S256x4096.Idx) (ix2 a d) fun b => match b with
    | ⟨0, _⟩ => (Nat.zero_add _).symm | ⟨1, _⟩ => (Nat.zero_add _).symm
theorem ld_n (X : FVec Ideal S1x4096 .f32) (d : Fin 4096) : View.ld (Val := Elt Ideal) (e' := .f32) X r0_1 (ix2 (0 : Fin 1) d : S1x4096.Idx) = X (ix2 (0 : Fin 1) d) :=
  View.ld_unit_apply_of (Val := Elt Ideal) (e := .f32) (S := S1x4096) X ![0, 0] S1x4096.size inb_S1x4096_S1x4096_0_0 (ix2 (0 : Fin 1) d : S1x4096.Idx) (ix2 (0 : Fin 1) d) fun b => match b with
    | ⟨0, _⟩ => rfl | ⟨1, _⟩ => (Nat.zero_add _).symm
theorem ld_m0 (X : FVec Ideal S1x2x4096 .f32) (d : Fin 4096) :
    View.ld (Val := Elt Ideal) (e' := .f32) X r0_2 (ix3 (0 : Fin 1) (0 : Fin 1) d : S1x1x4096.Idx) = X (ix3 (0 : Fin 1) (0 : Fin 2) d) :=
  View.ld_unit_apply_of (Val := Elt Ideal) (e := .f32) (S := S1x2x4096) X ![0, 0, 0] S1x1x4096.size inb_S1x2x4096_S1x1x4096_0_0_0
    (ix3 (0 : Fin 1) (0 : Fin 1) d : S1x1x4096.Idx) (ix3 (0 : Fin 1) (0 : Fin 2) d) fun b => match b with
    | ⟨0, _⟩ => rfl | ⟨1, _⟩ => rfl | ⟨2, _⟩ => (Nat.zero_add _).symm
theorem ld_m1 (X : FVec Ideal S1x2x4096 .f32) (d : Fin 4096) :
    View.ld (Val := Elt Ideal) (e' := .f32) X r0_3 (ix3 (0 : Fin 1) (0 : Fin 1) d : S1x1x4096.Idx) = X (ix3 (0 : Fin 1) (1 : Fin 2) d) :=
  View.ld_unit_apply_of (Val := Elt Ideal) (e := .f32) (S := S1x2x4096) X ![0, 1, 0] S1x1x4096.size inb_S1x2x4096_S1x1x4096_0_1_0
    (ix3 (0 : Fin 1) (0 : Fin 1) d : S1x1x4096.Idx) (ix3 (0 : Fin 1) (1 : Fin 2) d) fun b => match b with
    | ⟨0, _⟩ => rfl | ⟨1, _⟩ => rfl | ⟨2, _⟩ => (Nat.zero_add _).symm

theorem pay1_apply (x : FVec Ideal S256x4096 .f32) (w : FVec Ideal S1x4096 .f32) (s0 s1 : FVec Ideal S1x1x4096 .f32) (a : Fin 256) (d : Fin 4096) :
    k0_pay1 (F := Ideal) x w s0 s1 (ix2 d a)
      = (x (ix2 a d) : EReal) * Ideal.rsqrt (Ideal.div (∑ k : Fin 4096, (x (ix2 a k) : EReal) * (x (ix2 a k) : EReal)) (Ideal.ofBits .f32 0x45800000#32)
          + Ideal.ofBits .f32 0x358637BD#32) * (w (ix2 (0 : Fin 1) d) : EReal) * (Ideal.ofBits .f32 0x3F800000#32 + (s1 (ix3 (0 : Fin 1) (0 : Fin 1) d) : EReal))
        + (s0 (ix3 (0 : Fin 1) (0 : Fin 1) d) : EReal) := by
  pointwise [k0_pay1]

/-- The reference's result. -/
def modulated (c : Dev nD) : FVec Ideal S4096x16896 .bf16 :=
  Cert.ModulateRefIdeal.Read.val_main_v54 (F := Ideal) (argX m c) (argN m c) (argC m c) (argL m c)

theorem out_apply (c : Dev nD) (t : Fin cfg0.N) (a : Fin 256) (d : Fin 4096) :
    (dats m 0 c).after 3 t (ix2 d a) = modulated m c (ix2 d (row t a)) := by
  rw [after0_3]
  frame_out
  unfold modulated
  refine Eq.trans ?_ (ref_apply _ _ _ _ _ _).symm
  refine (pay1_apply _ _ _ _ a d).trans ?_
  have e0 := (ld_m0 (iblk m c 2 t) d).trans (iblk_m m c t 0 d)
  have e1 := (ld_m1 (iblk m c 2 t) d).trans (iblk_m m c t 1 d)
  simp only [ld_x, ld_n, iblk_x, iblk_n]
  erw [e0, e1]
  have hr : (row t a).val < 256 ↔ (tb t).val < 1 := by
    unfold row
    dsimp only
    omega
  by_cases h : (tb t).val < 1
  · rw [if_pos h, if_pos h, if_pos (hr.mpr h)]
    rfl
  · rw [if_neg h, if_neg h, if_neg (fun h' => h (hr.mp h'))]
    rfl

/-! ## The array after the run -/

theorem index_cell : ∀ j : Fin 66, ∃ t : Fin cfg0.N, win0_3.index t = ![0, j.val] :=
  (by decide +kernel : ∀ j : Fin 66, ∃ t : Fin grid0.N, _)

/-- The result's blocks cover the array. -/
theorem covers : (cfg0.win 3).Covers :=
  (cfg0.win 3).covers_of_index_surj rfl (by decide) fun β => by
    have b0 : (β (1 : Fin 2)).val < 66 := (β (1 : Fin 2)).isLt
    have b1 : (β (0 : Fin 2)).val < 1 := (β (0 : Fin 2)).isLt
    obtain ⟨t, ht⟩ := index_cell ⟨(β (1 : Fin 2)).val, b0⟩
    refine ⟨t, fun a => (congrFun ht a).trans ?_⟩
    match a with
    | ⟨1, _⟩ => rfl
    | ⟨0, _⟩ => exact (Nat.lt_one_iff.mp b1).symm

/-- After the run the result array is the reference's result. -/
theorem array_eq (c : Dev nD) : (dats m 0 c).arrAt 3 cfg0.N = modulated m c := by
  refine Dat.arrAt_eq_of_covers _ 3 _ covers fun t hf y => ?_
  have key : ∀ y : S4096x256.Idx, (dats m 0 c).after 3 t y = modulated m c (((cfg0.win 3).blk t).view.emb y) := by
    intro y
    rw [eq_ix2 y]
    refine Eq.trans ?_ (congrArg (modulated m c) (place_out t (y 1) (y 0))).symm
    exact out_apply m c t (y 1) (y 0)
  exact key y

/-- The two runs agree. -/
theorem algebraic : Cert.algebraic_ModulateIdeal_ModulateRefIdeal (hModulateIdeal := Cert.ModulateIdeal.Gen.facts)
    (hModulateRefIdeal := Cert.ModulateRefIdeal.Gen.facts) := by
  intro m g m' g' hpre hargs
  refine ⟨modulated m, (θ_run defs _ _).mono (fun r h c => ⟨(h c).1.trans (array_eq m c), (h c).2⟩) (Cert.ModulateIdeal.Value.run_blocks m g), ?_⟩
  refine (θ_run Cert.ModulateRefIdeal.defs _ _).mono (fun r h c => ⟨(h c).1.trans ?_, (h c).2⟩) (Cert.ModulateRefIdeal.Value.run (F := Ideal) m' g')
  obtain ⟨e0, e1, e2, e3⟩ := hargs c
  rw [Cert.ModulateRefIdeal.Read.val_main_v54_eq, e0, e1, e2, e3]
  rfl

end Cert.ModulateIdeal.Hand
-- ==== Proof.Calls.ModulateRows.lean ====
module

public import proofs.«01_k».proof.Defs
public import proofs.«01_k».proof.Proof.Gen.ModulateRowsIdeal.Value
public import proofs.«01_k».proof.Proof.Gen.ModulateRowsRefIdeal.Run
public import proofs.«01_k».proof.Proof.Gen.ModulateRowsRefIdeal.Read
public import Idealize.ShloMosaic.Lib.Pipeline.ValueKit
public import Idealize.ShloMosaic.Lib.Pipeline.Covers

/-! The norm and modulation of the tokens, tokens first: a point of the grid brings 256 tokens to unit mean square, weights
their features, and scales and shifts them by the modulation of the tokens' kind (the first 256 tokens are the context). -/

@[expose] public section

set_option maxRecDepth 16384

set_option maxHeartbeats 1000000

noncomputable section

namespace Cert.ModulateRowsIdeal.Hand

open Idealize.ShloMosaic Idealize.ShloMosaic.TcCoe Idealize.ShloMosaic.Tactic Idealize.ShloMosaic.StableHlo Cert.ModulateRowsIdeal.Gen
open Idealize.ShloMosaic.Pipeline Idealize.SL.Sem

variable (m : (ℓ : Loc nD τ sig) → Buf (Elt Ideal) ℓ)

/-- The tokens, as the program is given them. -/
def argX (c : Dev nD) : FVec Ideal S16896x4096 .f32 := m ((c.tc : Thread nD τ).loc main_arg0)
/-- The norm's weights, as the program is given them. -/
def argN (c : Dev nD) : FVec Ideal S4096 .f32 := m ((c.tc : Thread nD τ).loc main_arg1)
/-- The context's shift (row 0) and scale (row 1), as the program is given them. -/
def argC (c : Dev nD) : FVec Ideal S2x4096 .f32 := m ((c.tc : Thread nD τ).loc main_arg2)
/-- The other tokens' shift (row 0) and scale (row 1), as the program is given them. -/
def argL (c : Dev nD) : FVec Ideal S2x4096 .f32 := m ((c.tc : Thread nD τ).loc main_arg3)

/-! ## The reference at an index -/

/-- A feature of a token brought to unit mean square, weighted, scaled and shifted. -/
def modd (A : FVec Ideal S16896x4096 .f32) (N : FVec Ideal S4096 .f32) (M : FVec Ideal S2x4096 .f32) (n : Fin 16896) (d : Fin 4096) : EReal :=
  (A (ix2 n d) : EReal) * Ideal.rsqrt (Ideal.div (∑ k : Fin 4096, (A (ix2 n k) : EReal) * (A (ix2 n k) : EReal)) (Ideal.ofBits .f32 0x45800000#32)
    + Ideal.ofBits .f32 0x358637BD#32) * (N (ix1 d) : EReal) * (Ideal.ofBits .f32 0x3F800000#32 + (M (ix2 1 d) : EReal)) + (M (ix2 0 d) : EReal)

open Cert.ModulateRowsRefIdeal.Read in
theorem ctx_apply (A : FVec Ideal S16896x4096 .f32) (N : FVec Ideal S4096 .f32) (M : FVec Ideal S2x4096 .f32) (r : Fin 256) (d : Fin 4096) :
    val_main_v25 (F := Ideal) A N M (ix2 r d) = modd A N M ⟨r.val, by omega⟩ d := by
  have e0 : ∀ k : Fin 4096, idx_main_v0 (ix2 r k) = ix2 (⟨r.val, by omega⟩ : Fin 16896) k := fun k => by
    funext a; match a with | ⟨0, _⟩ => rfl | ⟨1, _⟩ => rfl
  have e6 : ∀ k : Fin 4096, idx_main_v6 (idx_main_v7 (idx_main_v13 (ix2 r d))) k = ix2 r k := fun k => by
    funext a; match a with | ⟨0, _⟩ => rfl | ⟨1, _⟩ => rfl
  have en : idx_main_v15 (idx_main_v16 (ix2 r d)) = ix1 d := by funext a; match a with | ⟨0, _⟩ => rfl
  have e1 : idx_main_v3 (idx_main_v4 (idx_main_v20 (idx_main_v21 (ix2 r d)))) = ix2 (1 : Fin 2) d := by
    funext a; match a with | ⟨0, _⟩ => rfl | ⟨1, _⟩ => exact Fin.ext (by simp)
  have e2 : idx_main_v1 (idx_main_v2 (idx_main_v23 (idx_main_v24 (ix2 r d)))) = ix2 (0 : Fin 2) d := by
    funext a; match a with | ⟨0, _⟩ => rfl | ⟨1, _⟩ => exact Fin.ext (by simp)
  simp only [val_main_v25_apply, val_main_v22_apply, val_main_v17_apply, val_main_v14_apply, val_main_v13_apply, val_main_v12_apply,
    val_main_v11_apply, val_main_v9_apply, val_main_v7_apply, val_main_v6_apply, val_main_v5_apply, val_main_v0_apply, val_main_v8_apply,
    val_main_v10_apply, val_main_cst_apply, val_main_cst_0_apply, val_main_cst_1_apply, val_main_v16_apply, val_main_v15_apply, val_main_v21_apply,
    val_main_v20_apply, val_main_v19_apply, val_main_v18_apply, val_main_cst_2_apply, val_main_v4_apply, val_main_v3_apply, val_main_v24_apply,
    val_main_v23_apply, val_main_v2_apply, val_main_v1_apply, e6, e0, en, e1, e2]
  unfold modd
  change (A _ : EReal) * Ideal.rsqrt (Ideal.div (Ideal.ofBits .f32 0x00000000#32 + _) _ + _) * _ * _ + _ = _
  rw [Ideal.ofBits_zero_f32, zero_add]
  rfl

open Cert.ModulateRowsRefIdeal.Read in
theorem lat_apply (A : FVec Ideal S16896x4096 .f32) (N : FVec Ideal S4096 .f32) (M : FVec Ideal S2x4096 .f32) (r : Fin 16640) (d : Fin 4096) :
    val_main_v51 (F := Ideal) A N M (ix2 r d) = modd A N M ⟨256 + r.val, by omega⟩ d := by
  have e0 : ∀ k : Fin 4096, idx_main_v26 (ix2 r k) = ix2 (⟨256 + r.val, by omega⟩ : Fin 16896) k := fun k => by
    funext a; match a with | ⟨0, _⟩ => rfl | ⟨1, _⟩ => rfl
  have e6 : ∀ k : Fin 4096, idx_main_v32 (idx_main_v33 (idx_main_v39 (ix2 r d))) k = ix2 r k := fun k => by
    funext a; match a with | ⟨0, _⟩ => rfl | ⟨1, _⟩ => rfl
  have en : idx_main_v41 (idx_main_v42 (ix2 r d)) = ix1 d := by funext a; match a with | ⟨0, _⟩ => rfl
  have e1 : idx_main_v29 (idx_main_v30 (idx_main_v46 (idx_main_v47 (ix2 r d)))) = ix2 (1 : Fin 2) d := by
    funext a; match a with | ⟨0, _⟩ => rfl | ⟨1, _⟩ => exact Fin.ext (by simp)
  have e2 : idx_main_v27 (idx_main_v28 (idx_main_v49 (idx_main_v50 (ix2 r d)))) = ix2 (0 : Fin 2) d := by
    funext a; match a with | ⟨0, _⟩ => rfl | ⟨1, _⟩ => exact Fin.ext (by simp)
  simp only [val_main_v51_apply, val_main_v48_apply, val_main_v43_apply, val_main_v40_apply, val_main_v39_apply, val_main_v38_apply,
    val_main_v37_apply, val_main_v35_apply, val_main_v33_apply, val_main_v32_apply, val_main_v31_apply, val_main_v26_apply, val_main_v34_apply,
    val_main_v36_apply, val_main_cst_3_apply, val_main_cst_4_apply, val_main_cst_5_apply, val_main_v42_apply, val_main_v41_apply, val_main_v47_apply,
    val_main_v46_apply, val_main_v45_apply, val_main_v44_apply, val_main_cst_6_apply, val_main_v30_apply, val_main_v29_apply, val_main_v50_apply,
    val_main_v49_apply, val_main_v28_apply, val_main_v27_apply, e6, e0, en, e1, e2]
  unfold modd
  change (A _ : EReal) * Ideal.rsqrt (Ideal.div (Ideal.ofBits .f32 0x00000000#32 + _) _ + _) * _ * _ + _ = _
  rw [Ideal.ofBits_zero_f32, zero_add]
  rfl

/-- The context's rows and the other tokens' rows, joined. -/
theorem cat_apply (P : FVec Ideal Cert.ModulateRowsRefIdeal.S256x4096 .f32) (Q : FVec Ideal Cert.ModulateRowsRefIdeal.S16640x4096 .f32) (r : Fin 16896) (n : Fin 4096) :
    concatenate Cert.ModulateRowsRefIdeal.S16896x4096 0 [⟨Cert.ModulateRowsRefIdeal.S256x4096, P⟩, ⟨Cert.ModulateRowsRefIdeal.S16640x4096, Q⟩]
        Cert.ModulateRowsRefIdeal.Gen.concatenates_S256x4096_S16640x4096_S16896x4096_d0 (ix2 r n)
      = if h : r.val < 256 then P (ix2 ⟨r.val, h⟩ n) else Q (ix2 ⟨r.val - 256, by omega⟩ n) := by
  pointwise []

open Cert.ModulateRowsRefIdeal.Read in
theorem ref_apply (A : FVec Ideal S16896x4096 .f32) (N : FVec Ideal S4096 .f32) (C L : FVec Ideal S2x4096 .f32) (n : Fin 16896) (d : Fin 4096) :
    val_main_v53 (F := Ideal) A N C L (ix2 n d) = if n.val < 256 then modd A N C n d else modd A N L n d := by
  have e : val_main_v53 (F := Ideal) A N C L (ix2 n d) = val_main_v52 (F := Ideal) A N C L (ix2 n d) := by
    rfl
  rw [e]
  unfold val_main_v52
  refine (cat_apply _ _ n d).trans ?_
  by_cases h : n.val < 256
  · rw [dif_pos h, if_pos h, ctx_apply]
  · rw [dif_neg h, if_neg h, lat_apply]
    congr 1
    exact Fin.ext (by show 256 + (n.val - 256) = n.val; omega)

/-! ## The arrays the grid reads -/

/-- The two kinds' shifts and scales, stacked. -/
def marr (C L : FVec Ideal S2x4096 .f32) : FVec Ideal S2x2x4096 .f32 :=
  concatenate S2x2x4096 0 [⟨S1x2x4096, broadcastInDim S1x2x4096 ![1, 2] bcast_S2x4096_S1x2x4096_1_2 C⟩,
    ⟨S1x2x4096, broadcastInDim S1x2x4096 ![1, 2] bcast_S2x4096_S1x2x4096_1_2 L⟩] concatenates_S1x2x4096_S1x2x4096_S2x2x4096_d0

theorem V_x (c : Dev nD) : V m c main_arg0 = argX m c := V_main_arg0 m c

theorem V_n (c : Dev nD) : V m c main_v3 = shapeCast S1x4096 (argN m c) shapeCasts_S4096_S1x4096 := by
  unfold_abbrev_sides
  simp only [hostOps0]
  after_results_simp
  rfl

theorem V_m (c : Dev nD) : V m c main_v2 = marr (argC m c) (argL m c) := by
  unfold_abbrev_sides
  simp only [hostOps0]
  after_results_simp
  rfl

theorem n_apply (N : FVec Ideal S4096 .f32) (d : Fin 4096) : shapeCast S1x4096 N shapeCasts_S4096_S1x4096 (ix2 (0 : Fin 1) d) = N (ix1 d) :=
  shapeCast_apply N shapeCasts_S4096_S1x4096 (ix2 (0 : Fin 1) d) (ix1 d)
    (by rewrite [Shape.rowMajor_val_two, Shape.rowMajor_val_one]; show d.val = 0 * 4096 + d.val; omega)

theorem marr_ctx (C L : FVec Ideal S2x4096 .f32) (s : Fin 2) (d : Fin 4096) : marr C L (ix3 (0 : Fin 2) s d) = C (ix2 s d) := by
  unfold marr
  refine (concatenate_pair_apply_left (t := S2x2x4096) (s₁ := S1x2x4096) (s₂ := S1x2x4096) 0 _ _ _ (ix3 (0 : Fin 2) s d) rfl (ix3 (0 : Fin 1) s d) (fun b => match b with
    | ⟨0, _⟩ => rfl | ⟨1, _⟩ => rfl | ⟨2, _⟩ => rfl)).trans ?_
  exact broadcastInDim_apply _ bcast_S2x4096_S1x2x4096_1_2 _ (ix3 (0 : Fin 1) s d) (ix2 s d) (fun a => match a with | ⟨0, _⟩ => rfl | ⟨1, _⟩ => rfl)
theorem marr_lat (C L : FVec Ideal S2x4096 .f32) (s : Fin 2) (d : Fin 4096) : marr C L (ix3 (1 : Fin 2) s d) = L (ix2 s d) := by
  unfold marr
  refine (concatenate_pair_apply_right (t := S2x2x4096) (s₁ := S1x2x4096) (s₂ := S1x2x4096) 0 _ _ _ (ix3 (1 : Fin 2) s d) rfl rfl (ix3 (0 : Fin 1) s d) (fun b hb => match b, hb with
    | ⟨0, _⟩, hb => absurd rfl hb | ⟨1, _⟩, _ => rfl | ⟨2, _⟩, _ => rfl) rfl).trans ?_
  exact broadcastInDim_apply _ bcast_S2x4096_S1x2x4096_1_2 _ (ix3 (0 : Fin 1) s d) (ix2 s d) (fun a => match a with | ⟨0, _⟩ => rfl | ⟨1, _⟩ => rfl)

/-! ## The blocks a grid point reads -/

/-- The block of tokens of a grid point. -/
def tb (t : Fin cfg0.N) : Fin 66 := grid0.coords t 0

/-- The kind of a grid point's tokens: the first block is the context. -/
def kind (t : Fin cfg0.N) : Fin 2 := if (tb t).val < 1 then 0 else 1

/-- The token at a row of a point's block. -/
def row (t : Fin cfg0.N) (a : Fin 256) : Fin 16896 := ⟨256 * (tb t).val + a.val, by have := (tb t).isLt; omega⟩

theorem index_x : ∀ t : Fin cfg0.N, win0_0.index t = ![(tb t).val, 0] := (by decide +kernel : ∀ t : Fin grid0.N, _)
theorem index_n : ∀ t : Fin cfg0.N, win0_1.index t = ![0, 0] := (by decide +kernel : ∀ t : Fin grid0.N, _)
theorem index_m : ∀ t : Fin cfg0.N, win0_2.index t = ![(kind t).val, 0, 0] := (by decide +kernel : ∀ t : Fin grid0.N, _)
theorem index_out : ∀ t : Fin cfg0.N, win0_3.index t = ![(tb t).val, 0] := (by decide +kernel : ∀ t : Fin grid0.N, _)

theorem place_x (t : Fin cfg0.N) (a : Fin 256) (k : Fin 4096) :
    ((cfg0.win 0).blk t).view.emb (ix2 a k) = (ix2 (row t a) k : S16896x4096.Idx) := by
  unfold row
  blk_ext [index_x t]
theorem place_n (t : Fin cfg0.N) (k : Fin 4096) :
    ((cfg0.win 1).blk t).view.emb (ix2 (0 : Fin 1) k) = (ix2 (0 : Fin 1) k : S1x4096.Idx) := by
  blk_ext [index_n t]
theorem place_m (t : Fin cfg0.N) (s : Fin 2) (k : Fin 4096) :
    ((cfg0.win 2).blk t).view.emb (ix3 (0 : Fin 1) s k) = (ix3 (kind t) s k : S2x2x4096.Idx) := by
  blk_ext [index_m t]
theorem place_out (t : Fin cfg0.N) (a : Fin 256) (d : Fin 4096) :
    ((cfg0.win 3).blk t).view.emb (ix2 a d) = (ix2 (row t a) d : S16896x4096.Idx) := by
  unfold row
  blk_ext [index_out t]

theorem read_x (A : FVec Ideal S16896x4096 .f32) (t : Fin cfg0.N) (a : Fin 256) (k : Fin 4096) :
    ((cfg0.win 0).blk t).view.read (Elt Ideal) A (ix2 a k) = A (ix2 (row t a) k) := by
  change A (((cfg0.win 0).blk t).view.emb _) = _
  rw [place_x]
theorem read_n (A : FVec Ideal S1x4096 .f32) (t : Fin cfg0.N) (k : Fin 4096) :
    ((cfg0.win 1).blk t).view.read (Elt Ideal) A (ix2 (0 : Fin 1) k) = A (ix2 (0 : Fin 1) k) := by
  change A (((cfg0.win 1).blk t).view.emb _) = _
  rw [place_n]
theorem read_m (A : FVec Ideal S2x2x4096 .f32) (t : Fin cfg0.N) (s : Fin 2) (k : Fin 4096) :
    ((cfg0.win 2).blk t).view.read (Elt Ideal) A (ix3 (0 : Fin 1) s k) = A (ix3 (kind t) s k) := by
  change A (((cfg0.win 2).blk t).view.emb _) = _
  rw [place_m]

theorem iblk_x (c : Dev nD) (t : Fin cfg0.N) (a : Fin 256) (k : Fin 4096) :
    (iblk m c 0 t : FVec Ideal S256x4096 .f32) (ix2 a k) = argX m c (ix2 (row t a) k) := by
  unfold iblk
  change ((cfg0.win 0).blk t).view.read (Elt Ideal) (V m c main_arg0) _ = _
  rw [V_x, read_x]
theorem iblk_n (c : Dev nD) (t : Fin cfg0.N) (d : Fin 4096) :
    (iblk m c 1 t : FVec Ideal S1x4096 .f32) (ix2 (0 : Fin 1) d) = argN m c (ix1 d) := by
  unfold iblk
  change ((cfg0.win 1).blk t).view.read (Elt Ideal) (V m c main_v3) _ = _
  rw [V_n, read_n, n_apply]
theorem iblk_m (c : Dev nD) (t : Fin cfg0.N) (s : Fin 2) (d : Fin 4096) :
    (iblk m c 2 t : FVec Ideal S1x2x4096 .f32) (ix3 (0 : Fin 1) s d) = if (tb t).val < 1 then argC m c (ix2 s d) else argL m c (ix2 s d) := by
  unfold iblk
  change ((cfg0.win 2).blk t).view.read (Elt Ideal) (V m c main_v2) _ = _
  rw [V_m, read_m]
  unfold kind
  by_cases h : (tb t).val < 1
  · rw [if_pos h, if_pos h, marr_ctx]
  · rw [if_neg h, if_neg h, marr_lat]

/-! ## The block a grid point leaves -/

/-- The loads of the tokens, of the weights, of the shift and of the scale. -/
theorem ld_x (X : FVec Ideal S256x4096 .f32) (a : Fin 256) (d : Fin 4096) : View.ld (Val := Elt Ideal) (e' := .f32) X r0_0 (ix2 a d : S256x4096.Idx) = X (ix2 a d) :=
  View.ld_unit_apply_of (Val := Elt Ideal) (e := .f32) (S := S256x4096) X ![0, 0] S256x4096.size inb_S256x4096_S256x4096_0_0 (ix2 a d : S256x4096.Idx) (ix2 a d) fun b => match b with
    | ⟨0, _⟩ => (Nat.zero_add _).symm | ⟨1, _⟩ => (Nat.zero_add _).symm
theorem ld_n (X : FVec Ideal S1x4096 .f32) (d : Fin 4096) : View.ld (Val := Elt Ideal) (e' := .f32) X r0_1 (ix2 (0 : Fin 1) d : S1x4096.Idx) = X (ix2 (0 : Fin 1) d) :=
  View.ld_unit_apply_of (Val := Elt Ideal) (e := .f32) (S := S1x4096) X ![0, 0] S1x4096.size inb_S1x4096_S1x4096_0_0 (ix2 (0 : Fin 1) d : S1x4096.Idx) (ix2 (0 : Fin 1) d) fun b => match b with
    | ⟨0, _⟩ => rfl | ⟨1, _⟩ => (Nat.zero_add _).symm
theorem ld_m0 (X : FVec Ideal S1x2x4096 .f32) (d : Fin 4096) :
    View.ld (Val := Elt Ideal) (e' := .f32) X r0_2 (ix3 (0 : Fin 1) (0 : Fin 1) d : S1x1x4096.Idx) = X (ix3 (0 : Fin 1) (0 : Fin 2) d) :=
  View.ld_unit_apply_of (Val := Elt Ideal) (e := .f32) (S := S1x2x4096) X ![0, 0, 0] S1x1x4096.size inb_S1x2x4096_S1x1x4096_0_0_0
    (ix3 (0 : Fin 1) (0 : Fin 1) d : S1x1x4096.Idx) (ix3 (0 : Fin 1) (0 : Fin 2) d) fun b => match b with
    | ⟨0, _⟩ => rfl | ⟨1, _⟩ => rfl | ⟨2, _⟩ => (Nat.zero_add _).symm
theorem ld_m1 (X : FVec Ideal S1x2x4096 .f32) (d : Fin 4096) :
    View.ld (Val := Elt Ideal) (e' := .f32) X r0_3 (ix3 (0 : Fin 1) (0 : Fin 1) d : S1x1x4096.Idx) = X (ix3 (0 : Fin 1) (1 : Fin 2) d) :=
  View.ld_unit_apply_of (Val := Elt Ideal) (e := .f32) (S := S1x2x4096) X ![0, 1, 0] S1x1x4096.size inb_S1x2x4096_S1x1x4096_0_1_0
    (ix3 (0 : Fin 1) (0 : Fin 1) d : S1x1x4096.Idx) (ix3 (0 : Fin 1) (1 : Fin 2) d) fun b => match b with
    | ⟨0, _⟩ => rfl | ⟨1, _⟩ => rfl | ⟨2, _⟩ => (Nat.zero_add _).symm

theorem pay1_apply (x : FVec Ideal S256x4096 .f32) (w : FVec Ideal S1x4096 .f32) (s0 s1 : FVec Ideal S1x1x4096 .f32) (a : Fin 256) (d : Fin 4096) :
    k0_pay1 (F := Ideal) x w s0 s1 (ix2 a d)
      = (x (ix2 a d) : EReal) * Ideal.rsqrt (Ideal.div (∑ k : Fin 4096, (x (ix2 a k) : EReal) * (x (ix2 a k) : EReal)) (Ideal.ofBits .f32 0x45800000#32)
          + Ideal.ofBits .f32 0x358637BD#32) * (w (ix2 (0 : Fin 1) d) : EReal) * (Ideal.ofBits .f32 0x3F800000#32 + (s1 (ix3 (0 : Fin 1) (0 : Fin 1) d) : EReal))
        + (s0 (ix3 (0 : Fin 1) (0 : Fin 1) d) : EReal) := by
  pointwise [k0_pay1]

/-- The reference's result. -/
def modulated (c : Dev nD) : FVec Ideal S16896x4096 .bf16 :=
  Cert.ModulateRowsRefIdeal.Read.val_main_v53 (F := Ideal) (argX m c) (argN m c) (argC m c) (argL m c)

theorem out_apply (c : Dev nD) (t : Fin cfg0.N) (a : Fin 256) (d : Fin 4096) :
    (dats m 0 c).after 3 t (ix2 a d) = modulated m c (ix2 (row t a) d) := by
  rw [after0_3]
  frame_out
  unfold modulated
  refine Eq.trans ?_ (ref_apply _ _ _ _ _ _).symm
  refine (pay1_apply _ _ _ _ a d).trans ?_
  have e0 := (ld_m0 (iblk m c 2 t) d).trans (iblk_m m c t 0 d)
  have e1 := (ld_m1 (iblk m c 2 t) d).trans (iblk_m m c t 1 d)
  simp only [ld_x, ld_n, iblk_x, iblk_n]
  erw [e0, e1]
  have hr : (row t a).val < 256 ↔ (tb t).val < 1 := by
    unfold row
    dsimp only
    omega
  by_cases h : (tb t).val < 1
  · rw [if_pos h, if_pos h, if_pos (hr.mpr h)]
    rfl
  · rw [if_neg h, if_neg h, if_neg (fun h' => h (hr.mp h'))]
    rfl

/-! ## The array after the run -/

theorem index_cell : ∀ j : Fin 66, ∃ t : Fin cfg0.N, win0_3.index t = ![j.val, 0] :=
  (by decide +kernel : ∀ j : Fin 66, ∃ t : Fin grid0.N, _)

/-- The result's blocks cover the array. -/
theorem covers : (cfg0.win 3).Covers :=
  (cfg0.win 3).covers_of_index_surj rfl (by decide) fun β => by
    have b0 : (β (0 : Fin 2)).val < 66 := (β (0 : Fin 2)).isLt
    have b1 : (β (1 : Fin 2)).val < 1 := (β (1 : Fin 2)).isLt
    obtain ⟨t, ht⟩ := index_cell ⟨(β (0 : Fin 2)).val, b0⟩
    refine ⟨t, fun a => (congrFun ht a).trans ?_⟩
    match a with
    | ⟨0, _⟩ => rfl
    | ⟨1, _⟩ => exact (Nat.lt_one_iff.mp b1).symm

/-- After the run the result array is the reference's result. -/
theorem array_eq (c : Dev nD) : (dats m 0 c).arrAt 3 cfg0.N = modulated m c := by
  refine Dat.arrAt_eq_of_covers _ 3 _ covers fun t hf y => ?_
  have key : ∀ y : S256x4096.Idx, (dats m 0 c).after 3 t y = modulated m c (((cfg0.win 3).blk t).view.emb y) := by
    intro y
    rw [eq_ix2 y]
    refine Eq.trans ?_ (congrArg (modulated m c) (place_out t (y 0) (y 1))).symm
    exact out_apply m c t (y 0) (y 1)
  exact key y

/-- The two runs agree. -/
theorem algebraic : Cert.algebraic_ModulateRowsIdeal_ModulateRowsRefIdeal (hModulateRowsIdeal := Cert.ModulateRowsIdeal.Gen.facts)
    (hModulateRowsRefIdeal := Cert.ModulateRowsRefIdeal.Gen.facts) := by
  intro m g m' g' hpre hargs
  refine ⟨modulated m, (θ_run defs _ _).mono (fun r h c => ⟨(h c).1.trans (array_eq m c), (h c).2⟩) (Cert.ModulateRowsIdeal.Value.run_blocks m g), ?_⟩
  refine (θ_run Cert.ModulateRowsRefIdeal.defs _ _).mono (fun r h c => ⟨(h c).1.trans ?_, (h c).2⟩) (Cert.ModulateRowsRefIdeal.Value.run (F := Ideal) m' g')
  obtain ⟨e0, e1, e2, e3⟩ := hargs c
  rw [Cert.ModulateRowsRefIdeal.Read.val_main_v53_eq, e0, e1, e2, e3]
  rfl

end Cert.ModulateRowsIdeal.Hand
-- ==== Proof.Calls.Ada.lean ====
module

public import proofs.«01_k».proof.Defs
public import proofs.«01_k».proof.Proof.Gen.AdaIdeal.Value
public import proofs.«01_k».proof.Proof.Gen.AdaRefIdeal.Run
public import proofs.«01_k».proof.Proof.Gen.AdaRefIdeal.Read
public import Idealize.ShloMosaic.Lib.Pipeline.ValueKit
public import Idealize.ShloMosaic.Lib.Pipeline.Covers

/-! The layers' modulations from the two conditions: a point of the grid computes 512 features of one layer for both
conditions, each condition multiplied with its logistic function before the product. -/

@[expose] public section

set_option maxRecDepth 16384

set_option maxHeartbeats 1000000

noncomputable section

namespace Cert.AdaIdeal.Hand

open Idealize.ShloMosaic Idealize.ShloMosaic.TcCoe Idealize.ShloMosaic.Tactic Idealize.ShloMosaic.StableHlo Cert.AdaIdeal.Gen
open Idealize.ShloMosaic.Pipeline Idealize.SL.Sem

variable (m : (ℓ : Loc nD τ sig) → Buf (Elt Ideal) ℓ)

/-- The two conditions, as the program is given them. -/
def argC (c : Dev nD) : FVec Ideal S2x4096 .f32 := m ((c.tc : Thread nD τ).loc main_arg0)
/-- The layers' weights, as the program is given them. -/
def argW (c : Dev nD) : FVec Ideal S4x4096x24576 .f32 := m ((c.tc : Thread nD τ).loc main_arg1)
/-- The layers' biases, as the program is given them. -/
def argB (c : Dev nD) : FVec Ideal S4x24576 .f32 := m ((c.tc : Thread nD τ).loc main_arg2)

/-! ## The reference at an index -/

/-- A condition's entry times its logistic function. -/
def silu (x : EReal) : EReal := x * Ideal.logistic x

/-- A feature of a layer's modulation for one condition. -/
def adad (C : FVec Ideal S2x4096 .f32) (W : FVec Ideal S4x4096x24576 .f32) (B : FVec Ideal S4x24576 .f32) (l : Fin 4) (r : Fin 2) (n : Fin 24576) : EReal :=
  (∑ k : Fin 4096, (W (ix3 l k n) : EReal) * silu (C (ix2 r k))) + (B (ix2 l n) : EReal)

open Cert.AdaRefIdeal.Read in
theorem silu_apply (C : FVec Ideal S2x4096 .f32) (i : S2x4096.Idx) : val_main_v0 (F := Ideal) C i = silu (C i) := by
  unfold silu Ideal.logistic
  rw [val_main_v0_apply, val_main_call0_v5_apply, val_main_call0_v4_apply, val_main_call0_v3_apply, val_main_call0_v2_apply, val_main_call0_v1_apply,
    val_main_call0_v0_apply, val_main_call0_cst_apply, val_main_call0_cst_0_apply]
  change (C i : EReal) * Ideal.div (Ideal.ofBits .f32 0x3F800000#32) (Ideal.ofBits .f32 0x3F800000#32 + Ideal.exp (-(C i : EReal))) = _
  rw [Ideal.ofBits_one_f32]

open Cert.AdaRefIdeal.Read in
theorem ref_apply (C : FVec Ideal S2x4096 .f32) (W : FVec Ideal S4x4096x24576 .f32) (B : FVec Ideal S4x24576 .f32) (l : Fin 4) (r : Fin 2) (n : Fin 24576) :
    val_main_v5 (F := Ideal) C W B (ix3 l r n) = adad C W B l r n := by
  have el : ∀ k : Fin 4096, lidx_main_v1 (idx_main_v2 (ix3 l r n)) k = ix2 r k := fun k => by
    funext a; match a with | ⟨0, _⟩ => rfl | ⟨1, _⟩ => rfl
  have er : ∀ k : Fin 4096, ridx_main_v1 (idx_main_v2 (ix3 l r n)) k = ix3 l k n := fun k => by
    funext a; match a with | ⟨0, _⟩ => rfl | ⟨1, _⟩ => rfl | ⟨2, _⟩ => rfl
  have eb : idx_main_v3 (idx_main_v4 (ix3 l r n)) = ix2 l n := by
    funext a; match a with | ⟨0, _⟩ => rfl | ⟨1, _⟩ => rfl
  rw [val_main_v5_apply, val_main_v2_apply, val_main_v1_apply, val_main_v4_apply, val_main_v3_apply, eb]
  simp only [el, er, silu_apply]
  unfold adad
  change (∑ k : Fin 4096, silu (C (ix2 r k)) * (W (ix3 l k n) : EReal)) + (B (ix2 l n) : EReal) = _
  congr 1
  exact Finset.sum_congr rfl fun k _ => mul_comm _ _

/-! ## The arrays the grid reads -/

/-- The conditions, each entry repeated along 128 lanes. -/
def carr (C : FVec Ideal S2x4096 .f32) : FVec Ideal S2x4096x128 .f32 :=
  broadcastInDim S2x4096x128 ![0, 1, 2] bcast_S2x4096x1_S2x4096x128_0_1_2 (broadcastInDim S2x4096x1 ![0, 1] bcast_S2x4096_S2x4096x1_0_1 C)

theorem V_c (c : Dev nD) : V m c main_v1 = carr (argC m c) := by
  unfold_abbrev_sides
  simp only [hostOps0]
  after_results_simp
  rfl

theorem V_w (c : Dev nD) : V m c main_arg1 = argW m c := V_main_arg1 m c

theorem V_b (c : Dev nD) : V m c main_v2 = shapeCast S4x1x24576 (argB m c) shapeCasts_S4x24576_S4x1x24576 := by
  unfold_abbrev_sides
  simp only [hostOps0]
  after_results_simp
  rfl

theorem carr_apply (C : FVec Ideal S2x4096 .f32) (r : Fin 2) (k : Fin 4096) (e : Fin 128) : carr C (ix3 r k e) = C (ix2 r k) := by
  unfold carr
  refine (broadcastInDim_apply _ bcast_S2x4096x1_S2x4096x128_0_1_2 _ (ix3 r k e) (ix3 r k (0 : Fin 1)) (fun a => match a with
    | ⟨0, _⟩ => rfl | ⟨1, _⟩ => rfl | ⟨2, _⟩ => rfl)).trans ?_
  exact broadcastInDim_apply _ bcast_S2x4096_S2x4096x1_0_1 _ (ix3 r k (0 : Fin 1)) (ix2 r k) (fun a => match a with | ⟨0, _⟩ => rfl | ⟨1, _⟩ => rfl)

theorem b_apply (B : FVec Ideal S4x24576 .f32) (l : Fin 4) (n : Fin 24576) :
    shapeCast S4x1x24576 B shapeCasts_S4x24576_S4x1x24576 (ix3 l (0 : Fin 1) n) = B (ix2 l n) :=
  shapeCast_apply B shapeCasts_S4x24576_S4x1x24576 (ix3 l (0 : Fin 1) n) (ix2 l n)
    (by rewrite [Shape.rowMajor_val_three, Shape.rowMajor_val_two]; show l.val * 24576 + n.val = (l.val * 1 + 0) * 24576 + n.val; omega)

/-! ## The blocks a grid point reads -/

/-- The layer of a grid point. -/
def lb (t : Fin cfg0.N) : Fin 4 := grid0.coords t 0
/-- The block of features of a grid point. -/
def fb (t : Fin cfg0.N) : Fin 48 := grid0.coords t 1

/-- The feature at a place of a point's block. -/
def feat (t : Fin cfg0.N) (q : Fin 512) : Fin 24576 := ⟨512 * (fb t).val + q.val, by have := (fb t).isLt; omega⟩

theorem index_c : ∀ t : Fin cfg0.N, win0_0.index t = ![0, 0, 0] := (by decide +kernel : ∀ t : Fin grid0.N, _)
theorem index_w : ∀ t : Fin cfg0.N, win0_1.index t = ![(lb t).val, 0, (fb t).val] := (by decide +kernel : ∀ t : Fin grid0.N, _)
theorem index_b : ∀ t : Fin cfg0.N, win0_2.index t = ![(lb t).val, 0, (fb t).val] := (by decide +kernel : ∀ t : Fin grid0.N, _)
theorem index_out : ∀ t : Fin cfg0.N, win0_3.index t = ![(lb t).val, 0, (fb t).val] := (by decide +kernel : ∀ t : Fin grid0.N, _)

theorem place_c (t : Fin cfg0.N) (r : Fin 2) (k : Fin 4096) (e : Fin 128) :
    ((cfg0.win 0).blk t).view.emb (ix3 r k e) = (ix3 r k e : S2x4096x128.Idx) := by
  blk_ext [index_c t]
theorem place_w (t : Fin cfg0.N) (k : Fin 4096) (q : Fin 512) :
    ((cfg0.win 1).blk t).view.emb (ix3 (0 : Fin 1) k q) = (ix3 (lb t) k (feat t q) : S4x4096x24576.Idx) := by
  unfold feat
  blk_ext [index_w t]
theorem place_b (t : Fin cfg0.N) (q : Fin 512) :
    ((cfg0.win 2).blk t).view.emb (ix3 (0 : Fin 1) (0 : Fin 1) q) = (ix3 (lb t) (0 : Fin 1) (feat t q) : S4x1x24576.Idx) := by
  unfold feat
  blk_ext [index_b t]
theorem place_out (t : Fin cfg0.N) (r : Fin 2) (q : Fin 512) :
    ((cfg0.win 3).blk t).view.emb (ix3 (0 : Fin 1) r q) = (ix3 (lb t) r (feat t q) : S4x2x24576.Idx) := by
  unfold feat
  blk_ext [index_out t]

theorem read_c (A : FVec Ideal S2x4096x128 .f32) (t : Fin cfg0.N) (r : Fin 2) (k : Fin 4096) (e : Fin 128) :
    ((cfg0.win 0).blk t).view.read (Elt Ideal) A (ix3 r k e) = A (ix3 r k e) := by
  change A (((cfg0.win 0).blk t).view.emb _) = _
  rw [place_c]
theorem read_w (A : FVec Ideal S4x4096x24576 .f32) (t : Fin cfg0.N) (k : Fin 4096) (q : Fin 512) :
    ((cfg0.win 1).blk t).view.read (Elt Ideal) A (ix3 (0 : Fin 1) k q) = A (ix3 (lb t) k (feat t q)) := by
  change A (((cfg0.win 1).blk t).view.emb _) = _
  rw [place_w]
theorem read_b (A : FVec Ideal S4x1x24576 .f32) (t : Fin cfg0.N) (q : Fin 512) :
    ((cfg0.win 2).blk t).view.read (Elt Ideal) A (ix3 (0 : Fin 1) (0 : Fin 1) q) = A (ix3 (lb t) (0 : Fin 1) (feat t q)) := by
  change A (((cfg0.win 2).blk t).view.emb _) = _
  rw [place_b]

theorem iblk_c (c : Dev nD) (t : Fin cfg0.N) (r : Fin 2) (k : Fin 4096) (e : Fin 128) :
    (iblk m c 0 t : FVec Ideal S2x4096x128 .f32) (ix3 r k e) = argC m c (ix2 r k) := by
  unfold iblk
  change ((cfg0.win 0).blk t).view.read (Elt Ideal) (V m c main_v1) _ = _
  rw [V_c, read_c, carr_apply]
theorem iblk_w (c : Dev nD) (t : Fin cfg0.N) (k : Fin 4096) (q : Fin 512) :
    (iblk m c 1 t : FVec Ideal S1x4096x512 .f32) (ix3 (0 : Fin 1) k q) = argW m c (ix3 (lb t) k (feat t q)) := by
  unfold iblk
  change ((cfg0.win 1).blk t).view.read (Elt Ideal) (V m c main_arg1) _ = _
  rw [V_w, read_w]
theorem iblk_b (c : Dev nD) (t : Fin cfg0.N) (q : Fin 512) :
    (iblk m c 2 t : FVec Ideal S1x1x512 .f32) (ix3 (0 : Fin 1) (0 : Fin 1) q) = argB m c (ix2 (lb t) (feat t q)) := by
  unfold iblk
  change ((cfg0.win 2).blk t).view.read (Elt Ideal) (V m c main_v2) _ = _
  rw [V_b, read_b, b_apply]

/-! ## The block a grid point leaves -/

/-- The loads of the two conditions. -/
theorem ld_c0 (X : FVec Ideal S2x4096x128 .f32) (k : Fin 4096) (e : Fin 128) :
    View.ld (Val := Elt Ideal) (e' := .f32) X r0_1 (ix3 (0 : Fin 1) k e : S1x4096x128.Idx) = X (ix3 (0 : Fin 2) k e) :=
  View.ld_unit_apply_of (Val := Elt Ideal) (e := .f32) (S := S2x4096x128) X ![0, 0, 0] S1x4096x128.size inb_S2x4096x128_S1x4096x128_0_0_0
    (ix3 (0 : Fin 1) k e : S1x4096x128.Idx) (ix3 (0 : Fin 2) k e) fun b => match b with
    | ⟨0, _⟩ => rfl | ⟨1, _⟩ => (Nat.zero_add _).symm | ⟨2, _⟩ => (Nat.zero_add _).symm
theorem ld_c1 (X : FVec Ideal S2x4096x128 .f32) (k : Fin 4096) (e : Fin 128) :
    View.ld (Val := Elt Ideal) (e' := .f32) X r0_2 (ix3 (0 : Fin 1) k e : S1x4096x128.Idx) = X (ix3 (1 : Fin 2) k e) :=
  View.ld_unit_apply_of (Val := Elt Ideal) (e := .f32) (S := S2x4096x128) X ![1, 0, 0] S1x4096x128.size inb_S2x4096x128_S1x4096x128_1_0_0
    (ix3 (0 : Fin 1) k e : S1x4096x128.Idx) (ix3 (1 : Fin 2) k e) fun b => match b with
    | ⟨0, _⟩ => rfl | ⟨1, _⟩ => (Nat.zero_add _).symm | ⟨2, _⟩ => (Nat.zero_add _).symm
theorem pay1_apply (w : FVec Ideal S1x4096x512 .f32) (c0 c1 : FVec Ideal S1x4096x128 .f32) (b : FVec Ideal S1x1x512 .f32) (u : Fin 2 → Fin 4096 → EReal)
    (h0 : ∀ k e, (c0 (ix3 (0 : Fin 1) k e) : EReal) = u 0 k) (h1 : ∀ k e, (c1 (ix3 (0 : Fin 1) k e) : EReal) = u 1 k) (r : Fin 2) (q : Fin 512) :
    k0_pay1 (F := Ideal) w c0 c1 b (ix3 (0 : Fin 1) r q)
      = (∑ k : Fin 4096, (w (ix3 (0 : Fin 1) k q) : EReal) * silu (u r k)) + (b (ix3 (0 : Fin 1) (0 : Fin 1) q) : EReal) := by
  unfold silu
  pointwise [k0_pay1]
  simp only [h0, h1, dite_eq_ite, ite_self]
  match r with
  | ⟨0, _⟩ => rfl
  | ⟨1, _⟩ => rfl

/-- The reference's result. -/
def modulations (c : Dev nD) : FVec Ideal S4x2x24576 .f32 :=
  Cert.AdaRefIdeal.Read.val_main_v5 (F := Ideal) (argC m c) (argW m c) (argB m c)

theorem out_apply (c : Dev nD) (t : Fin cfg0.N) (r : Fin 2) (q : Fin 512) :
    (dats m 0 c).after 3 t (ix3 (0 : Fin 1) r q) = modulations m c (ix3 (lb t) r (feat t q)) := by
  rw [after0_3]
  frame_out
  unfold modulations
  refine Eq.trans ?_ (ref_apply _ _ _ _ _ _).symm
  refine (pay1_apply _ _ _ _ (fun r k => argC m c (ix2 r k)) (fun k e => (ld_c0 (iblk m c 0 t) k e).trans (iblk_c m c t 0 k e))
    (fun k e => (ld_c1 (iblk m c 0 t) k e).trans (iblk_c m c t 1 k e)) r q).trans ?_
  unfold adad
  refine congrArg₂ (fun x y : EReal => x + y) (Finset.sum_congr rfl fun k _ => ?_) (iblk_b m c t q)
  exact congrArg (fun x : EReal => x * _) (iblk_w m c t k q)

/-! ## The array after the run -/

theorem index_cell : ∀ l : Fin 4, ∀ j : Fin 48, ∃ t : Fin cfg0.N, win0_3.index t = ![l.val, 0, j.val] :=
  (by decide +kernel : ∀ l : Fin 4, ∀ j : Fin 48, ∃ t : Fin grid0.N, _)

/-- The result's blocks cover the array. -/
theorem covers : (cfg0.win 3).Covers :=
  (cfg0.win 3).covers_of_index_surj rfl (by decide) fun β => by
    have b0 : (β (0 : Fin 3)).val < 4 := (β (0 : Fin 3)).isLt
    have b1 : (β (1 : Fin 3)).val < 1 := (β (1 : Fin 3)).isLt
    have b2 : (β (2 : Fin 3)).val < 48 := (β (2 : Fin 3)).isLt
    obtain ⟨t, ht⟩ := index_cell ⟨(β (0 : Fin 3)).val, b0⟩ ⟨(β (2 : Fin 3)).val, b2⟩
    refine ⟨t, fun a => (congrFun ht a).trans ?_⟩
    match a with
    | ⟨0, _⟩ => rfl
    | ⟨1, _⟩ => exact (Nat.lt_one_iff.mp b1).symm
    | ⟨2, _⟩ => rfl

/-- After the run the result array is the reference's result. -/
theorem array_eq (c : Dev nD) : (dats m 0 c).arrAt 3 cfg0.N = modulations m c := by
  refine Dat.arrAt_eq_of_covers _ 3 _ covers fun t hf y => ?_
  have key : ∀ y : S1x2x512.Idx, (dats m 0 c).after 3 t y = modulations m c (((cfg0.win 3).blk t).view.emb y) := by
    intro y
    have hy : y = ix3 (0 : Fin 1) (y 1) (y 2) := by
      funext a
      match a with
      | ⟨0, _⟩ => exact Fin.ext (Nat.lt_one_iff.mp (y 0).isLt)
      | ⟨1, _⟩ => rfl
      | ⟨2, _⟩ => rfl
    rw [hy]
    refine Eq.trans ?_ (congrArg (modulations m c) (place_out t (y 1) (y 2))).symm
    exact out_apply m c t (y 1) (y 2)
  exact key y

/-- The two runs agree. -/
theorem algebraic : Cert.algebraic_AdaIdeal_AdaRefIdeal (hAdaIdeal := Cert.AdaIdeal.Gen.facts)
    (hAdaRefIdeal := Cert.AdaRefIdeal.Gen.facts) := by
  intro m g m' g' hpre hargs
  refine ⟨modulations m, (θ_run defs _ _).mono (fun r h c => ⟨(h c).1.trans (array_eq m c), (h c).2⟩) (Cert.AdaIdeal.Value.run_blocks m g), ?_⟩
  refine (θ_run Cert.AdaRefIdeal.defs _ _).mono (fun r h c => ⟨(h c).1.trans ?_, (h c).2⟩) (Cert.AdaRefIdeal.Value.run (F := Ideal) m' g')
  obtain ⟨e0, e1, e2⟩ := hargs c
  rw [Cert.AdaRefIdeal.Read.val_main_v5_eq, e0, e1, e2]
  rfl

end Cert.AdaIdeal.Hand
-- ==== Proof.lean ====
/- The claims of Defs.lean, put together from the modules under Proof/. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.PeerQueryRefIdeal
public import proofs.«01_k».proof.Proof.Gen.PeerQueryRefIdeal.Run
public import proofs.«01_k».proof.Proof.Gen.PeerQueryRefIdeal.Read
public import proofs.«01_k».proof.Proof.Gen.MixerOutRefIdeal
public import proofs.«01_k».proof.Proof.Gen.MixerOutRefIdeal.Run
public import proofs.«01_k».proof.Proof.Gen.MixerOutRefIdeal.Read
public import proofs.«01_k».proof.Proof.Gen.ProjVRefIdeal
public import proofs.«01_k».proof.Proof.Gen.ProjVRefIdeal.Run
public import proofs.«01_k».proof.Proof.Gen.ProjVRefIdeal.Read
public import proofs.«01_k».proof.Proof.Gen.PeerQuery
public import proofs.«01_k».proof.Proof.Gen.PeerQuery.Skeleton
public import proofs.«01_k».proof.Proof.Gen.PeerQuery.Launch
public import proofs.«01_k».proof.Proof.Gen.PeerQuery.Points
public import proofs.«01_k».proof.Proof.Gen.PeerQuery.Frame
public import proofs.«01_k».proof.Proof.Gen.PeerQueryIdeal
public import proofs.«01_k».proof.Proof.Gen.PeerQueryIdeal.Skeleton
public import proofs.«01_k».proof.Proof.Gen.PeerQueryIdeal.Launch
public import proofs.«01_k».proof.Proof.Gen.PeerQueryIdeal.Points
public import proofs.«01_k».proof.Proof.Gen.PeerQueryIdeal.Frame
public import proofs.«01_k».proof.Proof.Gen.PeerQueryIdeal.Value
public import proofs.«01_k».proof.Proof.Gen.MixerOut
public import proofs.«01_k».proof.Proof.Gen.MixerOut.Skeleton
public import proofs.«01_k».proof.Proof.Gen.MixerOut.Launch
public import proofs.«01_k».proof.Proof.Gen.MixerOut.Points
public import proofs.«01_k».proof.Proof.Gen.MixerOut.Frame
public import proofs.«01_k».proof.Proof.Gen.MixerOutIdeal
public import proofs.«01_k».proof.Proof.Gen.MixerOutIdeal.Skeleton
public import proofs.«01_k».proof.Proof.Gen.MixerOutIdeal.Launch
public import proofs.«01_k».proof.Proof.Gen.MixerOutIdeal.Points
public import proofs.«01_k».proof.Proof.Gen.MixerOutIdeal.Frame
public import proofs.«01_k».proof.Proof.Gen.MixerOutIdeal.Value
public import proofs.«01_k».proof.Proof.Gen.MixerOutRows
public import proofs.«01_k».proof.Proof.Gen.MixerOutRows.Skeleton
public import proofs.«01_k».proof.Proof.Gen.MixerOutRows.Launch
public import proofs.«01_k».proof.Proof.Gen.MixerOutRows.Points
public import proofs.«01_k».proof.Proof.Gen.MixerOutRows.Frame
public import proofs.«01_k».proof.Proof.Gen.MixerOutRowsIdeal
public import proofs.«01_k».proof.Proof.Gen.MixerOutRowsIdeal.Skeleton
public import proofs.«01_k».proof.Proof.Gen.MixerOutRowsIdeal.Launch
public import proofs.«01_k».proof.Proof.Gen.MixerOutRowsIdeal.Points
public import proofs.«01_k».proof.Proof.Gen.MixerOutRowsIdeal.Frame
public import proofs.«01_k».proof.Proof.Gen.MixerOutRowsIdeal.Value
public import proofs.«01_k».proof.Proof.Gen.ProjV
public import proofs.«01_k».proof.Proof.Gen.ProjV.Skeleton
public import proofs.«01_k».proof.Proof.Gen.ProjV.Launch
public import proofs.«01_k».proof.Proof.Gen.ProjV.Points
public import proofs.«01_k».proof.Proof.Gen.ProjV.Frame
public import proofs.«01_k».proof.Proof.Gen.ProjVIdeal
public import proofs.«01_k».proof.Proof.Gen.ProjVIdeal.Skeleton
public import proofs.«01_k».proof.Proof.Gen.ProjVIdeal.Launch
public import proofs.«01_k».proof.Proof.Gen.ProjVIdeal.Points
public import proofs.«01_k».proof.Proof.Gen.ProjVIdeal.Frame
public import proofs.«01_k».proof.Proof.Gen.ProjVIdeal.Value
public import proofs.«01_k».proof.Proof.Gen.ProjQ
public import proofs.«01_k».proof.Proof.Gen.ProjQ.Skeleton
public import proofs.«01_k».proof.Proof.Gen.ProjQ.Launch
public import proofs.«01_k».proof.Proof.Gen.ProjQ.Points
public import proofs.«01_k».proof.Proof.Gen.ProjQ.Frame
public import proofs.«01_k».proof.Proof.Gen.ProjQIdeal
public import proofs.«01_k».proof.Proof.Gen.ProjQIdeal.Skeleton
public import proofs.«01_k».proof.Proof.Gen.ProjQIdeal.Launch
public import proofs.«01_k».proof.Proof.Gen.ProjQIdeal.Points
public import proofs.«01_k».proof.Proof.Gen.ProjQIdeal.Frame
public import proofs.«01_k».proof.Proof.Gen.ProjQIdeal.Value
public import proofs.«01_k».proof.Proof.Gen.ProjQRefIdeal
public import proofs.«01_k».proof.Proof.Gen.ProjQRefIdeal.Run
public import proofs.«01_k».proof.Proof.Gen.ProjQRefIdeal.Read
public import proofs.«01_k».proof.Proof.Gen.ProjK
public import proofs.«01_k».proof.Proof.Gen.ProjK.Skeleton
public import proofs.«01_k».proof.Proof.Gen.ProjK.Launch
public import proofs.«01_k».proof.Proof.Gen.ProjK.Points
public import proofs.«01_k».proof.Proof.Gen.ProjK.Frame
public import proofs.«01_k».proof.Proof.Gen.ProjKIdeal
public import proofs.«01_k».proof.Proof.Gen.ProjKIdeal.Skeleton
public import proofs.«01_k».proof.Proof.Gen.ProjKIdeal.Launch
public import proofs.«01_k».proof.Proof.Gen.ProjKIdeal.Points
public import proofs.«01_k».proof.Proof.Gen.ProjKIdeal.Frame
public import proofs.«01_k».proof.Proof.Gen.ProjKIdeal.Value
public import proofs.«01_k».proof.Proof.Gen.ProjKRefIdeal
public import proofs.«01_k».proof.Proof.Gen.ProjKRefIdeal.Run
public import proofs.«01_k».proof.Proof.Gen.ProjKRefIdeal.Read
public import proofs.«01_k».proof.Proof.Gen.WinQ
public import proofs.«01_k».proof.Proof.Gen.WinQ.Skeleton
public import proofs.«01_k».proof.Proof.Gen.WinQ.Launch
public import proofs.«01_k».proof.Proof.Gen.WinQ.Points
public import proofs.«01_k».proof.Proof.Gen.WinQ.Frame
public import proofs.«01_k».proof.Proof.Gen.WinQIdeal
public import proofs.«01_k».proof.Proof.Gen.WinQIdeal.Skeleton
public import proofs.«01_k».proof.Proof.Gen.WinQIdeal.Launch
public import proofs.«01_k».proof.Proof.Gen.WinQIdeal.Points
public import proofs.«01_k».proof.Proof.Gen.WinQIdeal.Frame
public import proofs.«01_k».proof.Proof.Gen.WinQIdeal.Value
public import proofs.«01_k».proof.Proof.Gen.WinQRefIdeal
public import proofs.«01_k».proof.Proof.Gen.WinQRefIdeal.Run
public import proofs.«01_k».proof.Proof.Gen.WinQRefIdeal.Read
public import proofs.«01_k».proof.Proof.Gen.WinK
public import proofs.«01_k».proof.Proof.Gen.WinK.Skeleton
public import proofs.«01_k».proof.Proof.Gen.WinK.Launch
public import proofs.«01_k».proof.Proof.Gen.WinK.Points
public import proofs.«01_k».proof.Proof.Gen.WinK.Frame
public import proofs.«01_k».proof.Proof.Gen.WinKIdeal
public import proofs.«01_k».proof.Proof.Gen.WinKIdeal.Skeleton
public import proofs.«01_k».proof.Proof.Gen.WinKIdeal.Launch
public import proofs.«01_k».proof.Proof.Gen.WinKIdeal.Points
public import proofs.«01_k».proof.Proof.Gen.WinKIdeal.Frame
public import proofs.«01_k».proof.Proof.Gen.WinKIdeal.Value
public import proofs.«01_k».proof.Proof.Gen.WinKRefIdeal
public import proofs.«01_k».proof.Proof.Gen.WinKRefIdeal.Run
public import proofs.«01_k».proof.Proof.Gen.WinKRefIdeal.Read
public import proofs.«01_k».proof.Proof.Gen.WinV
public import proofs.«01_k».proof.Proof.Gen.WinV.Skeleton
public import proofs.«01_k».proof.Proof.Gen.WinV.Launch
public import proofs.«01_k».proof.Proof.Gen.WinV.Points
public import proofs.«01_k».proof.Proof.Gen.WinV.Frame
public import proofs.«01_k».proof.Proof.Gen.WinVIdeal
public import proofs.«01_k».proof.Proof.Gen.WinVIdeal.Skeleton
public import proofs.«01_k».proof.Proof.Gen.WinVIdeal.Launch
public import proofs.«01_k».proof.Proof.Gen.WinVIdeal.Points
public import proofs.«01_k».proof.Proof.Gen.WinVIdeal.Frame
public import proofs.«01_k».proof.Proof.Gen.WinVIdeal.Value
public import proofs.«01_k».proof.Proof.Gen.WinVRefIdeal
public import proofs.«01_k».proof.Proof.Gen.WinVRefIdeal.Run
public import proofs.«01_k».proof.Proof.Gen.WinVRefIdeal.Read
public import proofs.«01_k».proof.Proof.Gen.Modulate
public import proofs.«01_k».proof.Proof.Gen.Modulate.Skeleton
public import proofs.«01_k».proof.Proof.Gen.Modulate.Launch
public import proofs.«01_k».proof.Proof.Gen.Modulate.Points
public import proofs.«01_k».proof.Proof.Gen.Modulate.Frame
public import proofs.«01_k».proof.Proof.Gen.ModulateIdeal
public import proofs.«01_k».proof.Proof.Gen.ModulateIdeal.Skeleton
public import proofs.«01_k».proof.Proof.Gen.ModulateIdeal.Launch
public import proofs.«01_k».proof.Proof.Gen.ModulateIdeal.Points
public import proofs.«01_k».proof.Proof.Gen.ModulateIdeal.Frame
public import proofs.«01_k».proof.Proof.Gen.ModulateIdeal.Value
public import proofs.«01_k».proof.Proof.Gen.ModulateRefIdeal
public import proofs.«01_k».proof.Proof.Gen.ModulateRefIdeal.Run
public import proofs.«01_k».proof.Proof.Gen.ModulateRefIdeal.Read
public import proofs.«01_k».proof.Proof.Gen.ModulateRows
public import proofs.«01_k».proof.Proof.Gen.ModulateRows.Skeleton
public import proofs.«01_k».proof.Proof.Gen.ModulateRows.Launch
public import proofs.«01_k».proof.Proof.Gen.ModulateRows.Points
public import proofs.«01_k».proof.Proof.Gen.ModulateRows.Frame
public import proofs.«01_k».proof.Proof.Gen.ModulateRowsIdeal
public import proofs.«01_k».proof.Proof.Gen.ModulateRowsIdeal.Skeleton
public import proofs.«01_k».proof.Proof.Gen.ModulateRowsIdeal.Launch
public import proofs.«01_k».proof.Proof.Gen.ModulateRowsIdeal.Points
public import proofs.«01_k».proof.Proof.Gen.ModulateRowsIdeal.Frame
public import proofs.«01_k».proof.Proof.Gen.ModulateRowsIdeal.Value
public import proofs.«01_k».proof.Proof.Gen.ModulateRowsRefIdeal
public import proofs.«01_k».proof.Proof.Gen.ModulateRowsRefIdeal.Run
public import proofs.«01_k».proof.Proof.Gen.ModulateRowsRefIdeal.Read
public import proofs.«01_k».proof.Proof.Gen.Ada
public import proofs.«01_k».proof.Proof.Gen.Ada.Skeleton
public import proofs.«01_k».proof.Proof.Gen.Ada.Launch
public import proofs.«01_k».proof.Proof.Gen.Ada.Points
public import proofs.«01_k».proof.Proof.Gen.Ada.Frame
public import proofs.«01_k».proof.Proof.Gen.AdaIdeal
public import proofs.«01_k».proof.Proof.Gen.AdaIdeal.Skeleton
public import proofs.«01_k».proof.Proof.Gen.AdaIdeal.Launch
public import proofs.«01_k».proof.Proof.Gen.AdaIdeal.Points
public import proofs.«01_k».proof.Proof.Gen.AdaIdeal.Frame
public import proofs.«01_k».proof.Proof.Gen.AdaIdeal.Value
public import proofs.«01_k».proof.Proof.Gen.AdaRefIdeal
public import proofs.«01_k».proof.Proof.Gen.AdaRefIdeal.Run
public import proofs.«01_k».proof.Proof.Gen.AdaRefIdeal.Read
public import proofs.«01_k».proof.Proof.Gen.Pre_finite_scores
public import proofs.«01_k».proof.Proof.K.Frame
public import proofs.«01_k».proof.Proof.KI.Frame
public import proofs.«01_k».proof.Proof.Value.Agree
public import proofs.«01_k».proof.Proof.Calls.PeerQuery
public import proofs.«01_k».proof.Proof.Calls.MixerOut
public import proofs.«01_k».proof.Proof.Calls.MixerOutRows
public import proofs.«01_k».proof.Proof.Calls.ProjV
public import proofs.«01_k».proof.Proof.Calls.ProjQ
public import proofs.«01_k».proof.Proof.Calls.ProjK
public import proofs.«01_k».proof.Proof.Calls.WinQ
public import proofs.«01_k».proof.Proof.Calls.WinK
public import proofs.«01_k».proof.Proof.Calls.WinV
public import proofs.«01_k».proof.Proof.Calls.Modulate
public import proofs.«01_k».proof.Proof.Calls.ModulateRows
public import proofs.«01_k».proof.Proof.Calls.Ada
public import Idealize.ShloMosaic.Adequacy
public import Idealize.ShloMosaic.Init

@[expose] public section

noncomputable section

namespace Cert.Proof

open Idealize.ShloMosaic Idealize.SL.Sem

/-- The run of the attention's reference, its arguments and its counters. -/
theorem frame_r : Cert.quiescent_ReferenceIdeal (hReferenceIdeal := Cert.ReferenceIdeal.Gen.facts) := by
  intro m ρ _
  exact (θ_run Cert.ReferenceIdeal.defs _ _).mono (fun r h => ⟨fun c => (h c).2, sem_eq_zero_of_no_sems (by decide) r.2⟩)
    (Cert.ReferenceIdeal.Value.run (F := Ideal) m ρ)

/-- The run of the peer queries' reference, its arguments and its counters. -/
theorem frame_query : Cert.quiescent_PeerQueryRefIdeal (hPeerQueryRefIdeal := Cert.PeerQueryRefIdeal.Gen.facts) := by
  intro m ρ _
  exact (θ_run Cert.PeerQueryRefIdeal.defs _ _).mono (fun r h => ⟨fun c => (h c).2, sem_eq_zero_of_no_sems (by decide) r.2⟩)
    (Cert.PeerQueryRefIdeal.Value.run (F := Ideal) m ρ)

/-- The run of the output projections' reference, its arguments and its counters. -/
theorem frame_mixer : Cert.quiescent_MixerOutRefIdeal (hMixerOutRefIdeal := Cert.MixerOutRefIdeal.Gen.facts) := by
  intro m ρ _
  exact (θ_run Cert.MixerOutRefIdeal.defs _ _).mono (fun r h => ⟨fun c => (h c).2, sem_eq_zero_of_no_sems (by decide) r.2⟩)
    (Cert.MixerOutRefIdeal.Value.run (F := Ideal) m ρ)

/-- The run of the values' reference, its arguments and its counters. -/
theorem frame_value : Cert.quiescent_ProjVRefIdeal (hProjVRefIdeal := Cert.ProjVRefIdeal.Gen.facts) := by
  intro m ρ _
  exact (θ_run Cert.ProjVRefIdeal.defs _ _).mono (fun r h => ⟨fun c => (h c).2, sem_eq_zero_of_no_sems (by decide) r.2⟩)
    (Cert.ProjVRefIdeal.Value.run (F := Ideal) m ρ)

/-- The run of the queries' reference, its arguments and its counters. -/
theorem frame_query_proj : Cert.quiescent_ProjQRefIdeal (hProjQRefIdeal := Cert.ProjQRefIdeal.Gen.facts) := by
  intro m ρ _
  exact (θ_run Cert.ProjQRefIdeal.defs _ _).mono (fun r h => ⟨fun c => (h c).2, sem_eq_zero_of_no_sems (by decide) r.2⟩)
    (Cert.ProjQRefIdeal.Value.run (F := Ideal) m ρ)

/-- The run of the keys' reference, its arguments and its counters. -/
theorem frame_key_proj : Cert.quiescent_ProjKRefIdeal (hProjKRefIdeal := Cert.ProjKRefIdeal.Gen.facts) := by
  intro m ρ _
  exact (θ_run Cert.ProjKRefIdeal.defs _ _).mono (fun r h => ⟨fun c => (h c).2, sem_eq_zero_of_no_sems (by decide) r.2⟩)
    (Cert.ProjKRefIdeal.Value.run (F := Ideal) m ρ)

/-- The run of the windowed queries' reference, its arguments and its counters. -/
theorem frame_window_query : Cert.quiescent_WinQRefIdeal (hWinQRefIdeal := Cert.WinQRefIdeal.Gen.facts) := by
  intro m ρ _
  exact (θ_run Cert.WinQRefIdeal.defs _ _).mono (fun r h => ⟨fun c => (h c).2, sem_eq_zero_of_no_sems (by decide) r.2⟩)
    (Cert.WinQRefIdeal.Value.run (F := Ideal) m ρ)

/-- The run of the windowed keys' reference, its arguments and its counters. -/
theorem frame_window_key : Cert.quiescent_WinKRefIdeal (hWinKRefIdeal := Cert.WinKRefIdeal.Gen.facts) := by
  intro m ρ _
  exact (θ_run Cert.WinKRefIdeal.defs _ _).mono (fun r h => ⟨fun c => (h c).2, sem_eq_zero_of_no_sems (by decide) r.2⟩)
    (Cert.WinKRefIdeal.Value.run (F := Ideal) m ρ)

/-- The run of the windowed values' reference, its arguments and its counters. -/
theorem frame_window_value : Cert.quiescent_WinVRefIdeal (hWinVRefIdeal := Cert.WinVRefIdeal.Gen.facts) := by
  intro m ρ _
  exact (θ_run Cert.WinVRefIdeal.defs _ _).mono (fun r h => ⟨fun c => (h c).2, sem_eq_zero_of_no_sems (by decide) r.2⟩)
    (Cert.WinVRefIdeal.Value.run (F := Ideal) m ρ)

/-- The run of the modulation's reference, its arguments and its counters. -/
theorem frame_modulation : Cert.quiescent_ModulateRefIdeal (hModulateRefIdeal := Cert.ModulateRefIdeal.Gen.facts) := by
  intro m ρ _
  exact (θ_run Cert.ModulateRefIdeal.defs _ _).mono (fun r h => ⟨fun c => (h c).2, sem_eq_zero_of_no_sems (by decide) r.2⟩)
    (Cert.ModulateRefIdeal.Value.run (F := Ideal) m ρ)

/-- The run of the reference of the modulation, tokens first, its arguments and its counters. -/
theorem frame_modulation_rows : Cert.quiescent_ModulateRowsRefIdeal (hModulateRowsRefIdeal := Cert.ModulateRowsRefIdeal.Gen.facts) := by
  intro m ρ _
  exact (θ_run Cert.ModulateRowsRefIdeal.defs _ _).mono (fun r h => ⟨fun c => (h c).2, sem_eq_zero_of_no_sems (by decide) r.2⟩)
    (Cert.ModulateRowsRefIdeal.Value.run (F := Ideal) m ρ)

/-- The run of the reference of the layers' modulations, its arguments and its counters. -/
theorem frame_ada : Cert.quiescent_AdaRefIdeal (hAdaRefIdeal := Cert.AdaRefIdeal.Gen.facts) := by
  intro m ρ _
  exact (θ_run Cert.AdaRefIdeal.defs _ _).mono (fun r h => ⟨fun c => (h c).2, sem_eq_zero_of_no_sems (by decide) r.2⟩)
    (Cert.AdaRefIdeal.Value.run (F := Ideal) m ρ)

theorem claim : Cert.Claim :=
  ⟨Cert.Kernel.Gen.facts, Cert.KernelIdeal.Gen.facts, Cert.ReferenceIdeal.Gen.facts, Cert.PeerQuery.Gen.facts, Cert.PeerQueryIdeal.Gen.facts, Cert.PeerQueryRefIdeal.Gen.facts, Cert.MixerOut.Gen.facts, Cert.MixerOutIdeal.Gen.facts, Cert.MixerOutRefIdeal.Gen.facts, Cert.MixerOutRows.Gen.facts, Cert.MixerOutRowsIdeal.Gen.facts, Cert.ProjV.Gen.facts, Cert.ProjVIdeal.Gen.facts, Cert.ProjVRefIdeal.Gen.facts, Cert.ProjQ.Gen.facts, Cert.ProjQIdeal.Gen.facts, Cert.ProjQRefIdeal.Gen.facts, Cert.ProjK.Gen.facts, Cert.ProjKIdeal.Gen.facts, Cert.ProjKRefIdeal.Gen.facts, Cert.WinQ.Gen.facts, Cert.WinQIdeal.Gen.facts, Cert.WinQRefIdeal.Gen.facts, Cert.WinK.Gen.facts, Cert.WinKIdeal.Gen.facts, Cert.WinKRefIdeal.Gen.facts, Cert.WinV.Gen.facts, Cert.WinVIdeal.Gen.facts, Cert.WinVRefIdeal.Gen.facts, Cert.Modulate.Gen.facts, Cert.ModulateIdeal.Gen.facts, Cert.ModulateRefIdeal.Gen.facts, Cert.ModulateRows.Gen.facts, Cert.ModulateRowsIdeal.Gen.facts, Cert.ModulateRowsRefIdeal.Gen.facts, Cert.Ada.Gen.facts, Cert.AdaIdeal.Gen.facts, Cert.AdaRefIdeal.Gen.facts, Cert.KernelIdeal.Hand.facts_pre,
    Cert.Kernel.Hand.quiescent, fun m g _ => Cert.KernelIdeal.Hand.frame m g, fun m g _ => Cert.KernelIdeal.Hand.frame m g,
    frame_r, fun m g h => frame_r m g trivial,
    fun m g _ => Cert.PeerQuery.Gen.frame m g,
    fun m g _ => Cert.PeerQueryIdeal.Gen.frame m g,
    frame_query,
    fun m g _ => Cert.MixerOut.Gen.frame m g,
    fun m g _ => Cert.MixerOutIdeal.Gen.frame m g,
    frame_mixer,
    fun m g _ => Cert.MixerOutRows.Gen.frame m g,
    fun m g _ => Cert.MixerOutRowsIdeal.Gen.frame m g,
    fun m g _ => Cert.ProjV.Gen.frame m g,
    fun m g _ => Cert.ProjVIdeal.Gen.frame m g,
    frame_value,
    fun m g _ => Cert.ProjQ.Gen.frame m g,
    fun m g _ => Cert.ProjQIdeal.Gen.frame m g,
    frame_query_proj,
    fun m g _ => Cert.ProjK.Gen.frame m g,
    fun m g _ => Cert.ProjKIdeal.Gen.frame m g,
    frame_key_proj,
    fun m g _ => Cert.WinQ.Gen.frame m g,
    fun m g _ => Cert.WinQIdeal.Gen.frame m g,
    frame_window_query,
    fun m g _ => Cert.WinK.Gen.frame m g,
    fun m g _ => Cert.WinKIdeal.Gen.frame m g,
    frame_window_key,
    fun m g _ => Cert.WinV.Gen.frame m g,
    fun m g _ => Cert.WinVIdeal.Gen.frame m g,
    frame_window_value,
    fun m g _ => Cert.Modulate.Gen.frame m g,
    fun m g _ => Cert.ModulateIdeal.Gen.frame m g,
    frame_modulation,
    fun m g _ => Cert.ModulateRows.Gen.frame m g,
    fun m g _ => Cert.ModulateRowsIdeal.Gen.frame m g,
    frame_modulation_rows,
    fun m g _ => Cert.Ada.Gen.frame m g,
    fun m g _ => Cert.AdaIdeal.Gen.frame m g,
    frame_ada,
    trivial, Cert.KernelIdeal.Hand.algebraic, trivial, Cert.PeerQueryIdeal.Hand.algebraic, trivial, Cert.MixerOutIdeal.Hand.algebraic,
    trivial, Cert.MixerOutRowsIdeal.Hand.algebraic, trivial, Cert.ProjVIdeal.Hand.algebraic,
    trivial, Cert.ProjQIdeal.Hand.algebraic,
    trivial, Cert.ProjKIdeal.Hand.algebraic, trivial, Cert.WinQIdeal.Hand.algebraic, trivial, Cert.WinKIdeal.Hand.algebraic, trivial, Cert.WinVIdeal.Hand.algebraic,
    trivial, Cert.ModulateIdeal.Hand.algebraic, trivial, Cert.ModulateRowsIdeal.Hand.algebraic, trivial, Cert.AdaIdeal.Hand.algebraic⟩

end Cert.Proof

end
